-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x8x4096x96 : Shape := ⟨4, ![8, 8, 4096, 96]⟩
abbrev S8x8x4096x64 : Shape := ⟨4, ![8, 8, 4096, 64]⟩
abbrev S_ : Shape := ⟨0, ![]⟩
abbrev S8x8x4096x128 : Shape := ⟨4, ![8, 8, 4096, 128]⟩
abbrev S8x8x8x512x128 : Shape := ⟨5, ![8, 8, 8, 512, 128]⟩
abbrev S8x8x8x128x512 : Shape := ⟨5, ![8, 8, 8, 128, 512]⟩
abbrev S8x4096x8x128 : Shape := ⟨4, ![8, 4096, 8, 128]⟩
abbrev S32768x1024 : Shape := ⟨2, ![32768, 1024]⟩
abbrev S512x512 : Shape := ⟨2, ![512, 512]⟩
abbrev S1x512x512 : Shape := ⟨3, ![1, 512, 512]⟩
abbrev S2x512x512 : Shape := ⟨3, ![2, 512, 512]⟩
abbrev S32768x512 : Shape := ⟨2, ![32768, 512]⟩
abbrev S1x4x8x128x512 : Shape := ⟨5, ![1, 4, 8, 128, 512]⟩
abbrev S4096x512 : Shape := ⟨2, ![4096, 512]⟩
abbrev S4096x256 : Shape := ⟨2, ![4096, 256]⟩
abbrev S4x128x512 : Shape := ⟨3, ![4, 128, 512]⟩
abbrev S2x2x4x512x512 : Shape := ⟨5, ![2, 2, 4, 512, 512]⟩
abbrev S2x4x1x512 : Shape := ⟨4, ![2, 4, 1, 512]⟩
abbrev S2x2x4x1x512 : Shape := ⟨5, ![2, 2, 4, 1, 512]⟩
abbrev S2x4x128x512 : Shape := ⟨4, ![2, 4, 128, 512]⟩
abbrev S2x8x512 : Shape := ⟨3, ![2, 8, 512]⟩
abbrev S1x1x1x128x512 : Shape := ⟨5, ![1, 1, 1, 128, 512]⟩
abbrev S128x512 : Shape := ⟨2, ![128, 512]⟩
abbrev S1x128x512 : Shape := ⟨3, ![1, 128, 512]⟩
abbrev S4x1x512 : Shape := ⟨3, ![4, 1, 512]⟩
abbrev S1x4x1x512 : Shape := ⟨4, ![1, 4, 1, 512]⟩
abbrev S1x4x128x512 : Shape := ⟨4, ![1, 4, 128, 512]⟩
abbrev S256x128 : Shape := ⟨2, ![256, 128]⟩
abbrev S256x512 : Shape := ⟨2, ![256, 512]⟩
abbrev S1x256x512 : Shape := ⟨3, ![1, 256, 512]⟩
abbrev S128x256 : Shape := ⟨2, ![128, 256]⟩
abbrev S256x256 : Shape := ⟨2, ![256, 256]⟩
abbrev S1x256x256 : Shape := ⟨3, ![1, 256, 256]⟩
abbrev S512 : Shape := ⟨1, ![512]⟩
abbrev S1x512 : Shape := ⟨2, ![1, 512]⟩
abbrev S256 : Shape := ⟨1, ![256]⟩
abbrev S1x256 : Shape := ⟨2, ![1, 256]⟩
abbrev S1x1x1x512 : Shape := ⟨4, ![1, 1, 1, 512]⟩
abbrev S1x1x1x1x512 : Shape := ⟨5, ![1, 1, 1, 1, 512]⟩
abbrev S1x1x1x256x512 : Shape := ⟨5, ![1, 1, 1, 256, 512]⟩
abbrev S1x1x1x256x256 : Shape := ⟨5, ![1, 1, 1, 256, 256]⟩
abbrev S1x1x128x512 : Shape := ⟨4, ![1, 1, 128, 512]⟩
abbrev S1x1x1x512x512 : Shape := ⟨5, ![1, 1, 1, 512, 512]⟩
abbrev S64x512 : Shape := ⟨2, ![64, 512]⟩
abbrev S512x256 : Shape := ⟨2, ![512, 256]⟩
abbrev S512x128 : Shape := ⟨2, ![512, 128]⟩

abbrev nBuf : Space → Nat
  | .hbm => 54
  | .vmem => 15
  | .smem => 0
  | _ => 0

abbrev bufTy : (tb : Table) → Fin (tcTables nBuf tb) → BufTy
  | .hbm, ⟨0, _⟩ => ⟨S8x8x4096x96, .f32⟩
  | .hbm, ⟨1, _⟩ => ⟨S8x8x4096x96, .f32⟩
  | .hbm, ⟨2, _⟩ => ⟨S8x8x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8x4096x96, .f32⟩
  | .hbm, ⟨9, _⟩ => ⟨S8x8x4096x96, .f32⟩
  | .hbm, ⟨10, _⟩ => ⟨S_, .i32⟩
  | .hbm, ⟨11, _⟩ => ⟨S_, .f32⟩
  | .hbm, ⟨12, _⟩ => ⟨S8x8x4096x128, .f32⟩
  | .hbm, ⟨13, _⟩ => ⟨S8x8x4096x128, .bf16⟩
  | .hbm, ⟨14, _⟩ => ⟨S8x8x8x512x128, .bf16⟩
  | .hbm, ⟨15, _⟩ => ⟨S8x8x8x128x512, .bf16⟩
  | .hbm, ⟨16, _⟩ => ⟨S_, .i32⟩
  | .hbm, ⟨17, _⟩ => ⟨S_, .f32⟩
  | .hbm, ⟨18, _⟩ => ⟨S8x8x4096x128, .f32⟩
  | .hbm, ⟨19, _⟩ => ⟨S8x8x4096x128, .bf16⟩
  | .hbm, ⟨20, _⟩ => ⟨S8x4096x8x128, .bf16⟩
  | .hbm, ⟨21, _⟩ => ⟨S32768x1024, .bf16⟩
  | .hbm, ⟨22, _⟩ => ⟨S8x8x4096x64, .i32⟩
  | .hbm, ⟨23, _⟩ => ⟨S_, .i32⟩
  | .hbm, ⟨24, _⟩ => ⟨S8x8x4096x64, .i32⟩
  | .hbm, ⟨25, _⟩ => ⟨S8x8x4096x64, .i1⟩
  | .hbm, ⟨26, _⟩ => ⟨S_, .f32⟩
  | .hbm, ⟨27, _⟩ => ⟨S_, .f32⟩
  | .hbm, ⟨28, _⟩ => ⟨S8x8x4096x64, .f32⟩
  | .hbm, ⟨29, _⟩ => ⟨S8x8x4096x64, .f32⟩
  | .hbm, ⟨30, _⟩ => ⟨S8x8x4096x64, .f32⟩
  | .hbm, ⟨31, _⟩ => ⟨S8x8x4096x64, .f32⟩
  | .hbm, ⟨32, _⟩ => ⟨S8x8x4096x128, .f32⟩
  | .hbm, ⟨33, _⟩ => ⟨S8x8x4096x128, .bf16⟩
  | .hbm, ⟨34, _⟩ => ⟨S8x8x8x512x128, .bf16⟩
  | .hbm, ⟨35, _⟩ => ⟨S8x8x8x128x512, .bf16⟩
  | .hbm, ⟨36, _⟩ => ⟨S512x512, .i32⟩
  | .hbm, ⟨37, _⟩ => ⟨S512x512, .i32⟩
  | .hbm, ⟨38, _⟩ => ⟨S512x512, .i1⟩
  | .hbm, ⟨39, _⟩ => ⟨S_, .f32⟩
  | .hbm, ⟨40, _⟩ => ⟨S_, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S512x512, .i1⟩
  | .hbm, ⟨45, _⟩ => ⟨S_, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S1x512x512, .f32⟩
  | .hbm, ⟨51, _⟩ => ⟨S1x512x512, .f32⟩
  | .hbm, ⟨52, _⟩ => ⟨S2x512x512, .f32⟩
  | .hbm, ⟨53, _⟩ => ⟨S32768x512, .bf16⟩
  | .local _ .vmem, ⟨0, _⟩ => ⟨S1x4x8x128x512, .bf16⟩
  | .local _ .vmem, ⟨1, _⟩ => ⟨S1x4x8x128x512, .bf16⟩
  | .local _ .vmem, ⟨2, _⟩ => ⟨S4096x512, .bf16⟩
  | .local _ .vmem, ⟨3, _⟩ => ⟨S4096x512, .bf16⟩
  | .local _ .vmem, ⟨4, _⟩ => ⟨S1x4x8x128x512, .bf16⟩
  | .local _ .vmem, ⟨5, _⟩ => ⟨S1x4x8x128x512, .bf16⟩
  | .local _ .vmem, ⟨6, _⟩ => ⟨S2x512x512, .f32⟩
  | .local _ .vmem, ⟨7, _⟩ => ⟨S4096x256, .bf16⟩
  | .local _ .vmem, ⟨8, _⟩ => ⟨S4096x256, .bf16⟩
  | .local _ .vmem, ⟨9, _⟩ => ⟨S4x128x512, .bf16⟩
  | .local _ .vmem, ⟨10, _⟩ => ⟨S2x2x4x512x512, .bf16⟩
  | .local _ .vmem, ⟨11, _⟩ => ⟨S2x4x1x512, .f32⟩
  | .local _ .vmem, ⟨12, _⟩ => ⟨S2x2x4x1x512, .f32⟩
  | .local _ .vmem, ⟨13, _⟩ => ⟨S2x4x128x512, .f32⟩
  | .local _ .vmem, ⟨14, _⟩ => ⟨S2x8x512, .f32⟩
  | _, _ => ⟨S8x8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_cst_6 : Ref sig .tc := ⟨.hbm, 40, rfl⟩
abbrev main_call3_v0 : Ref sig .tc := ⟨.hbm, 41, rfl⟩
abbrev main_call3_v1 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_cst_8 : Ref sig .tc := ⟨.hbm, 46, rfl⟩
abbrev main_call4_v0 : Ref sig .tc := ⟨.hbm, 47, rfl⟩
abbrev main_call4_v1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_cond1 (k0_t1 : Fin k0_t1_loop.trips) : BitVec 1 :=
  let c0_i32 : BitVec 32 := 0#32
  let c1_i32 : BitVec 32 := 1#32
  let arg13 : BitVec 32 := Scf.iv c0_i32 c1_i32 k0_t1
  let c0_i32_1 : BitVec 32 := 0#32
  let v1 : BitVec 1 := Scalar.cmpi .eq arg13 c0_i32_1
  let v2 : BitVec 32 := Scalar.extui v1
  let c0_i32_2 : BitVec 32 := 0#32
  let v3 : BitVec 1 := Scalar.cmpi .ne v2 c0_i32_2
  v3

def k0_off1 (k0_t1 : Fin k0_t1_loop.trips) : Fin 5 → Nat :=
  let c0 : Index := 0#32
  let c0_19 : Index := 0#32
  let c0_i32 : BitVec 32 := 0#32
  let c1_i32 : BitVec 32 := 1#32
  let arg13 : BitVec 32 := Scf.iv c0_i32 c1_i32 k0_t1
  let v32 : Index := Scalar.indexCast arg13
  let c0_20 : Index := 0#32
  let c0_21 : Index := 0#32
  ![0, 0, v32.toNat, 0, 0]
def k0_off2 (k0_t1 : Fin k0_t1_loop.trips) : Fin 5 → Nat :=
  let c0_25 : Index := 0#32
  let c1 : Index := 1#32
  let c0_i32 : BitVec 32 := 0#32
  let c1_i32 : BitVec 32 := 1#32
  let arg13 : BitVec 32 := Scf.iv c0_i32 c1_i32 k0_t1
  let v38 : Index := Scalar.indexCast arg13
  let c0_26 : Index := 0#32
  let c0_27 : Index := 0#32
  ![0, 1, v38.toNat, 0, 0]
def k0_off3 (k0_t1 : Fin k0_t1_loop.trips) : Fin 5 → Nat :=
  let c0_31 : Index := 0#32
  let c2 : Index := 2#32
  let c0_i32 : BitVec 32 := 0#32
  let c1_i32 : BitVec 32 := 1#32
  let arg13 : BitVec 32 := Scf.iv c0_i32 c1_i32 k0_t1
  let v44 : Index := Scalar.indexCast arg13
  let c0_32 : Index := 0#32
  let c0_33 : Index := 0#32
  ![0, 2, v44.toNat, 0, 0]
def k0_off4 (k0_t1 : Fin k0_t1_loop.trips) : Fin 5 → Nat :=
  let c0_37 : Index := 0#32
  let c3 : Index := 3#32
  let c0_i32 : BitVec 32 := 0#32
  let c1_i32 : BitVec 32 := 1#32
  let arg13 : BitVec 32 := Scf.iv c0_i32 c1_i32 k0_t1
  let v50 : Index := Scalar.indexCast arg13
  let c0_38 : Index := 0#32
  let c0_39 : Index := 0#32
  ![0, 3, v50.toNat, 0, 0]
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v64 : BitVec 32 := Scalar.muli arg13 c512_i32
  let c0_i32_52 : BitVec 32 := 0#32
  let v65 : BitVec 32 := Scalar.addi v64 c0_i32_52
  v65
def k0_off5 (k0_t1 : Fin k0_t1_loop.trips) (c0_i32_52 : BitVec 32) : Fin 2 → Nat :=
  let c0_i32 : BitVec 32 := 0#32
  let c1_i32 : BitVec 32 := 1#32
  let arg13 : BitVec 32 := Scf.iv c0_i32 c1_i32 k0_t1
  let c512_i32 : BitVec 32 := 512#32
  let v64 : BitVec 32 := Scalar.muli arg13 c512_i32
  let v65 : BitVec 32 := Scalar.addi v64 c0_i32_52
  let v66 : BitVec 32 := v65
  let v67 : Index := Scalar.indexCast v66
  let c0_53 : Index := 0#32
  ![v67.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_54 : BitVec 32 := 512#32
  let v70 : BitVec 32 := Scalar.muli arg13 c512_i32_54
  let c256_i32 : BitVec 32 := 256#32
  let v71 : BitVec 32 := Scalar.addi v70 c256_i32
  v71
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_66 : BitVec 32 := 512#32
  let v87 : BitVec 32 := Scalar.muli arg13 c512_i32_66
  let c0_i32_67 : BitVec 32 := 0#32
  let v88 : BitVec 32 := Scalar.addi v87 c0_i32_67
  v88
def k0_off6 (k0_t1 : Fin k0_t1_loop.trips) (c0_i32_67 : BitVec 32) : Fin 2 → Nat :=
  let c0_i32 : BitVec 32 := 0#32
  let c1_i32 : BitVec 32 := 1#32
  let arg13 : BitVec 32 := Scf.iv c0_i32 c1_i32 k0_t1
  let c512_i32_66 : BitVec 32 := 512#32
  let v87 : BitVec 32 := Scalar.muli arg13 c512_i32_66
  let v88 : BitVec 32 := Scalar.addi v87 c0_i32_67
  let v89 : BitVec 32 := v88
  let v90 : Index := Scalar.indexCast v89
  let c128 : Index := 128#32
  ![v90.toNat, 128]
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_68 : BitVec 32 := 512#32
  let v93 : BitVec 32 := Scalar.muli arg13 c512_i32_68
  let c256_i32_69 : BitVec 32 := 256#32
  let v94 : BitVec 32 := Scalar.addi v93 c256_i32_69
  v94
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_82 : BitVec 32 := 512#32
  let v110 : BitVec 32 := Scalar.muli arg13 c512_i32_82
  let c0_i32_83 : BitVec 32 := 0#32
  let v111 : BitVec 32 := Scalar.addi v110 c0_i32_83
  v111
def k0_off7 (k0_t1 : Fin k0_t1_loop.trips) (c0_i32_83 : BitVec 32) : Fin 2 → Nat :=
  let c0_i32 : BitVec 32 := 0#32
  let c1_i32 : BitVec 32 := 1#32
  let arg13 : BitVec 32 := Scf.iv c0_i32 c1_i32 k0_t1
  let c512_i32_82 : BitVec 32 := 512#32
  let v110 : BitVec 32 := Scalar.muli arg13 c512_i32_82
  let v111 : BitVec 32 := Scalar.addi v110 c0_i32_83
  let v112 : BitVec 32 := v111
  let v113 : Index := Scalar.indexCast v112
  let c256_84 : Index := 256#32
  ![v113.toNat, 256]
def k0_mult6 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_85 : BitVec 32 := 512#32
  let v116 : BitVec 32 := Scalar.muli arg13 c512_i32_85
  let c256_i32_86 : BitVec 32 := 256#32
  let v117 : BitVec 32 := Scalar.addi v116 c256_i32_86
  v117
def k0_mult7 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_99 : BitVec 32 := 512#32
  let v133 : BitVec 32 := Scalar.muli arg13 c512_i32_99
  let c0_i32_100 : BitVec 32 := 0#32
  let v134 : BitVec 32 := Scalar.addi v133 c0_i32_100
  v134
def k0_off8 (k0_t1 : Fin k0_t1_loop.trips) (c0_i32_100 : BitVec 32) : Fin 2 → Nat :=
  let c0_i32 : BitVec 32 := 0#32
  let c1_i32 : BitVec 32 := 1#32
  let arg13 : BitVec 32 := Scf.iv c0_i32 c1_i32 k0_t1
  let c512_i32_99 : BitVec 32 := 512#32
  let v133 : BitVec 32 := Scalar.muli arg13 c512_i32_99
  let v134 : BitVec 32 := Scalar.addi v133 c0_i32_100
  let v135 : BitVec 32 := v134
  let v136 : Index := Scalar.indexCast v135
  let c384 : Index := 384#32
  ![v136.toNat, 384]
def k0_mult8 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_101 : BitVec 32 := 512#32
  let v139 : BitVec 32 := Scalar.muli arg13 c512_i32_101
  let c256_i32_102 : BitVec 32 := 256#32
  let v140 : BitVec 32 := Scalar.addi v139 c256_i32_102
  v140
def k0_cond2 (k0_t1 : Fin k0_t1_loop.trips) : BitVec 1 :=
  let c0_i32 : BitVec 32 := 0#32
  let c1_i32 : BitVec 32 := 1#32
  let arg13 : BitVec 32 := Scf.iv c0_i32 c1_i32 k0_t1
  let c7_i32 : BitVec 32 := 7#32
  let v307 : BitVec 1 := Scalar.cmpi .eq arg13 c7_i32
  let v308 : BitVec 32 := Scalar.extui v307
  let c0_i32_245 : BitVec 32 := 0#32
  let v309 : BitVec 1 := Scalar.cmpi .ne v308 c0_i32_245
  v309

def k0_off9 (k0_t1 : Fin k0_t1_loop.trips) : Fin 5 → Nat :=
  let c0_246 : Index := 0#32
  let c0_247 : Index := 0#32
  let c0_i32 : BitVec 32 := 0#32
  let c1_i32 : BitVec 32 := 1#32
  let arg13 : BitVec 32 := Scf.iv c0_i32 c1_i32 k0_t1
  let c0_i32_243 : BitVec 32 := 0#32
  let v304 : BitVec 1 := Scalar.cmpi .eq arg13 c0_i32_243
  let c1_i32_244 : BitVec 32 := 1#32
  let v305 : BitVec 32 := Scalar.subi arg13 c1_i32_244
  let v306 : BitVec 32 := Scalar.select v304 arg13 v305
  let v310 : Index := Scalar.indexCast v306
  let c0_248 : Index := 0#32
  let c0_249 : Index := 0#32
  ![0, 0, v310.toNat, 0, 0]
def k0_off10 (k0_t1 : Fin k0_t1_loop.trips) : Fin 5 → Nat :=
  let c0_269 : Index := 0#32
  let c1_270 : Index := 1#32
  let c0_i32 : BitVec 32 := 0#32
  let c1_i32 : BitVec 32 := 1#32
  let arg13 : BitVec 32 := Scf.iv c0_i32 c1_i32 k0_t1
  let c0_i32_243 : BitVec 32 := 0#32
  let v304 : BitVec 1 := Scalar.cmpi .eq arg13 c0_i32_243
  let c1_i32_244 : BitVec 32 := 1#32
  let v305 : BitVec 32 := Scalar.subi arg13 c1_i32_244
  let v306 : BitVec 32 := Scalar.select v304 arg13 v305
  let v326 : Index := Scalar.indexCast v306
  let c0_271 : Index := 0#32
  let c0_272 : Index := 0#32
  ![0, 1, v326.toNat, 0, 0]
def k0_off11 (k0_t1 : Fin k0_t1_loop.trips) : Fin 5 → Nat :=
  let c0_292 : Index := 0#32
  let c2_293 : Index := 2#32
  let c0_i32 : BitVec 32 := 0#32
  let c1_i32 : BitVec 32 := 1#32
  let arg13 : BitVec 32 := Scf.iv c0_i32 c1_i32 k0_t1
  let c0_i32_243 : BitVec 32 := 0#32
  let v304 : BitVec 1 := Scalar.cmpi .eq arg13 c0_i32_243
  let c1_i32_244 : BitVec 32 := 1#32
  let v305 : BitVec 32 := Scalar.subi arg13 c1_i32_244
  let v306 : BitVec 32 := Scalar.select v304 arg13 v305
  let v342 : Index := Scalar.indexCast v306
  let c0_294 : Index := 0#32
  let c0_295 : Index := 0#32
  ![0, 2, v342.toNat, 0, 0]
def k0_off12 (k0_t1 : Fin k0_t1_loop.trips) : Fin 5 → Nat :=
  let c0_315 : Index := 0#32
  let c3_316 : Index := 3#32
  let c0_i32 : BitVec 32 := 0#32
  let c1_i32 : BitVec 32 := 1#32
  let arg13 : BitVec 32 := Scf.iv c0_i32 c1_i32 k0_t1
  let c0_i32_243 : BitVec 32 := 0#32
  let v304 : BitVec 1 := Scalar.cmpi .eq arg13 c0_i32_243
  let c1_i32_244 : BitVec 32 := 1#32
  let v305 : BitVec 32 := Scalar.subi arg13 c1_i32_244
  let v306 : BitVec 32 := Scalar.select v304 arg13 v305
  let v358 : Index := Scalar.indexCast v306
  let c0_317 : Index := 0#32
  let c0_318 : Index := 0#32
  ![0, 3, v358.toNat, 0, 0]
def k0_mult9 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_358 : BitVec 32 := 512#32
  let v406 : BitVec 32 := Scalar.muli arg13 c512_i32_358
  v406
def k0_off13 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32_358 : BitVec 32 := 512#32
  let v406 : BitVec 32 := Scalar.muli arg13 c512_i32_358
  let v407 : BitVec 32 := v406
  let v411 : Index := Scalar.indexCast v407
  let c0_359 : Index := 0#32
  ![v411.toNat, 0]
def k0_cond3 (k0_t1 : Fin k0_t1_loop.trips) : BitVec 1 :=
  let c0_i32 : BitVec 32 := 0#32
  let c1_i32 : BitVec 32 := 1#32
  let arg13 : BitVec 32 := Scf.iv c0_i32 c1_i32 k0_t1
  let c0_i32_3 : BitVec 32 := 0#32
  let v4 : BitVec 1 := Scalar.cmpi .sgt arg13 c0_i32_3
  let c2_i32 : BitVec 32 := 2#32
  let c0_i32_4 : BitVec 32 := 0#32
  let v5 : BitVec 1 := Scalar.cmpi .eq c2_i32 c0_i32_4
  let c1_i32_5 : BitVec 32 := 1#32
  let v6 : BitVec 32 := Scalar.select v5 c1_i32_5 c2_i32
  let v7 : BitVec 32 := Scalar.remsi arg13 v6
  let c0_i32_7 : BitVec 32 := 0#32
  let v9 : BitVec 1 := Scalar.cmpi .slt v7 c0_i32_7
  let c0_i32_8 : BitVec 32 := 0#32
  let v10 : BitVec 1 := Scalar.cmpi .slt v6 c0_i32_8
  let v11 : BitVec 1 := Scalar.xori v9 v10
  let c0_i32_6 : BitVec 32 := 0#32
  let v8 : BitVec 1 := Scalar.cmpi .ne v7 c0_i32_6
  let v12 : BitVec 1 := Scalar.andi v11 v8
  let v13 : BitVec 32 := Scalar.addi v7 v6
  let v14 : BitVec 32 := Scalar.select v12 v13 v7
  let c0_i32_9 : BitVec 32 := 0#32
  let v15 : BitVec 1 := Scalar.cmpi .eq v14 c0_i32_9
  let v16 : BitVec 1 := Scalar.andi v4 v15
  let v17 : BitVec 32 := Scalar.extui v16
  let c0_i32_10 : BitVec 32 := 0#32
  let v18 : BitVec 1 := Scalar.cmpi .ne v17 c0_i32_10
  v18

def k0_off14 (k0_t1 : Fin k0_t1_loop.trips) : Fin 5 → Nat :=
  let c0 : Index := 0#32
  let c0_26 : Index := 0#32
  let c0_i32 : BitVec 32 := 0#32
  let c1_i32 : BitVec 32 := 1#32
  let arg13 : BitVec 32 := Scf.iv c0_i32 c1_i32 k0_t1
  let v49 : Index := Scalar.indexCast arg13
  let c0_27 : Index := 0#32
  let c0_28 : Index := 0#32
  ![0, 0, v49.toNat, 0, 0]
def k0_off15 (k0_t1 : Fin k0_t1_loop.trips) : Fin 5 → Nat :=
  let c0_32 : Index := 0#32
  let c1 : Index := 1#32
  let c0_i32 : BitVec 32 := 0#32
  let c1_i32 : BitVec 32 := 1#32
  let arg13 : BitVec 32 := Scf.iv c0_i32 c1_i32 k0_t1
  let v55 : Index := Scalar.indexCast arg13
  let c0_33 : Index := 0#32
  let c0_34 : Index := 0#32
  ![0, 1, v55.toNat, 0, 0]
def k0_off16 (k0_t1 : Fin k0_t1_loop.trips) : Fin 5 → Nat :=
  let c0_38 : Index := 0#32
  let c2 : Index := 2#32
  let c0_i32 : BitVec 32 := 0#32
  let c1_i32 : BitVec 32 := 1#32
  let arg13 : BitVec 32 := Scf.iv c0_i32 c1_i32 k0_t1
  let v61 : Index := Scalar.indexCast arg13
  let c0_39 : Index := 0#32
  let c0_40 : Index := 0#32
  ![0, 2, v61.toNat, 0, 0]
def k0_off17 (k0_t1 : Fin k0_t1_loop.trips) : Fin 5 → Nat :=
  let c0_44 : Index := 0#32
  let c3 : Index := 3#32
  let c0_i32 : BitVec 32 := 0#32
  let c1_i32 : BitVec 32 := 1#32
  let arg13 : BitVec 32 := Scf.iv c0_i32 c1_i32 k0_t1
  let v67 : Index := Scalar.indexCast arg13
  let c0_45 : Index := 0#32
  let c0_46 : Index := 0#32
  ![0, 3, v67.toNat, 0, 0]
def k0_mult10 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v83 : BitVec 32 := Scalar.muli arg13 c512_i32
  let c0_i32_61 : BitVec 32 := 0#32
  let v84 : BitVec 32 := Scalar.addi v83 c0_i32_61
  v84
def k0_off18 (k0_t1 : Fin k0_t1_loop.trips) (c0_i32_61 : BitVec 32) : Fin 2 → Nat :=
  let c0_i32 : BitVec 32 := 0#32
  let c1_i32 : BitVec 32 := 1#32
  let arg13 : BitVec 32 := Scf.iv c0_i32 c1_i32 k0_t1
  let c512_i32 : BitVec 32 := 512#32
  let v83 : BitVec 32 := Scalar.muli arg13 c512_i32
  let v84 : BitVec 32 := Scalar.addi v83 c0_i32_61
  let v85 : BitVec 32 := v84
  let v86 : Index := Scalar.indexCast v85
  let c0_62 : Index := 0#32
  ![v86.toNat, 0]
def k0_mult11 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_63 : BitVec 32 := 512#32
  let v89 : BitVec 32 := Scalar.muli arg13 c512_i32_63
  let c256_i32 : BitVec 32 := 256#32
  let v90 : BitVec 32 := Scalar.addi v89 c256_i32
  v90
def k0_mult12 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_75 : BitVec 32 := 512#32
  let v106 : BitVec 32 := Scalar.muli arg13 c512_i32_75
  let c0_i32_76 : BitVec 32 := 0#32
  let v107 : BitVec 32 := Scalar.addi v106 c0_i32_76
  v107
def k0_off19 (k0_t1 : Fin k0_t1_loop.trips) (c0_i32_76 : BitVec 32) : Fin 2 → Nat :=
  let c0_i32 : BitVec 32 := 0#32
  let c1_i32 : BitVec 32 := 1#32
  let arg13 : BitVec 32 := Scf.iv c0_i32 c1_i32 k0_t1
  let c512_i32_75 : BitVec 32 := 512#32
  let v106 : BitVec 32 := Scalar.muli arg13 c512_i32_75
  let v107 : BitVec 32 := Scalar.addi v106 c0_i32_76
  let v108 : BitVec 32 := v107
  let v109 : Index := Scalar.indexCast v108
  let c128 : Index := 128#32
  ![v109.toNat, 128]
def k0_mult13 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_77 : BitVec 32 := 512#32
  let v112 : BitVec 32 := Scalar.muli arg13 c512_i32_77
  let c256_i32_78 : BitVec 32 := 256#32
  let v113 : BitVec 32 := Scalar.addi v112 c256_i32_78
  v113
def k0_mult14 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_91 : BitVec 32 := 512#32
  let v129 : BitVec 32 := Scalar.muli arg13 c512_i32_91
  let c0_i32_92 : BitVec 32 := 0#32
  let v130 : BitVec 32 := Scalar.addi v129 c0_i32_92
  v130
def k0_off20 (k0_t1 : Fin k0_t1_loop.trips) (c0_i32_92 : BitVec 32) : Fin 2 → Nat :=
  let c0_i32 : BitVec 32 := 0#32
  let c1_i32 : BitVec 32 := 1#32
  let arg13 : BitVec 32 := Scf.iv c0_i32 c1_i32 k0_t1
  let c512_i32_91 : BitVec 32 := 512#32
  let v129 : BitVec 32 := Scalar.muli arg13 c512_i32_91
  let v130 : BitVec 32 := Scalar.addi v129 c0_i32_92
  let v131 : BitVec 32 := v130
  let v132 : Index := Scalar.indexCast v131
  let c256_93 : Index := 256#32
  ![v132.toNat, 256]
def k0_mult15 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_94 : BitVec 32 := 512#32
  let v135 : BitVec 32 := Scalar.muli arg13 c512_i32_94
  let c256_i32_95 : BitVec 32 := 256#32
  let v136 : BitVec 32 := Scalar.addi v135 c256_i32_95
  v136
def k0_mult16 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_108 : BitVec 32 := 512#32
  let v152 : BitVec 32 := Scalar.muli arg13 c512_i32_108
  let c0_i32_109 : BitVec 32 := 0#32
  let v153 : BitVec 32 := Scalar.addi v152 c0_i32_109
  v153
def k0_off21 (k0_t1 : Fin k0_t1_loop.trips) (c0_i32_109 : BitVec 32) : Fin 2 → Nat :=
  let c0_i32 : BitVec 32 := 0#32
  let c1_i32 : BitVec 32 := 1#32
  let arg13 : BitVec 32 := Scf.iv c0_i32 c1_i32 k0_t1
  let c512_i32_108 : BitVec 32 := 512#32
  let v152 : BitVec 32 := Scalar.muli arg13 c512_i32_108
  let v153 : BitVec 32 := Scalar.addi v152 c0_i32_109
  let v154 : BitVec 32 := v153
  let v155 : Index := Scalar.indexCast v154
  let c384 : Index := 384#32
  ![v155.toNat, 384]
def k0_mult17 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_110 : BitVec 32 := 512#32
  let v158 : BitVec 32 := Scalar.muli arg13 c512_i32_110
  let c256_i32_111 : BitVec 32 := 256#32
  let v159 : BitVec 32 := Scalar.addi v158 c256_i32_111
  v159
def k0_off22 (k0_t1 : Fin k0_t1_loop.trips) : Fin 5 → Nat :=
  let c0_124 : Index := 0#32
  let c0_125 : Index := 0#32
  let c0_i32 : BitVec 32 := 0#32
  let c1_i32 : BitVec 32 := 1#32
  let arg13 : BitVec 32 := Scf.iv c0_i32 c1_i32 k0_t1
  let c2_i32_59 : BitVec 32 := 2#32
  let v81 : BitVec 32 := Scalar.subi arg13 c2_i32_59
  let c0_i32_60 : BitVec 32 := 0#32
  let v82 : BitVec 32 := Scalar.maxsi v81 c0_i32_60
  let v175 : Index := Scalar.indexCast v82
  let c0_126 : Index := 0#32
  let c0_127 : Index := 0#32
  ![0, 0, v175.toNat, 0, 0]
def k0_off23 (k0_t1 : Fin k0_t1_loop.trips) : Fin 5 → Nat :=
  let c0_179 : Index := 0#32
  let c1_180 : Index := 1#32
  let c0_i32 : BitVec 32 := 0#32
  let c1_i32 : BitVec 32 := 1#32
  let arg13 : BitVec 32 := Scf.iv c0_i32 c1_i32 k0_t1
  let c2_i32_59 : BitVec 32 := 2#32
  let v81 : BitVec 32 := Scalar.subi arg13 c2_i32_59
  let c0_i32_60 : BitVec 32 := 0#32
  let v82 : BitVec 32 := Scalar.maxsi v81 c0_i32_60
  let v228 : Index := Scalar.indexCast v82
  let c0_181 : Index := 0#32
  let c0_182 : Index := 0#32
  ![0, 1, v228.toNat, 0, 0]
def k0_off24 (k0_t1 : Fin k0_t1_loop.trips) : Fin 5 → Nat :=
  let c0_234 : Index := 0#32
  let c2_235 : Index := 2#32
  let c0_i32 : BitVec 32 := 0#32
  let c1_i32 : BitVec 32 := 1#32
  let arg13 : BitVec 32 := Scf.iv c0_i32 c1_i32 k0_t1
  let c2_i32_59 : BitVec 32 := 2#32
  let v81 : BitVec 32 := Scalar.subi arg13 c2_i32_59
  let c0_i32_60 : BitVec 32 := 0#32
  let v82 : BitVec 32 := Scalar.maxsi v81 c0_i32_60
  let v281 : Index := Scalar.indexCast v82
  let c0_236 : Index := 0#32
  let c0_237 : Index := 0#32
  ![0, 2, v281.toNat, 0, 0]
def k0_off25 (k0_t1 : Fin k0_t1_loop.trips) : Fin 5 → Nat :=
  let c0_289 : Index := 0#32
  let c3_290 : Index := 3#32
  let c0_i32 : BitVec 32 := 0#32
  let c1_i32 : BitVec 32 := 1#32
  let arg13 : BitVec 32 := Scf.iv c0_i32 c1_i32 k0_t1
  let c2_i32_59 : BitVec 32 := 2#32
  let v81 : BitVec 32 := Scalar.subi arg13 c2_i32_59
  let c0_i32_60 : BitVec 32 := 0#32
  let v82 : BitVec 32 := Scalar.maxsi v81 c0_i32_60
  let v334 : Index := Scalar.indexCast v82
  let c0_291 : Index := 0#32
  let c0_292 : Index := 0#32
  ![0, 3, v334.toNat, 0, 0]
def k0_mult18 (k0_t1 : Fin k0_t1_loop.trips) : BitVec 32 :=
  let c0_i32 : BitVec 32 := 0#32
  let c1_i32 : BitVec 32 := 1#32
  let arg13 : BitVec 32 := Scf.iv c0_i32 c1_i32 k0_t1
  let c1_i32_344 : BitVec 32 := 1#32
  let v387 : BitVec 32 := Scalar.subi arg13 c1_i32_344
  let c512_i32_365 : BitVec 32 := 512#32
  let v420 : BitVec 32 := Scalar.muli v387 c512_i32_365
  v420
def k0_off26 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1_i32_344 : BitVec 32 := 1#32
  let v387 : BitVec 32 := Scalar.subi arg13 c1_i32_344
  let c512_i32_365 : BitVec 32 := 512#32
  let v420 : BitVec 32 := Scalar.muli v387 c512_i32_365
  let v421 : BitVec 32 := v420
  let v425 : Index := Scalar.indexCast v421
  let c0_366 : Index := 0#32
  ![v425.toNat, 0]
@[reducible] def k0_t2_loop (k0_t1 : Fin k0_t1_loop.trips) : Scf.Loop 32 :=
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_370 : BitVec 32 := 1#32
  ⟨c0_i32_368, v431, c1_i32_370⟩
def k0_mult19 (k0_t1 : Fin k0_t1_loop.trips) (k0_t2 : Fin (k0_t2_loop k0_t1).trips) : BitVec 32 :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c512_i32_378 : BitVec 32 := 512#32
  let v442 : BitVec 32 := Scalar.muli v438 c512_i32_378
  v442
def k0_off27 (k0_t1 : Fin k0_t1_loop.trips) (k0_t2 : Fin (k0_t2_loop k0_t1).trips) : Fin 2 → Nat :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c512_i32_378 : BitVec 32 := 512#32
  let v442 : BitVec 32 := Scalar.muli v438 c512_i32_378
  let v443 : BitVec 32 := v442
  let v444 : Index := Scalar.indexCast v443
  let c0_379 : Index := 0#32
  ![v444.toNat, 0]
def k0_mult20 (k0_t1 : Fin k0_t1_loop.trips) (k0_t2 : Fin (k0_t2_loop k0_t1).trips) : BitVec 32 :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c512_i32_384 : BitVec 32 := 512#32
  let v450 : BitVec 32 := Scalar.muli v438 c512_i32_384
  v450
def k0_off28 (k0_t1 : Fin k0_t1_loop.trips) (k0_t2 : Fin (k0_t2_loop k0_t1).trips) : Fin 2 → Nat :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c512_i32_384 : BitVec 32 := 512#32
  let v450 : BitVec 32 := Scalar.muli v438 c512_i32_384
  let v451 : BitVec 32 := v450
  let v452 : Index := Scalar.indexCast v451
  let c128_385 : Index := 128#32
  ![v452.toNat, 128]
def k0_mult21 (k0_t1 : Fin k0_t1_loop.trips) (k0_t2 : Fin (k0_t2_loop k0_t1).trips) : BitVec 32 :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c512_i32_390 : BitVec 32 := 512#32
  let v458 : BitVec 32 := Scalar.muli v438 c512_i32_390
  v458
def k0_off29 (k0_t1 : Fin k0_t1_loop.trips) (k0_t2 : Fin (k0_t2_loop k0_t1).trips) : Fin 2 → Nat :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c512_i32_390 : BitVec 32 := 512#32
  let v458 : BitVec 32 := Scalar.muli v438 c512_i32_390
  let v459 : BitVec 32 := v458
  let v460 : Index := Scalar.indexCast v459
  let c256_391 : Index := 256#32
  ![v460.toNat, 256]
def k0_mult22 (k0_t1 : Fin k0_t1_loop.trips) (k0_t2 : Fin (k0_t2_loop k0_t1).trips) : BitVec 32 :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c512_i32_396 : BitVec 32 := 512#32
  let v466 : BitVec 32 := Scalar.muli v438 c512_i32_396
  v466
def k0_off30 (k0_t1 : Fin k0_t1_loop.trips) (k0_t2 : Fin (k0_t2_loop k0_t1).trips) : Fin 2 → Nat :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c512_i32_396 : BitVec 32 := 512#32
  let v466 : BitVec 32 := Scalar.muli v438 c512_i32_396
  let v467 : BitVec 32 := v466
  let v468 : Index := Scalar.indexCast v467
  let c384_397 : Index := 384#32
  ![v468.toNat, 384]
def k0_off31 (k0_t1 : Fin k0_t1_loop.trips) (k0_t2 : Fin (k0_t2_loop k0_t1).trips) : Fin 5 → Nat :=
  let c0_402 : Index := 0#32
  let c0_403 : Index := 0#32
  let c0_i32_368 : BitVec 32 := 0#32
  let c1_i32_370 : BitVec 32 := 1#32
  let arg14 : BitVec 32 := Scf.iv c0_i32_368 c1_i32_370 k0_t2
  let c0_i32_376 : BitVec 32 := 0#32
  let v439 : BitVec 1 := Scalar.cmpi .eq arg14 c0_i32_376
  let c0_i32 : BitVec 32 := 0#32
  let c1_i32 : BitVec 32 := 1#32
  let arg13 : BitVec 32 := Scf.iv c0_i32 c1_i32 k0_t1
  let c2_i32_375 : BitVec 32 := 2#32
  let v438 : BitVec 32 := Scalar.muli c2_i32_375 arg14
  let c1_i32_377 : BitVec 32 := 1#32
  let v440 : BitVec 32 := Scalar.subi v438 c1_i32_377
  let v441 : BitVec 32 := Scalar.select v439 arg13 v440
  let v474 : Index := Scalar.indexCast v441
  let c0_404 : Index := 0#32
  let c0_405 : Index := 0#32
  ![0, 0, v474.toNat, 0, 0]
def k0_off32 (k0_t1 : Fin k0_t1_loop.trips) (k0_t2 : Fin (k0_t2_loop k0_t1).trips) : Fin 5 → Nat :=
  let c0_444 : Index := 0#32
  let c1_445 : Index := 1#32
  let c0_i32_368 : BitVec 32 := 0#32
  let c1_i32_370 : BitVec 32 := 1#32
  let arg14 : BitVec 32 := Scf.iv c0_i32_368 c1_i32_370 k0_t2
  let c0_i32_376 : BitVec 32 := 0#32
  let v439 : BitVec 1 := Scalar.cmpi .eq arg14 c0_i32_376
  let c0_i32 : BitVec 32 := 0#32
  let c1_i32 : BitVec 32 := 1#32
  let arg13 : BitVec 32 := Scf.iv c0_i32 c1_i32 k0_t1
  let c2_i32_375 : BitVec 32 := 2#32
  let v438 : BitVec 32 := Scalar.muli c2_i32_375 arg14
  let c1_i32_377 : BitVec 32 := 1#32
  let v440 : BitVec 32 := Scalar.subi v438 c1_i32_377
  let v441 : BitVec 32 := Scalar.select v439 arg13 v440
  let v510 : Index := Scalar.indexCast v441
  let c0_446 : Index := 0#32
  let c0_447 : Index := 0#32
  ![0, 1, v510.toNat, 0, 0]
def k0_off33 (k0_t1 : Fin k0_t1_loop.trips) (k0_t2 : Fin (k0_t2_loop k0_t1).trips) : Fin 5 → Nat :=
  let c0_486 : Index := 0#32
  let c2_487 : Index := 2#32
  let c0_i32_368 : BitVec 32 := 0#32
  let c1_i32_370 : BitVec 32 := 1#32
  let arg14 : BitVec 32 := Scf.iv c0_i32_368 c1_i32_370 k0_t2
  let c0_i32_376 : BitVec 32 := 0#32
  let v439 : BitVec 1 := Scalar.cmpi .eq arg14 c0_i32_376
  let c0_i32 : BitVec 32 := 0#32
  let c1_i32 : BitVec 32 := 1#32
  let arg13 : BitVec 32 := Scf.iv c0_i32 c1_i32 k0_t1
  let c2_i32_375 : BitVec 32 := 2#32
  let v438 : BitVec 32 := Scalar.muli c2_i32_375 arg14
  let c1_i32_377 : BitVec 32 := 1#32
  let v440 : BitVec 32 := Scalar.subi v438 c1_i32_377
  let v441 : BitVec 32 := Scalar.select v439 arg13 v440
  let v546 : Index := Scalar.indexCast v441
  let c0_488 : Index := 0#32
  let c0_489 : Index := 0#32
  ![0, 2, v546.toNat, 0, 0]
def k0_off34 (k0_t1 : Fin k0_t1_loop.trips) (k0_t2 : Fin (k0_t2_loop k0_t1).trips) : Fin 5 → Nat :=
  let c0_528 : Index := 0#32
  let c3_529 : Index := 3#32
  let c0_i32_368 : BitVec 32 := 0#32
  let c1_i32_370 : BitVec 32 := 1#32
  let arg14 : BitVec 32 := Scf.iv c0_i32_368 c1_i32_370 k0_t2
  let c0_i32_376 : BitVec 32 := 0#32
  let v439 : BitVec 1 := Scalar.cmpi .eq arg14 c0_i32_376
  let c0_i32 : BitVec 32 := 0#32
  let c1_i32 : BitVec 32 := 1#32
  let arg13 : BitVec 32 := Scf.iv c0_i32 c1_i32 k0_t1
  let c2_i32_375 : BitVec 32 := 2#32
  let v438 : BitVec 32 := Scalar.muli c2_i32_375 arg14
  let c1_i32_377 : BitVec 32 := 1#32
  let v440 : BitVec 32 := Scalar.subi v438 c1_i32_377
  let v441 : BitVec 32 := Scalar.select v439 arg13 v440
  let v582 : Index := Scalar.indexCast v441
  let c0_530 : Index := 0#32
  let c0_531 : Index := 0#32
  ![0, 3, v582.toNat, 0, 0]
def k0_mult23 (k0_t1 : Fin k0_t1_loop.trips) (k0_t2 : Fin (k0_t2_loop k0_t1).trips) : BitVec 32 :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c1_i32_570 : BitVec 32 := 1#32
  let v618 : BitVec 32 := Scalar.addi v438 c1_i32_570
  let c512_i32_571 : BitVec 32 := 512#32
  let v619 : BitVec 32 := Scalar.muli v618 c512_i32_571
  v619
def k0_off35 (k0_t1 : Fin k0_t1_loop.trips) (k0_t2 : Fin (k0_t2_loop k0_t1).trips) : Fin 2 → Nat :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c1_i32_570 : BitVec 32 := 1#32
  let v618 : BitVec 32 := Scalar.addi v438 c1_i32_570
  let c512_i32_571 : BitVec 32 := 512#32
  let v619 : BitVec 32 := Scalar.muli v618 c512_i32_571
  let v620 : BitVec 32 := v619
  let v621 : Index := Scalar.indexCast v620
  let c0_572 : Index := 0#32
  ![v621.toNat, 0]
def k0_mult24 (k0_t1 : Fin k0_t1_loop.trips) (k0_t2 : Fin (k0_t2_loop k0_t1).trips) : BitVec 32 :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c1_i32_570 : BitVec 32 := 1#32
  let v618 : BitVec 32 := Scalar.addi v438 c1_i32_570
  let c512_i32_577 : BitVec 32 := 512#32
  let v627 : BitVec 32 := Scalar.muli v618 c512_i32_577
  v627
def k0_off36 (k0_t1 : Fin k0_t1_loop.trips) (k0_t2 : Fin (k0_t2_loop k0_t1).trips) : Fin 2 → Nat :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c1_i32_570 : BitVec 32 := 1#32
  let v618 : BitVec 32 := Scalar.addi v438 c1_i32_570
  let c512_i32_577 : BitVec 32 := 512#32
  let v627 : BitVec 32 := Scalar.muli v618 c512_i32_577
  let v628 : BitVec 32 := v627
  let v629 : Index := Scalar.indexCast v628
  let c128_578 : Index := 128#32
  ![v629.toNat, 128]
def k0_mult25 (k0_t1 : Fin k0_t1_loop.trips) (k0_t2 : Fin (k0_t2_loop k0_t1).trips) : BitVec 32 :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c1_i32_570 : BitVec 32 := 1#32
  let v618 : BitVec 32 := Scalar.addi v438 c1_i32_570
  let c512_i32_583 : BitVec 32 := 512#32
  let v635 : BitVec 32 := Scalar.muli v618 c512_i32_583
  v635
def k0_off37 (k0_t1 : Fin k0_t1_loop.trips) (k0_t2 : Fin (k0_t2_loop k0_t1).trips) : Fin 2 → Nat :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c1_i32_570 : BitVec 32 := 1#32
  let v618 : BitVec 32 := Scalar.addi v438 c1_i32_570
  let c512_i32_583 : BitVec 32 := 512#32
  let v635 : BitVec 32 := Scalar.muli v618 c512_i32_583
  let v636 : BitVec 32 := v635
  let v637 : Index := Scalar.indexCast v636
  let c256_584 : Index := 256#32
  ![v637.toNat, 256]
def k0_mult26 (k0_t1 : Fin k0_t1_loop.trips) (k0_t2 : Fin (k0_t2_loop k0_t1).trips) : BitVec 32 :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c1_i32_570 : BitVec 32 := 1#32
  let v618 : BitVec 32 := Scalar.addi v438 c1_i32_570
  let c512_i32_589 : BitVec 32 := 512#32
  let v643 : BitVec 32 := Scalar.muli v618 c512_i32_589
  v643
def k0_off38 (k0_t1 : Fin k0_t1_loop.trips) (k0_t2 : Fin (k0_t2_loop k0_t1).trips) : Fin 2 → Nat :=
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let c1_i32_570 : BitVec 32 := 1#32
  let v618 : BitVec 32 := Scalar.addi v438 c1_i32_570
  let c512_i32_589 : BitVec 32 := 512#32
  let v643 : BitVec 32 := Scalar.muli v618 c512_i32_589
  let v644 : BitVec 32 := v643
  let v645 : Index := Scalar.indexCast v644
  let c384_590 : Index := 384#32
  ![v645.toNat, 384]
def k0_off39 (k0_t1 : Fin k0_t1_loop.trips) (k0_t2 : Fin (k0_t2_loop k0_t1).trips) : Fin 5 → Nat :=
  let c0_595 : Index := 0#32
  let c0_596 : Index := 0#32
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let v651 : Index := Scalar.indexCast v438
  let c0_597 : Index := 0#32
  let c0_598 : Index := 0#32
  ![0, 0, v651.toNat, 0, 0]
def k0_off40 (k0_t1 : Fin k0_t1_loop.trips) (k0_t2 : Fin (k0_t2_loop k0_t1).trips) : Fin 5 → Nat :=
  let c0_637 : Index := 0#32
  let c1_638 : Index := 1#32
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let v687 : Index := Scalar.indexCast v438
  let c0_639 : Index := 0#32
  let c0_640 : Index := 0#32
  ![0, 1, v687.toNat, 0, 0]
def k0_off41 (k0_t1 : Fin k0_t1_loop.trips) (k0_t2 : Fin (k0_t2_loop k0_t1).trips) : Fin 5 → Nat :=
  let c0_679 : Index := 0#32
  let c2_680 : Index := 2#32
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let v723 : Index := Scalar.indexCast v438
  let c0_681 : Index := 0#32
  let c0_682 : Index := 0#32
  ![0, 2, v723.toNat, 0, 0]
def k0_off42 (k0_t1 : Fin k0_t1_loop.trips) (k0_t2 : Fin (k0_t2_loop k0_t1).trips) : Fin 5 → Nat :=
  let c0_721 : Index := 0#32
  let c3_722 : Index := 3#32
  let c2_i32_375 : BitVec 32 := 2#32
  let c0_i32_368 : BitVec 32 := 0#32
  let c1_i32_370 : BitVec 32 := 1#32
  let arg14 : BitVec 32 := Scf.iv c0_i32_368 c1_i32_370 k0_t2
  let v438 : BitVec 32 := Scalar.muli c2_i32_375 arg14
  let v759 : Index := Scalar.indexCast v438
  let c0_723 : Index := 0#32
  let c0_724 : Index := 0#32
  ![0, 3, v759.toNat, 0, 0]
@[reducible] def k0_t3_loop (k0_t1 : Fin k0_t1_loop.trips) : Scf.Loop 32 :=
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let v428 : BitVec 32 := Scalar.addi c0_i32_368 v427
  let c1_i32_371 : BitVec 32 := 1#32
  ⟨v431, v428, c1_i32_371⟩
def k0_mult27 (k0_t1 : Fin k0_t1_loop.trips) (k0_t3 : Fin (k0_t3_loop k0_t1).trips) : BitVec 32 :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c512_i32_378 : BitVec 32 := 512#32
  let v442 : BitVec 32 := Scalar.muli v438 c512_i32_378
  v442
def k0_off43 (k0_t1 : Fin k0_t1_loop.trips) (k0_t3 : Fin (k0_t3_loop k0_t1).trips) : Fin 2 → Nat :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c512_i32_378 : BitVec 32 := 512#32
  let v442 : BitVec 32 := Scalar.muli v438 c512_i32_378
  let v443 : BitVec 32 := v442
  let v444 : Index := Scalar.indexCast v443
  let c0_379 : Index := 0#32
  ![v444.toNat, 0]
def k0_mult28 (k0_t1 : Fin k0_t1_loop.trips) (k0_t3 : Fin (k0_t3_loop k0_t1).trips) : BitVec 32 :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c512_i32_384 : BitVec 32 := 512#32
  let v450 : BitVec 32 := Scalar.muli v438 c512_i32_384
  v450
def k0_off44 (k0_t1 : Fin k0_t1_loop.trips) (k0_t3 : Fin (k0_t3_loop k0_t1).trips) : Fin 2 → Nat :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c512_i32_384 : BitVec 32 := 512#32
  let v450 : BitVec 32 := Scalar.muli v438 c512_i32_384
  let v451 : BitVec 32 := v450
  let v452 : Index := Scalar.indexCast v451
  let c128_385 : Index := 128#32
  ![v452.toNat, 128]
def k0_mult29 (k0_t1 : Fin k0_t1_loop.trips) (k0_t3 : Fin (k0_t3_loop k0_t1).trips) : BitVec 32 :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c512_i32_390 : BitVec 32 := 512#32
  let v458 : BitVec 32 := Scalar.muli v438 c512_i32_390
  v458
def k0_off45 (k0_t1 : Fin k0_t1_loop.trips) (k0_t3 : Fin (k0_t3_loop k0_t1).trips) : Fin 2 → Nat :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c512_i32_390 : BitVec 32 := 512#32
  let v458 : BitVec 32 := Scalar.muli v438 c512_i32_390
  let v459 : BitVec 32 := v458
  let v460 : Index := Scalar.indexCast v459
  let c256_391 : Index := 256#32
  ![v460.toNat, 256]
def k0_mult30 (k0_t1 : Fin k0_t1_loop.trips) (k0_t3 : Fin (k0_t3_loop k0_t1).trips) : BitVec 32 :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c512_i32_396 : BitVec 32 := 512#32
  let v466 : BitVec 32 := Scalar.muli v438 c512_i32_396
  v466
def k0_off46 (k0_t1 : Fin k0_t1_loop.trips) (k0_t3 : Fin (k0_t3_loop k0_t1).trips) : Fin 2 → Nat :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c512_i32_396 : BitVec 32 := 512#32
  let v466 : BitVec 32 := Scalar.muli v438 c512_i32_396
  let v467 : BitVec 32 := v466
  let v468 : Index := Scalar.indexCast v467
  let c384_397 : Index := 384#32
  ![v468.toNat, 384]
def k0_off47 (k0_t1 : Fin k0_t1_loop.trips) (k0_t3 : Fin (k0_t3_loop k0_t1).trips) : Fin 5 → Nat :=
  let c0_402 : Index := 0#32
  let c0_403 : Index := 0#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let c0_i32_376 : BitVec 32 := 0#32
  let v439 : BitVec 1 := Scalar.cmpi .eq arg14 c0_i32_376
  let c2_i32_375 : BitVec 32 := 2#32
  let v438 : BitVec 32 := Scalar.muli c2_i32_375 arg14
  let c1_i32_377 : BitVec 32 := 1#32
  let v440 : BitVec 32 := Scalar.subi v438 c1_i32_377
  let v441 : BitVec 32 := Scalar.select v439 arg13 v440
  let v474 : Index := Scalar.indexCast v441
  let c0_404 : Index := 0#32
  let c0_405 : Index := 0#32
  ![0, 0, v474.toNat, 0, 0]
def k0_off48 (k0_t1 : Fin k0_t1_loop.trips) (k0_t3 : Fin (k0_t3_loop k0_t1).trips) : Fin 5 → Nat :=
  let c0_444 : Index := 0#32
  let c1_445 : Index := 1#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let c0_i32_376 : BitVec 32 := 0#32
  let v439 : BitVec 1 := Scalar.cmpi .eq arg14 c0_i32_376
  let c2_i32_375 : BitVec 32 := 2#32
  let v438 : BitVec 32 := Scalar.muli c2_i32_375 arg14
  let c1_i32_377 : BitVec 32 := 1#32
  let v440 : BitVec 32 := Scalar.subi v438 c1_i32_377
  let v441 : BitVec 32 := Scalar.select v439 arg13 v440
  let v510 : Index := Scalar.indexCast v441
  let c0_446 : Index := 0#32
  let c0_447 : Index := 0#32
  ![0, 1, v510.toNat, 0, 0]
def k0_off49 (k0_t1 : Fin k0_t1_loop.trips) (k0_t3 : Fin (k0_t3_loop k0_t1).trips) : Fin 5 → Nat :=
  let c0_486 : Index := 0#32
  let c2_487 : Index := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let c0_i32_376 : BitVec 32 := 0#32
  let v439 : BitVec 1 := Scalar.cmpi .eq arg14 c0_i32_376
  let c2_i32_375 : BitVec 32 := 2#32
  let v438 : BitVec 32 := Scalar.muli c2_i32_375 arg14
  let c1_i32_377 : BitVec 32 := 1#32
  let v440 : BitVec 32 := Scalar.subi v438 c1_i32_377
  let v441 : BitVec 32 := Scalar.select v439 arg13 v440
  let v546 : Index := Scalar.indexCast v441
  let c0_488 : Index := 0#32
  let c0_489 : Index := 0#32
  ![0, 2, v546.toNat, 0, 0]
def k0_off50 (k0_t1 : Fin k0_t1_loop.trips) (k0_t3 : Fin (k0_t3_loop k0_t1).trips) : Fin 5 → Nat :=
  let c0_528 : Index := 0#32
  let c3_529 : Index := 3#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let c0_i32_376 : BitVec 32 := 0#32
  let v439 : BitVec 1 := Scalar.cmpi .eq arg14 c0_i32_376
  let c2_i32_375 : BitVec 32 := 2#32
  let v438 : BitVec 32 := Scalar.muli c2_i32_375 arg14
  let c1_i32_377 : BitVec 32 := 1#32
  let v440 : BitVec 32 := Scalar.subi v438 c1_i32_377
  let v441 : BitVec 32 := Scalar.select v439 arg13 v440
  let v582 : Index := Scalar.indexCast v441
  let c0_530 : Index := 0#32
  let c0_531 : Index := 0#32
  ![0, 3, v582.toNat, 0, 0]
def k0_mult31 (k0_t1 : Fin k0_t1_loop.trips) (k0_t3 : Fin (k0_t3_loop k0_t1).trips) : BitVec 32 :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c1_i32_570 : BitVec 32 := 1#32
  let v618 : BitVec 32 := Scalar.addi v438 c1_i32_570
  let c512_i32_571 : BitVec 32 := 512#32
  let v619 : BitVec 32 := Scalar.muli v618 c512_i32_571
  v619
def k0_off51 (k0_t1 : Fin k0_t1_loop.trips) (k0_t3 : Fin (k0_t3_loop k0_t1).trips) : Fin 2 → Nat :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c1_i32_570 : BitVec 32 := 1#32
  let v618 : BitVec 32 := Scalar.addi v438 c1_i32_570
  let c512_i32_571 : BitVec 32 := 512#32
  let v619 : BitVec 32 := Scalar.muli v618 c512_i32_571
  let v620 : BitVec 32 := v619
  let v621 : Index := Scalar.indexCast v620
  let c0_572 : Index := 0#32
  ![v621.toNat, 0]
def k0_mult32 (k0_t1 : Fin k0_t1_loop.trips) (k0_t3 : Fin (k0_t3_loop k0_t1).trips) : BitVec 32 :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c1_i32_570 : BitVec 32 := 1#32
  let v618 : BitVec 32 := Scalar.addi v438 c1_i32_570
  let c512_i32_577 : BitVec 32 := 512#32
  let v627 : BitVec 32 := Scalar.muli v618 c512_i32_577
  v627
def k0_off52 (k0_t1 : Fin k0_t1_loop.trips) (k0_t3 : Fin (k0_t3_loop k0_t1).trips) : Fin 2 → Nat :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c1_i32_570 : BitVec 32 := 1#32
  let v618 : BitVec 32 := Scalar.addi v438 c1_i32_570
  let c512_i32_577 : BitVec 32 := 512#32
  let v627 : BitVec 32 := Scalar.muli v618 c512_i32_577
  let v628 : BitVec 32 := v627
  let v629 : Index := Scalar.indexCast v628
  let c128_578 : Index := 128#32
  ![v629.toNat, 128]
def k0_mult33 (k0_t1 : Fin k0_t1_loop.trips) (k0_t3 : Fin (k0_t3_loop k0_t1).trips) : BitVec 32 :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c1_i32_570 : BitVec 32 := 1#32
  let v618 : BitVec 32 := Scalar.addi v438 c1_i32_570
  let c512_i32_583 : BitVec 32 := 512#32
  let v635 : BitVec 32 := Scalar.muli v618 c512_i32_583
  v635
def k0_off53 (k0_t1 : Fin k0_t1_loop.trips) (k0_t3 : Fin (k0_t3_loop k0_t1).trips) : Fin 2 → Nat :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c1_i32_570 : BitVec 32 := 1#32
  let v618 : BitVec 32 := Scalar.addi v438 c1_i32_570
  let c512_i32_583 : BitVec 32 := 512#32
  let v635 : BitVec 32 := Scalar.muli v618 c512_i32_583
  let v636 : BitVec 32 := v635
  let v637 : Index := Scalar.indexCast v636
  let c256_584 : Index := 256#32
  ![v637.toNat, 256]
def k0_mult34 (k0_t1 : Fin k0_t1_loop.trips) (k0_t3 : Fin (k0_t3_loop k0_t1).trips) : BitVec 32 :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c1_i32_570 : BitVec 32 := 1#32
  let v618 : BitVec 32 := Scalar.addi v438 c1_i32_570
  let c512_i32_589 : BitVec 32 := 512#32
  let v643 : BitVec 32 := Scalar.muli v618 c512_i32_589
  v643
def k0_off54 (k0_t1 : Fin k0_t1_loop.trips) (k0_t3 : Fin (k0_t3_loop k0_t1).trips) : Fin 2 → Nat :=
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let c1_i32_570 : BitVec 32 := 1#32
  let v618 : BitVec 32 := Scalar.addi v438 c1_i32_570
  let c512_i32_589 : BitVec 32 := 512#32
  let v643 : BitVec 32 := Scalar.muli v618 c512_i32_589
  let v644 : BitVec 32 := v643
  let v645 : Index := Scalar.indexCast v644
  let c384_590 : Index := 384#32
  ![v645.toNat, 384]
def k0_off55 (k0_t1 : Fin k0_t1_loop.trips) (k0_t3 : Fin (k0_t3_loop k0_t1).trips) : Fin 5 → Nat :=
  let c0_595 : Index := 0#32
  let c0_596 : Index := 0#32
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let v651 : Index := Scalar.indexCast v438
  let c0_597 : Index := 0#32
  let c0_598 : Index := 0#32
  ![0, 0, v651.toNat, 0, 0]
def k0_off56 (k0_t1 : Fin k0_t1_loop.trips) (k0_t3 : Fin (k0_t3_loop k0_t1).trips) : Fin 5 → Nat :=
  let c0_637 : Index := 0#32
  let c1_638 : Index := 1#32
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let v687 : Index := Scalar.indexCast v438
  let c0_639 : Index := 0#32
  let c0_640 : Index := 0#32
  ![0, 1, v687.toNat, 0, 0]
def k0_off57 (k0_t1 : Fin k0_t1_loop.trips) (k0_t3 : Fin (k0_t3_loop k0_t1).trips) : Fin 5 → Nat :=
  let c0_679 : Index := 0#32
  let c2_680 : Index := 2#32
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let v723 : Index := Scalar.indexCast v438
  let c0_681 : Index := 0#32
  let c0_682 : Index := 0#32
  ![0, 2, v723.toNat, 0, 0]
def k0_off58 (k0_t1 : Fin k0_t1_loop.trips) (k0_t3 : Fin (k0_t3_loop k0_t1).trips) : Fin 5 → Nat :=
  let c0_721 : Index := 0#32
  let c3_722 : Index := 3#32
  let c2_i32_375 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t3
  let v438 : BitVec 32 := Scalar.muli c2_i32_375 arg14
  let v759 : Index := Scalar.indexCast v438
  let c0_723 : Index := 0#32
  let c0_724 : Index := 0#32
  ![0, 3, v759.toNat, 0, 0]
def k0_cond4 (k0_t1 : Fin k0_t1_loop.trips) : BitVec 1 :=
  let c0_i32 : BitVec 32 := 0#32
  let c1_i32 : BitVec 32 := 1#32
  let arg13 : BitVec 32 := Scf.iv c0_i32 c1_i32 k0_t1
  let c7_i32 : BitVec 32 := 7#32
  let v435 : BitVec 1 := Scalar.cmpi .eq arg13 c7_i32
  let v436 : BitVec 32 := Scalar.extui v435
  let c0_i32_374 : BitVec 32 := 0#32
  let v437 : BitVec 1 := Scalar.cmpi .ne v436 c0_i32_374
  v437

def k0_off59 (k0_t1 : Fin k0_t1_loop.trips) : Fin 5 → Nat :=
  let c0_375 : Index := 0#32
  let c0_376 : Index := 0#32
  let c0_i32 : BitVec 32 := 0#32
  let c1_i32 : BitVec 32 := 1#32
  let arg13 : BitVec 32 := Scf.iv c0_i32 c1_i32 k0_t1
  let c0_i32_372 : BitVec 32 := 0#32
  let v432 : BitVec 1 := Scalar.cmpi .eq arg13 c0_i32_372
  let c1_i32_373 : BitVec 32 := 1#32
  let v433 : BitVec 32 := Scalar.subi arg13 c1_i32_373
  let v434 : BitVec 32 := Scalar.select v432 arg13 v433
  let v438 : Index := Scalar.indexCast v434
  let c0_377 : Index := 0#32
  let c0_378 : Index := 0#32
  ![0, 0, v438.toNat, 0, 0]
def k0_off60 (k0_t1 : Fin k0_t1_loop.trips) : Fin 5 → Nat :=
  let c0_398 : Index := 0#32
  let c1_399 : Index := 1#32
  let c0_i32 : BitVec 32 := 0#32
  let c1_i32 : BitVec 32 := 1#32
  let arg13 : BitVec 32 := Scf.iv c0_i32 c1_i32 k0_t1
  let c0_i32_372 : BitVec 32 := 0#32
  let v432 : BitVec 1 := Scalar.cmpi .eq arg13 c0_i32_372
  let c1_i32_373 : BitVec 32 := 1#32
  let v433 : BitVec 32 := Scalar.subi arg13 c1_i32_373
  let v434 : BitVec 32 := Scalar.select v432 arg13 v433
  let v454 : Index := Scalar.indexCast v434
  let c0_400 : Index := 0#32
  let c0_401 : Index := 0#32
  ![0, 1, v454.toNat, 0, 0]
def k0_off61 (k0_t1 : Fin k0_t1_loop.trips) : Fin 5 → Nat :=
  let c0_421 : Index := 0#32
  let c2_422 : Index := 2#32
  let c0_i32 : BitVec 32 := 0#32
  let c1_i32 : BitVec 32 := 1#32
  let arg13 : BitVec 32 := Scf.iv c0_i32 c1_i32 k0_t1
  let c0_i32_372 : BitVec 32 := 0#32
  let v432 : BitVec 1 := Scalar.cmpi .eq arg13 c0_i32_372
  let c1_i32_373 : BitVec 32 := 1#32
  let v433 : BitVec 32 := Scalar.subi arg13 c1_i32_373
  let v434 : BitVec 32 := Scalar.select v432 arg13 v433
  let v470 : Index := Scalar.indexCast v434
  let c0_423 : Index := 0#32
  let c0_424 : Index := 0#32
  ![0, 2, v470.toNat, 0, 0]
def k0_off62 (k0_t1 : Fin k0_t1_loop.trips) : Fin 5 → Nat :=
  let c0_444 : Index := 0#32
  let c3_445 : Index := 3#32
  let c0_i32 : BitVec 32 := 0#32
  let c1_i32 : BitVec 32 := 1#32
  let arg13 : BitVec 32 := Scf.iv c0_i32 c1_i32 k0_t1
  let c0_i32_372 : BitVec 32 := 0#32
  let v432 : BitVec 1 := Scalar.cmpi .eq arg13 c0_i32_372
  let c1_i32_373 : BitVec 32 := 1#32
  let v433 : BitVec 32 := Scalar.subi arg13 c1_i32_373
  let v434 : BitVec 32 := Scalar.select v432 arg13 v433
  let v486 : Index := Scalar.indexCast v434
  let c0_446 : Index := 0#32
  let c0_447 : Index := 0#32
  ![0, 3, v486.toNat, 0, 0]
def k0_mult35 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_487 : BitVec 32 := 512#32
  let v534 : BitVec 32 := Scalar.muli arg13 c512_i32_487
  v534
def k0_off63 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32_487 : BitVec 32 := 512#32
  let v534 : BitVec 32 := Scalar.muli arg13 c512_i32_487
  let v535 : BitVec 32 := v534
  let v539 : Index := Scalar.indexCast v535
  let c0_488 : Index := 0#32
  ![v539.toNat, 0]
def k0_cond5 (k0_t1 : Fin k0_t1_loop.trips) : BitVec 1 :=
  let c0_i32 : BitVec 32 := 0#32
  let c1_i32 : BitVec 32 := 1#32
  let arg13 : BitVec 32 := Scf.iv c0_i32 c1_i32 k0_t1
  let c2_i32_11 : BitVec 32 := 2#32
  let c0_i32_12 : BitVec 32 := 0#32
  let v19 : BitVec 1 := Scalar.cmpi .eq c2_i32_11 c0_i32_12
  let c1_i32_13 : BitVec 32 := 1#32
  let v20 : BitVec 32 := Scalar.select v19 c1_i32_13 c2_i32_11
  let v21 : BitVec 32 := Scalar.remsi arg13 v20
  let c0_i32_15 : BitVec 32 := 0#32
  let v23 : BitVec 1 := Scalar.cmpi .slt v21 c0_i32_15
  let c0_i32_16 : BitVec 32 := 0#32
  let v24 : BitVec 1 := Scalar.cmpi .slt v20 c0_i32_16
  let v25 : BitVec 1 := Scalar.xori v23 v24
  let c0_i32_14 : BitVec 32 := 0#32
  let v22 : BitVec 1 := Scalar.cmpi .ne v21 c0_i32_14
  let v26 : BitVec 1 := Scalar.andi v25 v22
  let v27 : BitVec 32 := Scalar.addi v21 v20
  let v28 : BitVec 32 := Scalar.select v26 v27 v21
  let c1_i32_17 : BitVec 32 := 1#32
  let v29 : BitVec 1 := Scalar.cmpi .eq v28 c1_i32_17
  let v30 : BitVec 32 := Scalar.extui v29
  let c0_i32_18 : BitVec 32 := 0#32
  let v31 : BitVec 1 := Scalar.cmpi .ne v30 c0_i32_18
  v31

def k0_off64 (k0_t1 : Fin k0_t1_loop.trips) : Fin 5 → Nat :=
  let c0 : Index := 0#32
  let c0_26 : Index := 0#32
  let c0_i32 : BitVec 32 := 0#32
  let c1_i32 : BitVec 32 := 1#32
  let arg13 : BitVec 32 := Scf.iv c0_i32 c1_i32 k0_t1
  let v49 : Index := Scalar.indexCast arg13
  let c0_27 : Index := 0#32
  let c0_28 : Index := 0#32
  ![0, 0, v49.toNat, 0, 0]
def k0_off65 (k0_t1 : Fin k0_t1_loop.trips) : Fin 5 → Nat :=
  let c0_32 : Index := 0#32
  let c1 : Index := 1#32
  let c0_i32 : BitVec 32 := 0#32
  let c1_i32 : BitVec 32 := 1#32
  let arg13 : BitVec 32 := Scf.iv c0_i32 c1_i32 k0_t1
  let v55 : Index := Scalar.indexCast arg13
  let c0_33 : Index := 0#32
  let c0_34 : Index := 0#32
  ![0, 1, v55.toNat, 0, 0]
def k0_off66 (k0_t1 : Fin k0_t1_loop.trips) : Fin 5 → Nat :=
  let c0_38 : Index := 0#32
  let c2 : Index := 2#32
  let c0_i32 : BitVec 32 := 0#32
  let c1_i32 : BitVec 32 := 1#32
  let arg13 : BitVec 32 := Scf.iv c0_i32 c1_i32 k0_t1
  let v61 : Index := Scalar.indexCast arg13
  let c0_39 : Index := 0#32
  let c0_40 : Index := 0#32
  ![0, 2, v61.toNat, 0, 0]
def k0_off67 (k0_t1 : Fin k0_t1_loop.trips) : Fin 5 → Nat :=
  let c0_44 : Index := 0#32
  let c3 : Index := 3#32
  let c0_i32 : BitVec 32 := 0#32
  let c1_i32 : BitVec 32 := 1#32
  let arg13 : BitVec 32 := Scf.iv c0_i32 c1_i32 k0_t1
  let v67 : Index := Scalar.indexCast arg13
  let c0_45 : Index := 0#32
  let c0_46 : Index := 0#32
  ![0, 3, v67.toNat, 0, 0]
def k0_mult36 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v83 : BitVec 32 := Scalar.muli arg13 c512_i32
  let c0_i32_61 : BitVec 32 := 0#32
  let v84 : BitVec 32 := Scalar.addi v83 c0_i32_61
  v84
def k0_off68 (k0_t1 : Fin k0_t1_loop.trips) (c0_i32_61 : BitVec 32) : Fin 2 → Nat :=
  let c0_i32 : BitVec 32 := 0#32
  let c1_i32 : BitVec 32 := 1#32
  let arg13 : BitVec 32 := Scf.iv c0_i32 c1_i32 k0_t1
  let c512_i32 : BitVec 32 := 512#32
  let v83 : BitVec 32 := Scalar.muli arg13 c512_i32
  let v84 : BitVec 32 := Scalar.addi v83 c0_i32_61
  let v85 : BitVec 32 := v84
  let v86 : Index := Scalar.indexCast v85
  let c0_62 : Index := 0#32
  ![v86.toNat, 0]
def k0_mult37 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_63 : BitVec 32 := 512#32
  let v89 : BitVec 32 := Scalar.muli arg13 c512_i32_63
  let c256_i32 : BitVec 32 := 256#32
  let v90 : BitVec 32 := Scalar.addi v89 c256_i32
  v90
def k0_mult38 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_75 : BitVec 32 := 512#32
  let v106 : BitVec 32 := Scalar.muli arg13 c512_i32_75
  let c0_i32_76 : BitVec 32 := 0#32
  let v107 : BitVec 32 := Scalar.addi v106 c0_i32_76
  v107
def k0_off69 (k0_t1 : Fin k0_t1_loop.trips) (c0_i32_76 : BitVec 32) : Fin 2 → Nat :=
  let c0_i32 : BitVec 32 := 0#32
  let c1_i32 : BitVec 32 := 1#32
  let arg13 : BitVec 32 := Scf.iv c0_i32 c1_i32 k0_t1
  let c512_i32_75 : BitVec 32 := 512#32
  let v106 : BitVec 32 := Scalar.muli arg13 c512_i32_75
  let v107 : BitVec 32 := Scalar.addi v106 c0_i32_76
  let v108 : BitVec 32 := v107
  let v109 : Index := Scalar.indexCast v108
  let c128 : Index := 128#32
  ![v109.toNat, 128]
def k0_mult39 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_77 : BitVec 32 := 512#32
  let v112 : BitVec 32 := Scalar.muli arg13 c512_i32_77
  let c256_i32_78 : BitVec 32 := 256#32
  let v113 : BitVec 32 := Scalar.addi v112 c256_i32_78
  v113
def k0_mult40 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_91 : BitVec 32 := 512#32
  let v129 : BitVec 32 := Scalar.muli arg13 c512_i32_91
  let c0_i32_92 : BitVec 32 := 0#32
  let v130 : BitVec 32 := Scalar.addi v129 c0_i32_92
  v130
def k0_off70 (k0_t1 : Fin k0_t1_loop.trips) (c0_i32_92 : BitVec 32) : Fin 2 → Nat :=
  let c0_i32 : BitVec 32 := 0#32
  let c1_i32 : BitVec 32 := 1#32
  let arg13 : BitVec 32 := Scf.iv c0_i32 c1_i32 k0_t1
  let c512_i32_91 : BitVec 32 := 512#32
  let v129 : BitVec 32 := Scalar.muli arg13 c512_i32_91
  let v130 : BitVec 32 := Scalar.addi v129 c0_i32_92
  let v131 : BitVec 32 := v130
  let v132 : Index := Scalar.indexCast v131
  let c256_93 : Index := 256#32
  ![v132.toNat, 256]
def k0_mult41 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_94 : BitVec 32 := 512#32
  let v135 : BitVec 32 := Scalar.muli arg13 c512_i32_94
  let c256_i32_95 : BitVec 32 := 256#32
  let v136 : BitVec 32 := Scalar.addi v135 c256_i32_95
  v136
def k0_mult42 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_108 : BitVec 32 := 512#32
  let v152 : BitVec 32 := Scalar.muli arg13 c512_i32_108
  let c0_i32_109 : BitVec 32 := 0#32
  let v153 : BitVec 32 := Scalar.addi v152 c0_i32_109
  v153
def k0_off71 (k0_t1 : Fin k0_t1_loop.trips) (c0_i32_109 : BitVec 32) : Fin 2 → Nat :=
  let c0_i32 : BitVec 32 := 0#32
  let c1_i32 : BitVec 32 := 1#32
  let arg13 : BitVec 32 := Scf.iv c0_i32 c1_i32 k0_t1
  let c512_i32_108 : BitVec 32 := 512#32
  let v152 : BitVec 32 := Scalar.muli arg13 c512_i32_108
  let v153 : BitVec 32 := Scalar.addi v152 c0_i32_109
  let v154 : BitVec 32 := v153
  let v155 : Index := Scalar.indexCast v154
  let c384 : Index := 384#32
  ![v155.toNat, 384]
def k0_mult43 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_110 : BitVec 32 := 512#32
  let v158 : BitVec 32 := Scalar.muli arg13 c512_i32_110
  let c256_i32_111 : BitVec 32 := 256#32
  let v159 : BitVec 32 := Scalar.addi v158 c256_i32_111
  v159
def k0_off72 (k0_t1 : Fin k0_t1_loop.trips) : Fin 5 → Nat :=
  let c0_124 : Index := 0#32
  let c0_125 : Index := 0#32
  let c0_i32 : BitVec 32 := 0#32
  let c1_i32 : BitVec 32 := 1#32
  let arg13 : BitVec 32 := Scf.iv c0_i32 c1_i32 k0_t1
  let c2_i32_59 : BitVec 32 := 2#32
  let v81 : BitVec 32 := Scalar.subi arg13 c2_i32_59
  let c0_i32_60 : BitVec 32 := 0#32
  let v82 : BitVec 32 := Scalar.maxsi v81 c0_i32_60
  let v175 : Index := Scalar.indexCast v82
  let c0_126 : Index := 0#32
  let c0_127 : Index := 0#32
  ![0, 0, v175.toNat, 0, 0]
def k0_off73 (k0_t1 : Fin k0_t1_loop.trips) : Fin 5 → Nat :=
  let c0_179 : Index := 0#32
  let c1_180 : Index := 1#32
  let c0_i32 : BitVec 32 := 0#32
  let c1_i32 : BitVec 32 := 1#32
  let arg13 : BitVec 32 := Scf.iv c0_i32 c1_i32 k0_t1
  let c2_i32_59 : BitVec 32 := 2#32
  let v81 : BitVec 32 := Scalar.subi arg13 c2_i32_59
  let c0_i32_60 : BitVec 32 := 0#32
  let v82 : BitVec 32 := Scalar.maxsi v81 c0_i32_60
  let v228 : Index := Scalar.indexCast v82
  let c0_181 : Index := 0#32
  let c0_182 : Index := 0#32
  ![0, 1, v228.toNat, 0, 0]
def k0_off74 (k0_t1 : Fin k0_t1_loop.trips) : Fin 5 → Nat :=
  let c0_234 : Index := 0#32
  let c2_235 : Index := 2#32
  let c0_i32 : BitVec 32 := 0#32
  let c1_i32 : BitVec 32 := 1#32
  let arg13 : BitVec 32 := Scf.iv c0_i32 c1_i32 k0_t1
  let c2_i32_59 : BitVec 32 := 2#32
  let v81 : BitVec 32 := Scalar.subi arg13 c2_i32_59
  let c0_i32_60 : BitVec 32 := 0#32
  let v82 : BitVec 32 := Scalar.maxsi v81 c0_i32_60
  let v281 : Index := Scalar.indexCast v82
  let c0_236 : Index := 0#32
  let c0_237 : Index := 0#32
  ![0, 2, v281.toNat, 0, 0]
def k0_off75 (k0_t1 : Fin k0_t1_loop.trips) : Fin 5 → Nat :=
  let c0_289 : Index := 0#32
  let c3_290 : Index := 3#32
  let c0_i32 : BitVec 32 := 0#32
  let c1_i32 : BitVec 32 := 1#32
  let arg13 : BitVec 32 := Scf.iv c0_i32 c1_i32 k0_t1
  let c2_i32_59 : BitVec 32 := 2#32
  let v81 : BitVec 32 := Scalar.subi arg13 c2_i32_59
  let c0_i32_60 : BitVec 32 := 0#32
  let v82 : BitVec 32 := Scalar.maxsi v81 c0_i32_60
  let v334 : Index := Scalar.indexCast v82
  let c0_291 : Index := 0#32
  let c0_292 : Index := 0#32
  ![0, 3, v334.toNat, 0, 0]
def k0_mult44 (k0_t1 : Fin k0_t1_loop.trips) : BitVec 32 :=
  let c0_i32 : BitVec 32 := 0#32
  let c1_i32 : BitVec 32 := 1#32
  let arg13 : BitVec 32 := Scf.iv c0_i32 c1_i32 k0_t1
  let c1_i32_344 : BitVec 32 := 1#32
  let v387 : BitVec 32 := Scalar.subi arg13 c1_i32_344
  let c512_i32_365 : BitVec 32 := 512#32
  let v420 : BitVec 32 := Scalar.muli v387 c512_i32_365
  v420
def k0_off76 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1_i32_344 : BitVec 32 := 1#32
  let v387 : BitVec 32 := Scalar.subi arg13 c1_i32_344
  let c512_i32_365 : BitVec 32 := 512#32
  let v420 : BitVec 32 := Scalar.muli v387 c512_i32_365
  let v421 : BitVec 32 := v420
  let v425 : Index := Scalar.indexCast v421
  let c0_366 : Index := 0#32
  ![v425.toNat, 0]
@[reducible] def k0_t4_loop (k0_t1 : Fin k0_t1_loop.trips) : Scf.Loop 32 :=
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_370 : BitVec 32 := 1#32
  ⟨c0_i32_368, v431, c1_i32_370⟩
def k0_mult45 (k0_t1 : Fin k0_t1_loop.trips) (k0_t4 : Fin (k0_t4_loop k0_t1).trips) : BitVec 32 :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c512_i32_572 : BitVec 32 := 512#32
  let v620 : BitVec 32 := Scalar.muli v616 c512_i32_572
  v620
def k0_off77 (k0_t1 : Fin k0_t1_loop.trips) (k0_t4 : Fin (k0_t4_loop k0_t1).trips) : Fin 2 → Nat :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c512_i32_572 : BitVec 32 := 512#32
  let v620 : BitVec 32 := Scalar.muli v616 c512_i32_572
  let v621 : BitVec 32 := v620
  let v622 : Index := Scalar.indexCast v621
  let c0_573 : Index := 0#32
  ![v622.toNat, 0]
def k0_mult46 (k0_t1 : Fin k0_t1_loop.trips) (k0_t4 : Fin (k0_t4_loop k0_t1).trips) : BitVec 32 :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c512_i32_578 : BitVec 32 := 512#32
  let v628 : BitVec 32 := Scalar.muli v616 c512_i32_578
  v628
def k0_off78 (k0_t1 : Fin k0_t1_loop.trips) (k0_t4 : Fin (k0_t4_loop k0_t1).trips) : Fin 2 → Nat :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c512_i32_578 : BitVec 32 := 512#32
  let v628 : BitVec 32 := Scalar.muli v616 c512_i32_578
  let v629 : BitVec 32 := v628
  let v630 : Index := Scalar.indexCast v629
  let c128_579 : Index := 128#32
  ![v630.toNat, 128]
def k0_mult47 (k0_t1 : Fin k0_t1_loop.trips) (k0_t4 : Fin (k0_t4_loop k0_t1).trips) : BitVec 32 :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c512_i32_584 : BitVec 32 := 512#32
  let v636 : BitVec 32 := Scalar.muli v616 c512_i32_584
  v636
def k0_off79 (k0_t1 : Fin k0_t1_loop.trips) (k0_t4 : Fin (k0_t4_loop k0_t1).trips) : Fin 2 → Nat :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c512_i32_584 : BitVec 32 := 512#32
  let v636 : BitVec 32 := Scalar.muli v616 c512_i32_584
  let v637 : BitVec 32 := v636
  let v638 : Index := Scalar.indexCast v637
  let c256_585 : Index := 256#32
  ![v638.toNat, 256]
def k0_mult48 (k0_t1 : Fin k0_t1_loop.trips) (k0_t4 : Fin (k0_t4_loop k0_t1).trips) : BitVec 32 :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c512_i32_590 : BitVec 32 := 512#32
  let v644 : BitVec 32 := Scalar.muli v616 c512_i32_590
  v644
def k0_off80 (k0_t1 : Fin k0_t1_loop.trips) (k0_t4 : Fin (k0_t4_loop k0_t1).trips) : Fin 2 → Nat :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c512_i32_590 : BitVec 32 := 512#32
  let v644 : BitVec 32 := Scalar.muli v616 c512_i32_590
  let v645 : BitVec 32 := v644
  let v646 : Index := Scalar.indexCast v645
  let c384_591 : Index := 384#32
  ![v646.toNat, 384]
def k0_off81 (k0_t1 : Fin k0_t1_loop.trips) (k0_t4 : Fin (k0_t4_loop k0_t1).trips) : Fin 5 → Nat :=
  let c0_596 : Index := 0#32
  let c0_597 : Index := 0#32
  let c0_i32_368 : BitVec 32 := 0#32
  let c1_i32_370 : BitVec 32 := 1#32
  let arg14 : BitVec 32 := Scf.iv c0_i32_368 c1_i32_370 k0_t4
  let c0_i32_570 : BitVec 32 := 0#32
  let v617 : BitVec 1 := Scalar.cmpi .eq arg14 c0_i32_570
  let c0_i32 : BitVec 32 := 0#32
  let c1_i32 : BitVec 32 := 1#32
  let arg13 : BitVec 32 := Scf.iv c0_i32 c1_i32 k0_t1
  let c2_i32_569 : BitVec 32 := 2#32
  let v616 : BitVec 32 := Scalar.muli c2_i32_569 arg14
  let c1_i32_571 : BitVec 32 := 1#32
  let v618 : BitVec 32 := Scalar.subi v616 c1_i32_571
  let v619 : BitVec 32 := Scalar.select v617 arg13 v618
  let v652 : Index := Scalar.indexCast v619
  let c0_598 : Index := 0#32
  let c0_599 : Index := 0#32
  ![0, 0, v652.toNat, 0, 0]
def k0_off82 (k0_t1 : Fin k0_t1_loop.trips) (k0_t4 : Fin (k0_t4_loop k0_t1).trips) : Fin 5 → Nat :=
  let c0_638 : Index := 0#32
  let c1_639 : Index := 1#32
  let c0_i32_368 : BitVec 32 := 0#32
  let c1_i32_370 : BitVec 32 := 1#32
  let arg14 : BitVec 32 := Scf.iv c0_i32_368 c1_i32_370 k0_t4
  let c0_i32_570 : BitVec 32 := 0#32
  let v617 : BitVec 1 := Scalar.cmpi .eq arg14 c0_i32_570
  let c0_i32 : BitVec 32 := 0#32
  let c1_i32 : BitVec 32 := 1#32
  let arg13 : BitVec 32 := Scf.iv c0_i32 c1_i32 k0_t1
  let c2_i32_569 : BitVec 32 := 2#32
  let v616 : BitVec 32 := Scalar.muli c2_i32_569 arg14
  let c1_i32_571 : BitVec 32 := 1#32
  let v618 : BitVec 32 := Scalar.subi v616 c1_i32_571
  let v619 : BitVec 32 := Scalar.select v617 arg13 v618
  let v688 : Index := Scalar.indexCast v619
  let c0_640 : Index := 0#32
  let c0_641 : Index := 0#32
  ![0, 1, v688.toNat, 0, 0]
def k0_off83 (k0_t1 : Fin k0_t1_loop.trips) (k0_t4 : Fin (k0_t4_loop k0_t1).trips) : Fin 5 → Nat :=
  let c0_680 : Index := 0#32
  let c2_681 : Index := 2#32
  let c0_i32_368 : BitVec 32 := 0#32
  let c1_i32_370 : BitVec 32 := 1#32
  let arg14 : BitVec 32 := Scf.iv c0_i32_368 c1_i32_370 k0_t4
  let c0_i32_570 : BitVec 32 := 0#32
  let v617 : BitVec 1 := Scalar.cmpi .eq arg14 c0_i32_570
  let c0_i32 : BitVec 32 := 0#32
  let c1_i32 : BitVec 32 := 1#32
  let arg13 : BitVec 32 := Scf.iv c0_i32 c1_i32 k0_t1
  let c2_i32_569 : BitVec 32 := 2#32
  let v616 : BitVec 32 := Scalar.muli c2_i32_569 arg14
  let c1_i32_571 : BitVec 32 := 1#32
  let v618 : BitVec 32 := Scalar.subi v616 c1_i32_571
  let v619 : BitVec 32 := Scalar.select v617 arg13 v618
  let v724 : Index := Scalar.indexCast v619
  let c0_682 : Index := 0#32
  let c0_683 : Index := 0#32
  ![0, 2, v724.toNat, 0, 0]
def k0_off84 (k0_t1 : Fin k0_t1_loop.trips) (k0_t4 : Fin (k0_t4_loop k0_t1).trips) : Fin 5 → Nat :=
  let c0_722 : Index := 0#32
  let c3_723 : Index := 3#32
  let c0_i32_368 : BitVec 32 := 0#32
  let c1_i32_370 : BitVec 32 := 1#32
  let arg14 : BitVec 32 := Scf.iv c0_i32_368 c1_i32_370 k0_t4
  let c0_i32_570 : BitVec 32 := 0#32
  let v617 : BitVec 1 := Scalar.cmpi .eq arg14 c0_i32_570
  let c0_i32 : BitVec 32 := 0#32
  let c1_i32 : BitVec 32 := 1#32
  let arg13 : BitVec 32 := Scf.iv c0_i32 c1_i32 k0_t1
  let c2_i32_569 : BitVec 32 := 2#32
  let v616 : BitVec 32 := Scalar.muli c2_i32_569 arg14
  let c1_i32_571 : BitVec 32 := 1#32
  let v618 : BitVec 32 := Scalar.subi v616 c1_i32_571
  let v619 : BitVec 32 := Scalar.select v617 arg13 v618
  let v760 : Index := Scalar.indexCast v619
  let c0_724 : Index := 0#32
  let c0_725 : Index := 0#32
  ![0, 3, v760.toNat, 0, 0]
def k0_mult49 (k0_t1 : Fin k0_t1_loop.trips) (k0_t4 : Fin (k0_t4_loop k0_t1).trips) : BitVec 32 :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c1_i32_764 : BitVec 32 := 1#32
  let v796 : BitVec 32 := Scalar.addi v616 c1_i32_764
  let c512_i32_765 : BitVec 32 := 512#32
  let v797 : BitVec 32 := Scalar.muli v796 c512_i32_765
  v797
def k0_off85 (k0_t1 : Fin k0_t1_loop.trips) (k0_t4 : Fin (k0_t4_loop k0_t1).trips) : Fin 2 → Nat :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c1_i32_764 : BitVec 32 := 1#32
  let v796 : BitVec 32 := Scalar.addi v616 c1_i32_764
  let c512_i32_765 : BitVec 32 := 512#32
  let v797 : BitVec 32 := Scalar.muli v796 c512_i32_765
  let v798 : BitVec 32 := v797
  let v799 : Index := Scalar.indexCast v798
  let c0_766 : Index := 0#32
  ![v799.toNat, 0]
def k0_mult50 (k0_t1 : Fin k0_t1_loop.trips) (k0_t4 : Fin (k0_t4_loop k0_t1).trips) : BitVec 32 :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c1_i32_764 : BitVec 32 := 1#32
  let v796 : BitVec 32 := Scalar.addi v616 c1_i32_764
  let c512_i32_771 : BitVec 32 := 512#32
  let v805 : BitVec 32 := Scalar.muli v796 c512_i32_771
  v805
def k0_off86 (k0_t1 : Fin k0_t1_loop.trips) (k0_t4 : Fin (k0_t4_loop k0_t1).trips) : Fin 2 → Nat :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c1_i32_764 : BitVec 32 := 1#32
  let v796 : BitVec 32 := Scalar.addi v616 c1_i32_764
  let c512_i32_771 : BitVec 32 := 512#32
  let v805 : BitVec 32 := Scalar.muli v796 c512_i32_771
  let v806 : BitVec 32 := v805
  let v807 : Index := Scalar.indexCast v806
  let c128_772 : Index := 128#32
  ![v807.toNat, 128]
def k0_mult51 (k0_t1 : Fin k0_t1_loop.trips) (k0_t4 : Fin (k0_t4_loop k0_t1).trips) : BitVec 32 :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c1_i32_764 : BitVec 32 := 1#32
  let v796 : BitVec 32 := Scalar.addi v616 c1_i32_764
  let c512_i32_777 : BitVec 32 := 512#32
  let v813 : BitVec 32 := Scalar.muli v796 c512_i32_777
  v813
def k0_off87 (k0_t1 : Fin k0_t1_loop.trips) (k0_t4 : Fin (k0_t4_loop k0_t1).trips) : Fin 2 → Nat :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c1_i32_764 : BitVec 32 := 1#32
  let v796 : BitVec 32 := Scalar.addi v616 c1_i32_764
  let c512_i32_777 : BitVec 32 := 512#32
  let v813 : BitVec 32 := Scalar.muli v796 c512_i32_777
  let v814 : BitVec 32 := v813
  let v815 : Index := Scalar.indexCast v814
  let c256_778 : Index := 256#32
  ![v815.toNat, 256]
def k0_mult52 (k0_t1 : Fin k0_t1_loop.trips) (k0_t4 : Fin (k0_t4_loop k0_t1).trips) : BitVec 32 :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c1_i32_764 : BitVec 32 := 1#32
  let v796 : BitVec 32 := Scalar.addi v616 c1_i32_764
  let c512_i32_783 : BitVec 32 := 512#32
  let v821 : BitVec 32 := Scalar.muli v796 c512_i32_783
  v821
def k0_off88 (k0_t1 : Fin k0_t1_loop.trips) (k0_t4 : Fin (k0_t4_loop k0_t1).trips) : Fin 2 → Nat :=
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let c1_i32_764 : BitVec 32 := 1#32
  let v796 : BitVec 32 := Scalar.addi v616 c1_i32_764
  let c512_i32_783 : BitVec 32 := 512#32
  let v821 : BitVec 32 := Scalar.muli v796 c512_i32_783
  let v822 : BitVec 32 := v821
  let v823 : Index := Scalar.indexCast v822
  let c384_784 : Index := 384#32
  ![v823.toNat, 384]
def k0_off89 (k0_t1 : Fin k0_t1_loop.trips) (k0_t4 : Fin (k0_t4_loop k0_t1).trips) : Fin 5 → Nat :=
  let c0_789 : Index := 0#32
  let c0_790 : Index := 0#32
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let v829 : Index := Scalar.indexCast v616
  let c0_791 : Index := 0#32
  let c0_792 : Index := 0#32
  ![0, 0, v829.toNat, 0, 0]
def k0_off90 (k0_t1 : Fin k0_t1_loop.trips) (k0_t4 : Fin (k0_t4_loop k0_t1).trips) : Fin 5 → Nat :=
  let c0_831 : Index := 0#32
  let c1_832 : Index := 1#32
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let v865 : Index := Scalar.indexCast v616
  let c0_833 : Index := 0#32
  let c0_834 : Index := 0#32
  ![0, 1, v865.toNat, 0, 0]
def k0_off91 (k0_t1 : Fin k0_t1_loop.trips) (k0_t4 : Fin (k0_t4_loop k0_t1).trips) : Fin 5 → Nat :=
  let c0_873 : Index := 0#32
  let c2_874 : Index := 2#32
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let v901 : Index := Scalar.indexCast v616
  let c0_875 : Index := 0#32
  let c0_876 : Index := 0#32
  ![0, 2, v901.toNat, 0, 0]
def k0_off92 (k0_t1 : Fin k0_t1_loop.trips) (k0_t4 : Fin (k0_t4_loop k0_t1).trips) : Fin 5 → Nat :=
  let c0_915 : Index := 0#32
  let c3_916 : Index := 3#32
  let c2_i32_569 : BitVec 32 := 2#32
  let c0_i32_368 : BitVec 32 := 0#32
  let c1_i32_370 : BitVec 32 := 1#32
  let arg14 : BitVec 32 := Scf.iv c0_i32_368 c1_i32_370 k0_t4
  let v616 : BitVec 32 := Scalar.muli c2_i32_569 arg14
  let v937 : Index := Scalar.indexCast v616
  let c0_917 : Index := 0#32
  let c0_918 : Index := 0#32
  ![0, 3, v937.toNat, 0, 0]
@[reducible] def k0_t5_loop (k0_t1 : Fin k0_t1_loop.trips) : Scf.Loop 32 :=
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let v428 : BitVec 32 := Scalar.addi c0_i32_368 v427
  let c1_i32_371 : BitVec 32 := 1#32
  ⟨v431, v428, c1_i32_371⟩
def k0_mult53 (k0_t1 : Fin k0_t1_loop.trips) (k0_t5 : Fin (k0_t5_loop k0_t1).trips) : BitVec 32 :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c512_i32_572 : BitVec 32 := 512#32
  let v620 : BitVec 32 := Scalar.muli v616 c512_i32_572
  v620
def k0_off93 (k0_t1 : Fin k0_t1_loop.trips) (k0_t5 : Fin (k0_t5_loop k0_t1).trips) : Fin 2 → Nat :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c512_i32_572 : BitVec 32 := 512#32
  let v620 : BitVec 32 := Scalar.muli v616 c512_i32_572
  let v621 : BitVec 32 := v620
  let v622 : Index := Scalar.indexCast v621
  let c0_573 : Index := 0#32
  ![v622.toNat, 0]
def k0_mult54 (k0_t1 : Fin k0_t1_loop.trips) (k0_t5 : Fin (k0_t5_loop k0_t1).trips) : BitVec 32 :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c512_i32_578 : BitVec 32 := 512#32
  let v628 : BitVec 32 := Scalar.muli v616 c512_i32_578
  v628
def k0_off94 (k0_t1 : Fin k0_t1_loop.trips) (k0_t5 : Fin (k0_t5_loop k0_t1).trips) : Fin 2 → Nat :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c512_i32_578 : BitVec 32 := 512#32
  let v628 : BitVec 32 := Scalar.muli v616 c512_i32_578
  let v629 : BitVec 32 := v628
  let v630 : Index := Scalar.indexCast v629
  let c128_579 : Index := 128#32
  ![v630.toNat, 128]
def k0_mult55 (k0_t1 : Fin k0_t1_loop.trips) (k0_t5 : Fin (k0_t5_loop k0_t1).trips) : BitVec 32 :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c512_i32_584 : BitVec 32 := 512#32
  let v636 : BitVec 32 := Scalar.muli v616 c512_i32_584
  v636
def k0_off95 (k0_t1 : Fin k0_t1_loop.trips) (k0_t5 : Fin (k0_t5_loop k0_t1).trips) : Fin 2 → Nat :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c512_i32_584 : BitVec 32 := 512#32
  let v636 : BitVec 32 := Scalar.muli v616 c512_i32_584
  let v637 : BitVec 32 := v636
  let v638 : Index := Scalar.indexCast v637
  let c256_585 : Index := 256#32
  ![v638.toNat, 256]
def k0_mult56 (k0_t1 : Fin k0_t1_loop.trips) (k0_t5 : Fin (k0_t5_loop k0_t1).trips) : BitVec 32 :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c512_i32_590 : BitVec 32 := 512#32
  let v644 : BitVec 32 := Scalar.muli v616 c512_i32_590
  v644
def k0_off96 (k0_t1 : Fin k0_t1_loop.trips) (k0_t5 : Fin (k0_t5_loop k0_t1).trips) : Fin 2 → Nat :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c512_i32_590 : BitVec 32 := 512#32
  let v644 : BitVec 32 := Scalar.muli v616 c512_i32_590
  let v645 : BitVec 32 := v644
  let v646 : Index := Scalar.indexCast v645
  let c384_591 : Index := 384#32
  ![v646.toNat, 384]
def k0_off97 (k0_t1 : Fin k0_t1_loop.trips) (k0_t5 : Fin (k0_t5_loop k0_t1).trips) : Fin 5 → Nat :=
  let c0_596 : Index := 0#32
  let c0_597 : Index := 0#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let c0_i32_570 : BitVec 32 := 0#32
  let v617 : BitVec 1 := Scalar.cmpi .eq arg14 c0_i32_570
  let c2_i32_569 : BitVec 32 := 2#32
  let v616 : BitVec 32 := Scalar.muli c2_i32_569 arg14
  let c1_i32_571 : BitVec 32 := 1#32
  let v618 : BitVec 32 := Scalar.subi v616 c1_i32_571
  let v619 : BitVec 32 := Scalar.select v617 arg13 v618
  let v652 : Index := Scalar.indexCast v619
  let c0_598 : Index := 0#32
  let c0_599 : Index := 0#32
  ![0, 0, v652.toNat, 0, 0]
def k0_off98 (k0_t1 : Fin k0_t1_loop.trips) (k0_t5 : Fin (k0_t5_loop k0_t1).trips) : Fin 5 → Nat :=
  let c0_638 : Index := 0#32
  let c1_639 : Index := 1#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let c0_i32_570 : BitVec 32 := 0#32
  let v617 : BitVec 1 := Scalar.cmpi .eq arg14 c0_i32_570
  let c2_i32_569 : BitVec 32 := 2#32
  let v616 : BitVec 32 := Scalar.muli c2_i32_569 arg14
  let c1_i32_571 : BitVec 32 := 1#32
  let v618 : BitVec 32 := Scalar.subi v616 c1_i32_571
  let v619 : BitVec 32 := Scalar.select v617 arg13 v618
  let v688 : Index := Scalar.indexCast v619
  let c0_640 : Index := 0#32
  let c0_641 : Index := 0#32
  ![0, 1, v688.toNat, 0, 0]
def k0_off99 (k0_t1 : Fin k0_t1_loop.trips) (k0_t5 : Fin (k0_t5_loop k0_t1).trips) : Fin 5 → Nat :=
  let c0_680 : Index := 0#32
  let c2_681 : Index := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let c0_i32_570 : BitVec 32 := 0#32
  let v617 : BitVec 1 := Scalar.cmpi .eq arg14 c0_i32_570
  let c2_i32_569 : BitVec 32 := 2#32
  let v616 : BitVec 32 := Scalar.muli c2_i32_569 arg14
  let c1_i32_571 : BitVec 32 := 1#32
  let v618 : BitVec 32 := Scalar.subi v616 c1_i32_571
  let v619 : BitVec 32 := Scalar.select v617 arg13 v618
  let v724 : Index := Scalar.indexCast v619
  let c0_682 : Index := 0#32
  let c0_683 : Index := 0#32
  ![0, 2, v724.toNat, 0, 0]
def k0_off100 (k0_t1 : Fin k0_t1_loop.trips) (k0_t5 : Fin (k0_t5_loop k0_t1).trips) : Fin 5 → Nat :=
  let c0_722 : Index := 0#32
  let c3_723 : Index := 3#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let c0_i32_570 : BitVec 32 := 0#32
  let v617 : BitVec 1 := Scalar.cmpi .eq arg14 c0_i32_570
  let c2_i32_569 : BitVec 32 := 2#32
  let v616 : BitVec 32 := Scalar.muli c2_i32_569 arg14
  let c1_i32_571 : BitVec 32 := 1#32
  let v618 : BitVec 32 := Scalar.subi v616 c1_i32_571
  let v619 : BitVec 32 := Scalar.select v617 arg13 v618
  let v760 : Index := Scalar.indexCast v619
  let c0_724 : Index := 0#32
  let c0_725 : Index := 0#32
  ![0, 3, v760.toNat, 0, 0]
def k0_mult57 (k0_t1 : Fin k0_t1_loop.trips) (k0_t5 : Fin (k0_t5_loop k0_t1).trips) : BitVec 32 :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c1_i32_764 : BitVec 32 := 1#32
  let v796 : BitVec 32 := Scalar.addi v616 c1_i32_764
  let c512_i32_765 : BitVec 32 := 512#32
  let v797 : BitVec 32 := Scalar.muli v796 c512_i32_765
  v797
def k0_off101 (k0_t1 : Fin k0_t1_loop.trips) (k0_t5 : Fin (k0_t5_loop k0_t1).trips) : Fin 2 → Nat :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c1_i32_764 : BitVec 32 := 1#32
  let v796 : BitVec 32 := Scalar.addi v616 c1_i32_764
  let c512_i32_765 : BitVec 32 := 512#32
  let v797 : BitVec 32 := Scalar.muli v796 c512_i32_765
  let v798 : BitVec 32 := v797
  let v799 : Index := Scalar.indexCast v798
  let c0_766 : Index := 0#32
  ![v799.toNat, 0]
def k0_mult58 (k0_t1 : Fin k0_t1_loop.trips) (k0_t5 : Fin (k0_t5_loop k0_t1).trips) : BitVec 32 :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c1_i32_764 : BitVec 32 := 1#32
  let v796 : BitVec 32 := Scalar.addi v616 c1_i32_764
  let c512_i32_771 : BitVec 32 := 512#32
  let v805 : BitVec 32 := Scalar.muli v796 c512_i32_771
  v805
def k0_off102 (k0_t1 : Fin k0_t1_loop.trips) (k0_t5 : Fin (k0_t5_loop k0_t1).trips) : Fin 2 → Nat :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c1_i32_764 : BitVec 32 := 1#32
  let v796 : BitVec 32 := Scalar.addi v616 c1_i32_764
  let c512_i32_771 : BitVec 32 := 512#32
  let v805 : BitVec 32 := Scalar.muli v796 c512_i32_771
  let v806 : BitVec 32 := v805
  let v807 : Index := Scalar.indexCast v806
  let c128_772 : Index := 128#32
  ![v807.toNat, 128]
def k0_mult59 (k0_t1 : Fin k0_t1_loop.trips) (k0_t5 : Fin (k0_t5_loop k0_t1).trips) : BitVec 32 :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c1_i32_764 : BitVec 32 := 1#32
  let v796 : BitVec 32 := Scalar.addi v616 c1_i32_764
  let c512_i32_777 : BitVec 32 := 512#32
  let v813 : BitVec 32 := Scalar.muli v796 c512_i32_777
  v813
def k0_off103 (k0_t1 : Fin k0_t1_loop.trips) (k0_t5 : Fin (k0_t5_loop k0_t1).trips) : Fin 2 → Nat :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c1_i32_764 : BitVec 32 := 1#32
  let v796 : BitVec 32 := Scalar.addi v616 c1_i32_764
  let c512_i32_777 : BitVec 32 := 512#32
  let v813 : BitVec 32 := Scalar.muli v796 c512_i32_777
  let v814 : BitVec 32 := v813
  let v815 : Index := Scalar.indexCast v814
  let c256_778 : Index := 256#32
  ![v815.toNat, 256]
def k0_mult60 (k0_t1 : Fin k0_t1_loop.trips) (k0_t5 : Fin (k0_t5_loop k0_t1).trips) : BitVec 32 :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c1_i32_764 : BitVec 32 := 1#32
  let v796 : BitVec 32 := Scalar.addi v616 c1_i32_764
  let c512_i32_783 : BitVec 32 := 512#32
  let v821 : BitVec 32 := Scalar.muli v796 c512_i32_783
  v821
def k0_off104 (k0_t1 : Fin k0_t1_loop.trips) (k0_t5 : Fin (k0_t5_loop k0_t1).trips) : Fin 2 → Nat :=
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let c1_i32_764 : BitVec 32 := 1#32
  let v796 : BitVec 32 := Scalar.addi v616 c1_i32_764
  let c512_i32_783 : BitVec 32 := 512#32
  let v821 : BitVec 32 := Scalar.muli v796 c512_i32_783
  let v822 : BitVec 32 := v821
  let v823 : Index := Scalar.indexCast v822
  let c384_784 : Index := 384#32
  ![v823.toNat, 384]
def k0_off105 (k0_t1 : Fin k0_t1_loop.trips) (k0_t5 : Fin (k0_t5_loop k0_t1).trips) : Fin 5 → Nat :=
  let c0_789 : Index := 0#32
  let c0_790 : Index := 0#32
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let v829 : Index := Scalar.indexCast v616
  let c0_791 : Index := 0#32
  let c0_792 : Index := 0#32
  ![0, 0, v829.toNat, 0, 0]
def k0_off106 (k0_t1 : Fin k0_t1_loop.trips) (k0_t5 : Fin (k0_t5_loop k0_t1).trips) : Fin 5 → Nat :=
  let c0_831 : Index := 0#32
  let c1_832 : Index := 1#32
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let v865 : Index := Scalar.indexCast v616
  let c0_833 : Index := 0#32
  let c0_834 : Index := 0#32
  ![0, 1, v865.toNat, 0, 0]
def k0_off107 (k0_t1 : Fin k0_t1_loop.trips) (k0_t5 : Fin (k0_t5_loop k0_t1).trips) : Fin 5 → Nat :=
  let c0_873 : Index := 0#32
  let c2_874 : Index := 2#32
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let v901 : Index := Scalar.indexCast v616
  let c0_875 : Index := 0#32
  let c0_876 : Index := 0#32
  ![0, 2, v901.toNat, 0, 0]
def k0_off108 (k0_t1 : Fin k0_t1_loop.trips) (k0_t5 : Fin (k0_t5_loop k0_t1).trips) : Fin 5 → Nat :=
  let c0_915 : Index := 0#32
  let c3_916 : Index := 3#32
  let c2_i32_569 : BitVec 32 := 2#32
  let c0_i32_368 : BitVec 32 := 0#32
  let c0_i32 : BitVec 32 := 0#32
  let c1_i32 : BitVec 32 := 1#32
  let arg13 : BitVec 32 := Scf.iv c0_i32 c1_i32 k0_t1
  let c0_i32_20 : BitVec 32 := 0#32
  let v33 : BitVec 1 := Scalar.cmpi .sgt arg13 c0_i32_20
  let v34 : BitVec 32 := Scalar.extui v33
  let c0_i32_21 : BitVec 32 := 0#32
  let v35 : BitVec 1 := Scalar.cmpi .slt arg13 c0_i32_21
  let v36 : BitVec 32 := Scalar.extui v35
  let v37 : BitVec 32 := Scalar.subi v34 v36
  let c2_i32_19 : BitVec 32 := 2#32
  let c0_i32_22 : BitVec 32 := 0#32
  let v38 : BitVec 1 := Scalar.cmpi .sgt c2_i32_19 c0_i32_22
  let v39 : BitVec 32 := Scalar.extui v38
  let c0_i32_23 : BitVec 32 := 0#32
  let v40 : BitVec 1 := Scalar.cmpi .slt c2_i32_19 c0_i32_23
  let v41 : BitVec 32 := Scalar.extui v40
  let v42 : BitVec 32 := Scalar.subi v39 v41
  let v43 : BitVec 1 := Scalar.cmpi .ne v37 v42
  let v44 : BitVec 32 := Scalar.remsi arg13 c2_i32_19
  let c0_i32_24 : BitVec 32 := 0#32
  let v45 : BitVec 1 := Scalar.cmpi .ne v44 c0_i32_24
  let v46 : BitVec 1 := Scalar.andi v43 v45
  let v32 : BitVec 32 := Scalar.divsi arg13 c2_i32_19
  let c1_i32_25 : BitVec 32 := 1#32
  let v47 : BitVec 32 := Scalar.subi v32 c1_i32_25
  let v48 : BitVec 32 := Scalar.select v46 v47 v32
  let v427 : BitVec 32 := Scalar.subi v48 c0_i32_368
  let c1_i32_369 : BitVec 32 := 1#32
  let v429 : BitVec 32 := Scalar.divsi v427 c1_i32_369
  let v430 : BitVec 32 := Scalar.muli v429 c1_i32_369
  let v431 : BitVec 32 := Scalar.addi c0_i32_368 v430
  let c1_i32_371 : BitVec 32 := 1#32
  let arg14 : BitVec 32 := Scf.iv v431 c1_i32_371 k0_t5
  let v616 : BitVec 32 := Scalar.muli c2_i32_569 arg14
  let v937 : Index := Scalar.indexCast v616
  let c0_917 : Index := 0#32
  let c0_918 : Index := 0#32
  ![0, 3, v937.toNat, 0, 0]
def k0_mult61 (k0_t1 : Fin k0_t1_loop.trips) : BitVec 32 :=
  let c0_i32 : BitVec 32 := 0#32
  let c1_i32 : BitVec 32 := 1#32
  let arg13 : BitVec 32 := Scf.iv c0_i32 c1_i32 k0_t1
  let c1_i32_372 : BitVec 32 := 1#32
  let v432 : BitVec 32 := Scalar.subi arg13 c1_i32_372
  let c512_i32_375 : BitVec 32 := 512#32
  let v436 : BitVec 32 := Scalar.muli v432 c512_i32_375
  v436
def k0_off109 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1_i32_372 : BitVec 32 := 1#32
  let v432 : BitVec 32 := Scalar.subi arg13 c1_i32_372
  let c512_i32_375 : BitVec 32 := 512#32
  let v436 : BitVec 32 := Scalar.muli v432 c512_i32_375
  let v437 : BitVec 32 := v436
  let v438 : Index := Scalar.indexCast v437
  let c0_376 : Index := 0#32
  ![v438.toNat, 0]
def k0_mult62 (k0_t1 : Fin k0_t1_loop.trips) : BitVec 32 :=
  let c0_i32 : BitVec 32 := 0#32
  let c1_i32 : BitVec 32 := 1#32
  let arg13 : BitVec 32 := Scf.iv c0_i32 c1_i32 k0_t1
  let c1_i32_372 : BitVec 32 := 1#32
  let v432 : BitVec 32 := Scalar.subi arg13 c1_i32_372
  let c512_i32_381 : BitVec 32 := 512#32
  let v444 : BitVec 32 := Scalar.muli v432 c512_i32_381
  v444
def k0_off110 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1_i32_372 : BitVec 32 := 1#32
  let v432 : BitVec 32 := Scalar.subi arg13 c1_i32_372
  let c512_i32_381 : BitVec 32 := 512#32
  let v444 : BitVec 32 := Scalar.muli v432 c512_i32_381
  let v445 : BitVec 32 := v444
  let v446 : Index := Scalar.indexCast v445
  let c128_382 : Index := 128#32
  ![v446.toNat, 128]
def k0_mult63 (k0_t1 : Fin k0_t1_loop.trips) : BitVec 32 :=
  let c0_i32 : BitVec 32 := 0#32
  let c1_i32 : BitVec 32 := 1#32
  let arg13 : BitVec 32 := Scf.iv c0_i32 c1_i32 k0_t1
  let c1_i32_372 : BitVec 32 := 1#32
  let v432 : BitVec 32 := Scalar.subi arg13 c1_i32_372
  let c512_i32_387 : BitVec 32 := 512#32
  let v452 : BitVec 32 := Scalar.muli v432 c512_i32_387
  v452
def k0_off111 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1_i32_372 : BitVec 32 := 1#32
  let v432 : BitVec 32 := Scalar.subi arg13 c1_i32_372
  let c512_i32_387 : BitVec 32 := 512#32
  let v452 : BitVec 32 := Scalar.muli v432 c512_i32_387
  let v453 : BitVec 32 := v452
  let v454 : Index := Scalar.indexCast v453
  let c256_388 : Index := 256#32
  ![v454.toNat, 256]
def k0_mult64 (k0_t1 : Fin k0_t1_loop.trips) : BitVec 32 :=
  let c0_i32 : BitVec 32 := 0#32
  let c1_i32 : BitVec 32 := 1#32
  let arg13 : BitVec 32 := Scf.iv c0_i32 c1_i32 k0_t1
  let c1_i32_372 : BitVec 32 := 1#32
  let v432 : BitVec 32 := Scalar.subi arg13 c1_i32_372
  let c512_i32_393 : BitVec 32 := 512#32
  let v460 : BitVec 32 := Scalar.muli v432 c512_i32_393
  v460
def k0_off112 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1_i32_372 : BitVec 32 := 1#32
  let v432 : BitVec 32 := Scalar.subi arg13 c1_i32_372
  let c512_i32_393 : BitVec 32 := 512#32
  let v460 : BitVec 32 := Scalar.muli v432 c512_i32_393
  let v461 : BitVec 32 := v460
  let v462 : Index := Scalar.indexCast v461
  let c384_394 : Index := 384#32
  ![v462.toNat, 384]
def k0_off113 (k0_t1 : Fin k0_t1_loop.trips) : Fin 5 → Nat :=
  let c0_399 : Index := 0#32
  let c0_400 : Index := 0#32
  let c0_i32 : BitVec 32 := 0#32
  let c1_i32 : BitVec 32 := 1#32
  let arg13 : BitVec 32 := Scf.iv c0_i32 c1_i32 k0_t1
  let c1_i32_373 : BitVec 32 := 1#32
  let v433 : BitVec 1 := Scalar.cmpi .eq arg13 c1_i32_373
  let c2_i32_374 : BitVec 32 := 2#32
  let v434 : BitVec 32 := Scalar.subi arg13 c2_i32_374
  let v435 : BitVec 32 := Scalar.select v433 arg13 v434
  let v468 : Index := Scalar.indexCast v435
  let c0_401 : Index := 0#32
  let c0_402 : Index := 0#32
  ![0, 0, v468.toNat, 0, 0]
def k0_off114 (k0_t1 : Fin k0_t1_loop.trips) : Fin 5 → Nat :=
  let c0_441 : Index := 0#32
  let c1_442 : Index := 1#32
  let c0_i32 : BitVec 32 := 0#32
  let c1_i32 : BitVec 32 := 1#32
  let arg13 : BitVec 32 := Scf.iv c0_i32 c1_i32 k0_t1
  let c1_i32_373 : BitVec 32 := 1#32
  let v433 : BitVec 1 := Scalar.cmpi .eq arg13 c1_i32_373
  let c2_i32_374 : BitVec 32 := 2#32
  let v434 : BitVec 32 := Scalar.subi arg13 c2_i32_374
  let v435 : BitVec 32 := Scalar.select v433 arg13 v434
  let v504 : Index := Scalar.indexCast v435
  let c0_443 : Index := 0#32
  let c0_444 : Index := 0#32
  ![0, 1, v504.toNat, 0, 0]
def k0_off115 (k0_t1 : Fin k0_t1_loop.trips) : Fin 5 → Nat :=
  let c0_483 : Index := 0#32
  let c2_484 : Index := 2#32
  let c0_i32 : BitVec 32 := 0#32
  let c1_i32 : BitVec 32 := 1#32
  let arg13 : BitVec 32 := Scf.iv c0_i32 c1_i32 k0_t1
  let c1_i32_373 : BitVec 32 := 1#32
  let v433 : BitVec 1 := Scalar.cmpi .eq arg13 c1_i32_373
  let c2_i32_374 : BitVec 32 := 2#32
  let v434 : BitVec 32 := Scalar.subi arg13 c2_i32_374
  let v435 : BitVec 32 := Scalar.select v433 arg13 v434
  let v540 : Index := Scalar.indexCast v435
  let c0_485 : Index := 0#32
  let c0_486 : Index := 0#32
  ![0, 2, v540.toNat, 0, 0]
def k0_off116 (k0_t1 : Fin k0_t1_loop.trips) : Fin 5 → Nat :=
  let c0_525 : Index := 0#32
  let c3_526 : Index := 3#32
  let c0_i32 : BitVec 32 := 0#32
  let c1_i32 : BitVec 32 := 1#32
  let arg13 : BitVec 32 := Scf.iv c0_i32 c1_i32 k0_t1
  let c1_i32_373 : BitVec 32 := 1#32
  let v433 : BitVec 1 := Scalar.cmpi .eq arg13 c1_i32_373
  let c2_i32_374 : BitVec 32 := 2#32
  let v434 : BitVec 32 := Scalar.subi arg13 c2_i32_374
  let v435 : BitVec 32 := Scalar.select v433 arg13 v434
  let v576 : Index := Scalar.indexCast v435
  let c0_527 : Index := 0#32
  let c0_528 : Index := 0#32
  ![0, 3, v576.toNat, 0, 0]
def k0_cond6 (k0_t1 : Fin k0_t1_loop.trips) : BitVec 1 :=
  let c0_i32 : BitVec 32 := 0#32
  let c1_i32 : BitVec 32 := 1#32
  let arg13 : BitVec 32 := Scf.iv c0_i32 c1_i32 k0_t1
  let c7_i32 : BitVec 32 := 7#32
  let v613 : BitVec 1 := Scalar.cmpi .eq arg13 c7_i32
  let v614 : BitVec 32 := Scalar.extui v613
  let c0_i32_568 : BitVec 32 := 0#32
  let v615 : BitVec 1 := Scalar.cmpi .ne v614 c0_i32_568
  v615

def k0_off117 (k0_t1 : Fin k0_t1_loop.trips) : Fin 5 → Nat :=
  let c0_569 : Index := 0#32
  let c0_570 : Index := 0#32
  let c0_i32 : BitVec 32 := 0#32
  let c1_i32 : BitVec 32 := 1#32
  let arg13 : BitVec 32 := Scf.iv c0_i32 c1_i32 k0_t1
  let c1_i32_567 : BitVec 32 := 1#32
  let v612 : BitVec 32 := Scalar.subi arg13 c1_i32_567
  let v616 : Index := Scalar.indexCast v612
  let c0_571 : Index := 0#32
  let c0_572 : Index := 0#32
  ![0, 0, v616.toNat, 0, 0]
def k0_off118 (k0_t1 : Fin k0_t1_loop.trips) : Fin 5 → Nat :=
  let c0_592 : Index := 0#32
  let c1_593 : Index := 1#32
  let c0_i32 : BitVec 32 := 0#32
  let c1_i32 : BitVec 32 := 1#32
  let arg13 : BitVec 32 := Scf.iv c0_i32 c1_i32 k0_t1
  let c1_i32_567 : BitVec 32 := 1#32
  let v612 : BitVec 32 := Scalar.subi arg13 c1_i32_567
  let v632 : Index := Scalar.indexCast v612
  let c0_594 : Index := 0#32
  let c0_595 : Index := 0#32
  ![0, 1, v632.toNat, 0, 0]
def k0_off119 (k0_t1 : Fin k0_t1_loop.trips) : Fin 5 → Nat :=
  let c0_615 : Index := 0#32
  let c2_616 : Index := 2#32
  let c0_i32 : BitVec 32 := 0#32
  let c1_i32 : BitVec 32 := 1#32
  let arg13 : BitVec 32 := Scf.iv c0_i32 c1_i32 k0_t1
  let c1_i32_567 : BitVec 32 := 1#32
  let v612 : BitVec 32 := Scalar.subi arg13 c1_i32_567
  let v648 : Index := Scalar.indexCast v612
  let c0_617 : Index := 0#32
  let c0_618 : Index := 0#32
  ![0, 2, v648.toNat, 0, 0]
def k0_off120 (k0_t1 : Fin k0_t1_loop.trips) : Fin 5 → Nat :=
  let c0_638 : Index := 0#32
  let c3_639 : Index := 3#32
  let c0_i32 : BitVec 32 := 0#32
  let c1_i32 : BitVec 32 := 1#32
  let arg13 : BitVec 32 := Scf.iv c0_i32 c1_i32 k0_t1
  let c1_i32_567 : BitVec 32 := 1#32
  let v612 : BitVec 32 := Scalar.subi arg13 c1_i32_567
  let v664 : Index := Scalar.indexCast v612
  let c0_640 : Index := 0#32
  let c0_641 : Index := 0#32
  ![0, 3, v664.toNat, 0, 0]
def k0_mult65 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_681 : BitVec 32 := 512#32
  let v712 : BitVec 32 := Scalar.muli arg13 c512_i32_681
  v712
def k0_off121 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32_681 : BitVec 32 := 512#32
  let v712 : BitVec 32 := Scalar.muli arg13 c512_i32_681
  let v713 : BitVec 32 := v712
  let v717 : Index := Scalar.indexCast v713
  let c0_682 : Index := 0#32
  ![v717.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x8x4096x96 : Shape := ⟨4, ![8, 8, 4096, 96]⟩
abbrev S8x8x4096x64 : Shape := ⟨4, ![8, 8, 4096, 64]⟩
abbrev S4096 : Shape := ⟨1, ![4096]⟩
abbrev S_ : Shape := ⟨0, ![]⟩
abbrev S8x8x4096x4096 : Shape := ⟨4, ![8, 8, 4096, 4096]⟩
abbrev S4096x1 : Shape := ⟨2, ![4096, 1]⟩
abbrev S1x4096 : Shape := ⟨2, ![1, 4096]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x4096x8x64 : Shape := ⟨4, ![8, 4096, 8, 64]⟩
abbrev S32768x512 : Shape := ⟨2, ![32768, 512]⟩

abbrev nBuf : Space → Nat
  | .hbm => 42
  | .vmem => 0
  | .smem => 0
  | _ => 0

abbrev bufTy : (tb : Table) → Fin (tcTables nBuf tb) → BufTy
  | .hbm, ⟨0, _⟩ => ⟨S8x8x4096x96, .f32⟩
  | .hbm, ⟨1, _⟩ => ⟨S8x8x4096x96, .f32⟩
  | .hbm, ⟨2, _⟩ => ⟨S8x8x4096x64, .f32⟩
  | .hbm, ⟨3, _⟩ => ⟨S4096, .i32⟩
  | .hbm, ⟨4, _⟩ => ⟨S_, .f32⟩
  | .hbm, ⟨5, _⟩ => ⟨S_, .f32⟩
  | .hbm, ⟨6, _⟩ => ⟨S8x8x4096x4096, .f32⟩
  | .hbm, ⟨7, _⟩ => ⟨S8x8x4096x4096, .f32⟩
  | .hbm, ⟨8, _⟩ => ⟨S8x8x4096x4096, .f32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x8x4096x4096, .i1⟩
  | .hbm, ⟨17, _⟩ => ⟨S8x8x4096x4096, .f32⟩
  | .hbm, ⟨18, _⟩ => ⟨S8x8x4096x4096, .f32⟩
  | .hbm, ⟨19, _⟩ => ⟨S_, .f32⟩
  | .hbm, ⟨20, _⟩ => ⟨S8x8x4096, .f32⟩
  | .hbm, ⟨21, _⟩ => ⟨S8x8x4096x1, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .f32⟩
  | .hbm, ⟨25, _⟩ => ⟨S_, .f32⟩
  | .hbm, ⟨26, _⟩ => ⟨S_, .f32⟩
  | .hbm, ⟨27, _⟩ => ⟨S8x8x4096x4096, .i1⟩
  | .hbm, ⟨28, _⟩ => ⟨S8x8x4096x4096, .f32⟩
  | .hbm, ⟨29, _⟩ => ⟨S8x8x4096x4096, .f32⟩
  | .hbm, ⟨30, _⟩ => ⟨S_, .f32⟩
  | .hbm, ⟨31, _⟩ => ⟨S8x8x4096, .f32⟩
  | .hbm, ⟨32, _⟩ => ⟨S8x8x4096x1, .f32⟩
  | .hbm, ⟨33, _⟩ => ⟨S_, .f32⟩
  | .hbm, ⟨34, _⟩ => ⟨S8x8x4096x1, .f32⟩
  | .hbm, ⟨35, _⟩ => ⟨S8x8x4096x1, .f32⟩
  | .hbm, ⟨36, _⟩ => ⟨S8x8x4096x4096, .f32⟩
  | .hbm, ⟨37, _⟩ => ⟨S8x8x4096x4096, .f32⟩
  | .hbm, ⟨38, _⟩ => ⟨S8x8x4096x64, .f32⟩
  | .hbm, ⟨39, _⟩ => ⟨S8x4096x8x64, .f32⟩
  | .hbm, ⟨40, _⟩ => ⟨S32768x512, .f32⟩
  | .hbm, ⟨41, _⟩ => ⟨S32768x512, .bf16⟩
  | _, _ => ⟨S8x8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel2.lean ====
abbrev S8x4096x512 : Shape := ⟨3, ![8, 4096, 512]⟩
abbrev S8x4096x1024 : Shape := ⟨3, ![8, 4096, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S32768x512 : Shape := ⟨2, ![32768, 512]⟩
abbrev S32768x1024 : Shape := ⟨2, ![32768, 1024]⟩
abbrev S512x512 : Shape := ⟨2, ![512, 512]⟩
abbrev S512 : Shape := ⟨1, ![512]⟩
abbrev S512x1 : Shape := ⟨2, ![512, 1]⟩

abbrev nBuf : Space → Nat
  | .hbm => 29
  | .vmem => 23
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x1024, .bf16⟩
  | .hbm, ⟨5, _⟩ => ⟨S8x4096x1024, .bf16⟩
  | .hbm, ⟨6, _⟩ => ⟨S8x4096x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S32768x512, .bf16⟩
  | .hbm, ⟨21, _⟩ => ⟨S32768x512, .bf16⟩
  | .hbm, ⟨22, _⟩ => ⟨S32768x512, .bf16⟩
  | .hbm, ⟨23, _⟩ => ⟨S32768x512, .bf16⟩
  | .hbm, ⟨24, _⟩ => ⟨S32768x1024, .bf16⟩
  | .hbm, ⟨25, _⟩ => ⟨S32768x1024, .bf16⟩
  | .hbm, ⟨26, _⟩ => ⟨S32768x1024, .f32⟩
  | .hbm, ⟨27, _⟩ => ⟨S1x1024, .f32⟩
  | .hbm, ⟨28, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x4096, .bf16⟩
  | .local _ .vmem, ⟨19, _⟩ => ⟨S4096x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x4096x512 : Shape := ⟨3, ![8, 4096, 512]⟩
abbrev S8x4096x1024 : Shape := ⟨3, ![8, 4096, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x1024, .bf16⟩
  | .hbm, ⟨5, _⟩ => ⟨S8x4096x1024, .bf16⟩
  | .hbm, ⟨6, _⟩ => ⟨S8x4096x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S8x4096x512, .f32⟩
  | .hbm, ⟨15, _⟩ => ⟨S8x4096x512, .f32⟩
  | .hbm, ⟨16, _⟩ => ⟨S8x4096x512, .f32⟩
  | .hbm, ⟨17, _⟩ => ⟨S8x4096x512, .f32⟩
  | .hbm, ⟨18, _⟩ => ⟨S8x4096x512, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x512, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x4096x4096, .f32⟩
  | .hbm, ⟨46, _⟩ => ⟨S_, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x4096x1, .f32⟩
  | .hbm, ⟨63, _⟩ => ⟨S8x4096x1024, .f32⟩
  | .hbm, ⟨64, _⟩ => ⟨S8x4096x1024, .f32⟩
  | .hbm, ⟨65, _⟩ => ⟨S1x1x1024, .f32⟩
  | .hbm, ⟨66, _⟩ => ⟨S8x4096x1024, .f32⟩
  | .hbm, ⟨67, _⟩ => ⟨S8x4096x1024, .f32⟩
  | .hbm, ⟨68, _⟩ => ⟨S32768x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== Kernel3.lean ====
abbrev S8x4096x512 : Shape := ⟨3, ![8, 4096, 512]⟩
abbrev S8x4096x1024 : Shape := ⟨3, ![8, 4096, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S32768x512 : Shape := ⟨2, ![32768, 512]⟩
abbrev S32768x1024 : Shape := ⟨2, ![32768, 1024]⟩
abbrev S512x512 : Shape := ⟨2, ![512, 512]⟩
abbrev S512 : Shape := ⟨1, ![512]⟩
abbrev S512x1 : Shape := ⟨2, ![512, 1]⟩

abbrev nBuf : Space → Nat
  | .hbm => 29
  | .vmem => 23
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x1024, .bf16⟩
  | .hbm, ⟨5, _⟩ => ⟨S8x4096x1024, .bf16⟩
  | .hbm, ⟨6, _⟩ => ⟨S8x4096x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S32768x512, .bf16⟩
  | .hbm, ⟨21, _⟩ => ⟨S32768x512, .bf16⟩
  | .hbm, ⟨22, _⟩ => ⟨S32768x512, .bf16⟩
  | .hbm, ⟨23, _⟩ => ⟨S32768x512, .bf16⟩
  | .hbm, ⟨24, _⟩ => ⟨S32768x1024, .bf16⟩
  | .hbm, ⟨25, _⟩ => ⟨S32768x1024, .bf16⟩
  | .hbm, ⟨26, _⟩ => ⟨S32768x1024, .f32⟩
  | .hbm, ⟨27, _⟩ => ⟨S1x1024, .f32⟩
  | .hbm, ⟨28, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x4096, .bf16⟩
  | .local _ .vmem, ⟨19, _⟩ => ⟨S4096x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8x4096x512 : Shape := ⟨3, ![8, 4096, 512]⟩
abbrev S8x4096x1024 : Shape := ⟨3, ![8, 4096, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x1024, .bf16⟩
  | .hbm, ⟨5, _⟩ => ⟨S8x4096x1024, .bf16⟩
  | .hbm, ⟨6, _⟩ => ⟨S8x4096x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S8x4096x512, .f32⟩
  | .hbm, ⟨15, _⟩ => ⟨S8x4096x512, .f32⟩
  | .hbm, ⟨16, _⟩ => ⟨S8x4096x512, .f32⟩
  | .hbm, ⟨17, _⟩ => ⟨S8x4096x512, .f32⟩
  | .hbm, ⟨18, _⟩ => ⟨S8x4096x512, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x512, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x4096x4096, .f32⟩
  | .hbm, ⟨46, _⟩ => ⟨S_, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x1024, .f32⟩
  | .hbm, ⟨51, _⟩ => ⟨S8x4096x1024, .f32⟩
  | .hbm, ⟨52, _⟩ => ⟨S32768x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Proof.MergeMath.lean ====
/-
  The merge of the two attention branches and the MLP after it, one token (row) at a time, as plain functions of
  extended reals: the gated sum of the two output projections, the residual, the normalised row, the squared-relu
  MLP, the second residual and the last norm.
-/
module

public import Idealize.ShloMosaic.Lib.Pointwise

@[expose] public section

noncomputable section

open Idealize.ShloMosaic Idealize.ShloMosaic.TcCoe

namespace Cert.MergeRow

/-- `(u W)` at column `k`. -/
def dotCol {K N : ℕ} (u : Fin K → EReal) (W : Fin K → Fin N → EReal) (k : Fin N) : EReal := ∑ i, u i * W i k

/-- The reciprocal root of the mean square of a row of 1024 (with the layer's epsilon). -/
def invRms (v : Fin 1024 → EReal) : EReal :=
  Ideal.rsqrt (Ideal.div (∑ i, v i * v i) (Ideal.ofBits .f32 0x44800000#32) + Ideal.ofBits .f32 0x358637BD#32)

/-- The normalised row, times its gain. -/
def rms (v g : Fin 1024 → EReal) (j : Fin 1024) : EReal := v j * invRms v * g j

/-- The two branches' output projections, each under its gate, added. -/
def merged (oc os ow ob : Fin 512 → EReal) (ga gb : Fin 1024 → EReal) (wa wb : Fin 512 → Fin 1024 → EReal) (k : Fin 1024) : EReal :=
  ga k * dotCol (fun i => oc i + os i + ow i) wa k + gb k * dotCol ob wb k

/-- The residual stream after attention. -/
def resid (x : Fin 1024 → EReal) (mg : Fin 1024 → EReal) (wo : Fin 1024 → Fin 1024 → EReal) (j : Fin 1024) : EReal :=
  x j + dotCol mg wo j

/-- A hidden unit of the MLP: the square of the relu. -/
def hiddenUnit (hn : Fin 1024 → EReal) (wu : Fin 1024 → Fin 4096 → EReal) (f : Fin 4096) : EReal :=
  max (dotCol hn wu f) 0 * max (dotCol hn wu f) 0

/-- The row after the MLP. -/
def mlp (x1 g : Fin 1024 → EReal) (wu : Fin 1024 → Fin 4096 → EReal) (wd : Fin 4096 → Fin 1024 → EReal) (j : Fin 1024) : EReal :=
  x1 j + dotCol (hiddenUnit (rms x1 g) wu) wd j

/-- The whole row: residual, MLP, last norm. -/
def row (oc os ow ob : Fin 512 → EReal) (ga gb x : Fin 1024 → EReal) (wa wb : Fin 512 → Fin 1024 → EReal)
    (wo : Fin 1024 → Fin 1024 → EReal) (g : Fin 1024 → EReal) (wu : Fin 1024 → Fin 4096 → EReal)
    (wd : Fin 4096 → Fin 1024 → EReal) (gf : Fin 1024 → EReal) : Fin 1024 → EReal :=
  rms (mlp (resid x (merged oc os ow ob ga gb wa wb) wo) g wu wd) gf

/-- The row function of equal rows and weights. -/
theorem row_congr {oc os ow ob oc' os' ow' ob' : Fin 512 → EReal} {ga gb x ga' gb' x' : Fin 1024 → EReal}
    {wa wb wa' wb' : Fin 512 → Fin 1024 → EReal} {wo wo' : Fin 1024 → Fin 1024 → EReal} {g g' : Fin 1024 → EReal}
    {wu wu' : Fin 1024 → Fin 4096 → EReal} {wd wd' : Fin 4096 → Fin 1024 → EReal} {gf gf' : Fin 1024 → EReal}
    (h0 : ∀ i, oc i = oc' i) (h1 : ∀ i, os i = os' i) (h2 : ∀ i, ow i = ow' i) (h3 : ∀ i, ob i = ob' i)
    (h4 : ∀ i, ga i = ga' i) (h5 : ∀ i, gb i = gb' i) (h6 : ∀ i, x i = x' i) (h7 : ∀ i k, wa i k = wa' i k)
    (h8 : ∀ i k, wb i k = wb' i k) (h9 : ∀ i k, wo i k = wo' i k) (h10 : ∀ i, g i = g' i) (h11 : ∀ i k, wu i k = wu' i k)
    (h12 : ∀ i k, wd i k = wd' i k) (h13 : ∀ i, gf i = gf' i) (j : Fin 1024) :
    row oc os ow ob ga gb x wa wb wo g wu wd gf j = row oc' os' ow' ob' ga' gb' x' wa' wb' wo' g' wu' wd' gf' j := by
  obtain rfl : oc = oc' := funext h0
  obtain rfl : os = os' := funext h1
  obtain rfl : ow = ow' := funext h2
  obtain rfl : ob = ob' := funext h3
  obtain rfl : ga = ga' := funext h4
  obtain rfl : gb = gb' := funext h5
  obtain rfl : x = x' := funext h6
  obtain rfl : wa = wa' := funext fun i => funext (h7 i)
  obtain rfl : wb = wb' := funext fun i => funext (h8 i)
  obtain rfl : wo = wo' := funext fun i => funext (h9 i)
  obtain rfl : g = g' := funext h10
  obtain rfl : wu = wu' := funext fun i => funext (h11 i)
  obtain rfl : wd = wd' := funext fun i => funext (h12 i)
  obtain rfl : gf = gf' := funext h13
  rfl

/-- A sum over 4096 in four runs of 1024. -/
theorem sum_four (f : Fin 4096 → EReal) :
    ∑ k, f k = (((∑ t : Fin 1024, f ⟨t, by omega⟩) + ∑ t : Fin 1024, f ⟨1024 + t, by omega⟩)
      + ∑ t : Fin 1024, f ⟨2048 + t, by omega⟩) + ∑ t : Fin 1024, f ⟨3072 + t, by omega⟩ := by
  rw [Fin.sum_univ_tiles 4 1024 rfl f, Fin.sum_univ_four]
  refine congrArg₂ (· + ·) (congrArg₂ (· + ·) (congrArg₂ (· + ·) ?_ ?_) ?_) ?_ <;>
    exact Finset.sum_congr rfl fun t _ => congrArg f (Fin.ext (by simp))

end Cert.MergeRow

end
end
-- ==== Proof.MergeKernel.lean ====
/-
  What the merge kernel's body stores, read at one entry of its tile: the row function of that row of its blocks.
-/
module

public import proofs.«01_k».proof.Proof.MergeMath
public import proofs.«01_k».proof.Proof.Gen.Kernel2Ideal.Frame

@[expose] public section

set_option maxRecDepth 16384

noncomputable section

open Idealize.ShloMosaic Idealize.ShloMosaic.TcCoe Idealize.SL.Sem

namespace Cert.Kernel2Ideal.Merge

open Cert.Kernel2Ideal Cert.Kernel2Ideal.Gen Cert.MergeRow

/-- The first payload is the residual stream after attention. -/
theorem pay1_at (v0 v3 v7 : FVec Ideal S512x512 .bf16) (v12 : FVec Ideal S512x1024 .bf16) (v15 : FVec Ideal S512x1024 .bf16)
    (v19 : FVec Ideal S512x1024 .bf16) (v22 : FVec Ideal S512x512 .bf16) (v24 : FVec Ideal S512x1024 .bf16)
    (v29 : FVec Ideal S512x1024 .f32) (v32 : FVec Ideal S1024x1024 .bf16) (r : Fin 512) (j : Fin 1024) :
    k0_pay1 (F := Ideal) v0 v3 v7 v12 v15 v19 v22 v24 v29 v32 (ix2 r j)
      = resid (fun k => v29 (ix2 r k))
          (merged (fun i => v0 (ix2 r i)) (fun i => v3 (ix2 r i)) (fun i => v7 (ix2 r i)) (fun i => v22 (ix2 r i))
            (fun k => v12 (ix2 r k)) (fun k => v19 (ix2 r k)) (fun i k => v15 (ix2 i k)) (fun i k => v24 (ix2 i k)))
          (fun i k => v32 (ix2 i k)) j := by
  pointwise [k0_pay1, resid, merged, dotCol]

/-- The second payload is the normalised row. -/
theorem pay2_at (v35 : FVec Ideal S512x1024 .f32) (v36 : FVec Ideal S1x1024 .f32) (r : Fin 512) (j : Fin 1024) :
    k0_pay2 (F := Ideal) v35 v36 (ix2 r j) = rms (fun k => v35 (ix2 r k)) (fun k => v36 (ix2 0 k)) j := by
  pointwise [k0_pay2, rms, invRms]

/-- The part of the MLP that 1024 hidden units add to column `j`, over a normalised row `hn`. -/
def chunk (hn : Fin 1024 → EReal) (wu wd : Fin 1024 → Fin 1024 → EReal) (j : Fin 1024) : EReal :=
  ∑ f, max (dotCol hn wu f) 0 * max (dotCol hn wu f) 0 * wd f j

/-- The third payload adds up the first two chunks of the MLP. -/
theorem pay3_at (v35 : FVec Ideal S512x1024 .f32) (v36 : FVec Ideal S1x1024 .f32) (v52 v59 v63 v70 : FVec Ideal S1024x1024 .bf16)
    (r : Fin 512) (j : Fin 1024) :
    k0_pay3 (F := Ideal) v35 v36 v52 v59 v63 v70 (ix2 r j)
      = chunk (fun k => k0_pay2 (F := Ideal) v35 v36 (ix2 r k)) (fun i k => v52 (ix2 i k)) (fun i k => v59 (ix2 i k)) j
        + chunk (fun k => k0_pay2 (F := Ideal) v35 v36 (ix2 r k)) (fun i k => v63 (ix2 i k)) (fun i k => v70 (ix2 i k)) j := by
  pointwise [k0_pay3, chunk, dotCol]

/-- The last payload: the other two chunks, the residual, the last norm. -/
theorem pay4_at (v35 : FVec Ideal S512x1024 .f32) (v50 : FVec Ideal S512x1024 .bf16) (v73 : FVec Ideal S512x1024 .f32)
    (v74 v81 v85 v92 : FVec Ideal S1024x1024 .bf16) (v97 : FVec Ideal S1x1024 .f32)
    (r : Fin 512) (j : Fin 1024) :
    k0_pay4 (F := Ideal) v35 v50 v73 v74 v81 v85 v92 v97 (ix2 r j)
      = rms (fun l => v35 (ix2 r l) + (v73 (ix2 r l)
          + chunk (fun k => v50 (ix2 r k)) (fun i k => v74 (ix2 i k)) (fun i k => v81 (ix2 i k)) l
          + chunk (fun k => v50 (ix2 r k)) (fun i k => v85 (ix2 i k)) (fun i k => v92 (ix2 i k)) l))
        (fun k => v97 (ix2 0 k)) j := by
  pointwise [k0_pay4, chunk, dotCol, rms, invRms]

end Cert.Kernel2Ideal.Merge

end
end
-- ==== Proof.MergeFinal.lean ====
/-
  The merge kernel's result array: every row is the row function of that token's row of the arguments.
-/
module

public import proofs.«01_k».proof.Proof.MergeKernel
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Merge

open Cert.Kernel2Ideal Cert.Kernel2Ideal.Gen Cert.MergeRow

/-- The chunks of the MLP over four runs of 1024 hidden units are the whole MLP. -/
theorem chunks (hn : Fin 1024 → EReal) (wu : Fin 1024 → Fin 4096 → EReal) (wd : Fin 4096 → Fin 1024 → EReal) (j : Fin 1024) :
    ((chunk hn (fun i k => wu i ⟨k, by omega⟩) (fun i k => wd ⟨i, by omega⟩ k) j
      + chunk hn (fun i k => wu i ⟨1024 + k, by omega⟩) (fun i k => wd ⟨1024 + i, by omega⟩ k) j)
      + chunk hn (fun i k => wu i ⟨2048 + k, by omega⟩) (fun i k => wd ⟨2048 + i, by omega⟩ k) j)
      + chunk hn (fun i k => wu i ⟨3072 + k, by omega⟩) (fun i k => wd ⟨3072 + i, by omega⟩ k) j
      = dotCol (hiddenUnit hn wu) wd j := by
  rw [dotCol, sum_four]
  rfl

/-- The row function of row `r` of fourteen staged blocks. -/
def blockRow (x0 x1 x2 x3 : FVec Ideal S512x512 .bf16) (x4 x5 : FVec Ideal S512x1024 .bf16) (x6 : FVec Ideal S512x1024 .f32)
    (x7 x8 : FVec Ideal S512x1024 .bf16) (x9 : FVec Ideal S1024x1024 .bf16) (x10 : FVec Ideal S1x1024 .f32)
    (x11 : FVec Ideal S1024x4096 .bf16) (x12 : FVec Ideal S4096x1024 .bf16) (x13 : FVec Ideal S1x1024 .f32) (r : Fin 512) : Fin 1024 → EReal :=
  row (fun i => x0 (ix2 r i)) (fun i => x1 (ix2 r i)) (fun i => x2 (ix2 r i)) (fun i => x3 (ix2 r i))
    (fun k => x4 (ix2 r k)) (fun k => x5 (ix2 r k)) (fun k => x6 (ix2 r k)) (fun i k => x7 (ix2 i k))
    (fun i k => x8 (ix2 i k)) (fun i k => x9 (ix2 i k)) (fun k => x10 (ix2 0 k)) (fun i k => x11 (ix2 i k))
    (fun i k => x12 (ix2 i k)) (fun k => x13 (ix2 0 k))

theorem hz : (![0, 0] : Fin 2 → Nat) = fun _ => 0 := funext fun a => by fin_cases a <;> rfl

/-- What the body leaves in the output's staging block, at row `r` and column `j`. -/
theorem out_at (x0 x1 x2 x3 : FVec Ideal S512x512 .bf16) (x4 x5 : FVec Ideal S512x1024 .bf16) (x6 : FVec Ideal S512x1024 .f32)
    (x7 x8 : FVec Ideal S512x1024 .bf16) (x9 : FVec Ideal S1024x1024 .bf16) (x10 : FVec Ideal S1x1024 .f32)
    (x11 : FVec Ideal S1024x4096 .bf16) (x12 : FVec Ideal S4096x1024 .bf16) (x13 : FVec Ideal S1x1024 .f32) (r : Fin 512) (j : Fin 1024) :
    out0_14 (F := Ideal) x0 x1 x2 x3 x4 x5 x6 x7 x8 x9 x10 x11 x12 x13 (ix2 r j)
      = blockRow x0 x1 x2 x3 x4 x5 x6 x7 x8 x9 x10 x11 x12 x13 r j := by
  unfold out0_14
  rw [View.canon_unit_zero hz, pay4_at]
  unfold blockRow row
  have h5 : ∀ l, k0_pay5 (F := Ideal) x0 x1 x2 x3 x4 x5 x6 x7 x8 x9 x10 x11 x12 x13 (ix2 r l)
      = resid (fun k => x6 (ix2 r k)) (merged (fun i => x0 (ix2 r i)) (fun i => x1 (ix2 r i)) (fun i => x2 (ix2 r i)) (fun i => x3 (ix2 r i))
          (fun k => x4 (ix2 r k)) (fun k => x5 (ix2 r k)) (fun i k => x7 (ix2 i k)) (fun i k => x8 (ix2 i k))) (fun i k => x9 (ix2 i k)) l := by
    intro l
    unfold k0_pay5
    rw [pay1_at]
    pointwise [r0_0]
  have h2 : ∀ l, k0_pay2 (F := Ideal) (k0_pay5 (F := Ideal) x0 x1 x2 x3 x4 x5 x6 x7 x8 x9 x10 x11 x12 x13) (View.ld x10 r0_3) (ix2 r l)
      = rms (resid (fun k => x6 (ix2 r k)) (merged (fun i => x0 (ix2 r i)) (fun i => x1 (ix2 r i)) (fun i => x2 (ix2 r i)) (fun i => x3 (ix2 r i))
          (fun k => x4 (ix2 r k)) (fun k => x5 (ix2 r k)) (fun i k => x7 (ix2 i k)) (fun i k => x8 (ix2 i k))) (fun i k => x9 (ix2 i k)))
          (fun k => x10 (ix2 0 k)) l := by
    intro l
    rw [pay2_at]
    exact congrArg₂ (fun v g => rms v g l) (funext h5) (funext fun k => by pointwise [r0_3])
  refine congrArg₂ (fun v g => rms v g j) (funext fun l => ?_) (funext fun k => by pointwise [r0_3])
  rw [pay3_at, h5, mlp, ← chunks]
  simp only [h2]
  pointwise [r0_4, r0_5, r0_6, r0_7, r0_8, r0_9, r0_10, r0_11]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

variable (m : (ℓ : Loc nD τ sig) → Buf (Elt Ideal) ℓ) (ρ : Dev nD → PrngReg)

/-- The result array: at each row the row function of that row of the operands, as the kernel gets them. -/
def G (c : Dev nD) : FVec Ideal S32768x1024 .f32 := fun y =>
  let a0 : FVec Ideal S32768x512 .bf16 := V m c main_v6
  let a1 : FVec Ideal S32768x512 .bf16 := V m c main_v7
  let a2 : FVec Ideal S32768x512 .bf16 := V m c main_v8
  let a3 : FVec Ideal S32768x512 .bf16 := V m c main_v9
  let a4 : FVec Ideal S32768x1024 .bf16 := V m c main_v10
  let a5 : FVec Ideal S32768x1024 .bf16 := V m c main_v11
  let a6 : FVec Ideal S32768x1024 .f32 := V m c main_v12
  let a7 : FVec Ideal S512x1024 .bf16 := V m c main_v0
  let a8 : FVec Ideal S512x1024 .bf16 := V m c main_v1
  let a9 : FVec Ideal S1024x1024 .bf16 := V m c main_v2
  let a10 : FVec Ideal S1x1024 .f32 := V m c main_v3
  let a11 : FVec Ideal S1024x4096 .bf16 := V m c main_v4
  let a12 : FVec Ideal S4096x1024 .bf16 := V m c main_v5
  let a13 : FVec Ideal S1x1024 .f32 := V m c main_v13
  row (fun i => a0 (ix2 (y 0) i)) (fun i => a1 (ix2 (y 0) i)) (fun i => a2 (ix2 (y 0) i)) (fun i => a3 (ix2 (y 0) i))
    (fun k => a4 (ix2 (y 0) k)) (fun k => a5 (ix2 (y 0) k)) (fun k => a6 (ix2 (y 0) k)) (fun i k => a7 (ix2 i k))
    (fun i k => a8 (ix2 i k)) (fun i k => a9 (ix2 i k)) (fun k => a10 (ix2 0 k)) (fun i k => a11 (ix2 i k))
    (fun i k => a12 (ix2 i k)) (fun k => a13 (ix2 0 k)) (y 1)

/-- An entry of the output's block at grid point `t` is the array's entry `512 t` rows further down. -/
theorem emb_at (t : Fin cfg0.N) (y0 : Fin 512) (y1 : Fin 1024) :
    (win0_14.blk t).view.emb (ix2 y0 y1) = (ix2 (⟨t.val * 512 + y0, by have := t.isLt; have : cfg0.N = 64 := N_0; omega⟩ : Fin 32768) y1 : S32768x1024.Idx) := by
  obtain ⟨-, -, -, -, -, -, -, -, -, -, -, -, -, -, e14⟩ := idx t
  blk_ext [e14]

/-- The row function of the blocks at grid point `t` is the result array's row. -/
theorem point (c : Dev nD) (t : Fin cfg0.N) (y0 : Fin 512) (y1 : Fin 1024) :
    blockRow (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y0 y1
      = G m c (ix2 (⟨t.val * 512 + y0, by have := t.isLt; have : cfg0.N = 64 := N_0; omega⟩ : Fin 32768) y1) := by
  obtain ⟨e0, e1, e2, e3, e4, e5, e6, e7, e8, e9, e10, e11, e12, e13, -⟩ := idx t
  unfold blockRow G
  dsimp only
  apply row_congr
  · intro i; blk_point [iblk, e0]
  · intro i; blk_point [iblk, e1]
  · intro i; blk_point [iblk, e2]
  · intro i; blk_point [iblk, e3]
  · intro i; blk_point [iblk, e4]
  · intro i; blk_point [iblk, e5]
  · intro i; blk_point [iblk, e6]
  · intro i k; blk_point [iblk, e7]
  · intro i k; blk_point [iblk, e8]
  · intro i k; blk_point [iblk, e9]
  · intro i; blk_point [iblk, e10]
  · intro i k; blk_point [iblk, e11]
  · intro i k; blk_point [iblk, e12]
  · intro i; blk_point [iblk, e13]

/-- The result array after the run. -/
theorem final (c : Dev nD) : (dats m 0 c).arrAt 14 (cfgs 0).N = G m c := by
  refine (dats m 0 c).arrAt_eq_of_covers 14 _ (by decide +kernel) fun t _ y => ?_
  blk_simp
  rw [after0_14]
  idx_vars y
  rw [out_at, point]
  exact (congrArg (G m c) (emb_at t y0 y1)).symm

/-- A reshaped operand at row `y` is the argument at token `y / 4096, y % 4096`. -/
theorem resh512 (a : FVec Ideal S8x4096x512 .bf16) (y : Fin 32768) (i : Fin 512) :
    shapeCast S32768x512 a shapeCasts_S8x4096x512_S32768x512 (ix2 y i) = a (ix3 ⟨y / 4096, by omega⟩ ⟨y % 4096, by omega⟩ i) := by
  pointwise []

theorem resh1024 {φ : FTy} (a : FVec Ideal S8x4096x1024 φ) (y : Fin 32768) (i : Fin 1024) :
    shapeCast S32768x1024 a shapeCasts_S8x4096x1024_S32768x1024 (ix2 y i) = a (ix3 ⟨y / 4096, by omega⟩ ⟨y % 4096, by omega⟩ i) := by
  pointwise []

theorem gain_at (a : FVec Ideal S1024 .f32) (k : Fin 1024) :
    (broadcastInDim S1x1024 ![1] bcast_S1024_S1x1024_1 a : FVec Ideal S1x1024 .f32) (ix2 0 k) = a (ix1 k) := by
  pointwise []

/-- Each operand of the kernel, in terms of the arguments. -/
theorem Vh6 (c : Dev nD) : V m c main_v6 = shapeCast S32768x512 (m ((c.tc : Thread nD τ).loc main_arg0) : FVec Ideal S8x4096x512 .bf16) shapeCasts_S8x4096x512_S32768x512 := by entry_read; rfl
theorem Vh7 (c : Dev nD) : V m c main_v7 = shapeCast S32768x512 (m ((c.tc : Thread nD τ).loc main_arg1) : FVec Ideal S8x4096x512 .bf16) shapeCasts_S8x4096x512_S32768x512 := by entry_read; rfl
theorem Vh8 (c : Dev nD) : V m c main_v8 = shapeCast S32768x512 (m ((c.tc : Thread nD τ).loc main_arg2) : FVec Ideal S8x4096x512 .bf16) shapeCasts_S8x4096x512_S32768x512 := by entry_read; rfl
theorem Vh9 (c : Dev nD) : V m c main_v9 = shapeCast S32768x512 (m ((c.tc : Thread nD τ).loc main_arg3) : FVec Ideal S8x4096x512 .bf16) shapeCasts_S8x4096x512_S32768x512 := by entry_read; rfl
theorem Vh10 (c : Dev nD) : V m c main_v10 = shapeCast S32768x1024 (m ((c.tc : Thread nD τ).loc main_arg4) : FVec Ideal S8x4096x1024 .bf16) shapeCasts_S8x4096x1024_S32768x1024 := by entry_read; rfl
theorem Vh11 (c : Dev nD) : V m c main_v11 = shapeCast S32768x1024 (m ((c.tc : Thread nD τ).loc main_arg5) : FVec Ideal S8x4096x1024 .bf16) shapeCasts_S8x4096x1024_S32768x1024 := by entry_read; rfl
theorem Vh12 (c : Dev nD) : V m c main_v12 = shapeCast S32768x1024 (m ((c.tc : Thread nD τ).loc main_arg6) : FVec Ideal S8x4096x1024 .f32) shapeCasts_S8x4096x1024_S32768x1024 := by entry_read; rfl
theorem Vh0 (c : Dev nD) : V m c main_v0 = (truncf .bf16 (m ((c.tc : Thread nD τ).loc main_arg7) : FVec Ideal S512x1024 .f32) bitsLt_bf16_f32 : FVec Ideal S512x1024 .bf16) := by entry_read; rfl
theorem Vh1 (c : Dev nD) : V m c main_v1 = (truncf .bf16 (m ((c.tc : Thread nD τ).loc main_arg8) : FVec Ideal S512x1024 .f32) bitsLt_bf16_f32 : FVec Ideal S512x1024 .bf16) := by entry_read; rfl
theorem Vh2 (c : Dev nD) : V m c main_v2 = (truncf .bf16 (m ((c.tc : Thread nD τ).loc main_arg9) : FVec Ideal S1024x1024 .f32) bitsLt_bf16_f32 : FVec Ideal S1024x1024 .bf16) := by entry_read; rfl
theorem Vh4 (c : Dev nD) : V m c main_v4 = (truncf .bf16 (m ((c.tc : Thread nD τ).loc main_arg11) : FVec Ideal S1024x4096 .f32) bitsLt_bf16_f32 : FVec Ideal S1024x4096 .bf16) := by entry_read; rfl
theorem Vh5 (c : Dev nD) : V m c main_v5 = (truncf .bf16 (m ((c.tc : Thread nD τ).loc main_arg12) : FVec Ideal S4096x1024 .f32) bitsLt_bf16_f32 : FVec Ideal S4096x1024 .bf16) := by entry_read; rfl
theorem Vh3 (c : Dev nD) : V m c main_v3 = broadcastInDim S1x1024 ![1] bcast_S1024_S1x1024_1 (m ((c.tc : Thread nD τ).loc main_arg10) : FVec Ideal S1024 .f32) := by entry_read; rfl
theorem Vh13 (c : Dev nD) : V m c main_v13 = broadcastInDim S1x1024 ![1] bcast_S1024_S1x1024_1 (m ((c.tc : Thread nD τ).loc main_arg13) : FVec Ideal S1024 .f32) := by entry_read; rfl

/-- The result array in terms of the arguments: token `y / 4096, y % 4096`'s row. -/
theorem G_at (c : Dev nD) (y : Fin 32768) (j : Fin 1024) :
    G m c (ix2 y j) =
      let b : Fin 8 := ⟨y / 4096, by omega⟩
      let s : Fin 4096 := ⟨y % 4096, by omega⟩
      let a0 : FVec Ideal S8x4096x512 .bf16 := m ((c.tc : Thread nD τ).loc main_arg0)
      let a1 : FVec Ideal S8x4096x512 .bf16 := m ((c.tc : Thread nD τ).loc main_arg1)
      let a2 : FVec Ideal S8x4096x512 .bf16 := m ((c.tc : Thread nD τ).loc main_arg2)
      let a3 : FVec Ideal S8x4096x512 .bf16 := m ((c.tc : Thread nD τ).loc main_arg3)
      let a4 : FVec Ideal S8x4096x1024 .bf16 := m ((c.tc : Thread nD τ).loc main_arg4)
      let a5 : FVec Ideal S8x4096x1024 .bf16 := m ((c.tc : Thread nD τ).loc main_arg5)
      let a6 : FVec Ideal S8x4096x1024 .f32 := m ((c.tc : Thread nD τ).loc main_arg6)
      let a7 : FVec Ideal S512x1024 .f32 := m ((c.tc : Thread nD τ).loc main_arg7)
      let a8 : FVec Ideal S512x1024 .f32 := m ((c.tc : Thread nD τ).loc main_arg8)
      let a9 : FVec Ideal S1024x1024 .f32 := m ((c.tc : Thread nD τ).loc main_arg9)
      let a10 : FVec Ideal S1024 .f32 := m ((c.tc : Thread nD τ).loc main_arg10)
      let a11 : FVec Ideal S1024x4096 .f32 := m ((c.tc : Thread nD τ).loc main_arg11)
      let a12 : FVec Ideal S4096x1024 .f32 := m ((c.tc : Thread nD τ).loc main_arg12)
      let a13 : FVec Ideal S1024 .f32 := m ((c.tc : Thread nD τ).loc main_arg13)
      row (fun i => a0 (ix3 b s i)) (fun i => a1 (ix3 b s i)) (fun i => a2 (ix3 b s i)) (fun i => a3 (ix3 b s i))
          (fun k => a4 (ix3 b s k)) (fun k => a5 (ix3 b s k)) (fun k => a6 (ix3 b s k)) (fun i k => a7 (ix2 i k))
          (fun i k => a8 (ix2 i k)) (fun i k => a9 (ix2 i k)) (fun k => a10 (ix1 k)) (fun i k => a11 (ix2 i k))
          (fun i k => a12 (ix2 i k)) (fun k => a13 (ix1 k)) j := by
  unfold G
  dsimp only
  apply row_congr
  · exact fun i => (congrFun (Vh6 m c) _).trans (resh512 _ y i)
  · exact fun i => (congrFun (Vh7 m c) _).trans (resh512 _ y i)
  · exact fun i => (congrFun (Vh8 m c) _).trans (resh512 _ y i)
  · exact fun i => (congrFun (Vh9 m c) _).trans (resh512 _ y i)
  · exact fun i => (congrFun (Vh10 m c) _).trans (resh1024 (φ := .bf16) _ y i)
  · exact fun i => (congrFun (Vh11 m c) _).trans (resh1024 (φ := .bf16) _ y i)
  · exact fun i => (congrFun (Vh12 m c) _).trans (resh1024 (φ := .f32) _ y i)
  · exact fun i k => congrFun (Vh0 m c) _
  · exact fun i k => congrFun (Vh1 m c) _
  · exact fun i k => congrFun (Vh2 m c) _
  · exact fun i => (congrFun (Vh3 m c) _).trans (gain_at _ i)
  · exact fun i k => congrFun (Vh4 m c) _
  · exact fun i k => congrFun (Vh5 m c) _
  · exact fun i => (congrFun (Vh13 m c) _).trans (gain_at _ i)

end Cert.Kernel2Ideal.Merge

end
end
-- ==== Proof.MergeRef.lean ====
/-
  The merge reference's result, read at one entry: the row function of that token's row of the arguments.
-/
module

public import proofs.«01_k».proof.Proof.MergeMath
public import proofs.«01_k».proof.Proof.Gen.Reference2Ideal.Run

@[expose] public section

set_option maxRecDepth 16384

noncomputable section

open Idealize.ShloMosaic Idealize.ShloMosaic.TcCoe Idealize.SL.Sem

namespace Cert.Reference2Ideal.Merge

open Cert.Reference2Ideal Cert.Reference2Ideal.Gen Cert.MergeRow

/-- The residual stream after attention, as the reference's operations write it. -/
def RES (a0 a1 a2 a3 : FVec Ideal S8x4096x512 .bf16) (a4 a5 : FVec Ideal S8x4096x1024 .bf16) (a6 : FVec Ideal S8x4096x1024 .f32)
    (a7 a8 : FVec Ideal S512x1024 .f32) (a9 : FVec Ideal S1024x1024 .f32) : FVec Ideal S8x4096x1024 .f32 :=
  addf a6 (Host.dotGeneral dot_S8x4096x1024_S1024x1024_S8x4096x1024_2_0_01_1_n_n none (addf (mulf (extf .f32 a4 bitsLt_bf16_f32) (Host.dotGeneral dot_S8x4096x512_S512x1024_S8x4096x1024_2_0_01_1_n_n none (addf (addf (extf .f32 a0 bitsLt_bf16_f32) (extf .f32 a1 bitsLt_bf16_f32)) (extf .f32 a2 bitsLt_bf16_f32)) a7)) (mulf (extf .f32 a5 bitsLt_bf16_f32) (Host.dotGeneral dot_S8x4096x512_S512x1024_S8x4096x1024_2_0_01_1_n_n none (extf .f32 a3 bitsLt_bf16_f32) a8))) a9)

/-- The norm, as the reference's operations write it. -/
def RMS3 (v : FVec Ideal S8x4096x1024 .f32) (g : FVec Ideal S1024 .f32) : FVec Ideal S8x4096x1024 .f32 :=
  mulf (mulf v (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v v) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The relu of the hidden layer, as the reference's operations write it. -/
def RELU (hn : FVec Ideal S8x4096x1024 .f32) (wu : FVec Ideal S1024x4096 .f32) : FVec Ideal S8x4096x4096 .f32 :=
  maximumf (Host.dotGeneral dot_S8x4096x1024_S1024x4096_S8x4096x4096_2_0_01_1_n_n none hn wu) (broadcastInDim S8x4096x4096 ![] bcast_S_S8x4096x4096 (constant S_ .f32 0x00000000#32))

/-- The MLP and its residual, as the reference's operations write them. -/
def MLP3 (v hn : FVec Ideal S8x4096x1024 .f32) (wu : FVec Ideal S1024x4096 .f32) (wd : FVec Ideal S4096x1024 .f32) : FVec Ideal S8x4096x1024 .f32 :=
  addf v (Host.dotGeneral dot_S8x4096x4096_S4096x1024_S8x4096x1024_2_0_01_1_n_n none (mulf (RELU hn wu) (RELU hn wu)) wd)

/-- The whole result. -/
def REF (a0 a1 a2 a3 : FVec Ideal S8x4096x512 .bf16) (a4 a5 : FVec Ideal S8x4096x1024 .bf16) (a6 : FVec Ideal S8x4096x1024 .f32)
    (a7 a8 : FVec Ideal S512x1024 .f32) (a9 : FVec Ideal S1024x1024 .f32) (a10 : FVec Ideal S1024 .f32)
    (a11 : FVec Ideal S1024x4096 .f32) (a12 : FVec Ideal S4096x1024 .f32) (a13 : FVec Ideal S1024 .f32) : FVec Ideal S8x4096x1024 .f32 :=
  RMS3 (MLP3 (RES a0 a1 a2 a3 a4 a5 a6 a7 a8 a9) (RMS3 (RES a0 a1 a2 a3 a4 a5 a6 a7 a8 a9) a10) a11 a12) a13

theorem RES_at (a0 a1 a2 a3 : FVec Ideal S8x4096x512 .bf16) (a4 a5 : FVec Ideal S8x4096x1024 .bf16) (a6 : FVec Ideal S8x4096x1024 .f32)
    (a7 a8 : FVec Ideal S512x1024 .f32) (a9 : FVec Ideal S1024x1024 .f32) (b : Fin 8) (s : Fin 4096) (j : Fin 1024) :
    RES a0 a1 a2 a3 a4 a5 a6 a7 a8 a9 (ix3 b s j)
      = resid (fun k => a6 (ix3 b s k))
          (merged (fun i => a0 (ix3 b s i)) (fun i => a1 (ix3 b s i)) (fun i => a2 (ix3 b s i)) (fun i => a3 (ix3 b s i))
            (fun k => a4 (ix3 b s k)) (fun k => a5 (ix3 b s k)) (fun i k => a7 (ix2 i k)) (fun i k => a8 (ix2 i k)))
          (fun i k => a9 (ix2 i k)) j := by
  pointwise [RES, resid, merged, dotCol]

theorem RMS3_at (v : FVec Ideal S8x4096x1024 .f32) (g : FVec Ideal S1024 .f32) (b : Fin 8) (s : Fin 4096) (j : Fin 1024) :
    RMS3 v g (ix3 b s j) = rms (fun k => v (ix3 b s k)) (fun k => g (ix1 k)) j := by
  pointwise [RMS3, rms, invRms]

theorem RELU_at (hn : FVec Ideal S8x4096x1024 .f32) (wu : FVec Ideal S1024x4096 .f32) (b : Fin 8) (s f : Fin 4096) :
    RELU hn wu (ix3 b s f) = max (dotCol (fun k => hn (ix3 b s k)) (fun i k => wu (ix2 i k)) f) 0 := by
  pointwise [RELU, dotCol]

theorem MLP3_at (v hn : FVec Ideal S8x4096x1024 .f32) (wu : FVec Ideal S1024x4096 .f32) (wd : FVec Ideal S4096x1024 .f32)
    (b : Fin 8) (s : Fin 4096) (j : Fin 1024) :
    MLP3 v hn wu wd (ix3 b s j)
      = v (ix3 b s j) + dotCol (hiddenUnit (fun k => hn (ix3 b s k)) (fun i k => wu (ix2 i k))) (fun i k => wd (ix2 i k)) j := by
  pointwise [MLP3, RELU_at, dotCol, hiddenUnit]

/-- The reference's result before its last reshape, at token `(b, s)` and column `j`. -/
theorem REF_at (a0 a1 a2 a3 : FVec Ideal S8x4096x512 .bf16) (a4 a5 : FVec Ideal S8x4096x1024 .bf16) (a6 : FVec Ideal S8x4096x1024 .f32)
    (a7 a8 : FVec Ideal S512x1024 .f32) (a9 : FVec Ideal S1024x1024 .f32) (a10 : FVec Ideal S1024 .f32)
    (a11 : FVec Ideal S1024x4096 .f32) (a12 : FVec Ideal S4096x1024 .f32) (a13 : FVec Ideal S1024 .f32)
    (b : Fin 8) (s : Fin 4096) (j : Fin 1024) :
    REF a0 a1 a2 a3 a4 a5 a6 a7 a8 a9 a10 a11 a12 a13 (ix3 b s j)
      = row (fun i => a0 (ix3 b s i)) (fun i => a1 (ix3 b s i)) (fun i => a2 (ix3 b s i)) (fun i => a3 (ix3 b s i))
          (fun k => a4 (ix3 b s k)) (fun k => a5 (ix3 b s k)) (fun k => a6 (ix3 b s k)) (fun i k => a7 (ix2 i k))
          (fun i k => a8 (ix2 i k)) (fun i k => a9 (ix2 i k)) (fun k => a10 (ix1 k)) (fun i k => a11 (ix2 i k))
          (fun i k => a12 (ix2 i k)) (fun k => a13 (ix1 k)) j := by
  rw [REF, RMS3_at, row]
  refine congrArg (fun v => rms v _ j) (funext fun l => ?_)
  rw [MLP3_at, mlp, RES_at]
  refine congrArg (fun h => _ + dotCol (hiddenUnit h _) _ l) (funext fun k => ?_)
  rw [RMS3_at]
  exact congrArg (fun v => rms v _ k) (funext fun i => RES_at ..)

/-- The reference's result is `REF` of its arguments, reshaped. -/
theorem res_eq (m : (ℓ : Loc nD τ sig) → Buf (Elt Ideal) ℓ) (c : Dev nD) :
    Value.res_main_v46 (F := Ideal) m c = shapeCast S32768x1024 (REF
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13))) shapeCasts_S8x4096x1024_S32768x1024 := rfl

end Cert.Reference2Ideal.Merge

end
end
-- ==== Proof.Merge.lean ====
/-
  The claims about the merge kernel and its reference, assembled: the frames, and that over the extended reals
  the kernel's result is the reference's.
-/
module

public import proofs.«01_k».proof.Defs
public import proofs.«01_k».proof.Proof.MergeFinal
public import proofs.«01_k».proof.Proof.MergeRef
public import proofs.«01_k».proof.Proof.Gen.Kernel2.Frame
public import proofs.«01_k».proof.Proof.Gen.Kernel2Ideal.Value
public import Idealize.ShloMosaic.Lib.Quiescent

@[expose] public section

set_option maxRecDepth 16384

noncomputable section

open Idealize.ShloMosaic Idealize.ShloMosaic.TcCoe Idealize.SL.Sem

namespace Cert.Merge

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := by
  intro m ρ _
  refine (θ_run Cert.Reference2Ideal.defs _ _).mono (fun r h => ⟨fun c => (h c).2, ?_⟩) (Cert.Reference2Ideal.Value.run m ρ)
  exact sem_eq_zero_of_no_sems rfl _

/-- The kernel's result array is the reference's result of the same arguments. -/
theorem result_eq (m : (ℓ : Loc Cert.Kernel2Ideal.nD Cert.Kernel2Ideal.τ Cert.Kernel2Ideal.sig) → Buf (Elt Ideal) ℓ) (c : Dev Cert.Kernel2Ideal.nD) :
    shapeCast Cert.Reference2Ideal.S32768x1024 (Cert.Reference2Ideal.Merge.REF
      (m ((c.tc : Thread _ _).loc Cert.Kernel2Ideal.main_arg0)) (m ((c.tc : Thread _ _).loc Cert.Kernel2Ideal.main_arg1))
      (m ((c.tc : Thread _ _).loc Cert.Kernel2Ideal.main_arg2)) (m ((c.tc : Thread _ _).loc Cert.Kernel2Ideal.main_arg3))
      (m ((c.tc : Thread _ _).loc Cert.Kernel2Ideal.main_arg4)) (m ((c.tc : Thread _ _).loc Cert.Kernel2Ideal.main_arg5))
      (m ((c.tc : Thread _ _).loc Cert.Kernel2Ideal.main_arg6)) (m ((c.tc : Thread _ _).loc Cert.Kernel2Ideal.main_arg7))
      (m ((c.tc : Thread _ _).loc Cert.Kernel2Ideal.main_arg8)) (m ((c.tc : Thread _ _).loc Cert.Kernel2Ideal.main_arg9))
      (m ((c.tc : Thread _ _).loc Cert.Kernel2Ideal.main_arg10)) (m ((c.tc : Thread _ _).loc Cert.Kernel2Ideal.main_arg11))
      (m ((c.tc : Thread _ _).loc Cert.Kernel2Ideal.main_arg12)) (m ((c.tc : Thread _ _).loc Cert.Kernel2Ideal.main_arg13)))
      Cert.Reference2Ideal.Gen.facts₀.shapeCasts_S8x4096x1024_S32768x1024 = Cert.Kernel2Ideal.Merge.G m c := by
  funext y
  obtain ⟨y0, y1, rfl⟩ : ∃ (a : Fin 32768) (b : Fin 1024), y = ix2 a b := ⟨y 0, y 1, eq_ix2 y⟩
  rw [Cert.Kernel2Ideal.Merge.G_at]
  refine Eq.trans ?_ (Cert.Reference2Ideal.Merge.REF_at _ _ _ _ _ _ _ _ _ _ _ _ _ _ ⟨y0 / 4096, by omega⟩ ⟨y0 % 4096, by omega⟩ y1)
  pointwise []

theorem algebraic : Cert.algebraic_Kernel2Ideal_Reference2Ideal := by
  pair_intro
  · run_from Cert.Kernel2Ideal.Value.run_blocks m g
  · run_from Cert.Reference2Ideal.Value.run m' g'
    rw [Cert.Reference2Ideal.Merge.res_eq]
    have h := hagree c
    rw [h.1, h.2.1, h.2.2.1, h.2.2.2.1, h.2.2.2.2.1, h.2.2.2.2.2.1, h.2.2.2.2.2.2.1, h.2.2.2.2.2.2.2.1, h.2.2.2.2.2.2.2.2.1,
      h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2]
    exact (result_eq m c).trans (Cert.Kernel2Ideal.Merge.final m c).symm

end Cert.Merge

end
end
-- ==== Proof.FlashModel.lean ====
module

public import proofs.«01_k».proof.Proof.Gen.KernelIdeal.Skeleton
public import Idealize.ShloMosaic.Lib.WritesUnit
public import Idealize.ShloMosaic.Lib.ValueIdxCore

@[expose] public section

set_option maxRecDepth 8192

noncomputable section

namespace Cert.Flash

open Cert.KernelIdeal Cert.KernelIdeal.Gen Idealize.ShloMosaic

section Read

variable {sig : RefSig} {κ : Kind} {sp : Space} {s : Shape} {e : EltTy} {Val : EltTy → Type}
variable (v : View sig κ sp s e) (f : v.ty.Contents Val)

/-- A load of the rectangle stored last reads the value stored. -/
theorem rd_hit {off off' size : Fin s.rank → ℕ} (inb : ∀ a, off a + size a ≤ s.size a) (inb' : ∀ a, off' a + size a ≤ s.size a)
    (w : (Rect.unit off' size inb').shape.Idx → Val e) (L : List (View.Piece Val s e)) (h : ∀ a, off' a = off a) :
    v.readAt Val (Rect.unit off size inb).toLoadRect (v.writes Val f ((⟨Rect.unit off' size inb', w⟩ : View.Piece Val s e) :: L)) = w :=
  funext fun x => View.read_writes_cons_unit_of_mem v f inb' w L _ x rfl fun a => by
    show off a + 1 * (x a).val = _
    rw [Nat.one_mul, h a]

/-- A load of a rectangle that the last store's rectangle misses on some axis reads what was there before it. -/
theorem rd_miss {off size off' size' : Fin s.rank → ℕ} (inb : ∀ a, off a + size a ≤ s.size a)
    (inb' : ∀ a, off' a + size' a ≤ s.size a) (w : (Rect.unit off' size' inb').shape.Idx → Val e) (L : List (View.Piece Val s e))
    (hs : ∃ a, off a + size a ≤ off' a ∨ off' a + size' a ≤ off a) :
    v.readAt Val (Rect.unit off size inb).toLoadRect (v.writes Val f ((⟨Rect.unit off' size' inb', w⟩ : View.Piece Val s e) :: L))
      = v.readAt Val (Rect.unit off size inb).toLoadRect (v.writes Val f L) :=
  funext fun x => by
    obtain ⟨a, ha⟩ := hs
    refine View.read_writes_cons_unit_of_not_mem v f inb' w L _ rfl a ?_
    have h1 : (((Rect.unit off size inb).toLoadRect.idx x) a).val = off a + 1 * (x a).val := rfl
    have h2 : (x a).val < size a := (x a).isLt
    rw [h1]
    omega

variable {v f} in
/-- `rd_hit`, and the value stored is `x`. -/
theorem hit {off off' size : Fin s.rank → ℕ} {inb : ∀ a, off a + size a ≤ s.size a} {inb' : ∀ a, off' a + size a ≤ s.size a}
    {w : (Rect.unit off' size inb').shape.Idx → Val e} {L : List (View.Piece Val s e)} {x} (h : ∀ a, off' a = off a) (h' : w = x) :
    v.readAt Val (Rect.unit off size inb).toLoadRect (v.writes Val f ((⟨Rect.unit off' size inb', w⟩ : View.Piece Val s e) :: L)) = x := (rd_hit v f inb inb' w L h).trans h'

variable {v f} in
/-- `rd_miss`, and the load from the earlier stores is `x`. -/
theorem miss {off size off' size' : Fin s.rank → ℕ} {inb : ∀ a, off a + size a ≤ s.size a}
    {inb' : ∀ a, off' a + size' a ≤ s.size a} {w : (Rect.unit off' size' inb').shape.Idx → Val e} {L : List (View.Piece Val s e)} {x}
    (hs : ∃ a, off a + size a ≤ off' a ∨ off' a + size' a ≤ off a) (h' : v.readAt Val (Rect.unit off size inb).toLoadRect (v.writes Val f L) = x) :
    v.readAt Val (Rect.unit off size inb).toLoadRect (v.writes Val f ((⟨Rect.unit off' size' inb', w⟩ : View.Piece Val s e) :: L)) = x := (rd_miss v f inb inb' w L hs).trans h'

/-- A load inside the rectangle stored last, of a value that is the same everywhere, reads that value. -/
theorem rd_const {off size off' size' : Fin s.rank → ℕ} (inb : ∀ a, off a + size a ≤ s.size a)
    (inb' : ∀ a, off' a + size' a ≤ s.size a) (w : (Rect.unit off' size' inb').shape.Idx → Val e) (L : List (View.Piece Val s e))
    (hs : ∀ a, off' a ≤ off a ∧ off a + size a ≤ off' a + size' a) (c : Val e) (hw : ∀ x, w x = c) :
    v.readAt Val (Rect.unit off size inb).toLoadRect (v.writes Val f ((⟨Rect.unit off' size' inb', w⟩ : View.Piece Val s e) :: L))
      = fun _ => c :=
  funext fun x => (View.read_writes_cons_unit_of_mem v f inb' w L _
    (fun a => ⟨off a + (x a).val - off' a, by
      have h2 : (x a).val < size a := (x a).isLt
      have := hs a
      show _ < size' a
      omega⟩) rfl fun a => by
        have := hs a
        show off a + 1 * (x a).val = off' a + (off a + (x a).val - off' a)
        omega).trans (hw _)

/-- Two loads at equal offsets read the same. -/
theorem rd_off {off off' size : Fin s.rank → ℕ} (inb : ∀ a, off a + size a ≤ s.size a) (inb' : ∀ a, off' a + size a ≤ s.size a)
    (h : off = off') : v.readAt Val (Rect.unit off size inb).toLoadRect f = v.readAt Val (Rect.unit off' size inb').toLoadRect f := by
  subst h; rfl

end Read

variable {F : FTy → Type} [FloatOps F]

/-- What one grid step reads of its inputs: per head and query tile the queries, per head and key tile the keys (whole,
and the two halves) and the values, and the two blocks of the mask. -/
structure Ins (F : FTy → Type) where
  q : Fin 4 → ℕ → Vec F S1x1x1x128x512 .bf16
  k : Fin 4 → ℕ → Vec F S512x128 .bf16
  kTop : Fin 4 → ℕ → Vec F S256x128 .bf16
  kBot : Fin 4 → ℕ → Vec F S256x128 .bf16
  v : Fin 4 → ℕ → Vec F S1x1x1x128x512 .bf16
  bTop : Vec F S1x256x512 .f32
  bBot : Vec F S1x256x256 .f32

/-- The queries of one tile as the kernel keeps them. -/
def qS (x : Vec F S1x1x1x128x512 .bf16) : Vec F S1x128x512 .bf16 :=
  shapeCast S1x128x512 (shapeCast S128x512 x shapeCasts_S1x1x1x128x512_S128x512) shapeCasts_S128x512_S1x128x512

/-- The scores of a key tile against a query tile. -/
def sOf (k : Vec F S512x128 .bf16) (q : Vec F S1x128x512 .bf16) : FVec F S512x512 .f32 :=
  matmul (φ₁ := .bf16) (φ₂ := .bf16) dot_S512x128_S128x512_S512x512_1_0_0_1_n_n none (shapeCast S512x128 k shapeCasts_S512x128_S512x128)
    (shapeCast S128x512 q shapeCasts_S1x128x512_S128x512) (constant S512x512 .f32 0x00000000#32)

/-- The new running maximum. -/
def mNew (s : FVec F S512x512 .f32) (M : Vec F S1x1x1x512 .f32) : FVec F S1x512 .f32 :=
  maximumf (φ := .f32) (shapeCast S1x512 M shapeCasts_S1x1x1x512_S1x512)
    (shapeCast S1x512 (multiReduction .maximumf [0] S512 s 0xFF800000#32 reduces_S512x512_S512 (.inl rfl) rfl) shapeCasts_S512_S1x512)

/-- A running maximum as the kernel keeps it. -/
def mRaw (m : FVec F S1x512 .f32) : Vec F S1x1x1x512 .f32 := shapeCast S1x1x1x512 m shapeCasts_S1x512_S1x1x1x512

/-- The factor by which the earlier sums shrink, as the kernel keeps it. -/
def alRaw (M : Vec F S1x1x1x512 .f32) (m : FVec F S1x512 .f32) : Vec F S1x1x1x1x512 .f32 :=
  shapeCast S1x1x1x1x512 (exp2 (φ := .f32) (subf (φ := .f32) (shapeCast S1x512 M shapeCasts_S1x1x1x512_S1x512) m)) shapeCasts_S1x512_S1x1x1x1x512

/-- The weights of a key tile, as the kernel keeps them. -/
def pNew (s : FVec F S512x512 .f32) (m : FVec F S1x512 .f32) : Vec F S1x1x1x512x512 .bf16 :=
  shapeCast S1x1x1x512x512 (truncf .bf16 (exp2 (φ := .f32) (subf (φ := .f32) s (broadcastTo S512x512 m broadcasts_S1x512_S512x512))) bitsLt_bf16_f32)
    shapeCasts_S512x512_S1x1x1x512x512

/-- One update of the weighted sums. -/
def cNew (v : Vec F S1x1x1x128x512 .bf16) (al : Vec F S1x1x1x1x512 .f32) (acc : Vec F S1x1x128x512 .f32) (p : Vec F S1x1x1x512x512 .bf16) :
    Vec F S1x1x128x512 .f32 :=
  shapeCast S1x1x128x512
    (addf (φ := .f32) (mulf (φ := .f32) (broadcastTo S128x512 (shapeCast S1x512 al shapeCasts_S1x1x1x1x512_S1x512) broadcasts_S1x512_S128x512)
        (shapeCast S128x512 acc shapeCasts_S1x1x128x512_S128x512))
      (matmul (φ₁ := .bf16) (φ₂ := .bf16) dot_S128x512_S512x512_S128x512_1_0_0_1_n_n none (shapeCast S128x512 v shapeCasts_S1x1x1x128x512_S128x512)
        (shapeCast S512x512 p shapeCasts_S1x1x1x512x512_S512x512) (constant S128x512 .f32 0x00000000#32)))
    shapeCasts_S128x512_S1x1x128x512

/-- The masked scores of the upper half of the diagonal tile's keys. -/
def sTop (k : Vec F S256x128 .bf16) (q : Vec F S1x128x512 .bf16) (b : Vec F S1x256x512 .f32) : FVec F S256x512 .f32 :=
  addf (φ := .f32) (matmul (φ₁ := .bf16) (φ₂ := .bf16) dot_S256x128_S128x512_S256x512_1_0_0_1_n_n none (shapeCast S256x128 k shapeCasts_S256x128_S256x128)
    (shapeCast S128x512 q shapeCasts_S1x128x512_S128x512) (constant S256x512 .f32 0x00000000#32)) (shapeCast S256x512 b shapeCasts_S1x256x512_S256x512)

/-- The masked scores of the lower half of the diagonal tile's keys, for the queries that see any of them. -/
def sBot (k : Vec F S256x128 .bf16) (q : Vec F S1x128x512 .bf16) (b : Vec F S1x256x256 .f32) : FVec F S256x256 .f32 :=
  addf (φ := .f32) (matmul (φ₁ := .bf16) (φ₂ := .bf16) dot_S256x128_S128x256_S256x256_1_0_0_1_n_n none (shapeCast S256x128 k shapeCasts_S256x128_S256x128)
    (extractStridedSlice S128x256 ![0, 256] (shapeCast S128x512 q shapeCasts_S1x128x512_S128x512) slices_S128x512_o0_256_S128x256)
    (constant S256x256 .f32 0x00000000#32)) (shapeCast S256x256 b shapeCasts_S1x256x256_S256x256)

/-- The running maximum after the diagonal tile. -/
def mDiag (t : FVec F S256x512 .f32) (b : FVec F S256x256 .f32) (M : Vec F S1x1x1x512 .f32) : FVec F S1x512 .f32 :=
  maximumf (φ := .f32) (shapeCast S1x512 M shapeCasts_S1x1x1x512_S1x512)
    (maximumf (φ := .f32) (shapeCast S1x512 (multiReduction .maximumf [0] S512 t 0xFF800000#32 reduces_S256x512_S512 (.inl rfl) rfl) shapeCasts_S512_S1x512)
      (concatenate S1x512 1 [⟨S1x256, broadcast S1x256 (Scalar.ofBits (F := F) .f32 0xFF800000#32)⟩,
        ⟨S1x256, shapeCast S1x256 (multiReduction .maximumf [0] S256 b 0xFF800000#32 reduces_S256x256_S256 (.inl rfl) rfl) shapeCasts_S256_S1x256⟩]
        concatenates_S1x256_S1x256_S1x512_d1))

/-- The weights of the upper half of the diagonal tile's keys. -/
def pTop (t : FVec F S256x512 .f32) (m : FVec F S1x512 .f32) : Vec F S1x1x1x256x512 .bf16 :=
  shapeCast S1x1x1x256x512 (truncf .bf16 (exp2 (φ := .f32) (subf (φ := .f32) t (broadcastTo S256x512 m broadcasts_S1x512_S256x512))) bitsLt_bf16_f32)
    shapeCasts_S256x512_S1x1x1x256x512

/-- The weights of the lower half of the diagonal tile's keys. -/
def pBot (b : FVec F S256x256 .f32) (m : FVec F S1x512 .f32) : Vec F S1x1x1x256x256 .bf16 :=
  shapeCast S1x1x1x256x256 (truncf .bf16 (exp2 (φ := .f32) (subf (φ := .f32) b (broadcastTo S256x256 (extractStridedSlice S1x256 ![0, 256] m slices_S1x512_o0_256_S1x256)
    broadcasts_S1x256_S256x256))) bitsLt_bf16_f32) shapeCasts_S256x256_S1x1x1x256x256

/-- The weights of the diagonal tile: the two halves, and zero where no query sees a key. -/
def pDiag (t : Vec F S1x1x1x256x512 .bf16) (b : Vec F S1x1x1x256x256 .bf16) : Vec F S1x1x1x512x512 .bf16 := fun x =>
  if h : (x 3).val < 256 then t (ValueIdx.ix5 (0 : Fin 1) (0 : Fin 1) (0 : Fin 1) (⟨(x 3).val, h⟩ : Fin 256) (x 4 : Fin 512))
  else if h' : 256 ≤ (x 4).val then
    b (ValueIdx.ix5 (0 : Fin 1) (0 : Fin 1) (0 : Fin 1) (⟨(x 3).val - 256, by have h3 : (x 3).val < 512 := (x 3).isLt; omega⟩ : Fin 256)
      (⟨(x 4).val - 256, by have h4 : (x 4).val < 512 := (x 4).isLt; omega⟩ : Fin 256))
  else Scalar.ofBits (F := F) .bf16 0x0000#16

variable (x : Ins F)

/-- The running maximum before any key. -/
def mInit : Vec F S1x1x1x512 .f32 := fun _ => Scalar.ofBits (F := F) .f32 0xFF800000#32

/-- The weighted sums before any key. -/
def accInit : Vec F S1x1x128x512 .f32 := fun _ => Scalar.ofBits (F := F) .f32 0x00000000#32

/-- Scores of the `n`-th key tile that a head's query tile meets after its diagonal tile. -/
def sAt (h : Fin 4) (qi n : ℕ) : FVec F S512x512 .f32 := sOf (x.k h n) (qS (x.q h qi))
/-- Scores of the diagonal tile, upper half. -/
def sTopAt (h : Fin 4) (qi : ℕ) : FVec F S256x512 .f32 := sTop (x.kTop h qi) (qS (x.q h qi)) x.bTop
/-- Scores of the diagonal tile, lower half. -/
def sBotAt (h : Fin 4) (qi : ℕ) : FVec F S256x256 .f32 := sBot (x.kBot h qi) (qS (x.q h qi)) x.bBot

/-- The running maximum after `n` key tiles: the diagonal tile, then tiles `0`, `1`, …. -/
def mAt (h : Fin 4) (qi : ℕ) : ℕ → Vec F S1x1x1x512 .f32
  | 0 => mInit
  | 1 => mRaw (mDiag (sTopAt x h qi) (sBotAt x h qi) mInit)
  | n + 2 => mRaw (mNew (sAt x h qi n) (mAt h qi (n + 1)))

/-- The factor at the `n`-th key tile. -/
def alAt (h : Fin 4) (qi : ℕ) : ℕ → Vec F S1x1x1x1x512 .f32
  | 0 => alRaw mInit (mDiag (sTopAt x h qi) (sBotAt x h qi) mInit)
  | n + 1 => alRaw (mAt x h qi (n + 1)) (mNew (sAt x h qi n) (mAt x h qi (n + 1)))

/-- The weights of the `n`-th key tile. -/
def pAt (h : Fin 4) (qi : ℕ) : ℕ → Vec F S1x1x1x512x512 .bf16
  | 0 => pDiag (pTop (sTopAt x h qi) (mDiag (sTopAt x h qi) (sBotAt x h qi) mInit)) (pBot (sBotAt x h qi) (mDiag (sTopAt x h qi) (sBotAt x h qi) mInit))
  | n + 1 => pNew (sAt x h qi n) (mNew (sAt x h qi n) (mAt x h qi (n + 1)))

/-- Which key tile comes `n`-th. -/
def tix (qi : ℕ) : ℕ → ℕ
  | 0 => qi
  | n + 1 => n

/-- The weighted sums of the first `n` key tiles. -/
def accAt (h : Fin 4) (qi : ℕ) : ℕ → Vec F S1x1x128x512 .f32
  | 0 => accInit
  | n + 1 => cNew (x.v h (tix qi n)) (alAt x h qi n) (accAt h qi n) (pAt x h qi n)

/-- One head's result: the weighted sums over the sum of the weights. -/
def finHead (acc : Vec F S1x1x128x512 .f32) : FVec F S64x512 .f32 :=
  divf (φ := .f32) (extractStridedSlice S64x512 ![0, 0] (shapeCast S128x512 acc shapeCasts_S1x1x128x512_S128x512) slices_S128x512_o0_0_S64x512)
    (broadcastTo S64x512 (maximumf (φ := .f32) (extractStridedSlice S1x512 ![64, 0] (shapeCast S128x512 acc shapeCasts_S1x1x128x512_S128x512) slices_S128x512_o64_0_S1x512)
      (broadcast S1x512 (Scalar.ofBits (F := F) .f32 0x0DA24260#32))) broadcasts_S1x512_S64x512)

/-- A tile of the output from the four heads' weighted sums. -/
def fin (a b c d : Vec F S1x1x128x512 .f32) : FVec F S512x256 .bf16 :=
  truncf .bf16 (transpose S512x256 [1, 0] (concatenate S256x512 0 [⟨S64x512, finHead a⟩, ⟨S64x512, finHead b⟩, ⟨S64x512, finHead c⟩, ⟨S64x512, finHead d⟩]
    concatenates_S64x512_S64x512_S64x512_S64x512_S256x512_d0) transposes_S256x512_p1_0_S512x256) bitsLt_bf16_f32

/-- Query tile `qi` of the output. -/
def outAt (qi : ℕ) : FVec F S512x256 .bf16 :=
  fin (accAt x 0 qi (qi + 1)) (accAt x 1 qi (qi + 1)) (accAt x 2 qi (qi + 1)) (accAt x 3 qi (qi + 1))

end Cert.Flash
-- ==== Proof.FlashState.lean ====
module

public import proofs.«01_k».proof.Proof.FlashModel

@[expose] public section

set_option maxRecDepth 8192

noncomputable section

namespace Cert.Flash

open Cert.KernelIdeal Cert.KernelIdeal.Gen Idealize.ShloMosaic

variable {F : FTy → Type} [FloatOps F]

theorem inb2 : ∀ (h : Fin 4) (j : Fin 8), ∀ a, (![0, h.val, j.val, 0, 0] : Fin 5 → ℕ) a + S1x1x1x128x512.size a ≤ S1x4x8x128x512.size a := by decide +kernel
theorem inb3 : ∀ (h : Fin 4) (j : Fin 8), ∀ a, (![512 * j.val, 128 * h.val] : Fin 2 → ℕ) a + S512x128.size a ≤ S4096x512.size a := by decide +kernel
theorem inb3t : ∀ (h : Fin 4) (j : Fin 8), ∀ a, (![512 * j.val, 128 * h.val] : Fin 2 → ℕ) a + S256x128.size a ≤ S4096x512.size a := by decide +kernel
theorem inb3b : ∀ (h : Fin 4) (j : Fin 8), ∀ a, (![512 * j.val + 256, 128 * h.val] : Fin 2 → ℕ) a + S256x128.size a ≤ S4096x512.size a := by decide +kernel
theorem inb5t : ∀ a, (![0, 0, 0] : Fin 3 → ℕ) a + S1x256x512.size a ≤ S2x512x512.size a := by decide
theorem inb5b : ∀ a, (![0, 256, 256] : Fin 3 → ℕ) a + S1x256x256.size a ≤ S2x512x512.size a := by decide
theorem inb7 : ∀ (h : Fin 4), ∀ a, (![h.val, 0, 0] : Fin 3 → ℕ) a + S1x128x512.size a ≤ S4x128x512.size a := by decide +kernel
theorem inb8 : ∀ (st sl : Fin 2) (h : Fin 4), ∀ a, (![st.val, sl.val, h.val, 0, 0] : Fin 5 → ℕ) a + S1x1x1x512x512.size a ≤ S2x2x4x512x512.size a := by decide +kernel
theorem inb9 : ∀ (st : Fin 2) (h : Fin 4), ∀ a, (![st.val, h.val, 0, 0] : Fin 4 → ℕ) a + S1x1x1x512.size a ≤ S2x4x1x512.size a := by decide +kernel
theorem inb10 : ∀ (st sl : Fin 2) (h : Fin 4), ∀ a, (![st.val, sl.val, h.val, 0, 0] : Fin 5 → ℕ) a + S1x1x1x1x512.size a ≤ S2x2x4x1x512.size a := by decide +kernel
theorem inb11 : ∀ (st : Fin 2) (h : Fin 4), ∀ a, (![st.val, h.val, 0, 0] : Fin 4 → ℕ) a + S1x1x128x512.size a ≤ S2x4x128x512.size a := by decide +kernel

/-- The query tiles. -/
abbrev T1 := Fin k0_t1_loop.trips

/-- A tile number as an index. -/
def m8 (j : ℕ) : Fin 8 := ⟨j % 8, Nat.mod_lt _ (by decide)⟩

section
variable (arg2 : Memref sig .tc .vmem S1x4x8x128x512 .bf16) (arg3 : Memref sig .tc .vmem S4096x512 .bf16)
  (arg4 : Memref sig .tc .vmem S1x4x8x128x512 .bf16) (arg5 : Memref sig .tc .vmem S2x512x512 .f32)
  (arg7 : Memref sig .tc .vmem S4x128x512 .bf16) (arg8 : Memref sig .tc .vmem S2x2x4x512x512 .bf16)
  (arg9 : Memref sig .tc .vmem S2x4x1x512 .f32) (arg10 : Memref sig .tc .vmem S2x2x4x1x512 .f32)
  (arg11 : Memref sig .tc .vmem S2x4x128x512 .f32)

/-- A head's queries of one tile, as loaded. -/
abbrev ld2 (x2 : BufTy.Contents (Elt F) arg2.view.ty) (h : Fin 4) (j : ℕ) : Vec F S1x1x1x128x512 .bf16 :=
  arg2.view.readAt (Elt F) (Rect.unit (s := S1x4x8x128x512) ![0, h.val, (m8 j).val, 0, 0] S1x1x1x128x512.size (inb2 h (m8 j))).toLoadRect x2
/-- A head's keys of one tile, as loaded. -/
abbrev ld3 (x3 : BufTy.Contents (Elt F) arg3.view.ty) (h : Fin 4) (j : ℕ) : Vec F S512x128 .bf16 :=
  arg3.view.readAt (Elt F) (Rect.unit (s := S4096x512) ![512 * (m8 j).val, 128 * h.val] S512x128.size (inb3 h (m8 j))).toLoadRect x3
/-- The upper half of a head's keys of one tile, as loaded. -/
abbrev ld3t (x3 : BufTy.Contents (Elt F) arg3.view.ty) (h : Fin 4) (j : ℕ) : Vec F S256x128 .bf16 :=
  arg3.view.readAt (Elt F) (Rect.unit (s := S4096x512) ![512 * (m8 j).val, 128 * h.val] S256x128.size (inb3t h (m8 j))).toLoadRect x3
/-- The lower half of a head's keys of one tile, as loaded. -/
abbrev ld3b (x3 : BufTy.Contents (Elt F) arg3.view.ty) (h : Fin 4) (j : ℕ) : Vec F S256x128 .bf16 :=
  arg3.view.readAt (Elt F) (Rect.unit (s := S4096x512) ![512 * (m8 j).val + 256, 128 * h.val] S256x128.size (inb3b h (m8 j))).toLoadRect x3
/-- A head's values of one tile, as loaded. -/
abbrev ld4 (x4 : BufTy.Contents (Elt F) arg4.view.ty) (h : Fin 4) (j : ℕ) : Vec F S1x1x1x128x512 .bf16 :=
  arg4.view.readAt (Elt F) (Rect.unit (s := S1x4x8x128x512) ![0, h.val, (m8 j).val, 0, 0] S1x1x1x128x512.size (inb2 h (m8 j))).toLoadRect x4

/-- The inputs of a grid step, read out of its windows. -/
def insOf (x2 : BufTy.Contents (Elt F) arg2.view.ty) (x3 : BufTy.Contents (Elt F) arg3.view.ty)
    (x4 : BufTy.Contents (Elt F) arg4.view.ty) (x5 : BufTy.Contents (Elt F) arg5.view.ty) : Ins F where
  q := ld2 arg2 x2
  k := ld3 arg3 x3
  kTop := ld3t arg3 x3
  kBot := ld3b arg3 x3
  v := ld4 arg4 x4
  bTop := arg5.view.readAt (Elt F) (Rect.unit (s := S2x512x512) ![0, 0, 0] S1x256x512.size inb5t).toLoadRect x5
  bBot := arg5.view.readAt (Elt F) (Rect.unit (s := S2x512x512) ![0, 256, 256] S1x256x256.size inb5b).toLoadRect x5

/-- What the queries' scratch holds for a head. -/
abbrev rd7 (f : BufTy.Contents (Elt F) arg7.view.ty) (h : Fin 4) : Vec F S1x128x512 .bf16 :=
  arg7.view.readAt (Elt F) (Rect.unit (s := S4x128x512) ![h.val, 0, 0] S1x128x512.size (inb7 h)).toLoadRect f
/-- What the weights' scratch holds in a slot of a head. -/
abbrev rd8 (f : BufTy.Contents (Elt F) arg8.view.ty) (st sl : Fin 2) (h : Fin 4) : Vec F S1x1x1x512x512 .bf16 :=
  arg8.view.readAt (Elt F) (Rect.unit (s := S2x2x4x512x512) ![st.val, sl.val, h.val, 0, 0] S1x1x1x512x512.size (inb8 st sl h)).toLoadRect f
/-- What the maxima's scratch holds for a head. -/
abbrev rd9 (f : BufTy.Contents (Elt F) arg9.view.ty) (st : Fin 2) (h : Fin 4) : Vec F S1x1x1x512 .f32 :=
  arg9.view.readAt (Elt F) (Rect.unit (s := S2x4x1x512) ![st.val, h.val, 0, 0] S1x1x1x512.size (inb9 st h)).toLoadRect f
/-- What the factors' scratch holds in a slot of a head. -/
abbrev rd10 (f : BufTy.Contents (Elt F) arg10.view.ty) (st sl : Fin 2) (h : Fin 4) : Vec F S1x1x1x1x512 .f32 :=
  arg10.view.readAt (Elt F) (Rect.unit (s := S2x2x4x1x512) ![st.val, sl.val, h.val, 0, 0] S1x1x1x1x512.size (inb10 st sl h)).toLoadRect f
/-- What the sums' scratch holds for a head. -/
abbrev rd11 (f : BufTy.Contents (Elt F) arg11.view.ty) (st : Fin 2) (h : Fin 4) : Vec F S1x1x128x512 .f32 :=
  arg11.view.readAt (Elt F) (Rect.unit (s := S2x4x128x512) ![st.val, h.val, 0, 0] S1x1x128x512.size (inb11 st h)).toLoadRect f

/-- The queries' scratch holds query tile `qi`. -/
def QOk (x : Ins F) (f7 : BufTy.Contents (Elt F) arg7.view.ty) (qi : ℕ) : Prop := ∀ h, rd7 arg7 f7 h = qS (x.q h qi)

/-- The scratch of side `st` holds query tile `qi` after its `n`-th key tile, whose weights wait in slot `sl`. -/
structure Pend (x : Ins F) (f8 : BufTy.Contents (Elt F) arg8.view.ty) (f9 : BufTy.Contents (Elt F) arg9.view.ty)
    (f10 : BufTy.Contents (Elt F) arg10.view.ty) (f11 : BufTy.Contents (Elt F) arg11.view.ty) (st sl : Fin 2) (qi n : ℕ) : Prop where
  m : ∀ h, rd9 arg9 f9 st h = mAt x h qi (n + 1)
  al : ∀ h, rd10 arg10 f10 st sl h = alAt x h qi n
  p : ∀ h, rd8 arg8 f8 st sl h = pAt x h qi n
  acc : ∀ h, rd11 arg11 f11 st h = accAt x h qi n

end

end Cert.Flash
-- ==== Proof.FlashRead.lean ====
module

public import proofs.«01_k».proof.Proof.FlashState
public import Idealize.ShloMosaic.Lib.Writes

@[expose] public section

set_option maxRecDepth 8192

noncomputable section

namespace Cert.Flash

open Cert.KernelIdeal Cert.KernelIdeal.Gen Idealize.ShloMosaic

section Read

variable {sig : RefSig} {κ : Kind} {sp : Space} {s : Shape} {e : EltTy} {Val : EltTy → Type}

/-- A load that stores cover is a load of those stores over any contents. -/
theorem rc_eq [∀ e, Nonempty (Val e)] (v : View sig κ sp s e) (L : List (View.Piece Val s e)) (B : LoadRect s) :
    v.readCov L B = v.readAt Val B (v.writes Val v.junk L) := rfl

/-- Stores over contents that a load does not tell apart leave contents that it does not tell apart. -/
theorem rd_base (v : View sig κ sp s e) (f f' : v.ty.Contents Val) (L : List (View.Piece Val s e)) (B : LoadRect s)
    (h : v.readAt Val B f = v.readAt Val B f') : v.readAt Val B (v.writes Val f L) = v.readAt Val B (v.writes Val f' L) :=
  funext fun j => by
    by_cases hL : ∃ p ∈ L, B.idx j ∈ p.1.set
    · exact View.read_writes_apply_eq v f v f' (B.idx j) L hL
    · have hn : ∀ p ∈ L, B.idx j ∉ p.1.set := fun p hm hy => hL ⟨p, hm, hy⟩
      exact (View.read_writes_apply_of_forall_not_mem v f (B.idx j) L hn).trans
        ((congrFun h j).trans (View.read_writes_apply_of_forall_not_mem v f' (B.idx j) L hn).symm)

end Read

variable {F : FTy → Type} [FloatOps F]

/-- What holds of each of four heads holds of every head. -/
theorem all4 {P : Fin 4 → Prop} (a : P 0) (b : P 1) (c : P 2) (d : P 3) : ∀ h, P h
  | 0 => a
  | 1 => b
  | 2 => c
  | 3 => d

/-- The three stores of a diagonal tile's weights leave the masked weights. -/
theorem rd_mask {κ : Kind} {sp : Space} {sig : RefSig} (v : View sig κ sp S2x2x4x512x512 .bf16) (f : v.ty.Contents (Elt F)) (st h : ℕ)
    (inb : ∀ a, (![st, 0, h, 0, 0] : Fin 5 → ℕ) a + S1x1x1x512x512.size a ≤ S2x2x4x512x512.size a)
    (i1 : ∀ a, (![st, 0, h, 256, 0] : Fin 5 → ℕ) a + S1x1x1x256x256.size a ≤ S2x2x4x512x512.size a)
    (i2 : ∀ a, (![st, 0, h, 256, 256] : Fin 5 → ℕ) a + S1x1x1x256x256.size a ≤ S2x2x4x512x512.size a)
    (i3 : ∀ a, (![st, 0, h, 0, 0] : Fin 5 → ℕ) a + S1x1x1x256x512.size a ≤ S2x2x4x512x512.size a)
    (z : Vec F S1x1x1x256x256 .bf16) (b : Vec F S1x1x1x256x256 .bf16) (t : Vec F S1x1x1x256x512 .bf16)
    (L : List (View.Piece (Elt F) S2x2x4x512x512 .bf16)) (hz : ∀ x, z x = Scalar.ofBits (F := F) .bf16 0x0000#16) :
    v.readAt (Elt F) (Rect.unit (s := S2x2x4x512x512) ![st, 0, h, 0, 0] S1x1x1x512x512.size inb).toLoadRect
      (v.writes (Elt F) f ((⟨Rect.unit (s := S2x2x4x512x512) ![st, 0, h, 256, 0] S1x1x1x256x256.size i1, z⟩ : View.Piece (Elt F) S2x2x4x512x512 .bf16)
        :: (⟨Rect.unit (s := S2x2x4x512x512) ![st, 0, h, 256, 256] S1x1x1x256x256.size i2, b⟩ : View.Piece (Elt F) S2x2x4x512x512 .bf16)
        :: (⟨Rect.unit (s := S2x2x4x512x512) ![st, 0, h, 0, 0] S1x1x1x256x512.size i3, t⟩ : View.Piece (Elt F) S2x2x4x512x512 .bf16) :: L))
      = pDiag t b := by
  funext x
  have h0 : (x 0).val < 1 := (x 0).isLt
  have h1 : (x 1).val < 1 := (x 1).isLt
  have h2 : (x 2).val < 1 := (x 2).isLt
  have h3 : (x 3).val < 512 := (x 3).isLt
  have h4 : (x 4).val < 512 := (x 4).isLt
  have hi : ∀ a, (((Rect.unit (s := S2x2x4x512x512) ![st, 0, h, 0, 0] S1x1x1x512x512.size inb).toLoadRect.idx x) a).val
      = (![st, 0, h, 0, 0] : Fin 5 → ℕ) a + 1 * (x a).val := fun a => rfl
  unfold pDiag
  by_cases hx3 : (x 3).val < 256
  · rw [dif_pos hx3]
    refine (View.read_writes_cons_unit_of_not_mem v f i1 z _ _ rfl 3 (by
      have := hi 3; left; rw [this]; show 0 + 1 * (x 3).val < 256; omega)).trans ?_
    refine (View.read_writes_cons_unit_of_not_mem v f i2 b _ _ rfl 3 (by
      have := hi 3; left; rw [this]; show 0 + 1 * (x 3).val < 256; omega)).trans ?_
    refine View.read_writes_cons_unit_of_mem v f i3 t L _ _ rfl fun a => ?_
    rw [hi]
    fin_cases a
    · show st + 1 * (x 0).val = st + 0; omega
    · show 0 + 1 * (x 1).val = 0 + 0; omega
    · show h + 1 * (x 2).val = h + 0; omega
    · show 0 + 1 * (x 3).val = 0 + (x 3).val; omega
    · show 0 + 1 * (x 4).val = 0 + (x 4).val; omega
  · rw [dif_neg hx3]
    by_cases hx4 : 256 ≤ (x 4).val
    · rw [dif_pos hx4]
      refine (View.read_writes_cons_unit_of_not_mem v f i1 z _ _ rfl 4 (by
        have := hi 4; right; rw [this]; show 0 + 256 ≤ 0 + 1 * (x 4).val; omega)).trans ?_
      refine View.read_writes_cons_unit_of_mem v f i2 b _ _ _ rfl fun a => ?_
      rw [hi]
      fin_cases a
      · show st + 1 * (x 0).val = st + 0; omega
      · show 0 + 1 * (x 1).val = 0 + 0; omega
      · show h + 1 * (x 2).val = h + 0; omega
      · show 0 + 1 * (x 3).val = 256 + ((x 3).val - 256); omega
      · show 0 + 1 * (x 4).val = 256 + ((x 4).val - 256); omega
    · rw [dif_neg hx4]
      refine (View.read_writes_cons_unit_of_mem v f i1 z _ _
        (ValueIdx.ix5 (0 : Fin 1) (0 : Fin 1) (0 : Fin 1) (⟨(x 3).val - 256, by omega⟩ : Fin 256) (⟨(x 4).val, by omega⟩ : Fin 256)) rfl fun a => ?_).trans (hz _)
      rw [hi]
      fin_cases a
      · show st + 1 * (x 0).val = st + 0; omega
      · show 0 + 1 * (x 1).val = 0 + 0; omega
      · show h + 1 * (x 2).val = h + 0; omega
      · show 0 + 1 * (x 3).val = 256 + ((x 3).val - 256); omega
      · show 0 + 1 * (x 4).val = 0 + (x 4).val; omega

/-- The scratch's state, head by head. -/
theorem Pend.of4 {arg8 : Memref sig .tc .vmem S2x2x4x512x512 .bf16} {arg9 : Memref sig .tc .vmem S2x4x1x512 .f32}
    {arg10 : Memref sig .tc .vmem S2x2x4x1x512 .f32} {arg11 : Memref sig .tc .vmem S2x4x128x512 .f32} {x : Ins F}
    {f8 : BufTy.Contents (Elt F) arg8.view.ty} {f9 : BufTy.Contents (Elt F) arg9.view.ty}
    {f10 : BufTy.Contents (Elt F) arg10.view.ty} {f11 : BufTy.Contents (Elt F) arg11.view.ty} {st sl : Fin 2} {qi n : ℕ}
    (m0 : rd9 arg9 f9 st 0 = mAt x 0 qi (n + 1)) (m1 : rd9 arg9 f9 st 1 = mAt x 1 qi (n + 1))
    (m2 : rd9 arg9 f9 st 2 = mAt x 2 qi (n + 1)) (m3 : rd9 arg9 f9 st 3 = mAt x 3 qi (n + 1))
    (l0 : rd10 arg10 f10 st sl 0 = alAt x 0 qi n) (l1 : rd10 arg10 f10 st sl 1 = alAt x 1 qi n)
    (l2 : rd10 arg10 f10 st sl 2 = alAt x 2 qi n) (l3 : rd10 arg10 f10 st sl 3 = alAt x 3 qi n)
    (p0 : rd8 arg8 f8 st sl 0 = pAt x 0 qi n) (p1 : rd8 arg8 f8 st sl 1 = pAt x 1 qi n)
    (p2 : rd8 arg8 f8 st sl 2 = pAt x 2 qi n) (p3 : rd8 arg8 f8 st sl 3 = pAt x 3 qi n)
    (a0 : rd11 arg11 f11 st 0 = accAt x 0 qi n) (a1 : rd11 arg11 f11 st 1 = accAt x 1 qi n)
    (a2 : rd11 arg11 f11 st 2 = accAt x 2 qi n) (a3 : rd11 arg11 f11 st 3 = accAt x 3 qi n) :
    Pend arg8 arg9 arg10 arg11 x f8 f9 f10 f11 st sl qi n :=
  ⟨all4 m0 m1 m2 m3, all4 l0 l1 l2 l3, all4 p0 p1 p2 p3, all4 a0 a1 a2 a3⟩

theorem inb6 : ∀ (j : Fin 8), ∀ a, (![512 * j.val, 0] : Fin 2 → ℕ) a + S512x256.size a ≤ S4096x256.size a := by decide +kernel

/-- The output's window holds its first `n` tiles. -/
def OutOk (arg6 : Memref sig .tc .vmem S4096x256 .bf16) (x : Ins F) (f : BufTy.Contents (Elt F) arg6.view.ty) (n : ℕ) : Prop :=
  ∀ j : Fin 8, j.val < n →
    arg6.view.readAt (Elt F) (Rect.unit (s := S4096x256) ![512 * j.val, 0] S512x256.size (inb6 j)).toLoadRect f = outAt x j.val

/-- One more tile stored. -/
theorem OutOk.succ {arg6 : Memref sig .tc .vmem S4096x256 .bf16} {x : Ins F} {f : BufTy.Contents (Elt F) arg6.view.ty} {n : ℕ}
    {L : List (View.Piece (Elt F) S4096x256 .bf16)}
    (h : OutOk arg6 x (arg6.view.writes (Elt F) f L) n) {off : Fin 2 → ℕ} (hoff : off = ![512 * n, 0]) (inb : ∀ a, off a + S512x256.size a ≤ S4096x256.size a)
    (w : Vec F S512x256 .bf16) (hw : w = outAt x n) :
    OutOk arg6 x (arg6.view.writes (Elt F) f ((⟨Rect.unit (s := S4096x256) off S512x256.size inb, w⟩ : View.Piece (Elt F) S4096x256 .bf16) :: L)) (n + 1) := by
  subst hoff
  intro j hj
  by_cases hn : j.val = n
  · subst hn
    exact (rd_hit _ _ _ _ _ _ (fun _ => rfl)).trans hw
  · refine (rd_miss _ _ _ _ _ _ ⟨0, ?_⟩).trans (h j (by omega))
    left
    show 512 * j.val + 512 ≤ 512 * n
    omega

end Cert.Flash
-- ==== Proof.FlashFirst.lean ====
module

public import proofs.«01_k».proof.Proof.Gen.KernelIdeal.Frame
public import proofs.«01_k».proof.Proof.Gen.KernelIdeal.Loops

@[expose] public section

set_option maxRecDepth 8192
set_option maxHeartbeats 4000000

/-! One trip of the flash kernel's query loop: the pieces it writes, as the run finds them. -/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a trip of the query loop touches: the four blocks it reads, at their contents, and the output block and five
    scratch buffers it writes, at the contents it finds or leaves. -/
abbrev Held (c : Dev nD) (arg2 : Memref sig .tc .vmem S1x4x8x128x512 .bf16) (arg3 : Memref sig .tc .vmem S4096x512 .bf16) (arg4 : Memref sig .tc .vmem S1x4x8x128x512 .bf16) (arg5 : Memref sig .tc .vmem S2x512x512 .f32) (arg6 : Memref sig .tc .vmem S4096x256 .bf16) (arg7 : Memref sig .tc .vmem S4x128x512 .bf16) (arg8 : Memref sig .tc .vmem S2x2x4x512x512 .bf16) (arg9 : Memref sig .tc .vmem S2x4x1x512 .f32) (arg10 : Memref sig .tc .vmem S2x2x4x1x512 .f32) (arg11 : Memref sig .tc .vmem S2x4x128x512 .f32) (x2 : BufTy.Contents (Elt F) arg2.view.ty) (x3 : BufTy.Contents (Elt F) arg3.view.ty) (x4 : BufTy.Contents (Elt F) arg4.view.ty) (x5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) : sProp 𝕄 :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11))

/-- The first trip (query tile 0). -/
@[irreducible] def tripFirst (𝒱 : Variants) (c : Dev nD) (bd : Option 𝒱.V) (i : grid0.Coords) (arg2 : Memref sig .tc .vmem S1x4x8x128x512 .bf16) (harg2 : arg2.IsWhole) (arg3 : Memref sig .tc .vmem S4096x512 .bf16) (harg3 : arg3.IsWhole) (arg4 : Memref sig .tc .vmem S1x4x8x128x512 .bf16) (harg4 : arg4.IsWhole) (arg5 : Memref sig .tc .vmem S2x512x512 .f32) (harg5 : arg5.IsWhole) (arg6 : Memref sig .tc .vmem S4096x256 .bf16) (harg6 : arg6.IsWhole) (arg7 : Memref sig .tc .vmem S4x128x512 .bf16) (harg7 : arg7.IsWhole) (arg8 : Memref sig .tc .vmem S2x2x4x512x512 .bf16) (harg8 : arg8.IsWhole) (arg9 : Memref sig .tc .vmem S2x4x1x512 .f32) (harg9 : arg9.IsWhole) (arg10 : Memref sig .tc .vmem S2x2x4x1x512 .f32) (harg10 : arg10.IsWhole) (arg11 : Memref sig .tc .vmem S2x4x128x512 .f32) (harg11 : arg11.IsWhole) (arg12 : Memref sig .tc .vmem S2x8x512 .f32) (harg12 : arg12.IsWhole) (k : Fin k0_t1_loop.trips) (h1 : k0_cond1 k = 1#1) (h2 : ¬ k0_cond2 k = 1#1) (h3 : ¬ k0_cond3 k = 1#1) (h5 : ¬ k0_cond5 k = 1#1) (x2 : BufTy.Contents (Elt F) arg2.view.ty) (x3 : BufTy.Contents (Elt F) arg3.view.ty) (x4 : BufTy.Contents (Elt F) arg4.view.ty) (x5 : BufTy.Contents (Elt F) arg5.view.ty) :
    Σ' (L7 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg7.view.ty) (L8 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty) (L9 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg9.view.ty) (L10 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg10.view.ty), { L11 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg11.view.ty // ∀ (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
      Held (F := F) c arg2 arg3 arg4 arg5 arg6 arg7 arg8 arg9 arg10 arg11 x2 x3 x4 x5 f6 f7 f8 f9 f10 f11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 k PUnit.unit)
          (fun _ => Held (F := F) c arg2 arg3 arg4 arg5 arg6 arg7 arg8 arg9 arg10 arg11 x2 x3 x4 x5 f6 (L7 f6 f7 f8 f9 f10 f11) (L8 f6 f7 f8 f9 f10 f11) (L9 f6 f7 f8 f9 f10 f11) (L10 f6 f7 f8 f9 f10 f11) (L11 f6 f7 f8 f9 f10 f11)) } := by
  refine ⟨?_, ?_, ?_, ?_, ?_, fun E f6 f7 f8 f9 f10 f11 => ?run⟩
  case run =>
    unfold k0_t1_body
    iintro ⟨HR2, HR3, HR4, HR5, HW6, HW7, HW8, HW9, HW10, HW11⟩
    sl_exec (disch := first | sl_exact h1 | sl_exact h2 | sl_exact h3 | sl_exact h5)
    sl_step
    sl_close

end Cert.Flash

end
-- ==== Proof.FlashAfterFirst.lean ====
module

public import proofs.«01_k».proof.Proof.FlashRead
public import proofs.«01_k».proof.Proof.FlashFirst

@[expose] public section

set_option maxRecDepth 8192
set_option maxHeartbeats 100000

/-! What a trip of the query-tile loop leaves (first trips), read off the pieces it writes. -/

noncomputable section

namespace Cert.Flash

open Cert.KernelIdeal Cert.KernelIdeal.Gen Idealize.ShloMosaic Idealize.ShloMosaic.TcCoe Idealize.SL Idealize.SL.RA Idealize.SL.BI
open Sem
open tripFirst.sl

variable {F : FTy → Type} [FloatOps F]

theorem fst_off1 : ∀ k : T1, k0_cond1 k = 1#1 → k0_off1 k = ![0, (0 : Fin 4).val, (m8 k.val).val, 0, 0] := by decide +kernel
theorem fst_off5t : ∀ k : T1, k0_cond1 k = 1#1 → k0_off5 k 0#32 = ![512 * (m8 k.val).val, 128 * (0 : Fin 4).val] := by decide +kernel
theorem fst_off5b : ∀ k : T1, k0_cond1 k = 1#1 → k0_off5 k 256#32 = ![512 * (m8 k.val).val + 256, 128 * (0 : Fin 4).val] := by decide +kernel
theorem fst_off2 : ∀ k : T1, k0_cond1 k = 1#1 → k0_off2 k = ![0, (1 : Fin 4).val, (m8 k.val).val, 0, 0] := by decide +kernel
theorem fst_off6t : ∀ k : T1, k0_cond1 k = 1#1 → k0_off6 k 0#32 = ![512 * (m8 k.val).val, 128 * (1 : Fin 4).val] := by decide +kernel
theorem fst_off6b : ∀ k : T1, k0_cond1 k = 1#1 → k0_off6 k 256#32 = ![512 * (m8 k.val).val + 256, 128 * (1 : Fin 4).val] := by decide +kernel
theorem fst_off3 : ∀ k : T1, k0_cond1 k = 1#1 → k0_off3 k = ![0, (2 : Fin 4).val, (m8 k.val).val, 0, 0] := by decide +kernel
theorem fst_off7t : ∀ k : T1, k0_cond1 k = 1#1 → k0_off7 k 0#32 = ![512 * (m8 k.val).val, 128 * (2 : Fin 4).val] := by decide +kernel
theorem fst_off7b : ∀ k : T1, k0_cond1 k = 1#1 → k0_off7 k 256#32 = ![512 * (m8 k.val).val + 256, 128 * (2 : Fin 4).val] := by decide +kernel
theorem fst_off4 : ∀ k : T1, k0_cond1 k = 1#1 → k0_off4 k = ![0, (3 : Fin 4).val, (m8 k.val).val, 0, 0] := by decide +kernel
theorem fst_off8t : ∀ k : T1, k0_cond1 k = 1#1 → k0_off8 k 0#32 = ![512 * (m8 k.val).val, 128 * (3 : Fin 4).val] := by decide +kernel
theorem fst_off8b : ∀ k : T1, k0_cond1 k = 1#1 → k0_off8 k 256#32 = ![512 * (m8 k.val).val + 256, 128 * (3 : Fin 4).val] := by decide +kernel

section
variable {Y : Variants} {c : Dev nD} {bd : Option Y.V} {i : grid0.Coords} {A : Memref sig .tc .vmem S1x4x8x128x512 .bf16} {B : Memref sig .tc .vmem S4096x512 .bf16} {C : Memref sig .tc .vmem S1x4x8x128x512 .bf16} {D : Memref sig .tc .vmem S2x512x512 .f32} {E : Memref sig .tc .vmem S4096x256 .bf16} {G : Memref sig .tc .vmem S4x128x512 .bf16} {H : Memref sig .tc .vmem S2x2x4x512x512 .bf16} {I : Memref sig .tc .vmem S2x4x1x512 .f32} {J : Memref sig .tc .vmem S2x2x4x1x512 .f32} {K : Memref sig .tc .vmem S2x4x128x512 .f32} {L : Memref sig .tc .vmem S2x8x512 .f32}
  {hA : A.IsWhole} {hB : B.IsWhole} {hC : C.IsWhole} {hD : D.IsWhole} {hE : E.IsWhole} {hG : G.IsWhole} {hH : H.IsWhole} {hI : I.IsWhole} {hJ : J.IsWhole} {hK : K.IsWhole} {hL : L.IsWhole}
  {k : T1} {h1 : k0_cond1 k = 1#1} {x2 : BufTy.Contents (Elt F) A.view.ty} {x3 : BufTy.Contents (Elt F) B.view.ty} {x4 : BufTy.Contents (Elt F) C.view.ty} {x5 : BufTy.Contents (Elt F) D.view.ty} {f6 : BufTy.Contents (Elt F) E.view.ty} {f7 : BufTy.Contents (Elt F) G.view.ty}
  {f8 : BufTy.Contents (Elt F) H.view.ty} {f9 : BufTy.Contents (Elt F) I.view.ty} {f10 : BufTy.Contents (Elt F) J.view.ty} {f11 : BufTy.Contents (Elt F) K.view.ty}

include h1 x2 x3 x4 x5 A B C D

theorem fst_ld1 : View.readAt (Elt F) A.view (Rect.unit (s := S1x4x8x128x512) (k0_off1 k) S1x1x1x128x512.size (k0_off1_inb k h1)).toLoadRect x2 = (insOf A B C D x2 x3 x4 x5).q 0 k.val := rd_off _ _ _ _ (fst_off1 k h1)
theorem fst_ld5t : View.readAt (Elt F) B.view (Rect.unit (s := S4096x512) (k0_off5 k 0#32) S256x128.size (k0_off5_inb k h1 0)).toLoadRect x3 = (insOf A B C D x2 x3 x4 x5).kTop 0 k.val := rd_off _ _ _ _ (fst_off5t k h1)
theorem fst_ld5b : View.readAt (Elt F) B.view (Rect.unit (s := S4096x512) (k0_off5 k 256#32) S256x128.size (k0_off5_inb k h1 1)).toLoadRect x3 = (insOf A B C D x2 x3 x4 x5).kBot 0 k.val := rd_off _ _ _ _ (fst_off5b k h1)
theorem fst_ld2 : View.readAt (Elt F) A.view (Rect.unit (s := S1x4x8x128x512) (k0_off2 k) S1x1x1x128x512.size (k0_off2_inb k h1)).toLoadRect x2 = (insOf A B C D x2 x3 x4 x5).q 1 k.val := rd_off _ _ _ _ (fst_off2 k h1)
theorem fst_ld6t : View.readAt (Elt F) B.view (Rect.unit (s := S4096x512) (k0_off6 k 0#32) S256x128.size (k0_off6_inb k h1 0)).toLoadRect x3 = (insOf A B C D x2 x3 x4 x5).kTop 1 k.val := rd_off _ _ _ _ (fst_off6t k h1)
theorem fst_ld6b : View.readAt (Elt F) B.view (Rect.unit (s := S4096x512) (k0_off6 k 256#32) S256x128.size (k0_off6_inb k h1 1)).toLoadRect x3 = (insOf A B C D x2 x3 x4 x5).kBot 1 k.val := rd_off _ _ _ _ (fst_off6b k h1)
theorem fst_ld3 : View.readAt (Elt F) A.view (Rect.unit (s := S1x4x8x128x512) (k0_off3 k) S1x1x1x128x512.size (k0_off3_inb k h1)).toLoadRect x2 = (insOf A B C D x2 x3 x4 x5).q 2 k.val := rd_off _ _ _ _ (fst_off3 k h1)
theorem fst_ld7t : View.readAt (Elt F) B.view (Rect.unit (s := S4096x512) (k0_off7 k 0#32) S256x128.size (k0_off7_inb k h1 0)).toLoadRect x3 = (insOf A B C D x2 x3 x4 x5).kTop 2 k.val := rd_off _ _ _ _ (fst_off7t k h1)
theorem fst_ld7b : View.readAt (Elt F) B.view (Rect.unit (s := S4096x512) (k0_off7 k 256#32) S256x128.size (k0_off7_inb k h1 1)).toLoadRect x3 = (insOf A B C D x2 x3 x4 x5).kBot 2 k.val := rd_off _ _ _ _ (fst_off7b k h1)
theorem fst_ld4 : View.readAt (Elt F) A.view (Rect.unit (s := S1x4x8x128x512) (k0_off4 k) S1x1x1x128x512.size (k0_off4_inb k h1)).toLoadRect x2 = (insOf A B C D x2 x3 x4 x5).q 3 k.val := rd_off _ _ _ _ (fst_off4 k h1)
theorem fst_ld8t : View.readAt (Elt F) B.view (Rect.unit (s := S4096x512) (k0_off8 k 0#32) S256x128.size (k0_off8_inb k h1 0)).toLoadRect x3 = (insOf A B C D x2 x3 x4 x5).kTop 3 k.val := rd_off _ _ _ _ (fst_off8t k h1)
theorem fst_ld8b : View.readAt (Elt F) B.view (Rect.unit (s := S4096x512) (k0_off8 k 256#32) S256x128.size (k0_off8_inb k h1 1)).toLoadRect x3 = (insOf A B C D x2 x3 x4 x5).kBot 3 k.val := rd_off _ _ _ _ (fst_off8b k h1)
theorem fst_ldbt : View.readAt (Elt F) D.view (Rect.unit (s := S2x512x512) ![0, 0, 0] S1x256x512.size inb_S2x512x512_S1x256x512_0_0_0).toLoadRect x5 = (insOf A B C D x2 x3 x4 x5).bTop := rfl
theorem fst_ldbb : View.readAt (Elt F) D.view (Rect.unit (s := S2x512x512) ![0, 256, 256] S1x256x256.size inb_S2x512x512_S1x256x256_0_256_256).toLoadRect x5 = (insOf A B C D x2 x3 x4 x5).bBot := rfl
theorem fst_v76 : v76 (F := F) A G k h1 x2 = qS ((insOf A B C D x2 x3 x4 x5).q 0 k.val) := by
  unfold v76
  refine (rc_eq _ _ _).trans ?_
  dsimp only [HW7_4]
  iterate 3 refine miss (by decide) ?_
  refine hit (fun _ => rfl) ?_
  dsimp only [k0_pay19]
  rw [fst_ld1 (h1 := h1) (x2 := x2) (x3 := x3) (x4 := x4) (x5 := x5) (A := A) (B := B) (C := C) (D := D)]
  all_goals rfl
theorem fst_v99 : v99 (F := F) A G k h1 x2 = qS ((insOf A B C D x2 x3 x4 x5).q 1 k.val) := by
  unfold v99
  refine (rc_eq _ _ _).trans ?_
  dsimp only [HW7_4]
  iterate 2 refine miss (by decide) ?_
  refine hit (fun _ => rfl) ?_
  dsimp only [k0_pay20]
  rw [fst_ld2 (h1 := h1) (x2 := x2) (x3 := x3) (x4 := x4) (x5 := x5) (A := A) (B := B) (C := C) (D := D)]
  all_goals rfl
theorem fst_v122 : v122 (F := F) A G k h1 x2 = qS ((insOf A B C D x2 x3 x4 x5).q 2 k.val) := by
  unfold v122
  refine (rc_eq _ _ _).trans ?_
  dsimp only [HW7_4]
  iterate 1 refine miss (by decide) ?_
  refine hit (fun _ => rfl) ?_
  dsimp only [k0_pay21]
  rw [fst_ld3 (h1 := h1) (x2 := x2) (x3 := x3) (x4 := x4) (x5 := x5) (A := A) (B := B) (C := C) (D := D)]
  all_goals rfl
theorem fst_v145 : v145 (F := F) A G k h1 x2 = qS ((insOf A B C D x2 x3 x4 x5).q 3 k.val) := by
  unfold v145
  refine (rc_eq _ _ _).trans ?_
  dsimp only [HW7_4]
  refine hit (fun _ => rfl) ?_
  dsimp only [k0_pay22]
  rw [fst_ld4 (h1 := h1) (x2 := x2) (x3 := x3) (x4 := x4) (x5 := x5) (A := A) (B := B) (C := C) (D := D)]
  all_goals rfl
theorem fst_v162 : v162 (F := F) I = mInit := by
  unfold v162
  refine (rc_eq _ _ _).trans ?_
  dsimp only [HW9_1]
  dsimp only [k0_pay24, k0_pay23]
  refine (rd_const (Val := Elt F) (e := .f32) _ _ _ _ _ _ ?_ (Scalar.ofBits (F := F) .f32 0xFF800000#32) ?_).trans ?_
  · decide
  · intro x; rfl
  · rfl
theorem fst_v199 : v199 (F := F) A B D G I k h1 x2 x3 x5 = mInit := by
  unfold v199
  refine (rc_eq _ _ _).trans ?_
  dsimp only [HW9_2, HW9_1]
  iterate 1 refine miss (by decide) ?_
  dsimp only [k0_pay24, k0_pay23]
  refine (rd_const (Val := Elt F) (e := .f32) _ _ _ _ _ _ ?_ (Scalar.ofBits (F := F) .f32 0xFF800000#32) ?_).trans ?_
  · decide
  · intro x; rfl
  · rfl
theorem fst_v236 : v236 (F := F) A B D G I k h1 x2 x3 x5 = mInit := by
  unfold v236
  refine (rc_eq _ _ _).trans ?_
  dsimp only [HW9_3, HW9_2, HW9_1]
  iterate 2 refine miss (by decide) ?_
  dsimp only [k0_pay24, k0_pay23]
  refine (rd_const (Val := Elt F) (e := .f32) _ _ _ _ _ _ ?_ (Scalar.ofBits (F := F) .f32 0xFF800000#32) ?_).trans ?_
  · decide
  · intro x; rfl
  · rfl
theorem fst_v273 : v273 (F := F) A B D G I k h1 x2 x3 x5 = mInit := by
  unfold v273
  refine (rc_eq _ _ _).trans ?_
  dsimp only [HW9_4, HW9_3, HW9_2, HW9_1]
  iterate 3 refine miss (by decide) ?_
  dsimp only [k0_pay24, k0_pay23]
  refine (rd_const (Val := Elt F) (e := .f32) _ _ _ _ _ _ ?_ (Scalar.ofBits (F := F) .f32 0xFF800000#32) ?_).trans ?_
  · decide
  · intro x; rfl
  · rfl
theorem fst_d8_0 (g : BufTy.Contents (Elt F) H.view.ty) : rd8 H (H.view.writes (Elt F) g [⟨Rect.unit ![0, 0, 3, 256, 0] S1x1x1x256x256.size inb_S2x2x4x512x512_S1x1x1x256x256_0_0_3_256_0, k0_pay71⟩, ⟨Rect.unit ![0, 0, 3, 256, 256] S1x1x1x256x256.size inb_S2x2x4x512x512_S1x1x1x256x256_0_0_3_256_256, k0_pay70 (r_10 A B D G k h1 x2 x3 x5) (r_17 A B D G I k h1 x2 x3 x5)⟩, ⟨Rect.unit ![0, 0, 3, 0, 0] S1x1x1x256x512.size inb_S2x2x4x512x512_S1x1x1x256x512_0_0_3_0_0, k0_pay69 (r_9 A B D G k h1 x2 x3 x5) (r_17 A B D G I k h1 x2 x3 x5)⟩, ⟨Rect.unit ![0, 0, 2, 256, 0] S1x1x1x256x256.size inb_S2x2x4x512x512_S1x1x1x256x256_0_0_2_256_0, k0_pay63⟩, ⟨Rect.unit ![0, 0, 2, 256, 256] S1x1x1x256x256.size inb_S2x2x4x512x512_S1x1x1x256x256_0_0_2_256_256, k0_pay62 (r_8 A B D G k h1 x2 x3 x5) (r_15 A B D G I k h1 x2 x3 x5)⟩, ⟨Rect.unit ![0, 0, 2, 0, 0] S1x1x1x256x512.size inb_S2x2x4x512x512_S1x1x1x256x512_0_0_2_0_0, k0_pay61 (r_16 A B D G I k h1 x2 x3 x5)⟩, ⟨Rect.unit ![0, 0, 1, 256, 0] S1x1x1x256x256.size inb_S2x2x4x512x512_S1x1x1x256x256_0_0_1_256_0, k0_pay55⟩, ⟨Rect.unit ![0, 0, 1, 256, 256] S1x1x1x256x256.size inb_S2x2x4x512x512_S1x1x1x256x256_0_0_1_256_256, k0_pay54 (r_14 A B D G I k h1 x2 x3 x5)⟩, ⟨Rect.unit ![0, 0, 1, 0, 0] S1x1x1x256x512.size inb_S2x2x4x512x512_S1x1x1x256x512_0_0_1_0_0, k0_pay52 (r_2 A B D G k h1 x2 x3 x5) (r_3 A B D G k h1 x2 x3 x5) (v199 A B D G I k h1 x2 x3 x5)⟩, ⟨Rect.unit ![0, 0, 0, 256, 0] S1x1x1x256x256.size inb_S2x2x4x512x512_S1x1x1x256x256_0_0_0_256_0, k0_pay47 k0_pay46⟩, ⟨Rect.unit ![0, 0, 0, 256, 256] S1x1x1x256x256.size inb_S2x2x4x512x512_S1x1x1x256x256_0_0_0_256_256, k0_pay45 (r_1 A B D G k h1 x2 x3 x5) (r_11 A B D G k h1 x2 x3 x5) (v162 I)⟩, ⟨Rect.unit ![0, 0, 0, 0, 0] S1x1x1x256x512.size inb_S2x2x4x512x512_S1x1x1x256x512_0_0_0_0_0, k0_pay44 (r A B D G k h1 x2 x3 x5) (r_1 A B D G k h1 x2 x3 x5) (r_11 A B D G k h1 x2 x3 x5) (v162 I)⟩]) 0 0 0 = pAt (insOf A B C D x2 x3 x4 x5) 0 k.val 0 := by
  try dsimp only
  iterate 9 refine miss (by decide) ?_
  refine (rd_mask _ _ 0 0 _ _ _ _ _ _ _ _ (fun _ => rfl)).trans ?_
  dsimp only [r_1, r_11, r, k0_pay45, k0_pay44, k0_pay42, k0_pay41, k0_pay27, k0_pay26, k0_pay40, k0_pay28]
  rw [fst_ld5b (h1 := h1) (x2 := x2) (x3 := x3) (x4 := x4) (x5 := x5) (A := A) (B := B) (C := C) (D := D), fst_ld5t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v162 (h1 := h1) (x2 := x2) (x3 := x3) (x4 := x4) (x5 := x5) (A := A) (B := B) (C := C) (D := D), fst_v76 (h1 := h1) (x2 := x2) (x3 := x3) (x4 := x4) (x5 := x5) (A := A) (B := B) (C := C) (D := D)]
  all_goals rfl
theorem fst_d8_1 (g : BufTy.Contents (Elt F) H.view.ty) : rd8 H (H.view.writes (Elt F) g [⟨Rect.unit ![0, 0, 3, 256, 0] S1x1x1x256x256.size inb_S2x2x4x512x512_S1x1x1x256x256_0_0_3_256_0, k0_pay71⟩, ⟨Rect.unit ![0, 0, 3, 256, 256] S1x1x1x256x256.size inb_S2x2x4x512x512_S1x1x1x256x256_0_0_3_256_256, k0_pay70 (r_10 A B D G k h1 x2 x3 x5) (r_17 A B D G I k h1 x2 x3 x5)⟩, ⟨Rect.unit ![0, 0, 3, 0, 0] S1x1x1x256x512.size inb_S2x2x4x512x512_S1x1x1x256x512_0_0_3_0_0, k0_pay69 (r_9 A B D G k h1 x2 x3 x5) (r_17 A B D G I k h1 x2 x3 x5)⟩, ⟨Rect.unit ![0, 0, 2, 256, 0] S1x1x1x256x256.size inb_S2x2x4x512x512_S1x1x1x256x256_0_0_2_256_0, k0_pay63⟩, ⟨Rect.unit ![0, 0, 2, 256, 256] S1x1x1x256x256.size inb_S2x2x4x512x512_S1x1x1x256x256_0_0_2_256_256, k0_pay62 (r_8 A B D G k h1 x2 x3 x5) (r_15 A B D G I k h1 x2 x3 x5)⟩, ⟨Rect.unit ![0, 0, 2, 0, 0] S1x1x1x256x512.size inb_S2x2x4x512x512_S1x1x1x256x512_0_0_2_0_0, k0_pay61 (r_16 A B D G I k h1 x2 x3 x5)⟩, ⟨Rect.unit ![0, 0, 1, 256, 0] S1x1x1x256x256.size inb_S2x2x4x512x512_S1x1x1x256x256_0_0_1_256_0, k0_pay55⟩, ⟨Rect.unit ![0, 0, 1, 256, 256] S1x1x1x256x256.size inb_S2x2x4x512x512_S1x1x1x256x256_0_0_1_256_256, k0_pay54 (r_14 A B D G I k h1 x2 x3 x5)⟩, ⟨Rect.unit ![0, 0, 1, 0, 0] S1x1x1x256x512.size inb_S2x2x4x512x512_S1x1x1x256x512_0_0_1_0_0, k0_pay52 (r_2 A B D G k h1 x2 x3 x5) (r_3 A B D G k h1 x2 x3 x5) (v199 A B D G I k h1 x2 x3 x5)⟩, ⟨Rect.unit ![0, 0, 0, 256, 0] S1x1x1x256x256.size inb_S2x2x4x512x512_S1x1x1x256x256_0_0_0_256_0, k0_pay47 k0_pay46⟩, ⟨Rect.unit ![0, 0, 0, 256, 256] S1x1x1x256x256.size inb_S2x2x4x512x512_S1x1x1x256x256_0_0_0_256_256, k0_pay45 (r_1 A B D G k h1 x2 x3 x5) (r_11 A B D G k h1 x2 x3 x5) (v162 I)⟩, ⟨Rect.unit ![0, 0, 0, 0, 0] S1x1x1x256x512.size inb_S2x2x4x512x512_S1x1x1x256x512_0_0_0_0_0, k0_pay44 (r A B D G k h1 x2 x3 x5) (r_1 A B D G k h1 x2 x3 x5) (r_11 A B D G k h1 x2 x3 x5) (v162 I)⟩]) 0 0 1 = pAt (insOf A B C D x2 x3 x4 x5) 1 k.val 0 := by
  try dsimp only
  iterate 6 refine miss (by decide) ?_
  refine (rd_mask _ _ 0 1 _ _ _ _ _ _ _ _ (fun _ => rfl)).trans ?_
  dsimp only [r_14, r_2, r_3, k0_pay54, k0_pay52, k0_pay50, k0_pay49, k0_pay31, k0_pay29, k0_pay30, k0_pay53]
  rw [fst_ld6b (h1 := h1) (x2 := x2) (x3 := x3) (x4 := x4) (x5 := x5) (A := A) (B := B) (C := C) (D := D), fst_ld6t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v199 (h1 := h1) (x2 := x2) (x3 := x3) (x4 := x4) (x5 := x5) (A := A) (B := B) (C := C) (D := D), fst_v99 (h1 := h1) (x2 := x2) (x3 := x3) (x4 := x4) (x5 := x5) (A := A) (B := B) (C := C) (D := D)]
  all_goals rfl
theorem fst_d8_2 (g : BufTy.Contents (Elt F) H.view.ty) : rd8 H (H.view.writes (Elt F) g [⟨Rect.unit ![0, 0, 3, 256, 0] S1x1x1x256x256.size inb_S2x2x4x512x512_S1x1x1x256x256_0_0_3_256_0, k0_pay71⟩, ⟨Rect.unit ![0, 0, 3, 256, 256] S1x1x1x256x256.size inb_S2x2x4x512x512_S1x1x1x256x256_0_0_3_256_256, k0_pay70 (r_10 A B D G k h1 x2 x3 x5) (r_17 A B D G I k h1 x2 x3 x5)⟩, ⟨Rect.unit ![0, 0, 3, 0, 0] S1x1x1x256x512.size inb_S2x2x4x512x512_S1x1x1x256x512_0_0_3_0_0, k0_pay69 (r_9 A B D G k h1 x2 x3 x5) (r_17 A B D G I k h1 x2 x3 x5)⟩, ⟨Rect.unit ![0, 0, 2, 256, 0] S1x1x1x256x256.size inb_S2x2x4x512x512_S1x1x1x256x256_0_0_2_256_0, k0_pay63⟩, ⟨Rect.unit ![0, 0, 2, 256, 256] S1x1x1x256x256.size inb_S2x2x4x512x512_S1x1x1x256x256_0_0_2_256_256, k0_pay62 (r_8 A B D G k h1 x2 x3 x5) (r_15 A B D G I k h1 x2 x3 x5)⟩, ⟨Rect.unit ![0, 0, 2, 0, 0] S1x1x1x256x512.size inb_S2x2x4x512x512_S1x1x1x256x512_0_0_2_0_0, k0_pay61 (r_16 A B D G I k h1 x2 x3 x5)⟩, ⟨Rect.unit ![0, 0, 1, 256, 0] S1x1x1x256x256.size inb_S2x2x4x512x512_S1x1x1x256x256_0_0_1_256_0, k0_pay55⟩, ⟨Rect.unit ![0, 0, 1, 256, 256] S1x1x1x256x256.size inb_S2x2x4x512x512_S1x1x1x256x256_0_0_1_256_256, k0_pay54 (r_14 A B D G I k h1 x2 x3 x5)⟩, ⟨Rect.unit ![0, 0, 1, 0, 0] S1x1x1x256x512.size inb_S2x2x4x512x512_S1x1x1x256x512_0_0_1_0_0, k0_pay52 (r_2 A B D G k h1 x2 x3 x5) (r_3 A B D G k h1 x2 x3 x5) (v199 A B D G I k h1 x2 x3 x5)⟩, ⟨Rect.unit ![0, 0, 0, 256, 0] S1x1x1x256x256.size inb_S2x2x4x512x512_S1x1x1x256x256_0_0_0_256_0, k0_pay47 k0_pay46⟩, ⟨Rect.unit ![0, 0, 0, 256, 256] S1x1x1x256x256.size inb_S2x2x4x512x512_S1x1x1x256x256_0_0_0_256_256, k0_pay45 (r_1 A B D G k h1 x2 x3 x5) (r_11 A B D G k h1 x2 x3 x5) (v162 I)⟩, ⟨Rect.unit ![0, 0, 0, 0, 0] S1x1x1x256x512.size inb_S2x2x4x512x512_S1x1x1x256x512_0_0_0_0_0, k0_pay44 (r A B D G k h1 x2 x3 x5) (r_1 A B D G k h1 x2 x3 x5) (r_11 A B D G k h1 x2 x3 x5) (v162 I)⟩]) 0 0 2 = pAt (insOf A B C D x2 x3 x4 x5) 2 k.val 0 := by
  try dsimp only
  iterate 3 refine miss (by decide) ?_
  refine (rd_mask _ _ 0 2 _ _ _ _ _ _ _ _ (fun _ => rfl)).trans ?_
  dsimp only [r_8, r_15, r_16, k0_pay62, k0_pay61, r_7, k0_pay60, k0_pay58, k0_pay57, r_4, r_6, cst_91, k0_pay35, k0_pay34, k0_pay32, r_5, k0_pay36, k0_pay33]
  rw [fst_ld7b (h1 := h1) (x2 := x2) (x3 := x3) (x4 := x4) (x5 := x5) (A := A) (B := B) (C := C) (D := D), fst_ld7t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v236 (h1 := h1) (x2 := x2) (x3 := x3) (x4 := x4) (x5 := x5) (A := A) (B := B) (C := C) (D := D), fst_v122 (h1 := h1) (x2 := x2) (x3 := x3) (x4 := x4) (x5 := x5) (A := A) (B := B) (C := C) (D := D)]
  all_goals rfl
theorem fst_d8_3 (g : BufTy.Contents (Elt F) H.view.ty) : rd8 H (H.view.writes (Elt F) g [⟨Rect.unit ![0, 0, 3, 256, 0] S1x1x1x256x256.size inb_S2x2x4x512x512_S1x1x1x256x256_0_0_3_256_0, k0_pay71⟩, ⟨Rect.unit ![0, 0, 3, 256, 256] S1x1x1x256x256.size inb_S2x2x4x512x512_S1x1x1x256x256_0_0_3_256_256, k0_pay70 (r_10 A B D G k h1 x2 x3 x5) (r_17 A B D G I k h1 x2 x3 x5)⟩, ⟨Rect.unit ![0, 0, 3, 0, 0] S1x1x1x256x512.size inb_S2x2x4x512x512_S1x1x1x256x512_0_0_3_0_0, k0_pay69 (r_9 A B D G k h1 x2 x3 x5) (r_17 A B D G I k h1 x2 x3 x5)⟩, ⟨Rect.unit ![0, 0, 2, 256, 0] S1x1x1x256x256.size inb_S2x2x4x512x512_S1x1x1x256x256_0_0_2_256_0, k0_pay63⟩, ⟨Rect.unit ![0, 0, 2, 256, 256] S1x1x1x256x256.size inb_S2x2x4x512x512_S1x1x1x256x256_0_0_2_256_256, k0_pay62 (r_8 A B D G k h1 x2 x3 x5) (r_15 A B D G I k h1 x2 x3 x5)⟩, ⟨Rect.unit ![0, 0, 2, 0, 0] S1x1x1x256x512.size inb_S2x2x4x512x512_S1x1x1x256x512_0_0_2_0_0, k0_pay61 (r_16 A B D G I k h1 x2 x3 x5)⟩, ⟨Rect.unit ![0, 0, 1, 256, 0] S1x1x1x256x256.size inb_S2x2x4x512x512_S1x1x1x256x256_0_0_1_256_0, k0_pay55⟩, ⟨Rect.unit ![0, 0, 1, 256, 256] S1x1x1x256x256.size inb_S2x2x4x512x512_S1x1x1x256x256_0_0_1_256_256, k0_pay54 (r_14 A B D G I k h1 x2 x3 x5)⟩, ⟨Rect.unit ![0, 0, 1, 0, 0] S1x1x1x256x512.size inb_S2x2x4x512x512_S1x1x1x256x512_0_0_1_0_0, k0_pay52 (r_2 A B D G k h1 x2 x3 x5) (r_3 A B D G k h1 x2 x3 x5) (v199 A B D G I k h1 x2 x3 x5)⟩, ⟨Rect.unit ![0, 0, 0, 256, 0] S1x1x1x256x256.size inb_S2x2x4x512x512_S1x1x1x256x256_0_0_0_256_0, k0_pay47 k0_pay46⟩, ⟨Rect.unit ![0, 0, 0, 256, 256] S1x1x1x256x256.size inb_S2x2x4x512x512_S1x1x1x256x256_0_0_0_256_256, k0_pay45 (r_1 A B D G k h1 x2 x3 x5) (r_11 A B D G k h1 x2 x3 x5) (v162 I)⟩, ⟨Rect.unit ![0, 0, 0, 0, 0] S1x1x1x256x512.size inb_S2x2x4x512x512_S1x1x1x256x512_0_0_0_0_0, k0_pay44 (r A B D G k h1 x2 x3 x5) (r_1 A B D G k h1 x2 x3 x5) (r_11 A B D G k h1 x2 x3 x5) (v162 I)⟩]) 0 0 3 = pAt (insOf A B C D x2 x3 x4 x5) 3 k.val 0 := by
  try dsimp only
  refine (rd_mask _ _ 0 3 _ _ _ _ _ _ _ _ (fun _ => rfl)).trans ?_
  dsimp only [r_10, r_17, r_9, k0_pay70, k0_pay69, k0_pay38, k0_pay37, k0_pay66, k0_pay65, k0_pay39]
  rw [fst_ld8b (h1 := h1) (x2 := x2) (x3 := x3) (x4 := x4) (x5 := x5) (A := A) (B := B) (C := C) (D := D), fst_ld8t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v145 (h1 := h1) (x2 := x2) (x3 := x3) (x4 := x4) (x5 := x5) (A := A) (B := B) (C := C) (D := D), fst_v273 (h1 := h1) (x2 := x2) (x3 := x3) (x4 := x4) (x5 := x5) (A := A) (B := B) (C := C) (D := D)]
  all_goals rfl
theorem fst_d9_0 (g : BufTy.Contents (Elt F) I.view.ty) : rd9 I (I.view.writes (Elt F) g (⟨Rect.unit ![0, 3, 0, 0] S1x1x1x512.size inb_S2x4x1x512_S1x1x1x512_0_3_0_0, k0_pay72 (r_17 A B D G I k h1 x2 x3 x5)⟩ :: HW9_4 A B D G I k h1 x2 x3 x5)) 0 0 = mAt (insOf A B C D x2 x3 x4 x5) 0 k.val 1 := by
  dsimp only [HW9_4, HW9_3, HW9_2, HW9_1]
  iterate 3 refine miss (by decide) ?_
  refine hit (fun _ => rfl) ?_
  dsimp only [r_12, k0_pay48, r_1, r_11, k0_pay42, k0_pay41, r, k0_pay40, k0_pay27, k0_pay26, k0_pay28]
  rw [fst_ld5b (h1 := h1) (x2 := x2) (x3 := x3) (x4 := x4) (x5 := x5) (A := A) (B := B) (C := C) (D := D), fst_ld5t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v162 (h1 := h1) (x2 := x2) (x3 := x3) (x4 := x4) (x5 := x5) (A := A) (B := B) (C := C) (D := D), fst_v76 (h1 := h1) (x2 := x2) (x3 := x3) (x4 := x4) (x5 := x5) (A := A) (B := B) (C := C) (D := D)]
  all_goals rfl
theorem fst_d9_1 (g : BufTy.Contents (Elt F) I.view.ty) : rd9 I (I.view.writes (Elt F) g (⟨Rect.unit ![0, 3, 0, 0] S1x1x1x512.size inb_S2x4x1x512_S1x1x1x512_0_3_0_0, k0_pay72 (r_17 A B D G I k h1 x2 x3 x5)⟩ :: HW9_4 A B D G I k h1 x2 x3 x5)) 0 1 = mAt (insOf A B C D x2 x3 x4 x5) 1 k.val 1 := by
  dsimp only [HW9_4, HW9_3, HW9_2, HW9_1]
  iterate 2 refine miss (by decide) ?_
  refine hit (fun _ => rfl) ?_
  dsimp only [r_13, k0_pay56, r_2, r_3, k0_pay50, k0_pay49, k0_pay31, k0_pay29, k0_pay30]
  rw [fst_ld6b (h1 := h1) (x2 := x2) (x3 := x3) (x4 := x4) (x5 := x5) (A := A) (B := B) (C := C) (D := D), fst_ld6t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v199 (h1 := h1) (x2 := x2) (x3 := x3) (x4 := x4) (x5 := x5) (A := A) (B := B) (C := C) (D := D), fst_v99 (h1 := h1) (x2 := x2) (x3 := x3) (x4 := x4) (x5 := x5) (A := A) (B := B) (C := C) (D := D)]
  all_goals rfl
theorem fst_d9_2 (g : BufTy.Contents (Elt F) I.view.ty) : rd9 I (I.view.writes (Elt F) g (⟨Rect.unit ![0, 3, 0, 0] S1x1x1x512.size inb_S2x4x1x512_S1x1x1x512_0_3_0_0, k0_pay72 (r_17 A B D G I k h1 x2 x3 x5)⟩ :: HW9_4 A B D G I k h1 x2 x3 x5)) 0 2 = mAt (insOf A B C D x2 x3 x4 x5) 2 k.val 1 := by
  dsimp only [HW9_4, HW9_3, HW9_2, HW9_1]
  iterate 1 refine miss (by decide) ?_
  refine hit (fun _ => rfl) ?_
  dsimp only [r_15, k0_pay64, r_7, r_8, k0_pay58, k0_pay57, r_5, r_6, k0_pay36, k0_pay34, k0_pay33, r_4, cst_91, k0_pay35, k0_pay32]
  rw [fst_ld7b (h1 := h1) (x2 := x2) (x3 := x3) (x4 := x4) (x5 := x5) (A := A) (B := B) (C := C) (D := D), fst_ld7t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v236 (h1 := h1) (x2 := x2) (x3 := x3) (x4 := x4) (x5 := x5) (A := A) (B := B) (C := C) (D := D), fst_v122 (h1 := h1) (x2 := x2) (x3 := x3) (x4 := x4) (x5 := x5) (A := A) (B := B) (C := C) (D := D)]
  all_goals rfl
theorem fst_d9_3 (g : BufTy.Contents (Elt F) I.view.ty) : rd9 I (I.view.writes (Elt F) g (⟨Rect.unit ![0, 3, 0, 0] S1x1x1x512.size inb_S2x4x1x512_S1x1x1x512_0_3_0_0, k0_pay72 (r_17 A B D G I k h1 x2 x3 x5)⟩ :: HW9_4 A B D G I k h1 x2 x3 x5)) 0 3 = mAt (insOf A B C D x2 x3 x4 x5) 3 k.val 1 := by
  dsimp only [HW9_4, HW9_3, HW9_2, HW9_1]
  refine hit (fun _ => rfl) ?_
  dsimp only [r_17, k0_pay72, r_9, r_10, k0_pay66, k0_pay65, k0_pay39, k0_pay37, k0_pay38]
  rw [fst_ld8b (h1 := h1) (x2 := x2) (x3 := x3) (x4 := x4) (x5 := x5) (A := A) (B := B) (C := C) (D := D), fst_ld8t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v273 (h1 := h1) (x2 := x2) (x3 := x3) (x4 := x4) (x5 := x5) (A := A) (B := B) (C := C) (D := D), fst_v145 (h1 := h1) (x2 := x2) (x3 := x3) (x4 := x4) (x5 := x5) (A := A) (B := B) (C := C) (D := D)]
  all_goals rfl
theorem fst_d10_0 (g : BufTy.Contents (Elt F) J.view.ty) : rd10 J (J.view.writes (Elt F) g [⟨Rect.unit ![0, 0, 3, 0, 0] S1x1x1x1x512.size inb_S2x2x4x1x512_S1x1x1x1x512_0_0_3_0_0, k0_pay68 (r_18 A B D G I k h1 x2 x3 x5)⟩, ⟨Rect.unit ![0, 0, 2, 0, 0] S1x1x1x1x512.size inb_S2x2x4x1x512_S1x1x1x1x512_0_0_2_0_0, k0_pay59 (r_7 A B D G k h1 x2 x3 x5) (r_8 A B D G k h1 x2 x3 x5) (v236 A B D G I k h1 x2 x3 x5)⟩, ⟨Rect.unit ![0, 0, 1, 0, 0] S1x1x1x1x512.size inb_S2x2x4x1x512_S1x1x1x1x512_0_0_1_0_0, k0_pay51 (r_2 A B D G k h1 x2 x3 x5) (r_3 A B D G k h1 x2 x3 x5) (v199 A B D G I k h1 x2 x3 x5)⟩, ⟨Rect.unit ![0, 0, 0, 0, 0] S1x1x1x1x512.size inb_S2x2x4x1x512_S1x1x1x1x512_0_0_0_0_0, k0_pay43 (r_1 A B D G k h1 x2 x3 x5) (r_11 A B D G k h1 x2 x3 x5) (v162 I)⟩]) 0 0 0 = alAt (insOf A B C D x2 x3 x4 x5) 0 k.val 0 := by
  try dsimp only
  iterate 3 refine miss (by decide) ?_
  refine hit (fun _ => rfl) ?_
  dsimp only [r_1, r_11, k0_pay43, k0_pay41, k0_pay42, r, k0_pay40, k0_pay27, k0_pay26, k0_pay28]
  rw [fst_ld5b (h1 := h1) (x2 := x2) (x3 := x3) (x4 := x4) (x5 := x5) (A := A) (B := B) (C := C) (D := D), fst_ld5t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v162 (h1 := h1) (x2 := x2) (x3 := x3) (x4 := x4) (x5 := x5) (A := A) (B := B) (C := C) (D := D), fst_v76 (h1 := h1) (x2 := x2) (x3 := x3) (x4 := x4) (x5 := x5) (A := A) (B := B) (C := C) (D := D)]
  all_goals rfl
theorem fst_d10_1 (g : BufTy.Contents (Elt F) J.view.ty) : rd10 J (J.view.writes (Elt F) g [⟨Rect.unit ![0, 0, 3, 0, 0] S1x1x1x1x512.size inb_S2x2x4x1x512_S1x1x1x1x512_0_0_3_0_0, k0_pay68 (r_18 A B D G I k h1 x2 x3 x5)⟩, ⟨Rect.unit ![0, 0, 2, 0, 0] S1x1x1x1x512.size inb_S2x2x4x1x512_S1x1x1x1x512_0_0_2_0_0, k0_pay59 (r_7 A B D G k h1 x2 x3 x5) (r_8 A B D G k h1 x2 x3 x5) (v236 A B D G I k h1 x2 x3 x5)⟩, ⟨Rect.unit ![0, 0, 1, 0, 0] S1x1x1x1x512.size inb_S2x2x4x1x512_S1x1x1x1x512_0_0_1_0_0, k0_pay51 (r_2 A B D G k h1 x2 x3 x5) (r_3 A B D G k h1 x2 x3 x5) (v199 A B D G I k h1 x2 x3 x5)⟩, ⟨Rect.unit ![0, 0, 0, 0, 0] S1x1x1x1x512.size inb_S2x2x4x1x512_S1x1x1x1x512_0_0_0_0_0, k0_pay43 (r_1 A B D G k h1 x2 x3 x5) (r_11 A B D G k h1 x2 x3 x5) (v162 I)⟩]) 0 0 1 = alAt (insOf A B C D x2 x3 x4 x5) 1 k.val 0 := by
  try dsimp only
  iterate 2 refine miss (by decide) ?_
  refine hit (fun _ => rfl) ?_
  dsimp only [r_2, r_3, k0_pay51, k0_pay49, k0_pay50, k0_pay31, k0_pay29, k0_pay30]
  rw [fst_ld6b (h1 := h1) (x2 := x2) (x3 := x3) (x4 := x4) (x5 := x5) (A := A) (B := B) (C := C) (D := D), fst_ld6t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v199 (h1 := h1) (x2 := x2) (x3 := x3) (x4 := x4) (x5 := x5) (A := A) (B := B) (C := C) (D := D), fst_v99 (h1 := h1) (x2 := x2) (x3 := x3) (x4 := x4) (x5 := x5) (A := A) (B := B) (C := C) (D := D)]
  all_goals rfl
theorem fst_d10_2 (g : BufTy.Contents (Elt F) J.view.ty) : rd10 J (J.view.writes (Elt F) g [⟨Rect.unit ![0, 0, 3, 0, 0] S1x1x1x1x512.size inb_S2x2x4x1x512_S1x1x1x1x512_0_0_3_0_0, k0_pay68 (r_18 A B D G I k h1 x2 x3 x5)⟩, ⟨Rect.unit ![0, 0, 2, 0, 0] S1x1x1x1x512.size inb_S2x2x4x1x512_S1x1x1x1x512_0_0_2_0_0, k0_pay59 (r_7 A B D G k h1 x2 x3 x5) (r_8 A B D G k h1 x2 x3 x5) (v236 A B D G I k h1 x2 x3 x5)⟩, ⟨Rect.unit ![0, 0, 1, 0, 0] S1x1x1x1x512.size inb_S2x2x4x1x512_S1x1x1x1x512_0_0_1_0_0, k0_pay51 (r_2 A B D G k h1 x2 x3 x5) (r_3 A B D G k h1 x2 x3 x5) (v199 A B D G I k h1 x2 x3 x5)⟩, ⟨Rect.unit ![0, 0, 0, 0, 0] S1x1x1x1x512.size inb_S2x2x4x1x512_S1x1x1x1x512_0_0_0_0_0, k0_pay43 (r_1 A B D G k h1 x2 x3 x5) (r_11 A B D G k h1 x2 x3 x5) (v162 I)⟩]) 0 0 2 = alAt (insOf A B C D x2 x3 x4 x5) 2 k.val 0 := by
  try dsimp only
  iterate 1 refine miss (by decide) ?_
  refine hit (fun _ => rfl) ?_
  dsimp only [r_7, r_8, k0_pay59, k0_pay57, k0_pay58, r_5, r_6, k0_pay36, k0_pay34, k0_pay33, r_4, cst_91, k0_pay35, k0_pay32]
  rw [fst_ld7b (h1 := h1) (x2 := x2) (x3 := x3) (x4 := x4) (x5 := x5) (A := A) (B := B) (C := C) (D := D), fst_ld7t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v236 (h1 := h1) (x2 := x2) (x3 := x3) (x4 := x4) (x5 := x5) (A := A) (B := B) (C := C) (D := D), fst_v122 (h1 := h1) (x2 := x2) (x3 := x3) (x4 := x4) (x5 := x5) (A := A) (B := B) (C := C) (D := D)]
  all_goals rfl
theorem fst_d10_3 (g : BufTy.Contents (Elt F) J.view.ty) : rd10 J (J.view.writes (Elt F) g [⟨Rect.unit ![0, 0, 3, 0, 0] S1x1x1x1x512.size inb_S2x2x4x1x512_S1x1x1x1x512_0_0_3_0_0, k0_pay68 (r_18 A B D G I k h1 x2 x3 x5)⟩, ⟨Rect.unit ![0, 0, 2, 0, 0] S1x1x1x1x512.size inb_S2x2x4x1x512_S1x1x1x1x512_0_0_2_0_0, k0_pay59 (r_7 A B D G k h1 x2 x3 x5) (r_8 A B D G k h1 x2 x3 x5) (v236 A B D G I k h1 x2 x3 x5)⟩, ⟨Rect.unit ![0, 0, 1, 0, 0] S1x1x1x1x512.size inb_S2x2x4x1x512_S1x1x1x1x512_0_0_1_0_0, k0_pay51 (r_2 A B D G k h1 x2 x3 x5) (r_3 A B D G k h1 x2 x3 x5) (v199 A B D G I k h1 x2 x3 x5)⟩, ⟨Rect.unit ![0, 0, 0, 0, 0] S1x1x1x1x512.size inb_S2x2x4x1x512_S1x1x1x1x512_0_0_0_0_0, k0_pay43 (r_1 A B D G k h1 x2 x3 x5) (r_11 A B D G k h1 x2 x3 x5) (v162 I)⟩]) 0 0 3 = alAt (insOf A B C D x2 x3 x4 x5) 3 k.val 0 := by
  try dsimp only
  refine hit (fun _ => rfl) ?_
  dsimp only [r_18, k0_pay68, r_9, r_10, k0_pay67, k0_pay65, k0_pay66, k0_pay39, k0_pay37, k0_pay38]
  rw [fst_ld8b (h1 := h1) (x2 := x2) (x3 := x3) (x4 := x4) (x5 := x5) (A := A) (B := B) (C := C) (D := D), fst_ld8t (h1 := h1) (x2 := x2) (x3 := x3) (x4 := x4) (x5 := x5) (A := A) (B := B) (C := C) (D := D), fst_ldbb (h1 := h1) (x2 := x2) (x3 := x3) (x4 := x4) (x5 := x5) (A := A) (B := B) (C := C) (D := D), fst_ldbt (h1 := h1) (x2 := x2) (x3 := x3) (x4 := x4) (x5 := x5) (A := A) (B := B) (C := C) (D := D), fst_v273 (h1 := h1) (x2 := x2) (x3 := x3) (x4 := x4) (x5 := x5) (A := A) (B := B) (C := C) (D := D), fst_v145 (h1 := h1) (x2 := x2) (x3 := x3) (x4 := x4) (x5 := x5) (A := A) (B := B) (C := C) (D := D)]
  all_goals rfl
theorem fst_d11_0 (g : BufTy.Contents (Elt F) K.view.ty) : rd11 K (K.view.writes (Elt F) g [⟨Rect.unit ![0, 0, 0, 0] S1x4x128x512.size inb_S2x4x128x512_S1x4x128x512_0_0_0_0, k0_pay25⟩]) 0 0 = accAt (insOf A B C D x2 x3 x4 x5) 0 k.val 0 := by
  try dsimp only
  dsimp only [k0_pay25]
  refine (rd_const (Val := Elt F) (e := .f32) _ _ _ _ _ _ ?_ (Scalar.ofBits (F := F) .f32 0x00000000#32) ?_).trans ?_
  · decide
  · intro x; rfl
  · rfl
theorem fst_d11_1 (g : BufTy.Contents (Elt F) K.view.ty) : rd11 K (K.view.writes (Elt F) g [⟨Rect.unit ![0, 0, 0, 0] S1x4x128x512.size inb_S2x4x128x512_S1x4x128x512_0_0_0_0, k0_pay25⟩]) 0 1 = accAt (insOf A B C D x2 x3 x4 x5) 1 k.val 0 := by
  try dsimp only
  dsimp only [k0_pay25]
  refine (rd_const (Val := Elt F) (e := .f32) _ _ _ _ _ _ ?_ (Scalar.ofBits (F := F) .f32 0x00000000#32) ?_).trans ?_
  · decide
  · intro x; rfl
  · rfl
theorem fst_d11_2 (g : BufTy.Contents (Elt F) K.view.ty) : rd11 K (K.view.writes (Elt F) g [⟨Rect.unit ![0, 0, 0, 0] S1x4x128x512.size inb_S2x4x128x512_S1x4x128x512_0_0_0_0, k0_pay25⟩]) 0 2 = accAt (insOf A B C D x2 x3 x4 x5) 2 k.val 0 := by
  try dsimp only
  dsimp only [k0_pay25]
  refine (rd_const (Val := Elt F) (e := .f32) _ _ _ _ _ _ ?_ (Scalar.ofBits (F := F) .f32 0x00000000#32) ?_).trans ?_
  · decide
  · intro x; rfl
  · rfl
theorem fst_d11_3 (g : BufTy.Contents (Elt F) K.view.ty) : rd11 K (K.view.writes (Elt F) g [⟨Rect.unit ![0, 0, 0, 0] S1x4x128x512.size inb_S2x4x128x512_S1x4x128x512_0_0_0_0, k0_pay25⟩]) 0 3 = accAt (insOf A B C D x2 x3 x4 x5) 3 k.val 0 := by
  try dsimp only
  dsimp only [k0_pay25]
  refine (rd_const (Val := Elt F) (e := .f32) _ _ _ _ _ _ ?_ (Scalar.ofBits (F := F) .f32 0x00000000#32) ?_).trans ?_
  · decide
  · intro x; rfl
  · rfl
theorem fst_q_0 (g : BufTy.Contents (Elt F) G.view.ty) : rd7 G (G.view.writes (Elt F) g (HW7_4 A k h1 x2)) 0 = qS ((insOf A B C D x2 x3 x4 x5).q 0 k.val) := by
  dsimp only [HW7_4]
  iterate 3 refine miss (by decide) ?_
  refine hit (fun _ => rfl) ?_
  dsimp only [k0_pay19]
  rw [fst_ld1 (h1 := h1) (x2 := x2) (x3 := x3) (x4 := x4) (x5 := x5) (A := A) (B := B) (C := C) (D := D)]
  all_goals rfl
theorem fst_q_1 (g : BufTy.Contents (Elt F) G.view.ty) : rd7 G (G.view.writes (Elt F) g (HW7_4 A k h1 x2)) 1 = qS ((insOf A B C D x2 x3 x4 x5).q 1 k.val) := by
  dsimp only [HW7_4]
  iterate 2 refine miss (by decide) ?_
  refine hit (fun _ => rfl) ?_
  dsimp only [k0_pay20]
  rw [fst_ld2 (h1 := h1) (x2 := x2) (x3 := x3) (x4 := x4) (x5 := x5) (A := A) (B := B) (C := C) (D := D)]
  all_goals rfl
theorem fst_q_2 (g : BufTy.Contents (Elt F) G.view.ty) : rd7 G (G.view.writes (Elt F) g (HW7_4 A k h1 x2)) 2 = qS ((insOf A B C D x2 x3 x4 x5).q 2 k.val) := by
  dsimp only [HW7_4]
  iterate 1 refine miss (by decide) ?_
  refine hit (fun _ => rfl) ?_
  dsimp only [k0_pay21]
  rw [fst_ld3 (h1 := h1) (x2 := x2) (x3 := x3) (x4 := x4) (x5 := x5) (A := A) (B := B) (C := C) (D := D)]
  all_goals rfl
theorem fst_q_3 (g : BufTy.Contents (Elt F) G.view.ty) : rd7 G (G.view.writes (Elt F) g (HW7_4 A k h1 x2)) 3 = qS ((insOf A B C D x2 x3 x4 x5).q 3 k.val) := by
  dsimp only [HW7_4]
  refine hit (fun _ => rfl) ?_
  dsimp only [k0_pay22]
  rw [fst_ld4 (h1 := h1) (x2 := x2) (x3 := x3) (x4 := x4) (x5 := x5) (A := A) (B := B) (C := C) (D := D)]
  all_goals rfl
/-- The queries kept are the tile's own. -/
theorem fst_q : QOk G (insOf A B C D x2 x3 x4 x5) (G.view.writes (Elt F) f7 (HW7_4 A k h1 x2)) k.val := by
  intro h
  fin_cases h
  exacts [fst_q_0 (h1 := h1) (x2 := x2) (x3 := x3) (x4 := x4) (x5 := x5) (A := A) (B := B) (C := C) (D := D) _, fst_q_1 (h1 := h1) (x2 := x2) (x3 := x3) (x4 := x4) (x5 := x5) (A := A) (B := B) (C := C) (D := D) _, fst_q_2 (h1 := h1) (x2 := x2) (x3 := x3) (x4 := x4) (x5 := x5) (A := A) (B := B) (C := C) (D := D) _, fst_q_3 (h1 := h1) (x2 := x2) (x3 := x3) (x4 := x4) (x5 := x5) (A := A) (B := B) (C := C) (D := D) _]
/-- The scratch after the diagonal tile. -/
theorem fst_pend0 : Pend H I J K (insOf A B C D x2 x3 x4 x5) (H.view.writes (Elt F) f8 [⟨Rect.unit ![0, 0, 3, 256, 0] S1x1x1x256x256.size inb_S2x2x4x512x512_S1x1x1x256x256_0_0_3_256_0, k0_pay71⟩, ⟨Rect.unit ![0, 0, 3, 256, 256] S1x1x1x256x256.size inb_S2x2x4x512x512_S1x1x1x256x256_0_0_3_256_256, k0_pay70 (r_10 A B D G k h1 x2 x3 x5) (r_17 A B D G I k h1 x2 x3 x5)⟩, ⟨Rect.unit ![0, 0, 3, 0, 0] S1x1x1x256x512.size inb_S2x2x4x512x512_S1x1x1x256x512_0_0_3_0_0, k0_pay69 (r_9 A B D G k h1 x2 x3 x5) (r_17 A B D G I k h1 x2 x3 x5)⟩, ⟨Rect.unit ![0, 0, 2, 256, 0] S1x1x1x256x256.size inb_S2x2x4x512x512_S1x1x1x256x256_0_0_2_256_0, k0_pay63⟩, ⟨Rect.unit ![0, 0, 2, 256, 256] S1x1x1x256x256.size inb_S2x2x4x512x512_S1x1x1x256x256_0_0_2_256_256, k0_pay62 (r_8 A B D G k h1 x2 x3 x5) (r_15 A B D G I k h1 x2 x3 x5)⟩, ⟨Rect.unit ![0, 0, 2, 0, 0] S1x1x1x256x512.size inb_S2x2x4x512x512_S1x1x1x256x512_0_0_2_0_0, k0_pay61 (r_16 A B D G I k h1 x2 x3 x5)⟩, ⟨Rect.unit ![0, 0, 1, 256, 0] S1x1x1x256x256.size inb_S2x2x4x512x512_S1x1x1x256x256_0_0_1_256_0, k0_pay55⟩, ⟨Rect.unit ![0, 0, 1, 256, 256] S1x1x1x256x256.size inb_S2x2x4x512x512_S1x1x1x256x256_0_0_1_256_256, k0_pay54 (r_14 A B D G I k h1 x2 x3 x5)⟩, ⟨Rect.unit ![0, 0, 1, 0, 0] S1x1x1x256x512.size inb_S2x2x4x512x512_S1x1x1x256x512_0_0_1_0_0, k0_pay52 (r_2 A B D G k h1 x2 x3 x5) (r_3 A B D G k h1 x2 x3 x5) (v199 A B D G I k h1 x2 x3 x5)⟩, ⟨Rect.unit ![0, 0, 0, 256, 0] S1x1x1x256x256.size inb_S2x2x4x512x512_S1x1x1x256x256_0_0_0_256_0, k0_pay47 k0_pay46⟩, ⟨Rect.unit ![0, 0, 0, 256, 256] S1x1x1x256x256.size inb_S2x2x4x512x512_S1x1x1x256x256_0_0_0_256_256, k0_pay45 (r_1 A B D G k h1 x2 x3 x5) (r_11 A B D G k h1 x2 x3 x5) (v162 I)⟩, ⟨Rect.unit ![0, 0, 0, 0, 0] S1x1x1x256x512.size inb_S2x2x4x512x512_S1x1x1x256x512_0_0_0_0_0, k0_pay44 (r A B D G k h1 x2 x3 x5) (r_1 A B D G k h1 x2 x3 x5) (r_11 A B D G k h1 x2 x3 x5) (v162 I)⟩]) (I.view.writes (Elt F) f9 (⟨Rect.unit ![0, 3, 0, 0] S1x1x1x512.size inb_S2x4x1x512_S1x1x1x512_0_3_0_0, k0_pay72 (r_17 A B D G I k h1 x2 x3 x5)⟩ :: HW9_4 A B D G I k h1 x2 x3 x5)) (J.view.writes (Elt F) f10 [⟨Rect.unit ![0, 0, 3, 0, 0] S1x1x1x1x512.size inb_S2x2x4x1x512_S1x1x1x1x512_0_0_3_0_0, k0_pay68 (r_18 A B D G I k h1 x2 x3 x5)⟩, ⟨Rect.unit ![0, 0, 2, 0, 0] S1x1x1x1x512.size inb_S2x2x4x1x512_S1x1x1x1x512_0_0_2_0_0, k0_pay59 (r_7 A B D G k h1 x2 x3 x5) (r_8 A B D G k h1 x2 x3 x5) (v236 A B D G I k h1 x2 x3 x5)⟩, ⟨Rect.unit ![0, 0, 1, 0, 0] S1x1x1x1x512.size inb_S2x2x4x1x512_S1x1x1x1x512_0_0_1_0_0, k0_pay51 (r_2 A B D G k h1 x2 x3 x5) (r_3 A B D G k h1 x2 x3 x5) (v199 A B D G I k h1 x2 x3 x5)⟩, ⟨Rect.unit ![0, 0, 0, 0, 0] S1x1x1x1x512.size inb_S2x2x4x1x512_S1x1x1x1x512_0_0_0_0_0, k0_pay43 (r_1 A B D G k h1 x2 x3 x5) (r_11 A B D G k h1 x2 x3 x5) (v162 I)⟩]) (K.view.writes (Elt F) f11 [⟨Rect.unit ![0, 0, 0, 0] S1x4x128x512.size inb_S2x4x128x512_S1x4x128x512_0_0_0_0, k0_pay25⟩]) 0 0 k.val 0 where
  m := all4 (fst_d9_0 (h1 := h1) (x2 := x2) (x3 := x3) (x4 := x4) (x5 := x5) (A := A) (B := B) (C := C) (D := D) _) (fst_d9_1 (h1 := h1) (x2 := x2) (x3 := x3) (x4 := x4) (x5 := x5) (A := A) (B := B) (C := C) (D := D) _) (fst_d9_2 (h1 := h1) (x2 := x2) (x3 := x3) (x4 := x4) (x5 := x5) (A := A) (B := B) (C := C) (D := D) _) (fst_d9_3 (h1 := h1) (x2 := x2) (x3 := x3) (x4 := x4) (x5 := x5) (A := A) (B := B) (C := C) (D := D) _)
  al := all4 (fst_d10_0 (h1 := h1) (x2 := x2) (x3 := x3) (x4 := x4) (x5 := x5) (A := A) (B := B) (C := C) (D := D) _) (fst_d10_1 (h1 := h1) (x2 := x2) (x3 := x3) (x4 := x4) (x5 := x5) (A := A) (B := B) (C := C) (D := D) _) (fst_d10_2 (h1 := h1) (x2 := x2) (x3 := x3) (x4 := x4) (x5 := x5) (A := A) (B := B) (C := C) (D := D) _) (fst_d10_3 (h1 := h1) (x2 := x2) (x3 := x3) (x4 := x4) (x5 := x5) (A := A) (B := B) (C := C) (D := D) _)
  p := all4 (fst_d8_0 (h1 := h1) (x2 := x2) (x3 := x3) (x4 := x4) (x5 := x5) (A := A) (B := B) (C := C) (D := D) _) (fst_d8_1 (h1 := h1) (x2 := x2) (x3 := x3) (x4 := x4) (x5 := x5) (A := A) (B := B) (C := C) (D := D) _) (fst_d8_2 (h1 := h1) (x2 := x2) (x3 := x3) (x4 := x4) (x5 := x5) (A := A) (B := B) (C := C) (D := D) _) (fst_d8_3 (h1 := h1) (x2 := x2) (x3 := x3) (x4 := x4) (x5 := x5) (A := A) (B := B) (C := C) (D := D) _)
  acc := all4 (fst_d11_0 (h1 := h1) (x2 := x2) (x3 := x3) (x4 := x4) (x5 := x5) (A := A) (B := B) (C := C) (D := D) _) (fst_d11_1 (h1 := h1) (x2 := x2) (x3 := x3) (x4 := x4) (x5 := x5) (A := A) (B := B) (C := C) (D := D) _) (fst_d11_2 (h1 := h1) (x2 := x2) (x3 := x3) (x4 := x4) (x5 := x5) (A := A) (B := B) (C := C) (D := D) _) (fst_d11_3 (h1 := h1) (x2 := x2) (x3 := x3) (x4 := x4) (x5 := x5) (A := A) (B := B) (C := C) (D := D) _)
theorem fst_w8_0 {h2 : ¬ k0_cond2 k = 1#1} {h3 : ¬ k0_cond3 k = 1#1} {h5 : ¬ k0_cond5 k = 1#1} : rd8 H ((tripFirst (F := F) Y c bd i A hA B hB C hC D hD E hE G hG H hH I hI J hJ K hK L hL k h1 h2 h3 h5 x2 x3 x4 x5).2.1 f6 f7 f8 f9 f10 f11) 0 0 0 = pAt (insOf A B C D x2 x3 x4 x5) 0 k.val 0 := by
  unfold tripFirst
  dsimp only
  exact fst_d8_0 (h1 := h1) (x2 := x2) (x3 := x3) (x4 := x4) (x5 := x5) (A := A) (B := B) (C := C) (D := D) _
theorem fst_w8_1 {h2 : ¬ k0_cond2 k = 1#1} {h3 : ¬ k0_cond3 k = 1#1} {h5 : ¬ k0_cond5 k = 1#1} : rd8 H ((tripFirst (F := F) Y c bd i A hA B hB C hC D hD E hE G hG H hH I hI J hJ K hK L hL k h1 h2 h3 h5 x2 x3 x4 x5).2.1 f6 f7 f8 f9 f10 f11) 0 0 1 = pAt (insOf A B C D x2 x3 x4 x5) 1 k.val 0 := by
  unfold tripFirst
  dsimp only
  exact fst_d8_1 (h1 := h1) (x2 := x2) (x3 := x3) (x4 := x4) (x5 := x5) (A := A) (B := B) (C := C) (D := D) _
theorem fst_w8_2 {h2 : ¬ k0_cond2 k = 1#1} {h3 : ¬ k0_cond3 k = 1#1} {h5 : ¬ k0_cond5 k = 1#1} : rd8 H ((tripFirst (F := F) Y c bd i A hA B hB C hC D hD E hE G hG H hH I hI J hJ K hK L hL k h1 h2 h3 h5 x2 x3 x4 x5).2.1 f6 f7 f8 f9 f10 f11) 0 0 2 = pAt (insOf A B C D x2 x3 x4 x5) 2 k.val 0 := by
  unfold tripFirst
  dsimp only
  exact fst_d8_2 (h1 := h1) (x2 := x2) (x3 := x3) (x4 := x4) (x5 := x5) (A := A) (B := B) (C := C) (D := D) _
theorem fst_w8_3 {h2 : ¬ k0_cond2 k = 1#1} {h3 : ¬ k0_cond3 k = 1#1} {h5 : ¬ k0_cond5 k = 1#1} : rd8 H ((tripFirst (F := F) Y c bd i A hA B hB C hC D hD E hE G hG H hH I hI J hJ K hK L hL k h1 h2 h3 h5 x2 x3 x4 x5).2.1 f6 f7 f8 f9 f10 f11) 0 0 3 = pAt (insOf A B C D x2 x3 x4 x5) 3 k.val 0 := by
  unfold tripFirst
  dsimp only
  exact fst_d8_3 (h1 := h1) (x2 := x2) (x3 := x3) (x4 := x4) (x5 := x5) (A := A) (B := B) (C := C) (D := D) _
theorem fst_w9_0 {h2 : ¬ k0_cond2 k = 1#1} {h3 : ¬ k0_cond3 k = 1#1} {h5 : ¬ k0_cond5 k = 1#1} : rd9 I ((tripFirst (F := F) Y c bd i A hA B hB C hC D hD E hE G hG H hH I hI J hJ K hK L hL k h1 h2 h3 h5 x2 x3 x4 x5).2.2.1 f6 f7 f8 f9 f10 f11) 0 0 = mAt (insOf A B C D x2 x3 x4 x5) 0 k.val (0 + 1) := by
  unfold tripFirst
  dsimp only
  exact fst_d9_0 (h1 := h1) (x2 := x2) (x3 := x3) (x4 := x4) (x5 := x5) (A := A) (B := B) (C := C) (D := D) _
theorem fst_w9_1 {h2 : ¬ k0_cond2 k = 1#1} {h3 : ¬ k0_cond3 k = 1#1} {h5 : ¬ k0_cond5 k = 1#1} : rd9 I ((tripFirst (F := F) Y c bd i A hA B hB C hC D hD E hE G hG H hH I hI J hJ K hK L hL k h1 h2 h3 h5 x2 x3 x4 x5).2.2.1 f6 f7 f8 f9 f10 f11) 0 1 = mAt (insOf A B C D x2 x3 x4 x5) 1 k.val (0 + 1) := by
  unfold tripFirst
  dsimp only
  exact fst_d9_1 (h1 := h1) (x2 := x2) (x3 := x3) (x4 := x4) (x5 := x5) (A := A) (B := B) (C := C) (D := D) _
theorem fst_w9_2 {h2 : ¬ k0_cond2 k = 1#1} {h3 : ¬ k0_cond3 k = 1#1} {h5 : ¬ k0_cond5 k = 1#1} : rd9 I ((tripFirst (F := F) Y c bd i A hA B hB C hC D hD E hE G hG H hH I hI J hJ K hK L hL k h1 h2 h3 h5 x2 x3 x4 x5).2.2.1 f6 f7 f8 f9 f10 f11) 0 2 = mAt (insOf A B C D x2 x3 x4 x5) 2 k.val (0 + 1) := by
  unfold tripFirst
  dsimp only
  exact fst_d9_2 (h1 := h1) (x2 := x2) (x3 := x3) (x4 := x4) (x5 := x5) (A := A) (B := B) (C := C) (D := D) _
theorem fst_w9_3 {h2 : ¬ k0_cond2 k = 1#1} {h3 : ¬ k0_cond3 k = 1#1} {h5 : ¬ k0_cond5 k = 1#1} : rd9 I ((tripFirst (F := F) Y c bd i A hA B hB C hC D hD E hE G hG H hH I hI J hJ K hK L hL k h1 h2 h3 h5 x2 x3 x4 x5).2.2.1 f6 f7 f8 f9 f10 f11) 0 3 = mAt (insOf A B C D x2 x3 x4 x5) 3 k.val (0 + 1) := by
  unfold tripFirst
  dsimp only
  exact fst_d9_3 (h1 := h1) (x2 := x2) (x3 := x3) (x4 := x4) (x5 := x5) (A := A) (B := B) (C := C) (D := D) _
theorem fst_w10_0 {h2 : ¬ k0_cond2 k = 1#1} {h3 : ¬ k0_cond3 k = 1#1} {h5 : ¬ k0_cond5 k = 1#1} : rd10 J ((tripFirst (F := F) Y c bd i A hA B hB C hC D hD E hE G hG H hH I hI J hJ K hK L hL k h1 h2 h3 h5 x2 x3 x4 x5).2.2.2.1 f6 f7 f8 f9 f10 f11) 0 0 0 = alAt (insOf A B C D x2 x3 x4 x5) 0 k.val 0 := by
  unfold tripFirst
  dsimp only
  exact fst_d10_0 (h1 := h1) (x2 := x2) (x3 := x3) (x4 := x4) (x5 := x5) (A := A) (B := B) (C := C) (D := D) _
theorem fst_w10_1 {h2 : ¬ k0_cond2 k = 1#1} {h3 : ¬ k0_cond3 k = 1#1} {h5 : ¬ k0_cond5 k = 1#1} : rd10 J ((tripFirst (F := F) Y c bd i A hA B hB C hC D hD E hE G hG H hH I hI J hJ K hK L hL k h1 h2 h3 h5 x2 x3 x4 x5).2.2.2.1 f6 f7 f8 f9 f10 f11) 0 0 1 = alAt (insOf A B C D x2 x3 x4 x5) 1 k.val 0 := by
  unfold tripFirst
  dsimp only
  exact fst_d10_1 (h1 := h1) (x2 := x2) (x3 := x3) (x4 := x4) (x5 := x5) (A := A) (B := B) (C := C) (D := D) _
theorem fst_w10_2 {h2 : ¬ k0_cond2 k = 1#1} {h3 : ¬ k0_cond3 k = 1#1} {h5 : ¬ k0_cond5 k = 1#1} : rd10 J ((tripFirst (F := F) Y c bd i A hA B hB C hC D hD E hE G hG H hH I hI J hJ K hK L hL k h1 h2 h3 h5 x2 x3 x4 x5).2.2.2.1 f6 f7 f8 f9 f10 f11) 0 0 2 = alAt (insOf A B C D x2 x3 x4 x5) 2 k.val 0 := by
  unfold tripFirst
  dsimp only
  exact fst_d10_2 (h1 := h1) (x2 := x2) (x3 := x3) (x4 := x4) (x5 := x5) (A := A) (B := B) (C := C) (D := D) _
theorem fst_w10_3 {h2 : ¬ k0_cond2 k = 1#1} {h3 : ¬ k0_cond3 k = 1#1} {h5 : ¬ k0_cond5 k = 1#1} : rd10 J ((tripFirst (F := F) Y c bd i A hA B hB C hC D hD E hE G hG H hH I hI J hJ K hK L hL k h1 h2 h3 h5 x2 x3 x4 x5).2.2.2.1 f6 f7 f8 f9 f10 f11) 0 0 3 = alAt (insOf A B C D x2 x3 x4 x5) 3 k.val 0 := by
  unfold tripFirst
  dsimp only
  exact fst_d10_3 (h1 := h1) (x2 := x2) (x3 := x3) (x4 := x4) (x5 := x5) (A := A) (B := B) (C := C) (D := D) _
theorem fst_w11_0 {h2 : ¬ k0_cond2 k = 1#1} {h3 : ¬ k0_cond3 k = 1#1} {h5 : ¬ k0_cond5 k = 1#1} : rd11 K ((tripFirst (F := F) Y c bd i A hA B hB C hC D hD E hE G hG H hH I hI J hJ K hK L hL k h1 h2 h3 h5 x2 x3 x4 x5).2.2.2.2.1 f6 f7 f8 f9 f10 f11) 0 0 = accAt (insOf A B C D x2 x3 x4 x5) 0 k.val 0 := by
  unfold tripFirst
  dsimp only
  exact fst_d11_0 (h1 := h1) (x2 := x2) (x3 := x3) (x4 := x4) (x5 := x5) (A := A) (B := B) (C := C) (D := D) _
theorem fst_w11_1 {h2 : ¬ k0_cond2 k = 1#1} {h3 : ¬ k0_cond3 k = 1#1} {h5 : ¬ k0_cond5 k = 1#1} : rd11 K ((tripFirst (F := F) Y c bd i A hA B hB C hC D hD E hE G hG H hH I hI J hJ K hK L hL k h1 h2 h3 h5 x2 x3 x4 x5).2.2.2.2.1 f6 f7 f8 f9 f10 f11) 0 1 = accAt (insOf A B C D x2 x3 x4 x5) 1 k.val 0 := by
  unfold tripFirst
  dsimp only
  exact fst_d11_1 (h1 := h1) (x2 := x2) (x3 := x3) (x4 := x4) (x5 := x5) (A := A) (B := B) (C := C) (D := D) _
theorem fst_w11_2 {h2 : ¬ k0_cond2 k = 1#1} {h3 : ¬ k0_cond3 k = 1#1} {h5 : ¬ k0_cond5 k = 1#1} : rd11 K ((tripFirst (F := F) Y c bd i A hA B hB C hC D hD E hE G hG H hH I hI J hJ K hK L hL k h1 h2 h3 h5 x2 x3 x4 x5).2.2.2.2.1 f6 f7 f8 f9 f10 f11) 0 2 = accAt (insOf A B C D x2 x3 x4 x5) 2 k.val 0 := by
  unfold tripFirst
  dsimp only
  exact fst_d11_2 (h1 := h1) (x2 := x2) (x3 := x3) (x4 := x4) (x5 := x5) (A := A) (B := B) (C := C) (D := D) _
theorem fst_w11_3 {h2 : ¬ k0_cond2 k = 1#1} {h3 : ¬ k0_cond3 k = 1#1} {h5 : ¬ k0_cond5 k = 1#1} : rd11 K ((tripFirst (F := F) Y c bd i A hA B hB C hC D hD E hE G hG H hH I hI J hJ K hK L hL k h1 h2 h3 h5 x2 x3 x4 x5).2.2.2.2.1 f6 f7 f8 f9 f10 f11) 0 3 = accAt (insOf A B C D x2 x3 x4 x5) 3 k.val 0 := by
  unfold tripFirst
  dsimp only
  exact fst_d11_3 (h1 := h1) (x2 := x2) (x3 := x3) (x4 := x4) (x5 := x5) (A := A) (B := B) (C := C) (D := D) _
/-- The scratch after the trip. -/
theorem fst_pend {h2 : ¬ k0_cond2 k = 1#1} {h3 : ¬ k0_cond3 k = 1#1} {h5 : ¬ k0_cond5 k = 1#1} : Pend H I J K (insOf A B C D x2 x3 x4 x5) ((tripFirst (F := F) Y c bd i A hA B hB C hC D hD E hE G hG H hH I hI J hJ K hK L hL k h1 h2 h3 h5 x2 x3 x4 x5).2.1 f6 f7 f8 f9 f10 f11) ((tripFirst (F := F) Y c bd i A hA B hB C hC D hD E hE G hG H hH I hI J hJ K hK L hL k h1 h2 h3 h5 x2 x3 x4 x5).2.2.1 f6 f7 f8 f9 f10 f11) ((tripFirst (F := F) Y c bd i A hA B hB C hC D hD E hE G hG H hH I hI J hJ K hK L hL k h1 h2 h3 h5 x2 x3 x4 x5).2.2.2.1 f6 f7 f8 f9 f10 f11) ((tripFirst (F := F) Y c bd i A hA B hB C hC D hD E hE G hG H hH I hI J hJ K hK L hL k h1 h2 h3 h5 x2 x3 x4 x5).2.2.2.2.1 f6 f7 f8 f9 f10 f11) 0 0 k.val 0 :=
  Pend.of4 (fst_w9_0 (h1 := h1) (x2 := x2) (x3 := x3) (x4 := x4) (x5 := x5) (A := A) (B := B) (C := C) (D := D))  (fst_w9_1 (h1 := h1) (x2 := x2) (x3 := x3) (x4 := x4) (x5 := x5) (A := A) (B := B) (C := C) (D := D))  (fst_w9_2 (h1 := h1) (x2 := x2) (x3 := x3) (x4 := x4) (x5 := x5) (A := A) (B := B) (C := C) (D := D))  (fst_w9_3 (h1 := h1) (x2 := x2) (x3 := x3) (x4 := x4) (x5 := x5) (A := A) (B := B) (C := C) (D := D))  (fst_w10_0 (h1 := h1) (x2 := x2) (x3 := x3) (x4 := x4) (x5 := x5) (A := A) (B := B) (C := C) (D := D))  (fst_w10_1 (h1 := h1) (x2 := x2) (x3 := x3) (x4 := x4) (x5 := x5) (A := A) (B := B) (C := C) (D := D))  (fst_w10_2 (h1 := h1) (x2 := x2) (x3 := x3) (x4 := x4) (x5 := x5) (A := A) (B := B) (C := C) (D := D))  (fst_w10_3 (h1 := h1) (x2 := x2) (x3 := x3) (x4 := x4) (x5 := x5) (A := A) (B := B) (C := C) (D := D))  (fst_w8_0 (h1 := h1) (x2 := x2) (x3 := x3) (x4 := x4) (x5 := x5) (A := A) (B := B) (C := C) (D := D))  (fst_w8_1 (h1 := h1) (x2 := x2) (x3 := x3) (x4 := x4) (x5 := x5) (A := A) (B := B) (C := C) (D := D))  (fst_w8_2 (h1 := h1) (x2 := x2) (x3 := x3) (x4 := x4) (x5 := x5) (A := A) (B := B) (C := C) (D := D))  (fst_w8_3 (h1 := h1) (x2 := x2) (x3 := x3) (x4 := x4) (x5 := x5) (A := A) (B := B) (C := C) (D := D))  (fst_w11_0 (h1 := h1) (x2 := x2) (x3 := x3) (x4 := x4) (x5 := x5) (A := A) (B := B) (C := C) (D := D))  (fst_w11_1 (h1 := h1) (x2 := x2) (x3 := x3) (x4 := x4) (x5 := x5) (A := A) (B := B) (C := C) (D := D))  (fst_w11_2 (h1 := h1) (x2 := x2) (x3 := x3) (x4 := x4) (x5 := x5) (A := A) (B := B) (C := C) (D := D))  (fst_w11_3 (h1 := h1) (x2 := x2) (x3 := x3) (x4 := x4) (x5 := x5) (A := A) (B := B) (C := C) (D := D))

end

end Cert.Flash
-- ==== Proof.FlashEven.lean ====
module

public import proofs.«01_k».proof.Proof.Gen.KernelIdeal.Frame
public import proofs.«01_k».proof.Proof.Gen.KernelIdeal.Loops
public import proofs.«01_k».proof.Proof.FlashFirst

@[expose] public section

set_option maxRecDepth 8192
set_option maxHeartbeats 4000000

/-! One trip of the flash kernel's query loop: the pieces it writes, as the run finds them. -/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- An even trip after the first. -/
@[irreducible] def tripEven (𝒱 : Variants) (c : Dev nD) (bd : Option 𝒱.V) (i : grid0.Coords) (arg2 : Memref sig .tc .vmem S1x4x8x128x512 .bf16) (harg2 : arg2.IsWhole) (arg3 : Memref sig .tc .vmem S4096x512 .bf16) (harg3 : arg3.IsWhole) (arg4 : Memref sig .tc .vmem S1x4x8x128x512 .bf16) (harg4 : arg4.IsWhole) (arg5 : Memref sig .tc .vmem S2x512x512 .f32) (harg5 : arg5.IsWhole) (arg6 : Memref sig .tc .vmem S4096x256 .bf16) (harg6 : arg6.IsWhole) (arg7 : Memref sig .tc .vmem S4x128x512 .bf16) (harg7 : arg7.IsWhole) (arg8 : Memref sig .tc .vmem S2x2x4x512x512 .bf16) (harg8 : arg8.IsWhole) (arg9 : Memref sig .tc .vmem S2x4x1x512 .f32) (harg9 : arg9.IsWhole) (arg10 : Memref sig .tc .vmem S2x2x4x1x512 .f32) (harg10 : arg10.IsWhole) (arg11 : Memref sig .tc .vmem S2x4x128x512 .f32) (harg11 : arg11.IsWhole) (arg12 : Memref sig .tc .vmem S2x8x512 .f32) (harg12 : arg12.IsWhole) (k : Fin k0_t1_loop.trips) (h1 : ¬ k0_cond1 k = 1#1) (h3 : k0_cond3 k = 1#1) (h4 : ¬ k0_cond4 k = 1#1) (h5 : ¬ k0_cond5 k = 1#1) (x2 : BufTy.Contents (Elt F) arg2.view.ty) (x3 : BufTy.Contents (Elt F) arg3.view.ty) (x4 : BufTy.Contents (Elt F) arg4.view.ty) (x5 : BufTy.Contents (Elt F) arg5.view.ty) :
    Σ' (L6 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg6.view.ty) (L7 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg7.view.ty) (L8 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty) (L9 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg9.view.ty) (L10 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg10.view.ty), { L11 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg11.view.ty // ∀ (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
      Held (F := F) c arg2 arg3 arg4 arg5 arg6 arg7 arg8 arg9 arg10 arg11 x2 x3 x4 x5 f6 f7 f8 f9 f10 f11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 k PUnit.unit)
          (fun _ => Held (F := F) c arg2 arg3 arg4 arg5 arg6 arg7 arg8 arg9 arg10 arg11 x2 x3 x4 x5 (L6 f6 f7 f8 f9 f10 f11) (L7 f6 f7 f8 f9 f10 f11) (L8 f6 f7 f8 f9 f10 f11) (L9 f6 f7 f8 f9 f10 f11) (L10 f6 f7 f8 f9 f10 f11) (L11 f6 f7 f8 f9 f10 f11)) } := by
  refine ⟨?_, ?_, ?_, ?_, ?_, ?_, fun E f6 f7 f8 f9 f10 f11 => ?run⟩
  case run =>
    unfold k0_t1_body
    iintro ⟨HR2, HR3, HR4, HR5, HW6, HW7, HW8, HW9, HW10, HW11⟩
    sl_exec (disch := first | sl_exact h1 | sl_exact h3 | sl_exact h4 | sl_exact h5)
    sl_step
    sl_close

end Cert.Flash

end
-- ==== Proof.FlashPairA.lean ====
module

public import proofs.«01_k».proof.Proof.FlashState
public import proofs.«01_k».proof.Proof.Gen.KernelIdeal.Loops

@[expose] public section

set_option maxRecDepth 8192
set_option maxHeartbeats 1000000

/-! A trip of the key-tile loop `t2`: two key tiles, from one state of the scratch to the state two tiles on. -/

noncomputable section

namespace Cert.Flash

open Cert.KernelIdeal Cert.KernelIdeal.Gen Idealize.ShloMosaic Idealize.ShloMosaic.TcCoe Idealize.SL Idealize.SL.RA Idealize.SL.BI
open Sem
open trip_k0_t2.sl

variable {F : FTy → Type} [FloatOps F]

theorem t2_kA0 : ∀ (k : T1) (k2 : Fin (k0_t2_loop k).trips), k0_off27 k k2 = ![512 * (m8 (2 * k2.val)).val, 128 * (0 : Fin 4).val] := by decide +kernel
theorem t2_kB0 : ∀ (k : T1) (k2 : Fin (k0_t2_loop k).trips), k0_off35 k k2 = ![512 * (m8 (2 * k2.val + 1)).val, 128 * (0 : Fin 4).val] := by decide +kernel
theorem t2_vA0 : ∀ (k : T1) (k2 : Fin (k0_t2_loop k).trips), k0_off31 k k2 = ![0, (0 : Fin 4).val, (m8 (tix k.val (2 * k2.val))).val, 0, 0] := by decide +kernel
theorem t2_vB0 : ∀ (k : T1) (k2 : Fin (k0_t2_loop k).trips), k0_off39 k k2 = ![0, (0 : Fin 4).val, (m8 (2 * k2.val)).val, 0, 0] := by decide +kernel
theorem t2_kA1 : ∀ (k : T1) (k2 : Fin (k0_t2_loop k).trips), k0_off28 k k2 = ![512 * (m8 (2 * k2.val)).val, 128 * (1 : Fin 4).val] := by decide +kernel
theorem t2_kB1 : ∀ (k : T1) (k2 : Fin (k0_t2_loop k).trips), k0_off36 k k2 = ![512 * (m8 (2 * k2.val + 1)).val, 128 * (1 : Fin 4).val] := by decide +kernel
theorem t2_vA1 : ∀ (k : T1) (k2 : Fin (k0_t2_loop k).trips), k0_off32 k k2 = ![0, (1 : Fin 4).val, (m8 (tix k.val (2 * k2.val))).val, 0, 0] := by decide +kernel
theorem t2_vB1 : ∀ (k : T1) (k2 : Fin (k0_t2_loop k).trips), k0_off40 k k2 = ![0, (1 : Fin 4).val, (m8 (2 * k2.val)).val, 0, 0] := by decide +kernel
theorem t2_kA2 : ∀ (k : T1) (k2 : Fin (k0_t2_loop k).trips), k0_off29 k k2 = ![512 * (m8 (2 * k2.val)).val, 128 * (2 : Fin 4).val] := by decide +kernel
theorem t2_kB2 : ∀ (k : T1) (k2 : Fin (k0_t2_loop k).trips), k0_off37 k k2 = ![512 * (m8 (2 * k2.val + 1)).val, 128 * (2 : Fin 4).val] := by decide +kernel
theorem t2_vA2 : ∀ (k : T1) (k2 : Fin (k0_t2_loop k).trips), k0_off33 k k2 = ![0, (2 : Fin 4).val, (m8 (tix k.val (2 * k2.val))).val, 0, 0] := by decide +kernel
theorem t2_vB2 : ∀ (k : T1) (k2 : Fin (k0_t2_loop k).trips), k0_off41 k k2 = ![0, (2 : Fin 4).val, (m8 (2 * k2.val)).val, 0, 0] := by decide +kernel
theorem t2_kA3 : ∀ (k : T1) (k2 : Fin (k0_t2_loop k).trips), k0_off30 k k2 = ![512 * (m8 (2 * k2.val)).val, 128 * (3 : Fin 4).val] := by decide +kernel
theorem t2_kB3 : ∀ (k : T1) (k2 : Fin (k0_t2_loop k).trips), k0_off38 k k2 = ![512 * (m8 (2 * k2.val + 1)).val, 128 * (3 : Fin 4).val] := by decide +kernel
theorem t2_vA3 : ∀ (k : T1) (k2 : Fin (k0_t2_loop k).trips), k0_off34 k k2 = ![0, (3 : Fin 4).val, (m8 (tix k.val (2 * k2.val))).val, 0, 0] := by decide +kernel
theorem t2_vB3 : ∀ (k : T1) (k2 : Fin (k0_t2_loop k).trips), k0_off42 k k2 = ![0, (3 : Fin 4).val, (m8 (2 * k2.val)).val, 0, 0] := by decide +kernel

section
variable {A : Memref sig .tc .vmem S1x4x8x128x512 .bf16} {B : Memref sig .tc .vmem S4096x512 .bf16} {C : Memref sig .tc .vmem S1x4x8x128x512 .bf16} {D : Memref sig .tc .vmem S2x512x512 .f32} {E : Memref sig .tc .vmem S4096x256 .bf16} {G : Memref sig .tc .vmem S4x128x512 .bf16} {H : Memref sig .tc .vmem S2x2x4x512x512 .bf16} {I : Memref sig .tc .vmem S2x4x1x512 .f32} {J : Memref sig .tc .vmem S2x2x4x1x512 .f32} {K : Memref sig .tc .vmem S2x4x128x512 .f32} {L : Memref sig .tc .vmem S2x8x512 .f32}
  {k : T1} {u : k0_cond3 k = 1#1} {x2 : BufTy.Contents (Elt F) A.view.ty} {x3 : BufTy.Contents (Elt F) B.view.ty} {x4 : BufTy.Contents (Elt F) C.view.ty} {x5 : BufTy.Contents (Elt F) D.view.ty} {f7 : BufTy.Contents (Elt F) G.view.ty}
  {k2 : Fin (k0_t2_loop k).trips} {f8 : BufTy.Contents (Elt F) H.view.ty} {f9 : BufTy.Contents (Elt F) I.view.ty} {f10 : BufTy.Contents (Elt F) J.view.ty} {f11 : BufTy.Contents (Elt F) K.view.ty}
  (hq : QOk G (insOf A B C D x2 x3 x4 x5) f7 k.val) (hp : Pend H I J K (insOf A B C D x2 x3 x4 x5) f8 f9 f10 f11 0 0 k.val (2 * k2.val))
include hq hp u

theorem t2_lkA0 : View.readAt (Elt F) B.view (Rect.unit (s := S4096x512) (k0_off27 k k2) S512x128.size (k0_off27_inb k k2 u)).toLoadRect x3 = (insOf A B C D x2 x3 x4 x5).k 0 (2 * k2.val) := rd_off _ _ _ _ (t2_kA0 k k2)
theorem t2_lkB0 : View.readAt (Elt F) B.view (Rect.unit (s := S4096x512) (k0_off35 k k2) S512x128.size (k0_off35_inb k k2 u)).toLoadRect x3 = (insOf A B C D x2 x3 x4 x5).k 0 (2 * k2.val + 1) := rd_off _ _ _ _ (t2_kB0 k k2)
theorem t2_lvA0 : View.readAt (Elt F) C.view (Rect.unit (s := S1x4x8x128x512) (k0_off31 k k2) S1x1x1x128x512.size (k0_off31_inb k k2 u)).toLoadRect x4 = (insOf A B C D x2 x3 x4 x5).v 0 (tix k.val (2 * k2.val)) := rd_off _ _ _ _ (t2_vA0 k k2)
theorem t2_lvB0 : View.readAt (Elt F) C.view (Rect.unit (s := S1x4x8x128x512) (k0_off39 k k2) S1x1x1x128x512.size (k0_off39_inb k k2 u)).toLoadRect x4 = (insOf A B C D x2 x3 x4 x5).v 0 (2 * k2.val) := rd_off _ _ _ _ (t2_vB0 k k2)
theorem t2_lq0 : View.readAt (Elt F) G.view (Rect.unit (s := S4x128x512) ![0, 0, 0] S1x128x512.size inb_S4x128x512_S1x128x512_0_0_0).toLoadRect f7 = qS ((insOf A B C D x2 x3 x4 x5).q 0 k.val) := hq 0
theorem t2_lp0 : View.readAt (Elt F) H.view (Rect.unit (s := S2x2x4x512x512) ![0, 0, 0, 0, 0] S1x1x1x512x512.size inb_S2x2x4x512x512_S1x1x1x512x512_0_0_0_0_0).toLoadRect f8 = pAt (insOf A B C D x2 x3 x4 x5) 0 k.val (2 * k2.val) := hp.p 0
theorem t2_lm0 : View.readAt (Elt F) I.view (Rect.unit (s := S2x4x1x512) ![0, 0, 0, 0] S1x1x1x512.size inb_S2x4x1x512_S1x1x1x512_0_0_0_0).toLoadRect f9 = mAt (insOf A B C D x2 x3 x4 x5) 0 k.val (2 * k2.val + 1) := hp.m 0
theorem t2_lal0 : View.readAt (Elt F) J.view (Rect.unit (s := S2x2x4x1x512) ![0, 0, 0, 0, 0] S1x1x1x1x512.size inb_S2x2x4x1x512_S1x1x1x1x512_0_0_0_0_0).toLoadRect f10 = alAt (insOf A B C D x2 x3 x4 x5) 0 k.val (2 * k2.val) := hp.al 0
theorem t2_lacc0 : View.readAt (Elt F) K.view (Rect.unit (s := S2x4x128x512) ![0, 0, 0, 0] S1x1x128x512.size inb_S2x4x128x512_S1x1x128x512_0_0_0_0).toLoadRect f11 = accAt (insOf A B C D x2 x3 x4 x5) 0 k.val (2 * k2.val) := hp.acc 0
theorem t2_lkA1 : View.readAt (Elt F) B.view (Rect.unit (s := S4096x512) (k0_off28 k k2) S512x128.size (k0_off28_inb k k2 u)).toLoadRect x3 = (insOf A B C D x2 x3 x4 x5).k 1 (2 * k2.val) := rd_off _ _ _ _ (t2_kA1 k k2)
theorem t2_lkB1 : View.readAt (Elt F) B.view (Rect.unit (s := S4096x512) (k0_off36 k k2) S512x128.size (k0_off36_inb k k2 u)).toLoadRect x3 = (insOf A B C D x2 x3 x4 x5).k 1 (2 * k2.val + 1) := rd_off _ _ _ _ (t2_kB1 k k2)
theorem t2_lvA1 : View.readAt (Elt F) C.view (Rect.unit (s := S1x4x8x128x512) (k0_off32 k k2) S1x1x1x128x512.size (k0_off32_inb k k2 u)).toLoadRect x4 = (insOf A B C D x2 x3 x4 x5).v 1 (tix k.val (2 * k2.val)) := rd_off _ _ _ _ (t2_vA1 k k2)
theorem t2_lvB1 : View.readAt (Elt F) C.view (Rect.unit (s := S1x4x8x128x512) (k0_off40 k k2) S1x1x1x128x512.size (k0_off40_inb k k2 u)).toLoadRect x4 = (insOf A B C D x2 x3 x4 x5).v 1 (2 * k2.val) := rd_off _ _ _ _ (t2_vB1 k k2)
theorem t2_lq1 : View.readAt (Elt F) G.view (Rect.unit (s := S4x128x512) ![1, 0, 0] S1x128x512.size inb_S4x128x512_S1x128x512_1_0_0).toLoadRect f7 = qS ((insOf A B C D x2 x3 x4 x5).q 1 k.val) := hq 1
theorem t2_lp1 : View.readAt (Elt F) H.view (Rect.unit (s := S2x2x4x512x512) ![0, 0, 1, 0, 0] S1x1x1x512x512.size inb_S2x2x4x512x512_S1x1x1x512x512_0_0_1_0_0).toLoadRect f8 = pAt (insOf A B C D x2 x3 x4 x5) 1 k.val (2 * k2.val) := hp.p 1
theorem t2_lm1 : View.readAt (Elt F) I.view (Rect.unit (s := S2x4x1x512) ![0, 1, 0, 0] S1x1x1x512.size inb_S2x4x1x512_S1x1x1x512_0_1_0_0).toLoadRect f9 = mAt (insOf A B C D x2 x3 x4 x5) 1 k.val (2 * k2.val + 1) := hp.m 1
theorem t2_lal1 : View.readAt (Elt F) J.view (Rect.unit (s := S2x2x4x1x512) ![0, 0, 1, 0, 0] S1x1x1x1x512.size inb_S2x2x4x1x512_S1x1x1x1x512_0_0_1_0_0).toLoadRect f10 = alAt (insOf A B C D x2 x3 x4 x5) 1 k.val (2 * k2.val) := hp.al 1
theorem t2_lacc1 : View.readAt (Elt F) K.view (Rect.unit (s := S2x4x128x512) ![0, 1, 0, 0] S1x1x128x512.size inb_S2x4x128x512_S1x1x128x512_0_1_0_0).toLoadRect f11 = accAt (insOf A B C D x2 x3 x4 x5) 1 k.val (2 * k2.val) := hp.acc 1
theorem t2_lkA2 : View.readAt (Elt F) B.view (Rect.unit (s := S4096x512) (k0_off29 k k2) S512x128.size (k0_off29_inb k k2 u)).toLoadRect x3 = (insOf A B C D x2 x3 x4 x5).k 2 (2 * k2.val) := rd_off _ _ _ _ (t2_kA2 k k2)
theorem t2_lkB2 : View.readAt (Elt F) B.view (Rect.unit (s := S4096x512) (k0_off37 k k2) S512x128.size (k0_off37_inb k k2 u)).toLoadRect x3 = (insOf A B C D x2 x3 x4 x5).k 2 (2 * k2.val + 1) := rd_off _ _ _ _ (t2_kB2 k k2)
theorem t2_lvA2 : View.readAt (Elt F) C.view (Rect.unit (s := S1x4x8x128x512) (k0_off33 k k2) S1x1x1x128x512.size (k0_off33_inb k k2 u)).toLoadRect x4 = (insOf A B C D x2 x3 x4 x5).v 2 (tix k.val (2 * k2.val)) := rd_off _ _ _ _ (t2_vA2 k k2)
theorem t2_lvB2 : View.readAt (Elt F) C.view (Rect.unit (s := S1x4x8x128x512) (k0_off41 k k2) S1x1x1x128x512.size (k0_off41_inb k k2 u)).toLoadRect x4 = (insOf A B C D x2 x3 x4 x5).v 2 (2 * k2.val) := rd_off _ _ _ _ (t2_vB2 k k2)
theorem t2_lq2 : View.readAt (Elt F) G.view (Rect.unit (s := S4x128x512) ![2, 0, 0] S1x128x512.size inb_S4x128x512_S1x128x512_2_0_0).toLoadRect f7 = qS ((insOf A B C D x2 x3 x4 x5).q 2 k.val) := hq 2
theorem t2_lp2 : View.readAt (Elt F) H.view (Rect.unit (s := S2x2x4x512x512) ![0, 0, 2, 0, 0] S1x1x1x512x512.size inb_S2x2x4x512x512_S1x1x1x512x512_0_0_2_0_0).toLoadRect f8 = pAt (insOf A B C D x2 x3 x4 x5) 2 k.val (2 * k2.val) := hp.p 2
theorem t2_lm2 : View.readAt (Elt F) I.view (Rect.unit (s := S2x4x1x512) ![0, 2, 0, 0] S1x1x1x512.size inb_S2x4x1x512_S1x1x1x512_0_2_0_0).toLoadRect f9 = mAt (insOf A B C D x2 x3 x4 x5) 2 k.val (2 * k2.val + 1) := hp.m 2
theorem t2_lal2 : View.readAt (Elt F) J.view (Rect.unit (s := S2x2x4x1x512) ![0, 0, 2, 0, 0] S1x1x1x1x512.size inb_S2x2x4x1x512_S1x1x1x1x512_0_0_2_0_0).toLoadRect f10 = alAt (insOf A B C D x2 x3 x4 x5) 2 k.val (2 * k2.val) := hp.al 2
theorem t2_lacc2 : View.readAt (Elt F) K.view (Rect.unit (s := S2x4x128x512) ![0, 2, 0, 0] S1x1x128x512.size inb_S2x4x128x512_S1x1x128x512_0_2_0_0).toLoadRect f11 = accAt (insOf A B C D x2 x3 x4 x5) 2 k.val (2 * k2.val) := hp.acc 2
theorem t2_lkA3 : View.readAt (Elt F) B.view (Rect.unit (s := S4096x512) (k0_off30 k k2) S512x128.size (k0_off30_inb k k2 u)).toLoadRect x3 = (insOf A B C D x2 x3 x4 x5).k 3 (2 * k2.val) := rd_off _ _ _ _ (t2_kA3 k k2)
theorem t2_lkB3 : View.readAt (Elt F) B.view (Rect.unit (s := S4096x512) (k0_off38 k k2) S512x128.size (k0_off38_inb k k2 u)).toLoadRect x3 = (insOf A B C D x2 x3 x4 x5).k 3 (2 * k2.val + 1) := rd_off _ _ _ _ (t2_kB3 k k2)
theorem t2_lvA3 : View.readAt (Elt F) C.view (Rect.unit (s := S1x4x8x128x512) (k0_off34 k k2) S1x1x1x128x512.size (k0_off34_inb k k2 u)).toLoadRect x4 = (insOf A B C D x2 x3 x4 x5).v 3 (tix k.val (2 * k2.val)) := rd_off _ _ _ _ (t2_vA3 k k2)
theorem t2_lvB3 : View.readAt (Elt F) C.view (Rect.unit (s := S1x4x8x128x512) (k0_off42 k k2) S1x1x1x128x512.size (k0_off42_inb k k2 u)).toLoadRect x4 = (insOf A B C D x2 x3 x4 x5).v 3 (2 * k2.val) := rd_off _ _ _ _ (t2_vB3 k k2)
theorem t2_lq3 : View.readAt (Elt F) G.view (Rect.unit (s := S4x128x512) ![3, 0, 0] S1x128x512.size inb_S4x128x512_S1x128x512_3_0_0).toLoadRect f7 = qS ((insOf A B C D x2 x3 x4 x5).q 3 k.val) := hq 3
theorem t2_lp3 : View.readAt (Elt F) H.view (Rect.unit (s := S2x2x4x512x512) ![0, 0, 3, 0, 0] S1x1x1x512x512.size inb_S2x2x4x512x512_S1x1x1x512x512_0_0_3_0_0).toLoadRect f8 = pAt (insOf A B C D x2 x3 x4 x5) 3 k.val (2 * k2.val) := hp.p 3
theorem t2_lm3 : View.readAt (Elt F) I.view (Rect.unit (s := S2x4x1x512) ![0, 3, 0, 0] S1x1x1x512.size inb_S2x4x1x512_S1x1x1x512_0_3_0_0).toLoadRect f9 = mAt (insOf A B C D x2 x3 x4 x5) 3 k.val (2 * k2.val + 1) := hp.m 3
theorem t2_lal3 : View.readAt (Elt F) J.view (Rect.unit (s := S2x2x4x1x512) ![0, 0, 3, 0, 0] S1x1x1x1x512.size inb_S2x2x4x1x512_S1x1x1x1x512_0_0_3_0_0).toLoadRect f10 = alAt (insOf A B C D x2 x3 x4 x5) 3 k.val (2 * k2.val) := hp.al 3
theorem t2_lacc3 : View.readAt (Elt F) K.view (Rect.unit (s := S2x4x128x512) ![0, 3, 0, 0] S1x1x128x512.size inb_S2x4x128x512_S1x1x128x512_0_3_0_0).toLoadRect f11 = accAt (insOf A B C D x2 x3 x4 x5) 3 k.val (2 * k2.val) := hp.acc 3
theorem t2_v654 : v654 B G I J k u x3 f7 k2 f9 = alAt (insOf A B C D x2 x3 x4 x5) 0 k.val (2 * k2.val + 1) := by
  show View.readAt (Elt F) J.view (Rect.unit (s := S2x2x4x1x512) ![0, 1, 0, 0, 0] S1x1x1x1x512.size inb_S2x2x4x1x512_S1x1x1x1x512_0_1_0_0_0).toLoadRect (J.view.writes (Elt F) J.view.junk (HW_arg10_4 B G I k u x3 f7 k2 f9)) = _
  dsimp only [HW_arg10_4]
  iterate 3 refine miss (by decide) ?_
  refine hit (fun _ => rfl) ?_
  dsimp only [r_6, k0_pay82, r, k0_pay81, k0_pay79, k0_pay80, k0_pay73]
  rw [t2_lkA0 (u := u) hq hp, t2_lm0 (u := u) hq hp, t2_lq0 (u := u) hq hp]
  rfl
theorem t2_v656 : v656 C H J K k u x4 k2 f8 f10 f11 = accAt (insOf A B C D x2 x3 x4 x5) 0 k.val (2 * k2.val + 1) := by
  show View.readAt (Elt F) K.view (Rect.unit (s := S2x4x128x512) ![0, 0, 0, 0] S1x1x128x512.size inb_S2x4x128x512_S1x1x128x512_0_0_0_0).toLoadRect (K.view.writes (Elt F) K.view.junk (HW_arg11_4 C H J K k u x4 k2 f8 f10 f11)) = _
  dsimp only [HW_arg11_4]
  iterate 3 refine miss (by decide) ?_
  refine hit (fun _ => rfl) ?_
  dsimp only [k0_pay78]
  rw [t2_lacc0 (u := u) hq hp, t2_lal0 (u := u) hq hp, t2_lp0 (u := u) hq hp, t2_lvA0 (u := u) hq hp]
  rfl
theorem t2_v660 : v660 B G H I k u x3 f7 k2 f9 = pAt (insOf A B C D x2 x3 x4 x5) 0 k.val (2 * k2.val + 1) := by
  show View.readAt (Elt F) H.view (Rect.unit (s := S2x2x4x512x512) ![0, 1, 0, 0, 0] S1x1x1x512x512.size inb_S2x2x4x512x512_S1x1x1x512x512_0_1_0_0_0).toLoadRect (H.view.writes (Elt F) H.view.junk (HW_arg8_4 B G I k u x3 f7 k2 f9)) = _
  dsimp only [HW_arg8_4]
  iterate 3 refine miss (by decide) ?_
  refine hit (fun _ => rfl) ?_
  dsimp only [r, r_5, k0_pay83, k0_pay80, k0_pay79, k0_pay73]
  rw [t2_lkA0 (u := u) hq hp, t2_lm0 (u := u) hq hp, t2_lq0 (u := u) hq hp]
  rfl
theorem t2_v667 : v667 B G I k u x3 f7 k2 f9 = mAt (insOf A B C D x2 x3 x4 x5) 0 k.val (2 * k2.val + 1 + 1) := by
  show View.readAt (Elt F) I.view (Rect.unit (s := S2x4x1x512) ![0, 0, 0, 0] S1x1x1x512.size inb_S2x4x1x512_S1x1x1x512_0_0_0_0).toLoadRect (I.view.writes (Elt F) I.view.junk (HW_arg9_4 B G I k u x3 f7 k2 f9)) = _
  dsimp only [HW_arg9_4]
  iterate 3 refine miss (by decide) ?_
  refine hit (fun _ => rfl) ?_
  dsimp only [r_5, k0_pay84, r, k0_pay80, k0_pay79, k0_pay73]
  rw [t2_lkA0 (u := u) hq hp, t2_lm0 (u := u) hq hp, t2_lq0 (u := u) hq hp]
  rfl
theorem t2_v690 : v690 B G I J k u x3 f7 k2 f9 = alAt (insOf A B C D x2 x3 x4 x5) 1 k.val (2 * k2.val + 1) := by
  show View.readAt (Elt F) J.view (Rect.unit (s := S2x2x4x1x512) ![0, 1, 1, 0, 0] S1x1x1x1x512.size inb_S2x2x4x1x512_S1x1x1x1x512_0_1_1_0_0).toLoadRect (J.view.writes (Elt F) J.view.junk (HW_arg10_5 B G I k u x3 f7 k2 f9)) = _
  dsimp only [HW_arg10_5, HW_arg10_4]
  iterate 3 refine miss (by decide) ?_
  refine hit (fun _ => rfl) ?_
  dsimp only [r_1, v526, k0_pay89, k0_pay87, k0_pay88, k0_pay74]
  rw [t2_lkA1 (u := u) hq hp, t2_lm1 (u := u) hq hp, t2_lq1 (u := u) hq hp]
  rfl
theorem t2_v692 : v692 B C G H I J K k u x3 x4 f7 k2 f8 f9 f10 f11 = accAt (insOf A B C D x2 x3 x4 x5) 1 k.val (2 * k2.val + 1) := by
  show View.readAt (Elt F) K.view (Rect.unit (s := S2x4x128x512) ![0, 1, 0, 0] S1x1x128x512.size inb_S2x4x128x512_S1x1x128x512_0_1_0_0).toLoadRect (K.view.writes (Elt F) K.view.junk (HW_arg11_5 B C G H I J K k u x3 x4 f7 k2 f8 f9 f10 f11)) = _
  dsimp only [HW_arg11_5, HW_arg11_4]
  iterate 3 refine miss (by decide) ?_
  refine hit (fun _ => rfl) ?_
  dsimp only [r_7, k0_pay86, v513, v515, v519, k0_pay85]
  rw [t2_lacc1 (u := u) hq hp, t2_lal1 (u := u) hq hp, t2_lp1 (u := u) hq hp, t2_lvA1 (u := u) hq hp]
  rfl
theorem t2_v696 : v696 B G H I k u x3 f7 k2 f9 = pAt (insOf A B C D x2 x3 x4 x5) 1 k.val (2 * k2.val + 1) := by
  show View.readAt (Elt F) H.view (Rect.unit (s := S2x2x4x512x512) ![0, 1, 1, 0, 0] S1x1x1x512x512.size inb_S2x2x4x512x512_S1x1x1x512x512_0_1_1_0_0).toLoadRect (H.view.writes (Elt F) H.view.junk (HW_arg8_5 B G I k u x3 f7 k2 f9)) = _
  dsimp only [HW_arg8_5, HW_arg8_4]
  iterate 3 refine miss (by decide) ?_
  refine hit (fun _ => rfl) ?_
  dsimp only [r_1, v526, k0_pay90, k0_pay88, k0_pay87, k0_pay74]
  rw [t2_lkA1 (u := u) hq hp, t2_lm1 (u := u) hq hp, t2_lq1 (u := u) hq hp]
  rfl
theorem t2_v703 : v703 B G I k u x3 f7 k2 f9 = mAt (insOf A B C D x2 x3 x4 x5) 1 k.val (2 * k2.val + 1 + 1) := by
  show View.readAt (Elt F) I.view (Rect.unit (s := S2x4x1x512) ![0, 1, 0, 0] S1x1x1x512.size inb_S2x4x1x512_S1x1x1x512_0_1_0_0).toLoadRect (I.view.writes (Elt F) I.view.junk (HW_arg9_5 B G I k u x3 f7 k2 f9)) = _
  dsimp only [HW_arg9_5, HW_arg9_4]
  iterate 3 refine miss (by decide) ?_
  refine hit (fun _ => rfl) ?_
  dsimp only [r_1, v526, k0_pay91, k0_pay88, k0_pay87, k0_pay74]
  rw [t2_lkA1 (u := u) hq hp, t2_lm1 (u := u) hq hp, t2_lq1 (u := u) hq hp]
  rfl
theorem t2_v726 : v726 B G I J k u x3 f7 k2 f9 = alAt (insOf A B C D x2 x3 x4 x5) 2 k.val (2 * k2.val + 1) := by
  show View.readAt (Elt F) J.view (Rect.unit (s := S2x2x4x1x512) ![0, 1, 2, 0, 0] S1x1x1x1x512.size inb_S2x2x4x1x512_S1x1x1x1x512_0_1_2_0_0).toLoadRect (J.view.writes (Elt F) J.view.junk (HW_arg10_6 B G I k u x3 f7 k2 f9)) = _
  dsimp only [HW_arg10_6, HW_arg10_5, HW_arg10_4]
  iterate 3 refine miss (by decide) ?_
  refine hit (fun _ => rfl) ?_
  dsimp only [r_2, v562, k0_pay96, k0_pay94, k0_pay95, k0_pay75]
  rw [t2_lkA2 (u := u) hq hp, t2_lm2 (u := u) hq hp, t2_lq2 (u := u) hq hp]
  rfl
theorem t2_v728 : v728 B C G H I J K k u x3 x4 f7 k2 f8 f9 f10 f11 = accAt (insOf A B C D x2 x3 x4 x5) 2 k.val (2 * k2.val + 1) := by
  show View.readAt (Elt F) K.view (Rect.unit (s := S2x4x128x512) ![0, 2, 0, 0] S1x1x128x512.size inb_S2x4x128x512_S1x1x128x512_0_2_0_0).toLoadRect (K.view.writes (Elt F) K.view.junk (HW_arg11_6 B C G H I J K k u x3 x4 f7 k2 f8 f9 f10 f11)) = _
  dsimp only [HW_arg11_6, HW_arg11_5, HW_arg11_4]
  iterate 3 refine miss (by decide) ?_
  refine hit (fun _ => rfl) ?_
  dsimp only [r_8, v549, v551, v555, k0_pay93, k0_pay92]
  rw [t2_lacc2 (u := u) hq hp, t2_lal2 (u := u) hq hp, t2_lp2 (u := u) hq hp, t2_lvA2 (u := u) hq hp]
  rfl
theorem t2_v732 : v732 B G H I k u x3 f7 k2 f9 = pAt (insOf A B C D x2 x3 x4 x5) 2 k.val (2 * k2.val + 1) := by
  show View.readAt (Elt F) H.view (Rect.unit (s := S2x2x4x512x512) ![0, 1, 2, 0, 0] S1x1x1x512x512.size inb_S2x2x4x512x512_S1x1x1x512x512_0_1_2_0_0).toLoadRect (H.view.writes (Elt F) H.view.junk (HW_arg8_6 B G I k u x3 f7 k2 f9)) = _
  dsimp only [HW_arg8_6, HW_arg8_5, HW_arg8_4]
  iterate 3 refine miss (by decide) ?_
  refine hit (fun _ => rfl) ?_
  dsimp only [r_10, k0_pay98, r_2, v562, k0_pay97, k0_pay95, k0_pay94, k0_pay75]
  rw [t2_lkA2 (u := u) hq hp, t2_lm2 (u := u) hq hp, t2_lq2 (u := u) hq hp]
  rfl
theorem t2_v739 : v739 B G I k u x3 f7 k2 f9 = mAt (insOf A B C D x2 x3 x4 x5) 2 k.val (2 * k2.val + 1 + 1) := by
  show View.readAt (Elt F) I.view (Rect.unit (s := S2x4x1x512) ![0, 2, 0, 0] S1x1x1x512.size inb_S2x4x1x512_S1x1x1x512_0_2_0_0).toLoadRect (I.view.writes (Elt F) I.view.junk (HW_arg9_6 B G I k u x3 f7 k2 f9)) = _
  dsimp only [HW_arg9_6, HW_arg9_5, HW_arg9_4]
  iterate 3 refine miss (by decide) ?_
  refine hit (fun _ => rfl) ?_
  dsimp only [r_9, k0_pay99, r_2, v562, k0_pay95, k0_pay94, k0_pay75]
  rw [t2_lkA2 (u := u) hq hp, t2_lm2 (u := u) hq hp, t2_lq2 (u := u) hq hp]
  rfl
theorem t2_v762 : v762 B G I J k u x3 f7 k2 f9 = alAt (insOf A B C D x2 x3 x4 x5) 3 k.val (2 * k2.val + 1) := by
  show View.readAt (Elt F) J.view (Rect.unit (s := S2x2x4x1x512) ![0, 1, 3, 0, 0] S1x1x1x1x512.size inb_S2x2x4x1x512_S1x1x1x1x512_0_1_3_0_0).toLoadRect (J.view.writes (Elt F) J.view.junk (HW_arg10_7 B G I k u x3 f7 k2 f9)) = _
  dsimp only [HW_arg10_7, HW_arg10_6, HW_arg10_5, HW_arg10_4]
  iterate 3 refine miss (by decide) ?_
  refine hit (fun _ => rfl) ?_
  dsimp only [r_11, r_12, k0_pay103, r_4, v598, k0_pay102, k0_pay101, r_3, k0_pay77, k0_pay76]
  rw [t2_lkA3 (u := u) hq hp, t2_lm3 (u := u) hq hp, t2_lq3 (u := u) hq hp]
  rfl
theorem t2_v764 : v764 B C G H I J K k u x3 x4 f7 k2 f8 f9 f10 f11 = accAt (insOf A B C D x2 x3 x4 x5) 3 k.val (2 * k2.val + 1) := by
  show View.readAt (Elt F) K.view (Rect.unit (s := S2x4x128x512) ![0, 3, 0, 0] S1x1x128x512.size inb_S2x4x128x512_S1x1x128x512_0_3_0_0).toLoadRect (K.view.writes (Elt F) K.view.junk (HW_arg11_7 B C G H I J K k u x3 x4 f7 k2 f8 f9 f10 f11)) = _
  dsimp only [HW_arg11_7, HW_arg11_6, HW_arg11_5, HW_arg11_4]
  iterate 3 refine miss (by decide) ?_
  refine hit (fun _ => rfl) ?_
  dsimp only [v585, v587, v591, k0_pay100]
  rw [t2_lacc3 (u := u) hq hp, t2_lal3 (u := u) hq hp, t2_lp3 (u := u) hq hp, t2_lvA3 (u := u) hq hp]
  rfl
theorem t2_v768 : v768 B G H I k u x3 f7 k2 f9 = pAt (insOf A B C D x2 x3 x4 x5) 3 k.val (2 * k2.val + 1) := by
  show View.readAt (Elt F) H.view (Rect.unit (s := S2x2x4x512x512) ![0, 1, 3, 0, 0] S1x1x1x512x512.size inb_S2x2x4x512x512_S1x1x1x512x512_0_1_3_0_0).toLoadRect (H.view.writes (Elt F) H.view.junk (HW_arg8_7 B G I k u x3 f7 k2 f9)) = _
  dsimp only [HW_arg8_7, HW_arg8_6, HW_arg8_5, HW_arg8_4]
  iterate 3 refine miss (by decide) ?_
  refine hit (fun _ => rfl) ?_
  dsimp only [r_4, r_12, k0_pay104, v598, k0_pay102, k0_pay101, r_3, k0_pay77, k0_pay76]
  rw [t2_lkA3 (u := u) hq hp, t2_lm3 (u := u) hq hp, t2_lq3 (u := u) hq hp]
  rfl
theorem t2_v775 : v775 B G I k u x3 f7 k2 f9 = mAt (insOf A B C D x2 x3 x4 x5) 3 k.val (2 * k2.val + 1 + 1) := by
  show View.readAt (Elt F) I.view (Rect.unit (s := S2x4x1x512) ![0, 3, 0, 0] S1x1x1x512.size inb_S2x4x1x512_S1x1x1x512_0_3_0_0).toLoadRect (I.view.writes (Elt F) I.view.junk (HW_arg9_7 B G I k u x3 f7 k2 f9)) = _
  dsimp only [HW_arg9_7, HW_arg9_6, HW_arg9_5, HW_arg9_4]
  iterate 3 refine miss (by decide) ?_
  refine hit (fun _ => rfl) ?_
  dsimp only [r_12, k0_pay105, r_4, v598, k0_pay102, k0_pay101, r_3, k0_pay77, k0_pay76]
  rw [t2_lkA3 (u := u) hq hp, t2_lm3 (u := u) hq hp, t2_lq3 (u := u) hq hp]
  rfl
theorem t2_w8_0 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd8 H (H.view.writes (Elt F) f8 ((trip_k0_t2 (F := F) Y c bd i A hA B hB C hC D hD E hE G hG H hH I hI J hJ K hK L hL k w u x3 x4 f7 k2).1 f8 f9 f10 f11)) 0 0 0 = pAt (insOf A B C D x2 x3 x4 x5) 0 k.val (2 * k2.val + 2) := by
  unfold trip_k0_t2
  dsimp only [HW_arg8_7, HW_arg8_6, HW_arg8_5, HW_arg8_4]
  iterate 3 refine miss (by decide) ?_
  refine hit (fun _ => rfl) ?_
  dsimp only [r_13, k0_pay119, k0_pay117, k0_pay116, k0_pay106]
  rw [t2_lkB0 (u := u) hq hp, t2_lq0 (u := u) hq hp, t2_v667 (u := u) hq hp]
  rfl
theorem t2_w8_1 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd8 H (H.view.writes (Elt F) f8 ((trip_k0_t2 (F := F) Y c bd i A hA B hB C hC D hD E hE G hG H hH I hI J hJ K hK L hL k w u x3 x4 f7 k2).1 f8 f9 f10 f11)) 0 0 1 = pAt (insOf A B C D x2 x3 x4 x5) 1 k.val (2 * k2.val + 2) := by
  unfold trip_k0_t2
  dsimp only [HW_arg8_7, HW_arg8_6, HW_arg8_5, HW_arg8_4]
  iterate 2 refine miss (by decide) ?_
  refine hit (fun _ => rfl) ?_
  dsimp only [r_24, k0_pay127, r_16, k0_pay126, k0_pay124, k0_pay123, r_14, r_15, k0_pay109, k0_pay108, k0_pay107]
  rw [t2_lkB1 (u := u) hq hp, t2_lq1 (u := u) hq hp, t2_v703 (u := u) hq hp]
  rfl
theorem t2_w8_2 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd8 H (H.view.writes (Elt F) f8 ((trip_k0_t2 (F := F) Y c bd i A hA B hB C hC D hD E hE G hG H hH I hI J hJ K hK L hL k w u x3 x4 f7 k2).1 f8 f9 f10 f11)) 0 0 2 = pAt (insOf A B C D x2 x3 x4 x5) 2 k.val (2 * k2.val + 2) := by
  unfold trip_k0_t2
  dsimp only [HW_arg8_7, HW_arg8_6, HW_arg8_5, HW_arg8_4]
  iterate 1 refine miss (by decide) ?_
  refine hit (fun _ => rfl) ?_
  dsimp only [r_17, r_25, k0_pay133, k0_pay131, k0_pay130, k0_pay110]
  rw [t2_lkB2 (u := u) hq hp, t2_lq2 (u := u) hq hp, t2_v739 (u := u) hq hp]
  rfl
theorem t2_w8_3 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd8 H (H.view.writes (Elt F) f8 ((trip_k0_t2 (F := F) Y c bd i A hA B hB C hC D hD E hE G hG H hH I hI J hJ K hK L hL k w u x3 x4 f7 k2).1 f8 f9 f10 f11)) 0 0 3 = pAt (insOf A B C D x2 x3 x4 x5) 3 k.val (2 * k2.val + 2) := by
  unfold trip_k0_t2
  dsimp only [HW_arg8_7, HW_arg8_6, HW_arg8_5, HW_arg8_4]
  refine hit (fun _ => rfl) ?_
  dsimp only [r_29, k0_pay2, r_18, k0_pay141, k0_pay139, k0_pay138, k0_pay111]
  rw [t2_lkB3 (u := u) hq hp, t2_lq3 (u := u) hq hp, t2_v775 (u := u) hq hp]
  rfl
theorem t2_w9_0 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd9 I (I.view.writes (Elt F) f9 ((trip_k0_t2 (F := F) Y c bd i A hA B hB C hC D hD E hE G hG H hH I hI J hJ K hK L hL k w u x3 x4 f7 k2).2.1 f8 f9 f10 f11)) 0 0 = mAt (insOf A B C D x2 x3 x4 x5) 0 k.val (2 * k2.val + 2 + 1) := by
  unfold trip_k0_t2
  dsimp only [HW_arg9_7, HW_arg9_6, HW_arg9_5, HW_arg9_4]
  iterate 3 refine miss (by decide) ?_
  refine hit (fun _ => rfl) ?_
  dsimp only [r_13, k0_pay120, k0_pay117, k0_pay116, k0_pay106]
  rw [t2_lkB0 (u := u) hq hp, t2_lq0 (u := u) hq hp, t2_v667 (u := u) hq hp]
  rfl
theorem t2_w9_1 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd9 I (I.view.writes (Elt F) f9 ((trip_k0_t2 (F := F) Y c bd i A hA B hB C hC D hD E hE G hG H hH I hI J hJ K hK L hL k w u x3 x4 f7 k2).2.1 f8 f9 f10 f11)) 0 1 = mAt (insOf A B C D x2 x3 x4 x5) 1 k.val (2 * k2.val + 2 + 1) := by
  unfold trip_k0_t2
  dsimp only [HW_arg9_7, HW_arg9_6, HW_arg9_5, HW_arg9_4]
  iterate 2 refine miss (by decide) ?_
  refine hit (fun _ => rfl) ?_
  dsimp only [r_23, k0_pay128, r_16, k0_pay124, k0_pay123, r_14, r_15, k0_pay109, k0_pay108, k0_pay107]
  rw [t2_lkB1 (u := u) hq hp, t2_lq1 (u := u) hq hp, t2_v703 (u := u) hq hp]
  rfl
theorem t2_w9_2 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd9 I (I.view.writes (Elt F) f9 ((trip_k0_t2 (F := F) Y c bd i A hA B hB C hC D hD E hE G hG H hH I hI J hJ K hK L hL k w u x3 x4 f7 k2).2.1 f8 f9 f10 f11)) 0 2 = mAt (insOf A B C D x2 x3 x4 x5) 2 k.val (2 * k2.val + 2 + 1) := by
  unfold trip_k0_t2
  dsimp only [HW_arg9_7, HW_arg9_6, HW_arg9_5, HW_arg9_4]
  iterate 1 refine miss (by decide) ?_
  refine hit (fun _ => rfl) ?_
  dsimp only [r_17, r_25, k0_pay134, k0_pay131, k0_pay130, k0_pay110]
  rw [t2_lkB2 (u := u) hq hp, t2_lq2 (u := u) hq hp, t2_v739 (u := u) hq hp]
  rfl
theorem t2_w9_3 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd9 I (I.view.writes (Elt F) f9 ((trip_k0_t2 (F := F) Y c bd i A hA B hB C hC D hD E hE G hG H hH I hI J hJ K hK L hL k w u x3 x4 f7 k2).2.1 f8 f9 f10 f11)) 0 3 = mAt (insOf A B C D x2 x3 x4 x5) 3 k.val (2 * k2.val + 2 + 1) := by
  unfold trip_k0_t2
  dsimp only [HW_arg9_7, HW_arg9_6, HW_arg9_5, HW_arg9_4]
  refine hit (fun _ => rfl) ?_
  dsimp only [r_28, k0_pay3, r_18, k0_pay139, k0_pay138, k0_pay111]
  rw [t2_lkB3 (u := u) hq hp, t2_lq3 (u := u) hq hp, t2_v775 (u := u) hq hp]
  rfl
theorem t2_w10_0 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd10 J (J.view.writes (Elt F) f10 ((trip_k0_t2 (F := F) Y c bd i A hA B hB C hC D hD E hE G hG H hH I hI J hJ K hK L hL k w u x3 x4 f7 k2).2.2.1 f8 f9 f10 f11)) 0 0 0 = alAt (insOf A B C D x2 x3 x4 x5) 0 k.val (2 * k2.val + 2) := by
  unfold trip_k0_t2
  dsimp only [HW_arg10_7, HW_arg10_6, HW_arg10_5, HW_arg10_4]
  iterate 3 refine miss (by decide) ?_
  refine hit (fun _ => rfl) ?_
  dsimp only [r_13, k0_pay118, k0_pay116, k0_pay117, k0_pay106]
  rw [t2_lkB0 (u := u) hq hp, t2_lq0 (u := u) hq hp, t2_v667 (u := u) hq hp]
  rfl
theorem t2_w10_1 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd10 J (J.view.writes (Elt F) f10 ((trip_k0_t2 (F := F) Y c bd i A hA B hB C hC D hD E hE G hG H hH I hI J hJ K hK L hL k w u x3 x4 f7 k2).2.2.1 f8 f9 f10 f11)) 0 0 1 = alAt (insOf A B C D x2 x3 x4 x5) 1 k.val (2 * k2.val + 2) := by
  unfold trip_k0_t2
  dsimp only [HW_arg10_7, HW_arg10_6, HW_arg10_5, HW_arg10_4]
  iterate 2 refine miss (by decide) ?_
  refine hit (fun _ => rfl) ?_
  dsimp only [r_16, k0_pay125, k0_pay123, k0_pay124, r_14, r_15, k0_pay109, k0_pay108, k0_pay107]
  rw [t2_lkB1 (u := u) hq hp, t2_lq1 (u := u) hq hp, t2_v703 (u := u) hq hp]
  rfl
theorem t2_w10_2 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd10 J (J.view.writes (Elt F) f10 ((trip_k0_t2 (F := F) Y c bd i A hA B hB C hC D hD E hE G hG H hH I hI J hJ K hK L hL k w u x3 x4 f7 k2).2.2.1 f8 f9 f10 f11)) 0 0 2 = alAt (insOf A B C D x2 x3 x4 x5) 2 k.val (2 * k2.val + 2) := by
  unfold trip_k0_t2
  dsimp only [HW_arg10_7, HW_arg10_6, HW_arg10_5, HW_arg10_4]
  iterate 1 refine miss (by decide) ?_
  refine hit (fun _ => rfl) ?_
  dsimp only [r_17, r_25, k0_pay132, k0_pay131, k0_pay130, k0_pay110]
  rw [t2_lkB2 (u := u) hq hp, t2_lq2 (u := u) hq hp, t2_v739 (u := u) hq hp]
  rfl
theorem t2_w10_3 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd10 J (J.view.writes (Elt F) f10 ((trip_k0_t2 (F := F) Y c bd i A hA B hB C hC D hD E hE G hG H hH I hI J hJ K hK L hL k w u x3 x4 f7 k2).2.2.1 f8 f9 f10 f11)) 0 0 3 = alAt (insOf A B C D x2 x3 x4 x5) 3 k.val (2 * k2.val + 2) := by
  unfold trip_k0_t2
  dsimp only [HW_arg10_7, HW_arg10_6, HW_arg10_5, HW_arg10_4]
  refine hit (fun _ => rfl) ?_
  dsimp only [r_18, k0_pay140, k0_pay138, k0_pay139, k0_pay111]
  rw [t2_lkB3 (u := u) hq hp, t2_lq3 (u := u) hq hp, t2_v775 (u := u) hq hp]
  rfl
theorem t2_w11_0 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd11 K (K.view.writes (Elt F) f11 ((trip_k0_t2 (F := F) Y c bd i A hA B hB C hC D hD E hE G hG H hH I hI J hJ K hK L hL k w u x3 x4 f7 k2).2.2.2.1 f8 f9 f10 f11)) 0 0 = accAt (insOf A B C D x2 x3 x4 x5) 0 k.val (2 * k2.val + 2) := by
  unfold trip_k0_t2
  dsimp only [HW_arg11_7, HW_arg11_6, HW_arg11_5, HW_arg11_4]
  iterate 3 refine miss (by decide) ?_
  refine hit (fun _ => rfl) ?_
  dsimp only [r_19, r_20, r_21, cst_613, k0_pay115, k0_pay114, k0_pay113, k0_pay112]
  rw [t2_lvB0 (u := u) hq hp, t2_v660 (u := u) hq hp, t2_v654 (u := u) hq hp, t2_v656 (u := u) hq hp]
  rfl
theorem t2_w11_1 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd11 K (K.view.writes (Elt F) f11 ((trip_k0_t2 (F := F) Y c bd i A hA B hB C hC D hD E hE G hG H hH I hI J hJ K hK L hL k w u x3 x4 f7 k2).2.2.2.1 f8 f9 f10 f11)) 0 1 = accAt (insOf A B C D x2 x3 x4 x5) 1 k.val (2 * k2.val + 2) := by
  unfold trip_k0_t2
  dsimp only [HW_arg11_7, HW_arg11_6, HW_arg11_5, HW_arg11_4]
  iterate 2 refine miss (by decide) ?_
  refine hit (fun _ => rfl) ?_
  dsimp only [r_22, k0_pay122, k0_pay121]
  rw [t2_lvB1 (u := u) hq hp, t2_v690 (u := u) hq hp, t2_v692 (u := u) hq hp, t2_v696 (u := u) hq hp]
  rfl
theorem t2_w11_2 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd11 K (K.view.writes (Elt F) f11 ((trip_k0_t2 (F := F) Y c bd i A hA B hB C hC D hD E hE G hG H hH I hI J hJ K hK L hL k w u x3 x4 f7 k2).2.2.2.1 f8 f9 f10 f11)) 0 2 = accAt (insOf A B C D x2 x3 x4 x5) 2 k.val (2 * k2.val + 2) := by
  unfold trip_k0_t2
  dsimp only [HW_arg11_7, HW_arg11_6, HW_arg11_5, HW_arg11_4]
  iterate 1 refine miss (by decide) ?_
  refine hit (fun _ => rfl) ?_
  dsimp only [k0_pay129]
  rw [t2_lvB2 (u := u) hq hp, t2_v726 (u := u) hq hp, t2_v728 (u := u) hq hp, t2_v732 (u := u) hq hp]
  rfl
theorem t2_w11_3 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : rd11 K (K.view.writes (Elt F) f11 ((trip_k0_t2 (F := F) Y c bd i A hA B hB C hC D hD E hE G hG H hH I hI J hJ K hK L hL k w u x3 x4 f7 k2).2.2.2.1 f8 f9 f10 f11)) 0 3 = accAt (insOf A B C D x2 x3 x4 x5) 3 k.val (2 * k2.val + 2) := by
  unfold trip_k0_t2
  dsimp only [HW_arg11_7, HW_arg11_6, HW_arg11_5, HW_arg11_4]
  refine hit (fun _ => rfl) ?_
  dsimp only [r_26, r_27, k0_pay137, k0_pay136, k0_pay135]
  rw [t2_lvB3 (u := u) hq hp, t2_v768 (u := u) hq hp, t2_v762 (u := u) hq hp, t2_v764 (u := u) hq hp]
  rfl

/-- A trip of the loop takes the state after `2 k2` key tiles to the state after `2 k2 + 2`. -/
theorem t2_pend (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : Pend H I J K (insOf A B C D x2 x3 x4 x5) (H.view.writes (Elt F) f8 ((trip_k0_t2 (F := F) Y c bd i A hA B hB C hC D hD E hE G hG H hH I hI J hJ K hK L hL k w u x3 x4 f7 k2).1 f8 f9 f10 f11)) (I.view.writes (Elt F) f9 ((trip_k0_t2 (F := F) Y c bd i A hA B hB C hC D hD E hE G hG H hH I hI J hJ K hK L hL k w u x3 x4 f7 k2).2.1 f8 f9 f10 f11)) (J.view.writes (Elt F) f10 ((trip_k0_t2 (F := F) Y c bd i A hA B hB C hC D hD E hE G hG H hH I hI J hJ K hK L hL k w u x3 x4 f7 k2).2.2.1 f8 f9 f10 f11)) (K.view.writes (Elt F) f11 ((trip_k0_t2 (F := F) Y c bd i A hA B hB C hC D hD E hE G hG H hH I hI J hJ K hK L hL k w u x3 x4 f7 k2).2.2.2.1 f8 f9 f10 f11)) 0 0 k.val (2 * k2.val + 2) where
  m := by
    intro h
    fin_cases h
    exacts [t2_w9_0 (u := u) hq hp Y c bd i hA hB hC hD hE hG hH hI hJ hK hL w, t2_w9_1 (u := u) hq hp Y c bd i hA hB hC hD hE hG hH hI hJ hK hL w, t2_w9_2 (u := u) hq hp Y c bd i hA hB hC hD hE hG hH hI hJ hK hL w, t2_w9_3 (u := u) hq hp Y c bd i hA hB hC hD hE hG hH hI hJ hK hL w]
  al := by
    intro h
    fin_cases h
    exacts [t2_w10_0 (u := u) hq hp Y c bd i hA hB hC hD hE hG hH hI hJ hK hL w, t2_w10_1 (u := u) hq hp Y c bd i hA hB hC hD hE hG hH hI hJ hK hL w, t2_w10_2 (u := u) hq hp Y c bd i hA hB hC hD hE hG hH hI hJ hK hL w, t2_w10_3 (u := u) hq hp Y c bd i hA hB hC hD hE hG hH hI hJ hK hL w]
  p := by
    intro h
    fin_cases h
    exacts [t2_w8_0 (u := u) hq hp Y c bd i hA hB hC hD hE hG hH hI hJ hK hL w, t2_w8_1 (u := u) hq hp Y c bd i hA hB hC hD hE hG hH hI hJ hK hL w, t2_w8_2 (u := u) hq hp Y c bd i hA hB hC hD hE hG hH hI hJ hK hL w, t2_w8_3 (u := u) hq hp Y c bd i hA hB hC hD hE hG hH hI hJ hK hL w]
  acc := by
    intro h
    fin_cases h
    exacts [t2_w11_0 (u := u) hq hp Y c bd i hA hB hC hD hE hG hH hI hJ hK hL w, t2_w11_1 (u := u) hq hp Y c bd i hA hB hC hD hE hG hH hI hJ hK hL w, t2_w11_2 (u := u) hq hp Y c bd i hA hB hC hD hE hG hH hI hJ hK hL w, t2_w11_3 (u := u) hq hp Y c bd i hA hB hC hD hE hG hH hI hJ hK hL w]

end

section
variable {A : Memref sig .tc .vmem S1x4x8x128x512 .bf16} {B : Memref sig .tc .vmem S4096x512 .bf16} {C : Memref sig .tc .vmem S1x4x8x128x512 .bf16} {D : Memref sig .tc .vmem S2x512x512 .f32} {E : Memref sig .tc .vmem S4096x256 .bf16} {G : Memref sig .tc .vmem S4x128x512 .bf16} {H : Memref sig .tc .vmem S2x2x4x512x512 .bf16} {I : Memref sig .tc .vmem S2x4x1x512 .f32} {J : Memref sig .tc .vmem S2x2x4x1x512 .f32} {K : Memref sig .tc .vmem S2x4x128x512 .f32} {L : Memref sig .tc .vmem S2x8x512 .f32}
  {k : T1} {u : k0_cond3 k = 1#1} {x2 : BufTy.Contents (Elt F) A.view.ty} {x3 : BufTy.Contents (Elt F) B.view.ty} {x4 : BufTy.Contents (Elt F) C.view.ty} {x5 : BufTy.Contents (Elt F) D.view.ty} {f7 : BufTy.Contents (Elt F) G.view.ty}
  {f8 : BufTy.Contents (Elt F) H.view.ty} {f9 : BufTy.Contents (Elt F) I.view.ty} {f10 : BufTy.Contents (Elt F) J.view.ty} {f11 : BufTy.Contents (Elt F) K.view.ty}

/-- The loop takes the state after the diagonal tile to the state after twice as many tiles as trips. -/
theorem t2_loop (hq : QOk G (insOf A B C D x2 x3 x4 x5) f7 k.val) (hp : Pend H I J K (insOf A B C D x2 x3 x4 x5) f8 f9 f10 f11 0 0 k.val 0)
    (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w : BitVec 32) : ∀ n, n ≤ (k0_t2_loop k).trips → Pend H I J K (insOf A B C D x2 x3 x4 x5) (H.view.writes (Elt F) f8 (pb_k0_t2 (F := F) Y c bd i A hA B hB C hC D hD E hE G hG H hH I hI J hJ K hK L hL k w u x3 x4 f7 f8 f9 f10 f11 n).1) (I.view.writes (Elt F) f9 (pb_k0_t2 (F := F) Y c bd i A hA B hB C hC D hD E hE G hG H hH I hI J hJ K hK L hL k w u x3 x4 f7 f8 f9 f10 f11 n).2.1) (J.view.writes (Elt F) f10 (pb_k0_t2 (F := F) Y c bd i A hA B hB C hC D hD E hE G hG H hH I hI J hJ K hK L hL k w u x3 x4 f7 f8 f9 f10 f11 n).2.2.1) (K.view.writes (Elt F) f11 (pb_k0_t2 (F := F) Y c bd i A hA B hB C hC D hD E hE G hG H hH I hI J hJ K hK L hL k w u x3 x4 f7 f8 f9 f10 f11 n).2.2.2) 0 0 k.val (2 * n)
  | 0, _ => hp
  | n + 1, hn => by
    have hh := t2_pend (u := u) (k2 := ⟨n, hn⟩) hq (t2_loop hq hp Y c bd i hA hB hC hD hE hG hH hI hJ hK hL w n (Nat.le_of_succ_le hn)) Y c bd i hA hB hC hD hE hG hH hI hJ hK hL w
    rw [pb_k0_t2_succ Y c bd i A hA B hB C hC D hD E hE G hG H hH I hI J hJ K hK L hL k w u x3 x4 f7 f8 f9 f10 f11 ⟨n, hn⟩]
    simp only [View.writes_append]
    exact hh

end

end Cert.Flash
-- ==== Proof.FlashAfterEven.lean ====
module

public import proofs.«01_k».proof.Proof.FlashRead
public import proofs.«01_k».proof.Proof.FlashEven
public import proofs.«01_k».proof.Proof.FlashPairA

@[expose] public section

set_option maxRecDepth 8192
set_option maxHeartbeats 100000

/-! What a trip of the query-tile loop leaves (even trips), read off the pieces it writes. -/

noncomputable section

namespace Cert.Flash

open Cert.KernelIdeal Cert.KernelIdeal.Gen Idealize.ShloMosaic Idealize.ShloMosaic.TcCoe Idealize.SL Idealize.SL.RA Idealize.SL.BI
open Sem
open tripEven.sl

variable {F : FTy → Type} [FloatOps F]

theorem evn_off14 : ∀ k : T1, k0_cond3 k = 1#1 → k0_off14 k = ![0, (0 : Fin 4).val, (m8 k.val).val, 0, 0] := by decide +kernel
theorem evn_off18t : ∀ k : T1, k0_cond3 k = 1#1 → k0_off18 k 0#32 = ![512 * (m8 k.val).val, 128 * (0 : Fin 4).val] := by decide +kernel
theorem evn_off18b : ∀ k : T1, k0_cond3 k = 1#1 → k0_off18 k 256#32 = ![512 * (m8 k.val).val + 256, 128 * (0 : Fin 4).val] := by decide +kernel
theorem evn_off22 : ∀ k : T1, k0_cond3 k = 1#1 → k0_off22 k = ![0, (0 : Fin 4).val, (m8 (tix (k.val - 1) (k.val - 1))).val, 0, 0] := by decide +kernel
theorem evn_off15 : ∀ k : T1, k0_cond3 k = 1#1 → k0_off15 k = ![0, (1 : Fin 4).val, (m8 k.val).val, 0, 0] := by decide +kernel
theorem evn_off19t : ∀ k : T1, k0_cond3 k = 1#1 → k0_off19 k 0#32 = ![512 * (m8 k.val).val, 128 * (1 : Fin 4).val] := by decide +kernel
theorem evn_off19b : ∀ k : T1, k0_cond3 k = 1#1 → k0_off19 k 256#32 = ![512 * (m8 k.val).val + 256, 128 * (1 : Fin 4).val] := by decide +kernel
theorem evn_off23 : ∀ k : T1, k0_cond3 k = 1#1 → k0_off23 k = ![0, (1 : Fin 4).val, (m8 (tix (k.val - 1) (k.val - 1))).val, 0, 0] := by decide +kernel
theorem evn_off16 : ∀ k : T1, k0_cond3 k = 1#1 → k0_off16 k = ![0, (2 : Fin 4).val, (m8 k.val).val, 0, 0] := by decide +kernel
theorem evn_off20t : ∀ k : T1, k0_cond3 k = 1#1 → k0_off20 k 0#32 = ![512 * (m8 k.val).val, 128 * (2 : Fin 4).val] := by decide +kernel
theorem evn_off20b : ∀ k : T1, k0_cond3 k = 1#1 → k0_off20 k 256#32 = ![512 * (m8 k.val).val + 256, 128 * (2 : Fin 4).val] := by decide +kernel
theorem evn_off24 : ∀ k : T1, k0_cond3 k = 1#1 → k0_off24 k = ![0, (2 : Fin 4).val, (m8 (tix (k.val - 1) (k.val - 1))).val, 0, 0] := by decide +kernel
theorem evn_off17 : ∀ k : T1, k0_cond3 k = 1#1 → k0_off17 k = ![0, (3 : Fin 4).val, (m8 k.val).val, 0, 0] := by decide +kernel
theorem evn_off21t : ∀ k : T1, k0_cond3 k = 1#1 → k0_off21 k 0#32 = ![512 * (m8 k.val).val, 128 * (3 : Fin 4).val] := by decide +kernel
theorem evn_off21b : ∀ k : T1, k0_cond3 k = 1#1 → k0_off21 k 256#32 = ![512 * (m8 k.val).val + 256, 128 * (3 : Fin 4).val] := by decide +kernel
theorem evn_off25 : ∀ k : T1, k0_cond3 k = 1#1 → k0_off25 k = ![0, (3 : Fin 4).val, (m8 (tix (k.val - 1) (k.val - 1))).val, 0, 0] := by decide +kernel
theorem evn_trips : ∀ k : T1, k0_cond3 k = 1#1 → 2 * (k0_t2_loop k).trips = k.val := by decide +kernel
theorem evn_none : ∀ k : T1, k0_cond3 k = 1#1 → (k0_t3_loop k).trips = 0 := by decide +kernel
theorem evn_off26 : ∀ k : T1, k0_cond3 k = 1#1 → k0_off26 k = ![512 * (k.val - 1), 0] := by decide +kernel

section
variable {Y : Variants} {c : Dev nD} {bd : Option Y.V} {i : grid0.Coords} {A : Memref sig .tc .vmem S1x4x8x128x512 .bf16} {B : Memref sig .tc .vmem S4096x512 .bf16} {C : Memref sig .tc .vmem S1x4x8x128x512 .bf16} {D : Memref sig .tc .vmem S2x512x512 .f32} {E : Memref sig .tc .vmem S4096x256 .bf16} {G : Memref sig .tc .vmem S4x128x512 .bf16} {H : Memref sig .tc .vmem S2x2x4x512x512 .bf16} {I : Memref sig .tc .vmem S2x4x1x512 .f32} {J : Memref sig .tc .vmem S2x2x4x1x512 .f32} {K : Memref sig .tc .vmem S2x4x128x512 .f32} {L : Memref sig .tc .vmem S2x8x512 .f32}
  {hA : A.IsWhole} {hB : B.IsWhole} {hC : C.IsWhole} {hD : D.IsWhole} {hE : E.IsWhole} {hG : G.IsWhole} {hH : H.IsWhole} {hI : I.IsWhole} {hJ : J.IsWhole} {hK : K.IsWhole} {hL : L.IsWhole}
  {k : T1} {h3 : k0_cond3 k = 1#1} {x2 : BufTy.Contents (Elt F) A.view.ty} {x3 : BufTy.Contents (Elt F) B.view.ty} {x4 : BufTy.Contents (Elt F) C.view.ty} {x5 : BufTy.Contents (Elt F) D.view.ty} {f6 : BufTy.Contents (Elt F) E.view.ty} {f7 : BufTy.Contents (Elt F) G.view.ty}
  {f8 : BufTy.Contents (Elt F) H.view.ty} {f9 : BufTy.Contents (Elt F) I.view.ty} {f10 : BufTy.Contents (Elt F) J.view.ty} {f11 : BufTy.Contents (Elt F) K.view.ty}
  (hp : Pend H I J K (insOf A B C D x2 x3 x4 x5) f8 f9 f10 f11 1 1 (k.val - 1) (k.val - 1))
include hp h3

theorem evn_ld14 : View.readAt (Elt F) A.view (Rect.unit (s := S1x4x8x128x512) (k0_off14 k) S1x1x1x128x512.size (k0_off14_inb k h3)).toLoadRect x2 = (insOf A B C D x2 x3 x4 x5).q 0 k.val := rd_off _ _ _ _ (evn_off14 k h3)
theorem evn_ld18t : View.readAt (Elt F) B.view (Rect.unit (s := S4096x512) (k0_off18 k 0#32) S256x128.size (k0_off18_inb k h3 0)).toLoadRect x3 = (insOf A B C D x2 x3 x4 x5).kTop 0 k.val := rd_off _ _ _ _ (evn_off18t k h3)
theorem evn_ld18b : View.readAt (Elt F) B.view (Rect.unit (s := S4096x512) (k0_off18 k 256#32) S256x128.size (k0_off18_inb k h3 1)).toLoadRect x3 = (insOf A B C D x2 x3 x4 x5).kBot 0 k.val := rd_off _ _ _ _ (evn_off18b k h3)
theorem evn_ld22 : View.readAt (Elt F) C.view (Rect.unit (s := S1x4x8x128x512) (k0_off22 k) S1x1x1x128x512.size (k0_off22_inb k h3)).toLoadRect x4 = (insOf A B C D x2 x3 x4 x5).v 0 (tix (k.val - 1) (k.val - 1)) := rd_off _ _ _ _ (evn_off22 k h3)
theorem evn_ld15 : View.readAt (Elt F) A.view (Rect.unit (s := S1x4x8x128x512) (k0_off15 k) S1x1x1x128x512.size (k0_off15_inb k h3)).toLoadRect x2 = (insOf A B C D x2 x3 x4 x5).q 1 k.val := rd_off _ _ _ _ (evn_off15 k h3)
theorem evn_ld19t : View.readAt (Elt F) B.view (Rect.unit (s := S4096x512) (k0_off19 k 0#32) S256x128.size (k0_off19_inb k h3 0)).toLoadRect x3 = (insOf A B C D x2 x3 x4 x5).kTop 1 k.val := rd_off _ _ _ _ (evn_off19t k h3)
theorem evn_ld19b : View.readAt (Elt F) B.view (Rect.unit (s := S4096x512) (k0_off19 k 256#32) S256x128.size (k0_off19_inb k h3 1)).toLoadRect x3 = (insOf A B C D x2 x3 x4 x5).kBot 1 k.val := rd_off _ _ _ _ (evn_off19b k h3)
theorem evn_ld23 : View.readAt (Elt F) C.view (Rect.unit (s := S1x4x8x128x512) (k0_off23 k) S1x1x1x128x512.size (k0_off23_inb k h3)).toLoadRect x4 = (insOf A B C D x2 x3 x4 x5).v 1 (tix (k.val - 1) (k.val - 1)) := rd_off _ _ _ _ (evn_off23 k h3)
theorem evn_ld16 : View.readAt (Elt F) A.view (Rect.unit (s := S1x4x8x128x512) (k0_off16 k) S1x1x1x128x512.size (k0_off16_inb k h3)).toLoadRect x2 = (insOf A B C D x2 x3 x4 x5).q 2 k.val := rd_off _ _ _ _ (evn_off16 k h3)
theorem evn_ld20t : View.readAt (Elt F) B.view (Rect.unit (s := S4096x512) (k0_off20 k 0#32) S256x128.size (k0_off20_inb k h3 0)).toLoadRect x3 = (insOf A B C D x2 x3 x4 x5).kTop 2 k.val := rd_off _ _ _ _ (evn_off20t k h3)
theorem evn_ld20b : View.readAt (Elt F) B.view (Rect.unit (s := S4096x512) (k0_off20 k 256#32) S256x128.size (k0_off20_inb k h3 1)).toLoadRect x3 = (insOf A B C D x2 x3 x4 x5).kBot 2 k.val := rd_off _ _ _ _ (evn_off20b k h3)
theorem evn_ld24 : View.readAt (Elt F) C.view (Rect.unit (s := S1x4x8x128x512) (k0_off24 k) S1x1x1x128x512.size (k0_off24_inb k h3)).toLoadRect x4 = (insOf A B C D x2 x3 x4 x5).v 2 (tix (k.val - 1) (k.val - 1)) := rd_off _ _ _ _ (evn_off24 k h3)
theorem evn_ld17 : View.readAt (Elt F) A.view (Rect.unit (s := S1x4x8x128x512) (k0_off17 k) S1x1x1x128x512.size (k0_off17_inb k h3)).toLoadRect x2 = (insOf A B C D x2 x3 x4 x5).q 3 k.val := rd_off _ _ _ _ (evn_off17 k h3)
theorem evn_ld21t : View.readAt (Elt F) B.view (Rect.unit (s := S4096x512) (k0_off21 k 0#32) S256x128.size (k0_off21_inb k h3 0)).toLoadRect x3 = (insOf A B C D x2 x3 x4 x5).kTop 3 k.val := rd_off _ _ _ _ (evn_off21t k h3)
theorem evn_ld21b : View.readAt (Elt F) B.view (Rect.unit (s := S4096x512) (k0_off21 k 256#32) S256x128.size (k0_off21_inb k h3 1)).toLoadRect x3 = (insOf A B C D x2 x3 x4 x5).kBot 3 k.val := rd_off _ _ _ _ (evn_off21b k h3)
theorem evn_ld25 : View.readAt (Elt F) C.view (Rect.unit (s := S1x4x8x128x512) (k0_off25 k) S1x1x1x128x512.size (k0_off25_inb k h3)).toLoadRect x4 = (insOf A B C D x2 x3 x4 x5).v 3 (tix (k.val - 1) (k.val - 1)) := rd_off _ _ _ _ (evn_off25 k h3)
theorem evn_ldbt : View.readAt (Elt F) D.view (Rect.unit (s := S2x512x512) ![0, 0, 0] S1x256x512.size inb_S2x512x512_S1x256x512_0_0_0).toLoadRect x5 = (insOf A B C D x2 x3 x4 x5).bTop := rfl
theorem evn_ldbb : View.readAt (Elt F) D.view (Rect.unit (s := S2x512x512) ![0, 256, 256] S1x256x256.size inb_S2x512x512_S1x256x256_0_256_256).toLoadRect x5 = (insOf A B C D x2 x3 x4 x5).bBot := rfl
theorem evn_v95 : v95 (F := F) A G k h3 x2 = qS ((insOf A B C D x2 x3 x4 x5).q 0 k.val) := by
  unfold v95
  refine (rc_eq _ _ _).trans ?_
  dsimp only [HW7_4]
  iterate 3 refine miss (by decide) ?_
  refine hit (fun _ => rfl) ?_
  dsimp only [v54, v51]
  rw [evn_ld14 (h3 := h3) hp]
  all_goals rfl
theorem evn_v118 : v118 (F := F) A G k h3 x2 = qS ((insOf A B C D x2 x3 x4 x5).q 1 k.val) := by
  unfold v118
  refine (rc_eq _ _ _).trans ?_
  dsimp only [HW7_4]
  iterate 2 refine miss (by decide) ?_
  refine hit (fun _ => rfl) ?_
  dsimp only [v60, v57]
  rw [evn_ld15 (h3 := h3) hp]
  all_goals rfl
theorem evn_v141 : v141 (F := F) A G k h3 x2 = qS ((insOf A B C D x2 x3 x4 x5).q 2 k.val) := by
  unfold v141
  refine (rc_eq _ _ _).trans ?_
  dsimp only [HW7_4]
  iterate 1 refine miss (by decide) ?_
  refine hit (fun _ => rfl) ?_
  dsimp only [v63, k0_pay224]
  rw [evn_ld16 (h3 := h3) hp]
  all_goals rfl
theorem evn_v164 : v164 (F := F) A G k h3 x2 = qS ((insOf A B C D x2 x3 x4 x5).q 3 k.val) := by
  unfold v164
  refine (rc_eq _ _ _).trans ?_
  dsimp only [HW7_4]
  refine hit (fun _ => rfl) ?_
  dsimp only [k0_pay225]
  rw [evn_ld17 (h3 := h3) hp]
  all_goals rfl
theorem evn_v180 : v180 (F := F) K f11 = accAt (insOf A B C D x2 x3 x4 x5) 0 (k.val - 1) (k.val - 1) := by
  unfold v180
  try dsimp only
  exact hp.acc 0
theorem evn_v197 : v197 (F := F) I = mInit := by
  unfold v197
  refine (rc_eq _ _ _).trans ?_
  dsimp only [HW9_1]
  dsimp only [k0_pay226]
  refine (rd_const (Val := Elt F) (e := .f32) _ _ _ _ _ _ ?_ (Scalar.ofBits (F := F) .f32 0xFF800000#32) ?_).trans ?_
  · decide
  · intro x; rfl
  · rfl
theorem evn_v231 : v231 (F := F) J f10 = alAt (insOf A B C D x2 x3 x4 x5) 1 (k.val - 1) (k.val - 1) := by
  unfold v231
  try dsimp only
  exact hp.al 1
theorem evn_v233 : v233 (F := F) K f11 = accAt (insOf A B C D x2 x3 x4 x5) 1 (k.val - 1) (k.val - 1) := by
  unfold v233
  try dsimp only
  exact hp.acc 1
theorem evn_v237 : v237 (F := F) H f8 = pAt (insOf A B C D x2 x3 x4 x5) 1 (k.val - 1) (k.val - 1) := by
  unfold v237
  try dsimp only
  exact hp.p 1
theorem evn_v250 : v250 (F := F) A B D G I k h3 x2 x3 x5 = mInit := by
  unfold v250
  refine (rc_eq _ _ _).trans ?_
  dsimp only [HW9_2, HW9_1]
  iterate 1 refine miss (by decide) ?_
  dsimp only [k0_pay226]
  refine (rd_const (Val := Elt F) (e := .f32) _ _ _ _ _ _ ?_ (Scalar.ofBits (F := F) .f32 0xFF800000#32) ?_).trans ?_
  · decide
  · intro x; rfl
  · rfl
theorem evn_v284 : v284 (F := F) J f10 = alAt (insOf A B C D x2 x3 x4 x5) 2 (k.val - 1) (k.val - 1) := by
  unfold v284
  try dsimp only
  exact hp.al 2
theorem evn_v286 : v286 (F := F) K f11 = accAt (insOf A B C D x2 x3 x4 x5) 2 (k.val - 1) (k.val - 1) := by
  unfold v286
  try dsimp only
  exact hp.acc 2
theorem evn_v290 : v290 (F := F) H f8 = pAt (insOf A B C D x2 x3 x4 x5) 2 (k.val - 1) (k.val - 1) := by
  unfold v290
  try dsimp only
  exact hp.p 2
theorem evn_v303 : v303 (F := F) A B D G I k h3 x2 x3 x5 = mInit := by
  unfold v303
  refine (rc_eq _ _ _).trans ?_
  dsimp only [HW9_3, HW9_2, HW9_1]
  iterate 2 refine miss (by decide) ?_
  dsimp only [k0_pay226]
  refine (rd_const (Val := Elt F) (e := .f32) _ _ _ _ _ _ ?_ (Scalar.ofBits (F := F) .f32 0xFF800000#32) ?_).trans ?_
  · decide
  · intro x; rfl
  · rfl
theorem evn_v337 : v337 (F := F) J f10 = alAt (insOf A B C D x2 x3 x4 x5) 3 (k.val - 1) (k.val - 1) := by
  unfold v337
  try dsimp only
  exact hp.al 3
theorem evn_v339 : v339 (F := F) K f11 = accAt (insOf A B C D x2 x3 x4 x5) 3 (k.val - 1) (k.val - 1) := by
  unfold v339
  try dsimp only
  exact hp.acc 3
theorem evn_v343 : v343 (F := F) H f8 = pAt (insOf A B C D x2 x3 x4 x5) 3 (k.val - 1) (k.val - 1) := by
  unfold v343
  try dsimp only
  exact hp.p 3
theorem evn_v356 : v356 (F := F) A B D G I k h3 x2 x3 x5 = mInit := by
  unfold v356
  refine (rc_eq _ _ _).trans ?_
  dsimp only [HW9_4, HW9_3, HW9_2, HW9_1]
  iterate 3 refine miss (by decide) ?_
  dsimp only [k0_pay226]
  refine (rd_const (Val := Elt F) (e := .f32) _ _ _ _ _ _ ?_ (Scalar.ofBits (F := F) .f32 0xFF800000#32) ?_).trans ?_
  · decide
  · intro x; rfl
  · rfl
theorem evn_v388 : v388 (F := F) C H J K k h3 x4 f8 f10 f11 = accAt (insOf A B C D x2 x3 x4 x5) 0 (k.val - 1) ((k.val - 1) + 1) := by
  unfold v388
  refine (rc_eq _ _ _).trans ?_
  dsimp only [HW11_5]
  iterate 3 refine miss (by decide) ?_
  refine hit (fun _ => rfl) ?_
  dsimp only [r_11, k0_pay244, k0_pay243]
  rw [evn_ld22 (h3 := h3) hp, evn_v180 (h3 := h3) hp, show View.readAt (Elt F) J.view (Rect.unit (s := S2x2x4x1x512) ![1, 1, 0, 0, 0] S1x1x1x1x512.size inb_S2x2x4x1x512_S1x1x1x1x512_1_1_0_0_0).toLoadRect f10 = _ from hp.al 0, show View.readAt (Elt F) H.view (Rect.unit (s := S2x2x4x512x512) ![1, 1, 0, 0, 0] S1x1x1x512x512.size inb_S2x2x4x512x512_S1x1x1x512x512_1_1_0_0_0).toLoadRect f8 = _ from hp.p 0]
  all_goals rfl
theorem evn_v396 : v396 (F := F) C H J K k h3 x4 f8 f10 f11 = accAt (insOf A B C D x2 x3 x4 x5) 1 (k.val - 1) ((k.val - 1) + 1) := by
  unfold v396
  refine (rc_eq _ _ _).trans ?_
  dsimp only [HW11_5]
  iterate 2 refine miss (by decide) ?_
  refine hit (fun _ => rfl) ?_
  dsimp only [k0_pay252]
  rw [evn_ld23 (h3 := h3) hp, evn_v231 (h3 := h3) hp, evn_v233 (h3 := h3) hp, evn_v237 (h3 := h3) hp]
  all_goals rfl
theorem evn_v404 : v404 (F := F) C H J K k h3 x4 f8 f10 f11 = accAt (insOf A B C D x2 x3 x4 x5) 2 (k.val - 1) ((k.val - 1) + 1) := by
  unfold v404
  refine (rc_eq _ _ _).trans ?_
  dsimp only [HW11_5]
  iterate 1 refine miss (by decide) ?_
  refine hit (fun _ => rfl) ?_
  dsimp only [k0_pay262]
  rw [evn_ld24 (h3 := h3) hp, evn_v284 (h3 := h3) hp, evn_v286 (h3 := h3) hp, evn_v290 (h3 := h3) hp]
  all_goals rfl
theorem evn_v412 : v412 (F := F) C H J K k h3 x4 f8 f10 f11 = accAt (insOf A B C D x2 x3 x4 x5) 3 (k.val - 1) ((k.val - 1) + 1) := by
  unfold v412
  refine (rc_eq _ _ _).trans ?_
  dsimp only [HW11_5]
  refine hit (fun _ => rfl) ?_
  dsimp only [k0_pay273]
  rw [evn_ld25 (h3 := h3) hp, evn_v337 (h3 := h3) hp, evn_v339 (h3 := h3) hp, evn_v343 (h3 := h3) hp]
  all_goals rfl
theorem evn_d8_0 (g : BufTy.Contents (Elt F) H.view.ty) : rd8 H (H.view.writes (Elt F) g [⟨Rect.unit ![0, 0, 3, 256, 0] S1x1x1x256x256.size inb_S2x2x4x512x512_S1x1x1x256x256_0_0_3_256_0, k0_pay281⟩, ⟨Rect.unit ![0, 0, 3, 256, 256] S1x1x1x256x256.size inb_S2x2x4x512x512_S1x1x1x256x256_0_0_3_256_256, k0_pay280 (r_10 A B D G k h3 x2 x3 x5) (r_18 A B D G k h3 x2 x3 x5) (r_19 A B D G k h3 x2 x3 x5) (v356 A B D G I k h3 x2 x3 x5)⟩, ⟨Rect.unit ![0, 0, 3, 0, 0] S1x1x1x256x512.size inb_S2x2x4x512x512_S1x1x1x256x512_0_0_3_0_0, k0_pay279 (r_9 A B D G k h3 x2 x3 x5) (r_18 A B D G k h3 x2 x3 x5) (r_19 A B D G k h3 x2 x3 x5) (v356 A B D G I k h3 x2 x3 x5)⟩, ⟨Rect.unit ![0, 0, 2, 256, 0] S1x1x1x256x256.size inb_S2x2x4x512x512_S1x1x1x256x256_0_0_2_256_0, k0_pay271⟩, ⟨Rect.unit ![0, 0, 2, 256, 256] S1x1x1x256x256.size inb_S2x2x4x512x512_S1x1x1x256x256_0_0_2_256_256, k0_pay270 (r_7 A B D G k h3 x2 x3 x5) (r_15 A B D G k h3 x2 x3 x5) (r_16 A B D G k h3 x2 x3 x5) k0_pay265 (v303 A B D G I k h3 x2 x3 x5)⟩, ⟨Rect.unit ![0, 0, 2, 0, 0] S1x1x1x256x512.size inb_S2x2x4x512x512_S1x1x1x256x512_0_0_2_0_0, k0_pay269 (r_6 A B D G k h3 x2 x3 x5) (r_15 A B D G k h3 x2 x3 x5) (r_16 A B D G k h3 x2 x3 x5) k0_pay265 (v303 A B D G I k h3 x2 x3 x5)⟩, ⟨Rect.unit ![0, 0, 1, 256, 0] S1x1x1x256x256.size inb_S2x2x4x512x512_S1x1x1x256x256_0_0_1_256_0, k0_pay260 k0_pay259⟩, ⟨Rect.unit ![0, 0, 1, 256, 256] S1x1x1x256x256.size inb_S2x2x4x512x512_S1x1x1x256x256_0_0_1_256_256, k0_pay258 (r_5 A B D G k h3 x2 x3 x5) (r_13 A B D G k h3 x2 x3 x5) (v250 A B D G I k h3 x2 x3 x5)⟩, ⟨Rect.unit ![0, 0, 1, 0, 0] S1x1x1x256x512.size inb_S2x2x4x512x512_S1x1x1x256x512_0_0_1_0_0, k0_pay257 (r_3 A B D G k h3 x2 x3 x5) (r_5 A B D G k h3 x2 x3 x5) (r_13 A B D G k h3 x2 x3 x5) (v250 A B D G I k h3 x2 x3 x5)⟩, ⟨Rect.unit ![0, 0, 0, 256, 0] S1x1x1x256x256.size inb_S2x2x4x512x512_S1x1x1x256x256_0_0_0_256_0, k0_pay250 cst_169⟩, ⟨Rect.unit ![0, 0, 0, 256, 256] S1x1x1x256x256.size inb_S2x2x4x512x512_S1x1x1x256x256_0_0_0_256_256, k0_pay249 (r_1 A B D G k h3 x2 x3 x5) (r_2 A B D G k h3 x2 x3 x5) (v197 I)⟩, ⟨Rect.unit ![0, 0, 0, 0, 0] S1x1x1x256x512.size inb_S2x2x4x512x512_S1x1x1x256x512_0_0_0_0_0, k0_pay248 (r_1 A B D G k h3 x2 x3 x5) (r_2 A B D G k h3 x2 x3 x5) (v197 I)⟩]) 0 0 0 = pAt (insOf A B C D x2 x3 x4 x5) 0 k.val 0 := by
  try dsimp only
  iterate 9 refine miss (by decide) ?_
  refine (rd_mask _ _ 0 0 _ _ _ _ _ _ _ _ (fun _ => rfl)).trans ?_
  dsimp only [r_1, r_2, k0_pay249, k0_pay248, k0_pay246, k0_pay245, k0_pay231, k0_pay229, r, k0_pay230, k0_pay228]
  rw [evn_ld18b (h3 := h3) hp, evn_ld18t (h3 := h3) hp, evn_ldbb (h3 := h3) hp, evn_ldbt (h3 := h3) hp, evn_v197 (h3 := h3) hp, evn_v95 (h3 := h3) hp]
  all_goals rfl
theorem evn_d8_1 (g : BufTy.Contents (Elt F) H.view.ty) : rd8 H (H.view.writes (Elt F) g [⟨Rect.unit ![0, 0, 3, 256, 0] S1x1x1x256x256.size inb_S2x2x4x512x512_S1x1x1x256x256_0_0_3_256_0, k0_pay281⟩, ⟨Rect.unit ![0, 0, 3, 256, 256] S1x1x1x256x256.size inb_S2x2x4x512x512_S1x1x1x256x256_0_0_3_256_256, k0_pay280 (r_10 A B D G k h3 x2 x3 x5) (r_18 A B D G k h3 x2 x3 x5) (r_19 A B D G k h3 x2 x3 x5) (v356 A B D G I k h3 x2 x3 x5)⟩, ⟨Rect.unit ![0, 0, 3, 0, 0] S1x1x1x256x512.size inb_S2x2x4x512x512_S1x1x1x256x512_0_0_3_0_0, k0_pay279 (r_9 A B D G k h3 x2 x3 x5) (r_18 A B D G k h3 x2 x3 x5) (r_19 A B D G k h3 x2 x3 x5) (v356 A B D G I k h3 x2 x3 x5)⟩, ⟨Rect.unit ![0, 0, 2, 256, 0] S1x1x1x256x256.size inb_S2x2x4x512x512_S1x1x1x256x256_0_0_2_256_0, k0_pay271⟩, ⟨Rect.unit ![0, 0, 2, 256, 256] S1x1x1x256x256.size inb_S2x2x4x512x512_S1x1x1x256x256_0_0_2_256_256, k0_pay270 (r_7 A B D G k h3 x2 x3 x5) (r_15 A B D G k h3 x2 x3 x5) (r_16 A B D G k h3 x2 x3 x5) k0_pay265 (v303 A B D G I k h3 x2 x3 x5)⟩, ⟨Rect.unit ![0, 0, 2, 0, 0] S1x1x1x256x512.size inb_S2x2x4x512x512_S1x1x1x256x512_0_0_2_0_0, k0_pay269 (r_6 A B D G k h3 x2 x3 x5) (r_15 A B D G k h3 x2 x3 x5) (r_16 A B D G k h3 x2 x3 x5) k0_pay265 (v303 A B D G I k h3 x2 x3 x5)⟩, ⟨Rect.unit ![0, 0, 1, 256, 0] S1x1x1x256x256.size inb_S2x2x4x512x512_S1x1x1x256x256_0_0_1_256_0, k0_pay260 k0_pay259⟩, ⟨Rect.unit ![0, 0, 1, 256, 256] S1x1x1x256x256.size inb_S2x2x4x512x512_S1x1x1x256x256_0_0_1_256_256, k0_pay258 (r_5 A B D G k h3 x2 x3 x5) (r_13 A B D G k h3 x2 x3 x5) (v250 A B D G I k h3 x2 x3 x5)⟩, ⟨Rect.unit ![0, 0, 1, 0, 0] S1x1x1x256x512.size inb_S2x2x4x512x512_S1x1x1x256x512_0_0_1_0_0, k0_pay257 (r_3 A B D G k h3 x2 x3 x5) (r_5 A B D G k h3 x2 x3 x5) (r_13 A B D G k h3 x2 x3 x5) (v250 A B D G I k h3 x2 x3 x5)⟩, ⟨Rect.unit ![0, 0, 0, 256, 0] S1x1x1x256x256.size inb_S2x2x4x512x512_S1x1x1x256x256_0_0_0_256_0, k0_pay250 cst_169⟩, ⟨Rect.unit ![0, 0, 0, 256, 256] S1x1x1x256x256.size inb_S2x2x4x512x512_S1x1x1x256x256_0_0_0_256_256, k0_pay249 (r_1 A B D G k h3 x2 x3 x5) (r_2 A B D G k h3 x2 x3 x5) (v197 I)⟩, ⟨Rect.unit ![0, 0, 0, 0, 0] S1x1x1x256x512.size inb_S2x2x4x512x512_S1x1x1x256x512_0_0_0_0_0, k0_pay248 (r_1 A B D G k h3 x2 x3 x5) (r_2 A B D G k h3 x2 x3 x5) (v197 I)⟩]) 0 0 1 = pAt (insOf A B C D x2 x3 x4 x5) 1 k.val 0 := by
  try dsimp only
  iterate 6 refine miss (by decide) ?_
  refine (rd_mask _ _ 0 1 _ _ _ _ _ _ _ _ (fun _ => rfl)).trans ?_
  dsimp only [r_5, r_13, r_3, k0_pay258, k0_pay257, k0_pay255, k0_pay254, k0_pay233, k0_pay232, k0_pay253, r_4, k0_pay235, k0_pay234]
  rw [evn_ld19b (h3 := h3) hp, evn_ld19t (h3 := h3) hp, evn_ldbb (h3 := h3) hp, evn_ldbt (h3 := h3) hp, evn_v250 (h3 := h3) hp, evn_v118 (h3 := h3) hp]
  all_goals rfl
theorem evn_d8_2 (g : BufTy.Contents (Elt F) H.view.ty) : rd8 H (H.view.writes (Elt F) g [⟨Rect.unit ![0, 0, 3, 256, 0] S1x1x1x256x256.size inb_S2x2x4x512x512_S1x1x1x256x256_0_0_3_256_0, k0_pay281⟩, ⟨Rect.unit ![0, 0, 3, 256, 256] S1x1x1x256x256.size inb_S2x2x4x512x512_S1x1x1x256x256_0_0_3_256_256, k0_pay280 (r_10 A B D G k h3 x2 x3 x5) (r_18 A B D G k h3 x2 x3 x5) (r_19 A B D G k h3 x2 x3 x5) (v356 A B D G I k h3 x2 x3 x5)⟩, ⟨Rect.unit ![0, 0, 3, 0, 0] S1x1x1x256x512.size inb_S2x2x4x512x512_S1x1x1x256x512_0_0_3_0_0, k0_pay279 (r_9 A B D G k h3 x2 x3 x5) (r_18 A B D G k h3 x2 x3 x5) (r_19 A B D G k h3 x2 x3 x5) (v356 A B D G I k h3 x2 x3 x5)⟩, ⟨Rect.unit ![0, 0, 2, 256, 0] S1x1x1x256x256.size inb_S2x2x4x512x512_S1x1x1x256x256_0_0_2_256_0, k0_pay271⟩, ⟨Rect.unit ![0, 0, 2, 256, 256] S1x1x1x256x256.size inb_S2x2x4x512x512_S1x1x1x256x256_0_0_2_256_256, k0_pay270 (r_7 A B D G k h3 x2 x3 x5) (r_15 A B D G k h3 x2 x3 x5) (r_16 A B D G k h3 x2 x3 x5) k0_pay265 (v303 A B D G I k h3 x2 x3 x5)⟩, ⟨Rect.unit ![0, 0, 2, 0, 0] S1x1x1x256x512.size inb_S2x2x4x512x512_S1x1x1x256x512_0_0_2_0_0, k0_pay269 (r_6 A B D G k h3 x2 x3 x5) (r_15 A B D G k h3 x2 x3 x5) (r_16 A B D G k h3 x2 x3 x5) k0_pay265 (v303 A B D G I k h3 x2 x3 x5)⟩, ⟨Rect.unit ![0, 0, 1, 256, 0] S1x1x1x256x256.size inb_S2x2x4x512x512_S1x1x1x256x256_0_0_1_256_0, k0_pay260 k0_pay259⟩, ⟨Rect.unit ![0, 0, 1, 256, 256] S1x1x1x256x256.size inb_S2x2x4x512x512_S1x1x1x256x256_0_0_1_256_256, k0_pay258 (r_5 A B D G k h3 x2 x3 x5) (r_13 A B D G k h3 x2 x3 x5) (v250 A B D G I k h3 x2 x3 x5)⟩, ⟨Rect.unit ![0, 0, 1, 0, 0] S1x1x1x256x512.size inb_S2x2x4x512x512_S1x1x1x256x512_0_0_1_0_0, k0_pay257 (r_3 A B D G k h3 x2 x3 x5) (r_5 A B D G k h3 x2 x3 x5) (r_13 A B D G k h3 x2 x3 x5) (v250 A B D G I k h3 x2 x3 x5)⟩, ⟨Rect.unit ![0, 0, 0, 256, 0] S1x1x1x256x256.size inb_S2x2x4x512x512_S1x1x1x256x256_0_0_0_256_0, k0_pay250 cst_169⟩, ⟨Rect.unit ![0, 0, 0, 256, 256] S1x1x1x256x256.size inb_S2x2x4x512x512_S1x1x1x256x256_0_0_0_256_256, k0_pay249 (r_1 A B D G k h3 x2 x3 x5) (r_2 A B D G k h3 x2 x3 x5) (v197 I)⟩, ⟨Rect.unit ![0, 0, 0, 0, 0] S1x1x1x256x512.size inb_S2x2x4x512x512_S1x1x1x256x512_0_0_0_0_0, k0_pay248 (r_1 A B D G k h3 x2 x3 x5) (r_2 A B D G k h3 x2 x3 x5) (v197 I)⟩]) 0 0 2 = pAt (insOf A B C D x2 x3 x4 x5) 2 k.val 0 := by
  try dsimp only
  iterate 3 refine miss (by decide) ?_
  refine (rd_mask _ _ 0 2 _ _ _ _ _ _ _ _ (fun _ => rfl)).trans ?_
  dsimp only [r_7, r_15, r_16, r_6, k0_pay270, k0_pay265, k0_pay269, k0_pay267, k0_pay266, k0_pay237, k0_pay236, k0_pay264, k0_pay263, k0_pay238]
  rw [evn_ld20b (h3 := h3) hp, evn_ld20t (h3 := h3) hp, evn_ldbb (h3 := h3) hp, evn_ldbt (h3 := h3) hp, evn_v303 (h3 := h3) hp, evn_v141 (h3 := h3) hp]
  all_goals rfl
theorem evn_d8_3 (g : BufTy.Contents (Elt F) H.view.ty) : rd8 H (H.view.writes (Elt F) g [⟨Rect.unit ![0, 0, 3, 256, 0] S1x1x1x256x256.size inb_S2x2x4x512x512_S1x1x1x256x256_0_0_3_256_0, k0_pay281⟩, ⟨Rect.unit ![0, 0, 3, 256, 256] S1x1x1x256x256.size inb_S2x2x4x512x512_S1x1x1x256x256_0_0_3_256_256, k0_pay280 (r_10 A B D G k h3 x2 x3 x5) (r_18 A B D G k h3 x2 x3 x5) (r_19 A B D G k h3 x2 x3 x5) (v356 A B D G I k h3 x2 x3 x5)⟩, ⟨Rect.unit ![0, 0, 3, 0, 0] S1x1x1x256x512.size inb_S2x2x4x512x512_S1x1x1x256x512_0_0_3_0_0, k0_pay279 (r_9 A B D G k h3 x2 x3 x5) (r_18 A B D G k h3 x2 x3 x5) (r_19 A B D G k h3 x2 x3 x5) (v356 A B D G I k h3 x2 x3 x5)⟩, ⟨Rect.unit ![0, 0, 2, 256, 0] S1x1x1x256x256.size inb_S2x2x4x512x512_S1x1x1x256x256_0_0_2_256_0, k0_pay271⟩, ⟨Rect.unit ![0, 0, 2, 256, 256] S1x1x1x256x256.size inb_S2x2x4x512x512_S1x1x1x256x256_0_0_2_256_256, k0_pay270 (r_7 A B D G k h3 x2 x3 x5) (r_15 A B D G k h3 x2 x3 x5) (r_16 A B D G k h3 x2 x3 x5) k0_pay265 (v303 A B D G I k h3 x2 x3 x5)⟩, ⟨Rect.unit ![0, 0, 2, 0, 0] S1x1x1x256x512.size inb_S2x2x4x512x512_S1x1x1x256x512_0_0_2_0_0, k0_pay269 (r_6 A B D G k h3 x2 x3 x5) (r_15 A B D G k h3 x2 x3 x5) (r_16 A B D G k h3 x2 x3 x5) k0_pay265 (v303 A B D G I k h3 x2 x3 x5)⟩, ⟨Rect.unit ![0, 0, 1, 256, 0] S1x1x1x256x256.size inb_S2x2x4x512x512_S1x1x1x256x256_0_0_1_256_0, k0_pay260 k0_pay259⟩, ⟨Rect.unit ![0, 0, 1, 256, 256] S1x1x1x256x256.size inb_S2x2x4x512x512_S1x1x1x256x256_0_0_1_256_256, k0_pay258 (r_5 A B D G k h3 x2 x3 x5) (r_13 A B D G k h3 x2 x3 x5) (v250 A B D G I k h3 x2 x3 x5)⟩, ⟨Rect.unit ![0, 0, 1, 0, 0] S1x1x1x256x512.size inb_S2x2x4x512x512_S1x1x1x256x512_0_0_1_0_0, k0_pay257 (r_3 A B D G k h3 x2 x3 x5) (r_5 A B D G k h3 x2 x3 x5) (r_13 A B D G k h3 x2 x3 x5) (v250 A B D G I k h3 x2 x3 x5)⟩, ⟨Rect.unit ![0, 0, 0, 256, 0] S1x1x1x256x256.size inb_S2x2x4x512x512_S1x1x1x256x256_0_0_0_256_0, k0_pay250 cst_169⟩, ⟨Rect.unit ![0, 0, 0, 256, 256] S1x1x1x256x256.size inb_S2x2x4x512x512_S1x1x1x256x256_0_0_0_256_256, k0_pay249 (r_1 A B D G k h3 x2 x3 x5) (r_2 A B D G k h3 x2 x3 x5) (v197 I)⟩, ⟨Rect.unit ![0, 0, 0, 0, 0] S1x1x1x256x512.size inb_S2x2x4x512x512_S1x1x1x256x512_0_0_0_0_0, k0_pay248 (r_1 A B D G k h3 x2 x3 x5) (r_2 A B D G k h3 x2 x3 x5) (v197 I)⟩]) 0 0 3 = pAt (insOf A B C D x2 x3 x4 x5) 3 k.val 0 := by
  try dsimp only
  refine (rd_mask _ _ 0 3 _ _ _ _ _ _ _ _ (fun _ => rfl)).trans ?_
  dsimp only [r_10, r_18, r_19, r_9, k0_pay280, k0_pay279, k0_pay277, k0_pay276, r_8, k0_pay241, k0_pay240, k0_pay239, k0_pay275, k0_pay274, k0_pay242]
  rw [evn_ld21b (h3 := h3) hp, evn_ld21t (h3 := h3) hp, evn_ldbb (h3 := h3) hp, evn_ldbt (h3 := h3) hp, evn_v356 (h3 := h3) hp, evn_v164 (h3 := h3) hp]
  all_goals rfl
theorem evn_d9_0 (g : BufTy.Contents (Elt F) I.view.ty) : rd9 I (I.view.writes (Elt F) g (⟨Rect.unit ![0, 3, 0, 0] S1x1x1x512.size inb_S2x4x1x512_S1x1x1x512_0_3_0_0, k0_pay282 (r_18 A B D G k h3 x2 x3 x5) (r_19 A B D G k h3 x2 x3 x5) (v356 A B D G I k h3 x2 x3 x5)⟩ :: HW9_4 A B D G I k h3 x2 x3 x5)) 0 0 = mAt (insOf A B C D x2 x3 x4 x5) 0 k.val 1 := by
  dsimp only [HW9_4, HW9_3, HW9_2, HW9_1]
  iterate 3 refine miss (by decide) ?_
  refine hit (fun _ => rfl) ?_
  dsimp only [r_12, k0_pay251, r_1, r_2, k0_pay246, k0_pay245, k0_pay231, k0_pay229, r, k0_pay230, k0_pay228]
  rw [evn_ld18b (h3 := h3) hp, evn_ld18t (h3 := h3) hp, evn_ldbb (h3 := h3) hp, evn_ldbt (h3 := h3) hp, evn_v197 (h3 := h3) hp, evn_v95 (h3 := h3) hp]
  all_goals rfl
theorem evn_d9_1 (g : BufTy.Contents (Elt F) I.view.ty) : rd9 I (I.view.writes (Elt F) g (⟨Rect.unit ![0, 3, 0, 0] S1x1x1x512.size inb_S2x4x1x512_S1x1x1x512_0_3_0_0, k0_pay282 (r_18 A B D G k h3 x2 x3 x5) (r_19 A B D G k h3 x2 x3 x5) (v356 A B D G I k h3 x2 x3 x5)⟩ :: HW9_4 A B D G I k h3 x2 x3 x5)) 0 1 = mAt (insOf A B C D x2 x3 x4 x5) 1 k.val 1 := by
  dsimp only [HW9_4, HW9_3, HW9_2, HW9_1]
  iterate 2 refine miss (by decide) ?_
  refine hit (fun _ => rfl) ?_
  dsimp only [r_14, k0_pay261, r_5, r_13, k0_pay255, k0_pay254, r_3, k0_pay253, k0_pay233, k0_pay232, r_4, k0_pay235, k0_pay234]
  rw [evn_ld19b (h3 := h3) hp, evn_ld19t (h3 := h3) hp, evn_ldbb (h3 := h3) hp, evn_ldbt (h3 := h3) hp, evn_v250 (h3 := h3) hp, evn_v118 (h3 := h3) hp]
  all_goals rfl
theorem evn_d9_2 (g : BufTy.Contents (Elt F) I.view.ty) : rd9 I (I.view.writes (Elt F) g (⟨Rect.unit ![0, 3, 0, 0] S1x1x1x512.size inb_S2x4x1x512_S1x1x1x512_0_3_0_0, k0_pay282 (r_18 A B D G k h3 x2 x3 x5) (r_19 A B D G k h3 x2 x3 x5) (v356 A B D G I k h3 x2 x3 x5)⟩ :: HW9_4 A B D G I k h3 x2 x3 x5)) 0 2 = mAt (insOf A B C D x2 x3 x4 x5) 2 k.val 1 := by
  dsimp only [HW9_4, HW9_3, HW9_2, HW9_1]
  iterate 1 refine miss (by decide) ?_
  refine hit (fun _ => rfl) ?_
  dsimp only [r_17, k0_pay272, r_15, r_16, k0_pay267, k0_pay265, k0_pay266, r_7, k0_pay264, k0_pay238, k0_pay236, r_6, k0_pay263, k0_pay237]
  rw [evn_ld20b (h3 := h3) hp, evn_ld20t (h3 := h3) hp, evn_ldbb (h3 := h3) hp, evn_ldbt (h3 := h3) hp, evn_v303 (h3 := h3) hp, evn_v141 (h3 := h3) hp]
  all_goals rfl
theorem evn_d9_3 (g : BufTy.Contents (Elt F) I.view.ty) : rd9 I (I.view.writes (Elt F) g (⟨Rect.unit ![0, 3, 0, 0] S1x1x1x512.size inb_S2x4x1x512_S1x1x1x512_0_3_0_0, k0_pay282 (r_18 A B D G k h3 x2 x3 x5) (r_19 A B D G k h3 x2 x3 x5) (v356 A B D G I k h3 x2 x3 x5)⟩ :: HW9_4 A B D G I k h3 x2 x3 x5)) 0 3 = mAt (insOf A B C D x2 x3 x4 x5) 3 k.val 1 := by
  dsimp only [HW9_4, HW9_3, HW9_2, HW9_1]
  refine hit (fun _ => rfl) ?_
  dsimp only [r_18, r_19, k0_pay282, k0_pay277, k0_pay276, r_10, k0_pay275, k0_pay242, k0_pay240, r_9, k0_pay274, r_8, k0_pay241, k0_pay239]
  rw [evn_ld21b (h3 := h3) hp, evn_ld21t (h3 := h3) hp, evn_ldbb (h3 := h3) hp, evn_ldbt (h3 := h3) hp, evn_v356 (h3 := h3) hp, evn_v164 (h3 := h3) hp]
  all_goals rfl
theorem evn_d10_0 (g : BufTy.Contents (Elt F) J.view.ty) : rd10 J (J.view.writes (Elt F) g [⟨Rect.unit ![0, 0, 3, 0, 0] S1x1x1x1x512.size inb_S2x2x4x1x512_S1x1x1x1x512_0_0_3_0_0, k0_pay278 (r_18 A B D G k h3 x2 x3 x5) (r_19 A B D G k h3 x2 x3 x5) (v356 A B D G I k h3 x2 x3 x5)⟩, ⟨Rect.unit ![0, 0, 2, 0, 0] S1x1x1x1x512.size inb_S2x2x4x1x512_S1x1x1x1x512_0_0_2_0_0, k0_pay268 (r_15 A B D G k h3 x2 x3 x5) (r_16 A B D G k h3 x2 x3 x5) k0_pay265 (v303 A B D G I k h3 x2 x3 x5)⟩, ⟨Rect.unit ![0, 0, 1, 0, 0] S1x1x1x1x512.size inb_S2x2x4x1x512_S1x1x1x1x512_0_0_1_0_0, k0_pay256 (r_5 A B D G k h3 x2 x3 x5) (r_13 A B D G k h3 x2 x3 x5) (v250 A B D G I k h3 x2 x3 x5)⟩, ⟨Rect.unit ![0, 0, 0, 0, 0] S1x1x1x1x512.size inb_S2x2x4x1x512_S1x1x1x1x512_0_0_0_0_0, k0_pay247 (r_1 A B D G k h3 x2 x3 x5) (r_2 A B D G k h3 x2 x3 x5) (v197 I)⟩]) 0 0 0 = alAt (insOf A B C D x2 x3 x4 x5) 0 k.val 0 := by
  try dsimp only
  iterate 3 refine miss (by decide) ?_
  refine hit (fun _ => rfl) ?_
  dsimp only [r_1, r_2, k0_pay247, k0_pay245, k0_pay246, k0_pay231, k0_pay229, r, k0_pay230, k0_pay228]
  rw [evn_ld18b (h3 := h3) hp, evn_ld18t (h3 := h3) hp, evn_ldbb (h3 := h3) hp, evn_ldbt (h3 := h3) hp, evn_v197 (h3 := h3) hp, evn_v95 (h3 := h3) hp]
  all_goals rfl
theorem evn_d10_1 (g : BufTy.Contents (Elt F) J.view.ty) : rd10 J (J.view.writes (Elt F) g [⟨Rect.unit ![0, 0, 3, 0, 0] S1x1x1x1x512.size inb_S2x2x4x1x512_S1x1x1x1x512_0_0_3_0_0, k0_pay278 (r_18 A B D G k h3 x2 x3 x5) (r_19 A B D G k h3 x2 x3 x5) (v356 A B D G I k h3 x2 x3 x5)⟩, ⟨Rect.unit ![0, 0, 2, 0, 0] S1x1x1x1x512.size inb_S2x2x4x1x512_S1x1x1x1x512_0_0_2_0_0, k0_pay268 (r_15 A B D G k h3 x2 x3 x5) (r_16 A B D G k h3 x2 x3 x5) k0_pay265 (v303 A B D G I k h3 x2 x3 x5)⟩, ⟨Rect.unit ![0, 0, 1, 0, 0] S1x1x1x1x512.size inb_S2x2x4x1x512_S1x1x1x1x512_0_0_1_0_0, k0_pay256 (r_5 A B D G k h3 x2 x3 x5) (r_13 A B D G k h3 x2 x3 x5) (v250 A B D G I k h3 x2 x3 x5)⟩, ⟨Rect.unit ![0, 0, 0, 0, 0] S1x1x1x1x512.size inb_S2x2x4x1x512_S1x1x1x1x512_0_0_0_0_0, k0_pay247 (r_1 A B D G k h3 x2 x3 x5) (r_2 A B D G k h3 x2 x3 x5) (v197 I)⟩]) 0 0 1 = alAt (insOf A B C D x2 x3 x4 x5) 1 k.val 0 := by
  try dsimp only
  iterate 2 refine miss (by decide) ?_
  refine hit (fun _ => rfl) ?_
  dsimp only [r_5, r_13, k0_pay256, k0_pay254, k0_pay255, r_3, k0_pay253, k0_pay233, k0_pay232, r_4, k0_pay235, k0_pay234]
  rw [evn_ld19b (h3 := h3) hp, evn_ld19t (h3 := h3) hp, evn_ldbb (h3 := h3) hp, evn_ldbt (h3 := h3) hp, evn_v250 (h3 := h3) hp, evn_v118 (h3 := h3) hp]
  all_goals rfl
theorem evn_d10_2 (g : BufTy.Contents (Elt F) J.view.ty) : rd10 J (J.view.writes (Elt F) g [⟨Rect.unit ![0, 0, 3, 0, 0] S1x1x1x1x512.size inb_S2x2x4x1x512_S1x1x1x1x512_0_0_3_0_0, k0_pay278 (r_18 A B D G k h3 x2 x3 x5) (r_19 A B D G k h3 x2 x3 x5) (v356 A B D G I k h3 x2 x3 x5)⟩, ⟨Rect.unit ![0, 0, 2, 0, 0] S1x1x1x1x512.size inb_S2x2x4x1x512_S1x1x1x1x512_0_0_2_0_0, k0_pay268 (r_15 A B D G k h3 x2 x3 x5) (r_16 A B D G k h3 x2 x3 x5) k0_pay265 (v303 A B D G I k h3 x2 x3 x5)⟩, ⟨Rect.unit ![0, 0, 1, 0, 0] S1x1x1x1x512.size inb_S2x2x4x1x512_S1x1x1x1x512_0_0_1_0_0, k0_pay256 (r_5 A B D G k h3 x2 x3 x5) (r_13 A B D G k h3 x2 x3 x5) (v250 A B D G I k h3 x2 x3 x5)⟩, ⟨Rect.unit ![0, 0, 0, 0, 0] S1x1x1x1x512.size inb_S2x2x4x1x512_S1x1x1x1x512_0_0_0_0_0, k0_pay247 (r_1 A B D G k h3 x2 x3 x5) (r_2 A B D G k h3 x2 x3 x5) (v197 I)⟩]) 0 0 2 = alAt (insOf A B C D x2 x3 x4 x5) 2 k.val 0 := by
  try dsimp only
  iterate 1 refine miss (by decide) ?_
  refine hit (fun _ => rfl) ?_
  dsimp only [r_15, r_16, k0_pay268, k0_pay265, k0_pay266, k0_pay267, r_7, k0_pay264, k0_pay238, k0_pay236, r_6, k0_pay263, k0_pay237]
  rw [evn_ld20b (h3 := h3) hp, evn_ld20t (h3 := h3) hp, evn_ldbb (h3 := h3) hp, evn_ldbt (h3 := h3) hp, evn_v303 (h3 := h3) hp, evn_v141 (h3 := h3) hp]
  all_goals rfl
theorem evn_d10_3 (g : BufTy.Contents (Elt F) J.view.ty) : rd10 J (J.view.writes (Elt F) g [⟨Rect.unit ![0, 0, 3, 0, 0] S1x1x1x1x512.size inb_S2x2x4x1x512_S1x1x1x1x512_0_0_3_0_0, k0_pay278 (r_18 A B D G k h3 x2 x3 x5) (r_19 A B D G k h3 x2 x3 x5) (v356 A B D G I k h3 x2 x3 x5)⟩, ⟨Rect.unit ![0, 0, 2, 0, 0] S1x1x1x1x512.size inb_S2x2x4x1x512_S1x1x1x1x512_0_0_2_0_0, k0_pay268 (r_15 A B D G k h3 x2 x3 x5) (r_16 A B D G k h3 x2 x3 x5) k0_pay265 (v303 A B D G I k h3 x2 x3 x5)⟩, ⟨Rect.unit ![0, 0, 1, 0, 0] S1x1x1x1x512.size inb_S2x2x4x1x512_S1x1x1x1x512_0_0_1_0_0, k0_pay256 (r_5 A B D G k h3 x2 x3 x5) (r_13 A B D G k h3 x2 x3 x5) (v250 A B D G I k h3 x2 x3 x5)⟩, ⟨Rect.unit ![0, 0, 0, 0, 0] S1x1x1x1x512.size inb_S2x2x4x1x512_S1x1x1x1x512_0_0_0_0_0, k0_pay247 (r_1 A B D G k h3 x2 x3 x5) (r_2 A B D G k h3 x2 x3 x5) (v197 I)⟩]) 0 0 3 = alAt (insOf A B C D x2 x3 x4 x5) 3 k.val 0 := by
  try dsimp only
  refine hit (fun _ => rfl) ?_
  dsimp only [r_18, r_19, k0_pay278, k0_pay276, k0_pay277, r_10, k0_pay275, k0_pay242, k0_pay240, r_9, k0_pay274, r_8, k0_pay241, k0_pay239]
  rw [evn_ld21b (h3 := h3) hp, evn_ld21t (h3 := h3) hp, evn_ldbb (h3 := h3) hp, evn_ldbt (h3 := h3) hp, evn_v356 (h3 := h3) hp, evn_v164 (h3 := h3) hp]
  all_goals rfl
theorem evn_d11_0 (g : BufTy.Contents (Elt F) K.view.ty) : rd11 K (K.view.writes (Elt F) g (HW11_5 C H J K k h3 x4 f8 f10 f11)) 0 0 = accAt (insOf A B C D x2 x3 x4 x5) 0 k.val 0 := by
  dsimp only [HW11_5]
  iterate 4 refine miss (by decide) ?_
  dsimp only [k0_pay227]
  refine (rd_const (Val := Elt F) (e := .f32) _ _ _ _ _ _ ?_ (Scalar.ofBits (F := F) .f32 0x00000000#32) ?_).trans ?_
  · decide
  · intro x; rfl
  · rfl
theorem evn_d11_1 (g : BufTy.Contents (Elt F) K.view.ty) : rd11 K (K.view.writes (Elt F) g (HW11_5 C H J K k h3 x4 f8 f10 f11)) 0 1 = accAt (insOf A B C D x2 x3 x4 x5) 1 k.val 0 := by
  dsimp only [HW11_5]
  iterate 4 refine miss (by decide) ?_
  dsimp only [k0_pay227]
  refine (rd_const (Val := Elt F) (e := .f32) _ _ _ _ _ _ ?_ (Scalar.ofBits (F := F) .f32 0x00000000#32) ?_).trans ?_
  · decide
  · intro x; rfl
  · rfl
theorem evn_d11_2 (g : BufTy.Contents (Elt F) K.view.ty) : rd11 K (K.view.writes (Elt F) g (HW11_5 C H J K k h3 x4 f8 f10 f11)) 0 2 = accAt (insOf A B C D x2 x3 x4 x5) 2 k.val 0 := by
  dsimp only [HW11_5]
  iterate 4 refine miss (by decide) ?_
  dsimp only [k0_pay227]
  refine (rd_const (Val := Elt F) (e := .f32) _ _ _ _ _ _ ?_ (Scalar.ofBits (F := F) .f32 0x00000000#32) ?_).trans ?_
  · decide
  · intro x; rfl
  · rfl
theorem evn_d11_3 (g : BufTy.Contents (Elt F) K.view.ty) : rd11 K (K.view.writes (Elt F) g (HW11_5 C H J K k h3 x4 f8 f10 f11)) 0 3 = accAt (insOf A B C D x2 x3 x4 x5) 3 k.val 0 := by
  dsimp only [HW11_5]
  iterate 4 refine miss (by decide) ?_
  dsimp only [k0_pay227]
  refine (rd_const (Val := Elt F) (e := .f32) _ _ _ _ _ _ ?_ (Scalar.ofBits (F := F) .f32 0x00000000#32) ?_).trans ?_
  · decide
  · intro x; rfl
  · rfl
theorem evn_q_0 (g : BufTy.Contents (Elt F) G.view.ty) : rd7 G (G.view.writes (Elt F) g (HW7_4 A k h3 x2)) 0 = qS ((insOf A B C D x2 x3 x4 x5).q 0 k.val) := by
  dsimp only [HW7_4]
  iterate 3 refine miss (by decide) ?_
  refine hit (fun _ => rfl) ?_
  dsimp only [v54, v51]
  rw [evn_ld14 (h3 := h3) hp]
  all_goals rfl
theorem evn_q_1 (g : BufTy.Contents (Elt F) G.view.ty) : rd7 G (G.view.writes (Elt F) g (HW7_4 A k h3 x2)) 1 = qS ((insOf A B C D x2 x3 x4 x5).q 1 k.val) := by
  dsimp only [HW7_4]
  iterate 2 refine miss (by decide) ?_
  refine hit (fun _ => rfl) ?_
  dsimp only [v60, v57]
  rw [evn_ld15 (h3 := h3) hp]
  all_goals rfl
theorem evn_q_2 (g : BufTy.Contents (Elt F) G.view.ty) : rd7 G (G.view.writes (Elt F) g (HW7_4 A k h3 x2)) 2 = qS ((insOf A B C D x2 x3 x4 x5).q 2 k.val) := by
  dsimp only [HW7_4]
  iterate 1 refine miss (by decide) ?_
  refine hit (fun _ => rfl) ?_
  dsimp only [v63, k0_pay224]
  rw [evn_ld16 (h3 := h3) hp]
  all_goals rfl
theorem evn_q_3 (g : BufTy.Contents (Elt F) G.view.ty) : rd7 G (G.view.writes (Elt F) g (HW7_4 A k h3 x2)) 3 = qS ((insOf A B C D x2 x3 x4 x5).q 3 k.val) := by
  dsimp only [HW7_4]
  refine hit (fun _ => rfl) ?_
  dsimp only [k0_pay225]
  rw [evn_ld17 (h3 := h3) hp]
  all_goals rfl
/-- The queries kept are the tile's own. -/
theorem evn_q : QOk G (insOf A B C D x2 x3 x4 x5) (G.view.writes (Elt F) G.view.junk (HW7_4 A k h3 x2)) k.val := by
  intro h
  fin_cases h
  exacts [evn_q_0 (h3 := h3) hp _, evn_q_1 (h3 := h3) hp _, evn_q_2 (h3 := h3) hp _, evn_q_3 (h3 := h3) hp _]
/-- The scratch after the diagonal tile. -/
theorem evn_pend0 : Pend H I J K (insOf A B C D x2 x3 x4 x5) (H.view.writes (Elt F) f8 [⟨Rect.unit ![0, 0, 3, 256, 0] S1x1x1x256x256.size inb_S2x2x4x512x512_S1x1x1x256x256_0_0_3_256_0, k0_pay281⟩, ⟨Rect.unit ![0, 0, 3, 256, 256] S1x1x1x256x256.size inb_S2x2x4x512x512_S1x1x1x256x256_0_0_3_256_256, k0_pay280 (r_10 A B D G k h3 x2 x3 x5) (r_18 A B D G k h3 x2 x3 x5) (r_19 A B D G k h3 x2 x3 x5) (v356 A B D G I k h3 x2 x3 x5)⟩, ⟨Rect.unit ![0, 0, 3, 0, 0] S1x1x1x256x512.size inb_S2x2x4x512x512_S1x1x1x256x512_0_0_3_0_0, k0_pay279 (r_9 A B D G k h3 x2 x3 x5) (r_18 A B D G k h3 x2 x3 x5) (r_19 A B D G k h3 x2 x3 x5) (v356 A B D G I k h3 x2 x3 x5)⟩, ⟨Rect.unit ![0, 0, 2, 256, 0] S1x1x1x256x256.size inb_S2x2x4x512x512_S1x1x1x256x256_0_0_2_256_0, k0_pay271⟩, ⟨Rect.unit ![0, 0, 2, 256, 256] S1x1x1x256x256.size inb_S2x2x4x512x512_S1x1x1x256x256_0_0_2_256_256, k0_pay270 (r_7 A B D G k h3 x2 x3 x5) (r_15 A B D G k h3 x2 x3 x5) (r_16 A B D G k h3 x2 x3 x5) k0_pay265 (v303 A B D G I k h3 x2 x3 x5)⟩, ⟨Rect.unit ![0, 0, 2, 0, 0] S1x1x1x256x512.size inb_S2x2x4x512x512_S1x1x1x256x512_0_0_2_0_0, k0_pay269 (r_6 A B D G k h3 x2 x3 x5) (r_15 A B D G k h3 x2 x3 x5) (r_16 A B D G k h3 x2 x3 x5) k0_pay265 (v303 A B D G I k h3 x2 x3 x5)⟩, ⟨Rect.unit ![0, 0, 1, 256, 0] S1x1x1x256x256.size inb_S2x2x4x512x512_S1x1x1x256x256_0_0_1_256_0, k0_pay260 k0_pay259⟩, ⟨Rect.unit ![0, 0, 1, 256, 256] S1x1x1x256x256.size inb_S2x2x4x512x512_S1x1x1x256x256_0_0_1_256_256, k0_pay258 (r_5 A B D G k h3 x2 x3 x5) (r_13 A B D G k h3 x2 x3 x5) (v250 A B D G I k h3 x2 x3 x5)⟩, ⟨Rect.unit ![0, 0, 1, 0, 0] S1x1x1x256x512.size inb_S2x2x4x512x512_S1x1x1x256x512_0_0_1_0_0, k0_pay257 (r_3 A B D G k h3 x2 x3 x5) (r_5 A B D G k h3 x2 x3 x5) (r_13 A B D G k h3 x2 x3 x5) (v250 A B D G I k h3 x2 x3 x5)⟩, ⟨Rect.unit ![0, 0, 0, 256, 0] S1x1x1x256x256.size inb_S2x2x4x512x512_S1x1x1x256x256_0_0_0_256_0, k0_pay250 cst_169⟩, ⟨Rect.unit ![0, 0, 0, 256, 256] S1x1x1x256x256.size inb_S2x2x4x512x512_S1x1x1x256x256_0_0_0_256_256, k0_pay249 (r_1 A B D G k h3 x2 x3 x5) (r_2 A B D G k h3 x2 x3 x5) (v197 I)⟩, ⟨Rect.unit ![0, 0, 0, 0, 0] S1x1x1x256x512.size inb_S2x2x4x512x512_S1x1x1x256x512_0_0_0_0_0, k0_pay248 (r_1 A B D G k h3 x2 x3 x5) (r_2 A B D G k h3 x2 x3 x5) (v197 I)⟩]) (I.view.writes (Elt F) f9 (⟨Rect.unit ![0, 3, 0, 0] S1x1x1x512.size inb_S2x4x1x512_S1x1x1x512_0_3_0_0, k0_pay282 (r_18 A B D G k h3 x2 x3 x5) (r_19 A B D G k h3 x2 x3 x5) (v356 A B D G I k h3 x2 x3 x5)⟩ :: HW9_4 A B D G I k h3 x2 x3 x5)) (J.view.writes (Elt F) f10 [⟨Rect.unit ![0, 0, 3, 0, 0] S1x1x1x1x512.size inb_S2x2x4x1x512_S1x1x1x1x512_0_0_3_0_0, k0_pay278 (r_18 A B D G k h3 x2 x3 x5) (r_19 A B D G k h3 x2 x3 x5) (v356 A B D G I k h3 x2 x3 x5)⟩, ⟨Rect.unit ![0, 0, 2, 0, 0] S1x1x1x1x512.size inb_S2x2x4x1x512_S1x1x1x1x512_0_0_2_0_0, k0_pay268 (r_15 A B D G k h3 x2 x3 x5) (r_16 A B D G k h3 x2 x3 x5) k0_pay265 (v303 A B D G I k h3 x2 x3 x5)⟩, ⟨Rect.unit ![0, 0, 1, 0, 0] S1x1x1x1x512.size inb_S2x2x4x1x512_S1x1x1x1x512_0_0_1_0_0, k0_pay256 (r_5 A B D G k h3 x2 x3 x5) (r_13 A B D G k h3 x2 x3 x5) (v250 A B D G I k h3 x2 x3 x5)⟩, ⟨Rect.unit ![0, 0, 0, 0, 0] S1x1x1x1x512.size inb_S2x2x4x1x512_S1x1x1x1x512_0_0_0_0_0, k0_pay247 (r_1 A B D G k h3 x2 x3 x5) (r_2 A B D G k h3 x2 x3 x5) (v197 I)⟩]) (K.view.writes (Elt F) K.view.junk (HW11_5 C H J K k h3 x4 f8 f10 f11)) 0 0 k.val 0 where
  m := all4 (evn_d9_0 (h3 := h3) hp _) (evn_d9_1 (h3 := h3) hp _) (evn_d9_2 (h3 := h3) hp _) (evn_d9_3 (h3 := h3) hp _)
  al := all4 (evn_d10_0 (h3 := h3) hp _) (evn_d10_1 (h3 := h3) hp _) (evn_d10_2 (h3 := h3) hp _) (evn_d10_3 (h3 := h3) hp _)
  p := all4 (evn_d8_0 (h3 := h3) hp _) (evn_d8_1 (h3 := h3) hp _) (evn_d8_2 (h3 := h3) hp _) (evn_d8_3 (h3 := h3) hp _)
  acc := all4 (evn_d11_0 (h3 := h3) hp _) (evn_d11_1 (h3 := h3) hp _) (evn_d11_2 (h3 := h3) hp _) (evn_d11_3 (h3 := h3) hp _)
/-- The scratch after the loop over pairs of key tiles. -/
theorem evn_loop : Pend H I J K (insOf A B C D x2 x3 x4 x5) (H.view.writes (Elt F) (H.view.writes (Elt F) f8 [⟨Rect.unit ![0, 0, 3, 256, 0] S1x1x1x256x256.size inb_S2x2x4x512x512_S1x1x1x256x256_0_0_3_256_0, k0_pay281⟩, ⟨Rect.unit ![0, 0, 3, 256, 256] S1x1x1x256x256.size inb_S2x2x4x512x512_S1x1x1x256x256_0_0_3_256_256, k0_pay280 (r_10 A B D G k h3 x2 x3 x5) (r_18 A B D G k h3 x2 x3 x5) (r_19 A B D G k h3 x2 x3 x5) (v356 A B D G I k h3 x2 x3 x5)⟩, ⟨Rect.unit ![0, 0, 3, 0, 0] S1x1x1x256x512.size inb_S2x2x4x512x512_S1x1x1x256x512_0_0_3_0_0, k0_pay279 (r_9 A B D G k h3 x2 x3 x5) (r_18 A B D G k h3 x2 x3 x5) (r_19 A B D G k h3 x2 x3 x5) (v356 A B D G I k h3 x2 x3 x5)⟩, ⟨Rect.unit ![0, 0, 2, 256, 0] S1x1x1x256x256.size inb_S2x2x4x512x512_S1x1x1x256x256_0_0_2_256_0, k0_pay271⟩, ⟨Rect.unit ![0, 0, 2, 256, 256] S1x1x1x256x256.size inb_S2x2x4x512x512_S1x1x1x256x256_0_0_2_256_256, k0_pay270 (r_7 A B D G k h3 x2 x3 x5) (r_15 A B D G k h3 x2 x3 x5) (r_16 A B D G k h3 x2 x3 x5) k0_pay265 (v303 A B D G I k h3 x2 x3 x5)⟩, ⟨Rect.unit ![0, 0, 2, 0, 0] S1x1x1x256x512.size inb_S2x2x4x512x512_S1x1x1x256x512_0_0_2_0_0, k0_pay269 (r_6 A B D G k h3 x2 x3 x5) (r_15 A B D G k h3 x2 x3 x5) (r_16 A B D G k h3 x2 x3 x5) k0_pay265 (v303 A B D G I k h3 x2 x3 x5)⟩, ⟨Rect.unit ![0, 0, 1, 256, 0] S1x1x1x256x256.size inb_S2x2x4x512x512_S1x1x1x256x256_0_0_1_256_0, k0_pay260 k0_pay259⟩, ⟨Rect.unit ![0, 0, 1, 256, 256] S1x1x1x256x256.size inb_S2x2x4x512x512_S1x1x1x256x256_0_0_1_256_256, k0_pay258 (r_5 A B D G k h3 x2 x3 x5) (r_13 A B D G k h3 x2 x3 x5) (v250 A B D G I k h3 x2 x3 x5)⟩, ⟨Rect.unit ![0, 0, 1, 0, 0] S1x1x1x256x512.size inb_S2x2x4x512x512_S1x1x1x256x512_0_0_1_0_0, k0_pay257 (r_3 A B D G k h3 x2 x3 x5) (r_5 A B D G k h3 x2 x3 x5) (r_13 A B D G k h3 x2 x3 x5) (v250 A B D G I k h3 x2 x3 x5)⟩, ⟨Rect.unit ![0, 0, 0, 256, 0] S1x1x1x256x256.size inb_S2x2x4x512x512_S1x1x1x256x256_0_0_0_256_0, k0_pay250 cst_169⟩, ⟨Rect.unit ![0, 0, 0, 256, 256] S1x1x1x256x256.size inb_S2x2x4x512x512_S1x1x1x256x256_0_0_0_256_256, k0_pay249 (r_1 A B D G k h3 x2 x3 x5) (r_2 A B D G k h3 x2 x3 x5) (v197 I)⟩, ⟨Rect.unit ![0, 0, 0, 0, 0] S1x1x1x256x512.size inb_S2x2x4x512x512_S1x1x1x256x512_0_0_0_0_0, k0_pay248 (r_1 A B D G k h3 x2 x3 x5) (r_2 A B D G k h3 x2 x3 x5) (v197 I)⟩]) (pb_k0_t2 (F := F) Y c bd i A hA B hB C hC D hD E hE G hG H hH I hI J hJ K hK L hL k (arg13 k) h3  x3 x4 (G.view.writes (Elt F) G.view.junk (HW7_4 A k h3 x2)) (H.view.writes (Elt F) f8 [⟨Rect.unit ![0, 0, 3, 256, 0] S1x1x1x256x256.size inb_S2x2x4x512x512_S1x1x1x256x256_0_0_3_256_0, k0_pay281⟩, ⟨Rect.unit ![0, 0, 3, 256, 256] S1x1x1x256x256.size inb_S2x2x4x512x512_S1x1x1x256x256_0_0_3_256_256, k0_pay280 (r_10 A B D G k h3 x2 x3 x5) (r_18 A B D G k h3 x2 x3 x5) (r_19 A B D G k h3 x2 x3 x5) (v356 A B D G I k h3 x2 x3 x5)⟩, ⟨Rect.unit ![0, 0, 3, 0, 0] S1x1x1x256x512.size inb_S2x2x4x512x512_S1x1x1x256x512_0_0_3_0_0, k0_pay279 (r_9 A B D G k h3 x2 x3 x5) (r_18 A B D G k h3 x2 x3 x5) (r_19 A B D G k h3 x2 x3 x5) (v356 A B D G I k h3 x2 x3 x5)⟩, ⟨Rect.unit ![0, 0, 2, 256, 0] S1x1x1x256x256.size inb_S2x2x4x512x512_S1x1x1x256x256_0_0_2_256_0, k0_pay271⟩, ⟨Rect.unit ![0, 0, 2, 256, 256] S1x1x1x256x256.size inb_S2x2x4x512x512_S1x1x1x256x256_0_0_2_256_256, k0_pay270 (r_7 A B D G k h3 x2 x3 x5) (r_15 A B D G k h3 x2 x3 x5) (r_16 A B D G k h3 x2 x3 x5) k0_pay265 (v303 A B D G I k h3 x2 x3 x5)⟩, ⟨Rect.unit ![0, 0, 2, 0, 0] S1x1x1x256x512.size inb_S2x2x4x512x512_S1x1x1x256x512_0_0_2_0_0, k0_pay269 (r_6 A B D G k h3 x2 x3 x5) (r_15 A B D G k h3 x2 x3 x5) (r_16 A B D G k h3 x2 x3 x5) k0_pay265 (v303 A B D G I k h3 x2 x3 x5)⟩, ⟨Rect.unit ![0, 0, 1, 256, 0] S1x1x1x256x256.size inb_S2x2x4x512x512_S1x1x1x256x256_0_0_1_256_0, k0_pay260 k0_pay259⟩, ⟨Rect.unit ![0, 0, 1, 256, 256] S1x1x1x256x256.size inb_S2x2x4x512x512_S1x1x1x256x256_0_0_1_256_256, k0_pay258 (r_5 A B D G k h3 x2 x3 x5) (r_13 A B D G k h3 x2 x3 x5) (v250 A B D G I k h3 x2 x3 x5)⟩, ⟨Rect.unit ![0, 0, 1, 0, 0] S1x1x1x256x512.size inb_S2x2x4x512x512_S1x1x1x256x512_0_0_1_0_0, k0_pay257 (r_3 A B D G k h3 x2 x3 x5) (r_5 A B D G k h3 x2 x3 x5) (r_13 A B D G k h3 x2 x3 x5) (v250 A B D G I k h3 x2 x3 x5)⟩, ⟨Rect.unit ![0, 0, 0, 256, 0] S1x1x1x256x256.size inb_S2x2x4x512x512_S1x1x1x256x256_0_0_0_256_0, k0_pay250 cst_169⟩, ⟨Rect.unit ![0, 0, 0, 256, 256] S1x1x1x256x256.size inb_S2x2x4x512x512_S1x1x1x256x256_0_0_0_256_256, k0_pay249 (r_1 A B D G k h3 x2 x3 x5) (r_2 A B D G k h3 x2 x3 x5) (v197 I)⟩, ⟨Rect.unit ![0, 0, 0, 0, 0] S1x1x1x256x512.size inb_S2x2x4x512x512_S1x1x1x256x512_0_0_0_0_0, k0_pay248 (r_1 A B D G k h3 x2 x3 x5) (r_2 A B D G k h3 x2 x3 x5) (v197 I)⟩]) (I.view.writes (Elt F) f9 (⟨Rect.unit ![0, 3, 0, 0] S1x1x1x512.size inb_S2x4x1x512_S1x1x1x512_0_3_0_0, k0_pay282 (r_18 A B D G k h3 x2 x3 x5) (r_19 A B D G k h3 x2 x3 x5) (v356 A B D G I k h3 x2 x3 x5)⟩ :: HW9_4 A B D G I k h3 x2 x3 x5)) (J.view.writes (Elt F) f10 [⟨Rect.unit ![0, 0, 3, 0, 0] S1x1x1x1x512.size inb_S2x2x4x1x512_S1x1x1x1x512_0_0_3_0_0, k0_pay278 (r_18 A B D G k h3 x2 x3 x5) (r_19 A B D G k h3 x2 x3 x5) (v356 A B D G I k h3 x2 x3 x5)⟩, ⟨Rect.unit ![0, 0, 2, 0, 0] S1x1x1x1x512.size inb_S2x2x4x1x512_S1x1x1x1x512_0_0_2_0_0, k0_pay268 (r_15 A B D G k h3 x2 x3 x5) (r_16 A B D G k h3 x2 x3 x5) k0_pay265 (v303 A B D G I k h3 x2 x3 x5)⟩, ⟨Rect.unit ![0, 0, 1, 0, 0] S1x1x1x1x512.size inb_S2x2x4x1x512_S1x1x1x1x512_0_0_1_0_0, k0_pay256 (r_5 A B D G k h3 x2 x3 x5) (r_13 A B D G k h3 x2 x3 x5) (v250 A B D G I k h3 x2 x3 x5)⟩, ⟨Rect.unit ![0, 0, 0, 0, 0] S1x1x1x1x512.size inb_S2x2x4x1x512_S1x1x1x1x512_0_0_0_0_0, k0_pay247 (r_1 A B D G k h3 x2 x3 x5) (r_2 A B D G k h3 x2 x3 x5) (v197 I)⟩]) (K.view.writes (Elt F) K.view.junk (HW11_5 C H J K k h3 x4 f8 f10 f11)) (k0_t2_loop k).trips).1) (I.view.writes (Elt F) (I.view.writes (Elt F) f9 (⟨Rect.unit ![0, 3, 0, 0] S1x1x1x512.size inb_S2x4x1x512_S1x1x1x512_0_3_0_0, k0_pay282 (r_18 A B D G k h3 x2 x3 x5) (r_19 A B D G k h3 x2 x3 x5) (v356 A B D G I k h3 x2 x3 x5)⟩ :: HW9_4 A B D G I k h3 x2 x3 x5)) (pb_k0_t2 (F := F) Y c bd i A hA B hB C hC D hD E hE G hG H hH I hI J hJ K hK L hL k (arg13 k) h3  x3 x4 (G.view.writes (Elt F) G.view.junk (HW7_4 A k h3 x2)) (H.view.writes (Elt F) f8 [⟨Rect.unit ![0, 0, 3, 256, 0] S1x1x1x256x256.size inb_S2x2x4x512x512_S1x1x1x256x256_0_0_3_256_0, k0_pay281⟩, ⟨Rect.unit ![0, 0, 3, 256, 256] S1x1x1x256x256.size inb_S2x2x4x512x512_S1x1x1x256x256_0_0_3_256_256, k0_pay280 (r_10 A B D G k h3 x2 x3 x5) (r_18 A B D G k h3 x2 x3 x5) (r_19 A B D G k h3 x2 x3 x5) (v356 A B D G I k h3 x2 x3 x5)⟩, ⟨Rect.unit ![0, 0, 3, 0, 0] S1x1x1x256x512.size inb_S2x2x4x512x512_S1x1x1x256x512_0_0_3_0_0, k0_pay279 (r_9 A B D G k h3 x2 x3 x5) (r_18 A B D G k h3 x2 x3 x5) (r_19 A B D G k h3 x2 x3 x5) (v356 A B D G I k h3 x2 x3 x5)⟩, ⟨Rect.unit ![0, 0, 2, 256, 0] S1x1x1x256x256.size inb_S2x2x4x512x512_S1x1x1x256x256_0_0_2_256_0, k0_pay271⟩, ⟨Rect.unit ![0, 0, 2, 256, 256] S1x1x1x256x256.size inb_S2x2x4x512x512_S1x1x1x256x256_0_0_2_256_256, k0_pay270 (r_7 A B D G k h3 x2 x3 x5) (r_15 A B D G k h3 x2 x3 x5) (r_16 A B D G k h3 x2 x3 x5) k0_pay265 (v303 A B D G I k h3 x2 x3 x5)⟩, ⟨Rect.unit ![0, 0, 2, 0, 0] S1x1x1x256x512.size inb_S2x2x4x512x512_S1x1x1x256x512_0_0_2_0_0, k0_pay269 (r_6 A B D G k h3 x2 x3 x5) (r_15 A B D G k h3 x2 x3 x5) (r_16 A B D G k h3 x2 x3 x5) k0_pay265 (v303 A B D G I k h3 x2 x3 x5)⟩, ⟨Rect.unit ![0, 0, 1, 256, 0] S1x1x1x256x256.size inb_S2x2x4x512x512_S1x1x1x256x256_0_0_1_256_0, k0_pay260 k0_pay259⟩, ⟨Rect.unit ![0, 0, 1, 256, 256] S1x1x1x256x256.size inb_S2x2x4x512x512_S1x1x1x256x256_0_0_1_256_256, k0_pay258 (r_5 A B D G k h3 x2 x3 x5) (r_13 A B D G k h3 x2 x3 x5) (v250 A B D G I k h3 x2 x3 x5)⟩, ⟨Rect.unit ![0, 0, 1, 0, 0] S1x1x1x256x512.size inb_S2x2x4x512x512_S1x1x1x256x512_0_0_1_0_0, k0_pay257 (r_3 A B D G k h3 x2 x3 x5) (r_5 A B D G k h3 x2 x3 x5) (r_13 A B D G k h3 x2 x3 x5) (v250 A B D G I k h3 x2 x3 x5)⟩, ⟨Rect.unit ![0, 0, 0, 256, 0] S1x1x1x256x256.size inb_S2x2x4x512x512_S1x1x1x256x256_0_0_0_256_0, k0_pay250 cst_169⟩, ⟨Rect.unit ![0, 0, 0, 256, 256] S1x1x1x256x256.size inb_S2x2x4x512x512_S1x1x1x256x256_0_0_0_256_256, k0_pay249 (r_1 A B D G k h3 x2 x3 x5) (r_2 A B D G k h3 x2 x3 x5) (v197 I)⟩, ⟨Rect.unit ![0, 0, 0, 0, 0] S1x1x1x256x512.size inb_S2x2x4x512x512_S1x1x1x256x512_0_0_0_0_0, k0_pay248 (r_1 A B D G k h3 x2 x3 x5) (r_2 A B D G k h3 x2 x3 x5) (v197 I)⟩]) (I.view.writes (Elt F) f9 (⟨Rect.unit ![0, 3, 0, 0] S1x1x1x512.size inb_S2x4x1x512_S1x1x1x512_0_3_0_0, k0_pay282 (r_18 A B D G k h3 x2 x3 x5) (r_19 A B D G k h3 x2 x3 x5) (v356 A B D G I k h3 x2 x3 x5)⟩ :: HW9_4 A B D G I k h3 x2 x3 x5)) (J.view.writes (Elt F) f10 [⟨Rect.unit ![0, 0, 3, 0, 0] S1x1x1x1x512.size inb_S2x2x4x1x512_S1x1x1x1x512_0_0_3_0_0, k0_pay278 (r_18 A B D G k h3 x2 x3 x5) (r_19 A B D G k h3 x2 x3 x5) (v356 A B D G I k h3 x2 x3 x5)⟩, ⟨Rect.unit ![0, 0, 2, 0, 0] S1x1x1x1x512.size inb_S2x2x4x1x512_S1x1x1x1x512_0_0_2_0_0, k0_pay268 (r_15 A B D G k h3 x2 x3 x5) (r_16 A B D G k h3 x2 x3 x5) k0_pay265 (v303 A B D G I k h3 x2 x3 x5)⟩, ⟨Rect.unit ![0, 0, 1, 0, 0] S1x1x1x1x512.size inb_S2x2x4x1x512_S1x1x1x1x512_0_0_1_0_0, k0_pay256 (r_5 A B D G k h3 x2 x3 x5) (r_13 A B D G k h3 x2 x3 x5) (v250 A B D G I k h3 x2 x3 x5)⟩, ⟨Rect.unit ![0, 0, 0, 0, 0] S1x1x1x1x512.size inb_S2x2x4x1x512_S1x1x1x1x512_0_0_0_0_0, k0_pay247 (r_1 A B D G k h3 x2 x3 x5) (r_2 A B D G k h3 x2 x3 x5) (v197 I)⟩]) (K.view.writes (Elt F) K.view.junk (HW11_5 C H J K k h3 x4 f8 f10 f11)) (k0_t2_loop k).trips).2.1) (J.view.writes (Elt F) (J.view.writes (Elt F) f10 [⟨Rect.unit ![0, 0, 3, 0, 0] S1x1x1x1x512.size inb_S2x2x4x1x512_S1x1x1x1x512_0_0_3_0_0, k0_pay278 (r_18 A B D G k h3 x2 x3 x5) (r_19 A B D G k h3 x2 x3 x5) (v356 A B D G I k h3 x2 x3 x5)⟩, ⟨Rect.unit ![0, 0, 2, 0, 0] S1x1x1x1x512.size inb_S2x2x4x1x512_S1x1x1x1x512_0_0_2_0_0, k0_pay268 (r_15 A B D G k h3 x2 x3 x5) (r_16 A B D G k h3 x2 x3 x5) k0_pay265 (v303 A B D G I k h3 x2 x3 x5)⟩, ⟨Rect.unit ![0, 0, 1, 0, 0] S1x1x1x1x512.size inb_S2x2x4x1x512_S1x1x1x1x512_0_0_1_0_0, k0_pay256 (r_5 A B D G k h3 x2 x3 x5) (r_13 A B D G k h3 x2 x3 x5) (v250 A B D G I k h3 x2 x3 x5)⟩, ⟨Rect.unit ![0, 0, 0, 0, 0] S1x1x1x1x512.size inb_S2x2x4x1x512_S1x1x1x1x512_0_0_0_0_0, k0_pay247 (r_1 A B D G k h3 x2 x3 x5) (r_2 A B D G k h3 x2 x3 x5) (v197 I)⟩]) (pb_k0_t2 (F := F) Y c bd i A hA B hB C hC D hD E hE G hG H hH I hI J hJ K hK L hL k (arg13 k) h3  x3 x4 (G.view.writes (Elt F) G.view.junk (HW7_4 A k h3 x2)) (H.view.writes (Elt F) f8 [⟨Rect.unit ![0, 0, 3, 256, 0] S1x1x1x256x256.size inb_S2x2x4x512x512_S1x1x1x256x256_0_0_3_256_0, k0_pay281⟩, ⟨Rect.unit ![0, 0, 3, 256, 256] S1x1x1x256x256.size inb_S2x2x4x512x512_S1x1x1x256x256_0_0_3_256_256, k0_pay280 (r_10 A B D G k h3 x2 x3 x5) (r_18 A B D G k h3 x2 x3 x5) (r_19 A B D G k h3 x2 x3 x5) (v356 A B D G I k h3 x2 x3 x5)⟩, ⟨Rect.unit ![0, 0, 3, 0, 0] S1x1x1x256x512.size inb_S2x2x4x512x512_S1x1x1x256x512_0_0_3_0_0, k0_pay279 (r_9 A B D G k h3 x2 x3 x5) (r_18 A B D G k h3 x2 x3 x5) (r_19 A B D G k h3 x2 x3 x5) (v356 A B D G I k h3 x2 x3 x5)⟩, ⟨Rect.unit ![0, 0, 2, 256, 0] S1x1x1x256x256.size inb_S2x2x4x512x512_S1x1x1x256x256_0_0_2_256_0, k0_pay271⟩, ⟨Rect.unit ![0, 0, 2, 256, 256] S1x1x1x256x256.size inb_S2x2x4x512x512_S1x1x1x256x256_0_0_2_256_256, k0_pay270 (r_7 A B D G k h3 x2 x3 x5) (r_15 A B D G k h3 x2 x3 x5) (r_16 A B D G k h3 x2 x3 x5) k0_pay265 (v303 A B D G I k h3 x2 x3 x5)⟩, ⟨Rect.unit ![0, 0, 2, 0, 0] S1x1x1x256x512.size inb_S2x2x4x512x512_S1x1x1x256x512_0_0_2_0_0, k0_pay269 (r_6 A B D G k h3 x2 x3 x5) (r_15 A B D G k h3 x2 x3 x5) (r_16 A B D G k h3 x2 x3 x5) k0_pay265 (v303 A B D G I k h3 x2 x3 x5)⟩, ⟨Rect.unit ![0, 0, 1, 256, 0] S1x1x1x256x256.size inb_S2x2x4x512x512_S1x1x1x256x256_0_0_1_256_0, k0_pay260 k0_pay259⟩, ⟨Rect.unit ![0, 0, 1, 256, 256] S1x1x1x256x256.size inb_S2x2x4x512x512_S1x1x1x256x256_0_0_1_256_256, k0_pay258 (r_5 A B D G k h3 x2 x3 x5) (r_13 A B D G k h3 x2 x3 x5) (v250 A B D G I k h3 x2 x3 x5)⟩, ⟨Rect.unit ![0, 0, 1, 0, 0] S1x1x1x256x512.size inb_S2x2x4x512x512_S1x1x1x256x512_0_0_1_0_0, k0_pay257 (r_3 A B D G k h3 x2 x3 x5) (r_5 A B D G k h3 x2 x3 x5) (r_13 A B D G k h3 x2 x3 x5) (v250 A B D G I k h3 x2 x3 x5)⟩, ⟨Rect.unit ![0, 0, 0, 256, 0] S1x1x1x256x256.size inb_S2x2x4x512x512_S1x1x1x256x256_0_0_0_256_0, k0_pay250 cst_169⟩, ⟨Rect.unit ![0, 0, 0, 256, 256] S1x1x1x256x256.size inb_S2x2x4x512x512_S1x1x1x256x256_0_0_0_256_256, k0_pay249 (r_1 A B D G k h3 x2 x3 x5) (r_2 A B D G k h3 x2 x3 x5) (v197 I)⟩, ⟨Rect.unit ![0, 0, 0, 0, 0] S1x1x1x256x512.size inb_S2x2x4x512x512_S1x1x1x256x512_0_0_0_0_0, k0_pay248 (r_1 A B D G k h3 x2 x3 x5) (r_2 A B D G k h3 x2 x3 x5) (v197 I)⟩]) (I.view.writes (Elt F) f9 (⟨Rect.unit ![0, 3, 0, 0] S1x1x1x512.size inb_S2x4x1x512_S1x1x1x512_0_3_0_0, k0_pay282 (r_18 A B D G k h3 x2 x3 x5) (r_19 A B D G k h3 x2 x3 x5) (v356 A B D G I k h3 x2 x3 x5)⟩ :: HW9_4 A B D G I k h3 x2 x3 x5)) (J.view.writes (Elt F) f10 [⟨Rect.unit ![0, 0, 3, 0, 0] S1x1x1x1x512.size inb_S2x2x4x1x512_S1x1x1x1x512_0_0_3_0_0, k0_pay278 (r_18 A B D G k h3 x2 x3 x5) (r_19 A B D G k h3 x2 x3 x5) (v356 A B D G I k h3 x2 x3 x5)⟩, ⟨Rect.unit ![0, 0, 2, 0, 0] S1x1x1x1x512.size inb_S2x2x4x1x512_S1x1x1x1x512_0_0_2_0_0, k0_pay268 (r_15 A B D G k h3 x2 x3 x5) (r_16 A B D G k h3 x2 x3 x5) k0_pay265 (v303 A B D G I k h3 x2 x3 x5)⟩, ⟨Rect.unit ![0, 0, 1, 0, 0] S1x1x1x1x512.size inb_S2x2x4x1x512_S1x1x1x1x512_0_0_1_0_0, k0_pay256 (r_5 A B D G k h3 x2 x3 x5) (r_13 A B D G k h3 x2 x3 x5) (v250 A B D G I k h3 x2 x3 x5)⟩, ⟨Rect.unit ![0, 0, 0, 0, 0] S1x1x1x1x512.size inb_S2x2x4x1x512_S1x1x1x1x512_0_0_0_0_0, k0_pay247 (r_1 A B D G k h3 x2 x3 x5) (r_2 A B D G k h3 x2 x3 x5) (v197 I)⟩]) (K.view.writes (Elt F) K.view.junk (HW11_5 C H J K k h3 x4 f8 f10 f11)) (k0_t2_loop k).trips).2.2.1) (K.view.writes (Elt F) (K.view.writes (Elt F) K.view.junk (HW11_5 C H J K k h3 x4 f8 f10 f11)) (pb_k0_t2 (F := F) Y c bd i A hA B hB C hC D hD E hE G hG H hH I hI J hJ K hK L hL k (arg13 k) h3  x3 x4 (G.view.writes (Elt F) G.view.junk (HW7_4 A k h3 x2)) (H.view.writes (Elt F) f8 [⟨Rect.unit ![0, 0, 3, 256, 0] S1x1x1x256x256.size inb_S2x2x4x512x512_S1x1x1x256x256_0_0_3_256_0, k0_pay281⟩, ⟨Rect.unit ![0, 0, 3, 256, 256] S1x1x1x256x256.size inb_S2x2x4x512x512_S1x1x1x256x256_0_0_3_256_256, k0_pay280 (r_10 A B D G k h3 x2 x3 x5) (r_18 A B D G k h3 x2 x3 x5) (r_19 A B D G k h3 x2 x3 x5) (v356 A B D G I k h3 x2 x3 x5)⟩, ⟨Rect.unit ![0, 0, 3, 0, 0] S1x1x1x256x512.size inb_S2x2x4x512x512_S1x1x1x256x512_0_0_3_0_0, k0_pay279 (r_9 A B D G k h3 x2 x3 x5) (r_18 A B D G k h3 x2 x3 x5) (r_19 A B D G k h3 x2 x3 x5) (v356 A B D G I k h3 x2 x3 x5)⟩, ⟨Rect.unit ![0, 0, 2, 256, 0] S1x1x1x256x256.size inb_S2x2x4x512x512_S1x1x1x256x256_0_0_2_256_0, k0_pay271⟩, ⟨Rect.unit ![0, 0, 2, 256, 256] S1x1x1x256x256.size inb_S2x2x4x512x512_S1x1x1x256x256_0_0_2_256_256, k0_pay270 (r_7 A B D G k h3 x2 x3 x5) (r_15 A B D G k h3 x2 x3 x5) (r_16 A B D G k h3 x2 x3 x5) k0_pay265 (v303 A B D G I k h3 x2 x3 x5)⟩, ⟨Rect.unit ![0, 0, 2, 0, 0] S1x1x1x256x512.size inb_S2x2x4x512x512_S1x1x1x256x512_0_0_2_0_0, k0_pay269 (r_6 A B D G k h3 x2 x3 x5) (r_15 A B D G k h3 x2 x3 x5) (r_16 A B D G k h3 x2 x3 x5) k0_pay265 (v303 A B D G I k h3 x2 x3 x5)⟩, ⟨Rect.unit ![0, 0, 1, 256, 0] S1x1x1x256x256.size inb_S2x2x4x512x512_S1x1x1x256x256_0_0_1_256_0, k0_pay260 k0_pay259⟩, ⟨Rect.unit ![0, 0, 1, 256, 256] S1x1x1x256x256.size inb_S2x2x4x512x512_S1x1x1x256x256_0_0_1_256_256, k0_pay258 (r_5 A B D G k h3 x2 x3 x5) (r_13 A B D G k h3 x2 x3 x5) (v250 A B D G I k h3 x2 x3 x5)⟩, ⟨Rect.unit ![0, 0, 1, 0, 0] S1x1x1x256x512.size inb_S2x2x4x512x512_S1x1x1x256x512_0_0_1_0_0, k0_pay257 (r_3 A B D G k h3 x2 x3 x5) (r_5 A B D G k h3 x2 x3 x5) (r_13 A B D G k h3 x2 x3 x5) (v250 A B D G I k h3 x2 x3 x5)⟩, ⟨Rect.unit ![0, 0, 0, 256, 0] S1x1x1x256x256.size inb_S2x2x4x512x512_S1x1x1x256x256_0_0_0_256_0, k0_pay250 cst_169⟩, ⟨Rect.unit ![0, 0, 0, 256, 256] S1x1x1x256x256.size inb_S2x2x4x512x512_S1x1x1x256x256_0_0_0_256_256, k0_pay249 (r_1 A B D G k h3 x2 x3 x5) (r_2 A B D G k h3 x2 x3 x5) (v197 I)⟩, ⟨Rect.unit ![0, 0, 0, 0, 0] S1x1x1x256x512.size inb_S2x2x4x512x512_S1x1x1x256x512_0_0_0_0_0, k0_pay248 (r_1 A B D G k h3 x2 x3 x5) (r_2 A B D G k h3 x2 x3 x5) (v197 I)⟩]) (I.view.writes (Elt F) f9 (⟨Rect.unit ![0, 3, 0, 0] S1x1x1x512.size inb_S2x4x1x512_S1x1x1x512_0_3_0_0, k0_pay282 (r_18 A B D G k h3 x2 x3 x5) (r_19 A B D G k h3 x2 x3 x5) (v356 A B D G I k h3 x2 x3 x5)⟩ :: HW9_4 A B D G I k h3 x2 x3 x5)) (J.view.writes (Elt F) f10 [⟨Rect.unit ![0, 0, 3, 0, 0] S1x1x1x1x512.size inb_S2x2x4x1x512_S1x1x1x1x512_0_0_3_0_0, k0_pay278 (r_18 A B D G k h3 x2 x3 x5) (r_19 A B D G k h3 x2 x3 x5) (v356 A B D G I k h3 x2 x3 x5)⟩, ⟨Rect.unit ![0, 0, 2, 0, 0] S1x1x1x1x512.size inb_S2x2x4x1x512_S1x1x1x1x512_0_0_2_0_0, k0_pay268 (r_15 A B D G k h3 x2 x3 x5) (r_16 A B D G k h3 x2 x3 x5) k0_pay265 (v303 A B D G I k h3 x2 x3 x5)⟩, ⟨Rect.unit ![0, 0, 1, 0, 0] S1x1x1x1x512.size inb_S2x2x4x1x512_S1x1x1x1x512_0_0_1_0_0, k0_pay256 (r_5 A B D G k h3 x2 x3 x5) (r_13 A B D G k h3 x2 x3 x5) (v250 A B D G I k h3 x2 x3 x5)⟩, ⟨Rect.unit ![0, 0, 0, 0, 0] S1x1x1x1x512.size inb_S2x2x4x1x512_S1x1x1x1x512_0_0_0_0_0, k0_pay247 (r_1 A B D G k h3 x2 x3 x5) (r_2 A B D G k h3 x2 x3 x5) (v197 I)⟩]) (K.view.writes (Elt F) K.view.junk (HW11_5 C H J K k h3 x4 f8 f10 f11)) (k0_t2_loop k).trips).2.2.2) 0 0 k.val (k.val) := by
  have e := t2_loop (u := h3) (evn_q (h3 := h3) hp) (evn_pend0 (G := G) (h3 := h3) hp) Y c bd i hA hB hC hD hE hG hH hI hJ hK hL (arg13 k) _ le_rfl
  rw [evn_trips k h3] at e
  exact e
omit hp in
theorem evn_nil {w v431 : BitVec 32} {y3 : BufTy.Contents (Elt F) B.view.ty} {y4 : BufTy.Contents (Elt F) C.view.ty}{g7 : BufTy.Contents (Elt F) G.view.ty} {g8 : BufTy.Contents (Elt F) H.view.ty} {g9 : BufTy.Contents (Elt F) I.view.ty} {g10 : BufTy.Contents (Elt F) J.view.ty} {g11 : BufTy.Contents (Elt F) K.view.ty} : pb_k0_t3 (F := F) Y c bd i A hA B hB C hC D hD E hE G hG H hH I hI J hJ K hK L hL k w h3 v431 y3 y4 g7 g8 g9 g10 g11 (Scf.trips (k0_t3_loop k).lb (k0_t3_loop k).ub (k0_t3_loop k).st) = ([], [], [], []) := by
  rw [show Scf.trips (k0_t3_loop k).lb (k0_t3_loop k).ub (k0_t3_loop k).st = 0 from evn_none k h3]
  rfl
theorem evn_w8_0 {h1 : ¬ k0_cond1 k = 1#1} {h4 : ¬ k0_cond4 k = 1#1} {h5 : ¬ k0_cond5 k = 1#1} : rd8 H ((tripEven (F := F) Y c bd i A hA B hB C hC D hD E hE G hG H hH I hI J hJ K hK L hL k h1 h3 h4 h5 x2 x3 x4 x5).2.2.1 f6 f7 f8 f9 f10 f11) 0 0 0 = pAt (insOf A B C D x2 x3 x4 x5) 0 k.val k.val := by
  unfold tripEven
  try dsimp only
  rw [evn_nil (h3 := h3), List.nil_append]
  rw [View.writes_append]
  exact (evn_loop (h3 := h3) hp).p 0
theorem evn_w8_1 {h1 : ¬ k0_cond1 k = 1#1} {h4 : ¬ k0_cond4 k = 1#1} {h5 : ¬ k0_cond5 k = 1#1} : rd8 H ((tripEven (F := F) Y c bd i A hA B hB C hC D hD E hE G hG H hH I hI J hJ K hK L hL k h1 h3 h4 h5 x2 x3 x4 x5).2.2.1 f6 f7 f8 f9 f10 f11) 0 0 1 = pAt (insOf A B C D x2 x3 x4 x5) 1 k.val k.val := by
  unfold tripEven
  try dsimp only
  rw [evn_nil (h3 := h3), List.nil_append]
  rw [View.writes_append]
  exact (evn_loop (h3 := h3) hp).p 1
theorem evn_w8_2 {h1 : ¬ k0_cond1 k = 1#1} {h4 : ¬ k0_cond4 k = 1#1} {h5 : ¬ k0_cond5 k = 1#1} : rd8 H ((tripEven (F := F) Y c bd i A hA B hB C hC D hD E hE G hG H hH I hI J hJ K hK L hL k h1 h3 h4 h5 x2 x3 x4 x5).2.2.1 f6 f7 f8 f9 f10 f11) 0 0 2 = pAt (insOf A B C D x2 x3 x4 x5) 2 k.val k.val := by
  unfold tripEven
  try dsimp only
  rw [evn_nil (h3 := h3), List.nil_append]
  rw [View.writes_append]
  exact (evn_loop (h3 := h3) hp).p 2
theorem evn_w8_3 {h1 : ¬ k0_cond1 k = 1#1} {h4 : ¬ k0_cond4 k = 1#1} {h5 : ¬ k0_cond5 k = 1#1} : rd8 H ((tripEven (F := F) Y c bd i A hA B hB C hC D hD E hE G hG H hH I hI J hJ K hK L hL k h1 h3 h4 h5 x2 x3 x4 x5).2.2.1 f6 f7 f8 f9 f10 f11) 0 0 3 = pAt (insOf A B C D x2 x3 x4 x5) 3 k.val k.val := by
  unfold tripEven
  try dsimp only
  rw [evn_nil (h3 := h3), List.nil_append]
  rw [View.writes_append]
  exact (evn_loop (h3 := h3) hp).p 3
theorem evn_w9_0 {h1 : ¬ k0_cond1 k = 1#1} {h4 : ¬ k0_cond4 k = 1#1} {h5 : ¬ k0_cond5 k = 1#1} : rd9 I ((tripEven (F := F) Y c bd i A hA B hB C hC D hD E hE G hG H hH I hI J hJ K hK L hL k h1 h3 h4 h5 x2 x3 x4 x5).2.2.2.1 f6 f7 f8 f9 f10 f11) 0 0 = mAt (insOf A B C D x2 x3 x4 x5) 0 k.val (k.val + 1) := by
  unfold tripEven
  dsimp only [HW9_4, HW9_3, HW9_2, HW9_1]
  rw [evn_nil (h3 := h3), List.nil_append]
  rw [View.writes_append]
  exact (evn_loop (h3 := h3) hp).m 0
theorem evn_w9_1 {h1 : ¬ k0_cond1 k = 1#1} {h4 : ¬ k0_cond4 k = 1#1} {h5 : ¬ k0_cond5 k = 1#1} : rd9 I ((tripEven (F := F) Y c bd i A hA B hB C hC D hD E hE G hG H hH I hI J hJ K hK L hL k h1 h3 h4 h5 x2 x3 x4 x5).2.2.2.1 f6 f7 f8 f9 f10 f11) 0 1 = mAt (insOf A B C D x2 x3 x4 x5) 1 k.val (k.val + 1) := by
  unfold tripEven
  dsimp only [HW9_4, HW9_3, HW9_2, HW9_1]
  rw [evn_nil (h3 := h3), List.nil_append]
  rw [View.writes_append]
  exact (evn_loop (h3 := h3) hp).m 1
theorem evn_w9_2 {h1 : ¬ k0_cond1 k = 1#1} {h4 : ¬ k0_cond4 k = 1#1} {h5 : ¬ k0_cond5 k = 1#1} : rd9 I ((tripEven (F := F) Y c bd i A hA B hB C hC D hD E hE G hG H hH I hI J hJ K hK L hL k h1 h3 h4 h5 x2 x3 x4 x5).2.2.2.1 f6 f7 f8 f9 f10 f11) 0 2 = mAt (insOf A B C D x2 x3 x4 x5) 2 k.val (k.val + 1) := by
  unfold tripEven
  dsimp only [HW9_4, HW9_3, HW9_2, HW9_1]
  rw [evn_nil (h3 := h3), List.nil_append]
  rw [View.writes_append]
  exact (evn_loop (h3 := h3) hp).m 2
theorem evn_w9_3 {h1 : ¬ k0_cond1 k = 1#1} {h4 : ¬ k0_cond4 k = 1#1} {h5 : ¬ k0_cond5 k = 1#1} : rd9 I ((tripEven (F := F) Y c bd i A hA B hB C hC D hD E hE G hG H hH I hI J hJ K hK L hL k h1 h3 h4 h5 x2 x3 x4 x5).2.2.2.1 f6 f7 f8 f9 f10 f11) 0 3 = mAt (insOf A B C D x2 x3 x4 x5) 3 k.val (k.val + 1) := by
  unfold tripEven
  dsimp only [HW9_4, HW9_3, HW9_2, HW9_1]
  rw [evn_nil (h3 := h3), List.nil_append]
  rw [View.writes_append]
  exact (evn_loop (h3 := h3) hp).m 3
theorem evn_w10_0 {h1 : ¬ k0_cond1 k = 1#1} {h4 : ¬ k0_cond4 k = 1#1} {h5 : ¬ k0_cond5 k = 1#1} : rd10 J ((tripEven (F := F) Y c bd i A hA B hB C hC D hD E hE G hG H hH I hI J hJ K hK L hL k h1 h3 h4 h5 x2 x3 x4 x5).2.2.2.2.1 f6 f7 f8 f9 f10 f11) 0 0 0 = alAt (insOf A B C D x2 x3 x4 x5) 0 k.val k.val := by
  unfold tripEven
  try dsimp only
  rw [evn_nil (h3 := h3), List.nil_append]
  rw [View.writes_append]
  exact (evn_loop (h3 := h3) hp).al 0
theorem evn_w10_1 {h1 : ¬ k0_cond1 k = 1#1} {h4 : ¬ k0_cond4 k = 1#1} {h5 : ¬ k0_cond5 k = 1#1} : rd10 J ((tripEven (F := F) Y c bd i A hA B hB C hC D hD E hE G hG H hH I hI J hJ K hK L hL k h1 h3 h4 h5 x2 x3 x4 x5).2.2.2.2.1 f6 f7 f8 f9 f10 f11) 0 0 1 = alAt (insOf A B C D x2 x3 x4 x5) 1 k.val k.val := by
  unfold tripEven
  try dsimp only
  rw [evn_nil (h3 := h3), List.nil_append]
  rw [View.writes_append]
  exact (evn_loop (h3 := h3) hp).al 1
theorem evn_w10_2 {h1 : ¬ k0_cond1 k = 1#1} {h4 : ¬ k0_cond4 k = 1#1} {h5 : ¬ k0_cond5 k = 1#1} : rd10 J ((tripEven (F := F) Y c bd i A hA B hB C hC D hD E hE G hG H hH I hI J hJ K hK L hL k h1 h3 h4 h5 x2 x3 x4 x5).2.2.2.2.1 f6 f7 f8 f9 f10 f11) 0 0 2 = alAt (insOf A B C D x2 x3 x4 x5) 2 k.val k.val := by
  unfold tripEven
  try dsimp only
  rw [evn_nil (h3 := h3), List.nil_append]
  rw [View.writes_append]
  exact (evn_loop (h3 := h3) hp).al 2
theorem evn_w10_3 {h1 : ¬ k0_cond1 k = 1#1} {h4 : ¬ k0_cond4 k = 1#1} {h5 : ¬ k0_cond5 k = 1#1} : rd10 J ((tripEven (F := F) Y c bd i A hA B hB C hC D hD E hE G hG H hH I hI J hJ K hK L hL k h1 h3 h4 h5 x2 x3 x4 x5).2.2.2.2.1 f6 f7 f8 f9 f10 f11) 0 0 3 = alAt (insOf A B C D x2 x3 x4 x5) 3 k.val k.val := by
  unfold tripEven
  try dsimp only
  rw [evn_nil (h3 := h3), List.nil_append]
  rw [View.writes_append]
  exact (evn_loop (h3 := h3) hp).al 3
theorem evn_w11_0 {h1 : ¬ k0_cond1 k = 1#1} {h4 : ¬ k0_cond4 k = 1#1} {h5 : ¬ k0_cond5 k = 1#1} : rd11 K ((tripEven (F := F) Y c bd i A hA B hB C hC D hD E hE G hG H hH I hI J hJ K hK L hL k h1 h3 h4 h5 x2 x3 x4 x5).2.2.2.2.2.1 f6 f7 f8 f9 f10 f11) 0 0 = accAt (insOf A B C D x2 x3 x4 x5) 0 k.val k.val := by
  unfold tripEven
  dsimp only [HW11_5]
  rw [evn_nil (h3 := h3), List.nil_append]
  rw [View.writes_append]
  exact (evn_loop (h3 := h3) hp).acc 0
theorem evn_w11_1 {h1 : ¬ k0_cond1 k = 1#1} {h4 : ¬ k0_cond4 k = 1#1} {h5 : ¬ k0_cond5 k = 1#1} : rd11 K ((tripEven (F := F) Y c bd i A hA B hB C hC D hD E hE G hG H hH I hI J hJ K hK L hL k h1 h3 h4 h5 x2 x3 x4 x5).2.2.2.2.2.1 f6 f7 f8 f9 f10 f11) 0 1 = accAt (insOf A B C D x2 x3 x4 x5) 1 k.val k.val := by
  unfold tripEven
  dsimp only [HW11_5]
  rw [evn_nil (h3 := h3), List.nil_append]
  rw [View.writes_append]
  exact (evn_loop (h3 := h3) hp).acc 1
theorem evn_w11_2 {h1 : ¬ k0_cond1 k = 1#1} {h4 : ¬ k0_cond4 k = 1#1} {h5 : ¬ k0_cond5 k = 1#1} : rd11 K ((tripEven (F := F) Y c bd i A hA B hB C hC D hD E hE G hG H hH I hI J hJ K hK L hL k h1 h3 h4 h5 x2 x3 x4 x5).2.2.2.2.2.1 f6 f7 f8 f9 f10 f11) 0 2 = accAt (insOf A B C D x2 x3 x4 x5) 2 k.val k.val := by
  unfold tripEven
  dsimp only [HW11_5]
  rw [evn_nil (h3 := h3), List.nil_append]
  rw [View.writes_append]
  exact (evn_loop (h3 := h3) hp).acc 2
theorem evn_w11_3 {h1 : ¬ k0_cond1 k = 1#1} {h4 : ¬ k0_cond4 k = 1#1} {h5 : ¬ k0_cond5 k = 1#1} : rd11 K ((tripEven (F := F) Y c bd i A hA B hB C hC D hD E hE G hG H hH I hI J hJ K hK L hL k h1 h3 h4 h5 x2 x3 x4 x5).2.2.2.2.2.1 f6 f7 f8 f9 f10 f11) 0 3 = accAt (insOf A B C D x2 x3 x4 x5) 3 k.val k.val := by
  unfold tripEven
  dsimp only [HW11_5]
  rw [evn_nil (h3 := h3), List.nil_append]
  rw [View.writes_append]
  exact (evn_loop (h3 := h3) hp).acc 3
/-- The scratch after the trip. -/
theorem evn_pend {h1 : ¬ k0_cond1 k = 1#1} {h4 : ¬ k0_cond4 k = 1#1} {h5 : ¬ k0_cond5 k = 1#1} : Pend H I J K (insOf A B C D x2 x3 x4 x5) ((tripEven (F := F) Y c bd i A hA B hB C hC D hD E hE G hG H hH I hI J hJ K hK L hL k h1 h3 h4 h5 x2 x3 x4 x5).2.2.1 f6 f7 f8 f9 f10 f11) ((tripEven (F := F) Y c bd i A hA B hB C hC D hD E hE G hG H hH I hI J hJ K hK L hL k h1 h3 h4 h5 x2 x3 x4 x5).2.2.2.1 f6 f7 f8 f9 f10 f11) ((tripEven (F := F) Y c bd i A hA B hB C hC D hD E hE G hG H hH I hI J hJ K hK L hL k h1 h3 h4 h5 x2 x3 x4 x5).2.2.2.2.1 f6 f7 f8 f9 f10 f11) ((tripEven (F := F) Y c bd i A hA B hB C hC D hD E hE G hG H hH I hI J hJ K hK L hL k h1 h3 h4 h5 x2 x3 x4 x5).2.2.2.2.2.1 f6 f7 f8 f9 f10 f11) 0 0 k.val k.val :=
  Pend.of4 (evn_w9_0 (h3 := h3) hp)  (evn_w9_1 (h3 := h3) hp)  (evn_w9_2 (h3 := h3) hp)  (evn_w9_3 (h3 := h3) hp)  (evn_w10_0 (h3 := h3) hp)  (evn_w10_1 (h3 := h3) hp)  (evn_w10_2 (h3 := h3) hp)  (evn_w10_3 (h3 := h3) hp)  (evn_w8_0 (h3 := h3) hp)  (evn_w8_1 (h3 := h3) hp)  (evn_w8_2 (h3 := h3) hp)  (evn_w8_3 (h3 := h3) hp)  (evn_w11_0 (h3 := h3) hp)  (evn_w11_1 (h3 := h3) hp)  (evn_w11_2 (h3 := h3) hp)  (evn_w11_3 (h3 := h3) hp)
theorem evn_row : r_20 C H J K k h3 x4 f8 f10 f11 = outAt (insOf A B C D x2 x3 x4 x5) (k.val - 1) := by
  dsimp only [r_20, k0_pay283]
  rw [evn_v388 (h3 := h3) hp, evn_v396 (h3 := h3) hp, evn_v404 (h3 := h3) hp, evn_v412 (h3 := h3) hp]
  all_goals rfl
/-- The output's window after the trip. -/
theorem evn_out {h1 : ¬ k0_cond1 k = 1#1} {h4 : ¬ k0_cond4 k = 1#1} {h5 : ¬ k0_cond5 k = 1#1} (ho : OutOk E (insOf A B C D x2 x3 x4 x5) f6 (k.val - 1)) : OutOk E (insOf A B C D x2 x3 x4 x5) ((tripEven (F := F) Y c bd i A hA B hB C hC D hD E hE G hG H hH I hI J hJ K hK L hL k h1 h3 h4 h5 x2 x3 x4 x5).1 f6 f7 f8 f9 f10 f11) (k.val - 1 + 1) := by
  unfold tripEven
  dsimp only
  exact (OutOk.succ (L := []) ho (evn_off26 k h3) _ _ (evn_row (h3 := h3) hp))

end

end Cert.Flash
-- ==== Proof.FlashOdd.lean ====
module

public import proofs.«01_k».proof.Proof.Gen.KernelIdeal.Frame
public import proofs.«01_k».proof.Proof.Gen.KernelIdeal.Loops
public import proofs.«01_k».proof.Proof.FlashFirst

@[expose] public section

set_option maxRecDepth 8192
set_option maxHeartbeats 4000000

/-! One trip of the flash kernel's query loop: the pieces it writes, as the run finds them. -/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- An odd trip before the last. -/
@[irreducible] def tripOdd (𝒱 : Variants) (c : Dev nD) (bd : Option 𝒱.V) (i : grid0.Coords) (arg2 : Memref sig .tc .vmem S1x4x8x128x512 .bf16) (harg2 : arg2.IsWhole) (arg3 : Memref sig .tc .vmem S4096x512 .bf16) (harg3 : arg3.IsWhole) (arg4 : Memref sig .tc .vmem S1x4x8x128x512 .bf16) (harg4 : arg4.IsWhole) (arg5 : Memref sig .tc .vmem S2x512x512 .f32) (harg5 : arg5.IsWhole) (arg6 : Memref sig .tc .vmem S4096x256 .bf16) (harg6 : arg6.IsWhole) (arg7 : Memref sig .tc .vmem S4x128x512 .bf16) (harg7 : arg7.IsWhole) (arg8 : Memref sig .tc .vmem S2x2x4x512x512 .bf16) (harg8 : arg8.IsWhole) (arg9 : Memref sig .tc .vmem S2x4x1x512 .f32) (harg9 : arg9.IsWhole) (arg10 : Memref sig .tc .vmem S2x2x4x1x512 .f32) (harg10 : arg10.IsWhole) (arg11 : Memref sig .tc .vmem S2x4x128x512 .f32) (harg11 : arg11.IsWhole) (arg12 : Memref sig .tc .vmem S2x8x512 .f32) (harg12 : arg12.IsWhole) (k : Fin k0_t1_loop.trips) (h1 : ¬ k0_cond1 k = 1#1) (h3 : ¬ k0_cond3 k = 1#1) (h5 : k0_cond5 k = 1#1) (h6 : ¬ k0_cond6 k = 1#1) (x2 : BufTy.Contents (Elt F) arg2.view.ty) (x3 : BufTy.Contents (Elt F) arg3.view.ty) (x4 : BufTy.Contents (Elt F) arg4.view.ty) (x5 : BufTy.Contents (Elt F) arg5.view.ty) :
    Σ' (L6 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg6.view.ty) (L7 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg7.view.ty) (L8 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty) (L9 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg9.view.ty) (L10 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg10.view.ty), { L11 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg11.view.ty // ∀ (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
      Held (F := F) c arg2 arg3 arg4 arg5 arg6 arg7 arg8 arg9 arg10 arg11 x2 x3 x4 x5 f6 f7 f8 f9 f10 f11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 k PUnit.unit)
          (fun _ => Held (F := F) c arg2 arg3 arg4 arg5 arg6 arg7 arg8 arg9 arg10 arg11 x2 x3 x4 x5 (L6 f6 f7 f8 f9 f10 f11) (L7 f6 f7 f8 f9 f10 f11) (L8 f6 f7 f8 f9 f10 f11) (L9 f6 f7 f8 f9 f10 f11) (L10 f6 f7 f8 f9 f10 f11) (L11 f6 f7 f8 f9 f10 f11)) } := by
  refine ⟨?_, ?_, ?_, ?_, ?_, ?_, fun E f6 f7 f8 f9 f10 f11 => ?run⟩
  case run =>
    unfold k0_t1_body
    iintro ⟨HR2, HR3, HR4, HR5, HW6, HW7, HW8, HW9, HW10, HW11⟩
    sl_exec (disch := first | sl_exact h1 | sl_exact h3 | sl_exact h5 | sl_exact h6)
    sl_step
    sl_close

end Cert.Flash

end
-- ==== Proof.FlashPairB.lean ====
module

public import proofs.«01_k».proof.Proof.FlashState
public import proofs.«01_k».proof.Proof.Gen.KernelIdeal.Loops

@[expose] public section

set_option maxRecDepth 8192
set_option maxHeartbeats 1000000

/-! A trip of the key-tile loop `t4`: two key tiles, from one state of the scratch to the state two tiles on. -/

noncomputable section

namespace Cert.Flash

open Cert.KernelIdeal Cert.KernelIdeal.Gen Idealize.ShloMosaic Idealize.ShloMosaic.TcCoe Idealize.SL Idealize.SL.RA Idealize.SL.BI
open Sem
open trip_k0_t4.sl

variable {F : FTy → Type} [FloatOps F]

theorem t4_kA0 : ∀ (k : T1) (k2 : Fin (k0_t4_loop k).trips), k0_off77 k k2 = ![512 * (m8 (2 * k2.val)).val, 128 * (0 : Fin 4).val] := by decide +kernel
theorem t4_kB0 : ∀ (k : T1) (k2 : Fin (k0_t4_loop k).trips), k0_off85 k k2 = ![512 * (m8 (2 * k2.val + 1)).val, 128 * (0 : Fin 4).val] := by decide +kernel
theorem t4_vA0 : ∀ (k : T1) (k2 : Fin (k0_t4_loop k).trips), k0_off81 k k2 = ![0, (0 : Fin 4).val, (m8 (tix k.val (2 * k2.val))).val, 0, 0] := by decide +kernel
theorem t4_vB0 : ∀ (k : T1) (k2 : Fin (k0_t4_loop k).trips), k0_off89 k k2 = ![0, (0 : Fin 4).val, (m8 (2 * k2.val)).val, 0, 0] := by decide +kernel
theorem t4_kA1 : ∀ (k : T1) (k2 : Fin (k0_t4_loop k).trips), k0_off78 k k2 = ![512 * (m8 (2 * k2.val)).val, 128 * (1 : Fin 4).val] := by decide +kernel
theorem t4_kB1 : ∀ (k : T1) (k2 : Fin (k0_t4_loop k).trips), k0_off86 k k2 = ![512 * (m8 (2 * k2.val + 1)).val, 128 * (1 : Fin 4).val] := by decide +kernel
theorem t4_vA1 : ∀ (k : T1) (k2 : Fin (k0_t4_loop k).trips), k0_off82 k k2 = ![0, (1 : Fin 4).val, (m8 (tix k.val (2 * k2.val))).val, 0, 0] := by decide +kernel
theorem t4_vB1 : ∀ (k : T1) (k2 : Fin (k0_t4_loop k).trips), k0_off90 k k2 = ![0, (1 : Fin 4).val, (m8 (2 * k2.val)).val, 0, 0] := by decide +kernel
theorem t4_kA2 : ∀ (k : T1) (k2 : Fin (k0_t4_loop k).trips), k0_off79 k k2 = ![512 * (m8 (2 * k2.val)).val, 128 * (2 : Fin 4).val] := by decide +kernel
theorem t4_kB2 : ∀ (k : T1) (k2 : Fin (k0_t4_loop k).trips), k0_off87 k k2 = ![512 * (m8 (2 * k2.val + 1)).val, 128 * (2 : Fin 4).val] := by decide +kernel
theorem t4_vA2 : ∀ (k : T1) (k2 : Fin (k0_t4_loop k).trips), k0_off83 k k2 = ![0, (2 : Fin 4).val, (m8 (tix k.val (2 * k2.val))).val, 0, 0] := by decide +kernel
theorem t4_vB2 : ∀ (k : T1) (k2 : Fin (k0_t4_loop k).trips), k0_off91 k k2 = ![0, (2 : Fin 4).val, (m8 (2 * k2.val)).val, 0, 0] := by decide +kernel
theorem t4_kA3 : ∀ (k : T1) (k2 : Fin (k0_t4_loop k).trips), k0_off80 k k2 = ![512 * (m8 (2 * k2.val)).val, 128 * (3 : Fin 4).val] := by decide +kernel
theorem t4_kB3 : ∀ (k : T1) (k2 : Fin (k0_t4_loop k).trips), k0_off88 k k2 = ![512 * (m8 (2 * k2.val + 1)).val, 128 * (3 : Fin 4).val] := by decide +kernel
theorem t4_vA3 : ∀ (k : T1) (k2 : Fin (k0_t4_loop k).trips), k0_off84 k k2 = ![0, (3 : Fin 4).val, (m8 (tix k.val (2 * k2.val))).val, 0, 0] := by decide +kernel
theorem t4_vB3 : ∀ (k : T1) (k2 : Fin (k0_t4_loop k).trips), k0_off92 k k2 = ![0, (3 : Fin 4).val, (m8 (2 * k2.val)).val, 0, 0] := by decide +kernel

section
variable {A : Memref sig .tc .vmem S1x4x8x128x512 .bf16} {B : Memref sig .tc .vmem S4096x512 .bf16} {C : Memref sig .tc .vmem S1x4x8x128x512 .bf16} {D : Memref sig .tc .vmem S2x512x512 .f32} {E : Memref sig .tc .vmem S4096x256 .bf16} {G : Memref sig .tc .vmem S4x128x512 .bf16} {H : Memref sig .tc .vmem S2x2x4x512x512 .bf16} {I : Memref sig .tc .vmem S2x4x1x512 .f32} {J : Memref sig .tc .vmem S2x2x4x1x512 .f32} {K : Memref sig .tc .vmem S2x4x128x512 .f32} {L : Memref sig .tc .vmem S2x8x512 .f32}
  {k : T1} {u : k0_cond5 k = 1#1} {x2 : BufTy.Contents (Elt F) A.view.ty} {x3 : BufTy.Contents (Elt F) B.view.ty} {x4 : BufTy.Contents (Elt F) C.view.ty} {x5 : BufTy.Contents (Elt F) D.view.ty} {f7 : BufTy.Contents (Elt F) G.view.ty}
  {k2 : Fin (k0_t4_loop k).trips} {f8 : BufTy.Contents (Elt F) H.view.ty} {f9 : BufTy.Contents (Elt F) I.view.ty} {f10 : BufTy.Contents (Elt F) J.view.ty} {f11 : BufTy.Contents (Elt F) K.view.ty}
  (hq : QOk G (insOf A B C D x2 x3 x4 x5) f7 k.val) (hp : Pend H I J K (insOf A B C D x2 x3 x4 x5) f8 f9 f10 f11 1 0 k.val (2 * k2.val))
include hq hp u

theorem t4_lkA0 : View.readAt (Elt F) B.view (Rect.unit (s := S4096x512) (k0_off77 k k2) S512x128.size (k0_off77_inb k k2 u)).toLoadRect x3 = (insOf A B C D x2 x3 x4 x5).k 0 (2 * k2.val) := rd_off _ _ _ _ (t4_kA0 k k2)
theorem t4_lkB0 : View.readAt (Elt F) B.view (Rect.unit (s := S4096x512) (k0_off85 k k2) S512x128.size (k0_off85_inb k k2 u)).toLoadRect x3 = (insOf A B C D x2 x3 x4 x5).k 0 (2 * k2.val + 1) := rd_off _ _ _ _ (t4_kB0 k k2)
theorem t4_lvA0 : View.readAt (Elt F) C.view (Rect.unit (s := S1x4x8x128x512) (k0_off81 k k2) S1x1x1x128x512.size (k0_off81_inb k k2 u)).toLoadRect x4 = (insOf A B C D x2 x3 x4 x5).v 0 (tix k.val (2 * k2.val)) := rd_off _ _ _ _ (t4_vA0 k k2)
theorem t4_lvB0 : View.readAt (Elt F) C.view (Rect.unit (s := S1x4x8x128x512) (k0_off89 k k2) S1x1x1x128x512.size (k0_off89_inb k k2 u)).toLoadRect x4 = (insOf A B C D x2 x3 x4 x5).v 0 (2 * k2.val) := rd_off _ _ _ _ (t4_vB0 k k2)
theorem t4_lq0 : View.readAt (Elt F) G.view (Rect.unit (s := S4x128x512) ![0, 0, 0] S1x128x512.size inb_S4x128x512_S1x128x512_0_0_0).toLoadRect f7 = qS ((insOf A B C D x2 x3 x4 x5).q 0 k.val) := hq 0
theorem t4_lp0 : View.readAt (Elt F) H.view (Rect.unit (s := S2x2x4x512x512) ![1, 0, 0, 0, 0] S1x1x1x512x512.size inb_S2x2x4x512x512_S1x1x1x512x512_1_0_0_0_0).toLoadRect f8 = pAt (insOf A B C D x2 x3 x4 x5) 0 k.val (2 * k2.val) := hp.p 0
theorem t4_lm0 : View.readAt (Elt F) I.view (Rect.unit (s := S2x4x1x512) ![1, 0, 0, 0] S1x1x1x512.size inb_S2x4x1x512_S1x1x1x512_1_0_0_0).toLoadRect f9 = mAt (insOf A B C D x2 x3 x4 x5) 0 k.val (2 * k2.val + 1) := hp.m 0
theorem t4_lal0 : View.readAt (Elt F) J.view (Rect.unit (s := S2x2x4x1x512) ![1, 0, 0, 0, 0] S1x1x1x1x512.size inb_S2x2x4x1x512_S1x1x1x1x512_1_0_0_0_0).toLoadRect f10 = alAt (insOf A B C D x2 x3 x4 x5) 0 k.val (2 * k2.val) := hp.al 0
theorem t4_lacc0 : View.readAt (Elt F) K.view (Rect.unit (s := S2x4x128x512) ![1, 0, 0, 0] S1x1x128x512.size inb_S2x4x128x512_S1x1x128x512_1_0_0_0).toLoadRect f11 = accAt (insOf A B C D x2 x3 x4 x5) 0 k.val (2 * k2.val) := hp.acc 0
theorem t4_lkA1 : View.readAt (Elt F) B.view (Rect.unit (s := S4096x512) (k0_off78 k k2) S512x128.size (k0_off78_inb k k2 u)).toLoadRect x3 = (insOf A B C D x2 x3 x4 x5).k 1 (2 * k2.val) := rd_off _ _ _ _ (t4_kA1 k k2)
theorem t4_lkB1 : View.readAt (Elt F) B.view (Rect.unit (s := S4096x512) (k0_off86 k k2) S512x128.size (k0_off86_inb k k2 u)).toLoadRect x3 = (insOf A B C D x2 x3 x4 x5).k 1 (2 * k2.val + 1) := rd_off _ _ _ _ (t4_kB1 k k2)
theorem t4_lvA1 : View.readAt (Elt F) C.view (Rect.unit (s := S1x4x8x128x512) (k0_off82 k k2) S1x1x1x128x512.size (k0_off82_inb k k2 u)).toLoadRect x4 = (insOf A B C D x2 x3 x4 x5).v 1 (tix k.val (2 * k2.val)) := rd_off _ _ _ _ (t4_vA1 k k2)
theorem t4_lvB1 : View.readAt (Elt F) C.view (Rect.unit (s := S1x4x8x128x512) (k0_off90 k k2) S1x1x1x128x512.size (k0_off90_inb k k2 u)).toLoadRect x4 = (insOf A B C D x2 x3 x4 x5).v 1 (2 * k2.val) := rd_off _ _ _ _ (t4_vB1 k k2)
theorem t4_lq1 : View.readAt (Elt F) G.view (Rect.unit (s := S4x128x512) ![1, 0, 0] S1x128x512.size inb_S4x128x512_S1x128x512_1_0_0).toLoadRect f7 = qS ((insOf A B C D x2 x3 x4 x5).q 1 k.val) := hq 1
theorem t4_lp1 : View.readAt (Elt F) H.view (Rect.unit (s := S2x2x4x512x512) ![1, 0, 1, 0, 0] S1x1x1x512x512.size inb_S2x2x4x512x512_S1x1x1x512x512_1_0_1_0_0).toLoadRect f8 = pAt (insOf A B C D x2 x3 x4 x5) 1 k.val (2 * k2.val) := hp.p 1
theorem t4_lm1 : View.readAt (Elt F) I.view (Rect.unit (s := S2x4x1x512) ![1, 1, 0, 0] S1x1x1x512.size inb_S2x4x1x512_S1x1x1x512_1_1_0_0).toLoadRect f9 = mAt (insOf A B C D x2 x3 x4 x5) 1 k.val (2 * k2.val + 1) := hp.m 1
theorem t4_lal1 : View.readAt (Elt F) J.view (Rect.unit (s := S2x2x4x1x512) ![1, 0, 1, 0, 0] S1x1x1x1x512.size inb_S2x2x4x1x512_S1x1x1x1x512_1_0_1_0_0).toLoadRect f10 = alAt (insOf A B C D x2 x3 x4 x5) 1 k.val (2 * k2.val) := hp.al 1
theorem t4_lacc1 : View.readAt (Elt F) K.view (Rect.unit (s := S2x4x128x512) ![1, 1, 0, 0] S1x1x128x512.size inb_S2x4x128x512_S1x1x128x512_1_1_0_0).toLoadRect f11 = accAt (insOf A B C D x2 x3 x4 x5) 1 k.val (2 * k2.val) := hp.acc 1
theorem t4_lkA2 : View.readAt (Elt F) B.view (Rect.unit (s := S4096x512) (k0_off79 k k2) S512x128.size (k0_off79_inb k k2 u)).toLoadRect x3 = (insOf A B C D x2 x3 x4 x5).k 2 (2 * k2.val) := rd_off _ _ _ _ (t4_kA2 k k2)
theorem t4_lkB2 : View.readAt (Elt F) B.view (Rect.unit (s := S4096x512) (k0_off87 k k2) S512x128.size (k0_off87_inb k k2 u)).toLoadRect x3 = (insOf A B C D x2 x3 x4 x5).k 2 (2 * k2.val + 1) := rd_off _ _ _ _ (t4_kB2 k k2)
theorem t4_lvA2 : View.readAt (Elt F) C.view (Rect.unit (s := S1x4x8x128x512) (k0_off83 k k2) S1x1x1x128x512.size (k0_off83_inb k k2 u)).toLoadRect x4 = (insOf A B C D x2 x3 x4 x5).v 2 (tix k.val (2 * k2.val)) := rd_off _ _ _ _ (t4_vA2 k k2)
theorem t4_lvB2 : View.readAt (Elt F) C.view (Rect.unit (s := S1x4x8x128x512) (k0_off91 k k2) S1x1x1x128x512.size (k0_off91_inb k k2 u)).toLoadRect x4 = (insOf A B C D x2 x3 x4 x5).v 2 (2 * k2.val) := rd_off _ _ _ _ (t4_vB2 k k2)
theorem t4_lq2 : View.readAt (Elt F) G.view (Rect.unit (s := S4x128x512) ![2, 0, 0] S1x128x512.size inb_S4x128x512_S1x128x512_2_0_0).toLoadRect f7 = qS ((insOf A B C D x2 x3 x4 x5).q 2 k.val) := hq 2
theorem t4_lp2 : View.readAt (Elt F) H.view (Rect.unit (s := S2x2x4x512x512) ![1, 0, 2, 0, 0] S1x1x1x512x512.size inb_S2x2x4x512x512_S1x1x1x512x512_1_0_2_0_0).toLoadRect f8 = pAt (insOf A B C D x2 x3 x4 x5) 2 k.val (2 * k2.val) := hp.p 2
theorem t4_lm2 : View.readAt (Elt F) I.view (Rect.unit (s := S2x4x1x512) ![1, 2, 0, 0] S1x1x1x512.size inb_S2x4x1x512_S1x1x1x512_1_2_0_0).toLoadRect f9 = mAt (insOf A B C D x2 x3 x4 x5) 2 k.val (2 * k2.val + 1) := hp.m 2
theorem t4_lal2 : View.readAt (Elt F) J.view (Rect.unit (s := S2x2x4x1x512) ![1, 0, 2, 0, 0] S1x1x1x1x512.size inb_S2x2x4x1x512_S1x1x1x1x512_1_0_2_0_0).toLoadRect f10 = alAt (insOf A B C D x2 x3 x4 x5) 2 k.val (2 * k2.val) := hp.al 2
theorem t4_lacc2 : View.readAt (Elt F) K.view (Rect.unit (s := S2x4x128x512) ![1, 2, 0, 0] S1x1x128x512.size inb_S2x4x128x512_S1x1x128x512_1_2_0_0).toLoadRect f11 = accAt (insOf A B C D x2 x3 x4 x5) 2 k.val (2 * k2.val) := hp.acc 2
theorem t4_lkA3 : View.readAt (Elt F) B.view (Rect.unit (s := S4096x512) (k0_off80 k k2) S512x128.size (k0_off80_inb k k2 u)).toLoadRect x3 = (insOf A B C D x2 x3 x4 x5).k 3 (2 * k2.val) := rd_off _ _ _ _ (t4_kA3 k k2)
theorem t4_lkB3 : View.readAt (Elt F) B.view (Rect.unit (s := S4096x512) (k0_off88 k k2) S512x128.size (k0_off88_inb k k2 u)).toLoadRect x3 = (insOf A B C D x2 x3 x4 x5).k 3 (2 * k2.val + 1) := rd_off _ _ _ _ (t4_kB3 k k2)
theorem t4_lvA3 : View.readAt (Elt F) C.view (Rect.unit (s := S1x4x8x128x512) (k0_off84 k k2) S1x1x1x128x512.size (k0_off84_inb k k2 u)).toLoadRect x4 = (insOf A B C D x2 x3 x4 x5).v 3 (tix k.val (2 * k2.val)) := rd_off _ _ _ _ (t4_vA3 k k2)
theorem t4_lvB3 : View.readAt (Elt F) C.view (Rect.unit (s := S1x4x8x128x512) (k0_off92 k k2) S1x1x1x128x512.size (k0_off92_inb k k2 u)).toLoadRect x4 = (insOf A B C D x2 x3 x4 x5).v 3 (2 * k2.val) := rd_off _ _ _ _ (t4_vB3 k k2)
theorem t4_lq3 : View.readAt (Elt F) G.view (Rect.unit (s := S4x128x512) ![3, 0, 0] S1x128x512.size inb_S4x128x512_S1x128x512_3_0_0).toLoadRect f7 = qS ((insOf A B C D x2 x3 x4 x5).q 3 k.val) := hq 3
theorem t4_lp3 : View.readAt (Elt F) H.view (Rect.unit (s := S2x2x4x512x512) ![1, 0, 3, 0, 0] S1x1x1x512x512.size inb_S2x2x4x512x512_S1x1x1x512x512_1_0_3_0_0).toLoadRect f8 = pAt (insOf A B C D x2 x3 x4 x5) 3 k.val (2 * k2.val) := hp.p 3
theorem t4_lm3 : View.readAt (Elt F) I.view (Rect.unit (s := S2x4x1x512) ![1, 3, 0, 0] S1x1x1x512.size inb_S2x4x1x512_S1x1x1x512_1_3_0_0).toLoadRect f9 = mAt (insOf A B C D x2 x3 x4 x5) 3 k.val (2 * k2.val + 1) := hp.m 3
theorem t4_lal3 : View.readAt (Elt F) J.view (Rect.unit (s := S2x2x4x1x512) ![1, 0, 3, 0, 0] S1x1x1x1x512.size inb_S2x2x4x1x512_S1x1x1x1x512_1_0_3_0_0).toLoadRect f10 = alAt (insOf A B C D x2 x3 x4 x5) 3 k.val (2 * k2.val) := hp.al 3
theorem t4_lacc3 : View.readAt (Elt F) K.view (Rect.unit (s := S2x4x128x512) ![1, 3, 0, 0] S1x1x128x512.size inb_S2x4x128x512_S1x1x128x512_1_3_0_0).toLoadRect f11 = accAt (insOf A B C D x2 x3 x4 x5) 3 k.val (2 * k2.val) := hp.acc 3
theorem t4_v832 : v832 B G I J k u x3 f7 k2 f9 = alAt (insOf A B C D x2 x3 x4 x5) 0 k.val (2 * k2.val + 1) := by
  show View.readAt (Elt F) J.view (Rect.unit (s := S2x2x4x1x512) ![1, 1, 0, 0, 0] S1x1x1x1x512.size inb_S2x2x4x1x512_S1x1x1x1x512_1_1_0_0_0).toLoadRect (J.view.writes (Elt F) J.view.junk (HW_arg10_4 B G I k u x3 f7 k2 f9)) = _
  dsimp only [HW_arg10_4]
  iterate 3 refine miss (by decide) ?_
  refine hit (fun _ => rfl) ?_
  dsimp only [r_6, k0_pay293, r, k0_pay292, k0_pay290, k0_pay291, k0_pay284]
  rw [t4_lkA0 (u := u) hq hp, t4_lm0 (u := u) hq hp, t4_lq0 (u := u) hq hp]
  rfl
theorem t4_v834 : v834 C H J K k u x4 k2 f8 f10 f11 = accAt (insOf A B C D x2 x3 x4 x5) 0 k.val (2 * k2.val + 1) := by
  show View.readAt (Elt F) K.view (Rect.unit (s := S2x4x128x512) ![1, 0, 0, 0] S1x1x128x512.size inb_S2x4x128x512_S1x1x128x512_1_0_0_0).toLoadRect (K.view.writes (Elt F) K.view.junk (HW_arg11_4 C H J K k u x4 k2 f8 f10 f11)) = _
  dsimp only [HW_arg11_4]
  iterate 3 refine miss (by decide) ?_
  refine hit (fun _ => rfl) ?_
  dsimp only [k0_pay289]
  rw [t4_lacc0 (u := u) hq hp, t4_lal0 (u := u) hq hp, t4_lp0 (u := u) hq hp, t4_lvA0 (u := u) hq hp]
  rfl
theorem t4_v838 : v838 B G H I k u x3 f7 k2 f9 = pAt (insOf A B C D x2 x3 x4 x5) 0 k.val (2 * k2.val + 1) := by
  show View.readAt (Elt F) H.view (Rect.unit (s := S2x2x4x512x512) ![1, 1, 0, 0, 0] S1x1x1x512x512.size inb_S2x2x4x512x512_S1x1x1x512x512_1_1_0_0_0).toLoadRect (H.view.writes (Elt F) H.view.junk (HW_arg8_4 B G I k u x3 f7 k2 f9)) = _
  dsimp only [HW_arg8_4]
  iterate 3 refine miss (by decide) ?_
  refine hit (fun _ => rfl) ?_
  dsimp only [r, r_5, k0_pay294, k0_pay291, k0_pay290, k0_pay284]
  rw [t4_lkA0 (u := u) hq hp, t4_lm0 (u := u) hq hp, t4_lq0 (u := u) hq hp]
  rfl
theorem t4_v845 : v845 B G I k u x3 f7 k2 f9 = mAt (insOf A B C D x2 x3 x4 x5) 0 k.val (2 * k2.val + 1 + 1) := by
  show View.readAt (Elt F) I.view (Rect.unit (s := S2x4x1x512) ![1, 0, 0, 0] S1x1x1x512.size inb_S2x4x1x512_S1x1x1x512_1_0_0_0).toLoadRect (I.view.writes (Elt F) I.view.junk (HW_arg9_4 B G I k u x3 f7 k2 f9)) = _
  dsimp only [HW_arg9_4]
  iterate 3 refine miss (by decide) ?_
  refine hit (fun _ => rfl) ?_
  dsimp only [r_5, k0_pay295, r, k0_pay291, k0_pay290, k0_pay284]
  rw [t4_lkA0 (u := u) hq hp, t4_lm0 (u := u) hq hp, t4_lq0 (u := u) hq hp]
  rfl
theorem t4_v868 : v868 B G I J k u x3 f7 k2 f9 = alAt (insOf A B C D x2 x3 x4 x5) 1 k.val (2 * k2.val + 1) := by
  show View.readAt (Elt F) J.view (Rect.unit (s := S2x2x4x1x512) ![1, 1, 1, 0, 0] S1x1x1x1x512.size inb_S2x2x4x1x512_S1x1x1x1x512_1_1_1_0_0).toLoadRect (J.view.writes (Elt F) J.view.junk (HW_arg10_5 B G I k u x3 f7 k2 f9)) = _
  dsimp only [HW_arg10_5, HW_arg10_4]
  iterate 3 refine miss (by decide) ?_
  refine hit (fun _ => rfl) ?_
  dsimp only [r_1, v704, k0_pay300, k0_pay298, k0_pay299, k0_pay285]
  rw [t4_lkA1 (u := u) hq hp, t4_lm1 (u := u) hq hp, t4_lq1 (u := u) hq hp]
  rfl
theorem t4_v870 : v870 B C G H I J K k u x3 x4 f7 k2 f8 f9 f10 f11 = accAt (insOf A B C D x2 x3 x4 x5) 1 k.val (2 * k2.val + 1) := by
  show View.readAt (Elt F) K.view (Rect.unit (s := S2x4x128x512) ![1, 1, 0, 0] S1x1x128x512.size inb_S2x4x128x512_S1x1x128x512_1_1_0_0).toLoadRect (K.view.writes (Elt F) K.view.junk (HW_arg11_5 B C G H I J K k u x3 x4 f7 k2 f8 f9 f10 f11)) = _
  dsimp only [HW_arg11_5, HW_arg11_4]
  iterate 3 refine miss (by decide) ?_
  refine hit (fun _ => rfl) ?_
  dsimp only [r_7, k0_pay297, v691, v693, v697, k0_pay296]
  rw [t4_lacc1 (u := u) hq hp, t4_lal1 (u := u) hq hp, t4_lp1 (u := u) hq hp, t4_lvA1 (u := u) hq hp]
  rfl
theorem t4_v874 : v874 B G H I k u x3 f7 k2 f9 = pAt (insOf A B C D x2 x3 x4 x5) 1 k.val (2 * k2.val + 1) := by
  show View.readAt (Elt F) H.view (Rect.unit (s := S2x2x4x512x512) ![1, 1, 1, 0, 0] S1x1x1x512x512.size inb_S2x2x4x512x512_S1x1x1x512x512_1_1_1_0_0).toLoadRect (H.view.writes (Elt F) H.view.junk (HW_arg8_5 B G I k u x3 f7 k2 f9)) = _
  dsimp only [HW_arg8_5, HW_arg8_4]
  iterate 3 refine miss (by decide) ?_
  refine hit (fun _ => rfl) ?_
  dsimp only [r_1, v704, k0_pay301, k0_pay299, k0_pay298, k0_pay285]
  rw [t4_lkA1 (u := u) hq hp, t4_lm1 (u := u) hq hp, t4_lq1 (u := u) hq hp]
  rfl
theorem t4_v881 : v881 B G I k u x3 f7 k2 f9 = mAt (insOf A B C D x2 x3 x4 x5) 1 k.val (2 * k2.val + 1 + 1) := by
  show View.readAt (Elt F) I.view (Rect.unit (s := S2x4x1x512) ![1, 1, 0, 0] S1x1x1x512.size inb_S2x4x1x512_S1x1x1x512_1_1_0_0).toLoadRect (I.view.writes (Elt F) I.view.junk (HW_arg9_5 B G I k u x3 f7 k2 f9)) = _
  dsimp only [HW_arg9_5, HW_arg9_4]
  iterate 3 refine miss (by decide) ?_
  refine hit (fun _ => rfl) ?_
  dsimp only [r_1, v704, k0_pay302, k0_pay299, k0_pay298, k0_pay285]
  rw [t4_lkA1 (u := u) hq hp, t4_lm1 (u := u) hq hp, t4_lq1 (u := u) hq hp]
  rfl
theorem t4_v904 : v904 B G I J k u x3 f7 k2 f9 = alAt (insOf A B C D x2 x3 x4 x5) 2 k.val (2 * k2.val + 1) := by
  show View.readAt (Elt F) J.view (Rect.unit (s := S2x2x4x1x512) ![1, 1, 2, 0, 0] S1x1x1x1x512.size inb_S2x2x4x1x512_S1x1x1x1x512_1_1_2_0_0).toLoadRect (J.view.writes (Elt F) J.view.junk (HW_arg10_6 B G I k u x3 f7 k2 f9)) = _
  dsimp only [HW_arg10_6, HW_arg10_5, HW_arg10_4]
  iterate 3 refine miss (by decide) ?_
  refine hit (fun _ => rfl) ?_
  dsimp only [r_2, v740, k0_pay307, k0_pay305, k0_pay306, k0_pay286]
  rw [t4_lkA2 (u := u) hq hp, t4_lm2 (u := u) hq hp, t4_lq2 (u := u) hq hp]
  rfl
theorem t4_v906 : v906 B C G H I J K k u x3 x4 f7 k2 f8 f9 f10 f11 = accAt (insOf A B C D x2 x3 x4 x5) 2 k.val (2 * k2.val + 1) := by
  show View.readAt (Elt F) K.view (Rect.unit (s := S2x4x128x512) ![1, 2, 0, 0] S1x1x128x512.size inb_S2x4x128x512_S1x1x128x512_1_2_0_0).toLoadRect (K.view.writes (Elt F) K.view.junk (HW_arg11_6 B C G H I J K k u x3 x4 f7 k2 f8 f9 f10 f11)) = _
  dsimp only [HW_arg11_6, HW_arg11_5, HW_arg11_4]
  iterate 3 refine miss (by decide) ?_
  refine hit (fun _ => rfl) ?_
  dsimp only [r_8, v727, v729, v733, k0_pay304, k0_pay303]
  rw [t4_lacc2 (u := u) hq hp, t4_lal2 (u := u) hq hp, t4_lp2 (u := u) hq hp, t4_lvA2 (u := u) hq hp]
  rfl
theorem t4_v910 : v910 B G H I k u x3 f7 k2 f9 = pAt (insOf A B C D x2 x3 x4 x5) 2 k.val (2 * k2.val + 1) := by
  show View.readAt (Elt F) H.view (Rect.unit (s := S2x2x4x512x512) ![1, 1, 2, 0, 0] S1x1x1x512x512.size inb_S2x2x4x512x512_S1x1x1x512x512_1_1_2_0_0).toLoadRect (H.view.writes (Elt F) H.view.junk (HW_arg8_6 B G I k u x3 f7 k2 f9)) = _
  dsimp only [HW_arg8_6, HW_arg8_5, HW_arg8_4]
  iterate 3 refine miss (by decide) ?_
  refine hit (fun _ => rfl) ?_
  dsimp only [r_10, k0_pay309, r_2, v740, k0_pay308, k0_pay306, k0_pay305, k0_pay286]
  rw [t4_lkA2 (u := u) hq hp, t4_lm2 (u := u) hq hp, t4_lq2 (u := u) hq hp]
  rfl
theorem t4_v917 : v917 B G I k u x3 f7 k2 f9 = mAt (insOf A B C D x2 x3 x4 x5) 2 k.val (2 * k2.val + 1 + 1) := by
  show View.readAt (Elt F) I.view (Rect.unit (s := S2x4x1x512) ![1, 2, 0, 0] S1x1x1x512.size inb_S2x4x1x512_S1x1x1x512_1_2_0_0).toLoadRect (I.view.writes (Elt F) I.view.junk (HW_arg9_6 B G I k u x3 f7 k2 f9)) = _
  dsimp only [HW_arg9_6, HW_arg9_5, HW_arg9_4]
  iterate 3 refine miss (by decide) ?_
  refine hit (fun _ => rfl) ?_
  dsimp only [r_9, k0_pay310, r_2, v740, k0_pay306, k0_pay305, k0_pay286]
  rw [t4_lkA2 (u := u) hq hp, t4_lm2 (u := u) hq hp, t4_lq2 (u := u) hq hp]
  rfl
theorem t4_v940 : v940 B G I J k u x3 f7 k2 f9 = alAt (insOf A B C D x2 x3 x4 x5) 3 k.val (2 * k2.val + 1) := by
  show View.readAt (Elt F) J.view (Rect.unit (s := S2x2x4x1x512) ![1, 1, 3, 0, 0] S1x1x1x1x512.size inb_S2x2x4x1x512_S1x1x1x1x512_1_1_3_0_0).toLoadRect (J.view.writes (Elt F) J.view.junk (HW_arg10_7 B G I k u x3 f7 k2 f9)) = _
  dsimp only [HW_arg10_7, HW_arg10_6, HW_arg10_5, HW_arg10_4]
  iterate 3 refine miss (by decide) ?_
  refine hit (fun _ => rfl) ?_
  dsimp only [r_11, r_12, k0_pay314, r_4, v776, k0_pay313, k0_pay312, r_3, k0_pay288, k0_pay287]
  rw [t4_lkA3 (u := u) hq hp, t4_lm3 (u := u) hq hp, t4_lq3 (u := u) hq hp]
  rfl
theorem t4_v942 : v942 B C G H I J K k u x3 x4 f7 k2 f8 f9 f10 f11 = accAt (insOf A B C D x2 x3 x4 x5) 3 k.val (2 * k2.val + 1) := by
  show View.readAt (Elt F) K.view (Rect.unit (s := S2x4x128x512) ![1, 3, 0, 0] S1x1x128x512.size inb_S2x4x128x512_S1x1x128x512_1_3_0_0).toLoadRect (K.view.writes (Elt F) K.view.junk (HW_arg11_7 B C G H I J K k u x3 x4 f7 k2 f8 f9 f10 f11)) = _
  dsimp only [HW_arg11_7, HW_arg11_6, HW_arg11_5, HW_arg11_4]
  iterate 3 refine miss (by decide) ?_
  refine hit (fun _ => rfl) ?_
  dsimp only [v763, v765, v769, k0_pay311]
  rw [t4_lacc3 (u := u) hq hp, t4_lal3 (u := u) hq hp, t4_lp3 (u := u) hq hp, t4_lvA3 (u := u) hq hp]
  rfl
theorem t4_v946 : v946 B G H I k u x3 f7 k2 f9 = pAt (insOf A B C D x2 x3 x4 x5) 3 k.val (2 * k2.val + 1) := by
  show View.readAt (Elt F) H.view (Rect.unit (s := S2x2x4x512x512) ![1, 1, 3, 0, 0] S1x1x1x512x512.size inb_S2x2x4x512x512_S1x1x1x512x512_1_1_3_0_0).toLoadRect (H.view.writes (Elt F) H.view.junk (HW_arg8_7 B G I k u x3 f7 k2 f9)) = _
  dsimp only [HW_arg8_7, HW_arg8_6, HW_arg8_5, HW_arg8_4]
  iterate 3 refine miss (by decide) ?_
  refine hit (fun _ => rfl) ?_
  dsimp only [r_4, r_12, k0_pay315, v776, k0_pay313, k0_pay312, r_3, k0_pay288, k0_pay287]
  rw [t4_lkA3 (u := u) hq hp, t4_lm3 (u := u) hq hp, t4_lq3 (u := u) hq hp]
  rfl
theorem t4_v953 : v953 B G I k u x3 f7 k2 f9 = mAt (insOf A B C D x2 x3 x4 x5) 3 k.val (2 * k2.val + 1 + 1) := by
  show View.readAt (Elt F) I.view (Rect.unit (s := S2x4x1x512) ![1, 3, 0, 0] S1x1x1x512.size inb_S2x4x1x512_S1x1x1x512_1_3_0_0).toLoadRect (I.view.writes (Elt F) I.view.junk (HW_arg9_7 B G I k u x3 f7 k2 f9)) = _
  dsimp only [HW_arg9_7, HW_arg9_6, HW_arg9_5, HW_arg9_4]
  iterate 3 refine miss (by decide) ?_
  refine hit (fun _ => rfl) ?_
  dsimp only [r_12, k0_pay316, r_4, v776, k0_pay313, k0_pay312, r_3, k0_pay288, k0_pay287]
  rw [t4_lkA3 (u := u) hq hp, t4_lm3 (u := u) hq hp, t4_lq3 (u := u) hq hp]
  rfl
theorem t4_w8_0 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd8 H (H.view.writes (Elt F) f8 ((trip_k0_t4 (F := F) Y c bd i A hA B hB C hC D hD E hE G hG H hH I hI J hJ K hK L hL k w u v48 v421 v424 x3 x4 f7 k2).1 f8 f9 f10 f11)) 1 0 0 = pAt (insOf A B C D x2 x3 x4 x5) 0 k.val (2 * k2.val + 2) := by
  unfold trip_k0_t4
  dsimp only [HW_arg8_7, HW_arg8_6, HW_arg8_5, HW_arg8_4]
  iterate 3 refine miss (by decide) ?_
  refine hit (fun _ => rfl) ?_
  dsimp only [r_13, k0_pay330, k0_pay328, k0_pay327, k0_pay317]
  rw [t4_lkB0 (u := u) hq hp, t4_lq0 (u := u) hq hp, t4_v845 (u := u) hq hp]
  rfl
theorem t4_w8_1 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd8 H (H.view.writes (Elt F) f8 ((trip_k0_t4 (F := F) Y c bd i A hA B hB C hC D hD E hE G hG H hH I hI J hJ K hK L hL k w u v48 v421 v424 x3 x4 f7 k2).1 f8 f9 f10 f11)) 1 0 1 = pAt (insOf A B C D x2 x3 x4 x5) 1 k.val (2 * k2.val + 2) := by
  unfold trip_k0_t4
  dsimp only [HW_arg8_7, HW_arg8_6, HW_arg8_5, HW_arg8_4]
  iterate 2 refine miss (by decide) ?_
  refine hit (fun _ => rfl) ?_
  dsimp only [r_24, k0_pay338, r_16, k0_pay337, k0_pay335, k0_pay334, r_14, r_15, k0_pay320, k0_pay319, k0_pay318]
  rw [t4_lkB1 (u := u) hq hp, t4_lq1 (u := u) hq hp, t4_v881 (u := u) hq hp]
  rfl
theorem t4_w8_2 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd8 H (H.view.writes (Elt F) f8 ((trip_k0_t4 (F := F) Y c bd i A hA B hB C hC D hD E hE G hG H hH I hI J hJ K hK L hL k w u v48 v421 v424 x3 x4 f7 k2).1 f8 f9 f10 f11)) 1 0 2 = pAt (insOf A B C D x2 x3 x4 x5) 2 k.val (2 * k2.val + 2) := by
  unfold trip_k0_t4
  dsimp only [HW_arg8_7, HW_arg8_6, HW_arg8_5, HW_arg8_4]
  iterate 1 refine miss (by decide) ?_
  refine hit (fun _ => rfl) ?_
  dsimp only [r_17, r_25, k0_pay344, k0_pay342, k0_pay341, k0_pay321]
  rw [t4_lkB2 (u := u) hq hp, t4_lq2 (u := u) hq hp, t4_v917 (u := u) hq hp]
  rfl
theorem t4_w8_3 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd8 H (H.view.writes (Elt F) f8 ((trip_k0_t4 (F := F) Y c bd i A hA B hB C hC D hD E hE G hG H hH I hI J hJ K hK L hL k w u v48 v421 v424 x3 x4 f7 k2).1 f8 f9 f10 f11)) 1 0 3 = pAt (insOf A B C D x2 x3 x4 x5) 3 k.val (2 * k2.val + 2) := by
  unfold trip_k0_t4
  dsimp only [HW_arg8_7, HW_arg8_6, HW_arg8_5, HW_arg8_4]
  refine hit (fun _ => rfl) ?_
  dsimp only [r_29, k0_pay495, r_18, k0_pay352, k0_pay350, k0_pay349, k0_pay322]
  rw [t4_lkB3 (u := u) hq hp, t4_lq3 (u := u) hq hp, t4_v953 (u := u) hq hp]
  rfl
theorem t4_w9_0 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd9 I (I.view.writes (Elt F) f9 ((trip_k0_t4 (F := F) Y c bd i A hA B hB C hC D hD E hE G hG H hH I hI J hJ K hK L hL k w u v48 v421 v424 x3 x4 f7 k2).2.1 f8 f9 f10 f11)) 1 0 = mAt (insOf A B C D x2 x3 x4 x5) 0 k.val (2 * k2.val + 2 + 1) := by
  unfold trip_k0_t4
  dsimp only [HW_arg9_7, HW_arg9_6, HW_arg9_5, HW_arg9_4]
  iterate 3 refine miss (by decide) ?_
  refine hit (fun _ => rfl) ?_
  dsimp only [r_13, k0_pay331, k0_pay328, k0_pay327, k0_pay317]
  rw [t4_lkB0 (u := u) hq hp, t4_lq0 (u := u) hq hp, t4_v845 (u := u) hq hp]
  rfl
theorem t4_w9_1 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd9 I (I.view.writes (Elt F) f9 ((trip_k0_t4 (F := F) Y c bd i A hA B hB C hC D hD E hE G hG H hH I hI J hJ K hK L hL k w u v48 v421 v424 x3 x4 f7 k2).2.1 f8 f9 f10 f11)) 1 1 = mAt (insOf A B C D x2 x3 x4 x5) 1 k.val (2 * k2.val + 2 + 1) := by
  unfold trip_k0_t4
  dsimp only [HW_arg9_7, HW_arg9_6, HW_arg9_5, HW_arg9_4]
  iterate 2 refine miss (by decide) ?_
  refine hit (fun _ => rfl) ?_
  dsimp only [r_23, k0_pay339, r_16, k0_pay335, k0_pay334, r_14, r_15, k0_pay320, k0_pay319, k0_pay318]
  rw [t4_lkB1 (u := u) hq hp, t4_lq1 (u := u) hq hp, t4_v881 (u := u) hq hp]
  rfl
theorem t4_w9_2 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd9 I (I.view.writes (Elt F) f9 ((trip_k0_t4 (F := F) Y c bd i A hA B hB C hC D hD E hE G hG H hH I hI J hJ K hK L hL k w u v48 v421 v424 x3 x4 f7 k2).2.1 f8 f9 f10 f11)) 1 2 = mAt (insOf A B C D x2 x3 x4 x5) 2 k.val (2 * k2.val + 2 + 1) := by
  unfold trip_k0_t4
  dsimp only [HW_arg9_7, HW_arg9_6, HW_arg9_5, HW_arg9_4]
  iterate 1 refine miss (by decide) ?_
  refine hit (fun _ => rfl) ?_
  dsimp only [r_17, r_25, k0_pay345, k0_pay342, k0_pay341, k0_pay321]
  rw [t4_lkB2 (u := u) hq hp, t4_lq2 (u := u) hq hp, t4_v917 (u := u) hq hp]
  rfl
theorem t4_w9_3 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd9 I (I.view.writes (Elt F) f9 ((trip_k0_t4 (F := F) Y c bd i A hA B hB C hC D hD E hE G hG H hH I hI J hJ K hK L hL k w u v48 v421 v424 x3 x4 f7 k2).2.1 f8 f9 f10 f11)) 1 3 = mAt (insOf A B C D x2 x3 x4 x5) 3 k.val (2 * k2.val + 2 + 1) := by
  unfold trip_k0_t4
  dsimp only [HW_arg9_7, HW_arg9_6, HW_arg9_5, HW_arg9_4]
  refine hit (fun _ => rfl) ?_
  dsimp only [r_28, k0_pay496, r_18, k0_pay350, k0_pay349, k0_pay322]
  rw [t4_lkB3 (u := u) hq hp, t4_lq3 (u := u) hq hp, t4_v953 (u := u) hq hp]
  rfl
theorem t4_w10_0 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd10 J (J.view.writes (Elt F) f10 ((trip_k0_t4 (F := F) Y c bd i A hA B hB C hC D hD E hE G hG H hH I hI J hJ K hK L hL k w u v48 v421 v424 x3 x4 f7 k2).2.2.1 f8 f9 f10 f11)) 1 0 0 = alAt (insOf A B C D x2 x3 x4 x5) 0 k.val (2 * k2.val + 2) := by
  unfold trip_k0_t4
  dsimp only [HW_arg10_7, HW_arg10_6, HW_arg10_5, HW_arg10_4]
  iterate 3 refine miss (by decide) ?_
  refine hit (fun _ => rfl) ?_
  dsimp only [r_13, k0_pay329, k0_pay327, k0_pay328, k0_pay317]
  rw [t4_lkB0 (u := u) hq hp, t4_lq0 (u := u) hq hp, t4_v845 (u := u) hq hp]
  rfl
theorem t4_w10_1 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd10 J (J.view.writes (Elt F) f10 ((trip_k0_t4 (F := F) Y c bd i A hA B hB C hC D hD E hE G hG H hH I hI J hJ K hK L hL k w u v48 v421 v424 x3 x4 f7 k2).2.2.1 f8 f9 f10 f11)) 1 0 1 = alAt (insOf A B C D x2 x3 x4 x5) 1 k.val (2 * k2.val + 2) := by
  unfold trip_k0_t4
  dsimp only [HW_arg10_7, HW_arg10_6, HW_arg10_5, HW_arg10_4]
  iterate 2 refine miss (by decide) ?_
  refine hit (fun _ => rfl) ?_
  dsimp only [r_16, k0_pay336, k0_pay334, k0_pay335, r_14, r_15, k0_pay320, k0_pay319, k0_pay318]
  rw [t4_lkB1 (u := u) hq hp, t4_lq1 (u := u) hq hp, t4_v881 (u := u) hq hp]
  rfl
theorem t4_w10_2 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd10 J (J.view.writes (Elt F) f10 ((trip_k0_t4 (F := F) Y c bd i A hA B hB C hC D hD E hE G hG H hH I hI J hJ K hK L hL k w u v48 v421 v424 x3 x4 f7 k2).2.2.1 f8 f9 f10 f11)) 1 0 2 = alAt (insOf A B C D x2 x3 x4 x5) 2 k.val (2 * k2.val + 2) := by
  unfold trip_k0_t4
  dsimp only [HW_arg10_7, HW_arg10_6, HW_arg10_5, HW_arg10_4]
  iterate 1 refine miss (by decide) ?_
  refine hit (fun _ => rfl) ?_
  dsimp only [r_17, r_25, k0_pay343, k0_pay342, k0_pay341, k0_pay321]
  rw [t4_lkB2 (u := u) hq hp, t4_lq2 (u := u) hq hp, t4_v917 (u := u) hq hp]
  rfl
theorem t4_w10_3 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd10 J (J.view.writes (Elt F) f10 ((trip_k0_t4 (F := F) Y c bd i A hA B hB C hC D hD E hE G hG H hH I hI J hJ K hK L hL k w u v48 v421 v424 x3 x4 f7 k2).2.2.1 f8 f9 f10 f11)) 1 0 3 = alAt (insOf A B C D x2 x3 x4 x5) 3 k.val (2 * k2.val + 2) := by
  unfold trip_k0_t4
  dsimp only [HW_arg10_7, HW_arg10_6, HW_arg10_5, HW_arg10_4]
  refine hit (fun _ => rfl) ?_
  dsimp only [r_18, k0_pay351, k0_pay349, k0_pay350, k0_pay322]
  rw [t4_lkB3 (u := u) hq hp, t4_lq3 (u := u) hq hp, t4_v953 (u := u) hq hp]
  rfl
theorem t4_w11_0 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd11 K (K.view.writes (Elt F) f11 ((trip_k0_t4 (F := F) Y c bd i A hA B hB C hC D hD E hE G hG H hH I hI J hJ K hK L hL k w u v48 v421 v424 x3 x4 f7 k2).2.2.2.1 f8 f9 f10 f11)) 1 0 = accAt (insOf A B C D x2 x3 x4 x5) 0 k.val (2 * k2.val + 2) := by
  unfold trip_k0_t4
  dsimp only [HW_arg11_7, HW_arg11_6, HW_arg11_5, HW_arg11_4]
  iterate 3 refine miss (by decide) ?_
  refine hit (fun _ => rfl) ?_
  dsimp only [r_19, r_20, r_21, cst_807, k0_pay326, k0_pay325, k0_pay324, k0_pay323]
  rw [t4_lvB0 (u := u) hq hp, t4_v838 (u := u) hq hp, t4_v832 (u := u) hq hp, t4_v834 (u := u) hq hp]
  rfl
theorem t4_w11_1 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd11 K (K.view.writes (Elt F) f11 ((trip_k0_t4 (F := F) Y c bd i A hA B hB C hC D hD E hE G hG H hH I hI J hJ K hK L hL k w u v48 v421 v424 x3 x4 f7 k2).2.2.2.1 f8 f9 f10 f11)) 1 1 = accAt (insOf A B C D x2 x3 x4 x5) 1 k.val (2 * k2.val + 2) := by
  unfold trip_k0_t4
  dsimp only [HW_arg11_7, HW_arg11_6, HW_arg11_5, HW_arg11_4]
  iterate 2 refine miss (by decide) ?_
  refine hit (fun _ => rfl) ?_
  dsimp only [r_22, k0_pay333, k0_pay332]
  rw [t4_lvB1 (u := u) hq hp, t4_v868 (u := u) hq hp, t4_v870 (u := u) hq hp, t4_v874 (u := u) hq hp]
  rfl
theorem t4_w11_2 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd11 K (K.view.writes (Elt F) f11 ((trip_k0_t4 (F := F) Y c bd i A hA B hB C hC D hD E hE G hG H hH I hI J hJ K hK L hL k w u v48 v421 v424 x3 x4 f7 k2).2.2.2.1 f8 f9 f10 f11)) 1 2 = accAt (insOf A B C D x2 x3 x4 x5) 2 k.val (2 * k2.val + 2) := by
  unfold trip_k0_t4
  dsimp only [HW_arg11_7, HW_arg11_6, HW_arg11_5, HW_arg11_4]
  iterate 1 refine miss (by decide) ?_
  refine hit (fun _ => rfl) ?_
  dsimp only [k0_pay340]
  rw [t4_lvB2 (u := u) hq hp, t4_v904 (u := u) hq hp, t4_v906 (u := u) hq hp, t4_v910 (u := u) hq hp]
  rfl
theorem t4_w11_3 (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : rd11 K (K.view.writes (Elt F) f11 ((trip_k0_t4 (F := F) Y c bd i A hA B hB C hC D hD E hE G hG H hH I hI J hJ K hK L hL k w u v48 v421 v424 x3 x4 f7 k2).2.2.2.1 f8 f9 f10 f11)) 1 3 = accAt (insOf A B C D x2 x3 x4 x5) 3 k.val (2 * k2.val + 2) := by
  unfold trip_k0_t4
  dsimp only [HW_arg11_7, HW_arg11_6, HW_arg11_5, HW_arg11_4]
  refine hit (fun _ => rfl) ?_
  dsimp only [r_26, r_27, k0_pay348, k0_pay347, k0_pay346]
  rw [t4_lvB3 (u := u) hq hp, t4_v946 (u := u) hq hp, t4_v940 (u := u) hq hp, t4_v942 (u := u) hq hp]
  rfl

/-- A trip of the loop takes the state after `2 k2` key tiles to the state after `2 k2 + 2`. -/
theorem t4_pend (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : Pend H I J K (insOf A B C D x2 x3 x4 x5) (H.view.writes (Elt F) f8 ((trip_k0_t4 (F := F) Y c bd i A hA B hB C hC D hD E hE G hG H hH I hI J hJ K hK L hL k w u v48 v421 v424 x3 x4 f7 k2).1 f8 f9 f10 f11)) (I.view.writes (Elt F) f9 ((trip_k0_t4 (F := F) Y c bd i A hA B hB C hC D hD E hE G hG H hH I hI J hJ K hK L hL k w u v48 v421 v424 x3 x4 f7 k2).2.1 f8 f9 f10 f11)) (J.view.writes (Elt F) f10 ((trip_k0_t4 (F := F) Y c bd i A hA B hB C hC D hD E hE G hG H hH I hI J hJ K hK L hL k w u v48 v421 v424 x3 x4 f7 k2).2.2.1 f8 f9 f10 f11)) (K.view.writes (Elt F) f11 ((trip_k0_t4 (F := F) Y c bd i A hA B hB C hC D hD E hE G hG H hH I hI J hJ K hK L hL k w u v48 v421 v424 x3 x4 f7 k2).2.2.2.1 f8 f9 f10 f11)) 1 0 k.val (2 * k2.val + 2) where
  m := by
    intro h
    fin_cases h
    exacts [t4_w9_0 (u := u) hq hp Y c bd i hA hB hC hD hE hG hH hI hJ hK hL w v48 v421 v424, t4_w9_1 (u := u) hq hp Y c bd i hA hB hC hD hE hG hH hI hJ hK hL w v48 v421 v424, t4_w9_2 (u := u) hq hp Y c bd i hA hB hC hD hE hG hH hI hJ hK hL w v48 v421 v424, t4_w9_3 (u := u) hq hp Y c bd i hA hB hC hD hE hG hH hI hJ hK hL w v48 v421 v424]
  al := by
    intro h
    fin_cases h
    exacts [t4_w10_0 (u := u) hq hp Y c bd i hA hB hC hD hE hG hH hI hJ hK hL w v48 v421 v424, t4_w10_1 (u := u) hq hp Y c bd i hA hB hC hD hE hG hH hI hJ hK hL w v48 v421 v424, t4_w10_2 (u := u) hq hp Y c bd i hA hB hC hD hE hG hH hI hJ hK hL w v48 v421 v424, t4_w10_3 (u := u) hq hp Y c bd i hA hB hC hD hE hG hH hI hJ hK hL w v48 v421 v424]
  p := by
    intro h
    fin_cases h
    exacts [t4_w8_0 (u := u) hq hp Y c bd i hA hB hC hD hE hG hH hI hJ hK hL w v48 v421 v424, t4_w8_1 (u := u) hq hp Y c bd i hA hB hC hD hE hG hH hI hJ hK hL w v48 v421 v424, t4_w8_2 (u := u) hq hp Y c bd i hA hB hC hD hE hG hH hI hJ hK hL w v48 v421 v424, t4_w8_3 (u := u) hq hp Y c bd i hA hB hC hD hE hG hH hI hJ hK hL w v48 v421 v424]
  acc := by
    intro h
    fin_cases h
    exacts [t4_w11_0 (u := u) hq hp Y c bd i hA hB hC hD hE hG hH hI hJ hK hL w v48 v421 v424, t4_w11_1 (u := u) hq hp Y c bd i hA hB hC hD hE hG hH hI hJ hK hL w v48 v421 v424, t4_w11_2 (u := u) hq hp Y c bd i hA hB hC hD hE hG hH hI hJ hK hL w v48 v421 v424, t4_w11_3 (u := u) hq hp Y c bd i hA hB hC hD hE hG hH hI hJ hK hL w v48 v421 v424]

end

section
variable {A : Memref sig .tc .vmem S1x4x8x128x512 .bf16} {B : Memref sig .tc .vmem S4096x512 .bf16} {C : Memref sig .tc .vmem S1x4x8x128x512 .bf16} {D : Memref sig .tc .vmem S2x512x512 .f32} {E : Memref sig .tc .vmem S4096x256 .bf16} {G : Memref sig .tc .vmem S4x128x512 .bf16} {H : Memref sig .tc .vmem S2x2x4x512x512 .bf16} {I : Memref sig .tc .vmem S2x4x1x512 .f32} {J : Memref sig .tc .vmem S2x2x4x1x512 .f32} {K : Memref sig .tc .vmem S2x4x128x512 .f32} {L : Memref sig .tc .vmem S2x8x512 .f32}
  {k : T1} {u : k0_cond5 k = 1#1} {x2 : BufTy.Contents (Elt F) A.view.ty} {x3 : BufTy.Contents (Elt F) B.view.ty} {x4 : BufTy.Contents (Elt F) C.view.ty} {x5 : BufTy.Contents (Elt F) D.view.ty} {f7 : BufTy.Contents (Elt F) G.view.ty}
  {f8 : BufTy.Contents (Elt F) H.view.ty} {f9 : BufTy.Contents (Elt F) I.view.ty} {f10 : BufTy.Contents (Elt F) J.view.ty} {f11 : BufTy.Contents (Elt F) K.view.ty}

/-- The loop takes the state after the diagonal tile to the state after twice as many tiles as trips. -/
theorem t4_loop (hq : QOk G (insOf A B C D x2 x3 x4 x5) f7 k.val) (hp : Pend H I J K (insOf A B C D x2 x3 x4 x5) f8 f9 f10 f11 1 0 k.val 0)
    (Y : Variants) (c : Dev nD) (bd : Option Y.V) (i : grid0.Coords) (hA : A.IsWhole) (hB : B.IsWhole) (hC : C.IsWhole) (hD : D.IsWhole) (hE : E.IsWhole) (hG : G.IsWhole) (hH : H.IsWhole) (hI : I.IsWhole) (hJ : J.IsWhole) (hK : K.IsWhole) (hL : L.IsWhole) (w v48 v421 : BitVec 32) (v424 : FVec F S512x256 .bf16) : ∀ n, n ≤ (k0_t4_loop k).trips → Pend H I J K (insOf A B C D x2 x3 x4 x5) (H.view.writes (Elt F) f8 (pb_k0_t4 (F := F) Y c bd i A hA B hB C hC D hD E hE G hG H hH I hI J hJ K hK L hL k w u v48 v421 v424 x3 x4 f7 f8 f9 f10 f11 n).1) (I.view.writes (Elt F) f9 (pb_k0_t4 (F := F) Y c bd i A hA B hB C hC D hD E hE G hG H hH I hI J hJ K hK L hL k w u v48 v421 v424 x3 x4 f7 f8 f9 f10 f11 n).2.1) (J.view.writes (Elt F) f10 (pb_k0_t4 (F := F) Y c bd i A hA B hB C hC D hD E hE G hG H hH I hI J hJ K hK L hL k w u v48 v421 v424 x3 x4 f7 f8 f9 f10 f11 n).2.2.1) (K.view.writes (Elt F) f11 (pb_k0_t4 (F := F) Y c bd i A hA B hB C hC D hD E hE G hG H hH I hI J hJ K hK L hL k w u v48 v421 v424 x3 x4 f7 f8 f9 f10 f11 n).2.2.2) 1 0 k.val (2 * n)
  | 0, _ => hp
  | n + 1, hn => by
    have hh := t4_pend (u := u) (k2 := ⟨n, hn⟩) hq (t4_loop hq hp Y c bd i hA hB hC hD hE hG hH hI hJ hK hL w v48 v421 v424 n (Nat.le_of_succ_le hn)) Y c bd i hA hB hC hD hE hG hH hI hJ hK hL w v48 v421 v424
    rw [pb_k0_t4_succ Y c bd i A hA B hB C hC D hD E hE G hG H hH I hI J hJ K hK L hL k w u v48 v421 v424 x3 x4 f7 f8 f9 f10 f11 ⟨n, hn⟩]
    simp only [View.writes_append]
    exact hh

end

end Cert.Flash
-- ==== Proof.FlashAfterOdd.lean ====
module

public import proofs.«01_k».proof.Proof.FlashRead
public import proofs.«01_k».proof.Proof.FlashOdd
public import proofs.«01_k».proof.Proof.FlashPairB

@[expose] public section

set_option maxRecDepth 8192
set_option maxHeartbeats 100000

/-! What a trip of the query-tile loop leaves (odd trips), read off the pieces it writes. -/

noncomputable section

namespace Cert.Flash

open Cert.KernelIdeal Cert.KernelIdeal.Gen Idealize.ShloMosaic Idealize.ShloMosaic.TcCoe Idealize.SL Idealize.SL.RA Idealize.SL.BI
open Sem
open tripOdd.sl

variable {F : FTy → Type} [FloatOps F]

theorem odd_off64 : ∀ k : T1, k0_cond5 k = 1#1 → k0_off64 k = ![0, (0 : Fin 4).val, (m8 k.val).val, 0, 0] := by decide +kernel
theorem odd_off68t : ∀ k : T1, k0_cond5 k = 1#1 → k0_off68 k 0#32 = ![512 * (m8 k.val).val, 128 * (0 : Fin 4).val] := by decide +kernel
theorem odd_off68b : ∀ k : T1, k0_cond5 k = 1#1 → k0_off68 k 256#32 = ![512 * (m8 k.val).val + 256, 128 * (0 : Fin 4).val] := by decide +kernel
theorem odd_off72 : ∀ k : T1, k0_cond5 k = 1#1 → k0_off72 k = ![0, (0 : Fin 4).val, (m8 (tix (k.val - 1) (k.val - 1))).val, 0, 0] := by decide +kernel
theorem odd_off109 : ∀ k : T1, k0_cond5 k = 1#1 → k0_off109 k = ![512 * (m8 (k.val - 1)).val, 128 * (0 : Fin 4).val] := by decide +kernel
theorem odd_off113 : ∀ k : T1, k0_cond5 k = 1#1 → k0_off113 k = ![0, (0 : Fin 4).val, (m8 (tix k.val (k.val - 1))).val, 0, 0] := by decide +kernel
theorem odd_off65 : ∀ k : T1, k0_cond5 k = 1#1 → k0_off65 k = ![0, (1 : Fin 4).val, (m8 k.val).val, 0, 0] := by decide +kernel
theorem odd_off69t : ∀ k : T1, k0_cond5 k = 1#1 → k0_off69 k 0#32 = ![512 * (m8 k.val).val, 128 * (1 : Fin 4).val] := by decide +kernel
theorem odd_off69b : ∀ k : T1, k0_cond5 k = 1#1 → k0_off69 k 256#32 = ![512 * (m8 k.val).val + 256, 128 * (1 : Fin 4).val] := by decide +kernel
theorem odd_off73 : ∀ k : T1, k0_cond5 k = 1#1 → k0_off73 k = ![0, (1 : Fin 4).val, (m8 (tix (k.val - 1) (k.val - 1))).val, 0, 0] := by decide +kernel
theorem odd_off110 : ∀ k : T1, k0_cond5 k = 1#1 → k0_off110 k = ![512 * (m8 (k.val - 1)).val, 128 * (1 : Fin 4).val] := by decide +kernel
theorem odd_off114 : ∀ k : T1, k0_cond5 k = 1#1 → k0_off114 k = ![0, (1 : Fin 4).val, (m8 (tix k.val (k.val - 1))).val, 0, 0] := by decide +kernel
theorem odd_off66 : ∀ k : T1, k0_cond5 k = 1#1 → k0_off66 k = ![0, (2 : Fin 4).val, (m8 k.val).val, 0, 0] := by decide +kernel
theorem odd_off70t : ∀ k : T1, k0_cond5 k = 1#1 → k0_off70 k 0#32 = ![512 * (m8 k.val).val, 128 * (2 : Fin 4).val] := by decide +kernel
theorem odd_off70b : ∀ k : T1, k0_cond5 k = 1#1 → k0_off70 k 256#32 = ![512 * (m8 k.val).val + 256, 128 * (2 : Fin 4).val] := by decide +kernel
theorem odd_off74 : ∀ k : T1, k0_cond5 k = 1#1 → k0_off74 k = ![0, (2 : Fin 4).val, (m8 (tix (k.val - 1) (k.val - 1))).val, 0, 0] := by decide +kernel
theorem odd_off111 : ∀ k : T1, k0_cond5 k = 1#1 → k0_off111 k = ![512 * (m8 (k.val - 1)).val, 128 * (2 : Fin 4).val] := by decide +kernel
theorem odd_off115 : ∀ k : T1, k0_cond5 k = 1#1 → k0_off115 k = ![0, (2 : Fin 4).val, (m8 (tix k.val (k.val - 1))).val, 0, 0] := by decide +kernel
theorem odd_off67 : ∀ k : T1, k0_cond5 k = 1#1 → k0_off67 k = ![0, (3 : Fin 4).val, (m8 k.val).val, 0, 0] := by decide +kernel
theorem odd_off71t : ∀ k : T1, k0_cond5 k = 1#1 → k0_off71 k 0#32 = ![512 * (m8 k.val).val, 128 * (3 : Fin 4).val] := by decide +kernel
theorem odd_off71b : ∀ k : T1, k0_cond5 k = 1#1 → k0_off71 k 256#32 = ![512 * (m8 k.val).val + 256, 128 * (3 : Fin 4).val] := by decide +kernel
theorem odd_off75 : ∀ k : T1, k0_cond5 k = 1#1 → k0_off75 k = ![0, (3 : Fin 4).val, (m8 (tix (k.val - 1) (k.val - 1))).val, 0, 0] := by decide +kernel
theorem odd_off112 : ∀ k : T1, k0_cond5 k = 1#1 → k0_off112 k = ![512 * (m8 (k.val - 1)).val, 128 * (3 : Fin 4).val] := by decide +kernel
theorem odd_off116 : ∀ k : T1, k0_cond5 k = 1#1 → k0_off116 k = ![0, (3 : Fin 4).val, (m8 (tix k.val (k.val - 1))).val, 0, 0] := by decide +kernel
theorem odd_trips : ∀ k : T1, k0_cond5 k = 1#1 → 2 * (k0_t4_loop k).trips = k.val - 1 := by decide +kernel
theorem odd_none : ∀ k : T1, k0_cond5 k = 1#1 → (k0_t5_loop k).trips = 0 := by decide +kernel
theorem odd_off76 : ∀ k : T1, k0_cond5 k = 1#1 → k0_off76 k = ![512 * (k.val - 1), 0] := by decide +kernel

section
variable {Y : Variants} {c : Dev nD} {bd : Option Y.V} {i : grid0.Coords} {A : Memref sig .tc .vmem S1x4x8x128x512 .bf16} {B : Memref sig .tc .vmem S4096x512 .bf16} {C : Memref sig .tc .vmem S1x4x8x128x512 .bf16} {D : Memref sig .tc .vmem S2x512x512 .f32} {E : Memref sig .tc .vmem S4096x256 .bf16} {G : Memref sig .tc .vmem S4x128x512 .bf16} {H : Memref sig .tc .vmem S2x2x4x512x512 .bf16} {I : Memref sig .tc .vmem S2x4x1x512 .f32} {J : Memref sig .tc .vmem S2x2x4x1x512 .f32} {K : Memref sig .tc .vmem S2x4x128x512 .f32} {L : Memref sig .tc .vmem S2x8x512 .f32}
  {hA : A.IsWhole} {hB : B.IsWhole} {hC : C.IsWhole} {hD : D.IsWhole} {hE : E.IsWhole} {hG : G.IsWhole} {hH : H.IsWhole} {hI : I.IsWhole} {hJ : J.IsWhole} {hK : K.IsWhole} {hL : L.IsWhole}
  {k : T1} {h5 : k0_cond5 k = 1#1} {x2 : BufTy.Contents (Elt F) A.view.ty} {x3 : BufTy.Contents (Elt F) B.view.ty} {x4 : BufTy.Contents (Elt F) C.view.ty} {x5 : BufTy.Contents (Elt F) D.view.ty} {f6 : BufTy.Contents (Elt F) E.view.ty} {f7 : BufTy.Contents (Elt F) G.view.ty}
  {f8 : BufTy.Contents (Elt F) H.view.ty} {f9 : BufTy.Contents (Elt F) I.view.ty} {f10 : BufTy.Contents (Elt F) J.view.ty} {f11 : BufTy.Contents (Elt F) K.view.ty}
  (hp : Pend H I J K (insOf A B C D x2 x3 x4 x5) f8 f9 f10 f11 0 0 (k.val - 1) (k.val - 1))
include hp h5

theorem odd_ld64 : View.readAt (Elt F) A.view (Rect.unit (s := S1x4x8x128x512) (k0_off64 k) S1x1x1x128x512.size (k0_off64_inb k h5)).toLoadRect x2 = (insOf A B C D x2 x3 x4 x5).q 0 k.val := rd_off _ _ _ _ (odd_off64 k h5)
theorem odd_ld68t : View.readAt (Elt F) B.view (Rect.unit (s := S4096x512) (k0_off68 k 0#32) S256x128.size (k0_off68_inb k h5 0)).toLoadRect x3 = (insOf A B C D x2 x3 x4 x5).kTop 0 k.val := rd_off _ _ _ _ (odd_off68t k h5)
theorem odd_ld68b : View.readAt (Elt F) B.view (Rect.unit (s := S4096x512) (k0_off68 k 256#32) S256x128.size (k0_off68_inb k h5 1)).toLoadRect x3 = (insOf A B C D x2 x3 x4 x5).kBot 0 k.val := rd_off _ _ _ _ (odd_off68b k h5)
theorem odd_ld72 : View.readAt (Elt F) C.view (Rect.unit (s := S1x4x8x128x512) (k0_off72 k) S1x1x1x128x512.size (k0_off72_inb k h5)).toLoadRect x4 = (insOf A B C D x2 x3 x4 x5).v 0 (tix (k.val - 1) (k.val - 1)) := rd_off _ _ _ _ (odd_off72 k h5)
theorem odd_ld109 : View.readAt (Elt F) B.view (Rect.unit (s := S4096x512) (k0_off109 k) S512x128.size (k0_off109_inb k h5)).toLoadRect x3 = (insOf A B C D x2 x3 x4 x5).k 0 (k.val - 1) := rd_off _ _ _ _ (odd_off109 k h5)
theorem odd_ld113 : View.readAt (Elt F) C.view (Rect.unit (s := S1x4x8x128x512) (k0_off113 k) S1x1x1x128x512.size (k0_off113_inb k h5)).toLoadRect x4 = (insOf A B C D x2 x3 x4 x5).v 0 (tix k.val (k.val - 1)) := rd_off _ _ _ _ (odd_off113 k h5)
theorem odd_ld65 : View.readAt (Elt F) A.view (Rect.unit (s := S1x4x8x128x512) (k0_off65 k) S1x1x1x128x512.size (k0_off65_inb k h5)).toLoadRect x2 = (insOf A B C D x2 x3 x4 x5).q 1 k.val := rd_off _ _ _ _ (odd_off65 k h5)
theorem odd_ld69t : View.readAt (Elt F) B.view (Rect.unit (s := S4096x512) (k0_off69 k 0#32) S256x128.size (k0_off69_inb k h5 0)).toLoadRect x3 = (insOf A B C D x2 x3 x4 x5).kTop 1 k.val := rd_off _ _ _ _ (odd_off69t k h5)
theorem odd_ld69b : View.readAt (Elt F) B.view (Rect.unit (s := S4096x512) (k0_off69 k 256#32) S256x128.size (k0_off69_inb k h5 1)).toLoadRect x3 = (insOf A B C D x2 x3 x4 x5).kBot 1 k.val := rd_off _ _ _ _ (odd_off69b k h5)
theorem odd_ld73 : View.readAt (Elt F) C.view (Rect.unit (s := S1x4x8x128x512) (k0_off73 k) S1x1x1x128x512.size (k0_off73_inb k h5)).toLoadRect x4 = (insOf A B C D x2 x3 x4 x5).v 1 (tix (k.val - 1) (k.val - 1)) := rd_off _ _ _ _ (odd_off73 k h5)
theorem odd_ld110 : View.readAt (Elt F) B.view (Rect.unit (s := S4096x512) (k0_off110 k) S512x128.size (k0_off110_inb k h5)).toLoadRect x3 = (insOf A B C D x2 x3 x4 x5).k 1 (k.val - 1) := rd_off _ _ _ _ (odd_off110 k h5)
theorem odd_ld114 : View.readAt (Elt F) C.view (Rect.unit (s := S1x4x8x128x512) (k0_off114 k) S1x1x1x128x512.size (k0_off114_inb k h5)).toLoadRect x4 = (insOf A B C D x2 x3 x4 x5).v 1 (tix k.val (k.val - 1)) := rd_off _ _ _ _ (odd_off114 k h5)
theorem odd_ld66 : View.readAt (Elt F) A.view (Rect.unit (s := S1x4x8x128x512) (k0_off66 k) S1x1x1x128x512.size (k0_off66_inb k h5)).toLoadRect x2 = (insOf A B C D x2 x3 x4 x5).q 2 k.val := rd_off _ _ _ _ (odd_off66 k h5)
theorem odd_ld70t : View.readAt (Elt F) B.view (Rect.unit (s := S4096x512) (k0_off70 k 0#32) S256x128.size (k0_off70_inb k h5 0)).toLoadRect x3 = (insOf A B C D x2 x3 x4 x5).kTop 2 k.val := rd_off _ _ _ _ (odd_off70t k h5)
theorem odd_ld70b : View.readAt (Elt F) B.view (Rect.unit (s := S4096x512) (k0_off70 k 256#32) S256x128.size (k0_off70_inb k h5 1)).toLoadRect x3 = (insOf A B C D x2 x3 x4 x5).kBot 2 k.val := rd_off _ _ _ _ (odd_off70b k h5)
theorem odd_ld74 : View.readAt (Elt F) C.view (Rect.unit (s := S1x4x8x128x512) (k0_off74 k) S1x1x1x128x512.size (k0_off74_inb k h5)).toLoadRect x4 = (insOf A B C D x2 x3 x4 x5).v 2 (tix (k.val - 1) (k.val - 1)) := rd_off _ _ _ _ (odd_off74 k h5)
theorem odd_ld111 : View.readAt (Elt F) B.view (Rect.unit (s := S4096x512) (k0_off111 k) S512x128.size (k0_off111_inb k h5)).toLoadRect x3 = (insOf A B C D x2 x3 x4 x5).k 2 (k.val - 1) := rd_off _ _ _ _ (odd_off111 k h5)
theorem odd_ld115 : View.readAt (Elt F) C.view (Rect.unit (s := S1x4x8x128x512) (k0_off115 k) S1x1x1x128x512.size (k0_off115_inb k h5)).toLoadRect x4 = (insOf A B C D x2 x3 x4 x5).v 2 (tix k.val (k.val - 1)) := rd_off _ _ _ _ (odd_off115 k h5)
theorem odd_ld67 : View.readAt (Elt F) A.view (Rect.unit (s := S1x4x8x128x512) (k0_off67 k) S1x1x1x128x512.size (k0_off67_inb k h5)).toLoadRect x2 = (insOf A B C D x2 x3 x4 x5).q 3 k.val := rd_off _ _ _ _ (odd_off67 k h5)
theorem odd_ld71t : View.readAt (Elt F) B.view (Rect.unit (s := S4096x512) (k0_off71 k 0#32) S256x128.size (k0_off71_inb k h5 0)).toLoadRect x3 = (insOf A B C D x2 x3 x4 x5).kTop 3 k.val := rd_off _ _ _ _ (odd_off71t k h5)
theorem odd_ld71b : View.readAt (Elt F) B.view (Rect.unit (s := S4096x512) (k0_off71 k 256#32) S256x128.size (k0_off71_inb k h5 1)).toLoadRect x3 = (insOf A B C D x2 x3 x4 x5).kBot 3 k.val := rd_off _ _ _ _ (odd_off71b k h5)
theorem odd_ld75 : View.readAt (Elt F) C.view (Rect.unit (s := S1x4x8x128x512) (k0_off75 k) S1x1x1x128x512.size (k0_off75_inb k h5)).toLoadRect x4 = (insOf A B C D x2 x3 x4 x5).v 3 (tix (k.val - 1) (k.val - 1)) := rd_off _ _ _ _ (odd_off75 k h5)
theorem odd_ld112 : View.readAt (Elt F) B.view (Rect.unit (s := S4096x512) (k0_off112 k) S512x128.size (k0_off112_inb k h5)).toLoadRect x3 = (insOf A B C D x2 x3 x4 x5).k 3 (k.val - 1) := rd_off _ _ _ _ (odd_off112 k h5)
theorem odd_ld116 : View.readAt (Elt F) C.view (Rect.unit (s := S1x4x8x128x512) (k0_off116 k) S1x1x1x128x512.size (k0_off116_inb k h5)).toLoadRect x4 = (insOf A B C D x2 x3 x4 x5).v 3 (tix k.val (k.val - 1)) := rd_off _ _ _ _ (odd_off116 k h5)
theorem odd_ldbt : View.readAt (Elt F) D.view (Rect.unit (s := S2x512x512) ![0, 0, 0] S1x256x512.size inb_S2x512x512_S1x256x512_0_0_0).toLoadRect x5 = (insOf A B C D x2 x3 x4 x5).bTop := rfl
theorem odd_ldbb : View.readAt (Elt F) D.view (Rect.unit (s := S2x512x512) ![0, 256, 256] S1x256x256.size inb_S2x512x512_S1x256x256_0_256_256).toLoadRect x5 = (insOf A B C D x2 x3 x4 x5).bBot := rfl
theorem odd_v95 : v95 (F := F) A G k h5 x2 = qS ((insOf A B C D x2 x3 x4 x5).q 0 k.val) := by
  unfold v95
  refine (rc_eq _ _ _).trans ?_
  dsimp only [HW7_4]
  iterate 3 refine miss (by decide) ?_
  refine hit (fun _ => rfl) ?_
  dsimp only [v54, v51]
  rw [odd_ld64 (h5 := h5) hp]
  all_goals rfl
theorem odd_v118 : v118 (F := F) A G k h5 x2 = qS ((insOf A B C D x2 x3 x4 x5).q 1 k.val) := by
  unfold v118
  refine (rc_eq _ _ _).trans ?_
  dsimp only [HW7_4]
  iterate 2 refine miss (by decide) ?_
  refine hit (fun _ => rfl) ?_
  dsimp only [v60, v57]
  rw [odd_ld65 (h5 := h5) hp]
  all_goals rfl
theorem odd_v141 : v141 (F := F) A G k h5 x2 = qS ((insOf A B C D x2 x3 x4 x5).q 2 k.val) := by
  unfold v141
  refine (rc_eq _ _ _).trans ?_
  dsimp only [HW7_4]
  iterate 1 refine miss (by decide) ?_
  refine hit (fun _ => rfl) ?_
  dsimp only [v63, k0_pay435]
  rw [odd_ld66 (h5 := h5) hp]
  all_goals rfl
theorem odd_v164 : v164 (F := F) A G k h5 x2 = qS ((insOf A B C D x2 x3 x4 x5).q 3 k.val) := by
  unfold v164
  refine (rc_eq _ _ _).trans ?_
  dsimp only [HW7_4]
  refine hit (fun _ => rfl) ?_
  dsimp only [k0_pay436]
  rw [odd_ld67 (h5 := h5) hp]
  all_goals rfl
theorem odd_v180 : v180 (F := F) K f11 = accAt (insOf A B C D x2 x3 x4 x5) 0 (k.val - 1) (k.val - 1) := by
  unfold v180
  try dsimp only
  exact hp.acc 0
theorem odd_v197 : v197 (F := F) I = mInit := by
  unfold v197
  refine (rc_eq _ _ _).trans ?_
  dsimp only [HW9_1]
  dsimp only [k0_pay437]
  refine (rd_const (Val := Elt F) (e := .f32) _ _ _ _ _ _ ?_ (Scalar.ofBits (F := F) .f32 0xFF800000#32) ?_).trans ?_
  · decide
  · intro x; rfl
  · rfl
theorem odd_v231 : v231 (F := F) J f10 = alAt (insOf A B C D x2 x3 x4 x5) 1 (k.val - 1) (k.val - 1) := by
  unfold v231
  try dsimp only
  exact hp.al 1
theorem odd_v233 : v233 (F := F) K f11 = accAt (insOf A B C D x2 x3 x4 x5) 1 (k.val - 1) (k.val - 1) := by
  unfold v233
  try dsimp only
  exact hp.acc 1
theorem odd_v237 : v237 (F := F) H f8 = pAt (insOf A B C D x2 x3 x4 x5) 1 (k.val - 1) (k.val - 1) := by
  unfold v237
  try dsimp only
  exact hp.p 1
theorem odd_v250 : v250 (F := F) A B D G I k h5 x2 x3 x5 = mInit := by
  unfold v250
  refine (rc_eq _ _ _).trans ?_
  dsimp only [HW9_2, HW9_1]
  iterate 1 refine miss (by decide) ?_
  dsimp only [k0_pay437]
  refine (rd_const (Val := Elt F) (e := .f32) _ _ _ _ _ _ ?_ (Scalar.ofBits (F := F) .f32 0xFF800000#32) ?_).trans ?_
  · decide
  · intro x; rfl
  · rfl
theorem odd_v284 : v284 (F := F) J f10 = alAt (insOf A B C D x2 x3 x4 x5) 2 (k.val - 1) (k.val - 1) := by
  unfold v284
  try dsimp only
  exact hp.al 2
theorem odd_v286 : v286 (F := F) K f11 = accAt (insOf A B C D x2 x3 x4 x5) 2 (k.val - 1) (k.val - 1) := by
  unfold v286
  try dsimp only
  exact hp.acc 2
theorem odd_v290 : v290 (F := F) H f8 = pAt (insOf A B C D x2 x3 x4 x5) 2 (k.val - 1) (k.val - 1) := by
  unfold v290
  try dsimp only
  exact hp.p 2
theorem odd_v303 : v303 (F := F) A B D G I k h5 x2 x3 x5 = mInit := by
  unfold v303
  refine (rc_eq _ _ _).trans ?_
  dsimp only [HW9_3, HW9_2, HW9_1]
  iterate 2 refine miss (by decide) ?_
  dsimp only [k0_pay437]
  refine (rd_const (Val := Elt F) (e := .f32) _ _ _ _ _ _ ?_ (Scalar.ofBits (F := F) .f32 0xFF800000#32) ?_).trans ?_
  · decide
  · intro x; rfl
  · rfl
theorem odd_v337 : v337 (F := F) J f10 = alAt (insOf A B C D x2 x3 x4 x5) 3 (k.val - 1) (k.val - 1) := by
  unfold v337
  try dsimp only
  exact hp.al 3
theorem odd_v339 : v339 (F := F) K f11 = accAt (insOf A B C D x2 x3 x4 x5) 3 (k.val - 1) (k.val - 1) := by
  unfold v339
  try dsimp only
  exact hp.acc 3
theorem odd_v343 : v343 (F := F) H f8 = pAt (insOf A B C D x2 x3 x4 x5) 3 (k.val - 1) (k.val - 1) := by
  unfold v343
  try dsimp only
  exact hp.p 3
theorem odd_v356 : v356 (F := F) A B D G I k h5 x2 x3 x5 = mInit := by
  unfold v356
  refine (rc_eq _ _ _).trans ?_
  dsimp only [HW9_4, HW9_3, HW9_2, HW9_1]
  iterate 3 refine miss (by decide) ?_
  dsimp only [k0_pay437]
  refine (rd_const (Val := Elt F) (e := .f32) _ _ _ _ _ _ ?_ (Scalar.ofBits (F := F) .f32 0xFF800000#32) ?_).trans ?_
  · decide
  · intro x; rfl
  · rfl
theorem odd_v388 : v388 (F := F) C H J K k h5 x4 f8 f10 f11 = accAt (insOf A B C D x2 x3 x4 x5) 0 (k.val - 1) ((k.val - 1) + 1) := by
  unfold v388
  refine (rc_eq _ _ _).trans ?_
  dsimp only [HW11_5]
  iterate 3 refine miss (by decide) ?_
  refine hit (fun _ => rfl) ?_
  dsimp only [r_11, k0_pay455, k0_pay454]
  rw [odd_ld72 (h5 := h5) hp, odd_v180 (h5 := h5) hp, show View.readAt (Elt F) J.view (Rect.unit (s := S2x2x4x1x512) ![0, 0, 0, 0, 0] S1x1x1x1x512.size inb_S2x2x4x1x512_S1x1x1x1x512_0_0_0_0_0).toLoadRect f10 = _ from hp.al 0, show View.readAt (Elt F) H.view (Rect.unit (s := S2x2x4x512x512) ![0, 0, 0, 0, 0] S1x1x1x512x512.size inb_S2x2x4x512x512_S1x1x1x512x512_0_0_0_0_0).toLoadRect f8 = _ from hp.p 0]
  all_goals rfl
theorem odd_v396 : v396 (F := F) C H J K k h5 x4 f8 f10 f11 = accAt (insOf A B C D x2 x3 x4 x5) 1 (k.val - 1) ((k.val - 1) + 1) := by
  unfold v396
  refine (rc_eq _ _ _).trans ?_
  dsimp only [HW11_5]
  iterate 2 refine miss (by decide) ?_
  refine hit (fun _ => rfl) ?_
  dsimp only [k0_pay463]
  rw [odd_ld73 (h5 := h5) hp, odd_v231 (h5 := h5) hp, odd_v233 (h5 := h5) hp, odd_v237 (h5 := h5) hp]
  all_goals rfl
theorem odd_v404 : v404 (F := F) C H J K k h5 x4 f8 f10 f11 = accAt (insOf A B C D x2 x3 x4 x5) 2 (k.val - 1) ((k.val - 1) + 1) := by
  unfold v404
  refine (rc_eq _ _ _).trans ?_
  dsimp only [HW11_5]
  iterate 1 refine miss (by decide) ?_
  refine hit (fun _ => rfl) ?_
  dsimp only [k0_pay473]
  rw [odd_ld74 (h5 := h5) hp, odd_v284 (h5 := h5) hp, odd_v286 (h5 := h5) hp, odd_v290 (h5 := h5) hp]
  all_goals rfl
theorem odd_v412 : v412 (F := F) C H J K k h5 x4 f8 f10 f11 = accAt (insOf A B C D x2 x3 x4 x5) 3 (k.val - 1) ((k.val - 1) + 1) := by
  unfold v412
  refine (rc_eq _ _ _).trans ?_
  dsimp only [HW11_5]
  refine hit (fun _ => rfl) ?_
  dsimp only [k0_pay484]
  rw [odd_ld75 (h5 := h5) hp, odd_v337 (h5 := h5) hp, odd_v339 (h5 := h5) hp, odd_v343 (h5 := h5) hp]
  all_goals rfl
theorem odd_d8_0 (g : BufTy.Contents (Elt F) H.view.ty) : rd8 H (H.view.writes (Elt F) g [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) 1 0 0 = pAt (insOf A B C D x2 x3 x4 x5) 0 k.val 0 := by
  try dsimp only
  iterate 9 refine miss (by decide) ?_
  refine (rd_mask _ _ 1 0 _ _ _ _ _ _ _ _ (fun _ => rfl)).trans ?_
  dsimp only [r_1, r_2, k0_pay460, k0_pay459, k0_pay457, k0_pay456, k0_pay442, k0_pay440, r, k0_pay441, k0_pay439]
  rw [odd_ld68b (h5 := h5) hp, odd_ld68t (h5 := h5) hp, odd_ldbb (h5 := h5) hp, odd_ldbt (h5 := h5) hp, odd_v197 (h5 := h5) hp, odd_v95 (h5 := h5) hp]
  all_goals rfl
theorem odd_d8_1 (g : BufTy.Contents (Elt F) H.view.ty) : rd8 H (H.view.writes (Elt F) g [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) 1 0 1 = pAt (insOf A B C D x2 x3 x4 x5) 1 k.val 0 := by
  try dsimp only
  iterate 6 refine miss (by decide) ?_
  refine (rd_mask _ _ 1 1 _ _ _ _ _ _ _ _ (fun _ => rfl)).trans ?_
  dsimp only [r_5, r_13, r_3, k0_pay469, k0_pay468, k0_pay466, k0_pay465, k0_pay444, k0_pay443, k0_pay464, r_4, k0_pay446, k0_pay445]
  rw [odd_ld69b (h5 := h5) hp, odd_ld69t (h5 := h5) hp, odd_ldbb (h5 := h5) hp, odd_ldbt (h5 := h5) hp, odd_v250 (h5 := h5) hp, odd_v118 (h5 := h5) hp]
  all_goals rfl
theorem odd_d8_2 (g : BufTy.Contents (Elt F) H.view.ty) : rd8 H (H.view.writes (Elt F) g [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) 1 0 2 = pAt (insOf A B C D x2 x3 x4 x5) 2 k.val 0 := by
  try dsimp only
  iterate 3 refine miss (by decide) ?_
  refine (rd_mask _ _ 1 2 _ _ _ _ _ _ _ _ (fun _ => rfl)).trans ?_
  dsimp only [r_7, r_15, r_16, r_6, k0_pay481, k0_pay476, k0_pay480, k0_pay478, k0_pay477, k0_pay448, k0_pay447, k0_pay475, k0_pay474, k0_pay449]
  rw [odd_ld70b (h5 := h5) hp, odd_ld70t (h5 := h5) hp, odd_ldbb (h5 := h5) hp, odd_ldbt (h5 := h5) hp, odd_v303 (h5 := h5) hp, odd_v141 (h5 := h5) hp]
  all_goals rfl
theorem odd_d8_3 (g : BufTy.Contents (Elt F) H.view.ty) : rd8 H (H.view.writes (Elt F) g [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) 1 0 3 = pAt (insOf A B C D x2 x3 x4 x5) 3 k.val 0 := by
  try dsimp only
  refine (rd_mask _ _ 1 3 _ _ _ _ _ _ _ _ (fun _ => rfl)).trans ?_
  dsimp only [r_10, r_18, r_19, r_9, k0_pay491, k0_pay490, k0_pay488, k0_pay487, r_8, k0_pay452, k0_pay451, k0_pay450, k0_pay486, k0_pay485, k0_pay453]
  rw [odd_ld71b (h5 := h5) hp, odd_ld71t (h5 := h5) hp, odd_ldbb (h5 := h5) hp, odd_ldbt (h5 := h5) hp, odd_v356 (h5 := h5) hp, odd_v164 (h5 := h5) hp]
  all_goals rfl
theorem odd_d9_0 (g : BufTy.Contents (Elt F) I.view.ty) : rd9 I (I.view.writes (Elt F) g (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) 1 0 = mAt (insOf A B C D x2 x3 x4 x5) 0 k.val 1 := by
  dsimp only [HW9_4, HW9_3, HW9_2, HW9_1]
  iterate 3 refine miss (by decide) ?_
  refine hit (fun _ => rfl) ?_
  dsimp only [r_12, k0_pay462, r_1, r_2, k0_pay457, k0_pay456, k0_pay442, k0_pay440, r, k0_pay441, k0_pay439]
  rw [odd_ld68b (h5 := h5) hp, odd_ld68t (h5 := h5) hp, odd_ldbb (h5 := h5) hp, odd_ldbt (h5 := h5) hp, odd_v197 (h5 := h5) hp, odd_v95 (h5 := h5) hp]
  all_goals rfl
theorem odd_d9_1 (g : BufTy.Contents (Elt F) I.view.ty) : rd9 I (I.view.writes (Elt F) g (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) 1 1 = mAt (insOf A B C D x2 x3 x4 x5) 1 k.val 1 := by
  dsimp only [HW9_4, HW9_3, HW9_2, HW9_1]
  iterate 2 refine miss (by decide) ?_
  refine hit (fun _ => rfl) ?_
  dsimp only [r_14, k0_pay472, r_5, r_13, k0_pay466, k0_pay465, r_3, k0_pay464, k0_pay444, k0_pay443, r_4, k0_pay446, k0_pay445]
  rw [odd_ld69b (h5 := h5) hp, odd_ld69t (h5 := h5) hp, odd_ldbb (h5 := h5) hp, odd_ldbt (h5 := h5) hp, odd_v250 (h5 := h5) hp, odd_v118 (h5 := h5) hp]
  all_goals rfl
theorem odd_d9_2 (g : BufTy.Contents (Elt F) I.view.ty) : rd9 I (I.view.writes (Elt F) g (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) 1 2 = mAt (insOf A B C D x2 x3 x4 x5) 2 k.val 1 := by
  dsimp only [HW9_4, HW9_3, HW9_2, HW9_1]
  iterate 1 refine miss (by decide) ?_
  refine hit (fun _ => rfl) ?_
  dsimp only [r_17, k0_pay483, r_15, r_16, k0_pay478, k0_pay476, k0_pay477, r_7, k0_pay475, k0_pay449, k0_pay447, r_6, k0_pay474, k0_pay448]
  rw [odd_ld70b (h5 := h5) hp, odd_ld70t (h5 := h5) hp, odd_ldbb (h5 := h5) hp, odd_ldbt (h5 := h5) hp, odd_v303 (h5 := h5) hp, odd_v141 (h5 := h5) hp]
  all_goals rfl
theorem odd_d9_3 (g : BufTy.Contents (Elt F) I.view.ty) : rd9 I (I.view.writes (Elt F) g (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) 1 3 = mAt (insOf A B C D x2 x3 x4 x5) 3 k.val 1 := by
  dsimp only [HW9_4, HW9_3, HW9_2, HW9_1]
  refine hit (fun _ => rfl) ?_
  dsimp only [r_18, r_19, k0_pay493, k0_pay488, k0_pay487, r_10, k0_pay486, k0_pay453, k0_pay451, r_9, k0_pay485, r_8, k0_pay452, k0_pay450]
  rw [odd_ld71b (h5 := h5) hp, odd_ld71t (h5 := h5) hp, odd_ldbb (h5 := h5) hp, odd_ldbt (h5 := h5) hp, odd_v356 (h5 := h5) hp, odd_v164 (h5 := h5) hp]
  all_goals rfl
theorem odd_d10_0 (g : BufTy.Contents (Elt F) J.view.ty) : rd10 J (J.view.writes (Elt F) g [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) 1 0 0 = alAt (insOf A B C D x2 x3 x4 x5) 0 k.val 0 := by
  try dsimp only
  iterate 3 refine miss (by decide) ?_
  refine hit (fun _ => rfl) ?_
  dsimp only [r_1, r_2, k0_pay458, k0_pay456, k0_pay457, k0_pay442, k0_pay440, r, k0_pay441, k0_pay439]
  rw [odd_ld68b (h5 := h5) hp, odd_ld68t (h5 := h5) hp, odd_ldbb (h5 := h5) hp, odd_ldbt (h5 := h5) hp, odd_v197 (h5 := h5) hp, odd_v95 (h5 := h5) hp]
  all_goals rfl
theorem odd_d10_1 (g : BufTy.Contents (Elt F) J.view.ty) : rd10 J (J.view.writes (Elt F) g [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) 1 0 1 = alAt (insOf A B C D x2 x3 x4 x5) 1 k.val 0 := by
  try dsimp only
  iterate 2 refine miss (by decide) ?_
  refine hit (fun _ => rfl) ?_
  dsimp only [r_5, r_13, k0_pay467, k0_pay465, k0_pay466, r_3, k0_pay464, k0_pay444, k0_pay443, r_4, k0_pay446, k0_pay445]
  rw [odd_ld69b (h5 := h5) hp, odd_ld69t (h5 := h5) hp, odd_ldbb (h5 := h5) hp, odd_ldbt (h5 := h5) hp, odd_v250 (h5 := h5) hp, odd_v118 (h5 := h5) hp]
  all_goals rfl
theorem odd_d10_2 (g : BufTy.Contents (Elt F) J.view.ty) : rd10 J (J.view.writes (Elt F) g [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) 1 0 2 = alAt (insOf A B C D x2 x3 x4 x5) 2 k.val 0 := by
  try dsimp only
  iterate 1 refine miss (by decide) ?_
  refine hit (fun _ => rfl) ?_
  dsimp only [r_15, r_16, k0_pay479, k0_pay476, k0_pay477, k0_pay478, r_7, k0_pay475, k0_pay449, k0_pay447, r_6, k0_pay474, k0_pay448]
  rw [odd_ld70b (h5 := h5) hp, odd_ld70t (h5 := h5) hp, odd_ldbb (h5 := h5) hp, odd_ldbt (h5 := h5) hp, odd_v303 (h5 := h5) hp, odd_v141 (h5 := h5) hp]
  all_goals rfl
theorem odd_d10_3 (g : BufTy.Contents (Elt F) J.view.ty) : rd10 J (J.view.writes (Elt F) g [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) 1 0 3 = alAt (insOf A B C D x2 x3 x4 x5) 3 k.val 0 := by
  try dsimp only
  refine hit (fun _ => rfl) ?_
  dsimp only [r_18, r_19, k0_pay489, k0_pay487, k0_pay488, r_10, k0_pay486, k0_pay453, k0_pay451, r_9, k0_pay485, r_8, k0_pay452, k0_pay450]
  rw [odd_ld71b (h5 := h5) hp, odd_ld71t (h5 := h5) hp, odd_ldbb (h5 := h5) hp, odd_ldbt (h5 := h5) hp, odd_v356 (h5 := h5) hp, odd_v164 (h5 := h5) hp]
  all_goals rfl
theorem odd_d11_0 (g : BufTy.Contents (Elt F) K.view.ty) : rd11 K (K.view.writes (Elt F) g (HW11_5 C H J K k h5 x4 f8 f10 f11)) 1 0 = accAt (insOf A B C D x2 x3 x4 x5) 0 k.val 0 := by
  dsimp only [HW11_5]
  iterate 4 refine miss (by decide) ?_
  dsimp only [k0_pay438]
  refine (rd_const (Val := Elt F) (e := .f32) _ _ _ _ _ _ ?_ (Scalar.ofBits (F := F) .f32 0x00000000#32) ?_).trans ?_
  · decide
  · intro x; rfl
  · rfl
theorem odd_d11_1 (g : BufTy.Contents (Elt F) K.view.ty) : rd11 K (K.view.writes (Elt F) g (HW11_5 C H J K k h5 x4 f8 f10 f11)) 1 1 = accAt (insOf A B C D x2 x3 x4 x5) 1 k.val 0 := by
  dsimp only [HW11_5]
  iterate 4 refine miss (by decide) ?_
  dsimp only [k0_pay438]
  refine (rd_const (Val := Elt F) (e := .f32) _ _ _ _ _ _ ?_ (Scalar.ofBits (F := F) .f32 0x00000000#32) ?_).trans ?_
  · decide
  · intro x; rfl
  · rfl
theorem odd_d11_2 (g : BufTy.Contents (Elt F) K.view.ty) : rd11 K (K.view.writes (Elt F) g (HW11_5 C H J K k h5 x4 f8 f10 f11)) 1 2 = accAt (insOf A B C D x2 x3 x4 x5) 2 k.val 0 := by
  dsimp only [HW11_5]
  iterate 4 refine miss (by decide) ?_
  dsimp only [k0_pay438]
  refine (rd_const (Val := Elt F) (e := .f32) _ _ _ _ _ _ ?_ (Scalar.ofBits (F := F) .f32 0x00000000#32) ?_).trans ?_
  · decide
  · intro x; rfl
  · rfl
theorem odd_d11_3 (g : BufTy.Contents (Elt F) K.view.ty) : rd11 K (K.view.writes (Elt F) g (HW11_5 C H J K k h5 x4 f8 f10 f11)) 1 3 = accAt (insOf A B C D x2 x3 x4 x5) 3 k.val 0 := by
  dsimp only [HW11_5]
  iterate 4 refine miss (by decide) ?_
  dsimp only [k0_pay438]
  refine (rd_const (Val := Elt F) (e := .f32) _ _ _ _ _ _ ?_ (Scalar.ofBits (F := F) .f32 0x00000000#32) ?_).trans ?_
  · decide
  · intro x; rfl
  · rfl
theorem odd_q_0 (g : BufTy.Contents (Elt F) G.view.ty) : rd7 G (G.view.writes (Elt F) g (HW7_4 A k h5 x2)) 0 = qS ((insOf A B C D x2 x3 x4 x5).q 0 k.val) := by
  dsimp only [HW7_4]
  iterate 3 refine miss (by decide) ?_
  refine hit (fun _ => rfl) ?_
  dsimp only [v54, v51]
  rw [odd_ld64 (h5 := h5) hp]
  all_goals rfl
theorem odd_q_1 (g : BufTy.Contents (Elt F) G.view.ty) : rd7 G (G.view.writes (Elt F) g (HW7_4 A k h5 x2)) 1 = qS ((insOf A B C D x2 x3 x4 x5).q 1 k.val) := by
  dsimp only [HW7_4]
  iterate 2 refine miss (by decide) ?_
  refine hit (fun _ => rfl) ?_
  dsimp only [v60, v57]
  rw [odd_ld65 (h5 := h5) hp]
  all_goals rfl
theorem odd_q_2 (g : BufTy.Contents (Elt F) G.view.ty) : rd7 G (G.view.writes (Elt F) g (HW7_4 A k h5 x2)) 2 = qS ((insOf A B C D x2 x3 x4 x5).q 2 k.val) := by
  dsimp only [HW7_4]
  iterate 1 refine miss (by decide) ?_
  refine hit (fun _ => rfl) ?_
  dsimp only [v63, k0_pay435]
  rw [odd_ld66 (h5 := h5) hp]
  all_goals rfl
theorem odd_q_3 (g : BufTy.Contents (Elt F) G.view.ty) : rd7 G (G.view.writes (Elt F) g (HW7_4 A k h5 x2)) 3 = qS ((insOf A B C D x2 x3 x4 x5).q 3 k.val) := by
  dsimp only [HW7_4]
  refine hit (fun _ => rfl) ?_
  dsimp only [k0_pay436]
  rw [odd_ld67 (h5 := h5) hp]
  all_goals rfl
/-- The queries kept are the tile's own. -/
theorem odd_q : QOk G (insOf A B C D x2 x3 x4 x5) (G.view.writes (Elt F) G.view.junk (HW7_4 A k h5 x2)) k.val := by
  intro h
  fin_cases h
  exacts [odd_q_0 (h5 := h5) hp _, odd_q_1 (h5 := h5) hp _, odd_q_2 (h5 := h5) hp _, odd_q_3 (h5 := h5) hp _]
/-- The scratch after the diagonal tile. -/
theorem odd_pend0 : Pend H I J K (insOf A B C D x2 x3 x4 x5) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (K.view.writes (Elt F) K.view.junk (HW11_5 C H J K k h5 x4 f8 f10 f11)) 1 0 k.val 0 where
  m := all4 (odd_d9_0 (h5 := h5) hp _) (odd_d9_1 (h5 := h5) hp _) (odd_d9_2 (h5 := h5) hp _) (odd_d9_3 (h5 := h5) hp _)
  al := all4 (odd_d10_0 (h5 := h5) hp _) (odd_d10_1 (h5 := h5) hp _) (odd_d10_2 (h5 := h5) hp _) (odd_d10_3 (h5 := h5) hp _)
  p := all4 (odd_d8_0 (h5 := h5) hp _) (odd_d8_1 (h5 := h5) hp _) (odd_d8_2 (h5 := h5) hp _) (odd_d8_3 (h5 := h5) hp _)
  acc := all4 (odd_d11_0 (h5 := h5) hp _) (odd_d11_1 (h5 := h5) hp _) (odd_d11_2 (h5 := h5) hp _) (odd_d11_3 (h5 := h5) hp _)
/-- The scratch after the loop over pairs of key tiles. -/
theorem odd_loop : Pend H I J K (insOf A B C D x2 x3 x4 x5) (H.view.writes (Elt F) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (pb_k0_t4 (F := F) Y c bd i A hA B hB C hC D hD E hE G hG H hH I hI J hJ K hK L hL k (arg13 k) h5 (v48 k) (v420 k) (r_20 C H J K k h5 x4 f8 f10 f11) x3 x4 (G.view.writes (Elt F) G.view.junk (HW7_4 A k h5 x2)) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (K.view.writes (Elt F) K.view.junk (HW11_5 C H J K k h5 x4 f8 f10 f11)) (k0_t4_loop k).trips).1) (I.view.writes (Elt F) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (pb_k0_t4 (F := F) Y c bd i A hA B hB C hC D hD E hE G hG H hH I hI J hJ K hK L hL k (arg13 k) h5 (v48 k) (v420 k) (r_20 C H J K k h5 x4 f8 f10 f11) x3 x4 (G.view.writes (Elt F) G.view.junk (HW7_4 A k h5 x2)) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (K.view.writes (Elt F) K.view.junk (HW11_5 C H J K k h5 x4 f8 f10 f11)) (k0_t4_loop k).trips).2.1) (J.view.writes (Elt F) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (pb_k0_t4 (F := F) Y c bd i A hA B hB C hC D hD E hE G hG H hH I hI J hJ K hK L hL k (arg13 k) h5 (v48 k) (v420 k) (r_20 C H J K k h5 x4 f8 f10 f11) x3 x4 (G.view.writes (Elt F) G.view.junk (HW7_4 A k h5 x2)) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (K.view.writes (Elt F) K.view.junk (HW11_5 C H J K k h5 x4 f8 f10 f11)) (k0_t4_loop k).trips).2.2.1) (K.view.writes (Elt F) (K.view.writes (Elt F) K.view.junk (HW11_5 C H J K k h5 x4 f8 f10 f11)) (pb_k0_t4 (F := F) Y c bd i A hA B hB C hC D hD E hE G hG H hH I hI J hJ K hK L hL k (arg13 k) h5 (v48 k) (v420 k) (r_20 C H J K k h5 x4 f8 f10 f11) x3 x4 (G.view.writes (Elt F) G.view.junk (HW7_4 A k h5 x2)) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (K.view.writes (Elt F) K.view.junk (HW11_5 C H J K k h5 x4 f8 f10 f11)) (k0_t4_loop k).trips).2.2.2) 1 0 k.val (k.val - 1) := by
  have e := t4_loop (u := h5) (odd_q (h5 := h5) hp) (odd_pend0 (G := G) (h5 := h5) hp) Y c bd i hA hB hC hD hE hG hH hI hJ hK hL (arg13 k) (v48 k) (v420 k) (r_20 C H J K k h5 x4 f8 f10 f11) _ le_rfl
  rw [odd_trips k h5] at e
  exact e
omit hp in
theorem odd_nil {w v48 v421 v431 : BitVec 32} {v424 : FVec F S512x256 .bf16} {y3 : BufTy.Contents (Elt F) B.view.ty} {y4 : BufTy.Contents (Elt F) C.view.ty}{g7 : BufTy.Contents (Elt F) G.view.ty} {g8 : BufTy.Contents (Elt F) H.view.ty} {g9 : BufTy.Contents (Elt F) I.view.ty} {g10 : BufTy.Contents (Elt F) J.view.ty} {g11 : BufTy.Contents (Elt F) K.view.ty} : pb_k0_t5 (F := F) Y c bd i A hA B hB C hC D hD E hE G hG H hH I hI J hJ K hK L hL k w h5 v48 v421 v424 v431 y3 y4 g7 g8 g9 g10 g11 (Scf.trips (k0_t5_loop k).lb (k0_t5_loop k).ub (k0_t5_loop k).st) = ([], [], [], []) := by
  rw [show Scf.trips (k0_t5_loop k).lb (k0_t5_loop k).ub (k0_t5_loop k).st = 0 from odd_none k h5]
  rfl
theorem odd_v441 : v441 (F := F) A G k h5 x2 = qS ((insOf A B C D x2 x3 x4 x5).q 0 k.val) := by
  unfold v441
  refine (rc_eq _ _ _).trans ?_
  dsimp only [HW7_4]
  iterate 3 refine miss (by decide) ?_
  refine hit (fun _ => rfl) ?_
  dsimp only [v54, v51]
  rw [odd_ld64 (h5 := h5) hp]
  all_goals rfl
theorem odd_v449 : v449 (F := F) A G k h5 x2 = qS ((insOf A B C D x2 x3 x4 x5).q 1 k.val) := by
  unfold v449
  refine (rc_eq _ _ _).trans ?_
  dsimp only [HW7_4]
  iterate 2 refine miss (by decide) ?_
  refine hit (fun _ => rfl) ?_
  dsimp only [v60, v57]
  rw [odd_ld65 (h5 := h5) hp]
  all_goals rfl
theorem odd_v457 : v457 (F := F) A G k h5 x2 = qS ((insOf A B C D x2 x3 x4 x5).q 2 k.val) := by
  unfold v457
  refine (rc_eq _ _ _).trans ?_
  dsimp only [HW7_4]
  iterate 1 refine miss (by decide) ?_
  refine hit (fun _ => rfl) ?_
  dsimp only [v63, k0_pay435]
  rw [odd_ld66 (h5 := h5) hp]
  all_goals rfl
theorem odd_v465 : v465 (F := F) A G k h5 x2 = qS ((insOf A B C D x2 x3 x4 x5).q 3 k.val) := by
  unfold v465
  refine (rc_eq _ _ _).trans ?_
  dsimp only [HW7_4]
  refine hit (fun _ => rfl) ?_
  dsimp only [k0_pay436]
  rw [odd_ld67 (h5 := h5) hp]
  all_goals rfl
theorem odd_v471 : v471 (F := F) Y c bd i A hA B hB C hC D hD E hE G hG H hH I hI J hJ K hK L hL k h5 x2 x3 x4 x5 f8 f9 f10 f11 = alAt (insOf A B C D x2 x3 x4 x5) 0 k.val (k.val - 1) := by
  unfold v471
  refine (rc_eq _ _ _).trans ?_
  try dsimp only
  rw [odd_nil (h5 := h5), List.nil_append]
  rw [View.writes_append]
  refine (rd_base _ _ (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) _ _ ((odd_d10_0 (h5 := h5) hp _).trans (odd_d10_0 (h5 := h5) hp _).symm)).trans ?_
  exact (odd_loop (h5 := h5) hp).al 0
theorem odd_v473 : v473 (F := F) Y c bd i A hA B hB C hC D hD E hE G hG H hH I hI J hJ K hK L hL k h5 x2 x3 x4 x5 f8 f9 f10 f11 = accAt (insOf A B C D x2 x3 x4 x5) 0 k.val (k.val - 1) := by
  unfold v473
  refine (rc_eq _ _ _).trans ?_
  dsimp only [HW11_5]
  rw [odd_nil (h5 := h5), List.nil_append]
  rw [View.writes_append]
  exact (odd_loop (h5 := h5) hp).acc 0
theorem odd_v477 : v477 (F := F) Y c bd i A hA B hB C hC D hD E hE G hG H hH I hI J hJ K hK L hL k h5 x2 x3 x4 x5 f8 f9 f10 f11 = pAt (insOf A B C D x2 x3 x4 x5) 0 k.val (k.val - 1) := by
  unfold v477
  try dsimp only
  rw [odd_nil (h5 := h5), List.nil_append]
  rw [View.writes_append]
  exact (odd_loop (h5 := h5) hp).p 0
theorem odd_v484 : v484 (F := F) Y c bd i A hA B hB C hC D hD E hE G hG H hH I hI J hJ K hK L hL k h5 x2 x3 x4 x5 f8 f9 f10 f11 = mAt (insOf A B C D x2 x3 x4 x5) 0 k.val (k.val - 1 + 1) := by
  unfold v484
  refine (rc_eq _ _ _).trans ?_
  dsimp only [HW9_4, HW9_3, HW9_2, HW9_1]
  rw [odd_nil (h5 := h5), List.nil_append]
  rw [View.writes_append]
  refine (rd_base _ _ (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) _ _ ((odd_d9_0 (h5 := h5) hp _).trans (odd_d9_0 (h5 := h5) hp _).symm)).trans ?_
  exact (odd_loop (h5 := h5) hp).m 0
theorem odd_v507 : v507 (F := F) Y c bd i A hA B hB C hC D hD E hE G hG H hH I hI J hJ K hK L hL k h5 x2 x3 x4 x5 f8 f9 f10 f11 = alAt (insOf A B C D x2 x3 x4 x5) 1 k.val (k.val - 1) := by
  unfold v507
  refine (rc_eq _ _ _).trans ?_
  dsimp only [HW10_1]
  iterate 1 refine miss (by decide) ?_
  rw [odd_nil (h5 := h5), List.nil_append]
  rw [View.writes_append]
  refine (rd_base _ _ (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) _ _ ((odd_d10_1 (h5 := h5) hp _).trans (odd_d10_1 (h5 := h5) hp _).symm)).trans ?_
  exact (odd_loop (h5 := h5) hp).al 1
theorem odd_v509 : v509 (F := F) Y c bd i A hA B hB C hC D hD E hE G hG H hH I hI J hJ K hK L hL k h5 x2 x3 x4 x5 f8 f9 f10 f11 = accAt (insOf A B C D x2 x3 x4 x5) 1 k.val (k.val - 1) := by
  unfold v509
  refine (rc_eq _ _ _).trans ?_
  dsimp only [HW11_1, HW11_5]
  iterate 1 refine miss (by decide) ?_
  rw [odd_nil (h5 := h5), List.nil_append]
  rw [View.writes_append]
  exact (odd_loop (h5 := h5) hp).acc 1
theorem odd_v513 : v513 (F := F) Y c bd i A hA B hB C hC D hD E hE G hG H hH I hI J hJ K hK L hL k h5 x2 x3 x4 x5 f8 f9 f10 f11 = pAt (insOf A B C D x2 x3 x4 x5) 1 k.val (k.val - 1) := by
  unfold v513
  dsimp only [HW8_1]
  iterate 1 refine miss (by decide) ?_
  rw [odd_nil (h5 := h5), List.nil_append]
  rw [View.writes_append]
  exact (odd_loop (h5 := h5) hp).p 1
theorem odd_v520 : v520 (F := F) Y c bd i A hA B hB C hC D hD E hE G hG H hH I hI J hJ K hK L hL k h5 x2 x3 x4 x5 f8 f9 f10 f11 = mAt (insOf A B C D x2 x3 x4 x5) 1 k.val (k.val - 1 + 1) := by
  unfold v520
  refine (rc_eq _ _ _).trans ?_
  dsimp only [HW9_1_1, HW9_4, HW9_3, HW9_2, HW9_1]
  iterate 1 refine miss (by decide) ?_
  rw [odd_nil (h5 := h5), List.nil_append]
  rw [View.writes_append]
  refine (rd_base _ _ (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) _ _ ((odd_d9_1 (h5 := h5) hp _).trans (odd_d9_1 (h5 := h5) hp _).symm)).trans ?_
  exact (odd_loop (h5 := h5) hp).m 1
theorem odd_v543 : v543 (F := F) Y c bd i A hA B hB C hC D hD E hE G hG H hH I hI J hJ K hK L hL k h5 x2 x3 x4 x5 f8 f9 f10 f11 = alAt (insOf A B C D x2 x3 x4 x5) 2 k.val (k.val - 1) := by
  unfold v543
  refine (rc_eq _ _ _).trans ?_
  dsimp only [HW10_2, HW10_1]
  iterate 2 refine miss (by decide) ?_
  rw [odd_nil (h5 := h5), List.nil_append]
  rw [View.writes_append]
  refine (rd_base _ _ (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) _ _ ((odd_d10_2 (h5 := h5) hp _).trans (odd_d10_2 (h5 := h5) hp _).symm)).trans ?_
  exact (odd_loop (h5 := h5) hp).al 2
theorem odd_v545 : v545 (F := F) Y c bd i A hA B hB C hC D hD E hE G hG H hH I hI J hJ K hK L hL k h5 x2 x3 x4 x5 f8 f9 f10 f11 = accAt (insOf A B C D x2 x3 x4 x5) 2 k.val (k.val - 1) := by
  unfold v545
  refine (rc_eq _ _ _).trans ?_
  dsimp only [HW11_2, HW11_1, HW11_5]
  iterate 2 refine miss (by decide) ?_
  rw [odd_nil (h5 := h5), List.nil_append]
  rw [View.writes_append]
  exact (odd_loop (h5 := h5) hp).acc 2
theorem odd_v549 : v549 (F := F) Y c bd i A hA B hB C hC D hD E hE G hG H hH I hI J hJ K hK L hL k h5 x2 x3 x4 x5 f8 f9 f10 f11 = pAt (insOf A B C D x2 x3 x4 x5) 2 k.val (k.val - 1) := by
  unfold v549
  dsimp only [HW8_2, HW8_1]
  iterate 2 refine miss (by decide) ?_
  rw [odd_nil (h5 := h5), List.nil_append]
  rw [View.writes_append]
  exact (odd_loop (h5 := h5) hp).p 2
theorem odd_v556 : v556 (F := F) Y c bd i A hA B hB C hC D hD E hE G hG H hH I hI J hJ K hK L hL k h5 x2 x3 x4 x5 f8 f9 f10 f11 = mAt (insOf A B C D x2 x3 x4 x5) 2 k.val (k.val - 1 + 1) := by
  unfold v556
  refine (rc_eq _ _ _).trans ?_
  dsimp only [HW9_2_1, HW9_1_1, HW9_4, HW9_3, HW9_2, HW9_1]
  iterate 2 refine miss (by decide) ?_
  rw [odd_nil (h5 := h5), List.nil_append]
  rw [View.writes_append]
  refine (rd_base _ _ (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) _ _ ((odd_d9_2 (h5 := h5) hp _).trans (odd_d9_2 (h5 := h5) hp _).symm)).trans ?_
  exact (odd_loop (h5 := h5) hp).m 2
theorem odd_v579 : v579 (F := F) Y c bd i A hA B hB C hC D hD E hE G hG H hH I hI J hJ K hK L hL k h5 x2 x3 x4 x5 f8 f9 f10 f11 = alAt (insOf A B C D x2 x3 x4 x5) 3 k.val (k.val - 1) := by
  unfold v579
  refine (rc_eq _ _ _).trans ?_
  dsimp only [HW10_3, HW10_2, HW10_1]
  iterate 3 refine miss (by decide) ?_
  rw [odd_nil (h5 := h5), List.nil_append]
  rw [View.writes_append]
  refine (rd_base _ _ (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) _ _ ((odd_d10_3 (h5 := h5) hp _).trans (odd_d10_3 (h5 := h5) hp _).symm)).trans ?_
  exact (odd_loop (h5 := h5) hp).al 3
theorem odd_v581 : v581 (F := F) Y c bd i A hA B hB C hC D hD E hE G hG H hH I hI J hJ K hK L hL k h5 x2 x3 x4 x5 f8 f9 f10 f11 = accAt (insOf A B C D x2 x3 x4 x5) 3 k.val (k.val - 1) := by
  unfold v581
  refine (rc_eq _ _ _).trans ?_
  dsimp only [HW11_3, HW11_2, HW11_1, HW11_5]
  iterate 3 refine miss (by decide) ?_
  rw [odd_nil (h5 := h5), List.nil_append]
  rw [View.writes_append]
  exact (odd_loop (h5 := h5) hp).acc 3
theorem odd_v585 : v585 (F := F) Y c bd i A hA B hB C hC D hD E hE G hG H hH I hI J hJ K hK L hL k h5 x2 x3 x4 x5 f8 f9 f10 f11 = pAt (insOf A B C D x2 x3 x4 x5) 3 k.val (k.val - 1) := by
  unfold v585
  dsimp only [HW8_3, HW8_2, HW8_1]
  iterate 3 refine miss (by decide) ?_
  rw [odd_nil (h5 := h5), List.nil_append]
  rw [View.writes_append]
  exact (odd_loop (h5 := h5) hp).p 3
theorem odd_v592 : v592 (F := F) Y c bd i A hA B hB C hC D hD E hE G hG H hH I hI J hJ K hK L hL k h5 x2 x3 x4 x5 f8 f9 f10 f11 = mAt (insOf A B C D x2 x3 x4 x5) 3 k.val (k.val - 1 + 1) := by
  unfold v592
  refine (rc_eq _ _ _).trans ?_
  dsimp only [HW9_3_1, HW9_2_1, HW9_1_1, HW9_4, HW9_3, HW9_2, HW9_1]
  iterate 3 refine miss (by decide) ?_
  rw [odd_nil (h5 := h5), List.nil_append]
  rw [View.writes_append]
  refine (rd_base _ _ (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) _ _ ((odd_d9_3 (h5 := h5) hp _).trans (odd_d9_3 (h5 := h5) hp _).symm)).trans ?_
  exact (odd_loop (h5 := h5) hp).m 3
theorem odd_w8_0 {h1 : ¬ k0_cond1 k = 1#1} {h3 : ¬ k0_cond3 k = 1#1} {h6 : ¬ k0_cond6 k = 1#1} : rd8 H ((tripOdd (F := F) Y c bd i A hA B hB C hC D hD E hE G hG H hH I hI J hJ K hK L hL k h1 h3 h5 h6 x2 x3 x4 x5).2.2.1 f6 f7 f8 f9 f10 f11) 1 1 0 = pAt (insOf A B C D x2 x3 x4 x5) 0 k.val (k.val - 1 + 1) := by
  unfold tripOdd
  dsimp only [HW8_3, HW8_2, HW8_1]
  iterate 3 refine miss (by decide) ?_
  refine hit (fun _ => rfl) ?_
  dsimp only [r_21, k0_pay508, k0_pay506, k0_pay505, k0_pay499]
  rw [odd_ld109 (h5 := h5) hp, odd_v484 (h5 := h5) hp, odd_v441 (h5 := h5) hp]
  all_goals rfl
theorem odd_w8_1 {h1 : ¬ k0_cond1 k = 1#1} {h3 : ¬ k0_cond3 k = 1#1} {h6 : ¬ k0_cond6 k = 1#1} : rd8 H ((tripOdd (F := F) Y c bd i A hA B hB C hC D hD E hE G hG H hH I hI J hJ K hK L hL k h1 h3 h5 h6 x2 x3 x4 x5).2.2.1 f6 f7 f8 f9 f10 f11) 1 1 1 = pAt (insOf A B C D x2 x3 x4 x5) 1 k.val (k.val - 1 + 1) := by
  unfold tripOdd
  dsimp only [HW8_3, HW8_2, HW8_1]
  iterate 2 refine miss (by decide) ?_
  refine hit (fun _ => rfl) ?_
  dsimp only [r_22, k0_pay516, k0_pay514, k0_pay513, k0_pay500]
  rw [odd_ld110 (h5 := h5) hp, odd_v520 (h5 := h5) hp, odd_v449 (h5 := h5) hp]
  all_goals rfl
theorem odd_w8_2 {h1 : ¬ k0_cond1 k = 1#1} {h3 : ¬ k0_cond3 k = 1#1} {h6 : ¬ k0_cond6 k = 1#1} : rd8 H ((tripOdd (F := F) Y c bd i A hA B hB C hC D hD E hE G hG H hH I hI J hJ K hK L hL k h1 h3 h5 h6 x2 x3 x4 x5).2.2.1 f6 f7 f8 f9 f10 f11) 1 1 2 = pAt (insOf A B C D x2 x3 x4 x5) 2 k.val (k.val - 1 + 1) := by
  unfold tripOdd
  dsimp only [HW8_3, HW8_2, HW8_1]
  iterate 1 refine miss (by decide) ?_
  refine hit (fun _ => rfl) ?_
  dsimp only [r_24, r_29, k0_pay523, k0_pay520, k0_pay519, r_23, k0_pay502, k0_pay501]
  rw [odd_ld111 (h5 := h5) hp, odd_v556 (h5 := h5) hp, odd_v457 (h5 := h5) hp]
  all_goals rfl
theorem odd_w8_3 {h1 : ¬ k0_cond1 k = 1#1} {h3 : ¬ k0_cond3 k = 1#1} {h6 : ¬ k0_cond6 k = 1#1} : rd8 H ((tripOdd (F := F) Y c bd i A hA B hB C hC D hD E hE G hG H hH I hI J hJ K hK L hL k h1 h3 h5 h6 x2 x3 x4 x5).2.2.1 f6 f7 f8 f9 f10 f11) 1 1 3 = pAt (insOf A B C D x2 x3 x4 x5) 3 k.val (k.val - 1 + 1) := by
  unfold tripOdd
  dsimp only [HW8_3, HW8_2, HW8_1]
  refine hit (fun _ => rfl) ?_
  dsimp only [r_25, k0_pay530, k0_pay528, k0_pay527, k0_pay503]
  rw [odd_ld112 (h5 := h5) hp, odd_v592 (h5 := h5) hp, odd_v465 (h5 := h5) hp]
  all_goals rfl
theorem odd_w9_0 {h1 : ¬ k0_cond1 k = 1#1} {h3 : ¬ k0_cond3 k = 1#1} {h6 : ¬ k0_cond6 k = 1#1} : rd9 I ((tripOdd (F := F) Y c bd i A hA B hB C hC D hD E hE G hG H hH I hI J hJ K hK L hL k h1 h3 h5 h6 x2 x3 x4 x5).2.2.2.1 f6 f7 f8 f9 f10 f11) 1 0 = mAt (insOf A B C D x2 x3 x4 x5) 0 k.val ((k.val - 1 + 1) + 1) := by
  unfold tripOdd
  dsimp only [HW9_3_1, HW9_2_1, HW9_1_1, HW9_4, HW9_3, HW9_2, HW9_1]
  iterate 3 refine miss (by decide) ?_
  refine hit (fun _ => rfl) ?_
  dsimp only [r_21, k0_pay509, k0_pay506, k0_pay505, k0_pay499]
  rw [odd_ld109 (h5 := h5) hp, odd_v484 (h5 := h5) hp, odd_v441 (h5 := h5) hp]
  all_goals rfl
theorem odd_w9_1 {h1 : ¬ k0_cond1 k = 1#1} {h3 : ¬ k0_cond3 k = 1#1} {h6 : ¬ k0_cond6 k = 1#1} : rd9 I ((tripOdd (F := F) Y c bd i A hA B hB C hC D hD E hE G hG H hH I hI J hJ K hK L hL k h1 h3 h5 h6 x2 x3 x4 x5).2.2.2.1 f6 f7 f8 f9 f10 f11) 1 1 = mAt (insOf A B C D x2 x3 x4 x5) 1 k.val ((k.val - 1 + 1) + 1) := by
  unfold tripOdd
  dsimp only [HW9_3_1, HW9_2_1, HW9_1_1, HW9_4, HW9_3, HW9_2, HW9_1]
  iterate 2 refine miss (by decide) ?_
  refine hit (fun _ => rfl) ?_
  dsimp only [r_28, k0_pay517, r_22, k0_pay514, k0_pay513, k0_pay500]
  rw [odd_ld110 (h5 := h5) hp, odd_v520 (h5 := h5) hp, odd_v449 (h5 := h5) hp]
  all_goals rfl
theorem odd_w9_2 {h1 : ¬ k0_cond1 k = 1#1} {h3 : ¬ k0_cond3 k = 1#1} {h6 : ¬ k0_cond6 k = 1#1} : rd9 I ((tripOdd (F := F) Y c bd i A hA B hB C hC D hD E hE G hG H hH I hI J hJ K hK L hL k h1 h3 h5 h6 x2 x3 x4 x5).2.2.2.1 f6 f7 f8 f9 f10 f11) 1 2 = mAt (insOf A B C D x2 x3 x4 x5) 2 k.val ((k.val - 1 + 1) + 1) := by
  unfold tripOdd
  dsimp only [HW9_3_1, HW9_2_1, HW9_1_1, HW9_4, HW9_3, HW9_2, HW9_1]
  iterate 1 refine miss (by decide) ?_
  refine hit (fun _ => rfl) ?_
  dsimp only [r_29, k0_pay524, r_24, k0_pay520, k0_pay519, r_23, k0_pay502, k0_pay501]
  rw [odd_ld111 (h5 := h5) hp, odd_v556 (h5 := h5) hp, odd_v457 (h5 := h5) hp]
  all_goals rfl
theorem odd_w9_3 {h1 : ¬ k0_cond1 k = 1#1} {h3 : ¬ k0_cond3 k = 1#1} {h6 : ¬ k0_cond6 k = 1#1} : rd9 I ((tripOdd (F := F) Y c bd i A hA B hB C hC D hD E hE G hG H hH I hI J hJ K hK L hL k h1 h3 h5 h6 x2 x3 x4 x5).2.2.2.1 f6 f7 f8 f9 f10 f11) 1 3 = mAt (insOf A B C D x2 x3 x4 x5) 3 k.val ((k.val - 1 + 1) + 1) := by
  unfold tripOdd
  dsimp only [HW9_3_1, HW9_2_1, HW9_1_1, HW9_4, HW9_3, HW9_2, HW9_1]
  refine hit (fun _ => rfl) ?_
  dsimp only [r_32, k0_pay7, r_25, k0_pay528, k0_pay527, k0_pay503]
  rw [odd_ld112 (h5 := h5) hp, odd_v592 (h5 := h5) hp, odd_v465 (h5 := h5) hp]
  all_goals rfl
theorem odd_w10_0 {h1 : ¬ k0_cond1 k = 1#1} {h3 : ¬ k0_cond3 k = 1#1} {h6 : ¬ k0_cond6 k = 1#1} : rd10 J ((tripOdd (F := F) Y c bd i A hA B hB C hC D hD E hE G hG H hH I hI J hJ K hK L hL k h1 h3 h5 h6 x2 x3 x4 x5).2.2.2.2.1 f6 f7 f8 f9 f10 f11) 1 1 0 = alAt (insOf A B C D x2 x3 x4 x5) 0 k.val (k.val - 1 + 1) := by
  unfold tripOdd
  dsimp only [HW10_3, HW10_2, HW10_1]
  iterate 3 refine miss (by decide) ?_
  refine hit (fun _ => rfl) ?_
  dsimp only [r_21, k0_pay507, k0_pay505, k0_pay506, k0_pay499]
  rw [odd_ld109 (h5 := h5) hp, odd_v484 (h5 := h5) hp, odd_v441 (h5 := h5) hp]
  all_goals rfl
theorem odd_w10_1 {h1 : ¬ k0_cond1 k = 1#1} {h3 : ¬ k0_cond3 k = 1#1} {h6 : ¬ k0_cond6 k = 1#1} : rd10 J ((tripOdd (F := F) Y c bd i A hA B hB C hC D hD E hE G hG H hH I hI J hJ K hK L hL k h1 h3 h5 h6 x2 x3 x4 x5).2.2.2.2.1 f6 f7 f8 f9 f10 f11) 1 1 1 = alAt (insOf A B C D x2 x3 x4 x5) 1 k.val (k.val - 1 + 1) := by
  unfold tripOdd
  dsimp only [HW10_3, HW10_2, HW10_1]
  iterate 2 refine miss (by decide) ?_
  refine hit (fun _ => rfl) ?_
  dsimp only [r_22, k0_pay515, k0_pay513, k0_pay514, k0_pay500]
  rw [odd_ld110 (h5 := h5) hp, odd_v520 (h5 := h5) hp, odd_v449 (h5 := h5) hp]
  all_goals rfl
theorem odd_w10_2 {h1 : ¬ k0_cond1 k = 1#1} {h3 : ¬ k0_cond3 k = 1#1} {h6 : ¬ k0_cond6 k = 1#1} : rd10 J ((tripOdd (F := F) Y c bd i A hA B hB C hC D hD E hE G hG H hH I hI J hJ K hK L hL k h1 h3 h5 h6 x2 x3 x4 x5).2.2.2.2.1 f6 f7 f8 f9 f10 f11) 1 1 2 = alAt (insOf A B C D x2 x3 x4 x5) 2 k.val (k.val - 1 + 1) := by
  unfold tripOdd
  dsimp only [HW10_3, HW10_2, HW10_1]
  iterate 1 refine miss (by decide) ?_
  refine hit (fun _ => rfl) ?_
  dsimp only [r_30, k0_pay522, r_24, k0_pay521, k0_pay519, k0_pay520, r_23, k0_pay502, k0_pay501]
  rw [odd_ld111 (h5 := h5) hp, odd_v556 (h5 := h5) hp, odd_v457 (h5 := h5) hp]
  all_goals rfl
theorem odd_w10_3 {h1 : ¬ k0_cond1 k = 1#1} {h3 : ¬ k0_cond3 k = 1#1} {h6 : ¬ k0_cond6 k = 1#1} : rd10 J ((tripOdd (F := F) Y c bd i A hA B hB C hC D hD E hE G hG H hH I hI J hJ K hK L hL k h1 h3 h5 h6 x2 x3 x4 x5).2.2.2.2.1 f6 f7 f8 f9 f10 f11) 1 1 3 = alAt (insOf A B C D x2 x3 x4 x5) 3 k.val (k.val - 1 + 1) := by
  unfold tripOdd
  dsimp only [HW10_3, HW10_2, HW10_1]
  refine hit (fun _ => rfl) ?_
  dsimp only [r_25, k0_pay529, k0_pay527, k0_pay528, k0_pay503]
  rw [odd_ld112 (h5 := h5) hp, odd_v592 (h5 := h5) hp, odd_v465 (h5 := h5) hp]
  all_goals rfl
theorem odd_w11_0 {h1 : ¬ k0_cond1 k = 1#1} {h3 : ¬ k0_cond3 k = 1#1} {h6 : ¬ k0_cond6 k = 1#1} : rd11 K ((tripOdd (F := F) Y c bd i A hA B hB C hC D hD E hE G hG H hH I hI J hJ K hK L hL k h1 h3 h5 h6 x2 x3 x4 x5).2.2.2.2.2.1 f6 f7 f8 f9 f10 f11) 1 0 = accAt (insOf A B C D x2 x3 x4 x5) 0 k.val (k.val - 1 + 1) := by
  unfold tripOdd
  dsimp only [HW11_3, HW11_2, HW11_1, HW11_5]
  iterate 3 refine miss (by decide) ?_
  refine hit (fun _ => rfl) ?_
  dsimp only [k0_pay504]
  rw [odd_ld113 (h5 := h5) hp, odd_v471 (h5 := h5) hp, odd_v473 (h5 := h5) hp, odd_v477 (h5 := h5) hp]
  all_goals rfl
theorem odd_w11_1 {h1 : ¬ k0_cond1 k = 1#1} {h3 : ¬ k0_cond3 k = 1#1} {h6 : ¬ k0_cond6 k = 1#1} : rd11 K ((tripOdd (F := F) Y c bd i A hA B hB C hC D hD E hE G hG H hH I hI J hJ K hK L hL k h1 h3 h5 h6 x2 x3 x4 x5).2.2.2.2.2.1 f6 f7 f8 f9 f10 f11) 1 1 = accAt (insOf A B C D x2 x3 x4 x5) 1 k.val (k.val - 1 + 1) := by
  unfold tripOdd
  dsimp only [HW11_3, HW11_2, HW11_1, HW11_5]
  iterate 2 refine miss (by decide) ?_
  refine hit (fun _ => rfl) ?_
  dsimp only [r_26, r_27, k0_pay512, k0_pay511, k0_pay510]
  rw [odd_ld114 (h5 := h5) hp, odd_v509 (h5 := h5) hp, odd_v513 (h5 := h5) hp, odd_v507 (h5 := h5) hp]
  all_goals rfl
theorem odd_w11_2 {h1 : ¬ k0_cond1 k = 1#1} {h3 : ¬ k0_cond3 k = 1#1} {h6 : ¬ k0_cond6 k = 1#1} : rd11 K ((tripOdd (F := F) Y c bd i A hA B hB C hC D hD E hE G hG H hH I hI J hJ K hK L hL k h1 h3 h5 h6 x2 x3 x4 x5).2.2.2.2.2.1 f6 f7 f8 f9 f10 f11) 1 2 = accAt (insOf A B C D x2 x3 x4 x5) 2 k.val (k.val - 1 + 1) := by
  unfold tripOdd
  dsimp only [HW11_3, HW11_2, HW11_1, HW11_5]
  iterate 1 refine miss (by decide) ?_
  refine hit (fun _ => rfl) ?_
  dsimp only [k0_pay518]
  rw [odd_ld115 (h5 := h5) hp, odd_v543 (h5 := h5) hp, odd_v545 (h5 := h5) hp, odd_v549 (h5 := h5) hp]
  all_goals rfl
theorem odd_w11_3 {h1 : ¬ k0_cond1 k = 1#1} {h3 : ¬ k0_cond3 k = 1#1} {h6 : ¬ k0_cond6 k = 1#1} : rd11 K ((tripOdd (F := F) Y c bd i A hA B hB C hC D hD E hE G hG H hH I hI J hJ K hK L hL k h1 h3 h5 h6 x2 x3 x4 x5).2.2.2.2.2.1 f6 f7 f8 f9 f10 f11) 1 3 = accAt (insOf A B C D x2 x3 x4 x5) 3 k.val (k.val - 1 + 1) := by
  unfold tripOdd
  dsimp only [HW11_3, HW11_2, HW11_1, HW11_5]
  refine hit (fun _ => rfl) ?_
  dsimp only [r_31, k0_pay526, k0_pay525]
  rw [odd_ld116 (h5 := h5) hp, odd_v579 (h5 := h5) hp, odd_v581 (h5 := h5) hp, odd_v585 (h5 := h5) hp]
  all_goals rfl
/-- The scratch after the trip. -/
theorem odd_pend {h1 : ¬ k0_cond1 k = 1#1} {h3 : ¬ k0_cond3 k = 1#1} {h6 : ¬ k0_cond6 k = 1#1} : Pend H I J K (insOf A B C D x2 x3 x4 x5) ((tripOdd (F := F) Y c bd i A hA B hB C hC D hD E hE G hG H hH I hI J hJ K hK L hL k h1 h3 h5 h6 x2 x3 x4 x5).2.2.1 f6 f7 f8 f9 f10 f11) ((tripOdd (F := F) Y c bd i A hA B hB C hC D hD E hE G hG H hH I hI J hJ K hK L hL k h1 h3 h5 h6 x2 x3 x4 x5).2.2.2.1 f6 f7 f8 f9 f10 f11) ((tripOdd (F := F) Y c bd i A hA B hB C hC D hD E hE G hG H hH I hI J hJ K hK L hL k h1 h3 h5 h6 x2 x3 x4 x5).2.2.2.2.1 f6 f7 f8 f9 f10 f11) ((tripOdd (F := F) Y c bd i A hA B hB C hC D hD E hE G hG H hH I hI J hJ K hK L hL k h1 h3 h5 h6 x2 x3 x4 x5).2.2.2.2.2.1 f6 f7 f8 f9 f10 f11) 1 1 k.val (k.val - 1 + 1) :=
  Pend.of4 (odd_w9_0 (h5 := h5) hp)  (odd_w9_1 (h5 := h5) hp)  (odd_w9_2 (h5 := h5) hp)  (odd_w9_3 (h5 := h5) hp)  (odd_w10_0 (h5 := h5) hp)  (odd_w10_1 (h5 := h5) hp)  (odd_w10_2 (h5 := h5) hp)  (odd_w10_3 (h5 := h5) hp)  (odd_w8_0 (h5 := h5) hp)  (odd_w8_1 (h5 := h5) hp)  (odd_w8_2 (h5 := h5) hp)  (odd_w8_3 (h5 := h5) hp)  (odd_w11_0 (h5 := h5) hp)  (odd_w11_1 (h5 := h5) hp)  (odd_w11_2 (h5 := h5) hp)  (odd_w11_3 (h5 := h5) hp)
theorem odd_row : r_20 C H J K k h5 x4 f8 f10 f11 = outAt (insOf A B C D x2 x3 x4 x5) (k.val - 1) := by
  dsimp only [r_20, k0_pay494]
  rw [odd_v388 (h5 := h5) hp, odd_v396 (h5 := h5) hp, odd_v404 (h5 := h5) hp, odd_v412 (h5 := h5) hp]
  all_goals rfl
/-- The output's window after the trip. -/
theorem odd_out {h1 : ¬ k0_cond1 k = 1#1} {h3 : ¬ k0_cond3 k = 1#1} {h6 : ¬ k0_cond6 k = 1#1} (ho : OutOk E (insOf A B C D x2 x3 x4 x5) f6 (k.val - 1)) : OutOk E (insOf A B C D x2 x3 x4 x5) ((tripOdd (F := F) Y c bd i A hA B hB C hC D hD E hE G hG H hH I hI J hJ K hK L hL k h1 h3 h5 h6 x2 x3 x4 x5).1 f6 f7 f8 f9 f10 f11) (k.val - 1 + 1) := by
  unfold tripOdd
  dsimp only
  exact (OutOk.succ (L := []) ho (odd_off76 k h5) _ _ (odd_row (h5 := h5) hp))

end

end Cert.Flash
-- ==== Proof.FlashLast.lean ====
module

public import proofs.«01_k».proof.Proof.Gen.KernelIdeal.Frame
public import proofs.«01_k».proof.Proof.Gen.KernelIdeal.Loops
public import proofs.«01_k».proof.Proof.FlashFirst

@[expose] public section

set_option maxRecDepth 8192
set_option maxHeartbeats 4000000

/-! One trip of the flash kernel's query loop: the pieces it writes, as the run finds them. -/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The last trip (query tile 7, odd), with the closing of its own tile. -/
@[irreducible] def tripLast (𝒱 : Variants) (c : Dev nD) (bd : Option 𝒱.V) (i : grid0.Coords) (arg2 : Memref sig .tc .vmem S1x4x8x128x512 .bf16) (harg2 : arg2.IsWhole) (arg3 : Memref sig .tc .vmem S4096x512 .bf16) (harg3 : arg3.IsWhole) (arg4 : Memref sig .tc .vmem S1x4x8x128x512 .bf16) (harg4 : arg4.IsWhole) (arg5 : Memref sig .tc .vmem S2x512x512 .f32) (harg5 : arg5.IsWhole) (arg6 : Memref sig .tc .vmem S4096x256 .bf16) (harg6 : arg6.IsWhole) (arg7 : Memref sig .tc .vmem S4x128x512 .bf16) (harg7 : arg7.IsWhole) (arg8 : Memref sig .tc .vmem S2x2x4x512x512 .bf16) (harg8 : arg8.IsWhole) (arg9 : Memref sig .tc .vmem S2x4x1x512 .f32) (harg9 : arg9.IsWhole) (arg10 : Memref sig .tc .vmem S2x2x4x1x512 .f32) (harg10 : arg10.IsWhole) (arg11 : Memref sig .tc .vmem S2x4x128x512 .f32) (harg11 : arg11.IsWhole) (arg12 : Memref sig .tc .vmem S2x8x512 .f32) (harg12 : arg12.IsWhole) (k : Fin k0_t1_loop.trips) (h1 : ¬ k0_cond1 k = 1#1) (h3 : ¬ k0_cond3 k = 1#1) (h5 : k0_cond5 k = 1#1) (h6 : k0_cond6 k = 1#1) (x2 : BufTy.Contents (Elt F) arg2.view.ty) (x3 : BufTy.Contents (Elt F) arg3.view.ty) (x4 : BufTy.Contents (Elt F) arg4.view.ty) (x5 : BufTy.Contents (Elt F) arg5.view.ty) :
    Σ' (L6 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg6.view.ty) (L7 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg7.view.ty) (L8 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty) (L9 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg9.view.ty) (L10 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg10.view.ty), { L11 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg11.view.ty // ∀ (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
      Held (F := F) c arg2 arg3 arg4 arg5 arg6 arg7 arg8 arg9 arg10 arg11 x2 x3 x4 x5 f6 f7 f8 f9 f10 f11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 k PUnit.unit)
          (fun _ => Held (F := F) c arg2 arg3 arg4 arg5 arg6 arg7 arg8 arg9 arg10 arg11 x2 x3 x4 x5 (L6 f6 f7 f8 f9 f10 f11) (L7 f6 f7 f8 f9 f10 f11) (L8 f6 f7 f8 f9 f10 f11) (L9 f6 f7 f8 f9 f10 f11) (L10 f6 f7 f8 f9 f10 f11) (L11 f6 f7 f8 f9 f10 f11)) } := by
  refine ⟨?_, ?_, ?_, ?_, ?_, ?_, fun E f6 f7 f8 f9 f10 f11 => ?run⟩
  case run =>
    unfold k0_t1_body
    iintro ⟨HR2, HR3, HR4, HR5, HW6, HW7, HW8, HW9, HW10, HW11⟩
    sl_exec (disch := first | sl_exact h1 | sl_exact h3 | sl_exact h5 | sl_exact h6)
    sl_step
    sl_close

end Cert.Flash

end
-- ==== Proof.FlashAfterLast.lean ====
module

public import proofs.«01_k».proof.Proof.FlashRead
public import proofs.«01_k».proof.Proof.FlashLast
public import proofs.«01_k».proof.Proof.FlashPairB

@[expose] public section

set_option maxRecDepth 8192
set_option maxHeartbeats 100000

/-! What a trip of the query-tile loop leaves (last trips), read off the pieces it writes. -/

noncomputable section

namespace Cert.Flash

open Cert.KernelIdeal Cert.KernelIdeal.Gen Idealize.ShloMosaic Idealize.ShloMosaic.TcCoe Idealize.SL Idealize.SL.RA Idealize.SL.BI
open Sem
open tripLast.sl

variable {F : FTy → Type} [FloatOps F]

theorem lst_off64 : ∀ k : T1, k0_cond5 k = 1#1 → k0_off64 k = ![0, (0 : Fin 4).val, (m8 k.val).val, 0, 0] := by decide +kernel
theorem lst_off68t : ∀ k : T1, k0_cond5 k = 1#1 → k0_off68 k 0#32 = ![512 * (m8 k.val).val, 128 * (0 : Fin 4).val] := by decide +kernel
theorem lst_off68b : ∀ k : T1, k0_cond5 k = 1#1 → k0_off68 k 256#32 = ![512 * (m8 k.val).val + 256, 128 * (0 : Fin 4).val] := by decide +kernel
theorem lst_off72 : ∀ k : T1, k0_cond5 k = 1#1 → k0_off72 k = ![0, (0 : Fin 4).val, (m8 (tix (k.val - 1) (k.val - 1))).val, 0, 0] := by decide +kernel
theorem lst_off109 : ∀ k : T1, k0_cond5 k = 1#1 → k0_off109 k = ![512 * (m8 (k.val - 1)).val, 128 * (0 : Fin 4).val] := by decide +kernel
theorem lst_off113 : ∀ k : T1, k0_cond5 k = 1#1 → k0_off113 k = ![0, (0 : Fin 4).val, (m8 (tix k.val (k.val - 1))).val, 0, 0] := by decide +kernel
theorem lst_off117 : ∀ k : T1, k0_cond5 k = 1#1 → k0_cond6 k = 1#1 → k0_off117 k = ![0, (0 : Fin 4).val, (m8 (tix k.val (k.val - 1 + 1))).val, 0, 0] := by decide +kernel
theorem lst_off65 : ∀ k : T1, k0_cond5 k = 1#1 → k0_off65 k = ![0, (1 : Fin 4).val, (m8 k.val).val, 0, 0] := by decide +kernel
theorem lst_off69t : ∀ k : T1, k0_cond5 k = 1#1 → k0_off69 k 0#32 = ![512 * (m8 k.val).val, 128 * (1 : Fin 4).val] := by decide +kernel
theorem lst_off69b : ∀ k : T1, k0_cond5 k = 1#1 → k0_off69 k 256#32 = ![512 * (m8 k.val).val + 256, 128 * (1 : Fin 4).val] := by decide +kernel
theorem lst_off73 : ∀ k : T1, k0_cond5 k = 1#1 → k0_off73 k = ![0, (1 : Fin 4).val, (m8 (tix (k.val - 1) (k.val - 1))).val, 0, 0] := by decide +kernel
theorem lst_off110 : ∀ k : T1, k0_cond5 k = 1#1 → k0_off110 k = ![512 * (m8 (k.val - 1)).val, 128 * (1 : Fin 4).val] := by decide +kernel
theorem lst_off114 : ∀ k : T1, k0_cond5 k = 1#1 → k0_off114 k = ![0, (1 : Fin 4).val, (m8 (tix k.val (k.val - 1))).val, 0, 0] := by decide +kernel
theorem lst_off118 : ∀ k : T1, k0_cond5 k = 1#1 → k0_cond6 k = 1#1 → k0_off118 k = ![0, (1 : Fin 4).val, (m8 (tix k.val (k.val - 1 + 1))).val, 0, 0] := by decide +kernel
theorem lst_off66 : ∀ k : T1, k0_cond5 k = 1#1 → k0_off66 k = ![0, (2 : Fin 4).val, (m8 k.val).val, 0, 0] := by decide +kernel
theorem lst_off70t : ∀ k : T1, k0_cond5 k = 1#1 → k0_off70 k 0#32 = ![512 * (m8 k.val).val, 128 * (2 : Fin 4).val] := by decide +kernel
theorem lst_off70b : ∀ k : T1, k0_cond5 k = 1#1 → k0_off70 k 256#32 = ![512 * (m8 k.val).val + 256, 128 * (2 : Fin 4).val] := by decide +kernel
theorem lst_off74 : ∀ k : T1, k0_cond5 k = 1#1 → k0_off74 k = ![0, (2 : Fin 4).val, (m8 (tix (k.val - 1) (k.val - 1))).val, 0, 0] := by decide +kernel
theorem lst_off111 : ∀ k : T1, k0_cond5 k = 1#1 → k0_off111 k = ![512 * (m8 (k.val - 1)).val, 128 * (2 : Fin 4).val] := by decide +kernel
theorem lst_off115 : ∀ k : T1, k0_cond5 k = 1#1 → k0_off115 k = ![0, (2 : Fin 4).val, (m8 (tix k.val (k.val - 1))).val, 0, 0] := by decide +kernel
theorem lst_off119 : ∀ k : T1, k0_cond5 k = 1#1 → k0_cond6 k = 1#1 → k0_off119 k = ![0, (2 : Fin 4).val, (m8 (tix k.val (k.val - 1 + 1))).val, 0, 0] := by decide +kernel
theorem lst_off67 : ∀ k : T1, k0_cond5 k = 1#1 → k0_off67 k = ![0, (3 : Fin 4).val, (m8 k.val).val, 0, 0] := by decide +kernel
theorem lst_off71t : ∀ k : T1, k0_cond5 k = 1#1 → k0_off71 k 0#32 = ![512 * (m8 k.val).val, 128 * (3 : Fin 4).val] := by decide +kernel
theorem lst_off71b : ∀ k : T1, k0_cond5 k = 1#1 → k0_off71 k 256#32 = ![512 * (m8 k.val).val + 256, 128 * (3 : Fin 4).val] := by decide +kernel
theorem lst_off75 : ∀ k : T1, k0_cond5 k = 1#1 → k0_off75 k = ![0, (3 : Fin 4).val, (m8 (tix (k.val - 1) (k.val - 1))).val, 0, 0] := by decide +kernel
theorem lst_off112 : ∀ k : T1, k0_cond5 k = 1#1 → k0_off112 k = ![512 * (m8 (k.val - 1)).val, 128 * (3 : Fin 4).val] := by decide +kernel
theorem lst_off116 : ∀ k : T1, k0_cond5 k = 1#1 → k0_off116 k = ![0, (3 : Fin 4).val, (m8 (tix k.val (k.val - 1))).val, 0, 0] := by decide +kernel
theorem lst_off120 : ∀ k : T1, k0_cond5 k = 1#1 → k0_cond6 k = 1#1 → k0_off120 k = ![0, (3 : Fin 4).val, (m8 (tix k.val (k.val - 1 + 1))).val, 0, 0] := by decide +kernel
theorem lst_trips : ∀ k : T1, k0_cond5 k = 1#1 → 2 * (k0_t4_loop k).trips = k.val - 1 := by decide +kernel
theorem lst_none : ∀ k : T1, k0_cond5 k = 1#1 → (k0_t5_loop k).trips = 0 := by decide +kernel
theorem lst_off76 : ∀ k : T1, k0_cond5 k = 1#1 → k0_off76 k = ![512 * (k.val - 1), 0] := by decide +kernel
theorem lst_k : ∀ k : T1, k0_cond5 k = 1#1 → k.val - 1 + 1 = k.val := by decide +kernel
theorem lst_off121 : ∀ k : T1, k0_cond5 k = 1#1 → k0_cond6 k = 1#1 → k0_off121 k = ![512 * (k.val - 1 + 1), 0] := by decide +kernel

section
variable {Y : Variants} {c : Dev nD} {bd : Option Y.V} {i : grid0.Coords} {A : Memref sig .tc .vmem S1x4x8x128x512 .bf16} {B : Memref sig .tc .vmem S4096x512 .bf16} {C : Memref sig .tc .vmem S1x4x8x128x512 .bf16} {D : Memref sig .tc .vmem S2x512x512 .f32} {E : Memref sig .tc .vmem S4096x256 .bf16} {G : Memref sig .tc .vmem S4x128x512 .bf16} {H : Memref sig .tc .vmem S2x2x4x512x512 .bf16} {I : Memref sig .tc .vmem S2x4x1x512 .f32} {J : Memref sig .tc .vmem S2x2x4x1x512 .f32} {K : Memref sig .tc .vmem S2x4x128x512 .f32} {L : Memref sig .tc .vmem S2x8x512 .f32}
  {hA : A.IsWhole} {hB : B.IsWhole} {hC : C.IsWhole} {hD : D.IsWhole} {hE : E.IsWhole} {hG : G.IsWhole} {hH : H.IsWhole} {hI : I.IsWhole} {hJ : J.IsWhole} {hK : K.IsWhole} {hL : L.IsWhole}
  {k : T1} {h5 : k0_cond5 k = 1#1} {h6 : k0_cond6 k = 1#1} {x2 : BufTy.Contents (Elt F) A.view.ty} {x3 : BufTy.Contents (Elt F) B.view.ty} {x4 : BufTy.Contents (Elt F) C.view.ty} {x5 : BufTy.Contents (Elt F) D.view.ty} {f6 : BufTy.Contents (Elt F) E.view.ty} {f7 : BufTy.Contents (Elt F) G.view.ty}
  {f8 : BufTy.Contents (Elt F) H.view.ty} {f9 : BufTy.Contents (Elt F) I.view.ty} {f10 : BufTy.Contents (Elt F) J.view.ty} {f11 : BufTy.Contents (Elt F) K.view.ty}
  (hp : Pend H I J K (insOf A B C D x2 x3 x4 x5) f8 f9 f10 f11 0 0 (k.val - 1) (k.val - 1))
include hp h5 h6

theorem lst_ld64 : View.readAt (Elt F) A.view (Rect.unit (s := S1x4x8x128x512) (k0_off64 k) S1x1x1x128x512.size (k0_off64_inb k h5)).toLoadRect x2 = (insOf A B C D x2 x3 x4 x5).q 0 k.val := rd_off _ _ _ _ (lst_off64 k h5)
theorem lst_ld68t : View.readAt (Elt F) B.view (Rect.unit (s := S4096x512) (k0_off68 k 0#32) S256x128.size (k0_off68_inb k h5 0)).toLoadRect x3 = (insOf A B C D x2 x3 x4 x5).kTop 0 k.val := rd_off _ _ _ _ (lst_off68t k h5)
theorem lst_ld68b : View.readAt (Elt F) B.view (Rect.unit (s := S4096x512) (k0_off68 k 256#32) S256x128.size (k0_off68_inb k h5 1)).toLoadRect x3 = (insOf A B C D x2 x3 x4 x5).kBot 0 k.val := rd_off _ _ _ _ (lst_off68b k h5)
theorem lst_ld72 : View.readAt (Elt F) C.view (Rect.unit (s := S1x4x8x128x512) (k0_off72 k) S1x1x1x128x512.size (k0_off72_inb k h5)).toLoadRect x4 = (insOf A B C D x2 x3 x4 x5).v 0 (tix (k.val - 1) (k.val - 1)) := rd_off _ _ _ _ (lst_off72 k h5)
theorem lst_ld109 : View.readAt (Elt F) B.view (Rect.unit (s := S4096x512) (k0_off109 k) S512x128.size (k0_off109_inb k h5)).toLoadRect x3 = (insOf A B C D x2 x3 x4 x5).k 0 (k.val - 1) := rd_off _ _ _ _ (lst_off109 k h5)
theorem lst_ld113 : View.readAt (Elt F) C.view (Rect.unit (s := S1x4x8x128x512) (k0_off113 k) S1x1x1x128x512.size (k0_off113_inb k h5)).toLoadRect x4 = (insOf A B C D x2 x3 x4 x5).v 0 (tix k.val (k.val - 1)) := rd_off _ _ _ _ (lst_off113 k h5)
theorem lst_ld117 : View.readAt (Elt F) C.view (Rect.unit (s := S1x4x8x128x512) (k0_off117 k) S1x1x1x128x512.size (k0_off117_inb k h5 h6)).toLoadRect x4 = (insOf A B C D x2 x3 x4 x5).v 0 (tix k.val (k.val - 1 + 1)) := rd_off _ _ _ _ (lst_off117 k h5 h6)
theorem lst_ld65 : View.readAt (Elt F) A.view (Rect.unit (s := S1x4x8x128x512) (k0_off65 k) S1x1x1x128x512.size (k0_off65_inb k h5)).toLoadRect x2 = (insOf A B C D x2 x3 x4 x5).q 1 k.val := rd_off _ _ _ _ (lst_off65 k h5)
theorem lst_ld69t : View.readAt (Elt F) B.view (Rect.unit (s := S4096x512) (k0_off69 k 0#32) S256x128.size (k0_off69_inb k h5 0)).toLoadRect x3 = (insOf A B C D x2 x3 x4 x5).kTop 1 k.val := rd_off _ _ _ _ (lst_off69t k h5)
theorem lst_ld69b : View.readAt (Elt F) B.view (Rect.unit (s := S4096x512) (k0_off69 k 256#32) S256x128.size (k0_off69_inb k h5 1)).toLoadRect x3 = (insOf A B C D x2 x3 x4 x5).kBot 1 k.val := rd_off _ _ _ _ (lst_off69b k h5)
theorem lst_ld73 : View.readAt (Elt F) C.view (Rect.unit (s := S1x4x8x128x512) (k0_off73 k) S1x1x1x128x512.size (k0_off73_inb k h5)).toLoadRect x4 = (insOf A B C D x2 x3 x4 x5).v 1 (tix (k.val - 1) (k.val - 1)) := rd_off _ _ _ _ (lst_off73 k h5)
theorem lst_ld110 : View.readAt (Elt F) B.view (Rect.unit (s := S4096x512) (k0_off110 k) S512x128.size (k0_off110_inb k h5)).toLoadRect x3 = (insOf A B C D x2 x3 x4 x5).k 1 (k.val - 1) := rd_off _ _ _ _ (lst_off110 k h5)
theorem lst_ld114 : View.readAt (Elt F) C.view (Rect.unit (s := S1x4x8x128x512) (k0_off114 k) S1x1x1x128x512.size (k0_off114_inb k h5)).toLoadRect x4 = (insOf A B C D x2 x3 x4 x5).v 1 (tix k.val (k.val - 1)) := rd_off _ _ _ _ (lst_off114 k h5)
theorem lst_ld118 : View.readAt (Elt F) C.view (Rect.unit (s := S1x4x8x128x512) (k0_off118 k) S1x1x1x128x512.size (k0_off118_inb k h5 h6)).toLoadRect x4 = (insOf A B C D x2 x3 x4 x5).v 1 (tix k.val (k.val - 1 + 1)) := rd_off _ _ _ _ (lst_off118 k h5 h6)
theorem lst_ld66 : View.readAt (Elt F) A.view (Rect.unit (s := S1x4x8x128x512) (k0_off66 k) S1x1x1x128x512.size (k0_off66_inb k h5)).toLoadRect x2 = (insOf A B C D x2 x3 x4 x5).q 2 k.val := rd_off _ _ _ _ (lst_off66 k h5)
theorem lst_ld70t : View.readAt (Elt F) B.view (Rect.unit (s := S4096x512) (k0_off70 k 0#32) S256x128.size (k0_off70_inb k h5 0)).toLoadRect x3 = (insOf A B C D x2 x3 x4 x5).kTop 2 k.val := rd_off _ _ _ _ (lst_off70t k h5)
theorem lst_ld70b : View.readAt (Elt F) B.view (Rect.unit (s := S4096x512) (k0_off70 k 256#32) S256x128.size (k0_off70_inb k h5 1)).toLoadRect x3 = (insOf A B C D x2 x3 x4 x5).kBot 2 k.val := rd_off _ _ _ _ (lst_off70b k h5)
theorem lst_ld74 : View.readAt (Elt F) C.view (Rect.unit (s := S1x4x8x128x512) (k0_off74 k) S1x1x1x128x512.size (k0_off74_inb k h5)).toLoadRect x4 = (insOf A B C D x2 x3 x4 x5).v 2 (tix (k.val - 1) (k.val - 1)) := rd_off _ _ _ _ (lst_off74 k h5)
theorem lst_ld111 : View.readAt (Elt F) B.view (Rect.unit (s := S4096x512) (k0_off111 k) S512x128.size (k0_off111_inb k h5)).toLoadRect x3 = (insOf A B C D x2 x3 x4 x5).k 2 (k.val - 1) := rd_off _ _ _ _ (lst_off111 k h5)
theorem lst_ld115 : View.readAt (Elt F) C.view (Rect.unit (s := S1x4x8x128x512) (k0_off115 k) S1x1x1x128x512.size (k0_off115_inb k h5)).toLoadRect x4 = (insOf A B C D x2 x3 x4 x5).v 2 (tix k.val (k.val - 1)) := rd_off _ _ _ _ (lst_off115 k h5)
theorem lst_ld119 : View.readAt (Elt F) C.view (Rect.unit (s := S1x4x8x128x512) (k0_off119 k) S1x1x1x128x512.size (k0_off119_inb k h5 h6)).toLoadRect x4 = (insOf A B C D x2 x3 x4 x5).v 2 (tix k.val (k.val - 1 + 1)) := rd_off _ _ _ _ (lst_off119 k h5 h6)
theorem lst_ld67 : View.readAt (Elt F) A.view (Rect.unit (s := S1x4x8x128x512) (k0_off67 k) S1x1x1x128x512.size (k0_off67_inb k h5)).toLoadRect x2 = (insOf A B C D x2 x3 x4 x5).q 3 k.val := rd_off _ _ _ _ (lst_off67 k h5)
theorem lst_ld71t : View.readAt (Elt F) B.view (Rect.unit (s := S4096x512) (k0_off71 k 0#32) S256x128.size (k0_off71_inb k h5 0)).toLoadRect x3 = (insOf A B C D x2 x3 x4 x5).kTop 3 k.val := rd_off _ _ _ _ (lst_off71t k h5)
theorem lst_ld71b : View.readAt (Elt F) B.view (Rect.unit (s := S4096x512) (k0_off71 k 256#32) S256x128.size (k0_off71_inb k h5 1)).toLoadRect x3 = (insOf A B C D x2 x3 x4 x5).kBot 3 k.val := rd_off _ _ _ _ (lst_off71b k h5)
theorem lst_ld75 : View.readAt (Elt F) C.view (Rect.unit (s := S1x4x8x128x512) (k0_off75 k) S1x1x1x128x512.size (k0_off75_inb k h5)).toLoadRect x4 = (insOf A B C D x2 x3 x4 x5).v 3 (tix (k.val - 1) (k.val - 1)) := rd_off _ _ _ _ (lst_off75 k h5)
theorem lst_ld112 : View.readAt (Elt F) B.view (Rect.unit (s := S4096x512) (k0_off112 k) S512x128.size (k0_off112_inb k h5)).toLoadRect x3 = (insOf A B C D x2 x3 x4 x5).k 3 (k.val - 1) := rd_off _ _ _ _ (lst_off112 k h5)
theorem lst_ld116 : View.readAt (Elt F) C.view (Rect.unit (s := S1x4x8x128x512) (k0_off116 k) S1x1x1x128x512.size (k0_off116_inb k h5)).toLoadRect x4 = (insOf A B C D x2 x3 x4 x5).v 3 (tix k.val (k.val - 1)) := rd_off _ _ _ _ (lst_off116 k h5)
theorem lst_ld120 : View.readAt (Elt F) C.view (Rect.unit (s := S1x4x8x128x512) (k0_off120 k) S1x1x1x128x512.size (k0_off120_inb k h5 h6)).toLoadRect x4 = (insOf A B C D x2 x3 x4 x5).v 3 (tix k.val (k.val - 1 + 1)) := rd_off _ _ _ _ (lst_off120 k h5 h6)
theorem lst_ldbt : View.readAt (Elt F) D.view (Rect.unit (s := S2x512x512) ![0, 0, 0] S1x256x512.size inb_S2x512x512_S1x256x512_0_0_0).toLoadRect x5 = (insOf A B C D x2 x3 x4 x5).bTop := rfl
theorem lst_ldbb : View.readAt (Elt F) D.view (Rect.unit (s := S2x512x512) ![0, 256, 256] S1x256x256.size inb_S2x512x512_S1x256x256_0_256_256).toLoadRect x5 = (insOf A B C D x2 x3 x4 x5).bBot := rfl
theorem lst_v95 : v95 (F := F) A G k h5 x2 = qS ((insOf A B C D x2 x3 x4 x5).q 0 k.val) := by
  unfold v95
  refine (rc_eq _ _ _).trans ?_
  dsimp only [HW7_4]
  iterate 3 refine miss (by decide) ?_
  refine hit (fun _ => rfl) ?_
  dsimp only [v54, v51]
  rw [lst_ld64 (h5 := h5) (h6 := h6) hp]
  all_goals rfl
theorem lst_v118 : v118 (F := F) A G k h5 x2 = qS ((insOf A B C D x2 x3 x4 x5).q 1 k.val) := by
  unfold v118
  refine (rc_eq _ _ _).trans ?_
  dsimp only [HW7_4]
  iterate 2 refine miss (by decide) ?_
  refine hit (fun _ => rfl) ?_
  dsimp only [v60, v57]
  rw [lst_ld65 (h5 := h5) (h6 := h6) hp]
  all_goals rfl
theorem lst_v141 : v141 (F := F) A G k h5 x2 = qS ((insOf A B C D x2 x3 x4 x5).q 2 k.val) := by
  unfold v141
  refine (rc_eq _ _ _).trans ?_
  dsimp only [HW7_4]
  iterate 1 refine miss (by decide) ?_
  refine hit (fun _ => rfl) ?_
  dsimp only [v63, k0_pay435]
  rw [lst_ld66 (h5 := h5) (h6 := h6) hp]
  all_goals rfl
theorem lst_v164 : v164 (F := F) A G k h5 x2 = qS ((insOf A B C D x2 x3 x4 x5).q 3 k.val) := by
  unfold v164
  refine (rc_eq _ _ _).trans ?_
  dsimp only [HW7_4]
  refine hit (fun _ => rfl) ?_
  dsimp only [k0_pay436]
  rw [lst_ld67 (h5 := h5) (h6 := h6) hp]
  all_goals rfl
theorem lst_v180 : v180 (F := F) K f11 = accAt (insOf A B C D x2 x3 x4 x5) 0 (k.val - 1) (k.val - 1) := by
  unfold v180
  try dsimp only
  exact hp.acc 0
theorem lst_v197 : v197 (F := F) I = mInit := by
  unfold v197
  refine (rc_eq _ _ _).trans ?_
  dsimp only [HW9_1]
  dsimp only [k0_pay437]
  refine (rd_const (Val := Elt F) (e := .f32) _ _ _ _ _ _ ?_ (Scalar.ofBits (F := F) .f32 0xFF800000#32) ?_).trans ?_
  · decide
  · intro x; rfl
  · rfl
theorem lst_v231 : v231 (F := F) J f10 = alAt (insOf A B C D x2 x3 x4 x5) 1 (k.val - 1) (k.val - 1) := by
  unfold v231
  try dsimp only
  exact hp.al 1
theorem lst_v233 : v233 (F := F) K f11 = accAt (insOf A B C D x2 x3 x4 x5) 1 (k.val - 1) (k.val - 1) := by
  unfold v233
  try dsimp only
  exact hp.acc 1
theorem lst_v237 : v237 (F := F) H f8 = pAt (insOf A B C D x2 x3 x4 x5) 1 (k.val - 1) (k.val - 1) := by
  unfold v237
  try dsimp only
  exact hp.p 1
theorem lst_v250 : v250 (F := F) A B D G I k h5 x2 x3 x5 = mInit := by
  unfold v250
  refine (rc_eq _ _ _).trans ?_
  dsimp only [HW9_2, HW9_1]
  iterate 1 refine miss (by decide) ?_
  dsimp only [k0_pay437]
  refine (rd_const (Val := Elt F) (e := .f32) _ _ _ _ _ _ ?_ (Scalar.ofBits (F := F) .f32 0xFF800000#32) ?_).trans ?_
  · decide
  · intro x; rfl
  · rfl
theorem lst_v284 : v284 (F := F) J f10 = alAt (insOf A B C D x2 x3 x4 x5) 2 (k.val - 1) (k.val - 1) := by
  unfold v284
  try dsimp only
  exact hp.al 2
theorem lst_v286 : v286 (F := F) K f11 = accAt (insOf A B C D x2 x3 x4 x5) 2 (k.val - 1) (k.val - 1) := by
  unfold v286
  try dsimp only
  exact hp.acc 2
theorem lst_v290 : v290 (F := F) H f8 = pAt (insOf A B C D x2 x3 x4 x5) 2 (k.val - 1) (k.val - 1) := by
  unfold v290
  try dsimp only
  exact hp.p 2
theorem lst_v303 : v303 (F := F) A B D G I k h5 x2 x3 x5 = mInit := by
  unfold v303
  refine (rc_eq _ _ _).trans ?_
  dsimp only [HW9_3, HW9_2, HW9_1]
  iterate 2 refine miss (by decide) ?_
  dsimp only [k0_pay437]
  refine (rd_const (Val := Elt F) (e := .f32) _ _ _ _ _ _ ?_ (Scalar.ofBits (F := F) .f32 0xFF800000#32) ?_).trans ?_
  · decide
  · intro x; rfl
  · rfl
theorem lst_v337 : v337 (F := F) J f10 = alAt (insOf A B C D x2 x3 x4 x5) 3 (k.val - 1) (k.val - 1) := by
  unfold v337
  try dsimp only
  exact hp.al 3
theorem lst_v339 : v339 (F := F) K f11 = accAt (insOf A B C D x2 x3 x4 x5) 3 (k.val - 1) (k.val - 1) := by
  unfold v339
  try dsimp only
  exact hp.acc 3
theorem lst_v343 : v343 (F := F) H f8 = pAt (insOf A B C D x2 x3 x4 x5) 3 (k.val - 1) (k.val - 1) := by
  unfold v343
  try dsimp only
  exact hp.p 3
theorem lst_v356 : v356 (F := F) A B D G I k h5 x2 x3 x5 = mInit := by
  unfold v356
  refine (rc_eq _ _ _).trans ?_
  dsimp only [HW9_4, HW9_3, HW9_2, HW9_1]
  iterate 3 refine miss (by decide) ?_
  dsimp only [k0_pay437]
  refine (rd_const (Val := Elt F) (e := .f32) _ _ _ _ _ _ ?_ (Scalar.ofBits (F := F) .f32 0xFF800000#32) ?_).trans ?_
  · decide
  · intro x; rfl
  · rfl
theorem lst_v388 : v388 (F := F) C H J K k h5 x4 f8 f10 f11 = accAt (insOf A B C D x2 x3 x4 x5) 0 (k.val - 1) ((k.val - 1) + 1) := by
  unfold v388
  refine (rc_eq _ _ _).trans ?_
  dsimp only [HW11_5]
  iterate 3 refine miss (by decide) ?_
  refine hit (fun _ => rfl) ?_
  dsimp only [r_11, k0_pay455, k0_pay454]
  rw [lst_ld72 (h5 := h5) (h6 := h6) hp, lst_v180 (h5 := h5) (h6 := h6) hp, show View.readAt (Elt F) J.view (Rect.unit (s := S2x2x4x1x512) ![0, 0, 0, 0, 0] S1x1x1x1x512.size inb_S2x2x4x1x512_S1x1x1x1x512_0_0_0_0_0).toLoadRect f10 = _ from hp.al 0, show View.readAt (Elt F) H.view (Rect.unit (s := S2x2x4x512x512) ![0, 0, 0, 0, 0] S1x1x1x512x512.size inb_S2x2x4x512x512_S1x1x1x512x512_0_0_0_0_0).toLoadRect f8 = _ from hp.p 0]
  all_goals rfl
theorem lst_v396 : v396 (F := F) C H J K k h5 x4 f8 f10 f11 = accAt (insOf A B C D x2 x3 x4 x5) 1 (k.val - 1) ((k.val - 1) + 1) := by
  unfold v396
  refine (rc_eq _ _ _).trans ?_
  dsimp only [HW11_5]
  iterate 2 refine miss (by decide) ?_
  refine hit (fun _ => rfl) ?_
  dsimp only [k0_pay463]
  rw [lst_ld73 (h5 := h5) (h6 := h6) hp, lst_v231 (h5 := h5) (h6 := h6) hp, lst_v233 (h5 := h5) (h6 := h6) hp, lst_v237 (h5 := h5) (h6 := h6) hp]
  all_goals rfl
theorem lst_v404 : v404 (F := F) C H J K k h5 x4 f8 f10 f11 = accAt (insOf A B C D x2 x3 x4 x5) 2 (k.val - 1) ((k.val - 1) + 1) := by
  unfold v404
  refine (rc_eq _ _ _).trans ?_
  dsimp only [HW11_5]
  iterate 1 refine miss (by decide) ?_
  refine hit (fun _ => rfl) ?_
  dsimp only [k0_pay473]
  rw [lst_ld74 (h5 := h5) (h6 := h6) hp, lst_v284 (h5 := h5) (h6 := h6) hp, lst_v286 (h5 := h5) (h6 := h6) hp, lst_v290 (h5 := h5) (h6 := h6) hp]
  all_goals rfl
theorem lst_v412 : v412 (F := F) C H J K k h5 x4 f8 f10 f11 = accAt (insOf A B C D x2 x3 x4 x5) 3 (k.val - 1) ((k.val - 1) + 1) := by
  unfold v412
  refine (rc_eq _ _ _).trans ?_
  dsimp only [HW11_5]
  refine hit (fun _ => rfl) ?_
  dsimp only [k0_pay484]
  rw [lst_ld75 (h5 := h5) (h6 := h6) hp, lst_v337 (h5 := h5) (h6 := h6) hp, lst_v339 (h5 := h5) (h6 := h6) hp, lst_v343 (h5 := h5) (h6 := h6) hp]
  all_goals rfl
theorem lst_d8_0 (g : BufTy.Contents (Elt F) H.view.ty) : rd8 H (H.view.writes (Elt F) g [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) 1 0 0 = pAt (insOf A B C D x2 x3 x4 x5) 0 k.val 0 := by
  try dsimp only
  iterate 9 refine miss (by decide) ?_
  refine (rd_mask _ _ 1 0 _ _ _ _ _ _ _ _ (fun _ => rfl)).trans ?_
  dsimp only [r_1, r_2, k0_pay460, k0_pay459, k0_pay457, k0_pay456, k0_pay442, k0_pay440, r, k0_pay441, k0_pay439]
  rw [lst_ld68b (h5 := h5) (h6 := h6) hp, lst_ld68t (h5 := h5) (h6 := h6) hp, lst_ldbb (h5 := h5) (h6 := h6) hp, lst_ldbt (h5 := h5) (h6 := h6) hp, lst_v197 (h5 := h5) (h6 := h6) hp, lst_v95 (h5 := h5) (h6 := h6) hp]
  all_goals rfl
theorem lst_d8_1 (g : BufTy.Contents (Elt F) H.view.ty) : rd8 H (H.view.writes (Elt F) g [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) 1 0 1 = pAt (insOf A B C D x2 x3 x4 x5) 1 k.val 0 := by
  try dsimp only
  iterate 6 refine miss (by decide) ?_
  refine (rd_mask _ _ 1 1 _ _ _ _ _ _ _ _ (fun _ => rfl)).trans ?_
  dsimp only [r_5, r_13, r_3, k0_pay469, k0_pay468, k0_pay466, k0_pay465, k0_pay444, k0_pay443, k0_pay464, r_4, k0_pay446, k0_pay445]
  rw [lst_ld69b (h5 := h5) (h6 := h6) hp, lst_ld69t (h5 := h5) (h6 := h6) hp, lst_ldbb (h5 := h5) (h6 := h6) hp, lst_ldbt (h5 := h5) (h6 := h6) hp, lst_v250 (h5 := h5) (h6 := h6) hp, lst_v118 (h5 := h5) (h6 := h6) hp]
  all_goals rfl
theorem lst_d8_2 (g : BufTy.Contents (Elt F) H.view.ty) : rd8 H (H.view.writes (Elt F) g [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) 1 0 2 = pAt (insOf A B C D x2 x3 x4 x5) 2 k.val 0 := by
  try dsimp only
  iterate 3 refine miss (by decide) ?_
  refine (rd_mask _ _ 1 2 _ _ _ _ _ _ _ _ (fun _ => rfl)).trans ?_
  dsimp only [r_7, r_15, r_16, r_6, k0_pay481, k0_pay476, k0_pay480, k0_pay478, k0_pay477, k0_pay448, k0_pay447, k0_pay475, k0_pay474, k0_pay449]
  rw [lst_ld70b (h5 := h5) (h6 := h6) hp, lst_ld70t (h5 := h5) (h6 := h6) hp, lst_ldbb (h5 := h5) (h6 := h6) hp, lst_ldbt (h5 := h5) (h6 := h6) hp, lst_v303 (h5 := h5) (h6 := h6) hp, lst_v141 (h5 := h5) (h6 := h6) hp]
  all_goals rfl
theorem lst_d8_3 (g : BufTy.Contents (Elt F) H.view.ty) : rd8 H (H.view.writes (Elt F) g [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) 1 0 3 = pAt (insOf A B C D x2 x3 x4 x5) 3 k.val 0 := by
  try dsimp only
  refine (rd_mask _ _ 1 3 _ _ _ _ _ _ _ _ (fun _ => rfl)).trans ?_
  dsimp only [r_10, r_18, r_19, r_9, k0_pay491, k0_pay490, k0_pay488, k0_pay487, r_8, k0_pay452, k0_pay451, k0_pay450, k0_pay486, k0_pay485, k0_pay453]
  rw [lst_ld71b (h5 := h5) (h6 := h6) hp, lst_ld71t (h5 := h5) (h6 := h6) hp, lst_ldbb (h5 := h5) (h6 := h6) hp, lst_ldbt (h5 := h5) (h6 := h6) hp, lst_v356 (h5 := h5) (h6 := h6) hp, lst_v164 (h5 := h5) (h6 := h6) hp]
  all_goals rfl
theorem lst_d9_0 (g : BufTy.Contents (Elt F) I.view.ty) : rd9 I (I.view.writes (Elt F) g (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) 1 0 = mAt (insOf A B C D x2 x3 x4 x5) 0 k.val 1 := by
  dsimp only [HW9_4, HW9_3, HW9_2, HW9_1]
  iterate 3 refine miss (by decide) ?_
  refine hit (fun _ => rfl) ?_
  dsimp only [r_12, k0_pay462, r_1, r_2, k0_pay457, k0_pay456, k0_pay442, k0_pay440, r, k0_pay441, k0_pay439]
  rw [lst_ld68b (h5 := h5) (h6 := h6) hp, lst_ld68t (h5 := h5) (h6 := h6) hp, lst_ldbb (h5 := h5) (h6 := h6) hp, lst_ldbt (h5 := h5) (h6 := h6) hp, lst_v197 (h5 := h5) (h6 := h6) hp, lst_v95 (h5 := h5) (h6 := h6) hp]
  all_goals rfl
theorem lst_d9_1 (g : BufTy.Contents (Elt F) I.view.ty) : rd9 I (I.view.writes (Elt F) g (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) 1 1 = mAt (insOf A B C D x2 x3 x4 x5) 1 k.val 1 := by
  dsimp only [HW9_4, HW9_3, HW9_2, HW9_1]
  iterate 2 refine miss (by decide) ?_
  refine hit (fun _ => rfl) ?_
  dsimp only [r_14, k0_pay472, r_5, r_13, k0_pay466, k0_pay465, r_3, k0_pay464, k0_pay444, k0_pay443, r_4, k0_pay446, k0_pay445]
  rw [lst_ld69b (h5 := h5) (h6 := h6) hp, lst_ld69t (h5 := h5) (h6 := h6) hp, lst_ldbb (h5 := h5) (h6 := h6) hp, lst_ldbt (h5 := h5) (h6 := h6) hp, lst_v250 (h5 := h5) (h6 := h6) hp, lst_v118 (h5 := h5) (h6 := h6) hp]
  all_goals rfl
theorem lst_d9_2 (g : BufTy.Contents (Elt F) I.view.ty) : rd9 I (I.view.writes (Elt F) g (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) 1 2 = mAt (insOf A B C D x2 x3 x4 x5) 2 k.val 1 := by
  dsimp only [HW9_4, HW9_3, HW9_2, HW9_1]
  iterate 1 refine miss (by decide) ?_
  refine hit (fun _ => rfl) ?_
  dsimp only [r_17, k0_pay483, r_15, r_16, k0_pay478, k0_pay476, k0_pay477, r_7, k0_pay475, k0_pay449, k0_pay447, r_6, k0_pay474, k0_pay448]
  rw [lst_ld70b (h5 := h5) (h6 := h6) hp, lst_ld70t (h5 := h5) (h6 := h6) hp, lst_ldbb (h5 := h5) (h6 := h6) hp, lst_ldbt (h5 := h5) (h6 := h6) hp, lst_v303 (h5 := h5) (h6 := h6) hp, lst_v141 (h5 := h5) (h6 := h6) hp]
  all_goals rfl
theorem lst_d9_3 (g : BufTy.Contents (Elt F) I.view.ty) : rd9 I (I.view.writes (Elt F) g (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) 1 3 = mAt (insOf A B C D x2 x3 x4 x5) 3 k.val 1 := by
  dsimp only [HW9_4, HW9_3, HW9_2, HW9_1]
  refine hit (fun _ => rfl) ?_
  dsimp only [r_18, r_19, k0_pay493, k0_pay488, k0_pay487, r_10, k0_pay486, k0_pay453, k0_pay451, r_9, k0_pay485, r_8, k0_pay452, k0_pay450]
  rw [lst_ld71b (h5 := h5) (h6 := h6) hp, lst_ld71t (h5 := h5) (h6 := h6) hp, lst_ldbb (h5 := h5) (h6 := h6) hp, lst_ldbt (h5 := h5) (h6 := h6) hp, lst_v356 (h5 := h5) (h6 := h6) hp, lst_v164 (h5 := h5) (h6 := h6) hp]
  all_goals rfl
theorem lst_d10_0 (g : BufTy.Contents (Elt F) J.view.ty) : rd10 J (J.view.writes (Elt F) g [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) 1 0 0 = alAt (insOf A B C D x2 x3 x4 x5) 0 k.val 0 := by
  try dsimp only
  iterate 3 refine miss (by decide) ?_
  refine hit (fun _ => rfl) ?_
  dsimp only [r_1, r_2, k0_pay458, k0_pay456, k0_pay457, k0_pay442, k0_pay440, r, k0_pay441, k0_pay439]
  rw [lst_ld68b (h5 := h5) (h6 := h6) hp, lst_ld68t (h5 := h5) (h6 := h6) hp, lst_ldbb (h5 := h5) (h6 := h6) hp, lst_ldbt (h5 := h5) (h6 := h6) hp, lst_v197 (h5 := h5) (h6 := h6) hp, lst_v95 (h5 := h5) (h6 := h6) hp]
  all_goals rfl
theorem lst_d10_1 (g : BufTy.Contents (Elt F) J.view.ty) : rd10 J (J.view.writes (Elt F) g [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) 1 0 1 = alAt (insOf A B C D x2 x3 x4 x5) 1 k.val 0 := by
  try dsimp only
  iterate 2 refine miss (by decide) ?_
  refine hit (fun _ => rfl) ?_
  dsimp only [r_5, r_13, k0_pay467, k0_pay465, k0_pay466, r_3, k0_pay464, k0_pay444, k0_pay443, r_4, k0_pay446, k0_pay445]
  rw [lst_ld69b (h5 := h5) (h6 := h6) hp, lst_ld69t (h5 := h5) (h6 := h6) hp, lst_ldbb (h5 := h5) (h6 := h6) hp, lst_ldbt (h5 := h5) (h6 := h6) hp, lst_v250 (h5 := h5) (h6 := h6) hp, lst_v118 (h5 := h5) (h6 := h6) hp]
  all_goals rfl
theorem lst_d10_2 (g : BufTy.Contents (Elt F) J.view.ty) : rd10 J (J.view.writes (Elt F) g [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) 1 0 2 = alAt (insOf A B C D x2 x3 x4 x5) 2 k.val 0 := by
  try dsimp only
  iterate 1 refine miss (by decide) ?_
  refine hit (fun _ => rfl) ?_
  dsimp only [r_15, r_16, k0_pay479, k0_pay476, k0_pay477, k0_pay478, r_7, k0_pay475, k0_pay449, k0_pay447, r_6, k0_pay474, k0_pay448]
  rw [lst_ld70b (h5 := h5) (h6 := h6) hp, lst_ld70t (h5 := h5) (h6 := h6) hp, lst_ldbb (h5 := h5) (h6 := h6) hp, lst_ldbt (h5 := h5) (h6 := h6) hp, lst_v303 (h5 := h5) (h6 := h6) hp, lst_v141 (h5 := h5) (h6 := h6) hp]
  all_goals rfl
theorem lst_d10_3 (g : BufTy.Contents (Elt F) J.view.ty) : rd10 J (J.view.writes (Elt F) g [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) 1 0 3 = alAt (insOf A B C D x2 x3 x4 x5) 3 k.val 0 := by
  try dsimp only
  refine hit (fun _ => rfl) ?_
  dsimp only [r_18, r_19, k0_pay489, k0_pay487, k0_pay488, r_10, k0_pay486, k0_pay453, k0_pay451, r_9, k0_pay485, r_8, k0_pay452, k0_pay450]
  rw [lst_ld71b (h5 := h5) (h6 := h6) hp, lst_ld71t (h5 := h5) (h6 := h6) hp, lst_ldbb (h5 := h5) (h6 := h6) hp, lst_ldbt (h5 := h5) (h6 := h6) hp, lst_v356 (h5 := h5) (h6 := h6) hp, lst_v164 (h5 := h5) (h6 := h6) hp]
  all_goals rfl
theorem lst_d11_0 (g : BufTy.Contents (Elt F) K.view.ty) : rd11 K (K.view.writes (Elt F) g (HW11_5 C H J K k h5 x4 f8 f10 f11)) 1 0 = accAt (insOf A B C D x2 x3 x4 x5) 0 k.val 0 := by
  dsimp only [HW11_5]
  iterate 4 refine miss (by decide) ?_
  dsimp only [k0_pay438]
  refine (rd_const (Val := Elt F) (e := .f32) _ _ _ _ _ _ ?_ (Scalar.ofBits (F := F) .f32 0x00000000#32) ?_).trans ?_
  · decide
  · intro x; rfl
  · rfl
theorem lst_d11_1 (g : BufTy.Contents (Elt F) K.view.ty) : rd11 K (K.view.writes (Elt F) g (HW11_5 C H J K k h5 x4 f8 f10 f11)) 1 1 = accAt (insOf A B C D x2 x3 x4 x5) 1 k.val 0 := by
  dsimp only [HW11_5]
  iterate 4 refine miss (by decide) ?_
  dsimp only [k0_pay438]
  refine (rd_const (Val := Elt F) (e := .f32) _ _ _ _ _ _ ?_ (Scalar.ofBits (F := F) .f32 0x00000000#32) ?_).trans ?_
  · decide
  · intro x; rfl
  · rfl
theorem lst_d11_2 (g : BufTy.Contents (Elt F) K.view.ty) : rd11 K (K.view.writes (Elt F) g (HW11_5 C H J K k h5 x4 f8 f10 f11)) 1 2 = accAt (insOf A B C D x2 x3 x4 x5) 2 k.val 0 := by
  dsimp only [HW11_5]
  iterate 4 refine miss (by decide) ?_
  dsimp only [k0_pay438]
  refine (rd_const (Val := Elt F) (e := .f32) _ _ _ _ _ _ ?_ (Scalar.ofBits (F := F) .f32 0x00000000#32) ?_).trans ?_
  · decide
  · intro x; rfl
  · rfl
theorem lst_d11_3 (g : BufTy.Contents (Elt F) K.view.ty) : rd11 K (K.view.writes (Elt F) g (HW11_5 C H J K k h5 x4 f8 f10 f11)) 1 3 = accAt (insOf A B C D x2 x3 x4 x5) 3 k.val 0 := by
  dsimp only [HW11_5]
  iterate 4 refine miss (by decide) ?_
  dsimp only [k0_pay438]
  refine (rd_const (Val := Elt F) (e := .f32) _ _ _ _ _ _ ?_ (Scalar.ofBits (F := F) .f32 0x00000000#32) ?_).trans ?_
  · decide
  · intro x; rfl
  · rfl
theorem lst_q_0 (g : BufTy.Contents (Elt F) G.view.ty) : rd7 G (G.view.writes (Elt F) g (HW7_4 A k h5 x2)) 0 = qS ((insOf A B C D x2 x3 x4 x5).q 0 k.val) := by
  dsimp only [HW7_4]
  iterate 3 refine miss (by decide) ?_
  refine hit (fun _ => rfl) ?_
  dsimp only [v54, v51]
  rw [lst_ld64 (h5 := h5) (h6 := h6) hp]
  all_goals rfl
theorem lst_q_1 (g : BufTy.Contents (Elt F) G.view.ty) : rd7 G (G.view.writes (Elt F) g (HW7_4 A k h5 x2)) 1 = qS ((insOf A B C D x2 x3 x4 x5).q 1 k.val) := by
  dsimp only [HW7_4]
  iterate 2 refine miss (by decide) ?_
  refine hit (fun _ => rfl) ?_
  dsimp only [v60, v57]
  rw [lst_ld65 (h5 := h5) (h6 := h6) hp]
  all_goals rfl
theorem lst_q_2 (g : BufTy.Contents (Elt F) G.view.ty) : rd7 G (G.view.writes (Elt F) g (HW7_4 A k h5 x2)) 2 = qS ((insOf A B C D x2 x3 x4 x5).q 2 k.val) := by
  dsimp only [HW7_4]
  iterate 1 refine miss (by decide) ?_
  refine hit (fun _ => rfl) ?_
  dsimp only [v63, k0_pay435]
  rw [lst_ld66 (h5 := h5) (h6 := h6) hp]
  all_goals rfl
theorem lst_q_3 (g : BufTy.Contents (Elt F) G.view.ty) : rd7 G (G.view.writes (Elt F) g (HW7_4 A k h5 x2)) 3 = qS ((insOf A B C D x2 x3 x4 x5).q 3 k.val) := by
  dsimp only [HW7_4]
  refine hit (fun _ => rfl) ?_
  dsimp only [k0_pay436]
  rw [lst_ld67 (h5 := h5) (h6 := h6) hp]
  all_goals rfl
/-- The queries kept are the tile's own. -/
theorem lst_q : QOk G (insOf A B C D x2 x3 x4 x5) (G.view.writes (Elt F) G.view.junk (HW7_4 A k h5 x2)) k.val := by
  intro h
  fin_cases h
  exacts [lst_q_0 (h5 := h5) (h6 := h6) hp _, lst_q_1 (h5 := h5) (h6 := h6) hp _, lst_q_2 (h5 := h5) (h6 := h6) hp _, lst_q_3 (h5 := h5) (h6 := h6) hp _]
/-- The scratch after the diagonal tile. -/
theorem lst_pend0 : Pend H I J K (insOf A B C D x2 x3 x4 x5) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (K.view.writes (Elt F) K.view.junk (HW11_5 C H J K k h5 x4 f8 f10 f11)) 1 0 k.val 0 where
  m := all4 (lst_d9_0 (h5 := h5) (h6 := h6) hp _) (lst_d9_1 (h5 := h5) (h6 := h6) hp _) (lst_d9_2 (h5 := h5) (h6 := h6) hp _) (lst_d9_3 (h5 := h5) (h6 := h6) hp _)
  al := all4 (lst_d10_0 (h5 := h5) (h6 := h6) hp _) (lst_d10_1 (h5 := h5) (h6 := h6) hp _) (lst_d10_2 (h5 := h5) (h6 := h6) hp _) (lst_d10_3 (h5 := h5) (h6 := h6) hp _)
  p := all4 (lst_d8_0 (h5 := h5) (h6 := h6) hp _) (lst_d8_1 (h5 := h5) (h6 := h6) hp _) (lst_d8_2 (h5 := h5) (h6 := h6) hp _) (lst_d8_3 (h5 := h5) (h6 := h6) hp _)
  acc := all4 (lst_d11_0 (h5 := h5) (h6 := h6) hp _) (lst_d11_1 (h5 := h5) (h6 := h6) hp _) (lst_d11_2 (h5 := h5) (h6 := h6) hp _) (lst_d11_3 (h5 := h5) (h6 := h6) hp _)
/-- The scratch after the loop over pairs of key tiles. -/
theorem lst_loop : Pend H I J K (insOf A B C D x2 x3 x4 x5) (H.view.writes (Elt F) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (pb_k0_t4 (F := F) Y c bd i A hA B hB C hC D hD E hE G hG H hH I hI J hJ K hK L hL k (arg13 k) h5 (v48 k) (v420 k) (r_20 C H J K k h5 x4 f8 f10 f11) x3 x4 (G.view.writes (Elt F) G.view.junk (HW7_4 A k h5 x2)) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (K.view.writes (Elt F) K.view.junk (HW11_5 C H J K k h5 x4 f8 f10 f11)) (k0_t4_loop k).trips).1) (I.view.writes (Elt F) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (pb_k0_t4 (F := F) Y c bd i A hA B hB C hC D hD E hE G hG H hH I hI J hJ K hK L hL k (arg13 k) h5 (v48 k) (v420 k) (r_20 C H J K k h5 x4 f8 f10 f11) x3 x4 (G.view.writes (Elt F) G.view.junk (HW7_4 A k h5 x2)) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (K.view.writes (Elt F) K.view.junk (HW11_5 C H J K k h5 x4 f8 f10 f11)) (k0_t4_loop k).trips).2.1) (J.view.writes (Elt F) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (pb_k0_t4 (F := F) Y c bd i A hA B hB C hC D hD E hE G hG H hH I hI J hJ K hK L hL k (arg13 k) h5 (v48 k) (v420 k) (r_20 C H J K k h5 x4 f8 f10 f11) x3 x4 (G.view.writes (Elt F) G.view.junk (HW7_4 A k h5 x2)) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (K.view.writes (Elt F) K.view.junk (HW11_5 C H J K k h5 x4 f8 f10 f11)) (k0_t4_loop k).trips).2.2.1) (K.view.writes (Elt F) (K.view.writes (Elt F) K.view.junk (HW11_5 C H J K k h5 x4 f8 f10 f11)) (pb_k0_t4 (F := F) Y c bd i A hA B hB C hC D hD E hE G hG H hH I hI J hJ K hK L hL k (arg13 k) h5 (v48 k) (v420 k) (r_20 C H J K k h5 x4 f8 f10 f11) x3 x4 (G.view.writes (Elt F) G.view.junk (HW7_4 A k h5 x2)) (H.view.writes (Elt F) f8 [⟨Rect.unit ![1, 0, 3, 256, 0] S1x1x1x256x256.size inb_S2x2x4x512x512_S1x1x1x256x256_1_0_3_256_0, k0_pay492⟩, ⟨Rect.unit ![1, 0, 3, 256, 256] S1x1x1x256x256.size inb_S2x2x4x512x512_S1x1x1x256x256_1_0_3_256_256, k0_pay491 (r_10 A B D G k h5 x2 x3 x5) (r_18 A B D G k h5 x2 x3 x5) (r_19 A B D G k h5 x2 x3 x5) (v356 A B D G I k h5 x2 x3 x5)⟩, ⟨Rect.unit ![1, 0, 3, 0, 0] S1x1x1x256x512.size inb_S2x2x4x512x512_S1x1x1x256x512_1_0_3_0_0, k0_pay490 (r_9 A B D G k h5 x2 x3 x5) (r_18 A B D G k h5 x2 x3 x5) (r_19 A B D G k h5 x2 x3 x5) (v356 A B D G I k h5 x2 x3 x5)⟩, ⟨Rect.unit ![1, 0, 2, 256, 0] S1x1x1x256x256.size inb_S2x2x4x512x512_S1x1x1x256x256_1_0_2_256_0, k0_pay482⟩, ⟨Rect.unit ![1, 0, 2, 256, 256] S1x1x1x256x256.size inb_S2x2x4x512x512_S1x1x1x256x256_1_0_2_256_256, k0_pay481 (r_7 A B D G k h5 x2 x3 x5) (r_15 A B D G k h5 x2 x3 x5) (r_16 A B D G k h5 x2 x3 x5) k0_pay476 (v303 A B D G I k h5 x2 x3 x5)⟩, ⟨Rect.unit ![1, 0, 2, 0, 0] S1x1x1x256x512.size inb_S2x2x4x512x512_S1x1x1x256x512_1_0_2_0_0, k0_pay480 (r_6 A B D G k h5 x2 x3 x5) (r_15 A B D G k h5 x2 x3 x5) (r_16 A B D G k h5 x2 x3 x5) k0_pay476 (v303 A B D G I k h5 x2 x3 x5)⟩, ⟨Rect.unit ![1, 0, 1, 256, 0] S1x1x1x256x256.size inb_S2x2x4x512x512_S1x1x1x256x256_1_0_1_256_0, k0_pay471 k0_pay470⟩, ⟨Rect.unit ![1, 0, 1, 256, 256] S1x1x1x256x256.size inb_S2x2x4x512x512_S1x1x1x256x256_1_0_1_256_256, k0_pay469 (r_5 A B D G k h5 x2 x3 x5) (r_13 A B D G k h5 x2 x3 x5) (v250 A B D G I k h5 x2 x3 x5)⟩, ⟨Rect.unit ![1, 0, 1, 0, 0] S1x1x1x256x512.size inb_S2x2x4x512x512_S1x1x1x256x512_1_0_1_0_0, k0_pay468 (r_3 A B D G k h5 x2 x3 x5) (r_5 A B D G k h5 x2 x3 x5) (r_13 A B D G k h5 x2 x3 x5) (v250 A B D G I k h5 x2 x3 x5)⟩, ⟨Rect.unit ![1, 0, 0, 256, 0] S1x1x1x256x256.size inb_S2x2x4x512x512_S1x1x1x256x256_1_0_0_256_0, k0_pay461 cst_169⟩, ⟨Rect.unit ![1, 0, 0, 256, 256] S1x1x1x256x256.size inb_S2x2x4x512x512_S1x1x1x256x256_1_0_0_256_256, k0_pay460 (r_1 A B D G k h5 x2 x3 x5) (r_2 A B D G k h5 x2 x3 x5) (v197 I)⟩, ⟨Rect.unit ![1, 0, 0, 0, 0] S1x1x1x256x512.size inb_S2x2x4x512x512_S1x1x1x256x512_1_0_0_0_0, k0_pay459 (r_1 A B D G k h5 x2 x3 x5) (r_2 A B D G k h5 x2 x3 x5) (v197 I)⟩]) (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) (K.view.writes (Elt F) K.view.junk (HW11_5 C H J K k h5 x4 f8 f10 f11)) (k0_t4_loop k).trips).2.2.2) 1 0 k.val (k.val - 1) := by
  have e := t4_loop (u := h5) (lst_q (h5 := h5) (h6 := h6) hp) (lst_pend0 (G := G) (h5 := h5) (h6 := h6) hp) Y c bd i hA hB hC hD hE hG hH hI hJ hK hL (arg13 k) (v48 k) (v420 k) (r_20 C H J K k h5 x4 f8 f10 f11) _ le_rfl
  rw [lst_trips k h5] at e
  exact e
omit hp in
theorem lst_nil {w v48 v421 v431 : BitVec 32} {v424 : FVec F S512x256 .bf16} {y3 : BufTy.Contents (Elt F) B.view.ty} {y4 : BufTy.Contents (Elt F) C.view.ty}{g7 : BufTy.Contents (Elt F) G.view.ty} {g8 : BufTy.Contents (Elt F) H.view.ty} {g9 : BufTy.Contents (Elt F) I.view.ty} {g10 : BufTy.Contents (Elt F) J.view.ty} {g11 : BufTy.Contents (Elt F) K.view.ty} : pb_k0_t5 (F := F) Y c bd i A hA B hB C hC D hD E hE G hG H hH I hI J hJ K hK L hL k w h5 v48 v421 v424 v431 y3 y4 g7 g8 g9 g10 g11 (Scf.trips (k0_t5_loop k).lb (k0_t5_loop k).ub (k0_t5_loop k).st) = ([], [], [], []) := by
  rw [show Scf.trips (k0_t5_loop k).lb (k0_t5_loop k).ub (k0_t5_loop k).st = 0 from lst_none k h5]
  rfl
theorem lst_v441 : v441 (F := F) A G k h5 x2 = qS ((insOf A B C D x2 x3 x4 x5).q 0 k.val) := by
  unfold v441
  refine (rc_eq _ _ _).trans ?_
  dsimp only [HW7_4]
  iterate 3 refine miss (by decide) ?_
  refine hit (fun _ => rfl) ?_
  dsimp only [v54, v51]
  rw [lst_ld64 (h5 := h5) (h6 := h6) hp]
  all_goals rfl
theorem lst_v449 : v449 (F := F) A G k h5 x2 = qS ((insOf A B C D x2 x3 x4 x5).q 1 k.val) := by
  unfold v449
  refine (rc_eq _ _ _).trans ?_
  dsimp only [HW7_4]
  iterate 2 refine miss (by decide) ?_
  refine hit (fun _ => rfl) ?_
  dsimp only [v60, v57]
  rw [lst_ld65 (h5 := h5) (h6 := h6) hp]
  all_goals rfl
theorem lst_v457 : v457 (F := F) A G k h5 x2 = qS ((insOf A B C D x2 x3 x4 x5).q 2 k.val) := by
  unfold v457
  refine (rc_eq _ _ _).trans ?_
  dsimp only [HW7_4]
  iterate 1 refine miss (by decide) ?_
  refine hit (fun _ => rfl) ?_
  dsimp only [v63, k0_pay435]
  rw [lst_ld66 (h5 := h5) (h6 := h6) hp]
  all_goals rfl
theorem lst_v465 : v465 (F := F) A G k h5 x2 = qS ((insOf A B C D x2 x3 x4 x5).q 3 k.val) := by
  unfold v465
  refine (rc_eq _ _ _).trans ?_
  dsimp only [HW7_4]
  refine hit (fun _ => rfl) ?_
  dsimp only [k0_pay436]
  rw [lst_ld67 (h5 := h5) (h6 := h6) hp]
  all_goals rfl
theorem lst_v471 : v471 (F := F) Y c bd i A hA B hB C hC D hD E hE G hG H hH I hI J hJ K hK L hL k h5 x2 x3 x4 x5 f8 f9 f10 f11 = alAt (insOf A B C D x2 x3 x4 x5) 0 k.val (k.val - 1) := by
  unfold v471
  refine (rc_eq _ _ _).trans ?_
  try dsimp only
  rw [lst_nil (h5 := h5) (h6 := h6), List.nil_append]
  rw [View.writes_append]
  refine (rd_base _ _ (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) _ _ ((lst_d10_0 (h5 := h5) (h6 := h6) hp _).trans (lst_d10_0 (h5 := h5) (h6 := h6) hp _).symm)).trans ?_
  exact (lst_loop (h5 := h5) (h6 := h6) hp).al 0
theorem lst_v473 : v473 (F := F) Y c bd i A hA B hB C hC D hD E hE G hG H hH I hI J hJ K hK L hL k h5 x2 x3 x4 x5 f8 f9 f10 f11 = accAt (insOf A B C D x2 x3 x4 x5) 0 k.val (k.val - 1) := by
  unfold v473
  refine (rc_eq _ _ _).trans ?_
  dsimp only [HW11_5]
  rw [lst_nil (h5 := h5) (h6 := h6), List.nil_append]
  rw [View.writes_append]
  exact (lst_loop (h5 := h5) (h6 := h6) hp).acc 0
theorem lst_v477 : v477 (F := F) Y c bd i A hA B hB C hC D hD E hE G hG H hH I hI J hJ K hK L hL k h5 x2 x3 x4 x5 f8 f9 f10 f11 = pAt (insOf A B C D x2 x3 x4 x5) 0 k.val (k.val - 1) := by
  unfold v477
  try dsimp only
  rw [lst_nil (h5 := h5) (h6 := h6), List.nil_append]
  rw [View.writes_append]
  exact (lst_loop (h5 := h5) (h6 := h6) hp).p 0
theorem lst_v484 : v484 (F := F) Y c bd i A hA B hB C hC D hD E hE G hG H hH I hI J hJ K hK L hL k h5 x2 x3 x4 x5 f8 f9 f10 f11 = mAt (insOf A B C D x2 x3 x4 x5) 0 k.val (k.val - 1 + 1) := by
  unfold v484
  refine (rc_eq _ _ _).trans ?_
  dsimp only [HW9_4, HW9_3, HW9_2, HW9_1]
  rw [lst_nil (h5 := h5) (h6 := h6), List.nil_append]
  rw [View.writes_append]
  refine (rd_base _ _ (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) _ _ ((lst_d9_0 (h5 := h5) (h6 := h6) hp _).trans (lst_d9_0 (h5 := h5) (h6 := h6) hp _).symm)).trans ?_
  exact (lst_loop (h5 := h5) (h6 := h6) hp).m 0
theorem lst_v507 : v507 (F := F) Y c bd i A hA B hB C hC D hD E hE G hG H hH I hI J hJ K hK L hL k h5 x2 x3 x4 x5 f8 f9 f10 f11 = alAt (insOf A B C D x2 x3 x4 x5) 1 k.val (k.val - 1) := by
  unfold v507
  refine (rc_eq _ _ _).trans ?_
  dsimp only [HW10_1]
  iterate 1 refine miss (by decide) ?_
  rw [lst_nil (h5 := h5) (h6 := h6), List.nil_append]
  rw [View.writes_append]
  refine (rd_base _ _ (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) _ _ ((lst_d10_1 (h5 := h5) (h6 := h6) hp _).trans (lst_d10_1 (h5 := h5) (h6 := h6) hp _).symm)).trans ?_
  exact (lst_loop (h5 := h5) (h6 := h6) hp).al 1
theorem lst_v509 : v509 (F := F) Y c bd i A hA B hB C hC D hD E hE G hG H hH I hI J hJ K hK L hL k h5 x2 x3 x4 x5 f8 f9 f10 f11 = accAt (insOf A B C D x2 x3 x4 x5) 1 k.val (k.val - 1) := by
  unfold v509
  refine (rc_eq _ _ _).trans ?_
  dsimp only [HW11_1, HW11_5]
  iterate 1 refine miss (by decide) ?_
  rw [lst_nil (h5 := h5) (h6 := h6), List.nil_append]
  rw [View.writes_append]
  exact (lst_loop (h5 := h5) (h6 := h6) hp).acc 1
theorem lst_v513 : v513 (F := F) Y c bd i A hA B hB C hC D hD E hE G hG H hH I hI J hJ K hK L hL k h5 x2 x3 x4 x5 f8 f9 f10 f11 = pAt (insOf A B C D x2 x3 x4 x5) 1 k.val (k.val - 1) := by
  unfold v513
  dsimp only [HW8_1]
  iterate 1 refine miss (by decide) ?_
  rw [lst_nil (h5 := h5) (h6 := h6), List.nil_append]
  rw [View.writes_append]
  exact (lst_loop (h5 := h5) (h6 := h6) hp).p 1
theorem lst_v520 : v520 (F := F) Y c bd i A hA B hB C hC D hD E hE G hG H hH I hI J hJ K hK L hL k h5 x2 x3 x4 x5 f8 f9 f10 f11 = mAt (insOf A B C D x2 x3 x4 x5) 1 k.val (k.val - 1 + 1) := by
  unfold v520
  refine (rc_eq _ _ _).trans ?_
  dsimp only [HW9_1_1, HW9_4, HW9_3, HW9_2, HW9_1]
  iterate 1 refine miss (by decide) ?_
  rw [lst_nil (h5 := h5) (h6 := h6), List.nil_append]
  rw [View.writes_append]
  refine (rd_base _ _ (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) _ _ ((lst_d9_1 (h5 := h5) (h6 := h6) hp _).trans (lst_d9_1 (h5 := h5) (h6 := h6) hp _).symm)).trans ?_
  exact (lst_loop (h5 := h5) (h6 := h6) hp).m 1
theorem lst_v543 : v543 (F := F) Y c bd i A hA B hB C hC D hD E hE G hG H hH I hI J hJ K hK L hL k h5 x2 x3 x4 x5 f8 f9 f10 f11 = alAt (insOf A B C D x2 x3 x4 x5) 2 k.val (k.val - 1) := by
  unfold v543
  refine (rc_eq _ _ _).trans ?_
  dsimp only [HW10_2, HW10_1]
  iterate 2 refine miss (by decide) ?_
  rw [lst_nil (h5 := h5) (h6 := h6), List.nil_append]
  rw [View.writes_append]
  refine (rd_base _ _ (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) _ _ ((lst_d10_2 (h5 := h5) (h6 := h6) hp _).trans (lst_d10_2 (h5 := h5) (h6 := h6) hp _).symm)).trans ?_
  exact (lst_loop (h5 := h5) (h6 := h6) hp).al 2
theorem lst_v545 : v545 (F := F) Y c bd i A hA B hB C hC D hD E hE G hG H hH I hI J hJ K hK L hL k h5 x2 x3 x4 x5 f8 f9 f10 f11 = accAt (insOf A B C D x2 x3 x4 x5) 2 k.val (k.val - 1) := by
  unfold v545
  refine (rc_eq _ _ _).trans ?_
  dsimp only [HW11_2, HW11_1, HW11_5]
  iterate 2 refine miss (by decide) ?_
  rw [lst_nil (h5 := h5) (h6 := h6), List.nil_append]
  rw [View.writes_append]
  exact (lst_loop (h5 := h5) (h6 := h6) hp).acc 2
theorem lst_v549 : v549 (F := F) Y c bd i A hA B hB C hC D hD E hE G hG H hH I hI J hJ K hK L hL k h5 x2 x3 x4 x5 f8 f9 f10 f11 = pAt (insOf A B C D x2 x3 x4 x5) 2 k.val (k.val - 1) := by
  unfold v549
  dsimp only [HW8_2, HW8_1]
  iterate 2 refine miss (by decide) ?_
  rw [lst_nil (h5 := h5) (h6 := h6), List.nil_append]
  rw [View.writes_append]
  exact (lst_loop (h5 := h5) (h6 := h6) hp).p 2
theorem lst_v556 : v556 (F := F) Y c bd i A hA B hB C hC D hD E hE G hG H hH I hI J hJ K hK L hL k h5 x2 x3 x4 x5 f8 f9 f10 f11 = mAt (insOf A B C D x2 x3 x4 x5) 2 k.val (k.val - 1 + 1) := by
  unfold v556
  refine (rc_eq _ _ _).trans ?_
  dsimp only [HW9_2_1, HW9_1_1, HW9_4, HW9_3, HW9_2, HW9_1]
  iterate 2 refine miss (by decide) ?_
  rw [lst_nil (h5 := h5) (h6 := h6), List.nil_append]
  rw [View.writes_append]
  refine (rd_base _ _ (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) _ _ ((lst_d9_2 (h5 := h5) (h6 := h6) hp _).trans (lst_d9_2 (h5 := h5) (h6 := h6) hp _).symm)).trans ?_
  exact (lst_loop (h5 := h5) (h6 := h6) hp).m 2
theorem lst_v579 : v579 (F := F) Y c bd i A hA B hB C hC D hD E hE G hG H hH I hI J hJ K hK L hL k h5 x2 x3 x4 x5 f8 f9 f10 f11 = alAt (insOf A B C D x2 x3 x4 x5) 3 k.val (k.val - 1) := by
  unfold v579
  refine (rc_eq _ _ _).trans ?_
  dsimp only [HW10_3, HW10_2, HW10_1]
  iterate 3 refine miss (by decide) ?_
  rw [lst_nil (h5 := h5) (h6 := h6), List.nil_append]
  rw [View.writes_append]
  refine (rd_base _ _ (J.view.writes (Elt F) f10 [⟨Rect.unit ![1, 0, 3, 0, 0] S1x1x1x1x512.size inb_S2x2x4x1x512_S1x1x1x1x512_1_0_3_0_0, k0_pay489 (r_18 A B D G k h5 x2 x3 x5) (r_19 A B D G k h5 x2 x3 x5) (v356 A B D G I k h5 x2 x3 x5)⟩, ⟨Rect.unit ![1, 0, 2, 0, 0] S1x1x1x1x512.size inb_S2x2x4x1x512_S1x1x1x1x512_1_0_2_0_0, k0_pay479 (r_15 A B D G k h5 x2 x3 x5) (r_16 A B D G k h5 x2 x3 x5) k0_pay476 (v303 A B D G I k h5 x2 x3 x5)⟩, ⟨Rect.unit ![1, 0, 1, 0, 0] S1x1x1x1x512.size inb_S2x2x4x1x512_S1x1x1x1x512_1_0_1_0_0, k0_pay467 (r_5 A B D G k h5 x2 x3 x5) (r_13 A B D G k h5 x2 x3 x5) (v250 A B D G I k h5 x2 x3 x5)⟩, ⟨Rect.unit ![1, 0, 0, 0, 0] S1x1x1x1x512.size inb_S2x2x4x1x512_S1x1x1x1x512_1_0_0_0_0, k0_pay458 (r_1 A B D G k h5 x2 x3 x5) (r_2 A B D G k h5 x2 x3 x5) (v197 I)⟩]) _ _ ((lst_d10_3 (h5 := h5) (h6 := h6) hp _).trans (lst_d10_3 (h5 := h5) (h6 := h6) hp _).symm)).trans ?_
  exact (lst_loop (h5 := h5) (h6 := h6) hp).al 3
theorem lst_v581 : v581 (F := F) Y c bd i A hA B hB C hC D hD E hE G hG H hH I hI J hJ K hK L hL k h5 x2 x3 x4 x5 f8 f9 f10 f11 = accAt (insOf A B C D x2 x3 x4 x5) 3 k.val (k.val - 1) := by
  unfold v581
  refine (rc_eq _ _ _).trans ?_
  dsimp only [HW11_3, HW11_2, HW11_1, HW11_5]
  iterate 3 refine miss (by decide) ?_
  rw [lst_nil (h5 := h5) (h6 := h6), List.nil_append]
  rw [View.writes_append]
  exact (lst_loop (h5 := h5) (h6 := h6) hp).acc 3
theorem lst_v585 : v585 (F := F) Y c bd i A hA B hB C hC D hD E hE G hG H hH I hI J hJ K hK L hL k h5 x2 x3 x4 x5 f8 f9 f10 f11 = pAt (insOf A B C D x2 x3 x4 x5) 3 k.val (k.val - 1) := by
  unfold v585
  dsimp only [HW8_3, HW8_2, HW8_1]
  iterate 3 refine miss (by decide) ?_
  rw [lst_nil (h5 := h5) (h6 := h6), List.nil_append]
  rw [View.writes_append]
  exact (lst_loop (h5 := h5) (h6 := h6) hp).p 3
theorem lst_v592 : v592 (F := F) Y c bd i A hA B hB C hC D hD E hE G hG H hH I hI J hJ K hK L hL k h5 x2 x3 x4 x5 f8 f9 f10 f11 = mAt (insOf A B C D x2 x3 x4 x5) 3 k.val (k.val - 1 + 1) := by
  unfold v592
  refine (rc_eq _ _ _).trans ?_
  dsimp only [HW9_3_1, HW9_2_1, HW9_1_1, HW9_4, HW9_3, HW9_2, HW9_1]
  iterate 3 refine miss (by decide) ?_
  rw [lst_nil (h5 := h5) (h6 := h6), List.nil_append]
  rw [View.writes_append]
  refine (rd_base _ _ (I.view.writes (Elt F) f9 (⟨Rect.unit ![1, 3, 0, 0] S1x1x1x512.size inb_S2x4x1x512_S1x1x1x512_1_3_0_0, k0_pay493 (r_18 A B D G k h5 x2 x3 x5) (r_19 A B D G k h5 x2 x3 x5) (v356 A B D G I k h5 x2 x3 x5)⟩ :: HW9_4 A B D G I k h5 x2 x3 x5)) _ _ ((lst_d9_3 (h5 := h5) (h6 := h6) hp _).trans (lst_d9_3 (h5 := h5) (h6 := h6) hp _).symm)).trans ?_
  exact (lst_loop (h5 := h5) (h6 := h6) hp).m 3
theorem lst_v619 : v619 (F := F) Y c bd i A hA B hB C hC D hD E hE G hG H hH I hI J hJ K hK L hL k h5 x2 x3 x4 x5 f8 f9 f10 f11 = alAt (insOf A B C D x2 x3 x4 x5) 0 k.val (k.val - 1 + 1) := by
  unfold v619
  refine (rc_eq _ _ _).trans ?_
  dsimp only [HW10_4, HW10_3, HW10_2, HW10_1]
  iterate 3 refine miss (by decide) ?_
  refine hit (fun _ => rfl) ?_
  dsimp only [r_21, k0_pay507, k0_pay505, k0_pay506, k0_pay499]
  rw [lst_ld109 (h5 := h5) (h6 := h6) hp, lst_v484 (h5 := h5) (h6 := h6) hp, lst_v441 (h5 := h5) (h6 := h6) hp]
  all_goals rfl
theorem lst_v621 : v621 (F := F) Y c bd i A hA B hB C hC D hD E hE G hG H hH I hI J hJ K hK L hL k h5 x2 x3 x4 x5 f8 f9 f10 f11 = accAt (insOf A B C D x2 x3 x4 x5) 0 k.val (k.val - 1 + 1) := by
  unfold v621
  refine (rc_eq _ _ _).trans ?_
  dsimp only [HW11_4, HW11_3, HW11_2, HW11_1, HW11_5]
  iterate 3 refine miss (by decide) ?_
  refine hit (fun _ => rfl) ?_
  dsimp only [k0_pay504]
  rw [lst_ld113 (h5 := h5) (h6 := h6) hp, lst_v471 (h5 := h5) (h6 := h6) hp, lst_v473 (h5 := h5) (h6 := h6) hp, lst_v477 (h5 := h5) (h6 := h6) hp]
  all_goals rfl
theorem lst_v625 : v625 (F := F) Y c bd i A hA B hB C hC D hD E hE G hG H hH I hI J hJ K hK L hL k h5 x2 x3 x4 x5 f8 f9 f10 f11 = pAt (insOf A B C D x2 x3 x4 x5) 0 k.val (k.val - 1 + 1) := by
  unfold v625
  refine (rc_eq _ _ _).trans ?_
  dsimp only [HW8_4, HW8_3, HW8_2, HW8_1]
  iterate 3 refine miss (by decide) ?_
  refine hit (fun _ => rfl) ?_
  dsimp only [r_21, k0_pay508, k0_pay506, k0_pay505, k0_pay499]
  rw [lst_ld109 (h5 := h5) (h6 := h6) hp, lst_v484 (h5 := h5) (h6 := h6) hp, lst_v441 (h5 := h5) (h6 := h6) hp]
  all_goals rfl
theorem lst_v635 : v635 (F := F) Y c bd i A hA B hB C hC D hD E hE G hG H hH I hI J hJ K hK L hL k h5 x2 x3 x4 x5 f8 f9 f10 f11 = alAt (insOf A B C D x2 x3 x4 x5) 1 k.val (k.val - 1 + 1) := by
  unfold v635
  refine (rc_eq _ _ _).trans ?_
  dsimp only [HW10_4, HW10_3, HW10_2, HW10_1]
  iterate 2 refine miss (by decide) ?_
  refine hit (fun _ => rfl) ?_
  dsimp only [r_22, k0_pay515, k0_pay513, k0_pay514, k0_pay500]
  rw [lst_ld110 (h5 := h5) (h6 := h6) hp, lst_v520 (h5 := h5) (h6 := h6) hp, lst_v449 (h5 := h5) (h6 := h6) hp]
  all_goals rfl
theorem lst_v637 : v637 (F := F) Y c bd i A hA B hB C hC D hD E hE G hG H hH I hI J hJ K hK L hL k h5 h6 x2 x3 x4 x5 f8 f9 f10 f11 = accAt (insOf A B C D x2 x3 x4 x5) 1 k.val (k.val - 1 + 1) := by
  unfold v637
  refine (rc_eq _ _ _).trans ?_
  dsimp only [HW11_5_1, HW11_4, HW11_3, HW11_2, HW11_1, HW11_5]
  iterate 3 refine miss (by decide) ?_
  refine hit (fun _ => rfl) ?_
  dsimp only [r_26, r_27, k0_pay512, k0_pay511, k0_pay510]
  rw [lst_ld114 (h5 := h5) (h6 := h6) hp, lst_v509 (h5 := h5) (h6 := h6) hp, lst_v513 (h5 := h5) (h6 := h6) hp, lst_v507 (h5 := h5) (h6 := h6) hp]
  all_goals rfl
theorem lst_v641 : v641 (F := F) Y c bd i A hA B hB C hC D hD E hE G hG H hH I hI J hJ K hK L hL k h5 x2 x3 x4 x5 f8 f9 f10 f11 = pAt (insOf A B C D x2 x3 x4 x5) 1 k.val (k.val - 1 + 1) := by
  unfold v641
  refine (rc_eq _ _ _).trans ?_
  dsimp only [HW8_4, HW8_3, HW8_2, HW8_1]
  iterate 2 refine miss (by decide) ?_
  refine hit (fun _ => rfl) ?_
  dsimp only [r_22, k0_pay516, k0_pay514, k0_pay513, k0_pay500]
  rw [lst_ld110 (h5 := h5) (h6 := h6) hp, lst_v520 (h5 := h5) (h6 := h6) hp, lst_v449 (h5 := h5) (h6 := h6) hp]
  all_goals rfl
theorem lst_v651 : v651 (F := F) Y c bd i A hA B hB C hC D hD E hE G hG H hH I hI J hJ K hK L hL k h5 x2 x3 x4 x5 f8 f9 f10 f11 = alAt (insOf A B C D x2 x3 x4 x5) 2 k.val (k.val - 1 + 1) := by
  unfold v651
  refine (rc_eq _ _ _).trans ?_
  dsimp only [HW10_4, HW10_3, HW10_2, HW10_1]
  iterate 1 refine miss (by decide) ?_
  refine hit (fun _ => rfl) ?_
  dsimp only [r_30, k0_pay522, r_24, k0_pay521, k0_pay519, k0_pay520, r_23, k0_pay502, k0_pay501]
  rw [lst_ld111 (h5 := h5) (h6 := h6) hp, lst_v556 (h5 := h5) (h6 := h6) hp, lst_v457 (h5 := h5) (h6 := h6) hp]
  all_goals rfl
theorem lst_v653 : v653 (F := F) Y c bd i A hA B hB C hC D hD E hE G hG H hH I hI J hJ K hK L hL k h5 h6 x2 x3 x4 x5 f8 f9 f10 f11 = accAt (insOf A B C D x2 x3 x4 x5) 2 k.val (k.val - 1 + 1) := by
  unfold v653
  refine (rc_eq _ _ _).trans ?_
  dsimp only [HW11_6, HW11_5_1, HW11_4, HW11_3, HW11_2, HW11_1, HW11_5]
  iterate 3 refine miss (by decide) ?_
  refine hit (fun _ => rfl) ?_
  dsimp only [k0_pay518]
  rw [lst_ld115 (h5 := h5) (h6 := h6) hp, lst_v543 (h5 := h5) (h6 := h6) hp, lst_v545 (h5 := h5) (h6 := h6) hp, lst_v549 (h5 := h5) (h6 := h6) hp]
  all_goals rfl
theorem lst_v657 : v657 (F := F) Y c bd i A hA B hB C hC D hD E hE G hG H hH I hI J hJ K hK L hL k h5 x2 x3 x4 x5 f8 f9 f10 f11 = pAt (insOf A B C D x2 x3 x4 x5) 2 k.val (k.val - 1 + 1) := by
  unfold v657
  refine (rc_eq _ _ _).trans ?_
  dsimp only [HW8_4, HW8_3, HW8_2, HW8_1]
  iterate 1 refine miss (by decide) ?_
  refine hit (fun _ => rfl) ?_
  dsimp only [r_24, r_29, k0_pay523, k0_pay520, k0_pay519, r_23, k0_pay502, k0_pay501]
  rw [lst_ld111 (h5 := h5) (h6 := h6) hp, lst_v556 (h5 := h5) (h6 := h6) hp, lst_v457 (h5 := h5) (h6 := h6) hp]
  all_goals rfl
theorem lst_v667 : v667 (F := F) Y c bd i A hA B hB C hC D hD E hE G hG H hH I hI J hJ K hK L hL k h5 x2 x3 x4 x5 f8 f9 f10 f11 = alAt (insOf A B C D x2 x3 x4 x5) 3 k.val (k.val - 1 + 1) := by
  unfold v667
  refine (rc_eq _ _ _).trans ?_
  dsimp only [HW10_4, HW10_3, HW10_2, HW10_1]
  refine hit (fun _ => rfl) ?_
  dsimp only [r_25, k0_pay529, k0_pay527, k0_pay528, k0_pay503]
  rw [lst_ld112 (h5 := h5) (h6 := h6) hp, lst_v592 (h5 := h5) (h6 := h6) hp, lst_v465 (h5 := h5) (h6 := h6) hp]
  all_goals rfl
theorem lst_v669 : v669 (F := F) Y c bd i A hA B hB C hC D hD E hE G hG H hH I hI J hJ K hK L hL k h5 h6 x2 x3 x4 x5 f8 f9 f10 f11 = accAt (insOf A B C D x2 x3 x4 x5) 3 k.val (k.val - 1 + 1) := by
  unfold v669
  refine (rc_eq _ _ _).trans ?_
  dsimp only [HW11_7, HW11_6, HW11_5_1, HW11_4, HW11_3, HW11_2, HW11_1, HW11_5]
  iterate 3 refine miss (by decide) ?_
  refine hit (fun _ => rfl) ?_
  dsimp only [r_31, k0_pay526, k0_pay525]
  rw [lst_ld116 (h5 := h5) (h6 := h6) hp, lst_v579 (h5 := h5) (h6 := h6) hp, lst_v581 (h5 := h5) (h6 := h6) hp, lst_v585 (h5 := h5) (h6 := h6) hp]
  all_goals rfl
theorem lst_v673 : v673 (F := F) Y c bd i A hA B hB C hC D hD E hE G hG H hH I hI J hJ K hK L hL k h5 x2 x3 x4 x5 f8 f9 f10 f11 = pAt (insOf A B C D x2 x3 x4 x5) 3 k.val (k.val - 1 + 1) := by
  unfold v673
  refine (rc_eq _ _ _).trans ?_
  dsimp only [HW8_4, HW8_3, HW8_2, HW8_1]
  refine hit (fun _ => rfl) ?_
  dsimp only [r_25, k0_pay530, k0_pay528, k0_pay527, k0_pay503]
  rw [lst_ld112 (h5 := h5) (h6 := h6) hp, lst_v592 (h5 := h5) (h6 := h6) hp, lst_v465 (h5 := h5) (h6 := h6) hp]
  all_goals rfl
theorem lst_v680 : v680 (F := F) Y c bd i A hA B hB C hC D hD E hE G hG H hH I hI J hJ K hK L hL k h5 h6 x2 x3 x4 x5 f8 f9 f10 f11 = accAt (insOf A B C D x2 x3 x4 x5) 0 k.val (k.val - 1 + 1 + 1) := by
  unfold v680
  refine (rc_eq _ _ _).trans ?_
  dsimp only [HW11_8, HW11_7, HW11_6, HW11_5_1, HW11_4, HW11_3, HW11_2, HW11_1, HW11_5]
  iterate 3 refine miss (by decide) ?_
  refine hit (fun _ => rfl) ?_
  dsimp only [k0_pay422]
  rw [lst_ld117 (h5 := h5) (h6 := h6) hp, lst_v619 (h5 := h5) (h6 := h6) hp, lst_v621 (h5 := h5) (h6 := h6) hp, lst_v625 (h5 := h5) (h6 := h6) hp]
  all_goals rfl
theorem lst_v688 : v688 (F := F) Y c bd i A hA B hB C hC D hD E hE G hG H hH I hI J hJ K hK L hL k h5 h6 x2 x3 x4 x5 f8 f9 f10 f11 = accAt (insOf A B C D x2 x3 x4 x5) 1 k.val (k.val - 1 + 1 + 1) := by
  unfold v688
  refine (rc_eq _ _ _).trans ?_
  dsimp only [HW11_8, HW11_7, HW11_6, HW11_5_1, HW11_4, HW11_3, HW11_2, HW11_1, HW11_5]
  iterate 2 refine miss (by decide) ?_
  refine hit (fun _ => rfl) ?_
  dsimp only [r_33, r_34, r_35, k0_pay426, k0_pay425, k0_pay424, k0_pay423]
  rw [lst_ld118 (h5 := h5) (h6 := h6) hp, lst_v641 (h5 := h5) (h6 := h6) hp, lst_v637 (h5 := h5) (h6 := h6) hp, lst_v635 (h5 := h5) (h6 := h6) hp]
  all_goals rfl
theorem lst_v696 : v696 (F := F) Y c bd i A hA B hB C hC D hD E hE G hG H hH I hI J hJ K hK L hL k h5 h6 x2 x3 x4 x5 f8 f9 f10 f11 = accAt (insOf A B C D x2 x3 x4 x5) 2 k.val (k.val - 1 + 1 + 1) := by
  unfold v696
  refine (rc_eq _ _ _).trans ?_
  dsimp only [HW11_8, HW11_7, HW11_6, HW11_5_1, HW11_4, HW11_3, HW11_2, HW11_1, HW11_5]
  iterate 1 refine miss (by decide) ?_
  refine hit (fun _ => rfl) ?_
  dsimp only [k0_pay427]
  rw [lst_ld119 (h5 := h5) (h6 := h6) hp, lst_v651 (h5 := h5) (h6 := h6) hp, lst_v653 (h5 := h5) (h6 := h6) hp, lst_v657 (h5 := h5) (h6 := h6) hp]
  all_goals rfl
theorem lst_v704 : v704 (F := F) Y c bd i A hA B hB C hC D hD E hE G hG H hH I hI J hJ K hK L hL k h5 h6 x2 x3 x4 x5 f8 f9 f10 f11 = accAt (insOf A B C D x2 x3 x4 x5) 3 k.val (k.val - 1 + 1 + 1) := by
  unfold v704
  refine (rc_eq _ _ _).trans ?_
  dsimp only [HW11_8, HW11_7, HW11_6, HW11_5_1, HW11_4, HW11_3, HW11_2, HW11_1, HW11_5]
  refine hit (fun _ => rfl) ?_
  dsimp only [k0_pay428]
  rw [lst_ld120 (h5 := h5) (h6 := h6) hp, lst_v667 (h5 := h5) (h6 := h6) hp, lst_v669 (h5 := h5) (h6 := h6) hp, lst_v673 (h5 := h5) (h6 := h6) hp]
  all_goals rfl
theorem lst_row7 : k0_pay8 (r_36 Y c bd i A hA B hB C hC D hD E hE G hG H hH I hI J hJ K hK L hL k h5 h6 x2 x3 x4 x5 f8 f9 f10 f11) (r_37 Y c bd i A hA B hB C hC D hD E hE G hG H hH I hI J hJ K hK L hL k h5 h6 x2 x3 x4 x5 f8 f9 f10 f11) (r_38 Y c bd i A hA B hB C hC D hD E hE G hG H hH I hI J hJ K hK L hL k h5 h6 x2 x3 x4 x5 f8 f9 f10 f11) (v696 Y c bd i A hA B hB C hC D hD E hE G hG H hH I hI J hJ K hK L hL k h5 h6 x2 x3 x4 x5 f8 f9 f10 f11) (v704 Y c bd i A hA B hB C hC D hD E hE G hG H hH I hI J hJ K hK L hL k h5 h6 x2 x3 x4 x5 f8 f9 f10 f11) = outAt (insOf A B C D x2 x3 x4 x5) k.val := by
  dsimp only [r_36, r_37, r_38, k0_pay8, k0_pay431, k0_pay430, k0_pay429]
  rw [lst_v696 (h5 := h5) (h6 := h6) hp, lst_v704 (h5 := h5) (h6 := h6) hp, lst_v688 (h5 := h5) (h6 := h6) hp, lst_v680 (h5 := h5) (h6 := h6) hp]
  rw [lst_k k h5]
  all_goals rfl
theorem lst_row : r_20 C H J K k h5 x4 f8 f10 f11 = outAt (insOf A B C D x2 x3 x4 x5) (k.val - 1) := by
  dsimp only [r_20, k0_pay494]
  rw [lst_v388 (h5 := h5) (h6 := h6) hp, lst_v396 (h5 := h5) (h6 := h6) hp, lst_v404 (h5 := h5) (h6 := h6) hp, lst_v412 (h5 := h5) (h6 := h6) hp]
  all_goals rfl
/-- The output's window after the trip. -/
theorem lst_out {h1 : ¬ k0_cond1 k = 1#1} {h3 : ¬ k0_cond3 k = 1#1} (ho : OutOk E (insOf A B C D x2 x3 x4 x5) f6 (k.val - 1)) : OutOk E (insOf A B C D x2 x3 x4 x5) ((tripLast (F := F) Y c bd i A hA B hB C hC D hD E hE G hG H hH I hI J hJ K hK L hL k h1 h3 h5 h6 x2 x3 x4 x5).1 f6 f7 f8 f9 f10 f11) (k.val - 1 + 1 + 1) := by
  unfold tripLast
  dsimp only
  exact OutOk.succ (OutOk.succ (L := []) ho (lst_off76 k h5) _ _ (lst_row (h5 := h5) (h6 := h6) hp)) (lst_off121 k h5 h6) _ _ ((lst_row7 (h5 := h5) (h6 := h6) hp).trans (congrArg (outAt (insOf A B C D x2 x3 x4 x5)) (lst_k k h5).symm))

end

end Cert.Flash
-- ==== Proof.FlashLoop.lean ====
module

public import proofs.«01_k».proof.Proof.FlashAfterFirst
public import proofs.«01_k».proof.Proof.FlashAfterEven
public import proofs.«01_k».proof.Proof.FlashAfterOdd
public import proofs.«01_k».proof.Proof.FlashAfterLast

@[expose] public section

set_option maxRecDepth 8192
set_option maxHeartbeats 200000

/-! The loop over the query tiles: what is known before each trip, and that every trip keeps it. -/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (arg6 : Memref sig .tc .vmem S4096x256 .bf16) (arg8 : Memref sig .tc .vmem S2x2x4x512x512 .bf16)
  (arg9 : Memref sig .tc .vmem S2x4x1x512 .f32) (arg10 : Memref sig .tc .vmem S2x2x4x1x512 .f32)
  (arg11 : Memref sig .tc .vmem S2x4x128x512 .f32)

/-- What is known before trip `n`: the tiles stored so far, and the state of the tile begun last. -/
structure Good (x : Ins F) (n : ℕ) (f6 : BufTy.Contents (Elt F) arg6.view.ty) (f8 : BufTy.Contents (Elt F) arg8.view.ty)
    (f9 : BufTy.Contents (Elt F) arg9.view.ty) (f10 : BufTy.Contents (Elt F) arg10.view.ty)
    (f11 : BufTy.Contents (Elt F) arg11.view.ty) : Prop where
  out : 0 < n → OutOk arg6 x f6 (n - 1)
  pend : ∀ {b : Fin 2}, 0 < n → n < 8 → b.val = (n - 1) % 2 → Pend arg8 arg9 arg10 arg11 x f8 f9 f10 f11 b b (n - 1) (n - 1)
  all : n = 8 → OutOk arg6 x f6 8
end

section
variable {arg6 : Memref sig .tc .vmem S4096x256 .bf16} {arg8 : Memref sig .tc .vmem S2x2x4x512x512 .bf16}
  {arg9 : Memref sig .tc .vmem S2x4x1x512 .f32} {arg10 : Memref sig .tc .vmem S2x2x4x1x512 .f32}
  {arg11 : Memref sig .tc .vmem S2x4x128x512 .f32} {x : Ins F} {n : ℕ} {f6 : BufTy.Contents (Elt F) arg6.view.ty}
  {f8 : BufTy.Contents (Elt F) arg8.view.ty} {f9 : BufTy.Contents (Elt F) arg9.view.ty}
  {f10 : BufTy.Contents (Elt F) arg10.view.ty} {f11 : BufTy.Contents (Elt F) arg11.view.ty}

/-- Nothing is known before the first trip, and nothing need be. -/
theorem good_zero : Good arg6 arg8 arg9 arg10 arg11 x 0 f6 f8 f9 f10 f11 where
  out h := absurd h (Nat.lt_irrefl 0)
  pend h := absurd h (Nat.lt_irrefl 0)
  all h := absurd h (by decide)

/-- After the first trip. -/
theorem good_first (hk : n = 0) (hp : Pend arg8 arg9 arg10 arg11 x f8 f9 f10 f11 0 0 n 0) :
    Good arg6 arg8 arg9 arg10 arg11 x (n + 1) f6 f8 f9 f10 f11 where
  out h := fun j hj => absurd hj (by omega)
  pend {b} h h' hb := by
    subst hk
    obtain rfl : b = 0 := Fin.ext hb
    exact hp
  all h := absurd h (by omega)

/-- After a trip in the middle. -/
theorem good_next {b : Fin 2} {n' : ℕ} (h0 : 0 < n) (h7 : n < 7)
    (hp : Pend arg8 arg9 arg10 arg11 x f8 f9 f10 f11 b b n n')
    (ho : OutOk arg6 x f6 (n - 1 + 1)) (hb : b.val = n % 2) (hn : n' = n) :
    Good arg6 arg8 arg9 arg10 arg11 x (n + 1) f6 f8 f9 f10 f11 where
  out h := by rw [show n + 1 - 1 = n - 1 + 1 by omega]; exact ho
  pend {b'} h h' hb' := by
    obtain rfl : b' = b := Fin.ext (hb'.trans hb.symm)
    subst hn
    exact hp
  all h := absurd h (by omega)

/-- After the last trip. -/
theorem good_last (hk : n = 7) (ho : OutOk arg6 x f6 (n - 1 + 1 + 1)) :
    Good arg6 arg8 arg9 arg10 arg11 x (n + 1) f6 f8 f9 f10 f11 where
  out h := fun j hj => by subst hk; exact ho j (by omega)
  pend {b} h h' hb := absurd h' (by omega)
  all h := by subst hk; exact ho
end

/-- The buffers with some contents the loop's fact holds of. -/
def Left (c : Dev nD) (arg2 : Memref sig .tc .vmem S1x4x8x128x512 .bf16) (arg3 : Memref sig .tc .vmem S4096x512 .bf16) (arg4 : Memref sig .tc .vmem S1x4x8x128x512 .bf16) (arg5 : Memref sig .tc .vmem S2x512x512 .f32) (arg6 : Memref sig .tc .vmem S4096x256 .bf16) (arg7 : Memref sig .tc .vmem S4x128x512 .bf16) (arg8 : Memref sig .tc .vmem S2x2x4x512x512 .bf16) (arg9 : Memref sig .tc .vmem S2x4x1x512 .f32) (arg10 : Memref sig .tc .vmem S2x2x4x1x512 .f32) (arg11 : Memref sig .tc .vmem S2x4x128x512 .f32)
    (x2 : BufTy.Contents (Elt F) arg2.view.ty) (x3 : BufTy.Contents (Elt F) arg3.view.ty) (x4 : BufTy.Contents (Elt F) arg4.view.ty) (x5 : BufTy.Contents (Elt F) arg5.view.ty) (n : ℕ) : sProp 𝕄 :=
  iprop(∃ f6 : BufTy.Contents (Elt F) arg6.view.ty, ∃ f7 : BufTy.Contents (Elt F) arg7.view.ty, ∃ f8 : BufTy.Contents (Elt F) arg8.view.ty, ∃ f9 : BufTy.Contents (Elt F) arg9.view.ty, ∃ f10 : BufTy.Contents (Elt F) arg10.view.ty, ∃ f11 : BufTy.Contents (Elt F) arg11.view.ty, Held (F := F) c arg2 arg3 arg4 arg5 arg6 arg7 arg8 arg9 arg10 arg11 x2 x3 x4 x5 f6 f7 f8 f9 f10 f11 ∗ ⌜Good arg6 arg8 arg9 arg10 arg11 (insOf arg2 arg3 arg4 arg5 x2 x3 x4 x5) n f6 f8 f9 f10 f11⌝)

section
variable {𝒱 : Variants} {c : Dev nD} {bd : Option 𝒱.V} {i : grid0.Coords} {arg2 : Memref sig .tc .vmem S1x4x8x128x512 .bf16} {arg3 : Memref sig .tc .vmem S4096x512 .bf16} {arg4 : Memref sig .tc .vmem S1x4x8x128x512 .bf16} {arg5 : Memref sig .tc .vmem S2x512x512 .f32} {arg6 : Memref sig .tc .vmem S4096x256 .bf16} {arg7 : Memref sig .tc .vmem S4x128x512 .bf16} {arg8 : Memref sig .tc .vmem S2x2x4x512x512 .bf16} {arg9 : Memref sig .tc .vmem S2x4x1x512 .f32} {arg10 : Memref sig .tc .vmem S2x2x4x1x512 .f32} {arg11 : Memref sig .tc .vmem S2x4x128x512 .f32} {arg12 : Memref sig .tc .vmem S2x8x512 .f32} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole}
  {k : Fin k0_t1_loop.trips} {x2 : BufTy.Contents (Elt F) arg2.view.ty} {x3 : BufTy.Contents (Elt F) arg3.view.ty} {x4 : BufTy.Contents (Elt F) arg4.view.ty} {x5 : BufTy.Contents (Elt F) arg5.view.ty}

/-- First trips keep the loop's fact. -/
theorem trip_fst (h1 : k0_cond1 k = 1#1) (h2 : ¬ k0_cond2 k = 1#1) (h3 : ¬ k0_cond3 k = 1#1) (h5 : ¬ k0_cond5 k = 1#1) (hk : k.val = 0) (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)
    (g : Good arg6 arg8 arg9 arg10 arg11 (insOf arg2 arg3 arg4 arg5 x2 x3 x4 x5) k.val f6 f8 f9 f10 f11) :
    Held (F := F) c arg2 arg3 arg4 arg5 arg6 arg7 arg8 arg9 arg10 arg11 x2 x3 x4 x5 f6 f7 f8 f9 f10 f11 ⊢ wp frame (wpE (defs₀ (F := F)) 𝒱 (c : Thread nD τ) bd) E
      (k0_t1_body (F := F) i arg2 harg2 arg3 harg3 arg4 harg4 arg5 harg5 arg6 harg6 arg7 harg7 arg8 harg8 arg9 harg9 arg10 harg10 arg11 harg11 arg12 harg12 k PUnit.unit) (fun _ => Left (F := F) c arg2 arg3 arg4 arg5 arg6 arg7 arg8 arg9 arg10 arg11 x2 x3 x4 x5 (k.val + 1)) := by
  iintro H
  iapply (wp_wand_r Idealize.ShloMosaic.frame (wpE (defs₀ (F := F)) 𝒱 (c : Thread nD τ) bd) E)
  isplitl [H]
  · iapply ((tripFirst (F := F) 𝒱 c bd i arg2 harg2 arg3 harg3 arg4 harg4 arg5 harg5 arg6 harg6 arg7 harg7 arg8 harg8 arg9 harg9 arg10 harg10 arg11 harg11 arg12 harg12 k h1 h2 h3 h5 x2 x3 x4 x5).2.2.2.2.2 E f6 f7 f8 f9 f10 f11)
    iexact H
  iintro %_ H
  unfold Left
  iexists _; iexists _; iexists _; iexists _; iexists _; iexists _
  isplitl [H]
  · iexact H
  ipureintro
  exact good_first hk (fst_pend (h1 := h1) (x2 := x2) (x3 := x3) (x4 := x4) (x5 := x5) (A := arg2) (B := arg3) (C := arg4) (D := arg5))

/-- Even trips keep the loop's fact. -/
theorem trip_evn (h1 : ¬ k0_cond1 k = 1#1) (h3 : k0_cond3 k = 1#1) (h4 : ¬ k0_cond4 k = 1#1) (h5 : ¬ k0_cond5 k = 1#1) (hk : 0 < k.val ∧ k.val < 7 ∧ k.val % 2 = 0) (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)
    (g : Good arg6 arg8 arg9 arg10 arg11 (insOf arg2 arg3 arg4 arg5 x2 x3 x4 x5) k.val f6 f8 f9 f10 f11) :
    Held (F := F) c arg2 arg3 arg4 arg5 arg6 arg7 arg8 arg9 arg10 arg11 x2 x3 x4 x5 f6 f7 f8 f9 f10 f11 ⊢ wp frame (wpE (defs₀ (F := F)) 𝒱 (c : Thread nD τ) bd) E
      (k0_t1_body (F := F) i arg2 harg2 arg3 harg3 arg4 harg4 arg5 harg5 arg6 harg6 arg7 harg7 arg8 harg8 arg9 harg9 arg10 harg10 arg11 harg11 arg12 harg12 k PUnit.unit) (fun _ => Left (F := F) c arg2 arg3 arg4 arg5 arg6 arg7 arg8 arg9 arg10 arg11 x2 x3 x4 x5 (k.val + 1)) := by
  iintro H
  iapply (wp_wand_r Idealize.ShloMosaic.frame (wpE (defs₀ (F := F)) 𝒱 (c : Thread nD τ) bd) E)
  isplitl [H]
  · iapply ((tripEven (F := F) 𝒱 c bd i arg2 harg2 arg3 harg3 arg4 harg4 arg5 harg5 arg6 harg6 arg7 harg7 arg8 harg8 arg9 harg9 arg10 harg10 arg11 harg11 arg12 harg12 k h1 h3 h4 h5 x2 x3 x4 x5).2.2.2.2.2.2 E f6 f7 f8 f9 f10 f11)
    iexact H
  iintro %_ H
  unfold Left
  iexists _; iexists _; iexists _; iexists _; iexists _; iexists _
  isplitl [H]
  · iexact H
  ipureintro
  have hp := g.pend (b := 1) (by omega) (by omega) (by show (1 : ℕ) = _; omega)
  have ho := g.out (by omega)
  exact good_next (b := 0) (by omega) (by omega) (evn_pend (h3 := h3) hp) (evn_out (h3 := h3) hp ho) (by show (0 : ℕ) = _; omega) (by omega)

/-- Odd trips keep the loop's fact. -/
theorem trip_odd (h1 : ¬ k0_cond1 k = 1#1) (h3 : ¬ k0_cond3 k = 1#1) (h5 : k0_cond5 k = 1#1) (h6 : ¬ k0_cond6 k = 1#1) (hk : 0 < k.val ∧ k.val < 7 ∧ k.val % 2 = 1) (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)
    (g : Good arg6 arg8 arg9 arg10 arg11 (insOf arg2 arg3 arg4 arg5 x2 x3 x4 x5) k.val f6 f8 f9 f10 f11) :
    Held (F := F) c arg2 arg3 arg4 arg5 arg6 arg7 arg8 arg9 arg10 arg11 x2 x3 x4 x5 f6 f7 f8 f9 f10 f11 ⊢ wp frame (wpE (defs₀ (F := F)) 𝒱 (c : Thread nD τ) bd) E
      (k0_t1_body (F := F) i arg2 harg2 arg3 harg3 arg4 harg4 arg5 harg5 arg6 harg6 arg7 harg7 arg8 harg8 arg9 harg9 arg10 harg10 arg11 harg11 arg12 harg12 k PUnit.unit) (fun _ => Left (F := F) c arg2 arg3 arg4 arg5 arg6 arg7 arg8 arg9 arg10 arg11 x2 x3 x4 x5 (k.val + 1)) := by
  iintro H
  iapply (wp_wand_r Idealize.ShloMosaic.frame (wpE (defs₀ (F := F)) 𝒱 (c : Thread nD τ) bd) E)
  isplitl [H]
  · iapply ((tripOdd (F := F) 𝒱 c bd i arg2 harg2 arg3 harg3 arg4 harg4 arg5 harg5 arg6 harg6 arg7 harg7 arg8 harg8 arg9 harg9 arg10 harg10 arg11 harg11 arg12 harg12 k h1 h3 h5 h6 x2 x3 x4 x5).2.2.2.2.2.2 E f6 f7 f8 f9 f10 f11)
    iexact H
  iintro %_ H
  unfold Left
  iexists _; iexists _; iexists _; iexists _; iexists _; iexists _
  isplitl [H]
  · iexact H
  ipureintro
  have hp := g.pend (b := 0) (by omega) (by omega) (by show (0 : ℕ) = _; omega)
  have ho := g.out (by omega)
  exact good_next (b := 1) (by omega) (by omega) (odd_pend (h5 := h5) hp) (odd_out (h5 := h5) hp ho) (by show (1 : ℕ) = _; omega) (by omega)

/-- Last trips keep the loop's fact. -/
theorem trip_lst (h1 : ¬ k0_cond1 k = 1#1) (h3 : ¬ k0_cond3 k = 1#1) (h5 : k0_cond5 k = 1#1) (h6 : k0_cond6 k = 1#1) (hk : k.val = 7) (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)
    (g : Good arg6 arg8 arg9 arg10 arg11 (insOf arg2 arg3 arg4 arg5 x2 x3 x4 x5) k.val f6 f8 f9 f10 f11) :
    Held (F := F) c arg2 arg3 arg4 arg5 arg6 arg7 arg8 arg9 arg10 arg11 x2 x3 x4 x5 f6 f7 f8 f9 f10 f11 ⊢ wp frame (wpE (defs₀ (F := F)) 𝒱 (c : Thread nD τ) bd) E
      (k0_t1_body (F := F) i arg2 harg2 arg3 harg3 arg4 harg4 arg5 harg5 arg6 harg6 arg7 harg7 arg8 harg8 arg9 harg9 arg10 harg10 arg11 harg11 arg12 harg12 k PUnit.unit) (fun _ => Left (F := F) c arg2 arg3 arg4 arg5 arg6 arg7 arg8 arg9 arg10 arg11 x2 x3 x4 x5 (k.val + 1)) := by
  iintro H
  iapply (wp_wand_r Idealize.ShloMosaic.frame (wpE (defs₀ (F := F)) 𝒱 (c : Thread nD τ) bd) E)
  isplitl [H]
  · iapply ((tripLast (F := F) 𝒱 c bd i arg2 harg2 arg3 harg3 arg4 harg4 arg5 harg5 arg6 harg6 arg7 harg7 arg8 harg8 arg9 harg9 arg10 harg10 arg11 harg11 arg12 harg12 k h1 h3 h5 h6 x2 x3 x4 x5).2.2.2.2.2.2 E f6 f7 f8 f9 f10 f11)
    iexact H
  iintro %_ H
  unfold Left
  iexists _; iexists _; iexists _; iexists _; iexists _; iexists _
  isplitl [H]
  · iexact H
  ipureintro
  have hp := g.pend (b := 0) (by omega) (by omega) (by show (0 : ℕ) = _; omega)
  have ho := g.out (by omega)
  exact good_last hk (lst_out (h5 := h5) (h6 := h6) hp ho)
end

/-- Every trip is of one of four kinds. -/
theorem kinds : ∀ k : Fin k0_t1_loop.trips,
    (k.val = 0 ∧ k0_cond1 k = 1#1 ∧ ¬ k0_cond2 k = 1#1 ∧ ¬ k0_cond3 k = 1#1 ∧ ¬ k0_cond5 k = 1#1) ∨
    ((0 < k.val ∧ k.val < 7 ∧ k.val % 2 = 0) ∧ ¬ k0_cond1 k = 1#1 ∧ k0_cond3 k = 1#1 ∧ ¬ k0_cond4 k = 1#1 ∧ ¬ k0_cond5 k = 1#1) ∨
    ((0 < k.val ∧ k.val < 7 ∧ k.val % 2 = 1) ∧ ¬ k0_cond1 k = 1#1 ∧ ¬ k0_cond3 k = 1#1 ∧ k0_cond5 k = 1#1 ∧ ¬ k0_cond6 k = 1#1) ∨
    (k.val = 7 ∧ ¬ k0_cond1 k = 1#1 ∧ ¬ k0_cond3 k = 1#1 ∧ k0_cond5 k = 1#1 ∧ k0_cond6 k = 1#1) := by
  decide +kernel

section
variable (𝒱 : Variants) (c : Dev nD) (bd : Option 𝒱.V) (i : grid0.Coords) (arg2 : Memref sig .tc .vmem S1x4x8x128x512 .bf16) (harg2 : arg2.IsWhole) (arg3 : Memref sig .tc .vmem S4096x512 .bf16) (harg3 : arg3.IsWhole) (arg4 : Memref sig .tc .vmem S1x4x8x128x512 .bf16) (harg4 : arg4.IsWhole) (arg5 : Memref sig .tc .vmem S2x512x512 .f32) (harg5 : arg5.IsWhole) (arg6 : Memref sig .tc .vmem S4096x256 .bf16) (harg6 : arg6.IsWhole) (arg7 : Memref sig .tc .vmem S4x128x512 .bf16) (harg7 : arg7.IsWhole) (arg8 : Memref sig .tc .vmem S2x2x4x512x512 .bf16) (harg8 : arg8.IsWhole) (arg9 : Memref sig .tc .vmem S2x4x1x512 .f32) (harg9 : arg9.IsWhole) (arg10 : Memref sig .tc .vmem S2x2x4x1x512 .f32) (harg10 : arg10.IsWhole) (arg11 : Memref sig .tc .vmem S2x4x128x512 .f32) (harg11 : arg11.IsWhole) (arg12 : Memref sig .tc .vmem S2x8x512 .f32) (harg12 : arg12.IsWhole)
  (x2 : BufTy.Contents (Elt F) arg2.view.ty) (x3 : BufTy.Contents (Elt F) arg3.view.ty) (x4 : BufTy.Contents (Elt F) arg4.view.ty) (x5 : BufTy.Contents (Elt F) arg5.view.ty)

/-- Every trip keeps the loop's fact. -/
theorem trip_any (k : Fin k0_t1_loop.trips) (E : Set ℕ) :
    Left (F := F) c arg2 arg3 arg4 arg5 arg6 arg7 arg8 arg9 arg10 arg11 x2 x3 x4 x5 k.val ⊢ wp frame (wpE (defs₀ (F := F)) 𝒱 (c : Thread nD τ) bd) E
      (k0_t1_body (F := F) i arg2 harg2 arg3 harg3 arg4 harg4 arg5 harg5 arg6 harg6 arg7 harg7 arg8 harg8 arg9 harg9 arg10 harg10 arg11 harg11 arg12 harg12 k PUnit.unit) (fun _ => Left (F := F) c arg2 arg3 arg4 arg5 arg6 arg7 arg8 arg9 arg10 arg11 x2 x3 x4 x5 (k.val + 1)) := by
  iintro H
  unfold Left
  icases H with ⟨%f6, %f7, %f8, %f9, %f10, %f11, H, %g⟩
  rcases kinds k with ⟨hk, h1, h2, h3, h5⟩ | ⟨hk, h1, h3, h4, h5⟩ | ⟨hk, h1, h3, h5, h6⟩ | ⟨hk, h1, h3, h5, h6⟩
  · iapply (trip_fst h1 h2 h3 h5 hk E _ _ _ _ _ _ g); iexact H
  · iapply (trip_evn h1 h3 h4 h5 hk E _ _ _ _ _ _ g); iexact H
  · iapply (trip_odd h1 h3 h5 h6 hk E _ _ _ _ _ _ g); iexact H
  · iapply (trip_lst h1 h3 h5 h6 hk E _ _ _ _ _ _ g); iexact H

set_option warn.classDefReducibility false in
/-- The loop over the query tiles keeps its fact. -/
@[sl_loop] def loopInv_k0_t1 (E : Set ℕ) : LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 where
  inv k _ := Left (F := F) c arg2 arg3 arg4 arg5 arg6 arg7 arg8 arg9 arg10 arg11 x2 x3 x4 x5 k
  step k _ := trip_any 𝒱 c bd i arg2 harg2 arg3 harg3 arg4 harg4 arg5 harg5 arg6 harg6 arg7 harg7 arg8 harg8 arg9 harg9 arg10 harg10 arg11 harg11 arg12 harg12 x2 x3 x4 x5 k E
end

/-- A place of the output's block within its tile. -/
def inTile (p : S4096x256.Idx) : S512x256.Idx :=
  fun a => ⟨(p a).val % S512x256.size a, Nat.mod_lt _ (by revert a; decide)⟩

/-- The output's block of a grid step. -/
def outBlk (x : Ins F) : Vec F S4096x256 .bf16 := fun p =>
  outAt x ((p 0).val / 512) (inTile p)

/-- Eight tiles stored are the whole block. -/
theorem OutOk.read {arg6 : Memref sig .tc .vmem S4096x256 .bf16} {x : Ins F} {f : BufTy.Contents (Elt F) arg6.view.ty}
    (h : OutOk arg6 x f 8) : arg6.view.read (Elt F) f = outBlk x := by
  funext p
  have hp0 : (p 0).val < 4096 := (p 0).isLt
  have hp1 : (p 1).val < 256 := (p 1).isLt
  have e := congrFun (h ⟨(p 0).val / 512, by omega⟩ (show (p 0).val / 512 < 8 by omega))
    (inTile p)
  refine Eq.trans ?_ e
  refine congrArg (arg6.view.read (Elt F) f) (funext fun a => Fin.ext ?_)
  match a with
  | ⟨0, _⟩ => show (p 0).val = 512 * ((p 0).val / 512) + 1 * ((p 0).val % 512); omega
  | ⟨1, _⟩ => show (p 1).val = 0 + 1 * ((p 1).val % 256); omega

end Cert.Flash
-- ==== Proof.FlashRun.lean ====
module

public import proofs.«01_k».proof.Proof.FlashLoop
public import Idealize.ShloMosaic.Lib.Quiescent
public import Idealize.ShloMosaic.Lib.Claim

@[expose] public section

set_option maxRecDepth 16384
set_option maxHeartbeats 200000

/-! The run of the flash kernel's launch: its body, its proof data and its frame. -/

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The inputs of a grid step as parts of its four blocks. -/
def insB (b2 : Vec F S1x4x8x128x512 .bf16) (b3 : Vec F S4096x512 .bf16) (b4 : Vec F S1x4x8x128x512 .bf16) (b5 : Vec F S2x512x512 .f32) : Ins F where
  q h j := fun p => b2 ((Rect.unit (s := S1x4x8x128x512) ![0, h.val, (m8 j).val, 0, 0] S1x1x1x128x512.size (inb2 h (m8 j))).toLoadRect.idx p)
  k h j := fun p => b3 ((Rect.unit (s := S4096x512) ![512 * (m8 j).val, 128 * h.val] S512x128.size (inb3 h (m8 j))).toLoadRect.idx p)
  kTop h j := fun p => b3 ((Rect.unit (s := S4096x512) ![512 * (m8 j).val, 128 * h.val] S256x128.size (inb3t h (m8 j))).toLoadRect.idx p)
  kBot h j := fun p => b3 ((Rect.unit (s := S4096x512) ![512 * (m8 j).val + 256, 128 * h.val] S256x128.size (inb3b h (m8 j))).toLoadRect.idx p)
  v h j := fun p => b4 ((Rect.unit (s := S1x4x8x128x512) ![0, h.val, (m8 j).val, 0, 0] S1x1x1x128x512.size (inb2 h (m8 j))).toLoadRect.idx p)
  bTop := fun p => b5 ((Rect.unit (s := S2x512x512) ![0, 0, 0] S1x256x512.size inb5t).toLoadRect.idx p)
  bBot := fun p => b5 ((Rect.unit (s := S2x512x512) ![0, 256, 256] S1x256x256.size inb5b).toLoadRect.idx p)

/-- What a grid step reads out of its windows is part of the blocks they hold. -/
theorem insOf_read {arg2 : Memref sig .tc .vmem S1x4x8x128x512 .bf16} {arg3 : Memref sig .tc .vmem S4096x512 .bf16} {arg4 : Memref sig .tc .vmem S1x4x8x128x512 .bf16} {arg5 : Memref sig .tc .vmem S2x512x512 .f32} (x2 : BufTy.Contents (Elt F) arg2.view.ty) (x3 : BufTy.Contents (Elt F) arg3.view.ty) (x4 : BufTy.Contents (Elt F) arg4.view.ty) (x5 : BufTy.Contents (Elt F) arg5.view.ty) :
    (insOf arg2 arg3 arg4 arg5 x2 x3 x4 x5) = insB (arg2.view.read (Elt F) x2) (arg3.view.read (Elt F) x3) (arg4.view.read (Elt F) x4) (arg5.view.read (Elt F) x5) := rfl

/-- The body of a grid step: over the inputs' blocks it leaves the output's, and any contents in its scratch. -/
theorem sound_kernel (c : Dev nD) (E : Set ℕ) (i : grid0.Coords) (arg2 : Memref sig .tc .vmem S1x4x8x128x512 .bf16) (harg2 : arg2.IsWhole) (arg3 : Memref sig .tc .vmem S4096x512 .bf16) (harg3 : arg3.IsWhole) (arg4 : Memref sig .tc .vmem S1x4x8x128x512 .bf16) (harg4 : arg4.IsWhole) (arg5 : Memref sig .tc .vmem S2x512x512 .f32) (harg5 : arg5.IsWhole) (arg6 : Memref sig .tc .vmem S4096x256 .bf16) (harg6 : arg6.IsWhole) (arg7 : Memref sig .tc .vmem S4x128x512 .bf16) (harg7 : arg7.IsWhole) (arg8 : Memref sig .tc .vmem S2x2x4x512x512 .bf16) (harg8 : arg8.IsWhole) (arg9 : Memref sig .tc .vmem S2x4x1x512 .f32) (harg9 : arg9.IsWhole) (arg10 : Memref sig .tc .vmem S2x2x4x1x512 .f32) (harg10 : arg10.IsWhole) (arg11 : Memref sig .tc .vmem S2x4x128x512 .f32) (harg11 : arg11.IsWhole) (arg12 : Memref sig .tc .vmem S2x8x512 .f32) (harg12 : arg12.IsWhole)
    (b2 : Vec F S1x4x8x128x512 .bf16) (b3 : Vec F S4096x512 .bf16) (b4 : Vec F S1x4x8x128x512 .bf16) (b5 : Vec F S2x512x512 .f32) (K : PUnit → sProp 𝕄) :
    iprop(owns (c : Thread nD τ) arg2 fullShare b2 ∗ owns (c : Thread nD τ) arg3 fullShare b3 ∗ owns (c : Thread nD τ) arg4 fullShare b4 ∗ owns (c : Thread nD τ) arg5 fullShare b5
      ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg2 fullShare b2 ∗ owns (c : Thread nD τ) arg3 fullShare b3 ∗ owns (c : Thread nD τ) arg4 fullShare b4 ∗ owns (c : Thread nD τ) arg5 fullShare b5
        ∗ owns (c : Thread nD τ) arg6 fullShare (outBlk (insB b2 b3 b4 b5))
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_flash_mla (F := F) i arg2 harg2 arg3 harg3 arg4 harg4 arg5 harg5 arg6 harg6 arg7 harg7 arg8 harg8 arg9 harg9 arg10 harg10 arg11 harg11 arg12 harg12) K := by
  simp only [cc0_flash_mla_eq_skeleton]; unfold cc0_flash_mla_skel
  unfold owns
  iintro ⟨⟨%x2, %hx2, H2⟩, ⟨%x3, %hx3, H3⟩, ⟨%x4, %hx4, H4⟩, ⟨%x5, %hx5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, H12, Hk⟩
  subst hx2 hx3 hx4 hx5
  rw [wp_bind]
  iapply (Scf.wp_for frame (wpE (defs₀ (F := F)) Variants.none (c : Thread nD τ) none) E k0_t1_loop.lb k0_t1_loop.ub k0_t1_loop.st
    k0_t1_ok () (k0_t1_body (F := F) i arg2 harg2 arg3 harg3 arg4 harg4 arg5 harg5 arg6 harg6 arg7 harg7 arg8 harg8 arg9 harg9 arg10 harg10 arg11 harg11 arg12 harg12) (fun n _ => Left (F := F) c arg2 arg3 arg4 arg5 arg6 arg7 arg8 arg9 arg10 arg11 x2 x3 x4 x5 n)
    (fun k _ => trip_any Variants.none c none i arg2 harg2 arg3 harg3 arg4 harg4 arg5 harg5 arg6 harg6 arg7 harg7 arg8 harg8 arg9 harg9 arg10 harg10 arg11 harg11 arg12 harg12 x2 x3 x4 x5 k E))
  isplitl [H2 H3 H4 H5 H6 H7 H8 H9 H10 H11]
  · unfold Left
    iexists f6; iexists f7; iexists f8; iexists f9; iexists f10; iexists f11
    isplitl [H2 H3 H4 H5 H6 H7 H8 H9 H10 H11]
    · unfold Held
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · ipureintro; exact good_zero
  iintro %_ H
  unfold Left Held
  icases H with ⟨%g6, %g7, %g8, %g9, %g10, %g11, ⟨H2, H3, H4, H5, H6, H7, H8, H9, H10, H11⟩, %g⟩
  sl_step
  iapply Hk
  isplitl [H2]
  · iexists x2; isplitr; · ipureintro; rfl
    iexact H2
  isplitl [H3]
  · iexists x3; isplitr; · ipureintro; rfl
    iexact H3
  isplitl [H4]
  · iexists x4; isplitr; · ipureintro; rfl
    iexact H4
  isplitl [H5]
  · iexists x5; isplitr; · ipureintro; rfl
    iexact H5
  isplitl [H6]
  · iexists g6; isplitr
    · ipureintro; exact (g.all rfl).read
    iexact H6
  isplitl [H7]
  · iexists _; iexists g7; isplitr; · ipureintro; rfl
    iexact H7
  isplitl [H8]
  · iexists _; iexists g8; isplitr; · ipureintro; rfl
    iexact H8
  isplitl [H9]
  · iexists _; iexists g9; isplitr; · ipureintro; rfl
    iexact H9
  isplitl [H10]
  · iexists _; iexists g10; isplitr; · ipureintro; rfl
    iexact H10
  isplitl [H11]
  · iexists _; iexists g11; isplitr; · ipureintro; rfl
    iexact H11
  iexact H12

variable (m : (ℓ : Loc nD τ sig) → Buf (Elt F) ℓ) (ρ : Dev nD → PrngReg)

/-- The inputs of grid step `t`. -/
def insAt (c : Dev nD) (t : Fin cfg0.N) : Ins F := insB (iblk m c 0 t) (iblk m c 1 t) (iblk m c 2 t) (iblk m c 3 t)

/-- The launch's proof data: an input's block stays, the output's becomes what the tiles' model says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (insAt m c t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = outBlk (insAt m c t) := by dsimp only [dats]

/-- A scratch buffer at some contents is its memref at some contents. -/
theorem scr_eq (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) :=
  ((Memref.isWhole_whole b).exists_owns_eq (c := (c : Thread nD τ)) fullShare).symm

/-- What the body at point `t` takes, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, show (dats m 0 c).Φ t.castSucc = Pipeline.ΦA spec0 c from rfl]
  unfold Pipeline.ΦA
  rw [scopedRest0_eq, scr_eq, scr_eq, scr_eq, scr_eq, scr_eq, scr_eq]
  iintro ⟨⟨⟨S0, S1, S2, S3, S4, S5⟩, Hp⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hp]
  · isplitr [Hp]
    · isplitl [S0]; · iexact S0
      isplitl [S1]; · iexact S1
      isplitl [S2]; · iexact S2
      isplitl [S3]; · iexact S3
      isplitl [S4]; · iexact S4
      iexact S5
    · iexact Hp
  isplitl [Ho]; · iexact Ho
  isplitl [H0]; · iexact H0
  isplitl [H1]; · iexact H1
  isplitl [H2]; · iexact H2
  isplitl [H3]; · iexact H3
  iexact H4

/-- The body table's row at a point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends as the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter is at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Flash
-- ==== Proof.FlashIns.lean ====
/-
  What a grid step of the flash kernel reads, entry by entry, out of its blocks.
-/
module

public import proofs.«01_k».proof.Proof.FlashRun
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.FlashIns

open Cert.KernelIdeal Cert.KernelIdeal.Gen Cert.Flash

variable (b2 : Vec Ideal S1x4x8x128x512 .bf16) (b3 : Vec Ideal S4096x512 .bf16) (b4 : Vec Ideal S1x4x8x128x512 .bf16) (b5 : Vec Ideal S2x512x512 .f32)
  (h : Fin 4) (n : ℕ) (hn : n < 8)
include hn

theorem m8_eq : m8 n = ⟨n, hn⟩ := Fin.ext (Nat.mod_eq_of_lt hn)

theorem q_at (i : Fin 128) (r : Fin 512) : (insB b2 b3 b4 b5).q h n (ix5 0 0 0 i r) = b2 (ix5 0 h ⟨n, hn⟩ i r) := by
  rw [← m8_eq n hn]
  refine congrArg b2 ?_
  blk_ext
  · show h.val + 1 * 0 = _; omega
  · show (m8 n).val + 1 * 0 = _; omega
  · show 0 + 1 * i.val = _; omega
  · show 0 + 1 * r.val = _; omega

theorem v_at (i : Fin 128) (r : Fin 512) : (insB b2 b3 b4 b5).v h n (ix5 0 0 0 i r) = b4 (ix5 0 h ⟨n, hn⟩ i r) := by
  rw [← m8_eq n hn]
  refine congrArg b4 ?_
  blk_ext
  · show h.val + 1 * 0 = _; omega
  · show (m8 n).val + 1 * 0 = _; omega
  · show 0 + 1 * i.val = _; omega
  · show 0 + 1 * r.val = _; omega

theorem k_at (j : Fin 512) (i : Fin 128) : (insB b2 b3 b4 b5).k h n (ix2 j i) = b3 (ix2 ⟨n * 512 + j, by omega⟩ ⟨h * 128 + i, by omega⟩) := by
  have e : (m8 n).val = n := by rw [m8_eq n hn]
  refine congrArg b3 ?_
  blk_ext [e]
  · show 512 * (m8 n).val + 1 * j.val = _; omega
  · show 128 * h.val + 1 * i.val = _; omega

theorem kTop_at (j : Fin 256) (i : Fin 128) : (insB b2 b3 b4 b5).kTop h n (ix2 j i) = b3 (ix2 ⟨n * 512 + j, by omega⟩ ⟨h * 128 + i, by omega⟩) := by
  have e : (m8 n).val = n := by rw [m8_eq n hn]
  refine congrArg b3 ?_
  blk_ext [e]
  · show 512 * (m8 n).val + 1 * j.val = _; omega
  · show 128 * h.val + 1 * i.val = _; omega

theorem kBot_at (j : Fin 256) (i : Fin 128) : (insB b2 b3 b4 b5).kBot h n (ix2 j i) = b3 (ix2 ⟨n * 512 + (256 + j), by omega⟩ ⟨h * 128 + i, by omega⟩) := by
  have e : (m8 n).val = n := by rw [m8_eq n hn]
  refine congrArg b3 ?_
  blk_ext [e]
  · show 512 * (m8 n).val + 256 + 1 * j.val = _; omega
  · show 128 * h.val + 1 * i.val = _; omega

omit hn
theorem bTop_at (j : Fin 256) (r : Fin 512) : (insB b2 b3 b4 b5).bTop (ix3 0 j r) = b5 (ix3 0 ⟨j, by omega⟩ r) := by
  refine congrArg b5 ?_
  blk_ext
  · show 0 + 1 * 0 = 0; rfl
  · show 0 + 1 * j.val = _; omega
  · show 0 + 1 * r.val = _; omega

theorem bBot_at (j r : Fin 256) : (insB b2 b3 b4 b5).bBot (ix3 0 j r) = b5 (ix3 0 ⟨256 + j, by omega⟩ ⟨256 + r, by omega⟩) := by
  refine congrArg b5 ?_
  blk_ext
  · show 0 + 1 * 0 = 0; rfl
  · show 256 + 1 * j.val = _; omega
  · show 256 + 1 * r.val = _; omega

end Cert.FlashIns
-- ==== Proof.FlashHost.lean ====
/-
  What the flash kernel's host code hands to the launch, entry by entry, in terms of the arguments.
-/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.FlashHost

open Cert.KernelIdeal Cert.KernelIdeal.Gen

/-- The scale the host gives the queries. -/
def scl : EReal := Ideal.div (Ideal.rsqrt (Ideal.ofBits .f32 0x42C00000#32)) (Ideal.log (Ideal.ofBits .f32 0x40000000#32))

/-- The padding's zero. -/
def zr : FVec Ideal S_ .f32 := sitofp .f32 (constantI S_ 32 0#32)

/-- The scaled and padded queries in tiles. -/
def Q (a : FVec Ideal S8x8x4096x96 .f32) : FVec Ideal S8x8x8x128x512 .bf16 :=
  transpose S8x8x8x128x512 [0, 1, 2, 4, 3] (shapeCast S8x8x8x512x128 (truncf .bf16 (pad S8x8x4096x128 ![0, 0, 0, 0] ![0, 0, 0, 32] ![0, 0, 0, 0]
    (mulf a (broadcastInDim S8x8x4096x96 ![] bcast_S_S8x8x4096x96 (Host.divf (Host.rsqrt (constant S_ .f32 0x42C00000#32)) (Host.log (constant S_ .f32 0x40000000#32)))))
    zr pads_S8x8x4096x96_S8x8x4096x128_000_000_000_0320 h_S_) bitsLt_bf16_f32) shapeCasts_S8x8x4096x128_S8x8x8x512x128) transposes_S8x8x8x512x128_S8x8x8x128x512_0_1_2_4_3

/-- The padded keys, heads next to each other. -/
def K (a : FVec Ideal S8x8x4096x96 .f32) : FVec Ideal S32768x1024 .bf16 :=
  shapeCast S32768x1024 (transpose S8x4096x8x128 [0, 2, 1, 3] (truncf .bf16 (pad S8x8x4096x128 ![0, 0, 0, 0] ![0, 0, 0, 32] ![0, 0, 0, 0]
    a zr pads_S8x8x4096x96_S8x8x4096x128_000_000_000_0320 h_S_) bitsLt_bf16_f32) transposes_S8x8x4096x128_S8x4096x8x128_0_2_1_3) shapeCasts_S8x4096x8x128_S32768x1024

/-- The values with a row of ones below them, in tiles. -/
def W (a : FVec Ideal S8x8x4096x64 .f32) : FVec Ideal S8x8x8x128x512 .bf16 :=
  transpose S8x8x8x128x512 [0, 1, 2, 4, 3] (shapeCast S8x8x8x512x128 (truncf .bf16 (concatenate S8x8x4096x128 3 [⟨S8x8x4096x64, a⟩,
    ⟨S8x8x4096x64, select (cmpi .eq (iotaInDim S8x8x4096x64 32 3) (broadcastInDim S8x8x4096x64 ![] bcast_S_S8x8x4096x64 (constantI S_ 32 0#32)))
      (broadcastInDim S8x8x4096x64 ![] bcast_S_S8x8x4096x64 (constant (F := Ideal) S_ .f32 0x3F800000#32)) (broadcastInDim S8x8x4096x64 ![] bcast_S_S8x8x4096x64 (constant (F := Ideal) S_ .f32 0x00000000#32))⟩]
    concatenates_S8x8x4096x64_S8x8x4096x64_S8x8x4096x128_d3) bitsLt_bf16_f32) shapeCasts_S8x8x4096x128_S8x8x8x512x128) transposes_S8x8x8x512x128_S8x8x8x128x512_0_1_2_4_3

/-- The two masks. -/
def B : FVec Ideal S2x512x512 .f32 :=
  concatenate S2x512x512 0 [⟨S1x512x512, broadcastInDim S1x512x512 ![1, 2] bcast_S512x512_S1x512x512_1_2 (select (cmpi .sle (iotaInDim S512x512 32 0) (iotaInDim S512x512 32 1))
      (broadcastInDim S512x512 ![] bcast_S_S512x512 (constant (F := Ideal) S_ .f32 0x00000000#32)) (broadcastInDim S512x512 ![] bcast_S_S512x512 (constant (F := Ideal) S_ .f32 0xFF800000#32)))⟩,
    ⟨S1x512x512, broadcastInDim S1x512x512 ![1, 2] bcast_S512x512_S1x512x512_1_2 (select (cmpi .sgt (iotaInDim S512x512 32 0) (iotaInDim S512x512 32 1))
      (broadcastInDim S512x512 ![] bcast_S_S512x512 (constant (F := Ideal) S_ .f32 0x00000000#32)) (broadcastInDim S512x512 ![] bcast_S_S512x512 (constant (F := Ideal) S_ .f32 0xFF800000#32)))⟩]
    concatenates_S1x512x512_S1x512x512_S2x512x512_d0

end Cert.FlashHost
-- ==== Proof.FlashHostV.lean ====
/-
  The operands of the flash kernel's launch are the host's terms of the arguments.
-/
module

public import proofs.«01_k».proof.Proof.FlashHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.FlashHost

open Cert.KernelIdeal Cert.KernelIdeal.Gen

variable (m : (ℓ : Loc nD τ sig) → Buf (Elt Ideal) ℓ)

theorem V8 (c : Dev nD) : V m c main_v8 = Q (m ((c.tc : Thread nD τ).loc main_arg0)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.ternary, StableHlo.TRef.binary,
    StableHlo.TRef.unary, StableHlo.TRef.toBuf, StableHlo.TRef.ofBuf, cast_eq]
  after_results_simp
  rfl

theorem V12 (c : Dev nD) : V m c main_v12 = K (m ((c.tc : Thread nD τ).loc main_arg1)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.ternary, StableHlo.TRef.binary,
    StableHlo.TRef.unary, StableHlo.TRef.toBuf, StableHlo.TRef.ofBuf, cast_eq]
  after_results_simp
  rfl

theorem V21 (c : Dev nD) : V m c main_v21 = W (m ((c.tc : Thread nD τ).loc main_arg2)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.ternary, StableHlo.TRef.binary,
    StableHlo.TRef.unary, StableHlo.TRef.toBuf, StableHlo.TRef.ofBuf, cast_eq]
  after_results_simp
  rfl

theorem V30 (c : Dev nD) : V m c main_v30 = B := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.ternary, StableHlo.TRef.binary,
    StableHlo.TRef.unary, StableHlo.TRef.toBuf, StableHlo.TRef.ofBuf, cast_eq]
  after_results_simp
  rfl

end Cert.FlashHost
-- ==== Proof.FlashBlk.lean ====
/-
  The blocks of a grid step of the flash kernel, entry by entry, in terms of the arguments.
-/
module

public import proofs.«01_k».proof.Proof.FlashHostV

@[expose] public section

set_option maxRecDepth 16384

noncomputable section

open Idealize.ShloMosaic Idealize.ShloMosaic.TcCoe Idealize.SL.Sem
open Idealize.ShloMosaic.Pipeline (Dat)

namespace Cert.FlashIns

open Cert.KernelIdeal Cert.KernelIdeal.Gen Cert.FlashHost

theorem idx : ∀ t : Fin cfg0.N, win0_0.index t = ![t.val / 2, t.val % 2, 0, 0, 0] ∧ win0_1.index t = ![t.val / 2, t.val % 2]
    ∧ win0_2.index t = ![t.val / 2, t.val % 2, 0, 0, 0] ∧ win0_3.index t = ![0, 0, 0] ∧ win0_4.index t = ![t.val / 2, t.val % 2] :=
  (by decide +kernel : ∀ t : Fin grid0.N, _)

variable (m : (ℓ : Loc nD τ sig) → Buf (Elt Ideal) ℓ) (c : Dev nD)

/-- The batch of a grid step, -/
def bat (t : Fin cfg0.N) : Fin 8 := ⟨t.val / 2, by have := t.isLt; have : cfg0.N = 16 := N_0; omega⟩
/-- and the head of its `h`-th head. -/
def hd (t : Fin cfg0.N) (h : Fin 4) : Fin 8 := ⟨t.val % 2 * 4 + h, by omega⟩

theorem emb0 (t : Fin cfg0.N) (h : Fin 4) (j : Fin 8) (i : Fin 128) (r : Fin 512) :
    (win0_0.blk t).view.emb (ix5 0 h j i r : S1x4x8x128x512.Idx) = (ix5 (bat t) (hd t h) j i r : S8x8x8x128x512.Idx) := by
  obtain ⟨e0, e1, e2, e3, e4⟩ := idx t
  blk_ext [e0, bat, hd]

theorem read0 (A : S8x8x8x128x512.Idx → EReal) (t : Fin cfg0.N) (x : S1x4x8x128x512.Idx) :
    (win0_0.blk t).view.read (Elt Ideal) A x = A ((win0_0.blk t).view.emb x) := rfl

theorem blk0_V (t : Fin cfg0.N) (h : Fin 4) (j : Fin 8) (i : Fin 128) (r : Fin 512) :
    iblk m c 0 t (ix5 0 h j i r : S1x4x8x128x512.Idx) = (V m c main_v8 : S8x8x8x128x512.Idx → EReal) (ix5 (bat t) (hd t h) j i r) := by
  have e : iblk m c 0 t = (win0_0.blk t).view.read (Elt Ideal) (V m c main_v8) := rfl
  rw [e, read0, emb0]

theorem blk0 (t : Fin cfg0.N) (h : Fin 4) (j : Fin 8) (i : Fin 128) (r : Fin 512) :
    iblk m c 0 t (ix5 0 h j i r : S1x4x8x128x512.Idx) = Q (m ((c.tc : Thread nD τ).loc main_arg0)) (ix5 (bat t) (hd t h) j i r) :=
  (blk0_V m c t h j i r).trans (congrFun (V8 m c) _)

theorem blk1_V (t : Fin cfg0.N) (y : Fin 4096) (z : Fin 512) :
    iblk m c 1 t (ix2 y z : S4096x512.Idx) = (V m c main_v12 : S32768x1024.Idx → EReal)
      (ix2 (⟨t.val / 2 * 4096 + y, by have := t.isLt; have : cfg0.N = 16 := N_0; omega⟩ : Fin 32768) (⟨t.val % 2 * 512 + z, by omega⟩ : Fin 1024)) := by
  obtain ⟨e0, e1, e2, e3, e4⟩ := idx t
  unfold iblk
  refine congrArg (V m c main_v12 : S32768x1024.Idx → EReal) ?_
  blk_ext [e1]

theorem blk1 (t : Fin cfg0.N) (y : Fin 4096) (z : Fin 512) :
    iblk m c 1 t (ix2 y z : S4096x512.Idx) = K (m ((c.tc : Thread nD τ).loc main_arg1))
      (ix2 (⟨t.val / 2 * 4096 + y, by have := t.isLt; have : cfg0.N = 16 := N_0; omega⟩ : Fin 32768) (⟨t.val % 2 * 512 + z, by omega⟩ : Fin 1024)) :=
  (blk1_V m c t y z).trans (congrFun (V12 m c) _)

theorem emb2 (t : Fin cfg0.N) (h : Fin 4) (j : Fin 8) (i : Fin 128) (r : Fin 512) :
    (win0_2.blk t).view.emb (ix5 0 h j i r : S1x4x8x128x512.Idx) = (ix5 (bat t) (hd t h) j i r : S8x8x8x128x512.Idx) := by
  obtain ⟨e0, e1, e2, e3, e4⟩ := idx t
  blk_ext [e2, bat, hd]

theorem read2 (A : S8x8x8x128x512.Idx → EReal) (t : Fin cfg0.N) (x : S1x4x8x128x512.Idx) :
    (win0_2.blk t).view.read (Elt Ideal) A x = A ((win0_2.blk t).view.emb x) := rfl

theorem blk2_V (t : Fin cfg0.N) (h : Fin 4) (j : Fin 8) (i : Fin 128) (r : Fin 512) :
    iblk m c 2 t (ix5 0 h j i r : S1x4x8x128x512.Idx) = (V m c main_v21 : S8x8x8x128x512.Idx → EReal) (ix5 (bat t) (hd t h) j i r) := by
  have e : iblk m c 2 t = (win0_2.blk t).view.read (Elt Ideal) (V m c main_v21) := rfl
  rw [e, read2, emb2]

theorem blk2 (t : Fin cfg0.N) (h : Fin 4) (j : Fin 8) (i : Fin 128) (r : Fin 512) :
    iblk m c 2 t (ix5 0 h j i r : S1x4x8x128x512.Idx) = W (m ((c.tc : Thread nD τ).loc main_arg2)) (ix5 (bat t) (hd t h) j i r) :=
  (blk2_V m c t h j i r).trans (congrFun (V21 m c) _)

theorem blk3_V (t : Fin cfg0.N) (i j : Fin 512) : iblk m c 3 t (ix3 0 i j : S2x512x512.Idx) = (V m c main_v30 : S2x512x512.Idx → EReal) (ix3 0 i j) := by
  obtain ⟨e0, e1, e2, e3, e4⟩ := idx t
  unfold iblk
  refine congrArg (V m c main_v30 : S2x512x512.Idx → EReal) ?_
  blk_ext [e3]

theorem blk3 (t : Fin cfg0.N) (i j : Fin 512) : iblk m c 3 t (ix3 0 i j : S2x512x512.Idx) = B (ix3 0 i j) :=
  (blk3_V m c t i j).trans (congrFun (V30 m c) _)

end Cert.FlashIns
-- ==== Proof.FlashHostAt.lean ====
/-
  The operands of the flash kernel's launch, entry by entry.
-/
module

public import proofs.«01_k».proof.Proof.FlashHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.FlashHost

open Cert.KernelIdeal Cert.KernelIdeal.Gen

theorem zr_at (i) : zr i = 0 := by
  pointwise [zr]
  show (((0#32 : BitVec 32).toInt : ℝ) : EReal) = 0
  simp

theorem Q_at (a : FVec Ideal S8x8x4096x96 .f32) (b h t : Fin 8) (d : Fin 128) (r : Fin 512) :
    Q a (ix5 b h t d r) = if hd : d.val < 96 then (a (ix4 b h ⟨t * 512 + r, by omega⟩ ⟨d, hd⟩) : EReal) * scl else 0 := by
  pointwise [Q, zr_at]
  by_cases hd : d.val < 96
  · rw [dif_pos ⟨by omega, hd⟩, dif_pos hd]
    unfold scl; rfl
  · rw [dif_neg fun x => hd x.2, dif_neg hd]

theorem K_at (a : FVec Ideal S8x8x4096x96 .f32) (y : Fin 32768) (z : Fin 1024) :
    K a (ix2 y z) = (if hd : z.val % 128 < 96 then (a (ix4 ⟨y / 4096, by omega⟩ ⟨z / 128, by omega⟩ ⟨y % 4096, by omega⟩ (⟨z % 128, hd⟩ : Fin 96)) : EReal) else (0 : EReal) : EReal) := by
  pointwise [K, zr_at]
  split_ifs with h1 h2 h2
  · rfl
  · exact absurd h1.2.2.2 h2
  · exact absurd ⟨by omega, by omega, by omega, h2⟩ h1
  · rfl

theorem W_at (a : FVec Ideal S8x8x4096x64 .f32) (b h t : Fin 8) (d : Fin 128) (r : Fin 512) :
    W a (ix5 b h t d r) = if hd : d.val < 64 then (a (ix4 b h ⟨t * 512 + r, by omega⟩ ⟨d, hd⟩) : EReal) else if d.val = 64 then 1 else 0 := by
  pointwise [W]
  by_cases hd : d.val < 64
  · rw [dif_pos hd, dif_pos hd]
  · rw [dif_neg hd, dif_neg hd]
    have hb : ∀ d : Fin 128, ¬ d.val < 64 → IntOp.cmpi .eq (BitVec.ofNat 32 (d.val - 64)) 0#32 = if d.val = 64 then 1#1 else 0#1 := by
      decide +kernel
    rw [hb d hd]
    by_cases h6 : d.val = 64
    · rw [if_pos h6, if_pos h6]; rfl
    · rw [if_neg h6, if_neg h6]; rfl

theorem B_at (i j : Fin 512) : B (ix3 0 i j) = if i.val ≤ j.val then (0 : EReal) else ⊥ := by
  pointwise [B]
  rw [show Ideal.ofBits .f32 4286578688#32 = ⊥ by simp [Ideal.ofBits, Ideal.ieee]]
  have hi : ∀ i : Fin 512, (BitVec.ofNat 32 i.val).toInt = i.val := by decide +kernel
  have hb : IntOp.cmpi .sle (BitVec.ofNat 32 i.val) (BitVec.ofNat 32 j.val) = if i.val ≤ j.val then 1#1 else 0#1 := by
    have : IntOp.cmpi .sle (BitVec.ofNat 32 i.val) (BitVec.ofNat 32 j.val)
        = BitVec.ofBool (decide ((BitVec.ofNat 32 i.val).toInt ≤ (BitVec.ofNat 32 j.val).toInt)) := rfl
    rw [this, hi, hi]
    by_cases h : i.val ≤ j.val
    · rw [if_pos h, decide_eq_true (by exact_mod_cast h)]; rfl
    · rw [if_neg h, decide_eq_false (by exact_mod_cast h)]; rfl
  rw [hb]
  by_cases h : i.val ≤ j.val
  · rw [if_pos h, if_pos h]; rfl
  · rw [if_neg h, if_neg h]; rfl

end Cert.FlashHost
-- ==== Proof.FlashMath.lean ====
module

public import Idealize.ShloMosaic.Lib.Pointwise

@[expose] public section

/-! Softmax by tiles, over the extended reals: the running maximum and the running weighted sum of a sequence of tiles of
scores give, at the end, the weighted sum over all tiles at the overall maximum. -/

noncomputable section

open Idealize.ShloMosaic

namespace Cert.FlashMath

/-- A nonnegative factor other than `⊤` distributes over a finite sum. -/
theorem mul_sum {ι : Type} (S : Finset ι) (c : EReal) (h0 : 0 ≤ c) (h1 : c ≠ ⊤) (f : ι → EReal) :
    c * ∑ i ∈ S, f i = ∑ i ∈ S, c * f i := by
  classical
  induction S using Finset.induction_on with
  | empty => simp
  | insert a S ha ih => rw [Finset.sum_insert ha, Finset.sum_insert ha, EReal.left_distrib_of_nonneg_of_ne_top h0 h1, ih]

theorem exp2_nonneg (x : EReal) : 0 ≤ Ideal.exp2 x := by
  induction x with
  | bot => simp
  | top => simp
  | coe r =>
    rw [Ideal.exp2_coe]
    exact_mod_cast Real.rpow_nonneg (by norm_num) r

/-- A power of two at most `0` is real and at most one. -/
theorem exp2_sub_le {a b : EReal} (h : a ≤ b) : Ideal.exp2 (a - b) ≤ 1 := by
  induction b with
  | bot =>
    obtain rfl : a = ⊥ := le_bot_iff.mp h
    rw [EReal.bot_sub, Ideal.exp2_bot]; exact zero_le_one
  | top => rw [EReal.sub_top, Ideal.exp2_bot]; exact zero_le_one
  | coe b =>
    induction a with
    | bot => rw [EReal.bot_sub, Ideal.exp2_bot]; exact zero_le_one
    | top => exact absurd h (by simp)
    | coe a =>
      rw [← EReal.coe_sub, Ideal.exp2_coe]
      have : Real.rpow 2 (a - b) ≤ 1 := Real.rpow_le_one_of_one_le_of_nonpos (by norm_num) (by linarith [EReal.coe_le_coe_iff.mp h])
      exact_mod_cast this

theorem exp2_sub_ne_top {a b : EReal} (h : a ≤ b) : Ideal.exp2 (a - b) ≠ ⊤ :=
  ne_of_lt (lt_of_le_of_lt (exp2_sub_le h) (EReal.coe_lt_top 1))

/-- Shifting from one maximum to a larger one. -/
theorem exp2_shift {s a b : EReal} (h : s ≤ a) (h' : a ≤ b) :
    Ideal.exp2 (a - b) * Ideal.exp2 (s - a) = Ideal.exp2 (s - b) := by
  induction b with
  | bot =>
    obtain rfl : a = ⊥ := le_bot_iff.mp h'
    obtain rfl : s = ⊥ := le_bot_iff.mp h
    simp
  | top => simp
  | coe b =>
    induction a with
    | bot =>
      obtain rfl : s = ⊥ := le_bot_iff.mp h
      simp
    | top => exact absurd h' (by simp)
    | coe a =>
      induction s with
      | bot => simp
      | top => exact absurd h (by simp)
      | coe s =>
        rw [← EReal.coe_sub, ← EReal.coe_sub, ← EReal.coe_sub, Ideal.exp2_coe, Ideal.exp2_coe, Ideal.exp2_coe, ← EReal.coe_mul]
        refine congrArg _ ?_
        have := (Real.rpow_add (show (0 : ℝ) < 2 by norm_num) (a - b) (s - a)).symm
        refine this.trans (congrArg _ (by ring))

section tiles
variable {J : Type} [Fintype J] (s v : ℕ → J → EReal)

/-- The running maximum. -/
def M : ℕ → EReal
  | 0 => ⊥
  | n + 1 => max (M n) (Finset.univ.sup (s n))

/-- The running weighted sum. -/
def acc : ℕ → EReal
  | 0 => 0
  | n + 1 => Ideal.exp2 (M s n - M s (n + 1)) * acc n + ∑ j, v n j * Ideal.exp2 (s n j - M s (n + 1))

theorem M_le (n : ℕ) : M s n ≤ M s (n + 1) := le_max_left _ _

theorem M_mono {i n : ℕ} (h : i ≤ n) : M s i ≤ M s n := by
  induction n, h using Nat.le_induction with
  | base => exact le_rfl
  | succ n _ ih => exact ih.trans (M_le s n)

theorem s_le {i n : ℕ} (h : i < n) (j : J) : s i j ≤ M s n :=
  ((Finset.le_sup (f := s i) (Finset.mem_univ j)).trans (le_max_right _ _)).trans (M_mono s h)

theorem M_eq (n : ℕ) : M s n = (Finset.range n).sup fun i => Finset.univ.sup (s i) := by
  induction n with
  | zero => rfl
  | succ n ih => rw [Finset.range_add_one, Finset.sup_insert, ← ih, sup_comm]; rfl

/-- After `n` tiles the weighted sum is the sum over their keys at the maximum of them all. -/
theorem acc_eq (n : ℕ) : acc s v n = ∑ i ∈ Finset.range n, ∑ j, v i j * Ideal.exp2 (s i j - M s n) := by
  induction n with
  | zero => simp [acc]
  | succ n ih =>
    rw [acc, ih, Finset.sum_range_succ, mul_sum _ _ (exp2_nonneg _) (exp2_sub_ne_top (M_le s n))]
    refine congrArg (· + _) (Finset.sum_congr rfl fun i hi => ?_)
    rw [mul_sum _ _ (exp2_nonneg _) (exp2_sub_ne_top (M_le s n))]
    refine Finset.sum_congr rfl fun j _ => ?_
    rw [mul_left_comm, exp2_shift (s_le s (Finset.mem_range.mp hi) j) (M_le s n)]

end tiles

/-- The base-two exponent of scores scaled by `1 / log 2` is the exponential. -/
theorem exp2_scaled (x : EReal) : Ideal.exp2 (((Real.log 2)⁻¹ : ℝ) * x) = Ideal.exp x := by
  have hl : 0 < (Real.log 2)⁻¹ := inv_pos.mpr (Real.log_pos (by norm_num))
  induction x with
  | bot => rw [EReal.coe_mul_bot_of_pos hl]; rfl
  | top => rw [EReal.coe_mul_top_of_pos hl]; rfl
  | coe r =>
    rw [← EReal.coe_mul, Ideal.exp2_coe, Ideal.exp_coe]
    refine congrArg _ ?_
    refine (Real.rpow_def_of_pos (by norm_num) _).trans (congrArg _ ?_)
    rw [← mul_assoc, mul_inv_cancel₀ (Real.log_pos (by norm_num)).ne', one_mul]

/-- A positive real factor passes through a difference. -/
theorem mul_sub_real {c : ℝ} (hc : 0 < c) (a b : EReal) : (c : EReal) * (a - b) = c * a - c * b := by
  rw [sub_eq_add_neg, EReal.left_distrib_of_nonneg_of_ne_top (by exact_mod_cast hc.le) (EReal.coe_ne_top c), mul_neg, ← sub_eq_add_neg]

/-- A positive real factor passes through a maximum. -/
theorem mul_sup_real {c : ℝ} (hc : 0 < c) {ι : Type} (S : Finset ι) (f : ι → EReal) : (c : EReal) * S.sup f = S.sup fun i => c * f i := by
  classical
  have hm : Monotone fun x : EReal => (c : EReal) * x := fun x y h => mul_le_mul_of_nonneg_left h (by exact_mod_cast hc.le)
  induction S using Finset.induction_on with
  | empty => rw [Finset.sup_empty, Finset.sup_empty]; exact EReal.coe_mul_bot_of_pos hc
  | insert a S ha ih => rw [Finset.sup_insert, Finset.sup_insert, ← ih]; exact hm.map_sup _ _

end Cert.FlashMath
-- ==== Proof.FlashValue.lean ====
/-
  The flash kernel's tiles over the reals, entry by entry: the running maximum and the weighted sums are the recursions of FlashMath.
-/
module

public import proofs.«01_k».proof.Proof.FlashModel
public import proofs.«01_k».proof.Proof.FlashMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.FlashValue

open Cert.KernelIdeal Cert.KernelIdeal.Gen Cert.Flash Cert.FlashMath

theorem neg_inf : Ideal.ofBits .f32 0xFF800000#32 = ⊥ := by simp [Ideal.ofBits, Ideal.ieee]

/-- An entry of the scores is the product of a key and a query. -/
theorem sOf_at (k : Vec Ideal S512x128 .bf16) (q : Vec Ideal S1x1x1x128x512 .bf16) (j r : Fin 512) :
    sOf k (qS q) (ix2 j r) = ∑ i : Fin 128, k (ix2 j i) * q (ix5 0 0 0 i r) := by
  pointwise [sOf, qS]

theorem sTop_at (k : Vec Ideal S256x128 .bf16) (q : Vec Ideal S1x1x1x128x512 .bf16) (b : Vec Ideal S1x256x512 .f32) (j : Fin 256) (r : Fin 512) :
    sTop k (qS q) b (ix2 j r) = (∑ i : Fin 128, k (ix2 j i) * q (ix5 0 0 0 i r)) + b (ix3 0 j r) := by
  pointwise [sTop, qS]

theorem sBot_at (k : Vec Ideal S256x128 .bf16) (q : Vec Ideal S1x1x1x128x512 .bf16) (b : Vec Ideal S1x256x256 .f32) (j r : Fin 256) :
    sBot k (qS q) b (ix2 j r) = (∑ i : Fin 128, k (ix2 j i) * q (ix5 0 0 0 i ⟨256 + r, by omega⟩)) + b (ix3 0 j r) := by
  pointwise [sBot, qS]

/-- The new maximum is the larger of the old one and the largest score. -/
theorem mNew_at (s : FVec Ideal S512x512 .f32) (M : Vec Ideal S1x1x1x512 .f32) (r : Fin 512) :
    mNew s M (ix2 0 r) = max (M (ix4 0 0 0 r) : EReal) (Finset.univ.sup fun j : Fin 512 => (s (ix2 j r) : EReal)) := by
  pointwise [mNew]
  rw [neg_inf]; rfl

/-- The maximum after the diagonal tile, where every key block counts. -/
theorem mDiag_hi (t : FVec Ideal S256x512 .f32) (b : FVec Ideal S256x256 .f32) (M : Vec Ideal S1x1x1x512 .f32) (r : Fin 512) (hr : 256 ≤ r.val) :
    mDiag t b M (ix2 0 r) = max (M (ix4 0 0 0 r) : EReal) (max (Finset.univ.sup fun j : Fin 256 => (t (ix2 j r) : EReal))
      (Finset.univ.sup fun j : Fin 256 => (b (ix2 j ⟨r - 256, by omega⟩) : EReal))) := by
  pointwise [mDiag]
  rw [neg_inf, dif_neg (by omega)]; rfl

/-- The maximum after the diagonal tile, where no query sees the lower block. -/
theorem mDiag_lo (t : FVec Ideal S256x512 .f32) (b : FVec Ideal S256x256 .f32) (M : Vec Ideal S1x1x1x512 .f32) (r : Fin 512) (hr : ¬ 256 ≤ r.val) :
    mDiag t b M (ix2 0 r) = max (M (ix4 0 0 0 r) : EReal) (max (Finset.univ.sup fun j : Fin 256 => (t (ix2 j r) : EReal)) ⊥) := by
  pointwise [mDiag]
  rw [neg_inf, dif_pos (by omega)]; rfl

theorem alRaw_at (M : Vec Ideal S1x1x1x512 .f32) (m : FVec Ideal S1x512 .f32) (r : Fin 512) :
    alRaw M m (ix5 0 0 0 0 r) = Ideal.exp2 ((M (ix4 0 0 0 r) : EReal) - m (ix2 0 r)) := by
  pointwise [alRaw]
  rfl

theorem mRaw_at (m : FVec Ideal S1x512 .f32) (r : Fin 512) : mRaw m (ix4 0 0 0 r) = m (ix2 0 r) := by
  pointwise [mRaw]

theorem pNew_at (s : FVec Ideal S512x512 .f32) (m : FVec Ideal S1x512 .f32) (j r : Fin 512) :
    pNew s m (ix5 0 0 0 j r) = Ideal.exp2 ((s (ix2 j r) : EReal) - m (ix2 0 r)) := by
  pointwise [pNew]
  rfl

theorem pTop_at (s : FVec Ideal S256x512 .f32) (m : FVec Ideal S1x512 .f32) (j : Fin 256) (r : Fin 512) :
    pTop s m (ix5 0 0 0 j r) = Ideal.exp2 ((s (ix2 j r) : EReal) - m (ix2 0 r)) := by
  pointwise [pTop]
  rfl

theorem pBot_at (s : FVec Ideal S256x256 .f32) (m : FVec Ideal S1x512 .f32) (j r : Fin 256) :
    pBot s m (ix5 0 0 0 j r) = Ideal.exp2 ((s (ix2 j r) : EReal) - m (ix2 0 ⟨256 + r, by omega⟩)) := by
  pointwise [pBot]
  rfl

/-- The new sums: the old ones shrunk, plus the weighted values. -/
theorem cNew_at (v : Vec Ideal S1x1x1x128x512 .bf16) (al : Vec Ideal S1x1x1x1x512 .f32) (a : Vec Ideal S1x1x128x512 .f32)
    (p : Vec Ideal S1x1x1x512x512 .bf16) (d : Fin 128) (r : Fin 512) :
    cNew v al a p (ix4 0 0 d r) = (al (ix5 0 0 0 0 r) : EReal) * a (ix4 0 0 d r) + ∑ j : Fin 512, (v (ix5 0 0 0 d j) : EReal) * p (ix5 0 0 0 j r) := by
  pointwise [cNew]

/-- One head's result: the sums over the sum of the weights. -/
theorem finHead_at (a : Vec Ideal S1x1x128x512 .f32) (d : Fin 64) (r : Fin 512) :
    finHead a (ix2 d r) = Ideal.div (a (ix4 0 0 ⟨d, by omega⟩ r)) (max (a (ix4 0 0 64 r) : EReal) (Ideal.ofBits .f32 0x0DA24260#32)) := by
  pointwise [finHead]

end Cert.FlashValue
-- ==== Proof.FlashRows.lean ====
/-
  The flash kernel's recursions at one query: the running maximum and sums of a head's query tile are those of FlashMath.
-/
module

public import proofs.«01_k».proof.Proof.FlashValue

@[expose] public section

set_option maxRecDepth 16384

noncomputable section

open Idealize.ShloMosaic Idealize.ShloMosaic.TcCoe

namespace Cert.FlashValue

open Cert.KernelIdeal Cert.KernelIdeal.Gen Cert.Flash Cert.FlashMath

/-- A supremum over 512 entries is the larger of the suprema over its two halves. -/
theorem sup_halves (f : Fin 512 → EReal) : Finset.univ.sup f
    = max (Finset.univ.sup fun j : Fin 256 => f ⟨j, by omega⟩) (Finset.univ.sup fun j : Fin 256 => f ⟨256 + j, by omega⟩) := by
  apply le_antisymm
  · refine Finset.sup_le fun j _ => ?_
    by_cases hj : j.val < 256
    · exact le_max_of_le_left (Finset.le_sup (f := fun j : Fin 256 => f ⟨j, by omega⟩) (Finset.mem_univ (⟨j.val, hj⟩ : Fin 256)))
    · refine le_max_of_le_right (le_trans (le_of_eq (congrArg f (Fin.ext ?_)))
        (Finset.le_sup (f := fun j : Fin 256 => f ⟨256 + j, by omega⟩) (Finset.mem_univ (⟨j.val - 256, by omega⟩ : Fin 256))))
      show j.val = 256 + (j.val - 256)
      omega
  · exact max_le (Finset.sup_le fun j _ => Finset.le_sup (f := f) (Finset.mem_univ _)) (Finset.sup_le fun j _ => Finset.le_sup (f := f) (Finset.mem_univ _))

/-- The scores of the diagonal tile against query `r`, from its two halves. -/
def dg (t : FVec Ideal S256x512 .f32) (b : FVec Ideal S256x256 .f32) (r j : Fin 512) : EReal :=
  if hj : j.val < 256 then t (ix2 (⟨j, hj⟩ : Fin 256) r)
  else if hr : 256 ≤ r.val then b (ix2 (⟨j - 256, by omega⟩ : Fin 256) (⟨r - 256, by omega⟩ : Fin 256)) else ⊥

/-- The maximum after the diagonal tile. -/
theorem mDiag_at (t : FVec Ideal S256x512 .f32) (b : FVec Ideal S256x256 .f32) (M : Vec Ideal S1x1x1x512 .f32) (r : Fin 512) :
    mDiag t b M (ix2 0 r) = max (M (ix4 0 0 0 r) : EReal) (Finset.univ.sup (dg t b r)) := by
  rw [sup_halves]
  have h1 : (fun j : Fin 256 => dg t b r ⟨j, by omega⟩) = fun j => (t (ix2 j r) : EReal) :=
    funext fun j => by unfold dg; rw [dif_pos j.isLt]
  rw [h1]
  by_cases hr : 256 ≤ r.val
  · have h2 : (fun j : Fin 256 => dg t b r ⟨256 + j, by omega⟩) = fun j => (b (ix2 j (⟨r - 256, by omega⟩ : Fin 256)) : EReal) :=
      funext fun j => by
        unfold dg
        rw [dif_neg (show ¬ 256 + j.val < 256 by omega), dif_pos hr]
        exact congrArg (fun i : Fin 256 => b (ix2 i _)) (Fin.ext (by show 256 + j.val - 256 = j.val; omega))
    rw [h2, mDiag_hi t b M r hr]
  · have h2 : (fun j : Fin 256 => dg t b r ⟨256 + j, by omega⟩) = fun j => (⊥ : EReal) :=
      funext fun j => by
        unfold dg
        rw [dif_neg (show ¬ 256 + j.val < 256 by omega), dif_neg hr]
    rw [h2, mDiag_lo t b M r hr, Finset.sup_bot]

/-- The weights of the diagonal tile. -/
theorem pDiag_at (t : FVec Ideal S256x512 .f32) (b : FVec Ideal S256x256 .f32) (m : FVec Ideal S1x512 .f32) (j r : Fin 512) :
    pDiag (pTop t m) (pBot b m) (ix5 0 0 0 j r) = Ideal.exp2 (dg t b r j - m (ix2 0 r)) := by
  show (if h : j.val < 256 then pTop t m (ix5 0 0 0 (⟨j.val, h⟩ : Fin 256) r)
    else if h' : 256 ≤ r.val then pBot b m (ix5 0 0 0 (⟨j.val - 256, by omega⟩ : Fin 256) (⟨r.val - 256, by omega⟩ : Fin 256))
    else Scalar.ofBits (F := Ideal) .bf16 0x0000#16) = _
  unfold dg
  by_cases hj : j.val < 256
  · rw [dif_pos hj, dif_pos hj]
    exact pTop_at t m ⟨j, hj⟩ r
  · rw [dif_neg hj, dif_neg hj]
    by_cases hr : 256 ≤ r.val
    · rw [dif_pos hr, dif_pos hr]
      refine (pBot_at b m ⟨j - 256, by omega⟩ ⟨r - 256, by omega⟩).trans ?_
      have : (⟨256 + (r.val - 256), by omega⟩ : Fin 512) = r := Fin.ext (by show 256 + (r.val - 256) = r.val; omega)
      rw [this]
    · rw [dif_neg hr, dif_neg hr, EReal.bot_sub, Ideal.exp2_bot]
      show Ideal.ofBits .bf16 0x0000#16 = 0
      simp [Ideal.ofBits, Ideal.ieee]

variable (x : Ins Ideal) (h : Fin 4) (qi : ℕ) (r : Fin 512)

/-- The scores of the `n`-th key tile against query `r`. -/
def sc : ℕ → Fin 512 → EReal
  | 0 => dg (sTopAt x h qi) (sBotAt x h qi) r
  | n + 1 => fun j => sAt x h qi n (ix2 j r)

/-- The values of the `n`-th key tile at coordinate `d`. -/
def vc (d : Fin 128) (n : ℕ) (j : Fin 512) : EReal := x.v h (tix qi n) (ix5 0 0 0 d j)

theorem mAt_at (n : ℕ) : mAt x h qi n (ix4 0 0 0 r) = M (sc x h qi r) n := by
  induction n with
  | zero => exact neg_inf
  | succ n ih =>
    cases n with
    | zero =>
      refine (mRaw_at _ r).trans ((mDiag_at _ _ _ r).trans ?_)
      exact congrArg (fun y : EReal => max y _) neg_inf
    | succ n =>
      refine (mRaw_at _ r).trans ((mNew_at _ _ r).trans ?_)
      exact congrArg (fun y : EReal => max y _) ih

theorem alAt_at (n : ℕ) : alAt x h qi n (ix5 0 0 0 0 r) = Ideal.exp2 (M (sc x h qi r) n - M (sc x h qi r) (n + 1)) := by
  rw [← mAt_at, ← mAt_at]
  cases n with
  | zero => exact (alRaw_at _ _ r).trans (congrArg (fun y : EReal => Ideal.exp2 (_ - y)) (mRaw_at _ r).symm)
  | succ n => exact (alRaw_at _ _ r).trans (congrArg (fun y : EReal => Ideal.exp2 (_ - y)) (mRaw_at _ r).symm)

theorem pAt_at (n : ℕ) (j : Fin 512) : pAt x h qi n (ix5 0 0 0 j r) = Ideal.exp2 (sc x h qi r n j - M (sc x h qi r) (n + 1)) := by
  rw [← mAt_at]
  cases n with
  | zero => exact (pDiag_at _ _ _ j r).trans (congrArg (fun y : EReal => Ideal.exp2 (_ - y)) (mRaw_at _ r).symm)
  | succ n => exact (pNew_at _ _ j r).trans (congrArg (fun y : EReal => Ideal.exp2 (_ - y)) (mRaw_at _ r).symm)

/-- The weighted sums after `n` key tiles. -/
theorem accAt_at (d : Fin 128) (n : ℕ) : accAt x h qi n (ix4 0 0 d r) = acc (sc x h qi r) (vc x h qi d) n := by
  induction n with
  | zero =>
    show Ideal.ofBits .f32 0x00000000#32 = 0
    simp [Ideal.ofBits, Ideal.ieee]
  | succ n ih =>
    refine (cNew_at _ _ _ _ d r).trans ?_
    rw [ih, alAt_at]
    exact congrArg (fun y : EReal => _ + y) (Finset.sum_congr rfl fun j _ => congrArg (fun y : EReal => _ * y) (pAt_at x h qi r n j))

/-- The smallest the sum of the weights is let be. -/
def tiny : EReal := Ideal.ofBits .f32 0x0DA24260#32

/-- An entry of a head's result. -/
def row (d : Fin 64) : EReal :=
  Ideal.div (acc (sc x h qi r) (vc x h qi ⟨d, by omega⟩) (qi + 1)) (max (acc (sc x h qi r) (vc x h qi 64) (qi + 1)) tiny)

theorem finHead_accAt (d : Fin 64) : finHead (accAt x h qi (qi + 1)) (ix2 d r) = row x h qi r d := by
  rw [finHead_at, accAt_at, accAt_at]; rfl

/-- The four heads of a tile of the output lie next to each other. -/
theorem fin_at (f : Fin 4 → Vec Ideal S1x1x128x512 .f32) (l : Fin 256) :
    fin (f 0) (f 1) (f 2) (f 3) (ix2 r l) = finHead (f ⟨l / 64, by omega⟩) (ix2 ⟨l % 64, by omega⟩ r) := by
  have key : ∀ (i : Fin 4) (e : Fin 64), i.val = l.val / 64 → e.val = l.val % 64 → finHead (f i) (ix2 e r)
      = finHead (f ⟨l / 64, by omega⟩) (ix2 ⟨l % 64, by omega⟩ r) := by
    intro i e hi he
    have hi' : i = ⟨l / 64, by omega⟩ := Fin.ext hi
    have he' : e = ⟨l % 64, by omega⟩ := Fin.ext he
    rw [hi', he']
  pointwise [fin]
  generalize finHead (F := Ideal) = g at *
  have hl := l.isLt
  split_ifs
  all_goals first
    | (refine key 0 _ ?_ ?_ <;> [(show 0 = l.val / 64; omega); (show l.val = l.val % 64; omega)]; done)
    | (refine key 1 _ ?_ ?_ <;> [(show 1 = l.val / 64; omega); (show l.val - 64 = l.val % 64; omega)]; done)
    | (refine key 2 _ ?_ ?_ <;> [(show 2 = l.val / 64; omega); (show l.val - 64 - 64 = l.val % 64; omega)]; done)
    | (refine key 3 _ ?_ ?_ <;> [(show 3 = l.val / 64; omega); (show l.val - 64 - 64 - 64 = l.val % 64; omega)]; done)

/-- An entry of a tile of the output. -/
theorem outAt_at (l : Fin 256) : outAt x qi (ix2 r l) = row x ⟨l / 64, by omega⟩ qi r ⟨l % 64, by omega⟩ := by
  rw [← finHead_accAt]
  exact fin_at r (fun i => accAt x i qi (qi + 1)) l

end Cert.FlashValue
-- ==== Proof.FlashSoft.lean ====
/-
  Softmax by tiles is softmax: scores scaled by `1 / log 2` with powers of two, tile by tile and divided at the end, give the
  weights divided by their sum.
-/
module

public import proofs.«01_k».proof.Proof.FlashMath
public import Idealize.ShloMosaic.Lib.Pointwise.Sums

@[expose] public section

noncomputable section

open Idealize.ShloMosaic

namespace Cert.FlashMath

/-- Which key tile comes `n`-th: the diagonal tile first, then tiles `0`, `1`, …. -/
def nth (qi : ℕ) : ℕ → ℕ
  | 0 => qi
  | n + 1 => n

/-- A sum over 4096 keys of which those after tile `qi` count for nothing, in the order of the tiles. -/
theorem sum_tiles (g : ℕ → EReal) (qi : ℕ) (hq : qi < 8) (hg : ∀ k, 512 * (qi + 1) ≤ k → g k = 0) :
    ∑ n ∈ Finset.range (qi + 1), ∑ j : Fin 512, g (nth qi n * 512 + j) = ∑ k : Fin 4096, g k := by
  rw [Fin.sum_univ_tiles 8 512 rfl (fun k : Fin 4096 => g k)]
  refine Eq.trans ?_ (Fin.sum_univ_eq_sum_range (fun t : ℕ => ∑ j : Fin 512, g (t * 512 + j)) 8).symm
  rw [Finset.sum_range_succ']
  show (∑ n ∈ Finset.range qi, ∑ j : Fin 512, g (n * 512 + j)) + (∑ j : Fin 512, g (qi * 512 + j)) = _
  rw [← Finset.sum_range_succ (fun t : ℕ => ∑ j : Fin 512, g (t * 512 + j))]
  refine Finset.sum_subset (Finset.range_mono (by omega)) fun n _ hn => Finset.sum_eq_zero fun j _ => hg _ ?_
  have : ¬ n < qi + 1 := fun h => hn (Finset.mem_range.mpr h)
  omega

/-- A supremum over 4096 keys of which those after tile `qi` are `⊥`, in the order of the tiles. -/
theorem sup_tiles (g : ℕ → EReal) (qi : ℕ) (hq : qi < 8) (hg : ∀ k, 512 * (qi + 1) ≤ k → g k = ⊥) :
    ((Finset.range (qi + 1)).sup fun n => Finset.univ.sup fun j : Fin 512 => g (nth qi n * 512 + j))
      = Finset.univ.sup fun k : Fin 4096 => g k := by
  apply le_antisymm
  · refine Finset.sup_le fun n hn => Finset.sup_le fun j _ => ?_
    have h1 := Finset.mem_range.mp hn
    have h2 : nth qi n < 8 := by cases n <;> simp only [nth] <;> omega
    exact Finset.le_sup (f := fun k : Fin 4096 => g k) (Finset.mem_univ (⟨nth qi n * 512 + j, by omega⟩ : Fin 4096))
  · refine Finset.sup_le fun k _ => ?_
    by_cases hk : 512 * (qi + 1) ≤ k.val
    · rw [hg _ hk]; exact bot_le
    · have : ∃ n, n < qi + 1 ∧ nth qi n = k.val / 512 := by
        by_cases h : k.val / 512 = qi
        · exact ⟨0, by omega, h.symm⟩
        · exact ⟨k.val / 512 + 1, by omega, rfl⟩
      obtain ⟨n, hn, he⟩ := this
      refine le_trans ?_ (Finset.le_sup (f := fun n => Finset.univ.sup fun j : Fin 512 => g (nth qi n * 512 + j)) (Finset.mem_range.mpr hn))
      refine (le_trans (le_of_eq (congrArg g ?_)) (Finset.le_sup (f := fun j : Fin 512 => g (nth qi n * 512 + j)) (Finset.mem_univ (⟨k.val % 512, by omega⟩ : Fin 512))))
      show k.val = nth qi n * 512 + k.val % 512
      omega

section soft

variable (S v : ℕ → EReal) (qi : ℕ) (sc vc : ℕ → Fin 512 → EReal)

/-- The weight of key `k` before it is divided. -/
def wt (k : ℕ) : EReal := Ideal.exp (S k - Finset.univ.sup fun k : Fin 4096 => S k)

variable (hq : qi < 8) (hS : ∀ k, 512 * (qi + 1) ≤ k → S k = ⊥)
  (hs : ∀ n < qi + 1, ∀ j : Fin 512, sc n j = ((Real.log 2)⁻¹ : ℝ) * S (nth qi n * 512 + j))
  (hv : ∀ n < qi + 1, ∀ j : Fin 512, vc n j = v (nth qi n * 512 + j))

include hq hS hs in
theorem M_soft : M sc (qi + 1) = ((Real.log 2)⁻¹ : ℝ) * Finset.univ.sup fun k : Fin 4096 => S k := by
  have hl : 0 < (Real.log 2)⁻¹ := inv_pos.mpr (Real.log_pos (by norm_num))
  rw [M_eq, ← sup_tiles S qi hq hS, mul_sup_real hl]
  refine Finset.sup_congr rfl fun n hn => ?_
  rw [mul_sup_real hl]
  exact Finset.sup_congr rfl fun j _ => hs n (Finset.mem_range.mp hn) j

include hq hS hs hv in
/-- The weighted sum of the tiles is the weighted sum over all keys. -/
theorem acc_soft : acc sc vc (qi + 1) = ∑ k : Fin 4096, v k * wt S k := by
  have hl : 0 < (Real.log 2)⁻¹ := inv_pos.mpr (Real.log_pos (by norm_num))
  rw [acc_eq, M_soft S qi sc hq hS hs, ← sum_tiles (fun k => v k * wt S k) qi hq]
  · refine Finset.sum_congr rfl fun n hn => Finset.sum_congr rfl fun j _ => ?_
    rw [hs n (Finset.mem_range.mp hn), hv n (Finset.mem_range.mp hn), ← mul_sub_real hl, exp2_scaled]
    rfl
  · intro k hk
    show v k * wt S k = 0
    rw [wt, hS k hk, EReal.bot_sub]
    exact mul_zero _

/-- Dividing the weighted sum is weighting by the divided weights. -/
theorem div_soft (t : EReal) (ht : 0 < t) (e v : Fin 4096 → EReal) (he : ∀ k, 0 ≤ e k) :
    Ideal.div (∑ k, v k * e k) (max (∑ k, e k) t) = ∑ k, Ideal.div (e k) (max (∑ k, e k) t) * v k := by
  have hL : t ≤ max (∑ k, e k) t := le_max_right _ _
  generalize max (∑ k, e k) t = L at hL ⊢
  have h0 : 0 < L := lt_of_lt_of_le ht hL
  have hi : 0 ≤ L⁻¹ := EReal.inv_nonneg_of_nonneg h0.le
  have hi' : L⁻¹ ≠ ⊤ := by
    induction L with
    | bot => exact absurd h0 (by simp)
    | top => simp
    | coe r => rw [← EReal.coe_inv]; exact EReal.coe_ne_top _
  unfold Ideal.div
  simp only [if_neg h0.ne']
  rw [mul_comm, mul_sum _ _ hi hi']
  exact Finset.sum_congr rfl fun k _ => by rw [mul_comm (v k), ← mul_assoc, mul_comm (L⁻¹)]

end soft

end Cert.FlashMath
-- ==== Proof.FlashScore.lean ====
/-
  A head's result out of the queries, keys and values of its head, whatever arrays they are read from.
-/
module

public import proofs.«01_k».proof.Proof.FlashRows
public import proofs.«01_k».proof.Proof.FlashSoft

@[expose] public section

set_option maxRecDepth 16384

noncomputable section

open Idealize.ShloMosaic Idealize.ShloMosaic.TcCoe Idealize.SL.Sem

namespace Cert.FlashValue

open Cert.KernelIdeal Cert.KernelIdeal.Gen Cert.FlashMath Cert.Flash

/-- The scale of the scores, -/
def sig : EReal := Ideal.rsqrt (Ideal.ofBits .f32 0x42C00000#32)
/-- and what the kernel multiplies its queries by. -/
def scl : EReal := Ideal.div sig (Ideal.log (Ideal.ofBits .f32 0x40000000#32))

theorem sig_eq : sig = (((√96)⁻¹ : ℝ) : EReal) := by
  have h : Ideal.ofBits .f32 0x42C00000#32 = ((96 : ℝ) : EReal) := by
    simp [Ideal.ofBits, Ideal.ieee]; rw [← EReal.coe_mul]; norm_num
  unfold sig
  rw [h]
  show (if (96 : ℝ) < 0 then (⊥ : EReal) else if (96 : ℝ) = 0 then ⊤ else (((√96)⁻¹ : ℝ) : EReal)) = _
  rw [if_neg (by norm_num), if_neg (by norm_num)]

theorem scl_eq : scl = ((Real.log 2)⁻¹ : ℝ) * sig := by
  have h : Ideal.ofBits .f32 0x40000000#32 = ((2 : ℝ) : EReal) := by
    simp [Ideal.ofBits, Ideal.ieee]; rw [← EReal.coe_mul]; norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have h0 : (Real.log 2) ≠ 0 := (Real.log_pos (by norm_num)).ne'
  unfold scl
  rw [h, hl]
  unfold Ideal.div
  rw [if_neg (by exact_mod_cast h0), mul_comm, EReal.coe_inv]

theorem scl_nonneg : 0 ≤ scl ∧ scl ≠ ⊤ := by
  rw [scl_eq, sig_eq, ← EReal.coe_mul]
  refine ⟨?_, EReal.coe_ne_top _⟩
  have : 0 ≤ (Real.log 2)⁻¹ * (√96)⁻¹ := mul_nonneg (inv_nonneg.mpr (Real.log_pos (by norm_num)).le) (inv_nonneg.mpr (Real.sqrt_nonneg _))
  exact_mod_cast this

/-- A row of 96 entries padded to 128. -/
def pd (f : Fin 96 → EReal) (i : Fin 128) : EReal := if hd : i.val < 96 then f ⟨i, hd⟩ else 0
/-- A row of 64 entries, then a one, then zeros. -/
def vd (f : Fin 64 → EReal) (i : Fin 128) : EReal := if hd : i.val < 64 then f ⟨i, hd⟩ else if i.val = 64 then 1 else 0

/-- The padding counts for nothing. -/
theorem pd_sum (f g : Fin 96 → EReal) : ∑ i : Fin 128, pd f i * pd (fun d => g d * scl) i = (∑ d, g d * f d) * scl := by
  refine (Fin.sum_univ_add (a := 96) (b := 32) (fun i : Fin 128 => pd f i * pd (fun d => g d * scl) i)).trans ?_
  have h2 : ∑ i : Fin 32, pd f (Fin.natAdd 96 i) * pd (fun d => g d * scl) (Fin.natAdd 96 i) = 0 :=
    Finset.sum_eq_zero fun i _ => by
      have : pd f (Fin.natAdd 96 i) = 0 := by
        unfold pd
        rw [dif_neg (by show ¬ 96 + i.val < 96; omega)]
      rw [this, zero_mul]
  rw [h2, add_zero, mul_comm _ scl, mul_sum _ _ scl_nonneg.1 scl_nonneg.2]
  refine Finset.sum_congr rfl fun i _ => ?_
  have h1 : ∀ f : Fin 96 → EReal, pd f (Fin.castAdd 32 i) = f i := fun f => by
    unfold pd
    rw [dif_pos (show (Fin.castAdd 32 i).val < 96 from i.isLt)]; rfl
  rw [h1, h1, mul_comm (g i) scl, mul_left_comm, mul_comm (f i)]

/-- The masked scaled score of key `k` against the query at position `s`. -/
def S (A C : ℕ → Fin 96 → EReal) (s k : ℕ) : EReal := if k ≤ s then (∑ d, A s d * C k d) * sig else ⊥

variable (x : Ins Ideal) (h : Fin 4) (A C : ℕ → Fin 96 → EReal) (D : ℕ → Fin 64 → EReal)

/-- What a grid step reads for head `h` is rows of the queries `A`, the keys `C`, the values `D` and the mask. -/
structure Reads : Prop where
  q : ∀ n < 8, ∀ i r, x.q h n (ix5 0 0 0 i r) = pd (fun d => A (n * 512 + r.val) d * scl) i
  k : ∀ n < 8, ∀ (j : Fin 512) (i : Fin 128), x.k h n (ix2 j i) = pd (C (n * 512 + j.val)) i
  kTop : ∀ n < 8, ∀ (j : Fin 256) (i : Fin 128), x.kTop h n (ix2 j i) = pd (C (n * 512 + j.val)) i
  kBot : ∀ n < 8, ∀ (j : Fin 256) (i : Fin 128), x.kBot h n (ix2 j i) = pd (C (n * 512 + (256 + j.val))) i
  v : ∀ n < 8, ∀ d j, x.v h n (ix5 0 0 0 d j) = vd (D (n * 512 + j.val)) d
  bTop : ∀ (j : Fin 256) (r : Fin 512), x.bTop (ix3 0 j r) = if j.val ≤ r.val then (0 : EReal) else ⊥
  bBot : ∀ (j r : Fin 256), x.bBot (ix3 0 j r) = if j.val ≤ r.val then (0 : EReal) else ⊥

variable {x h A C D} (H : Reads x h A C D) (qi : ℕ) (hqi : qi < 8) (r : Fin 512)
include H hqi

theorem scale_S (a : EReal) : a * scl = ((Real.log 2)⁻¹ : ℝ) * (a * sig) := by
  rw [scl_eq, mul_left_comm]

/-- The scores in the kernel's base are the scaled scores over `log 2`. -/
theorem sc_eq (n : ℕ) (hn : n < qi + 1) (j : Fin 512) :
    sc x h qi r n j = ((Real.log 2)⁻¹ : ℝ) * S A C (qi * 512 + r.val) (nth qi n * 512 + j.val) := by
  have hl : 0 < (Real.log 2)⁻¹ := inv_pos.mpr (Real.log_pos (by norm_num))
  cases n with
  | succ n =>
    show sOf (x.k h n) (qS (x.q h qi)) (ix2 j r) = _
    rw [sOf_at]
    have hr := r.isLt
    have hj := j.isLt
    unfold S
    show _ = _ * (if n * 512 + j.val ≤ qi * 512 + r.val then (∑ d, A (qi * 512 + r.val) d * C (n * 512 + j.val) d) * sig else ⊥)
    rw [if_pos (show n * 512 + j.val ≤ qi * 512 + r.val by omega), ← scale_S H qi hqi, ← pd_sum]
    exact Finset.sum_congr rfl fun i _ => by rw [H.q qi hqi, H.k n (by omega)]
  | zero =>
    show dg (sTop (x.kTop h qi) (qS (x.q h qi)) x.bTop) (sBot (x.kBot h qi) (qS (x.q h qi)) x.bBot) r j = _
    unfold dg S
    show _ = _ * (if qi * 512 + j.val ≤ qi * 512 + r.val then _ else _)
    by_cases hj : j.val < 256
    · rw [dif_pos hj, sTop_at]
      rw [show (∑ i : Fin 128, x.kTop h qi (ix2 (⟨j, hj⟩ : Fin 256) i) * x.q h qi (ix5 0 0 0 i r) : EReal) = (∑ d, A (qi * 512 + r.val) d * C (qi * 512 + j.val) d) * scl from
        (Finset.sum_congr rfl fun i _ => by rw [H.q qi hqi, H.kTop qi hqi]).trans (pd_sum _ _), H.bTop]
      by_cases hjr : j.val ≤ r.val
      · rw [if_pos hjr, if_pos (show qi * 512 + j.val ≤ qi * 512 + r.val by omega), add_zero, scale_S H qi hqi]; rfl
      · rw [if_neg hjr, if_neg (show ¬ qi * 512 + j.val ≤ qi * 512 + r.val by omega), EReal.add_bot, EReal.coe_mul_bot_of_pos hl]
    · rw [dif_neg hj]
      by_cases hr : 256 ≤ r.val
      · rw [dif_pos hr, sBot_at]
        have er : (⟨256 + (r.val - 256), by omega⟩ : Fin 512) = r := Fin.ext (by show 256 + (r.val - 256) = r.val; omega)
        have ej : 256 + (j.val - 256) = j.val := by omega
        rw [show (∑ i : Fin 128, x.kBot h qi (ix2 (⟨j - 256, by omega⟩ : Fin 256) i) * x.q h qi (ix5 0 0 0 i ⟨256 + (r.val - 256), by omega⟩) : EReal)
            = (∑ d, A (qi * 512 + r.val) d * C (qi * 512 + j.val) d) * scl from
          (Finset.sum_congr rfl fun i _ => by rw [er, H.q qi hqi, H.kBot qi hqi]; show pd (C (qi * 512 + (256 + (j.val - 256)))) i * _ = _; rw [ej]).trans (pd_sum _ _), H.bBot]
        show _ + (if j.val - 256 ≤ r.val - 256 then (0 : EReal) else ⊥) = _
        by_cases hjr : j.val ≤ r.val
        · rw [if_pos (by omega), if_pos (by omega), add_zero, scale_S H qi hqi]; rfl
        · rw [if_neg (by omega), if_neg (by omega), EReal.add_bot, EReal.coe_mul_bot_of_pos hl]
      · rw [dif_neg hr, if_neg (by omega), EReal.coe_mul_bot_of_pos hl]

theorem vc_eq (d : Fin 128) (n : ℕ) (hn : n < qi + 1) (j : Fin 512) : vc x h qi d n j = vd (D (nth qi n * 512 + j.val)) d := by
  unfold vc
  cases n with
  | zero => exact H.v qi hqi d j
  | succ n => exact H.v n (by omega) d j

/-- An entry of a head's result: the values weighted with the exponentials of the scores, over the sum of those. -/
theorem row_eq (d : Fin 64) : row x h qi r d
    = Ideal.div (∑ k : Fin 4096, D k.val d * wt (S A C (qi * 512 + r.val)) k.val) (max (∑ k : Fin 4096, wt (S A C (qi * 512 + r.val)) k.val) tiny) := by
  have hS : ∀ k, 512 * (qi + 1) ≤ k → S A C (qi * 512 + r.val) k = ⊥ := fun k hk => by
    have := r.isLt
    unfold S
    rw [if_neg (by omega)]
  have h1 : acc (sc x h qi r) (vc x h qi ⟨d, by omega⟩) (qi + 1) = ∑ k : Fin 4096, D k.val d * wt (S A C (qi * 512 + r.val)) k.val := by
    rw [acc_soft (S A C (qi * 512 + r.val)) (fun k => vd (D k) ⟨d, by omega⟩) qi _ _ hqi hS (sc_eq H qi hqi r) (vc_eq H qi hqi _)]
    refine Finset.sum_congr rfl fun k _ => congrArg (· * _) ?_
    show vd (D k.val) ⟨d, by omega⟩ = _
    unfold vd
    rw [dif_pos d.isLt]
  have h2 : acc (sc x h qi r) (vc x h qi 64) (qi + 1) = ∑ k : Fin 4096, wt (S A C (qi * 512 + r.val)) k.val := by
    rw [acc_soft (S A C (qi * 512 + r.val)) (fun k => vd (D k) 64) qi _ _ hqi hS (sc_eq H qi hqi r) (vc_eq H qi hqi _)]
    refine Finset.sum_congr rfl fun k _ => ?_
    have : vd (D k.val) 64 = 1 := by
      unfold vd
      rw [dif_neg (by decide), if_pos (by decide)]
    show vd (D k.val) 64 * _ = _
    rw [this, one_mul]
  unfold row
  rw [h1, h2]

end Cert.FlashValue
-- ==== Proof.FlashArr.lean ====
/-
  The flash kernel's result: the array a run leaves, entry by entry.
-/
module

public import proofs.«01_k».proof.Proof.FlashIns
public import proofs.«01_k».proof.Proof.FlashBlk
public import proofs.«01_k».proof.Proof.FlashHostAt
public import proofs.«01_k».proof.Proof.FlashScore

@[expose] public section

set_option maxRecDepth 16384

noncomputable section

open Idealize.ShloMosaic Idealize.ShloMosaic.TcCoe Idealize.SL.Sem
open Idealize.ShloMosaic.Pipeline (Dat)

namespace Cert.FlashIns

open Cert.KernelIdeal Cert.KernelIdeal.Gen Cert.FlashHost Cert.Flash Cert.FlashMath
open Cert.FlashValue hiding scl

/-- Row `y` of batch `b` and head `g`. -/
def at96 (a : S8x8x4096x96.Idx → EReal) (b g : Fin 8) (y : ℕ) (d : Fin 96) : EReal := a (ix4 b g ⟨y % 4096, Nat.mod_lt _ (by decide)⟩ d)
def at64 (a : S8x8x4096x64.Idx → EReal) (b g : Fin 8) (y : ℕ) (d : Fin 64) : EReal := a (ix4 b g ⟨y % 4096, Nat.mod_lt _ (by decide)⟩ d)

theorem ix4_eq {n0 n1 n2 n3 : ℕ} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  rw [Fin.ext ha, Fin.ext hb, Fin.ext hc, Fin.ext hd]

theorem scl_same : FlashHost.scl = FlashValue.scl := rfl

theorem Q_row (a : FVec Ideal S8x8x4096x96 .f32) (b g : Fin 8) (n : ℕ) (hn : n < 8) (i : Fin 128) (r : Fin 512) :
    Q a (ix5 b g ⟨n, hn⟩ i r) = pd (fun d => at96 a b g (n * 512 + r.val) d * FlashValue.scl) i := by
  rw [Q_at, scl_same]
  unfold pd
  by_cases hi : i.val < 96
  · rw [dif_pos hi, dif_pos hi]
    refine congrArg (fun x : EReal => x * FlashValue.scl) (congrArg a (ix4_eq rfl rfl ?_ rfl))
    show n * 512 + r.val = (n * 512 + r.val) % 4096
    omega
  · rw [dif_neg hi, dif_neg hi]

theorem W_row (a : FVec Ideal S8x8x4096x64 .f32) (b g : Fin 8) (n : ℕ) (hn : n < 8) (i : Fin 128) (r : Fin 512) :
    W a (ix5 b g ⟨n, hn⟩ i r) = vd (at64 a b g (n * 512 + r.val)) i := by
  rw [W_at]
  unfold vd
  by_cases hi : i.val < 64
  · rw [dif_pos hi, dif_pos hi]
    refine congrArg a (ix4_eq rfl rfl ?_ rfl)
    show n * 512 + r.val = (n * 512 + r.val) % 4096
    omega
  · rw [dif_neg hi, dif_neg hi]

variable (m : (ℓ : Loc nD τ sig) → Buf (Elt Ideal) ℓ) (c : Dev nD)

theorem K_row (a : FVec Ideal S8x8x4096x96 .f32) (t : Fin cfg0.N) (h : Fin 4) (y : ℕ) (hy : y < 4096) (i : Fin 128)
    (h1 : t.val / 2 * 4096 + y < 32768) (h2 : t.val % 2 * 512 + (h.val * 128 + i.val) < 1024) :
    K a (ix2 ⟨t.val / 2 * 4096 + y, h1⟩ ⟨t.val % 2 * 512 + (h.val * 128 + i.val), h2⟩) = pd (at96 a (bat t) (hd t h) y) i := by
  rw [K_at]
  unfold pd
  by_cases hi : i.val < 96
  · rw [dif_pos hi, dif_pos (show (t.val % 2 * 512 + (h.val * 128 + i.val)) % 128 < 96 by omega)]
    refine congrArg a (ix4_eq ?_ ?_ ?_ ?_)
    · show (t.val / 2 * 4096 + y) / 4096 = t.val / 2; omega
    · show (t.val % 2 * 512 + (h.val * 128 + i.val)) / 128 = t.val % 2 * 4 + h.val; omega
    · show (t.val / 2 * 4096 + y) % 4096 = y % 4096; omega
    · show (t.val % 2 * 512 + (h.val * 128 + i.val)) % 128 = i.val; omega
  · rw [dif_neg hi, dif_neg (show ¬ (t.val % 2 * 512 + (h.val * 128 + i.val)) % 128 < 96 by omega)]

/-- What a grid step reads are rows of the arguments. -/
theorem reads (t : Fin cfg0.N) (h : Fin 4) : Reads (insAt m c t) h (at96 (m ((c.tc : Thread nD τ).loc main_arg0)) (bat t) (hd t h))
    (at96 (m ((c.tc : Thread nD τ).loc main_arg1)) (bat t) (hd t h)) (at64 (m ((c.tc : Thread nD τ).loc main_arg2)) (bat t) (hd t h)) where
  q n hn i r := by unfold insAt; rw [q_at _ _ _ _ h n hn, blk0, Q_row]
  k n hn j i := by unfold insAt; rw [k_at _ _ _ _ h n hn, blk1]; exact K_row _ t h _ (by omega) i _ _
  kTop n hn j i := by unfold insAt; rw [kTop_at _ _ _ _ h n hn, blk1]; exact K_row _ t h _ (by omega) i _ _
  kBot n hn j i := by unfold insAt; rw [kBot_at _ _ _ _ h n hn, blk1]; exact K_row _ t h _ (by omega) i _ _
  v n hn i r := by unfold insAt; rw [v_at _ _ _ _ h n hn, blk2, W_row]
  bTop j r := by unfold insAt; rw [bTop_at (n := 0), blk3, B_at]
  bBot j r := by
    unfold insAt
    rw [bBot_at (n := 0), blk3, B_at]
    show (if 256 + j.val ≤ 256 + r.val then _ else _) = _
    by_cases hj : j.val ≤ r.val
    · rw [if_pos hj, if_pos (by omega)]
    · rw [if_neg hj, if_neg (by omega)]

/-- Attention at one entry of batch `b`, head `g`: the values weighted with the exponentials of the masked scores, over the sum of those. -/
def att (q k : S8x8x4096x96.Idx → EReal) (v : S8x8x4096x64.Idx → EReal) (b g : Fin 8) (s : ℕ) (d : Fin 64) : EReal :=
  Ideal.div (∑ j : Fin 4096, at64 v b g j.val d * wt (S (at96 q b g) (at96 k b g) s) j.val)
    (max (∑ j : Fin 4096, wt (S (at96 q b g) (at96 k b g) s) j.val) tiny)

/-- The result in full. -/
def G (p : S32768x512.Idx) : EReal :=
  att (m ((c.tc : Thread nD τ).loc main_arg0)) (m ((c.tc : Thread nD τ).loc main_arg1)) (m ((c.tc : Thread nD τ).loc main_arg2))
    ⟨(p 0).val / 4096, by have : (p 0).val < 32768 := (p 0).isLt; omega⟩ ⟨(p 1).val / 64, by have : (p 1).val < 512 := (p 1).isLt; omega⟩
    ((p 0).val % 4096) ⟨(p 1).val % 64, Nat.mod_lt _ (by decide)⟩

theorem att_congr (q k : S8x8x4096x96.Idx → EReal) (v : S8x8x4096x64.Idx → EReal) {b b' g g' : Fin 8} {s s' : ℕ} {d d' : Fin 64}
    (hb : b.val = b'.val) (hg : g.val = g'.val) (hs : s = s') (hd : d.val = d'.val) : att q k v b g s d = att q k v b' g' s' d' := by
  rw [Fin.ext hb, Fin.ext hg, hs, Fin.ext hd]

theorem out_at (t : Fin cfg0.N) (y0 : Fin 4096) (y1 : Fin 256) : outBlk (insAt m c t) (ix2 y0 y1)
    = G m c (ix2 ⟨t.val / 2 * 4096 + y0, by have := t.isLt; have : cfg0.N = 16 := N_0; omega⟩ ⟨t.val % 2 * 256 + y1, by omega⟩) := by
  have e : inTile (ix2 y0 y1) = (ix2 (⟨y0.val % 512, by omega⟩ : Fin 512) y1 : S512x256.Idx) := by
    funext a
    fin_cases a
    · rfl
    · exact Fin.ext (Nat.mod_eq_of_lt y1.isLt)
  have hy := y0.isLt
  have hz := y1.isLt
  unfold outBlk
  rw [e]
  show outAt (insAt m c t) (y0.val / 512) _ = _
  rw [outAt_at, row_eq (reads m c t _) (y0.val / 512) (by omega)]
  refine (att_congr (b := bat t) (g := hd t ⟨y1.val / 64, by omega⟩) (s := y0.val / 512 * 512 + y0.val % 512) (d := ⟨y1.val % 64, by omega⟩) _ _ _ ?_ ?_ ?_ ?_)
  · show t.val / 2 = (t.val / 2 * 4096 + y0.val) / 4096; omega
  · show t.val % 2 * 4 + y1.val / 64 = (t.val % 2 * 256 + y1.val) / 64; omega
  · show _ = (t.val / 2 * 4096 + y0.val) % 4096; omega
  · show y1.val % 64 = (t.val % 2 * 256 + y1.val) % 64; omega

theorem emb4 (t : Fin cfg0.N) (y0 : Fin 4096) (y1 : Fin 256) : (win0_4.blk t).view.emb (ix2 y0 y1 : S4096x256.Idx)
    = (ix2 ⟨t.val / 2 * 4096 + y0, by have := t.isLt; have : cfg0.N = 16 := N_0; omega⟩ ⟨t.val % 2 * 256 + y1, by omega⟩ : S32768x512.Idx) := by
  obtain ⟨e0, e1, e2, e3, e4⟩ := idx t
  blk_ext [e4]

/-- What the kernel leaves is `G`. -/
theorem final : (dats m 0 c).arrAt 4 (cfgs 0).N = G m c := by
  refine (dats m 0 c).arrAt_eq_of_covers 4 _ (by decide +kernel) fun t _ y => ?_
  blk_simp
  rw [after0_4]
  idx_vars y
  rw [out_at]
  exact (congrArg (G m c) (emb4 t y0 y1)).symm

end Cert.FlashIns
-- ==== Proof.FlashRef.lean ====
/-
  The flash reference's result, read at one entry.
-/
module

public import proofs.«01_k».proof.Proof.FlashSoft
public import proofs.«01_k».proof.Proof.Gen.ReferenceIdeal.Run

@[expose] public section

set_option maxRecDepth 16384

noncomputable section

open Idealize.ShloMosaic Idealize.ShloMosaic.TcCoe Idealize.SL.Sem

namespace Cert.FlashRef

open Cert.ReferenceIdeal Cert.ReferenceIdeal.Gen

/-- The causal mask: a query sees the keys up to its own position. -/
def MASK : IVec S8x8x4096x4096 1 := broadcastInDim S8x8x4096x4096 ![2, 3] bcast_S4096x4096_S8x8x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))

/-- The masked scores, as the reference's operations write them. -/
def SF (q k : FVec Ideal S8x8x4096x96 .f32) : FVec Ideal S8x8x4096x4096 .f32 :=
  select MASK (mulf (Host.dotGeneral dot_S8x8x4096x96_S8x8x4096x96_S8x8x4096x4096_3_3_2_2_01_01 none q k) (broadcastInDim S8x8x4096x4096 ![] bcast_S_S8x8x4096x4096 (Host.rsqrt (constant S_ .f32 0x42C00000#32)))) (broadcastInDim S8x8x4096x4096 ![] bcast_S_S8x8x4096x4096 (id (constant S_ .f32 0xFF800000#32)))

/-- The weights before they are divided, as the reference's operations write them. -/
def EX (s : FVec Ideal S8x8x4096x4096 .f32) : FVec Ideal S8x8x4096x4096 .f32 :=
  select MASK (Host.exp (subf s (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduce FloatOps.maximumf s (constant S_ .f32 0xFF800000#32) reducesTo_S8x8x4096x4096_S8x8x4096_d3 h_S_)))))
    (broadcastInDim S8x8x4096x4096 ![] bcast_S_S8x8x4096x4096 (id (constant S_ .f32 0x00000000#32)))

/-- The divided weights, as the reference's operations write them. -/
def PR (e : FVec Ideal S8x8x4096x4096 .f32) : FVec Ideal S8x8x4096x4096 .f32 :=
  Host.divf e (broadcastInDim S8x8x4096x4096 ![0, 1, 2, 3] bcast_S8x8x4096x1_S8x8x4096x4096_0_1_2_3 (maximumf (broadcastInDim S8x8x4096x1 ![0, 1, 2] bcast_S8x8x4096_S8x8x4096x1_0_1_2 (Host.reduceAdd e (constant S_ .f32 0x00000000#32) reducesTo_S8x8x4096x4096_S8x8x4096_d3 h_S_)) (broadcastInDim S8x8x4096x1 ![] bcast_S_S8x8x4096x1 (constant S_ .f32 0x0DA24260#32))))

/-- The whole result. -/
def REF (q k : FVec Ideal S8x8x4096x96 .f32) (v : FVec Ideal S8x8x4096x64 .f32) : FVec Ideal S32768x512 .bf16 :=
  truncf .bf16 (shapeCast _ (transpose S8x4096x8x64 [0, 2, 1, 3] (Host.dotGeneral dot_S8x8x4096x4096_S8x8x4096x64_S8x8x4096x64_3_2_2_3_01_01 none (PR (EX (SF q k))) v) transposes_S8x8x4096x64_S8x4096x8x64_0_2_1_3) shapeCasts_S8x4096x8x64_S32768x512) bitsLt_bf16_f32

theorem res_eq (m : (ℓ : Loc nD τ sig) → Buf (Elt Ideal) ℓ) (c : Dev nD) : Value.res_main_v26 m c
    = REF (m ((c.tc : Thread nD τ).loc main_arg0)) (m ((c.tc : Thread nD τ).loc main_arg1)) (m ((c.tc : Thread nD τ).loc main_arg2)) := rfl

theorem iota_int (i : Fin 4096) : (BitVec.ofNat 32 i.val).toInt = i.val := by
  have h : i.val < 4096 := i.isLt
  rw [BitVec.toInt_eq_toNat_of_lt (by rw [BitVec.toNat_ofNat]; omega), BitVec.toNat_ofNat]
  omega

theorem MASK_at (b h : Fin 8) (s j : Fin 4096) : MASK (ix4 b h s j) = if j.val ≤ s.val then 1#1 else 0#1 := by
  pointwise [MASK]
  have : IntOp.cmpi .sge (BitVec.ofNat 32 s.val) (BitVec.ofNat 32 j.val)
      = BitVec.ofBool (decide ((BitVec.ofNat 32 j.val).toInt ≤ (BitVec.ofNat 32 s.val).toInt)) := rfl
  rw [this, iota_int, iota_int]
  by_cases h : j.val ≤ s.val
  · rw [if_pos h, decide_eq_true (by exact_mod_cast h)]; rfl
  · rw [if_neg h, decide_eq_false (by exact_mod_cast h)]; rfl

theorem neg_inf : Ideal.ofBits .f32 0xFF800000#32 = ⊥ := by simp [Ideal.ofBits, Ideal.ieee]

theorem SF_at (q k : FVec Ideal S8x8x4096x96 .f32) (b h : Fin 8) (s j : Fin 4096) :
    SF q k (ix4 b h s j) = (if j.val ≤ s.val then (∑ d : Fin 96, (q (ix4 b h s d) : EReal) * k (ix4 b h j d)) * Ideal.rsqrt (Ideal.ofBits .f32 0x42C00000#32) else ⊥ : EReal) := by
  pointwise [SF, MASK_at]
  by_cases h : j.val ≤ s.val
  · rw [if_pos h, if_pos h]; rfl
  · rw [if_neg h, if_neg h]; exact neg_inf

theorem EX_at (f : FVec Ideal S8x8x4096x4096 .f32) (b h : Fin 8) (s j : Fin 4096) :
    EX f (ix4 b h s j) = (if j.val ≤ s.val then Ideal.exp ((f (ix4 b h s j) : EReal) - Finset.univ.sup fun k : Fin 4096 => (f (ix4 b h s k) : EReal)) else 0 : EReal) := by
  pointwise [EX, MASK_at]
  rw [neg_inf]
  by_cases h : j.val ≤ s.val
  · rw [if_pos h, if_pos h]; rfl
  · rw [if_neg h, if_neg h]
    show Ideal.ofBits .f32 0x00000000#32 = 0
    simp [Ideal.ofBits, Ideal.ieee]

theorem PR_at (e : FVec Ideal S8x8x4096x4096 .f32) (b h : Fin 8) (s j : Fin 4096) :
    PR e (ix4 b h s j) = Ideal.div (e (ix4 b h s j)) (max (∑ k : Fin 4096, (e (ix4 b h s k) : EReal)) (Ideal.ofBits .f32 0x0DA24260#32)) := by
  pointwise [PR]

theorem REF_at (q k : FVec Ideal S8x8x4096x96 .f32) (v : FVec Ideal S8x8x4096x64 .f32) (y : Fin 32768) (z : Fin 512) :
    REF q k v (ix2 y z) = ∑ j : Fin 4096, (PR (EX (SF q k)) (ix4 ⟨y / 4096, by omega⟩ ⟨z / 64, by omega⟩ ⟨y % 4096, by omega⟩ j) : EReal)
      * v (ix4 ⟨y / 4096, by omega⟩ ⟨z / 64, by omega⟩ j ⟨z % 64, by omega⟩) := by
  pointwise [REF]

end Cert.FlashRef
-- ==== Proof.Flash.lean ====
/-
  Flash attention: the claims.
-/
module

public import proofs.«01_k».proof.Defs
public import proofs.«01_k».proof.Proof.FlashArr
public import proofs.«01_k».proof.Proof.FlashRef
public import proofs.«01_k».proof.Proof.Gen.Kernel
public import Idealize.ShloMosaic.Lib.Quiescent

@[expose] public section

set_option maxRecDepth 100000

noncomputable section

open Idealize.ShloMosaic Idealize.ShloMosaic.TcCoe Idealize.SL.Sem

namespace Cert.Flash

open Cert.FlashIns Cert.FlashMath Cert.FlashRef

theorem frame_ideal : Cert.quiescent_KernelIdeal := fun m ρ _ => frame_any m ρ

/-- The kernel as printed and its idealization have the same body, -/
theorem body_same : @Cert.Kernel.cc0_flash_mla Bits _ Cert.Kernel.Gen.facts = @Cert.KernelIdeal.cc0_flash_mla Bits _ Cert.KernelIdeal.Gen.facts := rfl

/-- the same table of bodies, -/
theorem defs_same : (Cert.Kernel.defs (F := Bits)) = Cert.KernelIdeal.defs (F := Bits) := by
  unfold Cert.Kernel.defs Cert.KernelIdeal.defs
  refine congrArg (Pipeline.defs (Cert.KernelIdeal.pcfgs (F := Bits))) ?_
  unfold Cert.Kernel.defs₀ Cert.KernelIdeal.defs₀
  congr 1
  funext l x
  fin_cases l
  obtain ⟨t, s⟩ := x
  rfl

/-- and the same host program. -/
theorem main_same : (Cert.Kernel.main (F := Bits)) = Cert.KernelIdeal.main (F := Bits) := by
  unfold Cert.Kernel.main Cert.KernelIdeal.main
  rfl

theorem frame_kernel : Cert.quiescent_Kernel := by
  intro m ρ _
  have h := frame_any (F := Bits) m ρ
  rw [defs_same, main_same]
  exact h

theorem frame_reference : Cert.quiescent_ReferenceIdeal := by
  intro m ρ _
  refine (θ_run Cert.ReferenceIdeal.defs _ _).mono (fun r h => ⟨fun c => (h c).2, ?_⟩) (Cert.ReferenceIdeal.Value.run m ρ)
  exact sem_eq_zero_of_no_sems rfl _

section
open Cert.KernelIdeal Cert.KernelIdeal.Gen

/-- A run ends with the result array the launch's proof data name, and the arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1 4,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)
end

theorem tiny_pos : 0 < Cert.FlashValue.tiny := by
  unfold Cert.FlashValue.tiny
  simp [Ideal.ofBits, Ideal.ieee]
  rw [← EReal.coe_mul]
  exact_mod_cast (by positivity : (0 : ℝ) < _)

theorem exp_nonneg (x : EReal) : 0 ≤ Ideal.exp x := by
  rw [← exp2_scaled]; exact exp2_nonneg _

/-- The reference's undivided weights are the exponentials of the masked scores less their maximum. -/
theorem EX_wt (q k : FVec Ideal Cert.ReferenceIdeal.S8x8x4096x96 .f32) (b h : Fin 8) (s j : Fin 4096) :
    EX (SF q k) (ix4 b h s j) = wt (Cert.FlashValue.S (at96 q b h) (at96 k b h) s.val) j.val := by
  have hS : ∀ j : Fin 4096, SF q k (ix4 b h s j) = Cert.FlashValue.S (at96 q b h) (at96 k b h) s.val j.val := fun j => by
    have e : ∀ y : Fin 4096, (⟨y.val % 4096, Nat.mod_lt _ (by decide)⟩ : Fin 4096) = y := fun y => Fin.ext (Nat.mod_eq_of_lt y.isLt)
    rw [SF_at]
    unfold Cert.FlashValue.S at96
    rw [e, e]; rfl
  rw [EX_at]
  unfold wt
  rw [hS j, Finset.sup_congr rfl fun k _ => hS k]
  by_cases hj : j.val ≤ s.val
  · rw [if_pos hj]
  · rw [if_neg hj]
    have : Cert.FlashValue.S (at96 q b h) (at96 k b h) s.val j.val = ⊥ := by
      unfold Cert.FlashValue.S
      rw [if_neg hj]
    rw [this, EReal.bot_sub]; rfl

theorem REF_att (q k : FVec Ideal Cert.ReferenceIdeal.S8x8x4096x96 .f32) (v : FVec Ideal Cert.ReferenceIdeal.S8x8x4096x64 .f32) (y : Fin 32768) (z : Fin 512) :
    REF q k v (ix2 y z) = att q k v ⟨y / 4096, by omega⟩ ⟨z / 64, by omega⟩ (y.val % 4096) ⟨z % 64, by omega⟩ := by
  rw [REF_at]
  unfold att
  rw [div_soft _ tiny_pos (fun j : Fin 4096 => wt _ j.val) (fun j : Fin 4096 => at64 v _ _ j.val _) (fun j => exp_nonneg _)]
  refine Finset.sum_congr rfl fun j _ => ?_
  have e : (⟨j.val % 4096, Nat.mod_lt _ (by decide)⟩ : Fin 4096) = j := Fin.ext (Nat.mod_eq_of_lt j.isLt)
  rw [PR_at, EX_wt, Finset.sum_congr rfl fun k _ => EX_wt _ _ _ _ _ k]
  unfold at64
  rw [e]; rfl

/-- The kernel's result array is the reference's result of the same arguments. -/
theorem result_eq (m : (ℓ : Loc Cert.KernelIdeal.nD Cert.KernelIdeal.τ Cert.KernelIdeal.sig) → Buf (Elt Ideal) ℓ) (c : Dev Cert.KernelIdeal.nD) :
    REF (m ((c.tc : Thread _ _).loc Cert.KernelIdeal.main_arg0)) (m ((c.tc : Thread _ _).loc Cert.KernelIdeal.main_arg1))
      (m ((c.tc : Thread _ _).loc Cert.KernelIdeal.main_arg2)) = G m c := by
  funext y
  obtain ⟨y0, y1, rfl⟩ : ∃ (a : Fin 32768) (b : Fin 512), y = ix2 a b := ⟨y 0, y 1, eq_ix2 y⟩
  exact REF_att _ _ _ y0 y1

theorem algebraic : Cert.algebraic_KernelIdeal_ReferenceIdeal := by
  pair_intro
  · run_from run_result m g
  · run_from Cert.ReferenceIdeal.Value.run m' g'
    rw [res_eq]
    have h := hagree c
    rw [h.1, h.2.1, h.2.2]
    exact (result_eq m c).trans (final m c).symm

end Cert.Flash

end
end
-- ==== Proof.LayerMath.lean ====
/-
  One row of a layer that is not the last, as a plain function of extended reals.
-/
module

public import proofs.«01_k».proof.Proof.MergeMath

@[expose] public section

noncomputable section

open Idealize.ShloMosaic Idealize.ShloMosaic.TcCoe

namespace Cert.MergeRow

/-- The whole row of a layer that is not the last: residual and MLP, no norm after them. -/
def layerRow (oc os ow ob : Fin 512 → EReal) (ga gb x : Fin 1024 → EReal) (wa wb : Fin 512 → Fin 1024 → EReal)
    (wo : Fin 1024 → Fin 1024 → EReal) (g : Fin 1024 → EReal) (wu : Fin 1024 → Fin 4096 → EReal)
    (wd : Fin 4096 → Fin 1024 → EReal) : Fin 1024 → EReal :=
  mlp (resid x (merged oc os ow ob ga gb wa wb) wo) g wu wd

/-- The layer's row function of equal rows and weights. -/
theorem layerRow_congr {oc os ow ob oc' os' ow' ob' : Fin 512 → EReal} {ga gb x ga' gb' x' : Fin 1024 → EReal}
    {wa wb wa' wb' : Fin 512 → Fin 1024 → EReal} {wo wo' : Fin 1024 → Fin 1024 → EReal} {g g' : Fin 1024 → EReal}
    {wu wu' : Fin 1024 → Fin 4096 → EReal} {wd wd' : Fin 4096 → Fin 1024 → EReal}
    (h0 : ∀ i, oc i = oc' i) (h1 : ∀ i, os i = os' i) (h2 : ∀ i, ow i = ow' i) (h3 : ∀ i, ob i = ob' i)
    (h4 : ∀ i, ga i = ga' i) (h5 : ∀ i, gb i = gb' i) (h6 : ∀ i, x i = x' i) (h7 : ∀ i k, wa i k = wa' i k)
    (h8 : ∀ i k, wb i k = wb' i k) (h9 : ∀ i k, wo i k = wo' i k) (h10 : ∀ i, g i = g' i) (h11 : ∀ i k, wu i k = wu' i k)
    (h12 : ∀ i k, wd i k = wd' i k) (j : Fin 1024) :
    layerRow oc os ow ob ga gb x wa wb wo g wu wd j = layerRow oc' os' ow' ob' ga' gb' x' wa' wb' wo' g' wu' wd' j := by
  obtain rfl : oc = oc' := funext h0
  obtain rfl : os = os' := funext h1
  obtain rfl : ow = ow' := funext h2
  obtain rfl : ob = ob' := funext h3
  obtain rfl : ga = ga' := funext h4
  obtain rfl : gb = gb' := funext h5
  obtain rfl : x = x' := funext h6
  obtain rfl : wa = wa' := funext fun i => funext (h7 i)
  obtain rfl : wb = wb' := funext fun i => funext (h8 i)
  obtain rfl : wo = wo' := funext fun i => funext (h9 i)
  obtain rfl : g = g' := funext h10
  obtain rfl : wu = wu' := funext fun i => funext (h11 i)
  obtain rfl : wd = wd' := funext fun i => funext (h12 i)
  rfl

end Cert.MergeRow

end
end
-- ==== Proof.LayerKernel.lean ====
/-
  What the body of the merge kernel between layers stores, read at one entry of its tile: the row function of that row of its blocks.
-/
module

public import proofs.«01_k».proof.Proof.LayerMath
public import proofs.«01_k».proof.Proof.Gen.Kernel3Ideal.Frame

@[expose] public section

set_option maxRecDepth 16384

noncomputable section

open Idealize.ShloMosaic Idealize.ShloMosaic.TcCoe Idealize.SL.Sem

namespace Cert.Kernel3Ideal.Layer

open Cert.Kernel3Ideal Cert.Kernel3Ideal.Gen Cert.MergeRow

/-- The second payload is the residual stream after attention. -/
theorem pay2_at (v0 v3 v7 : FVec Ideal S512x512 .bf16) (v12 : FVec Ideal S512x1024 .bf16) (v15 : FVec Ideal S512x1024 .bf16)
    (v19 : FVec Ideal S512x1024 .bf16) (v22 : FVec Ideal S512x512 .bf16) (v24 : FVec Ideal S512x1024 .bf16)
    (v29 : FVec Ideal S512x1024 .f32) (v32 : FVec Ideal S1024x1024 .bf16) (r : Fin 512) (j : Fin 1024) :
    k0_pay2 (F := Ideal) v0 v3 v7 v12 v15 v19 v22 v24 v29 v32 (ix2 r j)
      = resid (fun k => v29 (ix2 r k))
          (merged (fun i => v0 (ix2 r i)) (fun i => v3 (ix2 r i)) (fun i => v7 (ix2 r i)) (fun i => v22 (ix2 r i))
            (fun k => v12 (ix2 r k)) (fun k => v19 (ix2 r k)) (fun i k => v15 (ix2 i k)) (fun i k => v24 (ix2 i k)))
          (fun i k => v32 (ix2 i k)) j := by
  pointwise [k0_pay2, resid, merged, dotCol]

/-- The third payload is the normalised row. -/
theorem pay3_at (v35 : FVec Ideal S512x1024 .f32) (v36 : FVec Ideal S1x1024 .f32) (r : Fin 512) (j : Fin 1024) :
    k0_pay3 (F := Ideal) v35 v36 (ix2 r j) = rms (fun k => v35 (ix2 r k)) (fun k => v36 (ix2 0 k)) j := by
  pointwise [k0_pay3, rms, invRms]

/-- The part of the MLP that 1024 hidden units add to column `j`, over a normalised row `hn`. -/
def chunk (hn : Fin 1024 → EReal) (wu wd : Fin 1024 → Fin 1024 → EReal) (j : Fin 1024) : EReal :=
  ∑ f, max (dotCol hn wu f) 0 * max (dotCol hn wu f) 0 * wd f j

/-- The fourth payload adds up the first two chunks of the MLP. -/
theorem pay4_at (v35 : FVec Ideal S512x1024 .f32) (v36 : FVec Ideal S1x1024 .f32) (v52 v59 v63 v70 : FVec Ideal S1024x1024 .bf16)
    (r : Fin 512) (j : Fin 1024) :
    k0_pay4 (F := Ideal) v35 v36 v52 v59 v63 v70 (ix2 r j)
      = chunk (fun k => k0_pay3 (F := Ideal) v35 v36 (ix2 r k)) (fun i k => v52 (ix2 i k)) (fun i k => v59 (ix2 i k)) j
        + chunk (fun k => k0_pay3 (F := Ideal) v35 v36 (ix2 r k)) (fun i k => v63 (ix2 i k)) (fun i k => v70 (ix2 i k)) j := by
  pointwise [k0_pay4, chunk, dotCol]

/-- The last payload: the other two chunks and the residual. -/
theorem pay1_at (v35 : FVec Ideal S512x1024 .f32) (v50 : FVec Ideal S512x1024 .bf16) (v73 : FVec Ideal S512x1024 .f32)
    (v74 v81 v85 v92 : FVec Ideal S1024x1024 .bf16) (r : Fin 512) (l : Fin 1024) :
    k0_pay1 (F := Ideal) v35 v50 v73 v74 v81 v85 v92 (ix2 r l)
      = v35 (ix2 r l) + (v73 (ix2 r l)
          + chunk (fun k => v50 (ix2 r k)) (fun i k => v74 (ix2 i k)) (fun i k => v81 (ix2 i k)) l
          + chunk (fun k => v50 (ix2 r k)) (fun i k => v85 (ix2 i k)) (fun i k => v92 (ix2 i k)) l) := by
  pointwise [k0_pay1, chunk, dotCol]

end Cert.Kernel3Ideal.Layer

end
end
-- ==== Proof.LayerFinal.lean ====
/-
  The result array of the merge kernel between layers: every row is the layer's row function of that token's row of the arguments.
-/
module

public import proofs.«01_k».proof.Proof.LayerKernel
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Layer

open Cert.Kernel3Ideal Cert.Kernel3Ideal.Gen Cert.MergeRow

/-- The chunks of the MLP over four runs of 1024 hidden units are the whole MLP. -/
theorem chunks (hn : Fin 1024 → EReal) (wu : Fin 1024 → Fin 4096 → EReal) (wd : Fin 4096 → Fin 1024 → EReal) (j : Fin 1024) :
    ((chunk hn (fun i k => wu i ⟨k, by omega⟩) (fun i k => wd ⟨i, by omega⟩ k) j
      + chunk hn (fun i k => wu i ⟨1024 + k, by omega⟩) (fun i k => wd ⟨1024 + i, by omega⟩ k) j)
      + chunk hn (fun i k => wu i ⟨2048 + k, by omega⟩) (fun i k => wd ⟨2048 + i, by omega⟩ k) j)
      + chunk hn (fun i k => wu i ⟨3072 + k, by omega⟩) (fun i k => wd ⟨3072 + i, by omega⟩ k) j
      = dotCol (hiddenUnit hn wu) wd j := by
  rw [dotCol, sum_four]
  rfl

/-- The row function of row `r` of fourteen staged blocks. -/
def blockRow (x0 x1 x2 x3 : FVec Ideal S512x512 .bf16) (x4 x5 : FVec Ideal S512x1024 .bf16) (x6 : FVec Ideal S512x1024 .f32)
    (x7 x8 : FVec Ideal S512x1024 .bf16) (x9 : FVec Ideal S1024x1024 .bf16) (x10 : FVec Ideal S1x1024 .f32)
    (x11 : FVec Ideal S1024x4096 .bf16) (x12 : FVec Ideal S4096x1024 .bf16) (x13 : FVec Ideal S1x1024 .f32) (r : Fin 512) : Fin 1024 → EReal :=
  layerRow (fun i => x0 (ix2 r i)) (fun i => x1 (ix2 r i)) (fun i => x2 (ix2 r i)) (fun i => x3 (ix2 r i))
    (fun k => x4 (ix2 r k)) (fun k => x5 (ix2 r k)) (fun k => x6 (ix2 r k)) (fun i k => x7 (ix2 i k))
    (fun i k => x8 (ix2 i k)) (fun i k => x9 (ix2 i k)) (fun k => x10 (ix2 0 k)) (fun i k => x11 (ix2 i k))
    (fun i k => x12 (ix2 i k))

theorem hz : (![0, 0] : Fin 2 → Nat) = fun _ => 0 := funext fun a => by fin_cases a <;> rfl

/-- What the body leaves in the output's staging block, at row `r` and column `j`. -/
theorem out_at (x0 x1 x2 x3 : FVec Ideal S512x512 .bf16) (x4 x5 : FVec Ideal S512x1024 .bf16) (x6 : FVec Ideal S512x1024 .f32)
    (x7 x8 : FVec Ideal S512x1024 .bf16) (x9 : FVec Ideal S1024x1024 .bf16) (x10 : FVec Ideal S1x1024 .f32)
    (x11 : FVec Ideal S1024x4096 .bf16) (x12 : FVec Ideal S4096x1024 .bf16) (x13 : FVec Ideal S1x1024 .f32) (r : Fin 512) (j : Fin 1024) :
    out0_14 (F := Ideal) x0 x1 x2 x3 x4 x5 x6 x7 x8 x9 x10 x11 x12 x13 (ix2 r j)
      = blockRow x0 x1 x2 x3 x4 x5 x6 x7 x8 x9 x10 x11 x12 x13 r j := by
  unfold out0_14
  rw [View.canon_unit_zero hz, pay1_at]
  unfold blockRow layerRow
  have h5 : ∀ l, k0_pay5 (F := Ideal) x0 x1 x2 x3 x4 x5 x6 x7 x8 x9 x10 x11 x12 x13 (ix2 r l)
      = resid (fun k => x6 (ix2 r k)) (merged (fun i => x0 (ix2 r i)) (fun i => x1 (ix2 r i)) (fun i => x2 (ix2 r i)) (fun i => x3 (ix2 r i))
          (fun k => x4 (ix2 r k)) (fun k => x5 (ix2 r k)) (fun i k => x7 (ix2 i k)) (fun i k => x8 (ix2 i k))) (fun i k => x9 (ix2 i k)) l := by
    intro l
    unfold k0_pay5
    rw [pay2_at]
    pointwise [r0_0]
  have h2 : ∀ l, k0_pay3 (F := Ideal) (k0_pay5 (F := Ideal) x0 x1 x2 x3 x4 x5 x6 x7 x8 x9 x10 x11 x12 x13) (View.ld x10 r0_3) (ix2 r l)
      = rms (resid (fun k => x6 (ix2 r k)) (merged (fun i => x0 (ix2 r i)) (fun i => x1 (ix2 r i)) (fun i => x2 (ix2 r i)) (fun i => x3 (ix2 r i))
          (fun k => x4 (ix2 r k)) (fun k => x5 (ix2 r k)) (fun i k => x7 (ix2 i k)) (fun i k => x8 (ix2 i k))) (fun i k => x9 (ix2 i k)))
          (fun k => x10 (ix2 0 k)) l := by
    intro l
    rw [pay3_at]
    exact congrArg₂ (fun v g => rms v g l) (funext h5) (funext fun k => by pointwise [r0_3])
  rw [pay4_at, h5, mlp, ← chunks]
  simp only [h2]
  pointwise [r0_4, r0_5, r0_6, r0_7, r0_8, r0_9, r0_10, r0_11]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

variable (m : (ℓ : Loc nD τ sig) → Buf (Elt Ideal) ℓ) (ρ : Dev nD → PrngReg)

/-- The result array: at each row the row function of that row of the operands, as the kernel gets them. -/
def G (c : Dev nD) : FVec Ideal S32768x1024 .f32 := fun y =>
  let a0 : FVec Ideal S32768x512 .bf16 := V m c main_v6
  let a1 : FVec Ideal S32768x512 .bf16 := V m c main_v7
  let a2 : FVec Ideal S32768x512 .bf16 := V m c main_v8
  let a3 : FVec Ideal S32768x512 .bf16 := V m c main_v9
  let a4 : FVec Ideal S32768x1024 .bf16 := V m c main_v10
  let a5 : FVec Ideal S32768x1024 .bf16 := V m c main_v11
  let a6 : FVec Ideal S32768x1024 .f32 := V m c main_v12
  let a7 : FVec Ideal S512x1024 .bf16 := V m c main_v0
  let a8 : FVec Ideal S512x1024 .bf16 := V m c main_v1
  let a9 : FVec Ideal S1024x1024 .bf16 := V m c main_v2
  let a10 : FVec Ideal S1x1024 .f32 := V m c main_v3
  let a11 : FVec Ideal S1024x4096 .bf16 := V m c main_v4
  let a12 : FVec Ideal S4096x1024 .bf16 := V m c main_v5
  layerRow (fun i => a0 (ix2 (y 0) i)) (fun i => a1 (ix2 (y 0) i)) (fun i => a2 (ix2 (y 0) i)) (fun i => a3 (ix2 (y 0) i))
    (fun k => a4 (ix2 (y 0) k)) (fun k => a5 (ix2 (y 0) k)) (fun k => a6 (ix2 (y 0) k)) (fun i k => a7 (ix2 i k))
    (fun i k => a8 (ix2 i k)) (fun i k => a9 (ix2 i k)) (fun k => a10 (ix2 0 k)) (fun i k => a11 (ix2 i k))
    (fun i k => a12 (ix2 i k)) (y 1)

/-- An entry of the output's block at grid point `t` is the array's entry `512 t` rows further down. -/
theorem emb_at (t : Fin cfg0.N) (y0 : Fin 512) (y1 : Fin 1024) :
    (win0_14.blk t).view.emb (ix2 y0 y1) = (ix2 (⟨t.val * 512 + y0, by have := t.isLt; have : cfg0.N = 64 := N_0; omega⟩ : Fin 32768) y1 : S32768x1024.Idx) := by
  obtain ⟨-, -, -, -, -, -, -, -, -, -, -, -, -, -, e14⟩ := idx t
  blk_ext [e14]

/-- The row function of the blocks at grid point `t` is the result array's row. -/
theorem point (c : Dev nD) (t : Fin cfg0.N) (y0 : Fin 512) (y1 : Fin 1024) :
    blockRow (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y0 y1
      = G m c (ix2 (⟨t.val * 512 + y0, by have := t.isLt; have : cfg0.N = 64 := N_0; omega⟩ : Fin 32768) y1) := by
  obtain ⟨e0, e1, e2, e3, e4, e5, e6, e7, e8, e9, e10, e11, e12, e13, -⟩ := idx t
  unfold blockRow G
  dsimp only
  apply layerRow_congr
  · intro i; blk_point [iblk, e0]
  · intro i; blk_point [iblk, e1]
  · intro i; blk_point [iblk, e2]
  · intro i; blk_point [iblk, e3]
  · intro i; blk_point [iblk, e4]
  · intro i; blk_point [iblk, e5]
  · intro i; blk_point [iblk, e6]
  · intro i k; blk_point [iblk, e7]
  · intro i k; blk_point [iblk, e8]
  · intro i k; blk_point [iblk, e9]
  · intro i; blk_point [iblk, e10]
  · intro i k; blk_point [iblk, e11]
  · intro i k; blk_point [iblk, e12]

/-- The result array after the run. -/
theorem final (c : Dev nD) : (dats m 0 c).arrAt 14 (cfgs 0).N = G m c := by
  refine (dats m 0 c).arrAt_eq_of_covers 14 _ (by decide +kernel) fun t _ y => ?_
  blk_simp
  rw [after0_14]
  idx_vars y
  rw [out_at, point]
  exact (congrArg (G m c) (emb_at t y0 y1)).symm

/-- A reshaped operand at row `y` is the argument at token `y / 4096, y % 4096`. -/
theorem resh512 (a : FVec Ideal S8x4096x512 .bf16) (y : Fin 32768) (i : Fin 512) :
    shapeCast S32768x512 a shapeCasts_S8x4096x512_S32768x512 (ix2 y i) = a (ix3 ⟨y / 4096, by omega⟩ ⟨y % 4096, by omega⟩ i) := by
  pointwise []

theorem resh1024 {φ : FTy} (a : FVec Ideal S8x4096x1024 φ) (y : Fin 32768) (i : Fin 1024) :
    shapeCast S32768x1024 a shapeCasts_S8x4096x1024_S32768x1024 (ix2 y i) = a (ix3 ⟨y / 4096, by omega⟩ ⟨y % 4096, by omega⟩ i) := by
  pointwise []

theorem gain_at (a : FVec Ideal S1024 .f32) (k : Fin 1024) :
    (broadcastInDim S1x1024 ![1] bcast_S1024_S1x1024_1 a : FVec Ideal S1x1024 .f32) (ix2 0 k) = a (ix1 k) := by
  pointwise []

/-- Each operand of the kernel, in terms of the arguments. -/
theorem Vh6 (c : Dev nD) : V m c main_v6 = shapeCast S32768x512 (m ((c.tc : Thread nD τ).loc main_arg0) : FVec Ideal S8x4096x512 .bf16) shapeCasts_S8x4096x512_S32768x512 := by entry_read; rfl
theorem Vh7 (c : Dev nD) : V m c main_v7 = shapeCast S32768x512 (m ((c.tc : Thread nD τ).loc main_arg1) : FVec Ideal S8x4096x512 .bf16) shapeCasts_S8x4096x512_S32768x512 := by entry_read; rfl
theorem Vh8 (c : Dev nD) : V m c main_v8 = shapeCast S32768x512 (m ((c.tc : Thread nD τ).loc main_arg2) : FVec Ideal S8x4096x512 .bf16) shapeCasts_S8x4096x512_S32768x512 := by entry_read; rfl
theorem Vh9 (c : Dev nD) : V m c main_v9 = shapeCast S32768x512 (m ((c.tc : Thread nD τ).loc main_arg3) : FVec Ideal S8x4096x512 .bf16) shapeCasts_S8x4096x512_S32768x512 := by entry_read; rfl
theorem Vh10 (c : Dev nD) : V m c main_v10 = shapeCast S32768x1024 (m ((c.tc : Thread nD τ).loc main_arg4) : FVec Ideal S8x4096x1024 .bf16) shapeCasts_S8x4096x1024_S32768x1024 := by entry_read; rfl
theorem Vh11 (c : Dev nD) : V m c main_v11 = shapeCast S32768x1024 (m ((c.tc : Thread nD τ).loc main_arg5) : FVec Ideal S8x4096x1024 .bf16) shapeCasts_S8x4096x1024_S32768x1024 := by entry_read; rfl
theorem Vh12 (c : Dev nD) : V m c main_v12 = shapeCast S32768x1024 (m ((c.tc : Thread nD τ).loc main_arg6) : FVec Ideal S8x4096x1024 .f32) shapeCasts_S8x4096x1024_S32768x1024 := by entry_read; rfl
theorem Vh0 (c : Dev nD) : V m c main_v0 = (truncf .bf16 (m ((c.tc : Thread nD τ).loc main_arg7) : FVec Ideal S512x1024 .f32) bitsLt_bf16_f32 : FVec Ideal S512x1024 .bf16) := by entry_read; rfl
theorem Vh1 (c : Dev nD) : V m c main_v1 = (truncf .bf16 (m ((c.tc : Thread nD τ).loc main_arg8) : FVec Ideal S512x1024 .f32) bitsLt_bf16_f32 : FVec Ideal S512x1024 .bf16) := by entry_read; rfl
theorem Vh2 (c : Dev nD) : V m c main_v2 = (truncf .bf16 (m ((c.tc : Thread nD τ).loc main_arg9) : FVec Ideal S1024x1024 .f32) bitsLt_bf16_f32 : FVec Ideal S1024x1024 .bf16) := by entry_read; rfl
theorem Vh4 (c : Dev nD) : V m c main_v4 = (truncf .bf16 (m ((c.tc : Thread nD τ).loc main_arg11) : FVec Ideal S1024x4096 .f32) bitsLt_bf16_f32 : FVec Ideal S1024x4096 .bf16) := by entry_read; rfl
theorem Vh5 (c : Dev nD) : V m c main_v5 = (truncf .bf16 (m ((c.tc : Thread nD τ).loc main_arg12) : FVec Ideal S4096x1024 .f32) bitsLt_bf16_f32 : FVec Ideal S4096x1024 .bf16) := by entry_read; rfl
theorem Vh3 (c : Dev nD) : V m c main_v3 = broadcastInDim S1x1024 ![1] bcast_S1024_S1x1024_1 (m ((c.tc : Thread nD τ).loc main_arg10) : FVec Ideal S1024 .f32) := by entry_read; rfl

/-- The result array in terms of the arguments: token `y / 4096, y % 4096`'s row. -/
theorem G_at (c : Dev nD) (y : Fin 32768) (j : Fin 1024) :
    G m c (ix2 y j) =
      let b : Fin 8 := ⟨y / 4096, by omega⟩
      let s : Fin 4096 := ⟨y % 4096, by omega⟩
      let a0 : FVec Ideal S8x4096x512 .bf16 := m ((c.tc : Thread nD τ).loc main_arg0)
      let a1 : FVec Ideal S8x4096x512 .bf16 := m ((c.tc : Thread nD τ).loc main_arg1)
      let a2 : FVec Ideal S8x4096x512 .bf16 := m ((c.tc : Thread nD τ).loc main_arg2)
      let a3 : FVec Ideal S8x4096x512 .bf16 := m ((c.tc : Thread nD τ).loc main_arg3)
      let a4 : FVec Ideal S8x4096x1024 .bf16 := m ((c.tc : Thread nD τ).loc main_arg4)
      let a5 : FVec Ideal S8x4096x1024 .bf16 := m ((c.tc : Thread nD τ).loc main_arg5)
      let a6 : FVec Ideal S8x4096x1024 .f32 := m ((c.tc : Thread nD τ).loc main_arg6)
      let a7 : FVec Ideal S512x1024 .f32 := m ((c.tc : Thread nD τ).loc main_arg7)
      let a8 : FVec Ideal S512x1024 .f32 := m ((c.tc : Thread nD τ).loc main_arg8)
      let a9 : FVec Ideal S1024x1024 .f32 := m ((c.tc : Thread nD τ).loc main_arg9)
      let a10 : FVec Ideal S1024 .f32 := m ((c.tc : Thread nD τ).loc main_arg10)
      let a11 : FVec Ideal S1024x4096 .f32 := m ((c.tc : Thread nD τ).loc main_arg11)
      let a12 : FVec Ideal S4096x1024 .f32 := m ((c.tc : Thread nD τ).loc main_arg12)
      layerRow (fun i => a0 (ix3 b s i)) (fun i => a1 (ix3 b s i)) (fun i => a2 (ix3 b s i)) (fun i => a3 (ix3 b s i))
          (fun k => a4 (ix3 b s k)) (fun k => a5 (ix3 b s k)) (fun k => a6 (ix3 b s k)) (fun i k => a7 (ix2 i k))
          (fun i k => a8 (ix2 i k)) (fun i k => a9 (ix2 i k)) (fun k => a10 (ix1 k)) (fun i k => a11 (ix2 i k))
          (fun i k => a12 (ix2 i k)) j := by
  unfold G
  dsimp only
  apply layerRow_congr
  · exact fun i => (congrFun (Vh6 m c) _).trans (resh512 _ y i)
  · exact fun i => (congrFun (Vh7 m c) _).trans (resh512 _ y i)
  · exact fun i => (congrFun (Vh8 m c) _).trans (resh512 _ y i)
  · exact fun i => (congrFun (Vh9 m c) _).trans (resh512 _ y i)
  · exact fun i => (congrFun (Vh10 m c) _).trans (resh1024 (φ := .bf16) _ y i)
  · exact fun i => (congrFun (Vh11 m c) _).trans (resh1024 (φ := .bf16) _ y i)
  · exact fun i => (congrFun (Vh12 m c) _).trans (resh1024 (φ := .f32) _ y i)
  · exact fun i k => congrFun (Vh0 m c) _
  · exact fun i k => congrFun (Vh1 m c) _
  · exact fun i k => congrFun (Vh2 m c) _
  · exact fun i => (congrFun (Vh3 m c) _).trans (gain_at _ i)
  · exact fun i k => congrFun (Vh4 m c) _
  · exact fun i k => congrFun (Vh5 m c) _

end Cert.Kernel3Ideal.Layer

end
end
-- ==== Proof.LayerRef.lean ====
/-
  The layer reference's result, read at one entry: the row function of that token's row of the arguments.
-/
module

public import proofs.«01_k».proof.Proof.LayerMath
public import proofs.«01_k».proof.Proof.Gen.Reference3Ideal.Run

@[expose] public section

set_option maxRecDepth 16384

noncomputable section

open Idealize.ShloMosaic Idealize.ShloMosaic.TcCoe Idealize.SL.Sem

namespace Cert.Reference3Ideal.Layer

open Cert.Reference3Ideal Cert.Reference3Ideal.Gen Cert.MergeRow

/-- The residual stream after attention, as the reference's operations write it. -/
def RES (a0 a1 a2 a3 : FVec Ideal S8x4096x512 .bf16) (a4 a5 : FVec Ideal S8x4096x1024 .bf16) (a6 : FVec Ideal S8x4096x1024 .f32)
    (a7 a8 : FVec Ideal S512x1024 .f32) (a9 : FVec Ideal S1024x1024 .f32) : FVec Ideal S8x4096x1024 .f32 :=
  addf a6 (Host.dotGeneral dot_S8x4096x1024_S1024x1024_S8x4096x1024_2_0_01_1_n_n none (addf (mulf (extf .f32 a4 bitsLt_bf16_f32) (Host.dotGeneral dot_S8x4096x512_S512x1024_S8x4096x1024_2_0_01_1_n_n none (addf (addf (extf .f32 a0 bitsLt_bf16_f32) (extf .f32 a1 bitsLt_bf16_f32)) (extf .f32 a2 bitsLt_bf16_f32)) a7)) (mulf (extf .f32 a5 bitsLt_bf16_f32) (Host.dotGeneral dot_S8x4096x512_S512x1024_S8x4096x1024_2_0_01_1_n_n none (extf .f32 a3 bitsLt_bf16_f32) a8))) a9)

/-- The norm, as the reference's operations write it. -/
def RMS3 (v : FVec Ideal S8x4096x1024 .f32) (g : FVec Ideal S1024 .f32) : FVec Ideal S8x4096x1024 .f32 :=
  mulf (mulf v (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v v) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The relu of the hidden layer, as the reference's operations write it. -/
def RELU (hn : FVec Ideal S8x4096x1024 .f32) (wu : FVec Ideal S1024x4096 .f32) : FVec Ideal S8x4096x4096 .f32 :=
  maximumf (Host.dotGeneral dot_S8x4096x1024_S1024x4096_S8x4096x4096_2_0_01_1_n_n none hn wu) (broadcastInDim S8x4096x4096 ![] bcast_S_S8x4096x4096 (constant S_ .f32 0x00000000#32))

/-- The MLP and its residual, as the reference's operations write them. -/
def MLP3 (v hn : FVec Ideal S8x4096x1024 .f32) (wu : FVec Ideal S1024x4096 .f32) (wd : FVec Ideal S4096x1024 .f32) : FVec Ideal S8x4096x1024 .f32 :=
  addf v (Host.dotGeneral dot_S8x4096x4096_S4096x1024_S8x4096x1024_2_0_01_1_n_n none (mulf (RELU hn wu) (RELU hn wu)) wd)

/-- The whole result. -/
def REF (a0 a1 a2 a3 : FVec Ideal S8x4096x512 .bf16) (a4 a5 : FVec Ideal S8x4096x1024 .bf16) (a6 : FVec Ideal S8x4096x1024 .f32)
    (a7 a8 : FVec Ideal S512x1024 .f32) (a9 : FVec Ideal S1024x1024 .f32) (a10 : FVec Ideal S1024 .f32)
    (a11 : FVec Ideal S1024x4096 .f32) (a12 : FVec Ideal S4096x1024 .f32) : FVec Ideal S8x4096x1024 .f32 :=
  MLP3 (RES a0 a1 a2 a3 a4 a5 a6 a7 a8 a9) (RMS3 (RES a0 a1 a2 a3 a4 a5 a6 a7 a8 a9) a10) a11 a12

theorem RES_at (a0 a1 a2 a3 : FVec Ideal S8x4096x512 .bf16) (a4 a5 : FVec Ideal S8x4096x1024 .bf16) (a6 : FVec Ideal S8x4096x1024 .f32)
    (a7 a8 : FVec Ideal S512x1024 .f32) (a9 : FVec Ideal S1024x1024 .f32) (b : Fin 8) (s : Fin 4096) (j : Fin 1024) :
    RES a0 a1 a2 a3 a4 a5 a6 a7 a8 a9 (ix3 b s j)
      = resid (fun k => a6 (ix3 b s k))
          (merged (fun i => a0 (ix3 b s i)) (fun i => a1 (ix3 b s i)) (fun i => a2 (ix3 b s i)) (fun i => a3 (ix3 b s i))
            (fun k => a4 (ix3 b s k)) (fun k => a5 (ix3 b s k)) (fun i k => a7 (ix2 i k)) (fun i k => a8 (ix2 i k)))
          (fun i k => a9 (ix2 i k)) j := by
  pointwise [RES, resid, merged, dotCol]

theorem RMS3_at (v : FVec Ideal S8x4096x1024 .f32) (g : FVec Ideal S1024 .f32) (b : Fin 8) (s : Fin 4096) (j : Fin 1024) :
    RMS3 v g (ix3 b s j) = rms (fun k => v (ix3 b s k)) (fun k => g (ix1 k)) j := by
  pointwise [RMS3, rms, invRms]

theorem RELU_at (hn : FVec Ideal S8x4096x1024 .f32) (wu : FVec Ideal S1024x4096 .f32) (b : Fin 8) (s f : Fin 4096) :
    RELU hn wu (ix3 b s f) = max (dotCol (fun k => hn (ix3 b s k)) (fun i k => wu (ix2 i k)) f) 0 := by
  pointwise [RELU, dotCol]

theorem MLP3_at (v hn : FVec Ideal S8x4096x1024 .f32) (wu : FVec Ideal S1024x4096 .f32) (wd : FVec Ideal S4096x1024 .f32)
    (b : Fin 8) (s : Fin 4096) (j : Fin 1024) :
    MLP3 v hn wu wd (ix3 b s j)
      = v (ix3 b s j) + dotCol (hiddenUnit (fun k => hn (ix3 b s k)) (fun i k => wu (ix2 i k))) (fun i k => wd (ix2 i k)) j := by
  pointwise [MLP3, RELU_at, dotCol, hiddenUnit]

/-- The reference's result before its last reshape, at token `(b, s)` and column `j`. -/
theorem REF_at (a0 a1 a2 a3 : FVec Ideal S8x4096x512 .bf16) (a4 a5 : FVec Ideal S8x4096x1024 .bf16) (a6 : FVec Ideal S8x4096x1024 .f32)
    (a7 a8 : FVec Ideal S512x1024 .f32) (a9 : FVec Ideal S1024x1024 .f32) (a10 : FVec Ideal S1024 .f32)
    (a11 : FVec Ideal S1024x4096 .f32) (a12 : FVec Ideal S4096x1024 .f32)
    (b : Fin 8) (s : Fin 4096) (j : Fin 1024) :
    REF a0 a1 a2 a3 a4 a5 a6 a7 a8 a9 a10 a11 a12 (ix3 b s j)
      = layerRow (fun i => a0 (ix3 b s i)) (fun i => a1 (ix3 b s i)) (fun i => a2 (ix3 b s i)) (fun i => a3 (ix3 b s i))
          (fun k => a4 (ix3 b s k)) (fun k => a5 (ix3 b s k)) (fun k => a6 (ix3 b s k)) (fun i k => a7 (ix2 i k))
          (fun i k => a8 (ix2 i k)) (fun i k => a9 (ix2 i k)) (fun k => a10 (ix1 k)) (fun i k => a11 (ix2 i k))
          (fun i k => a12 (ix2 i k)) j := by
  rw [REF, layerRow, MLP3_at, mlp, RES_at]
  refine congrArg (fun h => _ + dotCol (hiddenUnit h _) _ j) (funext fun k => ?_)
  rw [RMS3_at]
  exact congrArg (fun v => rms v _ k) (funext fun i => RES_at ..)

/-- The reference's result is `REF` of its arguments, reshaped. -/
theorem res_eq (m : (ℓ : Loc nD τ sig) → Buf (Elt Ideal) ℓ) (c : Dev nD) :
    Value.res_main_v33 (F := Ideal) m c = shapeCast S32768x1024 (REF
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12))) shapeCasts_S8x4096x1024_S32768x1024 := rfl

end Cert.Reference3Ideal.Layer

end
end
-- ==== Proof.Layer.lean ====
/-
  The claims about the merge kernel between layers and its reference, assembled: the frames, and that over the extended reals
  the kernel's result is the reference's.
-/
module

public import proofs.«01_k».proof.Defs
public import proofs.«01_k».proof.Proof.LayerFinal
public import proofs.«01_k».proof.Proof.LayerRef
public import proofs.«01_k».proof.Proof.Gen.Kernel3.Frame
public import proofs.«01_k».proof.Proof.Gen.Kernel3Ideal.Value
public import Idealize.ShloMosaic.Lib.Quiescent

@[expose] public section

set_option maxRecDepth 16384

noncomputable section

open Idealize.ShloMosaic Idealize.ShloMosaic.TcCoe Idealize.SL.Sem

namespace Cert.Layer

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := by
  intro m ρ _
  refine (θ_run Cert.Reference3Ideal.defs _ _).mono (fun r h => ⟨fun c => (h c).2, ?_⟩) (Cert.Reference3Ideal.Value.run m ρ)
  exact sem_eq_zero_of_no_sems rfl _

/-- The kernel's result array is the reference's result of the same arguments. -/
theorem result_eq (m : (ℓ : Loc Cert.Kernel3Ideal.nD Cert.Kernel3Ideal.τ Cert.Kernel3Ideal.sig) → Buf (Elt Ideal) ℓ) (c : Dev Cert.Kernel3Ideal.nD) :
    shapeCast Cert.Reference3Ideal.S32768x1024 (Cert.Reference3Ideal.Layer.REF
      (m ((c.tc : Thread _ _).loc Cert.Kernel3Ideal.main_arg0)) (m ((c.tc : Thread _ _).loc Cert.Kernel3Ideal.main_arg1))
      (m ((c.tc : Thread _ _).loc Cert.Kernel3Ideal.main_arg2)) (m ((c.tc : Thread _ _).loc Cert.Kernel3Ideal.main_arg3))
      (m ((c.tc : Thread _ _).loc Cert.Kernel3Ideal.main_arg4)) (m ((c.tc : Thread _ _).loc Cert.Kernel3Ideal.main_arg5))
      (m ((c.tc : Thread _ _).loc Cert.Kernel3Ideal.main_arg6)) (m ((c.tc : Thread _ _).loc Cert.Kernel3Ideal.main_arg7))
      (m ((c.tc : Thread _ _).loc Cert.Kernel3Ideal.main_arg8)) (m ((c.tc : Thread _ _).loc Cert.Kernel3Ideal.main_arg9))
      (m ((c.tc : Thread _ _).loc Cert.Kernel3Ideal.main_arg10)) (m ((c.tc : Thread _ _).loc Cert.Kernel3Ideal.main_arg11))
      (m ((c.tc : Thread _ _).loc Cert.Kernel3Ideal.main_arg12)))
      Cert.Reference3Ideal.Gen.facts₀.shapeCasts_S8x4096x1024_S32768x1024 = Cert.Kernel3Ideal.Layer.G m c := by
  funext y
  obtain ⟨y0, y1, rfl⟩ : ∃ (a : Fin 32768) (b : Fin 1024), y = ix2 a b := ⟨y 0, y 1, eq_ix2 y⟩
  rw [Cert.Kernel3Ideal.Layer.G_at]
  refine Eq.trans ?_ (Cert.Reference3Ideal.Layer.REF_at _ _ _ _ _ _ _ _ _ _ _ _ _ ⟨y0 / 4096, by omega⟩ ⟨y0 % 4096, by omega⟩ y1)
  pointwise []

theorem algebraic : Cert.algebraic_Kernel3Ideal_Reference3Ideal := by
  pair_intro
  · run_from Cert.Kernel3Ideal.Value.run_blocks m g
  · run_from Cert.Reference3Ideal.Value.run m' g'
    rw [Cert.Reference3Ideal.Layer.res_eq]
    have h := hagree c
    rw [h.1, h.2.1, h.2.2.1, h.2.2.2.1, h.2.2.2.2.1, h.2.2.2.2.2.1, h.2.2.2.2.2.2.1, h.2.2.2.2.2.2.2.1, h.2.2.2.2.2.2.2.2.1,
      h.2.2.2.2.2.2.2.2.2.1, h.2.2.2.2.2.2.2.2.2.2.1, h.2.2.2.2.2.2.2.2.2.2.2.1, h.2.2.2.2.2.2.2.2.2.2.2.2.1]
    exact (result_eq m c).trans (Cert.Kernel3Ideal.Layer.final m c).symm

end Cert.Layer

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Merge
public import proofs.«01_k».proof.Proof.Flash
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Layer
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Flash.frame_kernel, Cert.Flash.frame_ideal, Cert.Flash.frame_reference,
  Cert.Merge.frame_kernel, Cert.Merge.frame_ideal, Cert.Merge.frame_reference,
  Cert.Layer.frame_kernel, Cert.Layer.frame_ideal, Cert.Layer.frame_reference,
  trivial, Cert.Flash.algebraic, trivial, Cert.Merge.algebraic, trivial, Cert.Layer.algebraic⟩

end Cert.Proof

end
